-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Kernel31Ideal_finite31 [hPre_finite31 : Cert.Pre_finite31.Facts] (m : (ℓ : Loc Cert.Kernel31Ideal.nD Cert.Kernel31Ideal.τ Cert.Kernel31Ideal.sig) → Buf (Elt Ideal) ℓ) : Prop :=
  ∀ c : Dev Cert.Kernel31Ideal.nD,
    (Cert.Pre_finite31.fn (F := Ideal) (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2))) = (fun _ => 1#1)

def Pre_Reference31Ideal (m : (ℓ : Loc Cert.Reference31Ideal.nD Cert.Reference31Ideal.τ Cert.Reference31Ideal.sig) → Buf (Elt Ideal) ℓ) : Prop :=
  True

def Pre_Reference31Ideal_finite31 [hPre_finite31 : Cert.Pre_finite31.Facts] (m : (ℓ : Loc Cert.Reference31Ideal.nD Cert.Reference31Ideal.τ Cert.Reference31Ideal.sig) → Buf (Elt Ideal) ℓ) : Prop :=
  ∀ c : Dev Cert.Reference31Ideal.nD,
    (Cert.Pre_finite31.fn (F := Ideal) (m ((c.tc : Thread Cert.Reference31Ideal.nD Cert.Reference31Ideal.τ).loc Cert.Reference31Ideal.main_arg0)) (m ((c.tc : Thread Cert.Reference31Ideal.nD Cert.Reference31Ideal.τ).loc Cert.Reference31Ideal.main_arg1)) (m ((c.tc : Thread Cert.Reference31Ideal.nD Cert.Reference31Ideal.τ).loc Cert.Reference31Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4)
      ∧ r.2.mem ((c.tc : Thread Cert.Kernel27.nD Cert.Kernel27.τ).loc Cert.Kernel27.main_arg5) = m ((c.tc : Thread Cert.Kernel27.nD Cert.Kernel27.τ).loc Cert.Kernel27.main_arg5))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
      ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4)
      ∧ r.2.mem ((c.tc : Thread Cert.Reference27Ideal.nD Cert.Reference27Ideal.τ).loc Cert.Reference27Ideal.main_arg5) = m ((c.tc : Thread Cert.Reference27Ideal.nD Cert.Reference27Ideal.τ).loc Cert.Reference27Ideal.main_arg5))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Kernel31Ideal_pre_finite31 [hKernel31Ideal : Cert.Kernel31Ideal.Facts] [hPre_finite31 : Cert.Pre_finite31.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal_finite31 m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Reference31Ideal_pre_finite31 [hReference31Ideal : Cert.Reference31Ideal.Facts] [hPre_finite31 : Cert.Pre_finite31.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal_finite31 m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v10_3)) (v4 : (c : Dev Cert.KernelIdeal.nD) → Buf (Elt Ideal) ((c.tc : Thread Cert.KernelIdeal.nD Cert.KernelIdeal.τ).loc Cert.KernelIdeal.main_v10_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_v10_3) = v3 c
          ∧ r.2.mem ((c.tc : Thread Cert.KernelIdeal.nD Cert.KernelIdeal.τ).loc Cert.KernelIdeal.main_v10_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_v48) = v3 c
          ∧ r.2.mem ((c.tc : Thread Cert.ReferenceIdeal.nD Cert.ReferenceIdeal.τ).loc Cert.ReferenceIdeal.main_v50) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v27)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v27) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)) (v2 : (c : Dev Cert.Kernel3Ideal.nD) → Buf (Elt Ideal) ((c.tc : Thread Cert.Kernel3Ideal.nD Cert.Kernel3Ideal.τ).loc Cert.Kernel3Ideal.main_v10_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_v10_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v33) = v0 c
          ∧ r.2.mem ((c.tc : Thread Cert.Reference3Ideal.nD Cert.Reference3Ideal.τ).loc Cert.Reference3Ideal.main_v9) = v1 c
          ∧ r.2.mem ((c.tc : Thread Cert.Reference3Ideal.nD Cert.Reference3Ideal.τ).loc Cert.Reference3Ideal.main_v34) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)) (v2 : (c : Dev Cert.Kernel4Ideal.nD) → Buf (Elt Ideal) ((c.tc : Thread Cert.Kernel4Ideal.nD Cert.Kernel4Ideal.τ).loc Cert.Kernel4Ideal.main_v3_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_v3_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v81) = v0 c
          ∧ r.2.mem ((c.tc : Thread Cert.Reference4Ideal.nD Cert.Reference4Ideal.τ).loc Cert.Reference4Ideal.main_v76) = v1 c
          ∧ r.2.mem ((c.tc : Thread Cert.Reference4Ideal.nD Cert.Reference4Ideal.τ).loc Cert.Reference4Ideal.main_v82) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v52_0)) (v1 : (c : Dev Cert.Kernel5Ideal.nD) → Buf (Elt Ideal) ((c.tc : Thread Cert.Kernel5Ideal.nD Cert.Kernel5Ideal.τ).loc Cert.Kernel5Ideal.main_v52_1)) (v2 : (c : Dev Cert.Kernel5Ideal.nD) → Buf (Elt Ideal) ((c.tc : Thread Cert.Kernel5Ideal.nD Cert.Kernel5Ideal.τ).loc Cert.Kernel5Ideal.main_v52_2)) (v3 : (c : Dev Cert.Kernel5Ideal.nD) → Buf (Elt Ideal) ((c.tc : Thread Cert.Kernel5Ideal.nD Cert.Kernel5Ideal.τ).loc Cert.Kernel5Ideal.main_v52_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v52_0) = v0 c
          ∧ r.2.mem ((c.tc : Thread Cert.Kernel5Ideal.nD Cert.Kernel5Ideal.τ).loc Cert.Kernel5Ideal.main_v52_1) = v1 c
          ∧ r.2.mem ((c.tc : Thread Cert.Kernel5Ideal.nD Cert.Kernel5Ideal.τ).loc Cert.Kernel5Ideal.main_v52_2) = v2 c
          ∧ r.2.mem ((c.tc : Thread Cert.Kernel5Ideal.nD Cert.Kernel5Ideal.τ).loc Cert.Kernel5Ideal.main_v52_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v85) = v0 c
          ∧ r.2.mem ((c.tc : Thread Cert.Reference5Ideal.nD Cert.Reference5Ideal.τ).loc Cert.Reference5Ideal.main_v86) = v1 c
          ∧ r.2.mem ((c.tc : Thread Cert.Reference5Ideal.nD Cert.Reference5Ideal.τ).loc Cert.Reference5Ideal.main_v87) = v2 c
          ∧ r.2.mem ((c.tc : Thread Cert.Reference5Ideal.nD Cert.Reference5Ideal.τ).loc Cert.Reference5Ideal.main_v88) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v198_0)) (v1 : (c : Dev Cert.Kernel6Ideal.nD) → Buf (Elt Ideal) ((c.tc : Thread Cert.Kernel6Ideal.nD Cert.Kernel6Ideal.τ).loc Cert.Kernel6Ideal.main_v198_1)) (v2 : (c : Dev Cert.Kernel6Ideal.nD) → Buf (Elt Ideal) ((c.tc : Thread Cert.Kernel6Ideal.nD Cert.Kernel6Ideal.τ).loc Cert.Kernel6Ideal.main_v198_2)) (v3 : (c : Dev Cert.Kernel6Ideal.nD) → Buf (Elt Ideal) ((c.tc : Thread Cert.Kernel6Ideal.nD Cert.Kernel6Ideal.τ).loc Cert.Kernel6Ideal.main_v198_3)) (v4 : (c : Dev Cert.Kernel6Ideal.nD) → Buf (Elt Ideal) ((c.tc : Thread Cert.Kernel6Ideal.nD Cert.Kernel6Ideal.τ).loc Cert.Kernel6Ideal.main_v198_4)) (v5 : (c : Dev Cert.Kernel6Ideal.nD) → Buf (Elt Ideal) ((c.tc : Thread Cert.Kernel6Ideal.nD Cert.Kernel6Ideal.τ).loc Cert.Kernel6Ideal.main_v198_5)) (v6 : (c : Dev Cert.Kernel6Ideal.nD) → Buf (Elt Ideal) ((c.tc : Thread Cert.Kernel6Ideal.nD Cert.Kernel6Ideal.τ).loc Cert.Kernel6Ideal.main_v198_6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v198_0) = v0 c
          ∧ r.2.mem ((c.tc : Thread Cert.Kernel6Ideal.nD Cert.Kernel6Ideal.τ).loc Cert.Kernel6Ideal.main_v198_1) = v1 c
          ∧ r.2.mem ((c.tc : Thread Cert.Kernel6Ideal.nD Cert.Kernel6Ideal.τ).loc Cert.Kernel6Ideal.main_v198_2) = v2 c
          ∧ r.2.mem ((c.tc : Thread Cert.Kernel6Ideal.nD Cert.Kernel6Ideal.τ).loc Cert.Kernel6Ideal.main_v198_3) = v3 c
          ∧ r.2.mem ((c.tc : Thread Cert.Kernel6Ideal.nD Cert.Kernel6Ideal.τ).loc Cert.Kernel6Ideal.main_v198_4) = v4 c
          ∧ r.2.mem ((c.tc : Thread Cert.Kernel6Ideal.nD Cert.Kernel6Ideal.τ).loc Cert.Kernel6Ideal.main_v198_5) = v5 c
          ∧ r.2.mem ((c.tc : Thread Cert.Kernel6Ideal.nD Cert.Kernel6Ideal.τ).loc Cert.Kernel6Ideal.main_v198_6) = v6 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v179) = v0 c
          ∧ r.2.mem ((c.tc : Thread Cert.Reference6Ideal.nD Cert.Reference6Ideal.τ).loc Cert.Reference6Ideal.main_v180) = v1 c
          ∧ r.2.mem ((c.tc : Thread Cert.Reference6Ideal.nD Cert.Reference6Ideal.τ).loc Cert.Reference6Ideal.main_v189) = v2 c
          ∧ r.2.mem ((c.tc : Thread Cert.Reference6Ideal.nD Cert.Reference6Ideal.τ).loc Cert.Reference6Ideal.main_v198) = v3 c
          ∧ r.2.mem ((c.tc : Thread Cert.Reference6Ideal.nD Cert.Reference6Ideal.τ).loc Cert.Reference6Ideal.main_v199) = v4 c
          ∧ r.2.mem ((c.tc : Thread Cert.Reference6Ideal.nD Cert.Reference6Ideal.τ).loc Cert.Reference6Ideal.main_v200) = v5 c
          ∧ r.2.mem ((c.tc : Thread Cert.Reference6Ideal.nD Cert.Reference6Ideal.τ).loc Cert.Reference6Ideal.main_v201) = v6 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v29_0)) (v1 : (c : Dev Cert.Kernel7Ideal.nD) → Buf (Elt Ideal) ((c.tc : Thread Cert.Kernel7Ideal.nD Cert.Kernel7Ideal.τ).loc Cert.Kernel7Ideal.main_v29_1)) (v2 : (c : Dev Cert.Kernel7Ideal.nD) → Buf (Elt Ideal) ((c.tc : Thread Cert.Kernel7Ideal.nD Cert.Kernel7Ideal.τ).loc Cert.Kernel7Ideal.main_v29_2)) (v3 : (c : Dev Cert.Kernel7Ideal.nD) → Buf (Elt Ideal) ((c.tc : Thread Cert.Kernel7Ideal.nD Cert.Kernel7Ideal.τ).loc Cert.Kernel7Ideal.main_v29_3)) (v4 : (c : Dev Cert.Kernel7Ideal.nD) → Buf (Elt Ideal) ((c.tc : Thread Cert.Kernel7Ideal.nD Cert.Kernel7Ideal.τ).loc Cert.Kernel7Ideal.main_v29_4)) (v5 : (c : Dev Cert.Kernel7Ideal.nD) → Buf (Elt Ideal) ((c.tc : Thread Cert.Kernel7Ideal.nD Cert.Kernel7Ideal.τ).loc Cert.Kernel7Ideal.main_v29_5)) (v6 : (c : Dev Cert.Kernel7Ideal.nD) → Buf (Elt Ideal) ((c.tc : Thread Cert.Kernel7Ideal.nD Cert.Kernel7Ideal.τ).loc Cert.Kernel7Ideal.main_v29_6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v29_0) = v0 c
          ∧ r.2.mem ((c.tc : Thread Cert.Kernel7Ideal.nD Cert.Kernel7Ideal.τ).loc Cert.Kernel7Ideal.main_v29_1) = v1 c
          ∧ r.2.mem ((c.tc : Thread Cert.Kernel7Ideal.nD Cert.Kernel7Ideal.τ).loc Cert.Kernel7Ideal.main_v29_2) = v2 c
          ∧ r.2.mem ((c.tc : Thread Cert.Kernel7Ideal.nD Cert.Kernel7Ideal.τ).loc Cert.Kernel7Ideal.main_v29_3) = v3 c
          ∧ r.2.mem ((c.tc : Thread Cert.Kernel7Ideal.nD Cert.Kernel7Ideal.τ).loc Cert.Kernel7Ideal.main_v29_4) = v4 c
          ∧ r.2.mem ((c.tc : Thread Cert.Kernel7Ideal.nD Cert.Kernel7Ideal.τ).loc Cert.Kernel7Ideal.main_v29_5) = v5 c
          ∧ r.2.mem ((c.tc : Thread Cert.Kernel7Ideal.nD Cert.Kernel7Ideal.τ).loc Cert.Kernel7Ideal.main_v29_6) = v6 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v91) = v0 c
          ∧ r.2.mem ((c.tc : Thread Cert.Reference7Ideal.nD Cert.Reference7Ideal.τ).loc Cert.Reference7Ideal.main_v92) = v1 c
          ∧ r.2.mem ((c.tc : Thread Cert.Reference7Ideal.nD Cert.Reference7Ideal.τ).loc Cert.Reference7Ideal.main_v56) = v2 c
          ∧ r.2.mem ((c.tc : Thread Cert.Reference7Ideal.nD Cert.Reference7Ideal.τ).loc Cert.Reference7Ideal.main_v93) = v3 c
          ∧ r.2.mem ((c.tc : Thread Cert.Reference7Ideal.nD Cert.Reference7Ideal.τ).loc Cert.Reference7Ideal.main_v50) = v4 c
          ∧ r.2.mem ((c.tc : Thread Cert.Reference7Ideal.nD Cert.Reference7Ideal.τ).loc Cert.Reference7Ideal.main_v94) = v5 c
          ∧ r.2.mem ((c.tc : Thread Cert.Reference7Ideal.nD Cert.Reference7Ideal.τ).loc Cert.Reference7Ideal.main_v95) = v6 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)) (v2 : (c : Dev Cert.Kernel10Ideal.nD) → Buf (Elt Ideal) ((c.tc : Thread Cert.Kernel10Ideal.nD Cert.Kernel10Ideal.τ).loc Cert.Kernel10Ideal.main_v1_2)) (v3 : (c : Dev Cert.Kernel10Ideal.nD) → Buf (Elt Ideal) ((c.tc : Thread Cert.Kernel10Ideal.nD Cert.Kernel10Ideal.τ).loc Cert.Kernel10Ideal.main_v1_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_v1_2) = v2 c
          ∧ r.2.mem ((c.tc : Thread Cert.Kernel10Ideal.nD Cert.Kernel10Ideal.τ).loc Cert.Kernel10Ideal.main_v1_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v62) = v0 c
          ∧ r.2.mem ((c.tc : Thread Cert.Reference10Ideal.nD Cert.Reference10Ideal.τ).loc Cert.Reference10Ideal.main_v63) = v1 c
          ∧ r.2.mem ((c.tc : Thread Cert.Reference10Ideal.nD Cert.Reference10Ideal.τ).loc Cert.Reference10Ideal.main_v64) = v2 c
          ∧ r.2.mem ((c.tc : Thread Cert.Reference10Ideal.nD Cert.Reference10Ideal.τ).loc Cert.Reference10Ideal.main_v65) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v3_0)) (v1 : (c : Dev Cert.Kernel15Ideal.nD) → Buf (Elt Ideal) ((c.tc : Thread Cert.Kernel15Ideal.nD Cert.Kernel15Ideal.τ).loc Cert.Kernel15Ideal.main_v3_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3_0) = v0 c
          ∧ r.2.mem ((c.tc : Thread Cert.Kernel15Ideal.nD Cert.Kernel15Ideal.τ).loc Cert.Kernel15Ideal.main_v3_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v12) = v0 c
          ∧ r.2.mem ((c.tc : Thread Cert.Reference15Ideal.nD Cert.Reference15Ideal.τ).loc Cert.Reference15Ideal.main_v13) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v3) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v2) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v2) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v6) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v2) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v0) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v2) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v0) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v2) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v0) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)) →
    ∃ (v0 : (c : Dev Cert.Kernel26Ideal.nD) → Buf (Elt Ideal) ((c.tc : Thread Cert.Kernel26Ideal.nD Cert.Kernel26Ideal.τ).loc Cert.Kernel26Ideal.main_v3_0)) (v1 : (c : Dev Cert.Kernel26Ideal.nD) → Buf (Elt Ideal) ((c.tc : Thread Cert.Kernel26Ideal.nD Cert.Kernel26Ideal.τ).loc Cert.Kernel26Ideal.main_v3_1)) (v2 : (c : Dev Cert.Kernel26Ideal.nD) → Buf (Elt Ideal) ((c.tc : Thread Cert.Kernel26Ideal.nD Cert.Kernel26Ideal.τ).loc Cert.Kernel26Ideal.main_v3_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v3_0) = v0 c
          ∧ r.2.mem ((c.tc : Thread Cert.Kernel26Ideal.nD Cert.Kernel26Ideal.τ).loc Cert.Kernel26Ideal.main_v3_1) = v1 c
          ∧ r.2.mem ((c.tc : Thread Cert.Kernel26Ideal.nD Cert.Kernel26Ideal.τ).loc Cert.Kernel26Ideal.main_v3_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v27) = v0 c
          ∧ r.2.mem ((c.tc : Thread Cert.Reference26Ideal.nD Cert.Reference26Ideal.τ).loc Cert.Reference26Ideal.main_v3) = v1 c
          ∧ r.2.mem ((c.tc : Thread Cert.Reference26Ideal.nD Cert.Reference26Ideal.τ).loc Cert.Reference26Ideal.main_v28) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)
      ∧ m' ((c.tc : Thread Cert.Reference27Ideal.nD Cert.Reference27Ideal.τ).loc Cert.Reference27Ideal.main_arg5) = m ((c.tc : Thread Cert.Kernel27Ideal.nD Cert.Kernel27Ideal.τ).loc Cert.Kernel27Ideal.main_arg5)) →
    ∃ (v0 : (c : Dev Cert.Kernel27Ideal.nD) → Buf (Elt Ideal) ((c.tc : Thread Cert.Kernel27Ideal.nD Cert.Kernel27Ideal.τ).loc Cert.Kernel27Ideal.main_v5_0)) (v1 : (c : Dev Cert.Kernel27Ideal.nD) → Buf (Elt Ideal) ((c.tc : Thread Cert.Kernel27Ideal.nD Cert.Kernel27Ideal.τ).loc Cert.Kernel27Ideal.main_v5_1)) (v2 : (c : Dev Cert.Kernel27Ideal.nD) → Buf (Elt Ideal) ((c.tc : Thread Cert.Kernel27Ideal.nD Cert.Kernel27Ideal.τ).loc Cert.Kernel27Ideal.main_v5_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v5_0) = v0 c
          ∧ r.2.mem ((c.tc : Thread Cert.Kernel27Ideal.nD Cert.Kernel27Ideal.τ).loc Cert.Kernel27Ideal.main_v5_1) = v1 c
          ∧ r.2.mem ((c.tc : Thread Cert.Kernel27Ideal.nD Cert.Kernel27Ideal.τ).loc Cert.Kernel27Ideal.main_v5_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
          ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v28) = v0 c
          ∧ r.2.mem ((c.tc : Thread Cert.Reference27Ideal.nD Cert.Reference27Ideal.τ).loc Cert.Reference27Ideal.main_v4) = v1 c
          ∧ r.2.mem ((c.tc : Thread Cert.Reference27Ideal.nD Cert.Reference27Ideal.τ).loc Cert.Reference27Ideal.main_v29) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4)
          ∧ r.2.mem ((c.tc : Thread Cert.Reference27Ideal.nD Cert.Reference27Ideal.τ).loc Cert.Reference27Ideal.main_arg5) = m' ((c.tc : Thread Cert.Reference27Ideal.nD Cert.Reference27Ideal.τ).loc Cert.Reference27Ideal.main_arg5))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)) →
    ∃ (v0 : (c : Dev Cert.Kernel28Ideal.nD) → Buf (Elt Ideal) ((c.tc : Thread Cert.Kernel28Ideal.nD Cert.Kernel28Ideal.τ).loc Cert.Kernel28Ideal.main_v2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v2) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v32) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v2) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v30) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v14) = v0 c
          ∧ r.2.mem ((c.tc : Thread Cert.Reference30Ideal.nD Cert.Reference30Ideal.τ).loc Cert.Reference30Ideal.main_v18) = v1 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal_pre_finite31 [hKernel31Ideal : Cert.Kernel31Ideal.Facts] [hReference31Ideal : Cert.Reference31Ideal.Facts] [hPre_finite31 : Cert.Pre_finite31.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal_finite31 m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v3_0)) (v1 : (c : Dev Cert.Kernel31Ideal.nD) → Buf (Elt Ideal) ((c.tc : Thread Cert.Kernel31Ideal.nD Cert.Kernel31Ideal.τ).loc Cert.Kernel31Ideal.main_v3_1)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v3_0) = v0 c
          ∧ r.2.mem ((c.tc : Thread Cert.Kernel31Ideal.nD Cert.Kernel31Ideal.τ).loc Cert.Kernel31Ideal.main_v3_1) = v1 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v76) = v0 c
          ∧ r.2.mem ((c.tc : Thread Cert.Reference31Ideal.nD Cert.Reference31Ideal.τ).loc Cert.Reference31Ideal.main_v71) = v1 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hPre_finite : Cert.Pre_finite.Facts) (hPre_finite5 : Cert.Pre_finite5.Facts) (hPre_finite6 : Cert.Pre_finite6.Facts) (hPre_finite7 : Cert.Pre_finite7.Facts) (hPre_finite10 : Cert.Pre_finite10.Facts) (hPre_finite31 : Cert.Pre_finite31.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Kernel31Ideal_pre_finite31 (hKernel31Ideal := hKernel31Ideal) (hPre_finite31 := hPre_finite31)
    ∧ quiescent_Reference31Ideal (hReference31Ideal := hReference31Ideal)
    ∧ quiescent_Reference31Ideal_pre_finite31 (hReference31Ideal := hReference31Ideal) (hPre_finite31 := hPre_finite31)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite10 (hKernel10Ideal := hKernel10Ideal) (hReference10Ideal := hReference10Ideal) (hPre_finite10 := hPre_finite10)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal_pre_finite31 (hKernel31Ideal := hKernel31Ideal) (hReference31Ideal := hReference31Ideal) (hPre_finite31 := hPre_finite31)
-- ==== Pre_finite.lean ====
abbrev S8192x1024 : Shape := ⟨2, ![8192, 1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  main_v18

def fn {F : FTy → Type} [FloatOps F] (main_arg0 : FVec F S8192x1024 .f32) (main_arg1 : FVec F S8192x1024 .f32) (main_arg2 : FVec F S1024x2816 .f32) (main_arg3 : FVec F S1024x2816 .f32) (main_arg4 : FVec F S2816x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S2816x1024 .f32 := Host.absf main_arg4
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_v13 main_v16
-- ==== Pre_finite10.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8192x1024 .f32) (main_arg1 : FVec F S1024 .f32) (main_arg2 : FVec F S1024 .f32) (main_arg3 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  main_v13
-- ==== Pre_finite31.lean ====
abbrev S4x2048x3072 : Shape := ⟨3, ![4, 2048, 3072]⟩
abbrev S4x3072 : Shape := ⟨2, ![4, 3072]⟩
abbrev S_ : Shape := ⟨0, ![]⟩

class Facts : Prop where
  bcast_S_S4x2048x3072 : S_.BroadcastsInDim S4x2048x3072 (![] : Fin 0 → Fin S4x2048x3072.rank)
  reducesTo_S4x2048x3072_S_d0_1_2 : S4x2048x3072.ReducesTo [0, 1, 2] S_
  h_S_ : 0 < S_.numel

variable [Facts]

def fn {F : FTy → Type} [FloatOps F] (main_arg0 : FVec F S4x2048x3072 .f32) (main_arg1 : FVec F S4x3072 .f32) (main_arg2 : FVec F S4x2048x3072 .f32) : IVec S_ 1 :=
  let main_v0 : FVec F S4x2048x3072 .f32 := Host.absf main_arg2
  let main_cst : FVec F S_ .f32 := constant S_ .f32 0x7F800000#32
  let main_v1 : FVec F S4x2048x3072 .f32 := broadcastInDim S4x2048x3072 ![] bcast_S_S4x2048x3072 main_cst
  let main_v2 : IVec S4x2048x3072 1 := cmpf .olt main_v0 main_v1
  let main_c : IVec S_ 1 := constantI S_ 1 1#1
  let main_v3 : IVec S_ 1 := (fun x v => Host.reduce IntOp.andi x v reducesTo_S4x2048x3072_S_d0_1_2 h_S_) main_v2 main_c
  main_v3
-- ==== Pre_finite5.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1024x2816 .f32) (main_arg5 : FVec F S1024x2816 .f32) (main_arg6 : FVec F S2816x1024 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S1024x2816 .f32 := Host.absf main_arg4
  let main_cst_6 : FVec F S_ .f32 := constant S_ .f32 0x7F800000#32
  let main_v20 : FVec F S1024x2816 .f32 := broadcastInDim S1024x2816 ![] bcast_S_S1024x2816 main_cst_6
  let main_v21 : IVec S1024x2816 1 := cmpf .olt main_v19 main_v20
  let main_c_7 : IVec S_ 1 := constantI S_ 1 1#1
  let main_v22 : IVec S_ 1 := (fun x v => Host.reduce IntOp.andi x v reducesTo_S1024x2816_S_d0_1 h_S_) main_v21 main_c_7
  let main_v23 : IVec S_ 1 := andi main_v18 main_v22
  let main_v24 : FVec F S1024x2816 .f32 := Host.absf main_arg5
  let main_cst_8 : FVec F S_ .f32 := constant S_ .f32 0x7F800000#32
  let main_v25 : FVec F S1024x2816 .f32 := broadcastInDim S1024x2816 ![] bcast_S_S1024x2816 main_cst_8
  let main_v26 : IVec S1024x2816 1 := cmpf .olt main_v24 main_v25
  let main_c_9 : IVec S_ 1 := constantI S_ 1 1#1
  let main_v27 : IVec S_ 1 := (fun x v => Host.reduce IntOp.andi x v reducesTo_S1024x2816_S_d0_1 h_S_) main_v26 main_c_9
  let main_v28 : IVec S_ 1 := andi main_v23 main_v27
  let main_v29 : FVec F S2816x1024 .f32 := Host.absf main_arg6
  let main_cst_10 : FVec F S_ .f32 := constant S_ .f32 0x7F800000#32
  let main_v30 : FVec F S2816x1024 .f32 := broadcastInDim S2816x1024 ![] bcast_S_S2816x1024 main_cst_10
  let main_v31 : IVec S2816x1024 1 := cmpf .olt main_v29 main_v30
  let main_c_11 : IVec S_ 1 := constantI S_ 1 1#1
  let main_v32 : IVec S_ 1 := (fun x v => Host.reduce IntOp.andi x v reducesTo_S2816x1024_S_d0_1 h_S_) main_v31 main_c_11
  let main_v33 : IVec S_ 1 := andi main_v28 main_v32
  main_v33

def fn {F : FTy → Type} [FloatOps F] (main_arg0 : FVec F S8192x1024 .f32) (main_arg1 : FVec F S1024 .f32) (main_arg2 : FVec F S1024 .f32) (main_arg3 : FVec F S8192x1024 .f32) (main_arg4 : FVec F S1024x2816 .f32) (main_arg5 : FVec F S1024x2816 .f32) (main_arg6 : FVec F S2816x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_arg5 main_arg6 main_v13 main_v16
-- ==== Pre_finite6.lean ====
abbrev S4x2048x512 : Shape := ⟨3, ![4, 2048, 512]⟩
abbrev S8x64x64 : Shape := ⟨3, ![8, 64, 64]⟩
abbrev S512 : Shape := ⟨1, ![512]⟩
abbrev S_ : Shape := ⟨0, ![]⟩

class Facts : Prop where
  bcast_S_S4x2048x512 : S_.BroadcastsInDim S4x2048x512 (![] : Fin 0 → Fin S4x2048x512.rank)
  reducesTo_S4x2048x512_S_d0_1_2 : S4x2048x512.ReducesTo [0, 1, 2] S_
  h_S_ : 0 < S_.numel
  bcast_S_S8x64x64 : S_.BroadcastsInDim S8x64x64 (![] : Fin 0 → Fin S8x64x64.rank)
  reducesTo_S8x64x64_S_d0_1_2 : S8x64x64.ReducesTo [0, 1, 2] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S512 .f32) (main_arg5 : FVec F S8x64x64 .f32) (main_arg6 : FVec F S512 .f32) (main_arg7 : FVec F S512 .f32) (main_v13 : IVec S_ 1) (main_v16 : IVec S8x64x64 1) : IVec S_ 1 :=
  let main_c_5 : IVec S_ 1 := constantI S_ 1 1#1
  let main_v17 : IVec S_ 1 := (fun x v => Host.reduce IntOp.andi x v reducesTo_S8x64x64_S_d0_1_2 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S8x64x64 .f32 := Host.absf main_arg5
  let main_cst_8 : FVec F S_ .f32 := constant S_ .f32 0x7F800000#32
  let main_v25 : FVec F S8x64x64 .f32 := broadcastInDim S8x64x64 ![] bcast_S_S8x64x64 main_cst_8
  let main_v26 : IVec S8x64x64 1 := cmpf .olt main_v24 main_v25
  let main_c_9 : IVec S_ 1 := constantI S_ 1 1#1
  let main_v27 : IVec S_ 1 := (fun x v => Host.reduce IntOp.andi x v reducesTo_S8x64x64_S_d0_1_2 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_v33

def fn {F : FTy → Type} [FloatOps F] (main_arg0 : FVec F S4x2048x512 .f32) (main_arg1 : FVec F S4x2048x512 .f32) (main_arg2 : FVec F S4x2048x512 .f32) (main_arg3 : FVec F S8x64x64 .f32) (main_arg4 : FVec F S512 .f32) (main_arg5 : FVec F S8x64x64 .f32) (main_arg6 : FVec F S512 .f32) (main_arg7 : FVec F S512 .f32) : IVec S_ 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_c : IVec S_ 1 := constantI S_ 1 1#1
  let main_v3 : IVec S_ 1 := (fun x v => Host.reduce IntOp.andi x v reducesTo_S4x2048x512_S_d0_1_2 h_S_) main_v2 main_c
  let main_v4 : FVec F S4x2048x512 .f32 := Host.absf main_arg1
  let main_cst_0 : FVec F S_ .f32 := constant S_ .f32 0x7F800000#32
  let main_v5 : FVec F S4x2048x512 .f32 := broadcastInDim S4x2048x512 ![] bcast_S_S4x2048x512 main_cst_0
  let main_v6 : IVec S4x2048x512 1 := cmpf .olt main_v4 main_v5
  let main_c_1 : IVec S_ 1 := constantI S_ 1 1#1
  let main_v7 : IVec S_ 1 := (fun x v => Host.reduce IntOp.andi x v reducesTo_S4x2048x512_S_d0_1_2 h_S_) main_v6 main_c_1
  let main_v8 : IVec S_ 1 := andi main_v3 main_v7
  let main_v9 : FVec F S4x2048x512 .f32 := Host.absf main_arg2
  let main_cst_2 : FVec F S_ .f32 := constant S_ .f32 0x7F800000#32
  let main_v10 : FVec F S4x2048x512 .f32 := broadcastInDim S4x2048x512 ![] bcast_S_S4x2048x512 main_cst_2
  let main_v11 : IVec S4x2048x512 1 := cmpf .olt main_v9 main_v10
  let main_c_3 : IVec S_ 1 := constantI S_ 1 1#1
  let main_v12 : IVec S_ 1 := (fun x v => Host.reduce IntOp.andi x v reducesTo_S4x2048x512_S_d0_1_2 h_S_) main_v11 main_c_3
  let main_v13 : IVec S_ 1 := andi main_v8 main_v12
  let main_v14 : FVec F S8x64x64 .f32 := Host.absf main_arg3
  let main_cst_4 : FVec F S_ .f32 := constant S_ .f32 0x7F800000#32
  let main_v15 : FVec F S8x64x64 .f32 := broadcastInDim S8x64x64 ![] bcast_S_S8x64x64 main_cst_4
  let main_v16 : IVec S8x64x64 1 := cmpf .olt main_v14 main_v15
  fn_part1 (F := F) main_arg4 main_arg5 main_arg6 main_arg7 main_v13 main_v16
-- ==== Pre_finite7.lean ====
abbrev S8192x1024 : Shape := ⟨2, ![8192, 1024]⟩
abbrev S1024 : Shape := ⟨1, ![1024]⟩
abbrev S8192x256 : Shape := ⟨2, ![8192, 256]⟩
abbrev S1024x1024 : Shape := ⟨2, ![1024, 1024]⟩
abbrev S256x1024 : Shape := ⟨2, ![256, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S8192x256 : S_.BroadcastsInDim S8192x256 (![] : Fin 0 → Fin S8192x256.rank)
  reducesTo_S8192x256_S_d0_1 : S8192x256.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S256x1024 : S_.BroadcastsInDim S256x1024 (![] : Fin 0 → Fin S256x1024.rank)
  reducesTo_S256x1024_S_d0_1 : S256x1024.ReducesTo [0, 1] S_

variable [Facts]

def fn_part2 {F : FTy → Type} [FloatOps F] (main_arg7 : FVec F S8192x1024 .f32) (main_v33 : IVec S_ 1) : IVec S_ 1 :=
  let main_v34 : FVec F S8192x1024 .f32 := Host.absf main_arg7
  let main_cst_12 : FVec F S_ .f32 := constant S_ .f32 0x7F800000#32
  let main_v35 : FVec F S8192x1024 .f32 := broadcastInDim S8192x1024 ![] bcast_S_S8192x1024 main_cst_12
  let main_v36 : IVec S8192x1024 1 := cmpf .olt main_v34 main_v35
  let main_c_13 : IVec S_ 1 := constantI S_ 1 1#1
  let main_v37 : IVec S_ 1 := (fun x v => Host.reduce IntOp.andi x v reducesTo_S8192x1024_S_d0_1 h_S_) main_v36 main_c_13
  let main_v38 : IVec S_ 1 := andi main_v33 main_v37
  main_v38

def fn_part1 {F : FTy → Type} [FloatOps F] (main_arg4 : FVec F S1024x1024 .f32) (main_arg5 : FVec F S1024 .f32) (main_arg6 : FVec F S256x1024 .f32) (main_arg7 : FVec F S8192x1024 .f32) (main_v13 : IVec S_ 1) (main_v16 : IVec S8192x256 1) : IVec S_ 1 :=
  let main_c_5 : IVec S_ 1 := constantI S_ 1 1#1
  let main_v17 : IVec S_ 1 := (fun x v => Host.reduce IntOp.andi x v reducesTo_S8192x256_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S256x1024 .f32 := Host.absf main_arg6
  let main_cst_10 : FVec F S_ .f32 := constant S_ .f32 0x7F800000#32
  let main_v30 : FVec F S256x1024 .f32 := broadcastInDim S256x1024 ![] bcast_S_S256x1024 main_cst_10
  let main_v31 : IVec S256x1024 1 := cmpf .olt main_v29 main_v30
  let main_c_11 : IVec S_ 1 := constantI S_ 1 1#1
  let main_v32 : IVec S_ 1 := (fun x v => Host.reduce IntOp.andi x v reducesTo_S256x1024_S_d0_1 h_S_) main_v31 main_c_11
  let main_v33 : IVec S_ 1 := andi main_v28 main_v32
  fn_part2 (F := F) main_arg7 main_v33

def fn {F : FTy → Type} [FloatOps F] (main_arg0 : FVec F S8192x1024 .f32) (main_arg1 : FVec F S1024 .f32) (main_arg2 : FVec F S1024 .f32) (main_arg3 : FVec F S8192x256 .f32) (main_arg4 : FVec F S1024x1024 .f32) (main_arg5 : FVec F S1024 .f32) (main_arg6 : FVec F S256x1024 .f32) (main_arg7 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S8192x256 .f32 := Host.absf main_arg3
  let main_cst_4 : FVec F S_ .f32 := constant S_ .f32 0x7F800000#32
  let main_v15 : FVec F S8192x256 .f32 := broadcastInDim S8192x256 ![] bcast_S_S8192x256 main_cst_4
  let main_v16 : IVec S8192x256 1 := cmpf .olt main_v14 main_v15
  fn_part1 (F := F) main_arg4 main_arg5 main_arg6 main_arg7 main_v13 main_v16
-- ==== Kernel.lean ====
abbrev S8192x1024 : Shape := ⟨2, ![8192, 1024]⟩
abbrev S1024x2816 : Shape := ⟨2, ![1024, 2816]⟩
abbrev S2816x1024 : Shape := ⟨2, ![2816, 1024]⟩
abbrev S1024x4x704 : Shape := ⟨3, ![1024, 4, 704]⟩
abbrev S4x1024x704 : Shape := ⟨3, ![4, 1024, 704]⟩
abbrev S4x704x1024 : Shape := ⟨3, ![4, 704, 1024]⟩
abbrev S4x8192x704 : Shape := ⟨3, ![4, 8192, 704]⟩
abbrev S1024x1024 : Shape := ⟨2, ![1024, 1024]⟩
abbrev S1x1024x704 : Shape := ⟨3, ![1, 1024, 704]⟩
abbrev S1x704x1024 : Shape := ⟨3, ![1, 704, 1024]⟩
abbrev S1024x704 : Shape := ⟨2, ![1024, 704]⟩
abbrev S704x1024 : Shape := ⟨2, ![704, 1024]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩
abbrev S1x1024x192 : Shape := ⟨3, ![1, 1024, 192]⟩
abbrev S1024x192 : Shape := ⟨2, ![1024, 192]⟩
abbrev S1x192x1024 : Shape := ⟨3, ![1, 192, 1024]⟩
abbrev S192x1024 : Shape := ⟨2, ![192, 1024]⟩

abbrev nBuf : Space → Nat
  | .hbm => 20
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .bf16⟩
  | .hbm, ⟨6, _⟩ => ⟨S8192x1024, .bf16⟩
  | .hbm, ⟨7, _⟩ => ⟨S1024x4x704, .f32⟩
  | .hbm, ⟨8, _⟩ => ⟨S4x1024x704, .f32⟩
  | .hbm, ⟨9, _⟩ => ⟨S4x1024x704, .bf16⟩
  | .hbm, ⟨10, _⟩ => ⟨S1024x4x704, .f32⟩
  | .hbm, ⟨11, _⟩ => ⟨S4x1024x704, .f32⟩
  | .hbm, ⟨12, _⟩ => ⟨S4x1024x704, .bf16⟩
  | .hbm, ⟨13, _⟩ => ⟨S4x704x1024, .f32⟩
  | .hbm, ⟨14, _⟩ => ⟨S4x704x1024, .bf16⟩
  | .hbm, ⟨15, _⟩ => ⟨S4x8192x704, .bf16⟩
  | .hbm, ⟨16, _⟩ => ⟨S4x8192x704, .bf16⟩
  | .hbm, ⟨17, _⟩ => ⟨S4x1024x704, .bf16⟩
  | .hbm, ⟨18, _⟩ => ⟨S4x1024x704, .bf16⟩
  | .hbm, ⟨19, _⟩ => ⟨S4x704x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x704x1024, .bf16⟩
  | .local _ .vmem, ⟨9, _⟩ => ⟨S1x704x1024, .bf16⟩
  | .local _ .vmem, ⟨10, _⟩ => ⟨S1x1024x704, .bf16⟩
  | .local _ .vmem, ⟨11, _⟩ => ⟨S1x1024x704, .bf16⟩
  | .local _ .vmem, ⟨12, _⟩ => ⟨S1x1024x704, .bf16⟩
  | .local _ .vmem, ⟨13, _⟩ => ⟨S1x1024x704, .bf16⟩
  | .local _ .vmem, ⟨14, _⟩ => ⟨S1x1024x704, .bf16⟩
  | .local _ .vmem, ⟨15, _⟩ => ⟨S1x1024x704, .bf16⟩
  | .local _ .vmem, ⟨16, _⟩ => ⟨S1x1024x704, .bf16⟩
  | .local _ .vmem, ⟨17, _⟩ => ⟨S1x1024x704, .bf16⟩
  | .local _ .vmem, ⟨18, _⟩ => ⟨S1x704x1024, .bf16⟩
  | .local _ .vmem, ⟨19, _⟩ => ⟨S1x704x1024, .bf16⟩
  | .local _ .vmem, ⟨20, _⟩ => ⟨S1024x704, .f32⟩
  | .local _ .vmem, ⟨21, _⟩ => ⟨S1024x704, .f32⟩
  | .local _ .vmem, ⟨22, _⟩ => ⟨S704x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev main_v10_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 8], ![false, false]⟩

def k0_cond3 (i : grid0.Coords) : BitVec 1 :=
  let arg1 : BitVec 32 := BitVec.ofNat 32 (i 1).val
  let c7_i32 : BitVec 32 := 7#32
  let v111 : BitVec 1 := Scalar.cmpi .eq arg1 c7_i32
  let v112 : BitVec 32 := Scalar.extui v111
  let c0_i32_73 : BitVec 32 := 0#32
  let v113 : BitVec 1 := Scalar.cmpi .ne v112 c0_i32_73
  v113

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x704x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S_ : Shape := ⟨0, ![]⟩
abbrev S8192x4x704 : Shape := ⟨3, ![8192, 4, 704]⟩
abbrev S4x8192x704 : Shape := ⟨3, ![4, 8192, 704]⟩
abbrev S1024x4x704 : Shape := ⟨3, ![1024, 4, 704]⟩
abbrev S4x1024x704 : Shape := ⟨3, ![4, 1024, 704]⟩
abbrev S4x704x1024 : Shape := ⟨3, ![4, 704, 1024]⟩

abbrev nBuf : Space → Nat
  | .hbm => 90
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S1024x2816, .f32⟩
  | .hbm, ⟨29, _⟩ => ⟨S2816x1024, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S2816x1024, .f32⟩
  | .hbm, ⟨34, _⟩ => ⟨S1024x2816, .f32⟩
  | .hbm, ⟨35, _⟩ => ⟨S8192x1024, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S2816x1024, .f32⟩
  | .hbm, ⟨41, _⟩ => ⟨S1024x2816, .f32⟩
  | .hbm, ⟨42, _⟩ => ⟨S8192x1024, .f32⟩
  | .hbm, ⟨43, _⟩ => ⟨S8192x1024, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S_, .f32⟩
  | .hbm, ⟨49, _⟩ => ⟨S8192x2816, .f32⟩
  | .hbm, ⟨50, _⟩ => ⟨S8192x2816, .f32⟩
  | .hbm, ⟨51, _⟩ => ⟨S_, .f32⟩
  | .hbm, ⟨52, _⟩ => ⟨S8192x2816, .f32⟩
  | .hbm, ⟨53, _⟩ => ⟨S8192x2816, .f32⟩
  | .hbm, ⟨54, _⟩ => ⟨S_, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S8192x2816, .f32⟩
  | .hbm, ⟨59, _⟩ => ⟨S8192x2816, .f32⟩
  | .hbm, ⟨60, _⟩ => ⟨S8192x1024, .f32⟩
  | .hbm, ⟨61, _⟩ => ⟨S_, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S8192x1024, .f32⟩
  | .hbm, ⟨66, _⟩ => ⟨S8192x1024, .f32⟩
  | .hbm, ⟨67, _⟩ => ⟨S1024x2816, .f32⟩
  | .hbm, ⟨68, _⟩ => ⟨S2816x1024, .f32⟩
  | .hbm, ⟨69, _⟩ => ⟨S8192x2816, .f32⟩
  | .hbm, ⟨70, _⟩ => ⟨S8192x2816, .f32⟩
  | .hbm, ⟨71, _⟩ => ⟨S8192x2816, .f32⟩
  | .hbm, ⟨72, _⟩ => ⟨S8192x2816, .f32⟩
  | .hbm, ⟨73, _⟩ => ⟨S8192x2816, .f32⟩
  | .hbm, ⟨74, _⟩ => ⟨S8192x2816, .f32⟩
  | .hbm, ⟨75, _⟩ => ⟨S8192x2816, .f32⟩
  | .hbm, ⟨76, _⟩ => ⟨S8192x4x704, .f32⟩
  | .hbm, ⟨77, _⟩ => ⟨S4x8192x704, .f32⟩
  | .hbm, ⟨78, _⟩ => ⟨S4x8192x704, .bf16⟩
  | .hbm, ⟨79, _⟩ => ⟨S8192x4x704, .f32⟩
  | .hbm, ⟨80, _⟩ => ⟨S4x8192x704, .f32⟩
  | .hbm, ⟨81, _⟩ => ⟨S4x8192x704, .bf16⟩
  | .hbm, ⟨82, _⟩ => ⟨S1024x4x704, .f32⟩
  | .hbm, ⟨83, _⟩ => ⟨S4x1024x704, .f32⟩
  | .hbm, ⟨84, _⟩ => ⟨S4x1024x704, .bf16⟩
  | .hbm, ⟨85, _⟩ => ⟨S1024x4x704, .f32⟩
  | .hbm, ⟨86, _⟩ => ⟨S4x1024x704, .f32⟩
  | .hbm, ⟨87, _⟩ => ⟨S4x1024x704, .bf16⟩
  | .hbm, ⟨88, _⟩ => ⟨S4x704x1024, .f32⟩
  | .hbm, ⟨89, _⟩ => ⟨S4x704x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call2_v0 : Ref sig .tc := ⟨.hbm, 46, rfl⟩
abbrev main_call2_v1 : Ref sig .tc := ⟨.hbm, 47, rfl⟩
abbrev main_call2_cst : Ref sig .tc := ⟨.hbm, 48, rfl⟩
abbrev main_call2_v2 : Ref sig .tc := ⟨.hbm, 49, rfl⟩
abbrev main_call2_v3 : Ref sig .tc := ⟨.hbm, 50, rfl⟩
abbrev main_call2_cst_0 : Ref sig .tc := ⟨.hbm, 51, rfl⟩
abbrev main_call2_v4 : Ref sig .tc := ⟨.hbm, 52, rfl⟩
abbrev main_v24_2 : Ref sig .tc := ⟨.hbm, 53, rfl⟩
abbrev main_call2_cst_1 : Ref sig .tc := ⟨.hbm, 54, rfl⟩
abbrev main_call2_v6 : Ref sig .tc := ⟨.hbm, 55, rfl⟩
abbrev main_call2_v7 : Ref sig .tc := ⟨.hbm, 56, rfl⟩
abbrev main_v24_1 : Ref sig .tc := ⟨.hbm, 57, rfl⟩
abbrev main_v24_0 : Ref sig .tc := ⟨.hbm, 58, rfl⟩
abbrev main_v25 : Ref sig .tc := ⟨.hbm, 59, rfl⟩
abbrev main_v26 : Ref sig .tc := ⟨.hbm, 60, rfl⟩
abbrev main_cst_1 : Ref sig .tc := ⟨.hbm, 61, rfl⟩
abbrev main_v27 : Ref sig .tc := ⟨.hbm, 62, rfl⟩
abbrev main_v28 : Ref sig .tc := ⟨.hbm, 63, rfl⟩
abbrev main_cst_2 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩

abbrev nD : Nat := 1
abbrev τ : Topo := Topo.v7x

variable {F : FTy → Type} [FloatOps F]
-- ==== Kernel2.lean ====
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S_ : Shape := ⟨0, ![]⟩
abbrev S8192x4x704 : Shape := ⟨3, ![8192, 4, 704]⟩
abbrev S4x8192x704 : Shape := ⟨3, ![4, 8192, 704]⟩
abbrev S1024x4x704 : Shape := ⟨3, ![1024, 4, 704]⟩
abbrev S4x1024x704 : Shape := ⟨3, ![4, 1024, 704]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x1024x704 : Shape := ⟨3, ![1, 1024, 704]⟩
abbrev S1024x704 : Shape := ⟨2, ![1024, 704]⟩

abbrev nBuf : Space → Nat
  | .hbm => 50
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S1024x2816, .f32⟩
  | .hbm, ⟨29, _⟩ => ⟨S2816x1024, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x4x704, .f32⟩
  | .hbm, ⟨38, _⟩ => ⟨S4x8192x704, .f32⟩
  | .hbm, ⟨39, _⟩ => ⟨S4x8192x704, .bf16⟩
  | .hbm, ⟨40, _⟩ => ⟨S8192x4x704, .f32⟩
  | .hbm, ⟨41, _⟩ => ⟨S4x8192x704, .f32⟩
  | .hbm, ⟨42, _⟩ => ⟨S4x8192x704, .bf16⟩
  | .hbm, ⟨43, _⟩ => ⟨S1024x4x704, .f32⟩
  | .hbm, ⟨44, _⟩ => ⟨S4x1024x704, .f32⟩
  | .hbm, ⟨45, _⟩ => ⟨S4x1024x704, .bf16⟩
  | .hbm, ⟨46, _⟩ => ⟨S1024x4x704, .f32⟩
  | .hbm, ⟨47, _⟩ => ⟨S4x1024x704, .f32⟩
  | .hbm, ⟨48, _⟩ => ⟨S4x1024x704, .bf16⟩
  | .hbm, ⟨49, _⟩ => ⟨S8192x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x512x704, .bf16⟩
  | .local _ .vmem, ⟨3, _⟩ => ⟨S4x512x704, .bf16⟩
  | .local _ .vmem, ⟨4, _⟩ => ⟨S4x1024x704, .bf16⟩
  | .local _ .vmem, ⟨5, _⟩ => ⟨S4x1024x704, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x704 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S8192x1024 : Shape := ⟨2, ![8192, 1024]⟩
abbrev S1024x2816 : Shape := ⟨2, ![1024, 2816]⟩
abbrev S2816x1024 : Shape := ⟨2, ![2816, 1024]⟩
abbrev S_ : Shape := ⟨0, ![]⟩
abbrev S8192x2816 : Shape := ⟨2, ![8192, 2816]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x1024, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v3_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v3_1 : Ref sig .tc := ⟨.hbm, 20, rfl⟩
abbrev main_v3_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_2 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩

abbrev nD : Nat := 1
abbrev τ : Topo := Topo.v7x

variable {F : FTy → Type} [FloatOps F]
-- ==== Kernel3.lean ====
abbrev S8192x1024 : Shape := ⟨2, ![8192, 1024]⟩
abbrev S1024x2816 : Shape := ⟨2, ![1024, 2816]⟩
abbrev S2816x1024 : Shape := ⟨2, ![2816, 1024]⟩
abbrev S1024 : Shape := ⟨1, ![1024]⟩
abbrev S1024x4x704 : Shape := ⟨3, ![1024, 4, 704]⟩
abbrev S4x1024x704 : Shape := ⟨3, ![4, 1024, 704]⟩
abbrev S4x704x1024 : Shape := ⟨3, ![4, 704, 1024]⟩
abbrev S1x1024 : Shape := ⟨2, ![1, 1024]⟩
abbrev S1024x1024 : Shape := ⟨2, ![1024, 1024]⟩
abbrev S1x1024x704 : Shape := ⟨3, ![1, 1024, 704]⟩
abbrev S1x704x1024 : Shape := ⟨3, ![1, 704, 1024]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩
abbrev S1x1024x192 : Shape := ⟨3, ![1, 1024, 192]⟩
abbrev S1024x192 : Shape := ⟨2, ![1024, 192]⟩
abbrev S1x192x1024 : Shape := ⟨3, ![1, 192, 1024]⟩
abbrev S192x1024 : Shape := ⟨2, ![192, 1024]⟩
abbrev S1024x1 : Shape := ⟨2, ![1024, 1]⟩

abbrev nBuf : Space → Nat
  | .hbm => 19
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1024x4x704, .f32⟩
  | .hbm, ⟨7, _⟩ => ⟨S4x1024x704, .f32⟩
  | .hbm, ⟨8, _⟩ => ⟨S4x1024x704, .bf16⟩
  | .hbm, ⟨9, _⟩ => ⟨S1024x4x704, .f32⟩
  | .hbm, ⟨10, _⟩ => ⟨S4x1024x704, .f32⟩
  | .hbm, ⟨11, _⟩ => ⟨S4x1024x704, .bf16⟩
  | .hbm, ⟨12, _⟩ => ⟨S4x704x1024, .f32⟩
  | .hbm, ⟨13, _⟩ => ⟨S4x704x1024, .bf16⟩
  | .hbm, ⟨14, _⟩ => ⟨S1x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v49 : BitVec 1 := Scalar.cmpi .eq arg1 c3_i32
  let v50 : BitVec 32 := Scalar.extui v49
  let c0_i32_37 : BitVec 32 := 0#32
  let v51 : BitVec 1 := Scalar.cmpi .ne v50 c0_i32_37
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference3Ideal.lean ====
abbrev S8192x1024 : Shape := ⟨2, ![8192, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S8192x2816 : Shape := ⟨2, ![8192, 2816]⟩
abbrev S8192 : Shape := ⟨1, ![8192]⟩
abbrev S8192x1 : Shape := ⟨2, ![8192, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x2816, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== Kernel4.lean ====
abbrev S4x2048x512 : Shape := ⟨3, ![4, 2048, 512]⟩
abbrev S4x512 : Shape := ⟨2, ![4, 512]⟩
abbrev S512 : Shape := ⟨1, ![512]⟩
abbrev S8192x512 : Shape := ⟨2, ![8192, 512]⟩
abbrev S1x512 : Shape := ⟨2, ![1, 512]⟩
abbrev S2048x128 : Shape := ⟨2, ![2048, 128]⟩
abbrev S4x128 : Shape := ⟨2, ![4, 128]⟩
abbrev S1x128 : Shape := ⟨2, ![1, 128]⟩
abbrev S2056x128 : Shape := ⟨2, ![2056, 128]⟩
abbrev S8x128 : Shape := ⟨2, ![8, 128]⟩
abbrev S128 : Shape := ⟨1, ![128]⟩

abbrev nBuf : Space → Nat
  | .hbm => 10
  | .vmem => 16
  | .smem => 0
  | _ => 0

abbrev bufTy : (tb : Table) → Fin (tcTables nBuf tb) → BufTy
  | .hbm, ⟨0, _⟩ => ⟨S4x2048x512, .f32⟩
  | .hbm, ⟨1, _⟩ => ⟨S4x512, .f32⟩
  | .hbm, ⟨2, _⟩ => ⟨S512, .f32⟩
  | .hbm, ⟨3, _⟩ => ⟨S4x2048x512, .f32⟩
  | .hbm, ⟨4, _⟩ => ⟨S8192x512, .f32⟩
  | .hbm, ⟨5, _⟩ => ⟨S1x512, .f32⟩
  | .hbm, ⟨6, _⟩ => ⟨S8192x512, .f32⟩
  | .hbm, ⟨7, _⟩ => ⟨S8192x512, .f32⟩
  | .hbm, ⟨8, _⟩ => ⟨S4x512, .f32⟩
  | .hbm, ⟨9, _⟩ => ⟨S1x512, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S1x128, .f32⟩
  | .local _ .vmem, ⟨5, _⟩ => ⟨S1x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S4x128, .f32⟩
  | .local _ .vmem, ⟨11, _⟩ => ⟨S4x128, .f32⟩
  | .local _ .vmem, ⟨12, _⟩ => ⟨S1x128, .f32⟩
  | .local _ .vmem, ⟨13, _⟩ => ⟨S1x128, .f32⟩
  | .local _ .vmem, ⟨14, _⟩ => ⟨S2056x128, .f32⟩
  | .local _ .vmem, ⟨15, _⟩ => ⟨S2056x128, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v38 : BitVec 1 := Scalar.cmpi .eq arg1 c0_i32
  let v43 : BitVec 32 := Scalar.extui v38
  let c0_i32_27 : BitVec 32 := 0#32
  let v44 : BitVec 1 := Scalar.cmpi .ne v43 c0_i32_27
  v44

def k0_cond2 (i : grid0.Coords) : BitVec 1 :=
  let arg1 : BitVec 32 := BitVec.ofNat 32 (i 1).val
  let c0_i32 : BitVec 32 := 0#32
  let v38 : BitVec 1 := Scalar.cmpi .eq arg1 c0_i32
  let v_true : BitVec 1 := 1#1
  let v45 : BitVec 1 := Scalar.xori v38 v_true
  let v46 : BitVec 32 := Scalar.extui v45
  let c0_i32_28 : BitVec 32 := 0#32
  let v47 : BitVec 1 := Scalar.cmpi .ne v46 c0_i32_28
  v47

def k0_cond3 (i : grid0.Coords) : BitVec 1 :=
  let arg1 : BitVec 32 := BitVec.ofNat 32 (i 1).val
  let c0_i32 : BitVec 32 := 0#32
  let v38 : BitVec 1 := Scalar.cmpi .eq arg1 c0_i32
  let v52 : BitVec 32 := Scalar.extui v38
  let c0_i32_31 : BitVec 32 := 0#32
  let v53 : BitVec 1 := Scalar.cmpi .ne v52 c0_i32_31
  v53

def k0_cond4 (i : grid0.Coords) : BitVec 1 :=
  let arg1 : BitVec 32 := BitVec.ofNat 32 (i 1).val
  let c0_i32 : BitVec 32 := 0#32
  let v38 : BitVec 1 := Scalar.cmpi .eq arg1 c0_i32
  let true_32 : BitVec 1 := 1#1
  let v54 : BitVec 1 := Scalar.xori v38 true_32
  let v55 : BitVec 32 := Scalar.extui v54
  let c0_i32_33 : BitVec 32 := 0#32
  let v56 : BitVec 1 := Scalar.cmpi .ne v55 c0_i32_33
  v56

def k0_cond5 (i : grid0.Coords) : BitVec 1 :=
  let arg1 : BitVec 32 := BitVec.ofNat 32 (i 1).val
  let c0_i32 : BitVec 32 := 0#32
  let v38 : BitVec 1 := Scalar.cmpi .eq arg1 c0_i32
  let v61 : BitVec 32 := Scalar.extui v38
  let c0_i32_36 : BitVec 32 := 0#32
  let v62 : BitVec 1 := Scalar.cmpi .ne v61 c0_i32_36
  v62

def k0_cond6 (i : grid0.Coords) : BitVec 1 :=
  let arg1 : BitVec 32 := BitVec.ofNat 32 (i 1).val
  let c0_i32 : BitVec 32 := 0#32
  let v38 : BitVec 1 := Scalar.cmpi .eq arg1 c0_i32
  let true_37 : BitVec 1 := 1#1
  let v63 : BitVec 1 := Scalar.xori v38 true_37
  let v64 : BitVec 32 := Scalar.extui v63
  let c0_i32_38 : BitVec 32 := 0#32
  let v65 : BitVec 1 := Scalar.cmpi .ne v64 c0_i32_38
  v65

def k0_cond7 (i : grid0.Coords) : BitVec 1 :=
  let arg1 : BitVec 32 := BitVec.ofNat 32 (i 1).val
  let c0_i32 : BitVec 32 := 0#32
  let v38 : BitVec 1 := Scalar.cmpi .eq arg1 c0_i32
  let v70 : BitVec 32 := Scalar.extui v38
  let c0_i32_42 : BitVec 32 := 0#32
  let v71 : BitVec 1 := Scalar.cmpi .ne v70 c0_i32_42
  v71

def k0_cond8 (i : grid0.Coords) : BitVec 1 :=
  let arg1 : BitVec 32 := BitVec.ofNat 32 (i 1).val
  let c0_i32 : BitVec 32 := 0#32
  let v38 : BitVec 1 := Scalar.cmpi .eq arg1 c0_i32
  let true_43 : BitVec 1 := 1#1
  let v72 : BitVec 1 := Scalar.xori v38 true_43
  let v73 : BitVec 32 := Scalar.extui v72
  let c0_i32_44 : BitVec 32 := 0#32
  let v74 : BitVec 1 := Scalar.cmpi .ne v73 c0_i32_44
  v74

def k0_cond9 (i : grid0.Coords) : BitVec 1 :=
  let arg1 : BitVec 32 := BitVec.ofNat 32 (i 1).val
  let c0_i32 : BitVec 32 := 0#32
  let v38 : BitVec 1 := Scalar.cmpi .eq arg1 c0_i32
  let v77 : BitVec 32 := Scalar.extui v38
  let c0_i32_46 : BitVec 32 := 0#32
  let v78 : BitVec 1 := Scalar.cmpi .ne v77 c0_i32_46
  v78

def k0_cond10 (i : grid0.Coords) : BitVec 1 :=
  let arg1 : BitVec 32 := BitVec.ofNat 32 (i 1).val
  let c0_i32 : BitVec 32 := 0#32
  let v38 : BitVec 1 := Scalar.cmpi .eq arg1 c0_i32
  let true_47 : BitVec 1 := 1#1
  let v79 : BitVec 1 := Scalar.xori v38 true_47
  let v80 : BitVec 32 := Scalar.extui v79
  let c0_i32_48 : BitVec 32 := 0#32
  let v81 : BitVec 1 := Scalar.cmpi .ne v80 c0_i32_48
  v81

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference4Ideal.lean ====
abbrev S4x2048x512 : Shape := ⟨3, ![4, 2048, 512]⟩
abbrev S4x512 : Shape := ⟨2, ![4, 512]⟩
abbrev S512 : Shape := ⟨1, ![512]⟩
abbrev S_ : Shape := ⟨0, ![]⟩
abbrev S4x3x512 : Shape := ⟨3, ![4, 3, 512]⟩
abbrev S4x2051x512 : Shape := ⟨3, ![4, 2051, 512]⟩
abbrev S1x512 : Shape := ⟨2, ![1, 512]⟩
abbrev S1x1x512 : Shape := ⟨3, ![1, 1, 512]⟩
abbrev S8192x512 : Shape := ⟨2, ![8192, 512]⟩

abbrev nBuf : Space → Nat
  | .hbm => 107
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x512, .f32⟩
  | .hbm, ⟨2, _⟩ => ⟨S512, .f32⟩
  | .hbm, ⟨3, _⟩ => ⟨S4x2048x512, .f32⟩
  | .hbm, ⟨4, _⟩ => ⟨S_, .f32⟩
  | .hbm, ⟨5, _⟩ => ⟨S4x3x512, .f32⟩
  | .hbm, ⟨6, _⟩ => ⟨S4x2051x512, .f32⟩
  | .hbm, ⟨7, _⟩ => ⟨S_, .f32⟩
  | .hbm, ⟨8, _⟩ => ⟨S4x3x512, .f32⟩
  | .hbm, ⟨9, _⟩ => ⟨S4x2048x512, .f32⟩
  | .hbm, ⟨10, _⟩ => ⟨S1x512, .f32⟩
  | .hbm, ⟨11, _⟩ => ⟨S512, .f32⟩
  | .hbm, ⟨12, _⟩ => ⟨S1x1x512, .f32⟩
  | .hbm, ⟨13, _⟩ => ⟨S4x2048x512, .f32⟩
  | .hbm, ⟨14, _⟩ => ⟨S4x2048x512, .f32⟩
  | .hbm, ⟨15, _⟩ => ⟨S4x2048x512, .f32⟩
  | .hbm, ⟨16, _⟩ => ⟨S1x512, .f32⟩
  | .hbm, ⟨17, _⟩ => ⟨S512, .f32⟩
  | .hbm, ⟨18, _⟩ => ⟨S1x1x512, .f32⟩
  | .hbm, ⟨19, _⟩ => ⟨S4x2048x512, .f32⟩
  | .hbm, ⟨20, _⟩ => ⟨S4x2048x512, .f32⟩
  | .hbm, ⟨21, _⟩ => ⟨S4x2048x512, .f32⟩
  | .hbm, ⟨22, _⟩ => ⟨S4x2048x512, .f32⟩
  | .hbm, ⟨23, _⟩ => ⟨S1x512, .f32⟩
  | .hbm, ⟨24, _⟩ => ⟨S512, .f32⟩
  | .hbm, ⟨25, _⟩ => ⟨S1x1x512, .f32⟩
  | .hbm, ⟨26, _⟩ => ⟨S4x2048x512, .f32⟩
  | .hbm, ⟨27, _⟩ => ⟨S4x2048x512, .f32⟩
  | .hbm, ⟨28, _⟩ => ⟨S4x2048x512, .f32⟩
  | .hbm, ⟨29, _⟩ => ⟨S4x2048x512, .f32⟩
  | .hbm, ⟨30, _⟩ => ⟨S1x512, .f32⟩
  | .hbm, ⟨31, _⟩ => ⟨S512, .f32⟩
  | .hbm, ⟨32, _⟩ => ⟨S1x1x512, .f32⟩
  | .hbm, ⟨33, _⟩ => ⟨S4x2048x512, .f32⟩
  | .hbm, ⟨34, _⟩ => ⟨S4x2048x512, .f32⟩
  | .hbm, ⟨35, _⟩ => ⟨S4x2048x512, .f32⟩
  | .hbm, ⟨36, _⟩ => ⟨S1x1x512, .f32⟩
  | .hbm, ⟨37, _⟩ => ⟨S4x2048x512, .f32⟩
  | .hbm, ⟨38, _⟩ => ⟨S4x2048x512, .f32⟩
  | .hbm, ⟨39, _⟩ => ⟨S4x2048x512, .f32⟩
  | .hbm, ⟨40, _⟩ => ⟨S_, .f32⟩
  | .hbm, ⟨41, _⟩ => ⟨S512, .f32⟩
  | .hbm, ⟨42, _⟩ => ⟨S1x1x512, .f32⟩
  | .hbm, ⟨43, _⟩ => ⟨S_, .f32⟩
  | .hbm, ⟨44, _⟩ => ⟨S512, .f32⟩
  | .hbm, ⟨45, _⟩ => ⟨S4x2048x512, .f32⟩
  | .hbm, ⟨46, _⟩ => ⟨S_, .f32⟩
  | .hbm, ⟨47, _⟩ => ⟨S512, .f32⟩
  | .hbm, ⟨48, _⟩ => ⟨S1x1x512, .f32⟩
  | .hbm, ⟨49, _⟩ => ⟨S4x2048x512, .f32⟩
  | .hbm, ⟨50, _⟩ => ⟨S4x2048x512, .f32⟩
  | .hbm, ⟨51, _⟩ => ⟨S_, .f32⟩
  | .hbm, ⟨52, _⟩ => ⟨S512, .f32⟩
  | .hbm, ⟨53, _⟩ => ⟨S1x512, .f32⟩
  | .hbm, ⟨54, _⟩ => ⟨S_, .f32⟩
  | .hbm, ⟨55, _⟩ => ⟨S4x512, .f32⟩
  | .hbm, ⟨56, _⟩ => ⟨S_, .f32⟩
  | .hbm, ⟨57, _⟩ => ⟨S4x2051x512, .f32⟩
  | .hbm, ⟨58, _⟩ => ⟨S4x2048x512, .f32⟩
  | .hbm, ⟨59, _⟩ => ⟨S_, .f32⟩
  | .hbm, ⟨60, _⟩ => ⟨S512, .f32⟩
  | .hbm, ⟨61, _⟩ => ⟨S1x1x512, .f32⟩
  | .hbm, ⟨62, _⟩ => ⟨S4x2048x512, .f32⟩
  | .hbm, ⟨63, _⟩ => ⟨S4x2048x512, .f32⟩
  | .hbm, ⟨64, _⟩ => ⟨S_, .f32⟩
  | .hbm, ⟨65, _⟩ => ⟨S512, .f32⟩
  | .hbm, ⟨66, _⟩ => ⟨S1x512, .f32⟩
  | .hbm, ⟨67, _⟩ => ⟨S_, .f32⟩
  | .hbm, ⟨68, _⟩ => ⟨S4x512, .f32⟩
  | .hbm, ⟨69, _⟩ => ⟨S4x512, .f32⟩
  | .hbm, ⟨70, _⟩ => ⟨S_, .f32⟩
  | .hbm, ⟨71, _⟩ => ⟨S4x2051x512, .f32⟩
  | .hbm, ⟨72, _⟩ => ⟨S4x2051x512, .f32⟩
  | .hbm, ⟨73, _⟩ => ⟨S4x2048x512, .f32⟩
  | .hbm, ⟨74, _⟩ => ⟨S_, .f32⟩
  | .hbm, ⟨75, _⟩ => ⟨S512, .f32⟩
  | .hbm, ⟨76, _⟩ => ⟨S1x1x512, .f32⟩
  | .hbm, ⟨77, _⟩ => ⟨S4x2048x512, .f32⟩
  | .hbm, ⟨78, _⟩ => ⟨S4x2048x512, .f32⟩
  | .hbm, ⟨79, _⟩ => ⟨S_, .f32⟩
  | .hbm, ⟨80, _⟩ => ⟨S512, .f32⟩
  | .hbm, ⟨81, _⟩ => ⟨S1x512, .f32⟩
  | .hbm, ⟨82, _⟩ => ⟨S_, .f32⟩
  | .hbm, ⟨83, _⟩ => ⟨S4x512, .f32⟩
  | .hbm, ⟨84, _⟩ => ⟨S4x512, .f32⟩
  | .hbm, ⟨85, _⟩ => ⟨S_, .f32⟩
  | .hbm, ⟨86, _⟩ => ⟨S4x2051x512, .f32⟩
  | .hbm, ⟨87, _⟩ => ⟨S4x2051x512, .f32⟩
  | .hbm, ⟨88, _⟩ => ⟨S4x2048x512, .f32⟩
  | .hbm, ⟨89, _⟩ => ⟨S_, .f32⟩
  | .hbm, ⟨90, _⟩ => ⟨S512, .f32⟩
  | .hbm, ⟨91, _⟩ => ⟨S1x1x512, .f32⟩
  | .hbm, ⟨92, _⟩ => ⟨S4x2048x512, .f32⟩
  | .hbm, ⟨93, _⟩ => ⟨S4x2048x512, .f32⟩
  | .hbm, ⟨94, _⟩ => ⟨S_, .f32⟩
  | .hbm, ⟨95, _⟩ => ⟨S512, .f32⟩
  | .hbm, ⟨96, _⟩ => ⟨S1x512, .f32⟩
  | .hbm, ⟨97, _⟩ => ⟨S_, .f32⟩
  | .hbm, ⟨98, _⟩ => ⟨S4x512, .f32⟩
  | .hbm, ⟨99, _⟩ => ⟨S4x512, .f32⟩
  | .hbm, ⟨100, _⟩ => ⟨S_, .f32⟩
  | .hbm, ⟨101, _⟩ => ⟨S4x2051x512, .f32⟩
  | .hbm, ⟨102, _⟩ => ⟨S4x2051x512, .f32⟩
  | .hbm, ⟨103, _⟩ => ⟨S4x3x512, .f32⟩
  | .hbm, ⟨104, _⟩ => ⟨S4x2048x512, .f32⟩
  | .hbm, ⟨105, _⟩ => ⟨S8192x512, .f32⟩
  | .hbm, ⟨106, _⟩ => ⟨S1x512, .f32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_1 : Ref sig .tc := ⟨.hbm, 40, rfl⟩
abbrev main_v34 : Ref sig .tc := ⟨.hbm, 41, rfl⟩
abbrev main_v35 : Ref sig .tc := ⟨.hbm, 42, rfl⟩
abbrev main_cst_2 : Ref sig .tc := ⟨.hbm, 43, rfl⟩
abbrev main_v36 : Ref sig .tc := ⟨.hbm, 44, rfl⟩
abbrev main_v37 : Ref sig .tc := ⟨.hbm, 45, rfl⟩
abbrev main_cst_3 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_4 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_cst_6 : Ref sig .tc := ⟨.hbm, 56, rfl⟩
abbrev main_v45 : Ref sig .tc := ⟨.hbm, 57, rfl⟩
abbrev main_v46 : Ref sig .tc := ⟨.hbm, 58, rfl⟩
abbrev main_cst_7 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_8 : Ref sig .tc := ⟨.hbm, 64, rfl⟩
abbrev main_v51 : Ref sig .tc := ⟨.hbm, 65, rfl⟩
abbrev main_v52 : Ref sig .tc := ⟨.hbm, 66, rfl⟩
abbrev main_cst_9 : Ref sig .tc := ⟨.hbm, 67, rfl⟩
abbrev main_v53 : Ref sig .tc := ⟨.hbm, 68, rfl⟩
abbrev main_v54 : Ref sig .tc := ⟨.hbm, 69, rfl⟩
abbrev main_cst_10 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_11 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_12 : Ref sig .tc := ⟨.hbm, 79, rfl⟩
abbrev main_v62 : Ref sig .tc := ⟨.hbm, 80, rfl⟩
abbrev main_v63 : Ref sig .tc := ⟨.hbm, 81, rfl⟩
abbrev main_cst_13 : Ref sig .tc := ⟨.hbm, 82, rfl⟩
abbrev main_v64 : Ref sig .tc := ⟨.hbm, 83, rfl⟩
abbrev main_v65 : Ref sig .tc := ⟨.hbm, 84, rfl⟩
abbrev main_cst_14 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_15 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_16 : Ref sig .tc := ⟨.hbm, 94, rfl⟩
abbrev main_v73 : Ref sig .tc := ⟨.hbm, 95, rfl⟩
abbrev main_v74 : Ref sig .tc := ⟨.hbm, 96, rfl⟩
abbrev main_cst_17 : Ref sig .tc := ⟨.hbm, 97, rfl⟩
abbrev main_v75 : Ref sig .tc := ⟨.hbm, 98, rfl⟩
abbrev main_v76 : Ref sig .tc := ⟨.hbm, 99, rfl⟩
abbrev main_cst_18 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩

abbrev nD : Nat := 1
abbrev τ : Topo := Topo.v7x

variable {F : FTy → Type} [FloatOps F]
-- ==== Kernel5.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8192x4x704 : Shape := ⟨3, ![8192, 4, 704]⟩
abbrev S4x8192x704 : Shape := ⟨3, ![4, 8192, 704]⟩
abbrev S1024x4x704 : Shape := ⟨3, ![1024, 4, 704]⟩
abbrev S4x1024x704 : Shape := ⟨3, ![4, 1024, 704]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x1024x704 : Shape := ⟨3, ![1, 1024, 704]⟩
abbrev S1024x704 : Shape := ⟨2, ![1024, 704]⟩
abbrev S512 : Shape := ⟨1, ![512]⟩
abbrev S512x1 : Shape := ⟨2, ![512, 1]⟩

abbrev nBuf : Space → Nat
  | .hbm => 85
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S_, .f32⟩
  | .hbm, ⟨44, _⟩ => ⟨S8192x2816, .f32⟩
  | .hbm, ⟨45, _⟩ => ⟨S8192x2816, .f32⟩
  | .hbm, ⟨46, _⟩ => ⟨S_, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x1024, .f32⟩
  | .hbm, ⟨53, _⟩ => ⟨S_, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S1024x2816, .f32⟩
  | .hbm, ⟨60, _⟩ => ⟨S2816x1024, .f32⟩
  | .hbm, ⟨61, _⟩ => ⟨S8192x2816, .f32⟩
  | .hbm, ⟨62, _⟩ => ⟨S8192x2816, .f32⟩
  | .hbm, ⟨63, _⟩ => ⟨S8192x2816, .f32⟩
  | .hbm, ⟨64, _⟩ => ⟨S8192x2816, .f32⟩
  | .hbm, ⟨65, _⟩ => ⟨S8192x2816, .f32⟩
  | .hbm, ⟨66, _⟩ => ⟨S8192x2816, .f32⟩
  | .hbm, ⟨67, _⟩ => ⟨S8192x2816, .f32⟩
  | .hbm, ⟨68, _⟩ => ⟨S8192x4x704, .f32⟩
  | .hbm, ⟨69, _⟩ => ⟨S4x8192x704, .f32⟩
  | .hbm, ⟨70, _⟩ => ⟨S4x8192x704, .bf16⟩
  | .hbm, ⟨71, _⟩ => ⟨S8192x4x704, .f32⟩
  | .hbm, ⟨72, _⟩ => ⟨S4x8192x704, .f32⟩
  | .hbm, ⟨73, _⟩ => ⟨S4x8192x704, .bf16⟩
  | .hbm, ⟨74, _⟩ => ⟨S1024x4x704, .f32⟩
  | .hbm, ⟨75, _⟩ => ⟨S4x1024x704, .f32⟩
  | .hbm, ⟨76, _⟩ => ⟨S4x1024x704, .bf16⟩
  | .hbm, ⟨77, _⟩ => ⟨S1024x4x704, .f32⟩
  | .hbm, ⟨78, _⟩ => ⟨S4x1024x704, .f32⟩
  | .hbm, ⟨79, _⟩ => ⟨S4x1024x704, .bf16⟩
  | .hbm, ⟨80, _⟩ => ⟨S1x1024, .f32⟩
  | .hbm, ⟨81, _⟩ => ⟨S8192x1024, .f32⟩
  | .hbm, ⟨82, _⟩ => ⟨S8192x1024, .bf16⟩
  | .hbm, ⟨83, _⟩ => ⟨S1x1024, .f32⟩
  | .hbm, ⟨84, _⟩ => ⟨S1x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x512x704, .bf16⟩
  | .local _ .vmem, ⟨3, _⟩ => ⟨S4x512x704, .bf16⟩
  | .local _ .vmem, ⟨4, _⟩ => ⟨S4x1024x704, .bf16⟩
  | .local _ .vmem, ⟨5, _⟩ => ⟨S4x1024x704, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v26_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v26_1 : Ref sig .tc := ⟨.hbm, 49, rfl⟩
abbrev main_v26_0 : Ref sig .tc := ⟨.hbm, 50, rfl⟩
abbrev main_v27 : Ref sig .tc := ⟨.hbm, 51, rfl⟩
abbrev main_v28 : Ref sig .tc := ⟨.hbm, 52, rfl⟩
abbrev main_cst_4 : Ref sig .tc := ⟨.hbm, 53, rfl⟩
abbrev main_v29 : Ref sig .tc := ⟨.hbm, 54, rfl⟩
abbrev main_v30 : Ref sig .tc := ⟨.hbm, 55, rfl⟩
abbrev main_cst_5 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52_0 : Ref sig .tc := ⟨.hbm, 81, rfl⟩
abbrev main_v52_1 : Ref sig .tc := ⟨.hbm, 82, rfl⟩
abbrev main_v52_2 : Ref sig .tc := ⟨.hbm, 83, rfl⟩
abbrev main_v52_3 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v96 : BitVec 1 := Scalar.cmpi .eq arg0 c0_i32
  let v97 : BitVec 32 := Scalar.extui v96
  let c0_i32_73 : BitVec 32 := 0#32
  let v98 : BitVec 1 := Scalar.cmpi .ne v97 c0_i32_73
  v98

def k0_cond2 (i : grid0.Coords) : BitVec 1 :=
  let arg0 : BitVec 32 := BitVec.ofNat 32 (i 0).val
  let c0_i32_74 : BitVec 32 := 0#32
  let v99 : BitVec 1 := Scalar.cmpi .sgt arg0 c0_i32_74
  let v100 : BitVec 32 := Scalar.extui v99
  let c0_i32_75 : BitVec 32 := 0#32
  let v101 : BitVec 1 := Scalar.cmpi .ne v100 c0_i32_75
  v101

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x704 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference5Ideal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 133
  | .vmem => 0
  | .smem => 0
  | _ => 0

abbrev hbmTy0_0 (i : Nat) : BufTy := match i % 128 with
  | 0 => ⟨S8192x1024, .f32⟩
  | 1 => ⟨S1024, .f32⟩
  | 2 => ⟨S1024, .f32⟩
  | 3 => ⟨S8192x1024, .f32⟩
  | 4 => ⟨S1024x2816, .f32⟩
  | 5 => ⟨S1024x2816, .f32⟩
  | 6 => ⟨S2816x1024, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S8192x1024, .f32⟩
  | 14 => ⟨S8192x1024, .f32⟩
  | 15 => ⟨S8192x1024, .f32⟩
  | 16 => ⟨S_, .f32⟩
  | 17 => ⟨S8192x1024, .f32⟩
  | 18 => ⟨S8192x1024, .f32⟩
  | 19 => ⟨S_, .f32⟩
  | 20 => ⟨S8192, .f32⟩
  | 21 => ⟨S8192x1, .f32⟩
  | 22 => ⟨S_, .f32⟩
  | 23 => ⟨S8192x1, .f32⟩
  | 24 => ⟨S8192x1, .f32⟩
  | 25 => ⟨S8192x1024, .f32⟩
  | 26 => ⟨S8192x1024, .f32⟩
  | 27 => ⟨S_, .f32⟩
  | 28 => ⟨S8192x1, .f32⟩
  | 29 => ⟨S8192x1, .f32⟩
  | 30 => ⟨S8192x1, .f32⟩
  | 31 => ⟨S8192x1, .f32⟩
  | 32 => ⟨S_, .f32⟩
  | 33 => ⟨S8192x1, .f32⟩
  | 34 => ⟨S8192x1, .f32⟩
  | 35 => ⟨S8192x1024, .f32⟩
  | 36 => ⟨S8192x1024, .f32⟩
  | 37 => ⟨S1x1024, .f32⟩
  | 38 => ⟨S8192x1024, .f32⟩
  | 39 => ⟨S8192x1024, .f32⟩
  | 40 => ⟨S1x1024, .f32⟩
  | 41 => ⟨S8192x1024, .f32⟩
  | 42 => ⟨S8192x1024, .f32⟩
  | 43 => ⟨S_, .f32⟩
  | 44 => ⟨S8192x1024, .f32⟩
  | 45 => ⟨S8192x1024, .f32⟩
  | 46 => ⟨S8192x2816, .f32⟩
  | 47 => ⟨S8192x2816, .f32⟩
  | 48 => ⟨S8192x2816, .f32⟩
  | 49 => ⟨S_, .f32⟩
  | 50 => ⟨S8192x2816, .f32⟩
  | 51 => ⟨S8192x2816, .f32⟩
  | 52 => ⟨S_, .f32⟩
  | 53 => ⟨S8192x2816, .f32⟩
  | 54 => ⟨S8192x2816, .f32⟩
  | 55 => ⟨S_, .f32⟩
  | 56 => ⟨S8192x2816, .f32⟩
  | 57 => ⟨S8192x2816, .f32⟩
  | 58 => ⟨S8192x2816, .f32⟩
  | 59 => ⟨S8192x2816, .f32⟩
  | 60 => ⟨S8192x2816, .f32⟩
  | 61 => ⟨S8192x2816, .f32⟩
  | 62 => ⟨S8192x1024, .f32⟩
  | 63 => ⟨S_, .f32⟩
  | 64 => ⟨S8192x1024, .f32⟩
  | 65 => ⟨S8192x1024, .f32⟩
  | 66 => ⟨S8192x1024, .f32⟩
  | 67 => ⟨S8192x1024, .f32⟩
  | 68 => ⟨S8192x1024, .f32⟩
  | 69 => ⟨S_, .f32⟩
  | 70 => ⟨S8192x1024, .f32⟩
  | 71 => ⟨S8192x1024, .f32⟩
  | 72 => ⟨S8192x2816, .f32⟩
  | 73 => ⟨S8192x2816, .f32⟩
  | 74 => ⟨S8192x2816, .f32⟩
  | 75 => ⟨S8192x1024, .f32⟩
  | 76 => ⟨S8192x2816, .f32⟩
  | 77 => ⟨S8192x2816, .f32⟩
  | 78 => ⟨S8192x2816, .f32⟩
  | 79 => ⟨S8192x2816, .f32⟩
  | 80 => ⟨S8192x1024, .f32⟩
  | 81 => ⟨S8192x1024, .f32⟩
  | 82 => ⟨S_, .f32⟩
  | 83 => ⟨S8192x1024, .f32⟩
  | 84 => ⟨S8192x1024, .f32⟩
  | 85 => ⟨S8192x1024, .f32⟩
  | 86 => ⟨S_, .f32⟩
  | 87 => ⟨S1024, .f32⟩
  | 88 => ⟨S1x1024, .f32⟩
  | 89 => ⟨S_, .f32⟩
  | 90 => ⟨S1024, .f32⟩
  | 91 => ⟨S8192x1024, .f32⟩
  | 92 => ⟨S_, .f32⟩
  | 93 => ⟨S1024, .f32⟩
  | 94 => ⟨S1x1024, .f32⟩
  | 95 => ⟨S8192x1024, .f32⟩
  | 96 => ⟨S8192x1024, .f32⟩
  | 97 => ⟨S_, .f32⟩
  | 98 => ⟨S1024, .f32⟩
  | 99 => ⟨S8192x1024, .f32⟩
  | 100 => ⟨S_, .f32⟩
  | 101 => ⟨S8192, .f32⟩
  | 102 => ⟨S8192x1, .f32⟩
  | 103 => ⟨S8192x1024, .f32⟩
  | 104 => ⟨S8192x1024, .f32⟩
  | 105 => ⟨S8192x1, .f32⟩
  | 106 => ⟨S8192x1024, .f32⟩
  | 107 => ⟨S_, .f32⟩
  | 108 => ⟨S8192, .f32⟩
  | 109 => ⟨S8192x1, .f32⟩
  | 110 => ⟨S_, .f32⟩
  | 111 => ⟨S8192x1, .f32⟩
  | 112 => ⟨S8192x1, .f32⟩
  | 113 => ⟨S_, .f32⟩
  | 114 => ⟨S8192, .f32⟩
  | 115 => ⟨S8192x1024, .f32⟩
  | 116 => ⟨S8192x1024, .f32⟩
  | 117 => ⟨S8192x1024, .f32⟩
  | 118 => ⟨S_, .f32⟩
  | 119 => ⟨S8192, .f32⟩
  | 120 => ⟨S8192x1, .f32⟩
  | 121 => ⟨S8192x1024, .f32⟩
  | 122 => ⟨S8192x1, .f32⟩
  | 123 => ⟨S_, .f32⟩
  | 124 => ⟨S8192x1, .f32⟩
  | 125 => ⟨S8192x1, .f32⟩
  | 126 => ⟨S_, .f32⟩
  | 127 => ⟨S8192, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x1024, .bf16⟩
  | 3 => ⟨S1x1024, .f32⟩
  | 4 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_v32_2 : Ref sig .tc := ⟨.hbm, 54, rfl⟩
abbrev main_call0_cst_1 : Ref sig .tc := ⟨.hbm, 55, rfl⟩
abbrev main_call0_v6 : Ref sig .tc := ⟨.hbm, 56, rfl⟩
abbrev main_call0_v7 : Ref sig .tc := ⟨.hbm, 57, rfl⟩
abbrev main_v32_1 : Ref sig .tc := ⟨.hbm, 58, rfl⟩
abbrev main_v32_0 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_7 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_9 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_10 : Ref sig .tc := ⟨.hbm, 86, rfl⟩
abbrev main_v53 : Ref sig .tc := ⟨.hbm, 87, rfl⟩
abbrev main_v54 : Ref sig .tc := ⟨.hbm, 88, rfl⟩
abbrev main_cst_11 : Ref sig .tc := ⟨.hbm, 89, rfl⟩
abbrev main_v55 : Ref sig .tc := ⟨.hbm, 90, rfl⟩
abbrev main_v56 : Ref sig .tc := ⟨.hbm, 91, rfl⟩
abbrev main_cst_12 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_13 : Ref sig .tc := ⟨.hbm, 97, rfl⟩
abbrev main_v61 : Ref sig .tc := ⟨.hbm, 98, rfl⟩
abbrev main_v62 : Ref sig .tc := ⟨.hbm, 99, rfl⟩
abbrev main_cst_14 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_cst_15 : Ref sig .tc := ⟨.hbm, 107, rfl⟩
abbrev main_v69 : Ref sig .tc := ⟨.hbm, 108, rfl⟩
abbrev main_v70 : Ref sig .tc := ⟨.hbm, 109, rfl⟩
abbrev main_cst_16 : Ref sig .tc := ⟨.hbm, 110, rfl⟩
abbrev main_v71 : Ref sig .tc := ⟨.hbm, 111, rfl⟩
abbrev main_v72 : Ref sig .tc := ⟨.hbm, 112, rfl⟩
abbrev main_cst_17 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_cst_18 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_19 : Ref sig .tc := ⟨.hbm, 123, rfl⟩
abbrev main_v81 : Ref sig .tc := ⟨.hbm, 124, rfl⟩
abbrev main_v82 : Ref sig .tc := ⟨.hbm, 125, rfl⟩
abbrev main_cst_20 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩

abbrev nD : Nat := 1
abbrev τ : Topo := Topo.v7x

variable {F : FTy → Type} [FloatOps F]
-- ==== Kernel6.lean ====
abbrev S4x2048x512 : Shape := ⟨3, ![4, 2048, 512]⟩
abbrev S8x64x64 : Shape := ⟨3, ![8, 64, 64]⟩
abbrev S512 : Shape := ⟨1, ![512]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S8x1x8x1 : Shape := ⟨4, ![8, 1, 8, 1]⟩
abbrev S8x64x1x64 : Shape := ⟨4, ![8, 64, 1, 64]⟩
abbrev S_ : Shape := ⟨0, ![]⟩
abbrev S8x64x8x64 : Shape := ⟨4, ![8, 64, 8, 64]⟩
abbrev S512x512 : Shape := ⟨2, ![512, 512]⟩
abbrev S1x1x512 : Shape := ⟨3, ![1, 1, 512]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048x1 : Shape := ⟨4, ![1, 2048, 2048, 1]⟩
abbrev S4x1x2048x512 : Shape := ⟨4, ![4, 1, 2048, 512]⟩
abbrev S4x2048x2048x512 : Shape := ⟨4, ![4, 2048, 2048, 512]⟩
abbrev S4x2048x1x512 : Shape := ⟨4, ![4, 2048, 1, 512]⟩
abbrev S8192x512 : Shape := ⟨2, ![8192, 512]⟩
abbrev S4x128x128 : Shape := ⟨3, ![4, 128, 128]⟩
abbrev S1x64x64 : Shape := ⟨3, ![1, 64, 64]⟩
abbrev S64x64 : Shape := ⟨2, ![64, 64]⟩
abbrev S1 : Shape := ⟨1, ![1]⟩
abbrev S3 : Shape := ⟨1, ![3]⟩
abbrev S1x512 : Shape := ⟨2, ![1, 512]⟩
abbrev S2048x128 : Shape := ⟨2, ![2048, 128]⟩
abbrev S1x128x128 : Shape := ⟨3, ![1, 128, 128]⟩
abbrev S1x128 : Shape := ⟨2, ![1, 128]⟩
abbrev S128x128 : Shape := ⟨2, ![128, 128]⟩
abbrev S128 : Shape := ⟨1, ![128]⟩

abbrev nBuf : Space → Nat
  | .hbm => 307
  | .vmem => 32
  | .smem => 0
  | _ => 0

abbrev hbmTy0_0 (i : Nat) : BufTy := match i % 128 with
  | 0 => ⟨S4x2048x512, .f32⟩
  | 1 => ⟨S4x2048x512, .f32⟩
  | 2 => ⟨S4x2048x512, .f32⟩
  | 3 => ⟨S8x64x64, .f32⟩
  | 4 => ⟨S512, .f32⟩
  | 5 => ⟨S8x64x64, .f32⟩
  | 6 => ⟨S512, .f32⟩
  | 7 => ⟨S512, .f32⟩
  | 8 => ⟨S8, .i32⟩
  | 9 => ⟨S8x1, .i32⟩
  | 10 => ⟨S1x8, .i32⟩
  | 11 => ⟨S8x8, .i32⟩
  | 12 => ⟨S8x8, .i32⟩
  | 13 => ⟨S8x8, .i1⟩
  | 14 => ⟨S8x1x8x1, .i1⟩
  | 15 => ⟨S8x64x1x64, .f32⟩
  | 16 => ⟨S_, .f32⟩
  | 17 => ⟨S_, .f32⟩
  | 18 => ⟨S8x64x8x64, .i1⟩
  | 19 => ⟨S8x64x8x64, .f32⟩
  | 20 => ⟨S8x64x8x64, .f32⟩
  | 21 => ⟨S8x64x8x64, .f32⟩
  | 22 => ⟨S512x512, .f32⟩
  | 23 => ⟨S8, .i32⟩
  | 24 => ⟨S8x1, .i32⟩
  | 25 => ⟨S1x8, .i32⟩
  | 26 => ⟨S8x8, .i32⟩
  | 27 => ⟨S8x8, .i32⟩
  | 28 => ⟨S8x8, .i1⟩
  | 29 => ⟨S8x1x8x1, .i1⟩
  | 30 => ⟨S8x64x1x64, .f32⟩
  | 31 => ⟨S_, .f32⟩
  | 32 => ⟨S_, .f32⟩
  | 33 => ⟨S8x64x8x64, .i1⟩
  | 34 => ⟨S8x64x8x64, .f32⟩
  | 35 => ⟨S8x64x8x64, .f32⟩
  | 36 => ⟨S8x64x8x64, .f32⟩
  | 37 => ⟨S512x512, .f32⟩
  | 38 => ⟨S4x2048x512, .f32⟩
  | 39 => ⟨S1x1x512, .f32⟩
  | 40 => ⟨S4x2048x512, .f32⟩
  | 41 => ⟨S4x2048x512, .f32⟩
  | 42 => ⟨S4x2048x512, .f32⟩
  | 43 => ⟨S4x2048x512, .f32⟩
  | 44 => ⟨S_, .f32⟩
  | 45 => ⟨S4x2048x512, .f32⟩
  | 46 => ⟨S4x2048x512, .f32⟩
  | 47 => ⟨S_, .f32⟩
  | 48 => ⟨S4x2048x512, .f32⟩
  | 49 => ⟨S4x2048x512, .f32⟩
  | 50 => ⟨S4x2048x512, .f32⟩
  | 51 => ⟨S1x1x512, .f32⟩
  | 52 => ⟨S4x2048x512, .f32⟩
  | 53 => ⟨S4x2048x512, .f32⟩
  | 54 => ⟨S4x2048x512, .f32⟩
  | 55 => ⟨S4x2048x512, .f32⟩
  | 56 => ⟨S_, .f32⟩
  | 57 => ⟨S4x2048x512, .f32⟩
  | 58 => ⟨S4x2048x512, .f32⟩
  | 59 => ⟨S_, .f32⟩
  | 60 => ⟨S4x2048x512, .f32⟩
  | 61 => ⟨S4x2048x512, .f32⟩
  | 62 => ⟨S_, .f32⟩
  | 63 => ⟨S4x2048x512, .f32⟩
  | 64 => ⟨S4x2048x512, .f32⟩
  | 65 => ⟨S512, .f32⟩
  | 66 => ⟨S_, .f32⟩
  | 67 => ⟨S512, .f32⟩
  | 68 => ⟨S512, .f32⟩
  | 69 => ⟨S512, .f32⟩
  | 70 => ⟨S512, .f32⟩
  | 71 => ⟨S512, .i1⟩
  | 72 => ⟨S512, .f32⟩
  | 73 => ⟨S512, .f32⟩
  | 74 => ⟨S512, .f32⟩
  | 75 => ⟨S512, .f32⟩
  | 76 => ⟨S512, .f32⟩
  | 77 => ⟨S512, .f32⟩
  | 78 => ⟨S512, .f32⟩
  | 79 => ⟨S512, .f32⟩
  | 80 => ⟨S1x1x512, .f32⟩
  | 81 => ⟨S4x2048x512, .f32⟩
  | 82 => ⟨S4x2048x512, .f32⟩
  | 83 => ⟨S_, .f32⟩
  | 84 => ⟨S4x2048x512, .f32⟩
  | 85 => ⟨S4x2048x512, .f32⟩
  | 86 => ⟨S4x2048x512, .f32⟩
  | 87 => ⟨S4x2048x512, .f32⟩
  | 88 => ⟨S4x2048x512, .f32⟩
  | 89 => ⟨S4x2048x512, .f32⟩
  | 90 => ⟨S4x2048x512, .f32⟩
  | 91 => ⟨S2048, .i32⟩
  | 92 => ⟨S2048x1, .i32⟩
  | 93 => ⟨S2048, .i32⟩
  | 94 => ⟨S1x2048, .i32⟩
  | 95 => ⟨S2048x2048, .i32⟩
  | 96 => ⟨S2048x2048, .i32⟩
  | 97 => ⟨S2048x2048, .i1⟩
  | 98 => ⟨S1x2048x2048x1, .i1⟩
  | 99 => ⟨S4x1x2048x512, .f32⟩
  | 100 => ⟨S_, .f32⟩
  | 101 => ⟨S_, .f32⟩
  | 102 => ⟨S4x2048x2048x512, .i1⟩
  | 103 => ⟨S4x2048x2048x512, .f32⟩
  | 104 => ⟨S4x2048x2048x512, .f32⟩
  | 105 => ⟨S4x2048x2048x512, .f32⟩
  | 106 => ⟨S_, .f32⟩
  | 107 => ⟨S4x2048x512, .f32⟩
  | 108 => ⟨S4x2048x1x512, .f32⟩
  | 109 => ⟨S4x1x2048x512, .f32⟩
  | 110 => ⟨S4x2048x2048x512, .f32⟩
  | 111 => ⟨S4x2048x2048x512, .f32⟩
  | 112 => ⟨S4x2048x2048x512, .f32⟩
  | 113 => ⟨S_, .f32⟩
  | 114 => ⟨S_, .f32⟩
  | 115 => ⟨S4x2048x2048x512, .i1⟩
  | 116 => ⟨S4x2048x2048x512, .f32⟩
  | 117 => ⟨S4x2048x2048x512, .f32⟩
  | 118 => ⟨S4x2048x2048x512, .f32⟩
  | 119 => ⟨S_, .f32⟩
  | 120 => ⟨S_, .f32⟩
  | 121 => ⟨S4x2048x2048x512, .i1⟩
  | 122 => ⟨S4x2048x2048x512, .f32⟩
  | 123 => ⟨S4x2048x2048x512, .f32⟩
  | 124 => ⟨S4x1x2048x512, .f32⟩
  | 125 => ⟨S4x2048x2048x512, .f32⟩
  | 126 => ⟨S4x2048x2048x512, .f32⟩
  | 127 => ⟨S_, .f32⟩
  | _ => ⟨S4x2048x512, .f32⟩

abbrev hbmTy0_1 (i : Nat) : BufTy := match i % 128 with
  | 0 => ⟨S4x2048x512, .f32⟩
  | 1 => ⟨S8192x512, .f32⟩
  | 2 => ⟨S8192x512, .f32⟩
  | 3 => ⟨S8192x512, .f32⟩
  | 4 => ⟨S8192x512, .f32⟩
  | 5 => ⟨S_, .f32⟩
  | 6 => ⟨S4x128x128, .f32⟩
  | 7 => ⟨S1x64x64, .f32⟩
  | 8 => ⟨S64x64, .f32⟩
  | 9 => ⟨S_, .i32⟩
  | 10 => ⟨S1, .i32⟩
  | 11 => ⟨S_, .i32⟩
  | 12 => ⟨S1, .i32⟩
  | 13 => ⟨S_, .i32⟩
  | 14 => ⟨S1, .i32⟩
  | 15 => ⟨S3, .i32⟩
  | 16 => ⟨S4x128x128, .f32⟩
  | 17 => ⟨S1x64x64, .f32⟩
  | 18 => ⟨S64x64, .f32⟩
  | 19 => ⟨S_, .i32⟩
  | 20 => ⟨S1, .i32⟩
  | 21 => ⟨S_, .i32⟩
  | 22 => ⟨S1, .i32⟩
  | 23 => ⟨S_, .i32⟩
  | 24 => ⟨S1, .i32⟩
  | 25 => ⟨S3, .i32⟩
  | 26 => ⟨S4x128x128, .f32⟩
  | 27 => ⟨S1x64x64, .f32⟩
  | 28 => ⟨S64x64, .f32⟩
  | 29 => ⟨S_, .i32⟩
  | 30 => ⟨S1, .i32⟩
  | 31 => ⟨S_, .i32⟩
  | 32 => ⟨S1, .i32⟩
  | 33 => ⟨S_, .i32⟩
  | 34 => ⟨S1, .i32⟩
  | 35 => ⟨S3, .i32⟩
  | 36 => ⟨S4x128x128, .f32⟩
  | 37 => ⟨S1x64x64, .f32⟩
  | 38 => ⟨S64x64, .f32⟩
  | 39 => ⟨S_, .i32⟩
  | 40 => ⟨S1, .i32⟩
  | 41 => ⟨S_, .i32⟩
  | 42 => ⟨S1, .i32⟩
  | 43 => ⟨S_, .i32⟩
  | 44 => ⟨S1, .i32⟩
  | 45 => ⟨S3, .i32⟩
  | 46 => ⟨S4x128x128, .f32⟩
  | 47 => ⟨S1x64x64, .f32⟩
  | 48 => ⟨S64x64, .f32⟩
  | 49 => ⟨S_, .i32⟩
  | 50 => ⟨S1, .i32⟩
  | 51 => ⟨S_, .i32⟩
  | 52 => ⟨S1, .i32⟩
  | 53 => ⟨S_, .i32⟩
  | 54 => ⟨S1, .i32⟩
  | 55 => ⟨S3, .i32⟩
  | 56 => ⟨S4x128x128, .f32⟩
  | 57 => ⟨S1x64x64, .f32⟩
  | 58 => ⟨S64x64, .f32⟩
  | 59 => ⟨S_, .i32⟩
  | 60 => ⟨S1, .i32⟩
  | 61 => ⟨S_, .i32⟩
  | 62 => ⟨S1, .i32⟩
  | 63 => ⟨S_, .i32⟩
  | 64 => ⟨S1, .i32⟩
  | 65 => ⟨S3, .i32⟩
  | 66 => ⟨S4x128x128, .f32⟩
  | 67 => ⟨S1x64x64, .f32⟩
  | 68 => ⟨S64x64, .f32⟩
  | 69 => ⟨S_, .i32⟩
  | 70 => ⟨S1, .i32⟩
  | 71 => ⟨S_, .i32⟩
  | 72 => ⟨S1, .i32⟩
  | 73 => ⟨S_, .i32⟩
  | 74 => ⟨S1, .i32⟩
  | 75 => ⟨S3, .i32⟩
  | 76 => ⟨S4x128x128, .f32⟩
  | 77 => ⟨S1x64x64, .f32⟩
  | 78 => ⟨S64x64, .f32⟩
  | 79 => ⟨S_, .i32⟩
  | 80 => ⟨S1, .i32⟩
  | 81 => ⟨S_, .i32⟩
  | 82 => ⟨S1, .i32⟩
  | 83 => ⟨S_, .i32⟩
  | 84 => ⟨S1, .i32⟩
  | 85 => ⟨S3, .i32⟩
  | 86 => ⟨S4x128x128, .f32⟩
  | 87 => ⟨S_, .f32⟩
  | 88 => ⟨S4x128x128, .f32⟩
  | 89 => ⟨S1x64x64, .f32⟩
  | 90 => ⟨S64x64, .f32⟩
  | 91 => ⟨S_, .i32⟩
  | 92 => ⟨S1, .i32⟩
  | 93 => ⟨S_, .i32⟩
  | 94 => ⟨S1, .i32⟩
  | 95 => ⟨S_, .i32⟩
  | 96 => ⟨S1, .i32⟩
  | 97 => ⟨S3, .i32⟩
  | 98 => ⟨S4x128x128, .f32⟩
  | 99 => ⟨S1x64x64, .f32⟩
  | 100 => ⟨S64x64, .f32⟩
  | 101 => ⟨S_, .i32⟩
  | 102 => ⟨S1, .i32⟩
  | 103 => ⟨S_, .i32⟩
  | 104 => ⟨S1, .i32⟩
  | 105 => ⟨S_, .i32⟩
  | 106 => ⟨S1, .i32⟩
  | 107 => ⟨S3, .i32⟩
  | 108 => ⟨S4x128x128, .f32⟩
  | 109 => ⟨S1x64x64, .f32⟩
  | 110 => ⟨S64x64, .f32⟩
  | 111 => ⟨S_, .i32⟩
  | 112 => ⟨S1, .i32⟩
  | 113 => ⟨S_, .i32⟩
  | 114 => ⟨S1, .i32⟩
  | 115 => ⟨S_, .i32⟩
  | 116 => ⟨S1, .i32⟩
  | 117 => ⟨S3, .i32⟩
  | 118 => ⟨S4x128x128, .f32⟩
  | 119 => ⟨S1x64x64, .f32⟩
  | 120 => ⟨S64x64, .f32⟩
  | 121 => ⟨S_, .i32⟩
  | 122 => ⟨S1, .i32⟩
  | 123 => ⟨S_, .i32⟩
  | 124 => ⟨S1, .i32⟩
  | 125 => ⟨S_, .i32⟩
  | 126 => ⟨S1, .i32⟩
  | 127 => ⟨S3, .i32⟩
  | _ => ⟨S4x2048x512, .f32⟩

abbrev hbmTy0_2 (i : Nat) : BufTy := match i % 128 with
  | 0 => ⟨S4x128x128, .f32⟩
  | 1 => ⟨S1x64x64, .f32⟩
  | 2 => ⟨S64x64, .f32⟩
  | 3 => ⟨S_, .i32⟩
  | 4 => ⟨S1, .i32⟩
  | 5 => ⟨S_, .i32⟩
  | 6 => ⟨S1, .i32⟩
  | 7 => ⟨S_, .i32⟩
  | 8 => ⟨S1, .i32⟩
  | 9 => ⟨S3, .i32⟩
  | 10 => ⟨S4x128x128, .f32⟩
  | 11 => ⟨S1x64x64, .f32⟩
  | 12 => ⟨S64x64, .f32⟩
  | 13 => ⟨S_, .i32⟩
  | 14 => ⟨S1, .i32⟩
  | 15 => ⟨S_, .i32⟩
  | 16 => ⟨S1, .i32⟩
  | 17 => ⟨S_, .i32⟩
  | 18 => ⟨S1, .i32⟩
  | 19 => ⟨S3, .i32⟩
  | 20 => ⟨S4x128x128, .f32⟩
  | 21 => ⟨S1x64x64, .f32⟩
  | 22 => ⟨S64x64, .f32⟩
  | 23 => ⟨S_, .i32⟩
  | 24 => ⟨S1, .i32⟩
  | 25 => ⟨S_, .i32⟩
  | 26 => ⟨S1, .i32⟩
  | 27 => ⟨S_, .i32⟩
  | 28 => ⟨S1, .i32⟩
  | 29 => ⟨S3, .i32⟩
  | 30 => ⟨S4x128x128, .f32⟩
  | 31 => ⟨S1x64x64, .f32⟩
  | 32 => ⟨S64x64, .f32⟩
  | 33 => ⟨S_, .i32⟩
  | 34 => ⟨S1, .i32⟩
  | 35 => ⟨S_, .i32⟩
  | 36 => ⟨S1, .i32⟩
  | 37 => ⟨S_, .i32⟩
  | 38 => ⟨S1, .i32⟩
  | 39 => ⟨S3, .i32⟩
  | 40 => ⟨S4x128x128, .f32⟩
  | 41 => ⟨S1x512, .f32⟩
  | 42 => ⟨S1x512, .f32⟩
  | 43 => ⟨S1x512, .f32⟩
  | 44 => ⟨S8192x512, .f32⟩
  | 45 => ⟨S8192x512, .f32⟩
  | 46 => ⟨S4x128x128, .f32⟩
  | 47 => ⟨S4x128x128, .f32⟩
  | 48 => ⟨S1x512, .f32⟩
  | 49 => ⟨S1x512, .f32⟩
  | 50 => ⟨S1x512, .f32⟩
  | _ => ⟨S4x2048x512, .f32⟩

abbrev hbmTy (i : Nat) : BufTy := match i / 128 with
  | 0 => hbmTy0_0 i
  | 1 => hbmTy0_1 i
  | 2 => hbmTy0_2 i
  | _ => ⟨S4x2048x512, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S1x128x128, .f32⟩
  | .local _ .vmem, ⟨23, _⟩ => ⟨S1x128x128, .f32⟩
  | .local _ .vmem, ⟨24, _⟩ => ⟨S1x128x128, .f32⟩
  | .local _ .vmem, ⟨25, _⟩ => ⟨S1x128x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_1 : Ref sig .tc := ⟨.hbm, 44, rfl⟩
abbrev main_v26 : Ref sig .tc := ⟨.hbm, 45, rfl⟩
abbrev main_v27 : Ref sig .tc := ⟨.hbm, 46, rfl⟩
abbrev main_cst_2 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_3 : Ref sig .tc := ⟨.hbm, 56, rfl⟩
abbrev main_v36 : Ref sig .tc := ⟨.hbm, 57, rfl⟩
abbrev main_v37 : Ref sig .tc := ⟨.hbm, 58, rfl⟩
abbrev main_cst_4 : Ref sig .tc := ⟨.hbm, 59, rfl⟩
abbrev main_v38 : Ref sig .tc := ⟨.hbm, 60, rfl⟩
abbrev main_v39 : Ref sig .tc := ⟨.hbm, 61, rfl⟩
abbrev main_cst_5 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_call2_cst : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_cst_6 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_cst_7 : Ref sig .tc := ⟨.hbm, 100, rfl⟩
abbrev main_call3_v0 : Ref sig .tc := ⟨.hbm, 101, rfl⟩
abbrev main_call3_v1 : Ref sig .tc := ⟨.hbm, 102, rfl⟩
abbrev main_call3_v2 : Ref sig .tc := ⟨.hbm, 103, rfl⟩
abbrev main_call3_v3 : Ref sig .tc := ⟨.hbm, 104, rfl⟩
abbrev main_v63 : Ref sig .tc := ⟨.hbm, 105, rfl⟩
abbrev main_cst_8 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_cst_9 : Ref sig .tc := ⟨.hbm, 113, rfl⟩
abbrev main_call4_v0 : Ref sig .tc := ⟨.hbm, 114, rfl⟩
abbrev main_call4_v1 : Ref sig .tc := ⟨.hbm, 115, rfl⟩
abbrev main_call4_v2 : Ref sig .tc := ⟨.hbm, 116, rfl⟩
abbrev main_v70 : Ref sig .tc := ⟨.hbm, 117, rfl⟩
abbrev main_v71 : Ref sig .tc := ⟨.hbm, 118, rfl⟩
abbrev main_cst_10 : Ref sig .tc := ⟨.hbm, 119, rfl⟩
abbrev main_call5_v0 : Ref sig .tc := ⟨.hbm, 120, rfl⟩
abbrev main_call5_v1 : Ref sig .tc := ⟨.hbm, 121, rfl⟩
abbrev main_call5_v2 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_cst_11 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_cst_12 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_c : Ref sig .tc := ⟨.hbm, 137, rfl⟩
abbrev main_v84 : Ref sig .tc := ⟨.hbm, 138, rfl⟩
abbrev main_c_13 : Ref sig .tc := ⟨.hbm, 139, rfl⟩
abbrev main_v85 : Ref sig .tc := ⟨.hbm, 140, rfl⟩
abbrev main_c_14 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_c_15 : Ref sig .tc := ⟨.hbm, 147, rfl⟩
abbrev main_v91 : Ref sig .tc := ⟨.hbm, 148, rfl⟩
abbrev main_c_16 : Ref sig .tc := ⟨.hbm, 149, rfl⟩
abbrev main_v92 : Ref sig .tc := ⟨.hbm, 150, rfl⟩
abbrev main_c_17 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_c_18 : Ref sig .tc := ⟨.hbm, 157, rfl⟩
abbrev main_v98 : Ref sig .tc := ⟨.hbm, 158, rfl⟩
abbrev main_c_19 : Ref sig .tc := ⟨.hbm, 159, rfl⟩
abbrev main_v99 : Ref sig .tc := ⟨.hbm, 160, rfl⟩
abbrev main_c_20 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_c_21 : Ref sig .tc := ⟨.hbm, 167, rfl⟩
abbrev main_v105 : Ref sig .tc := ⟨.hbm, 168, rfl⟩
abbrev main_c_22 : Ref sig .tc := ⟨.hbm, 169, rfl⟩
abbrev main_v106 : Ref sig .tc := ⟨.hbm, 170, rfl⟩
abbrev main_c_23 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_c_24 : Ref sig .tc := ⟨.hbm, 177, rfl⟩
abbrev main_v112 : Ref sig .tc := ⟨.hbm, 178, rfl⟩
abbrev main_c_25 : Ref sig .tc := ⟨.hbm, 179, rfl⟩
abbrev main_v113 : Ref sig .tc := ⟨.hbm, 180, rfl⟩
abbrev main_c_26 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_c_27 : Ref sig .tc := ⟨.hbm, 187, rfl⟩
abbrev main_v119 : Ref sig .tc := ⟨.hbm, 188, rfl⟩
abbrev main_c_28 : Ref sig .tc := ⟨.hbm, 189, rfl⟩
abbrev main_v120 : Ref sig .tc := ⟨.hbm, 190, rfl⟩
abbrev main_c_29 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_c_30 : Ref sig .tc := ⟨.hbm, 197, rfl⟩
abbrev main_v126 : Ref sig .tc := ⟨.hbm, 198, rfl⟩
abbrev main_c_31 : Ref sig .tc := ⟨.hbm, 199, rfl⟩
abbrev main_v127 : Ref sig .tc := ⟨.hbm, 200, rfl⟩
abbrev main_c_32 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_c_33 : Ref sig .tc := ⟨.hbm, 207, rfl⟩
abbrev main_v133 : Ref sig .tc := ⟨.hbm, 208, rfl⟩
abbrev main_c_34 : Ref sig .tc := ⟨.hbm, 209, rfl⟩
abbrev main_v134 : Ref sig .tc := ⟨.hbm, 210, rfl⟩
abbrev main_c_35 : Ref sig .tc := ⟨.hbm, 211, rfl⟩
abbrev main_v135 : Ref sig .tc := ⟨.hbm, 212, rfl⟩
abbrev main_v136 : Ref sig .tc := ⟨.hbm, 213, rfl⟩
abbrev main_v137 : Ref sig .tc := ⟨.hbm, 214, rfl⟩
abbrev main_cst_36 : Ref sig .tc := ⟨.hbm, 215, rfl⟩
abbrev main_v138 : Ref sig .tc := ⟨.hbm, 216, rfl⟩
abbrev main_v139 : Ref sig .tc := ⟨.hbm, 217, rfl⟩
abbrev main_v140 : Ref sig .tc := ⟨.hbm, 218, rfl⟩
abbrev main_c_37 : Ref sig .tc := ⟨.hbm, 219, rfl⟩
abbrev main_v141 : Ref sig .tc := ⟨.hbm, 220, rfl⟩
abbrev main_c_38 : Ref sig .tc := ⟨.hbm, 221, rfl⟩
abbrev main_v142 : Ref sig .tc := ⟨.hbm, 222, rfl⟩
abbrev main_c_39 : Ref sig .tc := ⟨.hbm, 223, rfl⟩
abbrev main_v143 : Ref sig .tc := ⟨.hbm, 224, rfl⟩
abbrev main_v144 : Ref sig .tc := ⟨.hbm, 225, rfl⟩
abbrev main_v145 : Ref sig .tc := ⟨.hbm, 226, rfl⟩
abbrev main_v146 : Ref sig .tc := ⟨.hbm, 227, rfl⟩
abbrev main_v147 : Ref sig .tc := ⟨.hbm, 228, rfl⟩
abbrev main_c_40 : Ref sig .tc := ⟨.hbm, 229, rfl⟩
abbrev main_v148 : Ref sig .tc := ⟨.hbm, 230, rfl⟩
abbrev main_c_41 : Ref sig .tc := ⟨.hbm, 231, rfl⟩
abbrev main_v149 : Ref sig .tc := ⟨.hbm, 232, rfl⟩
abbrev main_c_42 : Ref sig .tc := ⟨.hbm, 233, rfl⟩
abbrev main_v150 : Ref sig .tc := ⟨.hbm, 234, rfl⟩
abbrev main_v151 : Ref sig .tc := ⟨.hbm, 235, rfl⟩
abbrev main_v152 : Ref sig .tc := ⟨.hbm, 236, rfl⟩
abbrev main_v153 : Ref sig .tc := ⟨.hbm, 237, rfl⟩
abbrev main_v154 : Ref sig .tc := ⟨.hbm, 238, rfl⟩
abbrev main_c_43 : Ref sig .tc := ⟨.hbm, 239, rfl⟩
abbrev main_v155 : Ref sig .tc := ⟨.hbm, 240, rfl⟩
abbrev main_c_44 : Ref sig .tc := ⟨.hbm, 241, rfl⟩
abbrev main_v156 : Ref sig .tc := ⟨.hbm, 242, rfl⟩
abbrev main_c_45 : Ref sig .tc := ⟨.hbm, 243, rfl⟩
abbrev main_v157 : Ref sig .tc := ⟨.hbm, 244, rfl⟩
abbrev main_v158 : Ref sig .tc := ⟨.hbm, 245, rfl⟩
abbrev main_v159 : Ref sig .tc := ⟨.hbm, 246, rfl⟩
abbrev main_v160 : Ref sig .tc := ⟨.hbm, 247, rfl⟩
abbrev main_v161 : Ref sig .tc := ⟨.hbm, 248, rfl⟩
abbrev main_c_46 : Ref sig .tc := ⟨.hbm, 249, rfl⟩
abbrev main_v162 : Ref sig .tc := ⟨.hbm, 250, rfl⟩
abbrev main_c_47 : Ref sig .tc := ⟨.hbm, 251, rfl⟩
abbrev main_v163 : Ref sig .tc := ⟨.hbm, 252, rfl⟩
abbrev main_c_48 : Ref sig .tc := ⟨.hbm, 253, rfl⟩
abbrev main_v164 : Ref sig .tc := ⟨.hbm, 254, rfl⟩
abbrev main_v165 : Ref sig .tc := ⟨.hbm, 255, rfl⟩
abbrev main_v166 : Ref sig .tc := ⟨.hbm, 256, rfl⟩
abbrev main_v167 : Ref sig .tc := ⟨.hbm, 257, rfl⟩
abbrev main_v168 : Ref sig .tc := ⟨.hbm, 258, rfl⟩
abbrev main_c_49 : Ref sig .tc := ⟨.hbm, 259, rfl⟩
abbrev main_v169 : Ref sig .tc := ⟨.hbm, 260, rfl⟩
abbrev main_c_50 : Ref sig .tc := ⟨.hbm, 261, rfl⟩
abbrev main_v170 : Ref sig .tc := ⟨.hbm, 262, rfl⟩
abbrev main_c_51 : Ref sig .tc := ⟨.hbm, 263, rfl⟩
abbrev main_v171 : Ref sig .tc := ⟨.hbm, 264, rfl⟩
abbrev main_v172 : Ref sig .tc := ⟨.hbm, 265, rfl⟩
abbrev main_v173 : Ref sig .tc := ⟨.hbm, 266, rfl⟩
abbrev main_v174 : Ref sig .tc := ⟨.hbm, 267, rfl⟩
abbrev main_v175 : Ref sig .tc := ⟨.hbm, 268, rfl⟩
abbrev main_c_52 : Ref sig .tc := ⟨.hbm, 269, rfl⟩
abbrev main_v176 : Ref sig .tc := ⟨.hbm, 270, rfl⟩
abbrev main_c_53 : Ref sig .tc := ⟨.hbm, 271, rfl⟩
abbrev main_v177 : Ref sig .tc := ⟨.hbm, 272, rfl⟩
abbrev main_c_54 : Ref sig .tc := ⟨.hbm, 273, rfl⟩
abbrev main_v178 : Ref sig .tc := ⟨.hbm, 274, rfl⟩
abbrev main_v179 : Ref sig .tc := ⟨.hbm, 275, rfl⟩
abbrev main_v180 : Ref sig .tc := ⟨.hbm, 276, rfl⟩
abbrev main_v181 : Ref sig .tc := ⟨.hbm, 277, rfl⟩
abbrev main_v182 : Ref sig .tc := ⟨.hbm, 278, rfl⟩
abbrev main_c_55 : Ref sig .tc := ⟨.hbm, 279, rfl⟩
abbrev main_v183 : Ref sig .tc := ⟨.hbm, 280, rfl⟩
abbrev main_c_56 : Ref sig .tc := ⟨.hbm, 281, rfl⟩
abbrev main_v184 : Ref sig .tc := ⟨.hbm, 282, rfl⟩
abbrev main_c_57 : Ref sig .tc := ⟨.hbm, 283, rfl⟩
abbrev main_v185 : Ref sig .tc := ⟨.hbm, 284, rfl⟩
abbrev main_v186 : Ref sig .tc := ⟨.hbm, 285, rfl⟩
abbrev main_v187 : Ref sig .tc := ⟨.hbm, 286, rfl⟩
abbrev main_v188 : Ref sig .tc := ⟨.hbm, 287, rfl⟩
abbrev main_v189 : Ref sig .tc := ⟨.hbm, 288, rfl⟩
abbrev main_c_58 : Ref sig .tc := ⟨.hbm, 289, rfl⟩
abbrev main_v190 : Ref sig .tc := ⟨.hbm, 290, rfl⟩
abbrev main_c_59 : Ref sig .tc := ⟨.hbm, 291, rfl⟩
abbrev main_v191 : Ref sig .tc := ⟨.hbm, 292, rfl⟩
abbrev main_c_60 : Ref sig .tc := ⟨.hbm, 293, rfl⟩
abbrev main_v192 : Ref sig .tc := ⟨.hbm, 294, rfl⟩
abbrev main_v193 : Ref sig .tc := ⟨.hbm, 295, rfl⟩
abbrev main_v194 : Ref sig .tc := ⟨.hbm, 296, rfl⟩
abbrev main_v195 : Ref sig .tc := ⟨.hbm, 297, rfl⟩
abbrev main_v196 : Ref sig .tc := ⟨.hbm, 298, rfl⟩
abbrev main_v197 : Ref sig .tc := ⟨.hbm, 299, rfl⟩
abbrev main_v198_0 : Ref sig .tc := ⟨.hbm, 300, rfl⟩
abbrev main_v198_1 : Ref sig .tc := ⟨.hbm, 301, rfl⟩
abbrev main_v198_2 : Ref sig .tc := ⟨.hbm, 302, rfl⟩
abbrev main_v198_3 : Ref sig .tc := ⟨.hbm, 303, rfl⟩
abbrev main_v198_4 : Ref sig .tc := ⟨.hbm, 304, rfl⟩
abbrev main_v198_5 : Ref sig .tc := ⟨.hbm, 305, rfl⟩
abbrev main_v198_6 : Ref sig .tc := ⟨.hbm, 306, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v298 : BitVec 1 := Scalar.cmpi .eq arg1 c0_i32
  let v299 : BitVec 32 := Scalar.extui v298
  let c0_i32_108 : BitVec 32 := 0#32
  let v300 : BitVec 1 := Scalar.cmpi .ne v299 c0_i32_108
  v300

def k0_cond2 (i : grid0.Coords) : BitVec 1 :=
  let arg1 : BitVec 32 := BitVec.ofNat 32 (i 1).val
  let c0_i32 : BitVec 32 := 0#32
  let v298 : BitVec 1 := Scalar.cmpi .eq arg1 c0_i32
  let v_true : BitVec 1 := 1#1
  let v301 : BitVec 1 := Scalar.xori v298 v_true
  let v302 : BitVec 32 := Scalar.extui v301
  let c0_i32_109 : BitVec 32 := 0#32
  let v303 : BitVec 1 := Scalar.cmpi .ne v302 c0_i32_109
  v303

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== Reference6Ideal.lean ====
abbrev S4x2048x512 : Shape := ⟨3, ![4, 2048, 512]⟩
abbrev S8x64x64 : Shape := ⟨3, ![8, 64, 64]⟩
abbrev S512 : Shape := ⟨1, ![512]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S8x1x8x1 : Shape := ⟨4, ![8, 1, 8, 1]⟩
abbrev S8x64x1x64 : Shape := ⟨4, ![8, 64, 1, 64]⟩
abbrev S_ : Shape := ⟨0, ![]⟩
abbrev S8x64x8x64 : Shape := ⟨4, ![8, 64, 8, 64]⟩
abbrev S512x512 : Shape := ⟨2, ![512, 512]⟩
abbrev S1x1x512 : Shape := ⟨3, ![1, 1, 512]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048x1 : Shape := ⟨4, ![1, 2048, 2048, 1]⟩
abbrev S4x1x2048x512 : Shape := ⟨4, ![4, 1, 2048, 512]⟩
abbrev S4x2048x2048x512 : Shape := ⟨4, ![4, 2048, 2048, 512]⟩
abbrev S4x2048x1x512 : Shape := ⟨4, ![4, 2048, 1, 512]⟩
abbrev S8192x512 : Shape := ⟨2, ![8192, 512]⟩
abbrev S128x128 : Shape := ⟨2, ![128, 128]⟩
abbrev S1x128x128 : Shape := ⟨3, ![1, 128, 128]⟩
abbrev S4x128x128 : Shape := ⟨3, ![4, 128, 128]⟩
abbrev S1x512 : Shape := ⟨2, ![1, 512]⟩

abbrev nBuf : Space → Nat
  | .hbm => 329
  | .vmem => 0
  | .smem => 0
  | _ => 0

abbrev hbmTy0_0 (i : Nat) : BufTy := match i % 128 with
  | 0 => ⟨S4x2048x512, .f32⟩
  | 1 => ⟨S4x2048x512, .f32⟩
  | 2 => ⟨S4x2048x512, .f32⟩
  | 3 => ⟨S8x64x64, .f32⟩
  | 4 => ⟨S512, .f32⟩
  | 5 => ⟨S8x64x64, .f32⟩
  | 6 => ⟨S512, .f32⟩
  | 7 => ⟨S512, .f32⟩
  | 8 => ⟨S8, .i32⟩
  | 9 => ⟨S8x1, .i32⟩
  | 10 => ⟨S1x8, .i32⟩
  | 11 => ⟨S8x8, .i32⟩
  | 12 => ⟨S8x8, .i32⟩
  | 13 => ⟨S8x8, .i1⟩
  | 14 => ⟨S8x1x8x1, .i1⟩
  | 15 => ⟨S8x64x1x64, .f32⟩
  | 16 => ⟨S_, .f32⟩
  | 17 => ⟨S_, .f32⟩
  | 18 => ⟨S8x64x8x64, .i1⟩
  | 19 => ⟨S8x64x8x64, .f32⟩
  | 20 => ⟨S8x64x8x64, .f32⟩
  | 21 => ⟨S8x64x8x64, .f32⟩
  | 22 => ⟨S512x512, .f32⟩
  | 23 => ⟨S8, .i32⟩
  | 24 => ⟨S8x1, .i32⟩
  | 25 => ⟨S1x8, .i32⟩
  | 26 => ⟨S8x8, .i32⟩
  | 27 => ⟨S8x8, .i32⟩
  | 28 => ⟨S8x8, .i1⟩
  | 29 => ⟨S8x1x8x1, .i1⟩
  | 30 => ⟨S8x64x1x64, .f32⟩
  | 31 => ⟨S_, .f32⟩
  | 32 => ⟨S_, .f32⟩
  | 33 => ⟨S8x64x8x64, .i1⟩
  | 34 => ⟨S8x64x8x64, .f32⟩
  | 35 => ⟨S8x64x8x64, .f32⟩
  | 36 => ⟨S8x64x8x64, .f32⟩
  | 37 => ⟨S512x512, .f32⟩
  | 38 => ⟨S4x2048x512, .f32⟩
  | 39 => ⟨S1x1x512, .f32⟩
  | 40 => ⟨S4x2048x512, .f32⟩
  | 41 => ⟨S4x2048x512, .f32⟩
  | 42 => ⟨S4x2048x512, .f32⟩
  | 43 => ⟨S4x2048x512, .f32⟩
  | 44 => ⟨S_, .f32⟩
  | 45 => ⟨S4x2048x512, .f32⟩
  | 46 => ⟨S4x2048x512, .f32⟩
  | 47 => ⟨S_, .f32⟩
  | 48 => ⟨S4x2048x512, .f32⟩
  | 49 => ⟨S4x2048x512, .f32⟩
  | 50 => ⟨S_, .f32⟩
  | 51 => ⟨S4x2048x512, .f32⟩
  | 52 => ⟨S4x2048x512, .f32⟩
  | 53 => ⟨S4x2048x512, .f32⟩
  | 54 => ⟨S4x2048x512, .f32⟩
  | 55 => ⟨S1x1x512, .f32⟩
  | 56 => ⟨S4x2048x512, .f32⟩
  | 57 => ⟨S4x2048x512, .f32⟩
  | 58 => ⟨S4x2048x512, .f32⟩
  | 59 => ⟨S4x2048x512, .f32⟩
  | 60 => ⟨S_, .f32⟩
  | 61 => ⟨S4x2048x512, .f32⟩
  | 62 => ⟨S4x2048x512, .f32⟩
  | 63 => ⟨S_, .f32⟩
  | 64 => ⟨S4x2048x512, .f32⟩
  | 65 => ⟨S4x2048x512, .f32⟩
  | 66 => ⟨S_, .f32⟩
  | 67 => ⟨S4x2048x512, .f32⟩
  | 68 => ⟨S4x2048x512, .f32⟩
  | 69 => ⟨S4x2048x512, .f32⟩
  | 70 => ⟨S_, .f32⟩
  | 71 => ⟨S4x2048x512, .f32⟩
  | 72 => ⟨S4x2048x512, .f32⟩
  | 73 => ⟨S512, .f32⟩
  | 74 => ⟨S_, .f32⟩
  | 75 => ⟨S512, .f32⟩
  | 76 => ⟨S512, .f32⟩
  | 77 => ⟨S512, .f32⟩
  | 78 => ⟨S512, .f32⟩
  | 79 => ⟨S512, .i1⟩
  | 80 => ⟨S512, .f32⟩
  | 81 => ⟨S512, .f32⟩
  | 82 => ⟨S512, .f32⟩
  | 83 => ⟨S512, .f32⟩
  | 84 => ⟨S512, .f32⟩
  | 85 => ⟨S512, .f32⟩
  | 86 => ⟨S512, .f32⟩
  | 87 => ⟨S512, .f32⟩
  | 88 => ⟨S_, .f32⟩
  | 89 => ⟨S512, .f32⟩
  | 90 => ⟨S512, .i1⟩
  | 91 => ⟨S_, .f32⟩
  | 92 => ⟨S512, .f32⟩
  | 93 => ⟨S512, .f32⟩
  | 94 => ⟨S_, .f32⟩
  | 95 => ⟨S512, .f32⟩
  | 96 => ⟨S512, .i1⟩
  | 97 => ⟨S_, .f32⟩
  | 98 => ⟨S512, .f32⟩
  | 99 => ⟨S512, .f32⟩
  | 100 => ⟨S512, .f32⟩
  | 101 => ⟨S512, .f32⟩
  | 102 => ⟨S_, .f32⟩
  | 103 => ⟨S_, .f32⟩
  | 104 => ⟨S_, .i1⟩
  | 105 => ⟨S_, .f32⟩
  | 106 => ⟨S_, .f32⟩
  | 107 => ⟨S_, .f32⟩
  | 108 => ⟨S_, .f32⟩
  | 109 => ⟨S512, .f32⟩
  | 110 => ⟨S512, .i1⟩
  | 111 => ⟨S_, .f32⟩
  | 112 => ⟨S512, .f32⟩
  | 113 => ⟨S512, .f32⟩
  | 114 => ⟨S512, .f32⟩
  | 115 => ⟨S512, .f32⟩
  | 116 => ⟨S512, .f32⟩
  | 117 => ⟨S_, .f32⟩
  | 118 => ⟨S512, .f32⟩
  | 119 => ⟨S512, .f32⟩
  | 120 => ⟨S1x1x512, .f32⟩
  | 121 => ⟨S4x2048x512, .f32⟩
  | 122 => ⟨S4x2048x512, .f32⟩
  | 123 => ⟨S_, .f32⟩
  | 124 => ⟨S4x2048x512, .f32⟩
  | 125 => ⟨S4x2048x512, .f32⟩
  | 126 => ⟨S4x2048x512, .f32⟩
  | 127 => ⟨S4x2048x512, .f32⟩
  | _ => ⟨S4x2048x512, .f32⟩

abbrev hbmTy0_1 (i : Nat) : BufTy := match i % 128 with
  | 0 => ⟨S4x2048x512, .f32⟩
  | 1 => ⟨S4x2048x512, .f32⟩
  | 2 => ⟨S_, .f32⟩
  | 3 => ⟨S4x2048x512, .f32⟩
  | 4 => ⟨S4x2048x512, .f32⟩
  | 5 => ⟨S4x2048x512, .f32⟩
  | 6 => ⟨S4x2048x512, .f32⟩
  | 7 => ⟨S2048, .i32⟩
  | 8 => ⟨S2048x1, .i32⟩
  | 9 => ⟨S2048, .i32⟩
  | 10 => ⟨S1x2048, .i32⟩
  | 11 => ⟨S2048x2048, .i32⟩
  | 12 => ⟨S2048x2048, .i32⟩
  | 13 => ⟨S2048x2048, .i1⟩
  | 14 => ⟨S1x2048x2048x1, .i1⟩
  | 15 => ⟨S4x1x2048x512, .f32⟩
  | 16 => ⟨S_, .f32⟩
  | 17 => ⟨S_, .f32⟩
  | 18 => ⟨S4x2048x2048x512, .i1⟩
  | 19 => ⟨S4x2048x2048x512, .f32⟩
  | 20 => ⟨S4x2048x2048x512, .f32⟩
  | 21 => ⟨S4x2048x2048x512, .f32⟩
  | 22 => ⟨S_, .f32⟩
  | 23 => ⟨S4x2048x2048x512, .f32⟩
  | 24 => ⟨S_, .f32⟩
  | 25 => ⟨S4x2048x512, .f32⟩
  | 26 => ⟨S4x2048x1x512, .f32⟩
  | 27 => ⟨S4x1x2048x512, .f32⟩
  | 28 => ⟨S4x2048x2048x512, .f32⟩
  | 29 => ⟨S4x2048x2048x512, .f32⟩
  | 30 => ⟨S4x2048x2048x512, .f32⟩
  | 31 => ⟨S_, .f32⟩
  | 32 => ⟨S_, .f32⟩
  | 33 => ⟨S4x2048x2048x512, .i1⟩
  | 34 => ⟨S4x2048x2048x512, .f32⟩
  | 35 => ⟨S4x2048x2048x512, .f32⟩
  | 36 => ⟨S_, .f32⟩
  | 37 => ⟨S4x2048x2048x512, .f32⟩
  | 38 => ⟨S4x2048x2048x512, .f32⟩
  | 39 => ⟨S_, .f32⟩
  | 40 => ⟨S_, .f32⟩
  | 41 => ⟨S4x2048x2048x512, .i1⟩
  | 42 => ⟨S4x2048x2048x512, .f32⟩
  | 43 => ⟨S4x2048x2048x512, .f32⟩
  | 44 => ⟨S_, .f32⟩
  | 45 => ⟨S4x2048x2048x512, .f32⟩
  | 46 => ⟨S4x1x2048x512, .f32⟩
  | 47 => ⟨S4x2048x2048x512, .f32⟩
  | 48 => ⟨S4x2048x2048x512, .f32⟩
  | 49 => ⟨S_, .f32⟩
  | 50 => ⟨S4x2048x512, .f32⟩
  | 51 => ⟨S4x2048x512, .f32⟩
  | 52 => ⟨S4x2048x512, .f32⟩
  | 53 => ⟨S4x2048x512, .f32⟩
  | 54 => ⟨S_, .f32⟩
  | 55 => ⟨S4x2048x512, .f32⟩
  | 56 => ⟨S4x2048x512, .f32⟩
  | 57 => ⟨S_, .f32⟩
  | 58 => ⟨S4x2048x512, .f32⟩
  | 59 => ⟨S4x2048x512, .f32⟩
  | 60 => ⟨S4x2048x512, .f32⟩
  | 61 => ⟨S_, .f32⟩
  | 62 => ⟨S4x2048x512, .f32⟩
  | 63 => ⟨S4x2048x512, .f32⟩
  | 64 => ⟨S4x2048x512, .f32⟩
  | 65 => ⟨S_, .f32⟩
  | 66 => ⟨S4x2048x512, .f32⟩
  | 67 => ⟨S4x2048x512, .f32⟩
  | 68 => ⟨S_, .f32⟩
  | 69 => ⟨S4x2048x512, .f32⟩
  | 70 => ⟨S4x2048x512, .f32⟩
  | 71 => ⟨S4x2048x512, .f32⟩
  | 72 => ⟨S_, .f32⟩
  | 73 => ⟨S4x2048x512, .f32⟩
  | 74 => ⟨S4x2048x512, .f32⟩
  | 75 => ⟨S_, .f32⟩
  | 76 => ⟨S4x2048x512, .f32⟩
  | 77 => ⟨S4x2048x512, .f32⟩
  | 78 => ⟨S4x2048x512, .f32⟩
  | 79 => ⟨S4x2048x512, .f32⟩
  | 80 => ⟨S4x2048x512, .f32⟩
  | 81 => ⟨S4x2048x512, .f32⟩
  | 82 => ⟨S4x2048x512, .f32⟩
  | 83 => ⟨S4x2048x512, .f32⟩
  | 84 => ⟨S_, .f32⟩
  | 85 => ⟨S4x2048x512, .f32⟩
  | 86 => ⟨S4x2048x512, .f32⟩
  | 87 => ⟨S4x2048x512, .f32⟩
  | 88 => ⟨S_, .f32⟩
  | 89 => ⟨S4x2048x512, .f32⟩
  | 90 => ⟨S4x2048x512, .f32⟩
  | 91 => ⟨S4x2048x512, .f32⟩
  | 92 => ⟨S_, .f32⟩
  | 93 => ⟨S4x2048x512, .f32⟩
  | 94 => ⟨S4x2048x512, .f32⟩
  | 95 => ⟨S4x2048x512, .f32⟩
  | 96 => ⟨S4x2048x512, .f32⟩
  | 97 => ⟨S4x2048x2048x512, .f32⟩
  | 98 => ⟨S4x2048x2048x512, .f32⟩
  | 99 => ⟨S_, .f32⟩
  | 100 => ⟨S4x2048x512, .f32⟩
  | 101 => ⟨S4x1x2048x512, .f32⟩
  | 102 => ⟨S4x2048x2048x512, .f32⟩
  | 103 => ⟨S4x2048x2048x512, .f32⟩
  | 104 => ⟨S_, .f32⟩
  | 105 => ⟨S4x2048x512, .f32⟩
  | 106 => ⟨S_, .f32⟩
  | 107 => ⟨S4x2048x2048x512, .f32⟩
  | 108 => ⟨S4x2048x2048x512, .f32⟩
  | 109 => ⟨S4x2048x2048x512, .f32⟩
  | 110 => ⟨S_, .f32⟩
  | 111 => ⟨S4x2048x2048x512, .f32⟩
  | 112 => ⟨S4x2048x2048x512, .f32⟩
  | 113 => ⟨S_, .f32⟩
  | 114 => ⟨S4x2048x512, .f32⟩
  | 115 => ⟨S4x2048x1x512, .f32⟩
  | 116 => ⟨S4x2048x2048x512, .f32⟩
  | 117 => ⟨S_, .f32⟩
  | 118 => ⟨S4x2048x512, .f32⟩
  | 119 => ⟨S4x1x2048x512, .f32⟩
  | 120 => ⟨S_, .f32⟩
  | 121 => ⟨S4x2048x512, .f32⟩
  | 122 => ⟨S_, .f32⟩
  | 123 => ⟨S4x2048x512, .f32⟩
  | 124 => ⟨S4x2048x512, .f32⟩
  | 125 => ⟨S4x2048x2048x512, .f32⟩
  | 126 => ⟨S_, .f32⟩
  | 127 => ⟨S4x2048x2048x512, .f32⟩
  | _ => ⟨S4x2048x512, .f32⟩

abbrev hbmTy0_2 (i : Nat) : BufTy := match i % 128 with
  | 0 => ⟨S4x2048x2048x512, .f32⟩
  | 1 => ⟨S_, .f32⟩
  | 2 => ⟨S4x2048x512, .f32⟩
  | 3 => ⟨S4x1x2048x512, .f32⟩
  | 4 => ⟨S_, .f32⟩
  | 5 => ⟨S4x2048x512, .f32⟩
  | 6 => ⟨S4x2048x512, .f32⟩
  | 7 => ⟨S4x2048x512, .f32⟩
  | 8 => ⟨S4x2048x512, .f32⟩
  | 9 => ⟨S4x2048x512, .f32⟩
  | 10 => ⟨S4x2048x512, .f32⟩
  | 11 => ⟨S4x2048x512, .f32⟩
  | 12 => ⟨S4x2048x512, .f32⟩
  | 13 => ⟨S_, .f32⟩
  | 14 => ⟨S4x2048x512, .f32⟩
  | 15 => ⟨S4x2048x512, .f32⟩
  | 16 => ⟨S4x2048x512, .f32⟩
  | 17 => ⟨S4x2048x512, .f32⟩
  | 18 => ⟨S_, .f32⟩
  | 19 => ⟨S512, .f32⟩
  | 20 => ⟨S1x1x512, .f32⟩
  | 21 => ⟨S4x2048x512, .f32⟩
  | 22 => ⟨S4x2048x512, .f32⟩
  | 23 => ⟨S_, .f32⟩
  | 24 => ⟨S512, .f32⟩
  | 25 => ⟨S512, .f32⟩
  | 26 => ⟨S512, .f32⟩
  | 27 => ⟨S_, .f32⟩
  | 28 => ⟨S4x2048x512, .f32⟩
  | 29 => ⟨S4x2048x512, .f32⟩
  | 30 => ⟨S4x2048x512, .f32⟩
  | 31 => ⟨S_, .f32⟩
  | 32 => ⟨S512, .f32⟩
  | 33 => ⟨S1x1x512, .f32⟩
  | 34 => ⟨S_, .f32⟩
  | 35 => ⟨S512, .f32⟩
  | 36 => ⟨S512x512, .f32⟩
  | 37 => ⟨S512x512, .f32⟩
  | 38 => ⟨S4x2048x512, .f32⟩
  | 39 => ⟨S4x2048x512, .f32⟩
  | 40 => ⟨S4x2048x512, .f32⟩
  | 41 => ⟨S_, .f32⟩
  | 42 => ⟨S512, .f32⟩
  | 43 => ⟨S1x1x512, .f32⟩
  | 44 => ⟨S_, .f32⟩
  | 45 => ⟨S512, .f32⟩
  | 46 => ⟨S512x512, .f32⟩
  | 47 => ⟨S512x512, .f32⟩
  | 48 => ⟨S4x2048x512, .f32⟩
  | 49 => ⟨S4x2048x512, .f32⟩
  | 50 => ⟨S8192x512, .f32⟩
  | 51 => ⟨S8192x512, .f32⟩
  | 52 => ⟨S128x128, .f32⟩
  | 53 => ⟨S128x128, .f32⟩
  | 54 => ⟨S128x128, .f32⟩
  | 55 => ⟨S128x128, .f32⟩
  | 56 => ⟨S1x128x128, .f32⟩
  | 57 => ⟨S1x128x128, .f32⟩
  | 58 => ⟨S1x128x128, .f32⟩
  | 59 => ⟨S1x128x128, .f32⟩
  | 60 => ⟨S4x128x128, .f32⟩
  | 61 => ⟨S128x128, .f32⟩
  | 62 => ⟨S128x128, .f32⟩
  | 63 => ⟨S128x128, .f32⟩
  | 64 => ⟨S128x128, .f32⟩
  | 65 => ⟨S1x128x128, .f32⟩
  | 66 => ⟨S1x128x128, .f32⟩
  | 67 => ⟨S1x128x128, .f32⟩
  | 68 => ⟨S1x128x128, .f32⟩
  | 69 => ⟨S4x128x128, .f32⟩
  | 70 => ⟨S1x512, .f32⟩
  | 71 => ⟨S1x512, .f32⟩
  | 72 => ⟨S1x512, .f32⟩
  | _ => ⟨S4x2048x512, .f32⟩

abbrev hbmTy (i : Nat) : BufTy := match i / 128 with
  | 0 => hbmTy0_0 i
  | 1 => hbmTy0_1 i
  | 2 => hbmTy0_2 i
  | _ => ⟨S4x2048x512, .f32⟩

abbrev bufTy : (tb : Table) → Fin (tcTables nBuf tb) → BufTy
  | .hbm, ⟨i, _⟩ => hbmTy i
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_1 : Ref sig .tc := ⟨.hbm, 44, rfl⟩
abbrev main_v26 : Ref sig .tc := ⟨.hbm, 45, rfl⟩
abbrev main_v27 : Ref sig .tc := ⟨.hbm, 46, rfl⟩
abbrev main_cst_2 : Ref sig .tc := ⟨.hbm, 47, rfl⟩
abbrev main_v28 : Ref sig .tc := ⟨.hbm, 48, rfl⟩
abbrev main_v29 : Ref sig .tc := ⟨.hbm, 49, rfl⟩
abbrev main_cst_3 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_4 : Ref sig .tc := ⟨.hbm, 60, rfl⟩
abbrev main_v39 : Ref sig .tc := ⟨.hbm, 61, rfl⟩
abbrev main_v40 : Ref sig .tc := ⟨.hbm, 62, rfl⟩
abbrev main_cst_5 : Ref sig .tc := ⟨.hbm, 63, rfl⟩
abbrev main_v41 : Ref sig .tc := ⟨.hbm, 64, rfl⟩
abbrev main_v42 : Ref sig .tc := ⟨.hbm, 65, rfl⟩
abbrev main_cst_6 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_7 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call2_cst : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_v6 : Ref sig .tc := ⟨.hbm, 81, rfl⟩
abbrev main_call2_v7 : Ref sig .tc := ⟨.hbm, 82, rfl⟩
abbrev main_call2_v8 : Ref sig .tc := ⟨.hbm, 83, rfl⟩
abbrev main_call2_v9 : Ref sig .tc := ⟨.hbm, 84, rfl⟩
abbrev main_call2_v10 : Ref sig .tc := ⟨.hbm, 85, rfl⟩
abbrev main_call2_v11 : Ref sig .tc := ⟨.hbm, 86, rfl⟩
abbrev main_v49_0 : Ref sig .tc := ⟨.hbm, 87, rfl⟩
abbrev main_call2_cst_0 : Ref sig .tc := ⟨.hbm, 88, rfl⟩
abbrev main_call2_v13 : Ref sig .tc := ⟨.hbm, 89, rfl⟩
abbrev main_call2_v14 : Ref sig .tc := ⟨.hbm, 90, rfl⟩
abbrev main_call2_cst_1 : Ref sig .tc := ⟨.hbm, 91, rfl⟩
abbrev main_call2_v15 : Ref sig .tc := ⟨.hbm, 92, rfl⟩
abbrev main_call2_v16 : Ref sig .tc := ⟨.hbm, 93, rfl⟩
abbrev main_call2_cst_2 : Ref sig .tc := ⟨.hbm, 94, rfl⟩
abbrev main_call2_v17 : Ref sig .tc := ⟨.hbm, 95, rfl⟩
abbrev main_call2_v18 : Ref sig .tc := ⟨.hbm, 96, rfl⟩
abbrev main_call2_cst_3 : Ref sig .tc := ⟨.hbm, 97, rfl⟩
abbrev main_call2_v19 : Ref sig .tc := ⟨.hbm, 98, rfl⟩
abbrev main_call2_v20 : Ref sig .tc := ⟨.hbm, 99, rfl⟩
abbrev main_call2_v21 : Ref sig .tc := ⟨.hbm, 100, rfl⟩
abbrev main_v49_1 : Ref sig .tc := ⟨.hbm, 101, rfl⟩
abbrev main_call2_cst_4 : Ref sig .tc := ⟨.hbm, 102, rfl⟩
abbrev main_call2_cst_5 : Ref sig .tc := ⟨.hbm, 103, rfl⟩
abbrev main_call2_v23 : Ref sig .tc := ⟨.hbm, 104, rfl⟩
abbrev main_call2_cst_6 : Ref sig .tc := ⟨.hbm, 105, rfl⟩
abbrev main_call2_cst_7 : Ref sig .tc := ⟨.hbm, 106, rfl⟩
abbrev main_call2_v24 : Ref sig .tc := ⟨.hbm, 107, rfl⟩
abbrev main_call2_cst_8 : Ref sig .tc := ⟨.hbm, 108, rfl⟩
abbrev main_call2_v25 : Ref sig .tc := ⟨.hbm, 109, rfl⟩
abbrev main_call2_v26 : Ref sig .tc := ⟨.hbm, 110, rfl⟩
abbrev main_call2_cst_9 : Ref sig .tc := ⟨.hbm, 111, rfl⟩
abbrev main_call2_v27 : Ref sig .tc := ⟨.hbm, 112, rfl⟩
abbrev main_call2_v28 : Ref sig .tc := ⟨.hbm, 113, rfl⟩
abbrev main_call2_v29 : Ref sig .tc := ⟨.hbm, 114, rfl⟩
abbrev main_call2_v30 : Ref sig .tc := ⟨.hbm, 115, rfl⟩
abbrev main_call2_v31 : Ref sig .tc := ⟨.hbm, 116, rfl⟩
abbrev main_call2_cst_10 : Ref sig .tc := ⟨.hbm, 117, rfl⟩
abbrev main_call2_v32 : Ref sig .tc := ⟨.hbm, 118, rfl⟩
abbrev main_v49_2 : Ref sig .tc := ⟨.hbm, 119, rfl⟩
abbrev main_v50 : Ref sig .tc := ⟨.hbm, 120, rfl⟩
abbrev main_v51 : Ref sig .tc := ⟨.hbm, 121, rfl⟩
abbrev main_v52 : Ref sig .tc := ⟨.hbm, 122, rfl⟩
abbrev main_cst_8 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_cst_9 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_v71 : Ref sig .tc := ⟨.hbm, 143, rfl⟩
abbrev main_cst_10 : Ref sig .tc := ⟨.hbm, 144, rfl⟩
abbrev main_call3_v0 : Ref sig .tc := ⟨.hbm, 145, rfl⟩
abbrev main_v72_1 : Ref sig .tc := ⟨.hbm, 146, rfl⟩
abbrev main_call3_v2 : Ref sig .tc := ⟨.hbm, 147, rfl⟩
abbrev main_call3_v3 : Ref sig .tc := ⟨.hbm, 148, rfl⟩
abbrev main_v72_0 : Ref sig .tc := ⟨.hbm, 149, rfl⟩
abbrev main_call3_cst : Ref sig .tc := ⟨.hbm, 150, rfl⟩
abbrev main_v72_2 : Ref sig .tc := ⟨.hbm, 151, rfl⟩
abbrev main_cst_11 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_cst_12 : Ref sig .tc := ⟨.hbm, 159, rfl⟩
abbrev main_call4_v0 : Ref sig .tc := ⟨.hbm, 160, rfl⟩
abbrev main_v79_1 : Ref sig .tc := ⟨.hbm, 161, rfl⟩
abbrev main_call4_v2 : Ref sig .tc := ⟨.hbm, 162, rfl⟩
abbrev main_v79_0 : Ref sig .tc := ⟨.hbm, 163, rfl⟩
abbrev main_call4_cst : Ref sig .tc := ⟨.hbm, 164, rfl⟩
abbrev main_v79_2 : Ref sig .tc := ⟨.hbm, 165, rfl⟩
abbrev main_v80 : Ref sig .tc := ⟨.hbm, 166, rfl⟩
abbrev main_cst_13 : Ref sig .tc := ⟨.hbm, 167, rfl⟩
abbrev main_call5_v0 : Ref sig .tc := ⟨.hbm, 168, rfl⟩
abbrev main_v81_1 : Ref sig .tc := ⟨.hbm, 169, rfl⟩
abbrev main_call5_v2 : Ref sig .tc := ⟨.hbm, 170, rfl⟩
abbrev main_v81_0 : Ref sig .tc := ⟨.hbm, 171, rfl⟩
abbrev main_call5_cst : Ref sig .tc := ⟨.hbm, 172, rfl⟩
abbrev main_v81_2 : Ref sig .tc := ⟨.hbm, 173, rfl⟩
abbrev main_v82 : Ref sig .tc := ⟨.hbm, 174, rfl⟩
abbrev main_v83 : Ref sig .tc := ⟨.hbm, 175, rfl⟩
abbrev main_v84 : Ref sig .tc := ⟨.hbm, 176, rfl⟩
abbrev main_cst_14 : Ref sig .tc := ⟨.hbm, 177, rfl⟩
abbrev main_v85 : Ref sig .tc := ⟨.hbm, 178, rfl⟩
abbrev main_v86 : Ref sig .tc := ⟨.hbm, 179, rfl⟩
abbrev main_v87 : Ref sig .tc := ⟨.hbm, 180, rfl⟩
abbrev main_v88 : Ref sig .tc := ⟨.hbm, 181, rfl⟩
abbrev main_cst_15 : Ref sig .tc := ⟨.hbm, 182, rfl⟩
abbrev main_v89 : Ref sig .tc := ⟨.hbm, 183, rfl⟩
abbrev main_v90 : Ref sig .tc := ⟨.hbm, 184, rfl⟩
abbrev main_cst_16 : Ref sig .tc := ⟨.hbm, 185, rfl⟩
abbrev main_v91 : Ref sig .tc := ⟨.hbm, 186, rfl⟩
abbrev main_v92 : Ref sig .tc := ⟨.hbm, 187, rfl⟩
abbrev main_v93 : Ref sig .tc := ⟨.hbm, 188, rfl⟩
abbrev main_cst_17 : Ref sig .tc := ⟨.hbm, 189, rfl⟩
abbrev main_v94 : Ref sig .tc := ⟨.hbm, 190, rfl⟩
abbrev main_v95 : Ref sig .tc := ⟨.hbm, 191, rfl⟩
abbrev main_v96 : Ref sig .tc := ⟨.hbm, 192, rfl⟩
abbrev main_cst_18 : Ref sig .tc := ⟨.hbm, 193, rfl⟩
abbrev main_v97 : Ref sig .tc := ⟨.hbm, 194, rfl⟩
abbrev main_v98 : Ref sig .tc := ⟨.hbm, 195, rfl⟩
abbrev main_cst_19 : Ref sig .tc := ⟨.hbm, 196, rfl⟩
abbrev main_v99 : Ref sig .tc := ⟨.hbm, 197, rfl⟩
abbrev main_v100 : Ref sig .tc := ⟨.hbm, 198, rfl⟩
abbrev main_v101 : Ref sig .tc := ⟨.hbm, 199, rfl⟩
abbrev main_cst_20 : Ref sig .tc := ⟨.hbm, 200, rfl⟩
abbrev main_v102 : Ref sig .tc := ⟨.hbm, 201, rfl⟩
abbrev main_v103 : Ref sig .tc := ⟨.hbm, 202, rfl⟩
abbrev main_cst_21 : Ref sig .tc := ⟨.hbm, 203, rfl⟩
abbrev main_v104 : Ref sig .tc := ⟨.hbm, 204, rfl⟩
abbrev main_v105 : Ref sig .tc := ⟨.hbm, 205, rfl⟩
abbrev main_v106 : Ref sig .tc := ⟨.hbm, 206, rfl⟩
abbrev main_v107 : Ref sig .tc := ⟨.hbm, 207, rfl⟩
abbrev main_v108 : Ref sig .tc := ⟨.hbm, 208, rfl⟩
abbrev main_v109 : Ref sig .tc := ⟨.hbm, 209, rfl⟩
abbrev main_v110 : Ref sig .tc := ⟨.hbm, 210, rfl⟩
abbrev main_v111 : Ref sig .tc := ⟨.hbm, 211, rfl⟩
abbrev main_cst_22 : Ref sig .tc := ⟨.hbm, 212, rfl⟩
abbrev main_v112 : Ref sig .tc := ⟨.hbm, 213, rfl⟩
abbrev main_v113 : Ref sig .tc := ⟨.hbm, 214, rfl⟩
abbrev main_v114 : Ref sig .tc := ⟨.hbm, 215, rfl⟩
abbrev main_cst_23 : Ref sig .tc := ⟨.hbm, 216, rfl⟩
abbrev main_v115 : Ref sig .tc := ⟨.hbm, 217, rfl⟩
abbrev main_v116 : Ref sig .tc := ⟨.hbm, 218, rfl⟩
abbrev main_v117 : Ref sig .tc := ⟨.hbm, 219, rfl⟩
abbrev main_cst_24 : Ref sig .tc := ⟨.hbm, 220, rfl⟩
abbrev main_v118 : Ref sig .tc := ⟨.hbm, 221, rfl⟩
abbrev main_v119 : Ref sig .tc := ⟨.hbm, 222, rfl⟩
abbrev main_v120 : Ref sig .tc := ⟨.hbm, 223, rfl⟩
abbrev main_v121 : Ref sig .tc := ⟨.hbm, 224, rfl⟩
abbrev main_v122 : Ref sig .tc := ⟨.hbm, 225, rfl⟩
abbrev main_v123 : Ref sig .tc := ⟨.hbm, 226, rfl⟩
abbrev main_cst_25 : Ref sig .tc := ⟨.hbm, 227, rfl⟩
abbrev main_v124 : Ref sig .tc := ⟨.hbm, 228, rfl⟩
abbrev main_v125 : Ref sig .tc := ⟨.hbm, 229, rfl⟩
abbrev main_v126 : Ref sig .tc := ⟨.hbm, 230, rfl⟩
abbrev main_v127 : Ref sig .tc := ⟨.hbm, 231, rfl⟩
abbrev main_cst_26 : Ref sig .tc := ⟨.hbm, 232, rfl⟩
abbrev main_v128 : Ref sig .tc := ⟨.hbm, 233, rfl⟩
abbrev main_call6_cst : Ref sig .tc := ⟨.hbm, 234, rfl⟩
abbrev main_call6_v0 : Ref sig .tc := ⟨.hbm, 235, rfl⟩
abbrev main_v129 : Ref sig .tc := ⟨.hbm, 236, rfl⟩
abbrev main_v130 : Ref sig .tc := ⟨.hbm, 237, rfl⟩
abbrev main_call7_cst : Ref sig .tc := ⟨.hbm, 238, rfl⟩
abbrev main_call7_v0 : Ref sig .tc := ⟨.hbm, 239, rfl⟩
abbrev main_v131 : Ref sig .tc := ⟨.hbm, 240, rfl⟩
abbrev main_cst_27 : Ref sig .tc := ⟨.hbm, 241, rfl⟩
abbrev main_v132 : Ref sig .tc := ⟨.hbm, 242, rfl⟩
abbrev main_v133 : Ref sig .tc := ⟨.hbm, 243, rfl⟩
abbrev main_v134 : Ref sig .tc := ⟨.hbm, 244, rfl⟩
abbrev main_cst_28 : Ref sig .tc := ⟨.hbm, 245, rfl⟩
abbrev main_v135 : Ref sig .tc := ⟨.hbm, 246, rfl⟩
abbrev main_v136 : Ref sig .tc := ⟨.hbm, 247, rfl⟩
abbrev main_cst_29 : Ref sig .tc := ⟨.hbm, 248, rfl⟩
abbrev main_v137 : Ref sig .tc := ⟨.hbm, 249, rfl⟩
abbrev main_cst_30 : Ref sig .tc := ⟨.hbm, 250, rfl⟩
abbrev main_v138 : Ref sig .tc := ⟨.hbm, 251, rfl⟩
abbrev main_v139 : Ref sig .tc := ⟨.hbm, 252, rfl⟩
abbrev main_v140 : Ref sig .tc := ⟨.hbm, 253, rfl⟩
abbrev main_call8_cst : Ref sig .tc := ⟨.hbm, 254, rfl⟩
abbrev main_call8_v0 : Ref sig .tc := ⟨.hbm, 255, rfl⟩
abbrev main_call8_v1 : Ref sig .tc := ⟨.hbm, 256, rfl⟩
abbrev main_call8_cst_0 : Ref sig .tc := ⟨.hbm, 257, rfl⟩
abbrev main_call8_v2 : Ref sig .tc := ⟨.hbm, 258, rfl⟩
abbrev main_v141 : Ref sig .tc := ⟨.hbm, 259, rfl⟩
abbrev main_cst_31 : Ref sig .tc := ⟨.hbm, 260, rfl⟩
abbrev main_v142 : Ref sig .tc := ⟨.hbm, 261, rfl⟩
abbrev main_v143 : Ref sig .tc := ⟨.hbm, 262, rfl⟩
abbrev main_v144 : Ref sig .tc := ⟨.hbm, 263, rfl⟩
abbrev main_v145 : Ref sig .tc := ⟨.hbm, 264, rfl⟩
abbrev main_v146 : Ref sig .tc := ⟨.hbm, 265, rfl⟩
abbrev main_v147 : Ref sig .tc := ⟨.hbm, 266, rfl⟩
abbrev main_v148 : Ref sig .tc := ⟨.hbm, 267, rfl⟩
abbrev main_v149 : Ref sig .tc := ⟨.hbm, 268, rfl⟩
abbrev main_cst_32 : Ref sig .tc := ⟨.hbm, 269, rfl⟩
abbrev main_v150 : Ref sig .tc := ⟨.hbm, 270, rfl⟩
abbrev main_v151 : Ref sig .tc := ⟨.hbm, 271, rfl⟩
abbrev main_v152 : Ref sig .tc := ⟨.hbm, 272, rfl⟩
abbrev main_v153 : Ref sig .tc := ⟨.hbm, 273, rfl⟩
abbrev main_cst_33 : Ref sig .tc := ⟨.hbm, 274, rfl⟩
abbrev main_v154 : Ref sig .tc := ⟨.hbm, 275, rfl⟩
abbrev main_v155 : Ref sig .tc := ⟨.hbm, 276, rfl⟩
abbrev main_v156 : Ref sig .tc := ⟨.hbm, 277, rfl⟩
abbrev main_v157 : Ref sig .tc := ⟨.hbm, 278, rfl⟩
abbrev main_cst_34 : Ref sig .tc := ⟨.hbm, 279, rfl⟩
abbrev main_v158 : Ref sig .tc := ⟨.hbm, 280, rfl⟩
abbrev main_v159 : Ref sig .tc := ⟨.hbm, 281, rfl⟩
abbrev main_v160 : Ref sig .tc := ⟨.hbm, 282, rfl⟩
abbrev main_cst_35 : Ref sig .tc := ⟨.hbm, 283, rfl⟩
abbrev main_v161 : Ref sig .tc := ⟨.hbm, 284, rfl⟩
abbrev main_v162 : Ref sig .tc := ⟨.hbm, 285, rfl⟩
abbrev main_v163 : Ref sig .tc := ⟨.hbm, 286, rfl⟩
abbrev main_cst_36 : Ref sig .tc := ⟨.hbm, 287, rfl⟩
abbrev main_v164 : Ref sig .tc := ⟨.hbm, 288, rfl⟩
abbrev main_v165 : Ref sig .tc := ⟨.hbm, 289, rfl⟩
abbrev main_cst_37 : Ref sig .tc := ⟨.hbm, 290, rfl⟩
abbrev main_v166 : Ref sig .tc := ⟨.hbm, 291, rfl⟩
abbrev main_v167 : Ref sig .tc := ⟨.hbm, 292, rfl⟩
abbrev main_v168 : Ref sig .tc := ⟨.hbm, 293, rfl⟩
abbrev main_v169 : Ref sig .tc := ⟨.hbm, 294, rfl⟩
abbrev main_v170 : Ref sig .tc := ⟨.hbm, 295, rfl⟩
abbrev main_v171 : Ref sig .tc := ⟨.hbm, 296, rfl⟩
abbrev main_cst_38 : Ref sig .tc := ⟨.hbm, 297, rfl⟩
abbrev main_v172 : Ref sig .tc := ⟨.hbm, 298, rfl⟩
abbrev main_v173 : Ref sig .tc := ⟨.hbm, 299, rfl⟩
abbrev main_cst_39 : Ref sig .tc := ⟨.hbm, 300, rfl⟩
abbrev main_v174 : Ref sig .tc := ⟨.hbm, 301, rfl⟩
abbrev main_v175 : Ref sig .tc := ⟨.hbm, 302, rfl⟩
abbrev main_v176 : Ref sig .tc := ⟨.hbm, 303, rfl⟩
abbrev main_v177 : Ref sig .tc := ⟨.hbm, 304, rfl⟩
abbrev main_v178 : Ref sig .tc := ⟨.hbm, 305, rfl⟩
abbrev main_v179 : Ref sig .tc := ⟨.hbm, 306, rfl⟩
abbrev main_v180 : Ref sig .tc := ⟨.hbm, 307, rfl⟩
abbrev main_v181 : Ref sig .tc := ⟨.hbm, 308, rfl⟩
abbrev main_v182 : Ref sig .tc := ⟨.hbm, 309, rfl⟩
abbrev main_v183 : Ref sig .tc := ⟨.hbm, 310, rfl⟩
abbrev main_v184 : Ref sig .tc := ⟨.hbm, 311, rfl⟩
abbrev main_v185 : Ref sig .tc := ⟨.hbm, 312, rfl⟩
abbrev main_v186 : Ref sig .tc := ⟨.hbm, 313, rfl⟩
abbrev main_v187 : Ref sig .tc := ⟨.hbm, 314, rfl⟩
abbrev main_v188 : Ref sig .tc := ⟨.hbm, 315, rfl⟩
abbrev main_v189 : Ref sig .tc := ⟨.hbm, 316, rfl⟩
abbrev main_v190 : Ref sig .tc := ⟨.hbm, 317, rfl⟩
abbrev main_v191 : Ref sig .tc := ⟨.hbm, 318, rfl⟩
abbrev main_v192 : Ref sig .tc := ⟨.hbm, 319, rfl⟩
abbrev main_v193 : Ref sig .tc := ⟨.hbm, 320, rfl⟩
abbrev main_v194 : Ref sig .tc := ⟨.hbm, 321, rfl⟩
abbrev main_v195 : Ref sig .tc := ⟨.hbm, 322, rfl⟩
abbrev main_v196 : Ref sig .tc := ⟨.hbm, 323, rfl⟩
abbrev main_v197 : Ref sig .tc := ⟨.hbm, 324, rfl⟩
abbrev main_v198 : Ref sig .tc := ⟨.hbm, 325, rfl⟩
abbrev main_v199 : Ref sig .tc := ⟨.hbm, 326, rfl⟩
abbrev main_v200 : Ref sig .tc := ⟨.hbm, 327, rfl⟩
abbrev main_v201 : Ref sig .tc := ⟨.hbm, 328, rfl⟩

abbrev nD : Nat := 1
abbrev τ : Topo := Topo.v7x

variable {F : FTy → Type} [FloatOps F]
-- ==== Kernel7.lean ====
abbrev S8192x1024 : Shape := ⟨2, ![8192, 1024]⟩
abbrev S1024 : Shape := ⟨1, ![1024]⟩
abbrev S8192x256 : Shape := ⟨2, ![8192, 256]⟩
abbrev S1024x1024 : Shape := ⟨2, ![1024, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 49
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x256, .f32⟩
  | .hbm, ⟨4, _⟩ => ⟨S1024x1024, .f32⟩
  | .hbm, ⟨5, _⟩ => ⟨S1024, .f32⟩
  | .hbm, ⟨6, _⟩ => ⟨S256x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S1024x1024, .bf16⟩
  | .hbm, ⟨38, _⟩ => ⟨S1024x1024, .bf16⟩
  | .hbm, ⟨39, _⟩ => ⟨S1x1024, .f32⟩
  | .hbm, ⟨40, _⟩ => ⟨S256x1024, .bf16⟩
  | .hbm, ⟨41, _⟩ => ⟨S1x1024, .f32⟩
  | .hbm, ⟨42, _⟩ => ⟨S8192x1024, .f32⟩
  | .hbm, ⟨43, _⟩ => ⟨S8192x1024, .bf16⟩
  | .hbm, ⟨44, _⟩ => ⟨S1024x1024, .f32⟩
  | .hbm, ⟨45, _⟩ => ⟨S1x1024, .f32⟩
  | .hbm, ⟨46, _⟩ => ⟨S256x1024, .f32⟩
  | .hbm, ⟨47, _⟩ => ⟨S1x1024, .f32⟩
  | .hbm, ⟨48, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S256x1024, .bf16⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1024x1024, .f32⟩
  | .local _ .vmem, ⟨18, _⟩ => ⟨S1x1024, .f32⟩
  | .local _ .vmem, ⟨19, _⟩ => ⟨S256x1024, .f32⟩
  | .local _ .vmem, ⟨20, _⟩ => ⟨S1x1024, .f32⟩
  | .local _ .vmem, ⟨21, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29_0 : Ref sig .tc := ⟨.hbm, 42, rfl⟩
abbrev main_v29_1 : Ref sig .tc := ⟨.hbm, 43, rfl⟩
abbrev main_v29_2 : Ref sig .tc := ⟨.hbm, 44, rfl⟩
abbrev main_v29_3 : Ref sig .tc := ⟨.hbm, 45, rfl⟩
abbrev main_v29_4 : Ref sig .tc := ⟨.hbm, 46, rfl⟩
abbrev main_v29_5 : Ref sig .tc := ⟨.hbm, 47, rfl⟩
abbrev main_v29_6 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v82 : BitVec 1 := Scalar.cmpi .eq arg0 c0_i32
  let v83 : BitVec 32 := Scalar.extui v82
  let c0_i32_40 : BitVec 32 := 0#32
  let v84 : BitVec 1 := Scalar.cmpi .ne v83 c0_i32_40
  v84

def k0_cond2 (i : grid0.Coords) : BitVec 1 :=
  let arg0 : BitVec 32 := BitVec.ofNat 32 (i 0).val
  let c0_i32_41 : BitVec 32 := 0#32
  let v85 : BitVec 1 := Scalar.cmpi .sgt arg0 c0_i32_41
  let v86 : BitVec 32 := Scalar.extui v85
  let c0_i32_42 : BitVec 32 := 0#32
  let v87 : BitVec 1 := Scalar.cmpi .ne v86 c0_i32_42
  v87

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference7Ideal.lean ====
abbrev S8192x1024 : Shape := ⟨2, ![8192, 1024]⟩
abbrev S1024 : Shape := ⟨1, ![1024]⟩
abbrev S8192x256 : Shape := ⟨2, ![8192, 256]⟩
abbrev S1024x1024 : Shape := ⟨2, ![1024, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x256 : Shape := ⟨2, ![1024, 256]⟩

abbrev nBuf : Space → Nat
  | .hbm => 127
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x256, .f32⟩
  | .hbm, ⟨4, _⟩ => ⟨S1024x1024, .f32⟩
  | .hbm, ⟨5, _⟩ => ⟨S1024, .f32⟩
  | .hbm, ⟨6, _⟩ => ⟨S256x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S1024x256, .f32⟩
  | .hbm, ⟨68, _⟩ => ⟨S256x1024, .f32⟩
  | .hbm, ⟨69, _⟩ => ⟨S8192x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S_, .f32⟩
  | .hbm, ⟨74, _⟩ => ⟨S1024, .f32⟩
  | .hbm, ⟨75, _⟩ => ⟨S1024x1024, .f32⟩
  | .hbm, ⟨76, _⟩ => ⟨S1024x1024, .f32⟩
  | .hbm, ⟨77, _⟩ => ⟨S8192x1024, .f32⟩
  | .hbm, ⟨78, _⟩ => ⟨S8192x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S_, .f32⟩
  | .hbm, ⟨83, _⟩ => ⟨S1024, .f32⟩
  | .hbm, ⟨84, _⟩ => ⟨S8192x1024, .f32⟩
  | .hbm, ⟨85, _⟩ => ⟨S_, .f32⟩
  | .hbm, ⟨86, _⟩ => ⟨S1024, .f32⟩
  | .hbm, ⟨87, _⟩ => ⟨S1x1024, .f32⟩
  | .hbm, ⟨88, _⟩ => ⟨S8192x1024, .f32⟩
  | .hbm, ⟨89, _⟩ => ⟨S8192x1024, .f32⟩
  | .hbm, ⟨90, _⟩ => ⟨S_, .f32⟩
  | .hbm, ⟨91, _⟩ => ⟨S1024, .f32⟩
  | .hbm, ⟨92, _⟩ => ⟨S8192x1024, .f32⟩
  | .hbm, ⟨93, _⟩ => ⟨S_, .f32⟩
  | .hbm, ⟨94, _⟩ => ⟨S8192, .f32⟩
  | .hbm, ⟨95, _⟩ => ⟨S8192x1, .f32⟩
  | .hbm, ⟨96, _⟩ => ⟨S8192x1024, .f32⟩
  | .hbm, ⟨97, _⟩ => ⟨S8192x1024, .f32⟩
  | .hbm, ⟨98, _⟩ => ⟨S8192x1, .f32⟩
  | .hbm, ⟨99, _⟩ => ⟨S8192x1024, .f32⟩
  | .hbm, ⟨100, _⟩ => ⟨S_, .f32⟩
  | .hbm, ⟨101, _⟩ => ⟨S8192, .f32⟩
  | .hbm, ⟨102, _⟩ => ⟨S8192x1, .f32⟩
  | .hbm, ⟨103, _⟩ => ⟨S_, .f32⟩
  | .hbm, ⟨104, _⟩ => ⟨S8192x1, .f32⟩
  | .hbm, ⟨105, _⟩ => ⟨S8192x1, .f32⟩
  | .hbm, ⟨106, _⟩ => ⟨S_, .f32⟩
  | .hbm, ⟨107, _⟩ => ⟨S8192, .f32⟩
  | .hbm, ⟨108, _⟩ => ⟨S8192x1024, .f32⟩
  | .hbm, ⟨109, _⟩ => ⟨S8192x1024, .f32⟩
  | .hbm, ⟨110, _⟩ => ⟨S8192x1024, .f32⟩
  | .hbm, ⟨111, _⟩ => ⟨S_, .f32⟩
  | .hbm, ⟨112, _⟩ => ⟨S8192, .f32⟩
  | .hbm, ⟨113, _⟩ => ⟨S8192x1, .f32⟩
  | .hbm, ⟨114, _⟩ => ⟨S8192x1024, .f32⟩
  | .hbm, ⟨115, _⟩ => ⟨S8192x1, .f32⟩
  | .hbm, ⟨116, _⟩ => ⟨S_, .f32⟩
  | .hbm, ⟨117, _⟩ => ⟨S8192x1, .f32⟩
  | .hbm, ⟨118, _⟩ => ⟨S8192x1, .f32⟩
  | .hbm, ⟨119, _⟩ => ⟨S_, .f32⟩
  | .hbm, ⟨120, _⟩ => ⟨S8192, .f32⟩
  | .hbm, ⟨121, _⟩ => ⟨S8192x1024, .f32⟩
  | .hbm, ⟨122, _⟩ => ⟨S8192x1024, .f32⟩
  | .hbm, ⟨123, _⟩ => ⟨S8192x1024, .bf16⟩
  | .hbm, ⟨124, _⟩ => ⟨S1x1024, .f32⟩
  | .hbm, ⟨125, _⟩ => ⟨S1x1024, .f32⟩
  | .hbm, ⟨126, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_9 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_11 : Ref sig .tc := ⟨.hbm, 79, rfl⟩
abbrev main_v59 : Ref sig .tc := ⟨.hbm, 80, rfl⟩
abbrev main_v60 : Ref sig .tc := ⟨.hbm, 81, rfl⟩
abbrev main_cst_12 : Ref sig .tc := ⟨.hbm, 82, rfl⟩
abbrev main_v61 : Ref sig .tc := ⟨.hbm, 83, rfl⟩
abbrev main_v62 : Ref sig .tc := ⟨.hbm, 84, rfl⟩
abbrev main_cst_13 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_14 : Ref sig .tc := ⟨.hbm, 90, rfl⟩
abbrev main_v67 : Ref sig .tc := ⟨.hbm, 91, rfl⟩
abbrev main_v68 : Ref sig .tc := ⟨.hbm, 92, rfl⟩
abbrev main_cst_15 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_16 : Ref sig .tc := ⟨.hbm, 100, rfl⟩
abbrev main_v75 : Ref sig .tc := ⟨.hbm, 101, rfl⟩
abbrev main_v76 : Ref sig .tc := ⟨.hbm, 102, rfl⟩
abbrev main_cst_17 : Ref sig .tc := ⟨.hbm, 103, rfl⟩
abbrev main_v77 : Ref sig .tc := ⟨.hbm, 104, rfl⟩
abbrev main_v78 : Ref sig .tc := ⟨.hbm, 105, rfl⟩
abbrev main_cst_18 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_19 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_20 : Ref sig .tc := ⟨.hbm, 116, rfl⟩
abbrev main_v87 : Ref sig .tc := ⟨.hbm, 117, rfl⟩
abbrev main_v88 : Ref sig .tc := ⟨.hbm, 118, rfl⟩
abbrev main_cst_21 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩

abbrev nD : Nat := 1
abbrev τ : Topo := Topo.v7x

variable {F : FTy → Type} [FloatOps F]
-- ==== Kernel8.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x3072, .f32⟩
  | .hbm, ⟨3, _⟩ => ⟨S8192x1024, .bf16⟩
  | .hbm, ⟨4, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference8Ideal.lean ====
abbrev S8192x1024 : Shape := ⟨2, ![8192, 1024]⟩
abbrev S1024x3072 : Shape := ⟨2, ![1024, 3072]⟩
abbrev S8192x3072 : Shape := ⟨2, ![8192, 3072]⟩
abbrev S3072x1024 : Shape := ⟨2, ![3072, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x3072, .f32⟩
  | .hbm, ⟨3, _⟩ => ⟨S8192x3072, .f32⟩
  | .hbm, ⟨4, _⟩ => ⟨S3072x1024, .f32⟩
  | .hbm, ⟨5, _⟩ => ⟨S1024x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel9.lean ====
abbrev S8192x1024 : Shape := ⟨2, ![8192, 1024]⟩
abbrev S1024x3072 : Shape := ⟨2, ![1024, 3072]⟩
abbrev S8192x3072 : Shape := ⟨2, ![8192, 3072]⟩
abbrev S3072x1024 : Shape := ⟨2, ![3072, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x1024, .f32⟩
  | .hbm, ⟨3, _⟩ => ⟨S8192x3072, .f32⟩
  | .hbm, ⟨4, _⟩ => ⟨S1024x3072, .bf16⟩
  | .hbm, ⟨5, _⟩ => ⟨S3072x1024, .bf16⟩
  | .hbm, ⟨6, _⟩ => ⟨S8192x1024, .f32⟩
  | .local _ .vmem, ⟨0, _⟩ => ⟨S1024x3072, .f32⟩
  | .local _ .vmem, ⟨1, _⟩ => ⟨S1024x3072, .f32⟩
  | .local _ .vmem, ⟨2, _⟩ => ⟨S3072x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S8192x1024 : Shape := ⟨2, ![8192, 1024]⟩
abbrev S1024x3072 : Shape := ⟨2, ![1024, 3072]⟩
abbrev S8192x3072 : Shape := ⟨2, ![8192, 3072]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x1024, .f32⟩
  | .hbm, ⟨3, _⟩ => ⟨S8192x3072, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x3072, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Kernel10.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v46 : BitVec 1 := Scalar.cmpi .eq arg0 c0_i32
  let v47 : BitVec 32 := Scalar.extui v46
  let c0_i32_19 : BitVec 32 := 0#32
  let v48 : BitVec 1 := Scalar.cmpi .ne v47 c0_i32_19
  v48

def k0_cond2 (i : grid0.Coords) : BitVec 1 :=
  let arg0 : BitVec 32 := BitVec.ofNat 32 (i 0).val
  let c0_i32_20 : BitVec 32 := 0#32
  let v49 : BitVec 1 := Scalar.cmpi .sgt arg0 c0_i32_20
  let v50 : BitVec 32 := Scalar.extui v49
  let c0_i32_21 : BitVec 32 := 0#32
  let v51 : BitVec 1 := Scalar.cmpi .ne v50 c0_i32_21
  v51

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference10Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 88
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S_, .f32⟩
  | .hbm, ⟨45, _⟩ => ⟨S1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S8192x1024, .f32⟩
  | .hbm, ⟨77, _⟩ => ⟨S8192x1, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S_, .f32⟩
  | .hbm, ⟨82, _⟩ => ⟨S8192, .f32⟩
  | .hbm, ⟨83, _⟩ => ⟨S8192x1024, .f32⟩
  | .hbm, ⟨84, _⟩ => ⟨S8192x1024, .f32⟩
  | .hbm, ⟨85, _⟩ => ⟨S8192x1024, .bf16⟩
  | .hbm, ⟨86, _⟩ => ⟨S1x1024, .f32⟩
  | .hbm, ⟨87, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_cst_12 : Ref sig .tc := ⟨.hbm, 65, rfl⟩
abbrev main_v48 : Ref sig .tc := ⟨.hbm, 66, rfl⟩
abbrev main_v49 : Ref sig .tc := ⟨.hbm, 67, rfl⟩
abbrev main_cst_13 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_14 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_15 : Ref sig .tc := ⟨.hbm, 78, rfl⟩
abbrev main_v58 : Ref sig .tc := ⟨.hbm, 79, rfl⟩
abbrev main_v59 : Ref sig .tc := ⟨.hbm, 80, rfl⟩
abbrev main_cst_16 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩

abbrev nD : Nat := 1
abbrev τ : Topo := Topo.v7x

variable {F : FTy → Type} [FloatOps F]
-- ==== Kernel11.lean ====
abbrev S8192x1024 : Shape := ⟨2, ![8192, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference11Ideal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel12.lean ====
abbrev S8192x1024 : Shape := ⟨2, ![8192, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .bf16⟩
  | .hbm, ⟨5, _⟩ => ⟨S1024x1024, .bf16⟩
  | .hbm, ⟨6, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S1024x1024, .bf16⟩
  | .hbm, ⟨6, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel14.lean ====
abbrev S8192x1024 : Shape := ⟨2, ![8192, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference14Ideal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel15.lean ====
abbrev S8192x1024 : Shape := ⟨2, ![8192, 1024]⟩
abbrev S8192x256 : Shape := ⟨2, ![8192, 256]⟩
abbrev S1024x1024 : Shape := ⟨2, ![1024, 1024]⟩
abbrev S1024 : Shape := ⟨1, ![1024]⟩
abbrev S256x1024 : Shape := ⟨2, ![256, 1024]⟩
abbrev S1x1024 : Shape := ⟨2, ![1, 1024]⟩
abbrev S512x1024 : Shape := ⟨2, ![512, 1024]⟩
abbrev S512x256 : Shape := ⟨2, ![512, 256]⟩

abbrev nBuf : Space → Nat
  | .hbm => 10
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1024x1024, .f32⟩
  | .hbm, ⟨3, _⟩ => ⟨S1024, .f32⟩
  | .hbm, ⟨4, _⟩ => ⟨S256x1024, .f32⟩
  | .hbm, ⟨5, _⟩ => ⟨S1024x1024, .bf16⟩
  | .hbm, ⟨6, _⟩ => ⟨S1x1024, .f32⟩
  | .hbm, ⟨7, _⟩ => ⟨S256x1024, .bf16⟩
  | .hbm, ⟨8, _⟩ => ⟨S8192x1024, .f32⟩
  | .hbm, ⟨9, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1024x1024, .bf16⟩
  | .local _ .vmem, ⟨5, _⟩ => ⟨S1x1024, .f32⟩
  | .local _ .vmem, ⟨6, _⟩ => ⟨S256x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S8192x1024 : Shape := ⟨2, ![8192, 1024]⟩
abbrev S8192x256 : Shape := ⟨2, ![8192, 256]⟩
abbrev S1024x1024 : Shape := ⟨2, ![1024, 1024]⟩
abbrev S1024 : Shape := ⟨1, ![1024]⟩
abbrev S256x1024 : Shape := ⟨2, ![256, 1024]⟩
abbrev S1x1024 : Shape := ⟨2, ![1, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1024x1024, .f32⟩
  | .hbm, ⟨3, _⟩ => ⟨S1024, .f32⟩
  | .hbm, ⟨4, _⟩ => ⟨S256x1024, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== Kernel16.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x1024, .bf16⟩
  | .hbm, ⟨3, _⟩ => ⟨S1024x3072, .bf16⟩
  | .hbm, ⟨4, _⟩ => ⟨S8192x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference16Ideal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel17.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .bf16⟩
  | .hbm, ⟨4, _⟩ => ⟨S512x1024, .bf16⟩
  | .hbm, ⟨5, _⟩ => ⟨S1024x512, .bf16⟩
  | .hbm, ⟨6, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .f32⟩
  | .local _ .vmem, ⟨4, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference17Ideal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .f32⟩
  | .hbm, ⟨4, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel18.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .bf16⟩
  | .hbm, ⟨4, _⟩ => ⟨S512x1024, .f32⟩
  | .local _ .vmem, ⟨0, _⟩ => ⟨S1024x512, .f32⟩
  | .local _ .vmem, ⟨1, _⟩ => ⟨S1024x512, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference18Ideal.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .f32⟩
  | .hbm, ⟨4, _⟩ => ⟨S1024x512, .f32⟩
  | .hbm, ⟨5, _⟩ => ⟨S512x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel19.lean ====
abbrev S8192x1024 : Shape := ⟨2, ![8192, 1024]⟩
abbrev S1024x512 : Shape := ⟨2, ![1024, 512]⟩
abbrev S8192x512 : Shape := ⟨2, ![8192, 512]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x512, .f32⟩
  | .hbm, ⟨3, _⟩ => ⟨S8192x1024, .bf16⟩
  | .hbm, ⟨4, _⟩ => ⟨S1024x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference19Ideal.lean ====
abbrev S8192x1024 : Shape := ⟨2, ![8192, 1024]⟩
abbrev S1024x512 : Shape := ⟨2, ![1024, 512]⟩
abbrev S8192x512 : Shape := ⟨2, ![8192, 512]⟩
abbrev S512x1024 : Shape := ⟨2, ![512, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x512, .f32⟩
  | .hbm, ⟨3, _⟩ => ⟨S8192x512, .f32⟩
  | .hbm, ⟨4, _⟩ => ⟨S512x1024, .f32⟩
  | .hbm, ⟨5, _⟩ => ⟨S1024x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel20.lean ====
abbrev S8192x1024 : Shape := ⟨2, ![8192, 1024]⟩
abbrev S1024x512 : Shape := ⟨2, ![1024, 512]⟩
abbrev S8192x512 : Shape := ⟨2, ![8192, 512]⟩
abbrev S512x1024 : Shape := ⟨2, ![512, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x1024, .f32⟩
  | .hbm, ⟨3, _⟩ => ⟨S8192x512, .f32⟩
  | .hbm, ⟨4, _⟩ => ⟨S1024x512, .bf16⟩
  | .hbm, ⟨5, _⟩ => ⟨S512x1024, .bf16⟩
  | .hbm, ⟨6, _⟩ => ⟨S8192x1024, .f32⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference20Ideal.lean ====
abbrev S8192x1024 : Shape := ⟨2, ![8192, 1024]⟩
abbrev S1024x512 : Shape := ⟨2, ![1024, 512]⟩
abbrev S8192x512 : Shape := ⟨2, ![8192, 512]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x1024, .f32⟩
  | .hbm, ⟨3, _⟩ => ⟨S8192x512, .f32⟩
  | .hbm, ⟨4, _⟩ => ⟨S8192x512, .f32⟩
  | .hbm, ⟨5, _⟩ => ⟨S8192x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel21.lean ====
abbrev S8192x1024 : Shape := ⟨2, ![8192, 1024]⟩
abbrev S1024x768 : Shape := ⟨2, ![1024, 768]⟩
abbrev S8192x768 : Shape := ⟨2, ![8192, 768]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x768, .f32⟩
  | .hbm, ⟨2, _⟩ => ⟨S8192x768, .f32⟩
  | .hbm, ⟨3, _⟩ => ⟨S8192x1024, .bf16⟩
  | .hbm, ⟨4, _⟩ => ⟨S1024x768, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .f32⟩
  | .local _ .vmem, ⟨3, _⟩ => ⟨S1024x768, .f32⟩
  | .local _ .vmem, ⟨4, _⟩ => ⟨S1024x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference21Ideal.lean ====
abbrev S8192x1024 : Shape := ⟨2, ![8192, 1024]⟩
abbrev S1024x768 : Shape := ⟨2, ![1024, 768]⟩
abbrev S8192x768 : Shape := ⟨2, ![8192, 768]⟩
abbrev S768x1024 : Shape := ⟨2, ![768, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x768, .f32⟩
  | .hbm, ⟨2, _⟩ => ⟨S8192x768, .f32⟩
  | .hbm, ⟨3, _⟩ => ⟨S8192x768, .f32⟩
  | .hbm, ⟨4, _⟩ => ⟨S768x1024, .f32⟩
  | .hbm, ⟨5, _⟩ => ⟨S1024x768, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel22.lean ====
abbrev S8192x1024 : Shape := ⟨2, ![8192, 1024]⟩
abbrev S1024x768 : Shape := ⟨2, ![1024, 768]⟩
abbrev S8192x768 : Shape := ⟨2, ![8192, 768]⟩
abbrev S768x1024 : Shape := ⟨2, ![768, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x768, .f32⟩
  | .hbm, ⟨2, _⟩ => ⟨S8192x1024, .f32⟩
  | .hbm, ⟨3, _⟩ => ⟨S8192x768, .f32⟩
  | .hbm, ⟨4, _⟩ => ⟨S1024x768, .bf16⟩
  | .hbm, ⟨5, _⟩ => ⟨S768x1024, .bf16⟩
  | .hbm, ⟨6, _⟩ => ⟨S8192x1024, .f32⟩
  | .local _ .vmem, ⟨0, _⟩ => ⟨S1024x768, .f32⟩
  | .local _ .vmem, ⟨1, _⟩ => ⟨S1024x768, .f32⟩
  | .local _ .vmem, ⟨2, _⟩ => ⟨S768x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference22Ideal.lean ====
abbrev S8192x1024 : Shape := ⟨2, ![8192, 1024]⟩
abbrev S1024x768 : Shape := ⟨2, ![1024, 768]⟩
abbrev S8192x768 : Shape := ⟨2, ![8192, 768]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x768, .f32⟩
  | .hbm, ⟨2, _⟩ => ⟨S8192x1024, .f32⟩
  | .hbm, ⟨3, _⟩ => ⟨S8192x768, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x768, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Kernel23.lean ====
abbrev S8192x1024 : Shape := ⟨2, ![8192, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference23Ideal.lean ====
abbrev S8192x1024 : Shape := ⟨2, ![8192, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel24.lean ====
abbrev S8192x1024 : Shape := ⟨2, ![8192, 1024]⟩
abbrev S1024x768 : Shape := ⟨2, ![1024, 768]⟩
abbrev S8192x768 : Shape := ⟨2, ![8192, 768]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x768, .f32⟩
  | .hbm, ⟨2, _⟩ => ⟨S8192x1024, .bf16⟩
  | .hbm, ⟨3, _⟩ => ⟨S1024x768, .bf16⟩
  | .hbm, ⟨4, _⟩ => ⟨S8192x768, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .f32⟩
  | .local _ .vmem, ⟨4, _⟩ => ⟨S1024x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference24Ideal.lean ====
abbrev S8192x1024 : Shape := ⟨2, ![8192, 1024]⟩
abbrev S1024x768 : Shape := ⟨2, ![1024, 768]⟩
abbrev S8192x768 : Shape := ⟨2, ![8192, 768]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x768, .f32⟩
  | .hbm, ⟨2, _⟩ => ⟨S8192x768, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel25.lean ====
abbrev S8192x1024 : Shape := ⟨2, ![8192, 1024]⟩
abbrev S1024x512 : Shape := ⟨2, ![1024, 512]⟩
abbrev S8192x512 : Shape := ⟨2, ![8192, 512]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x1024, .bf16⟩
  | .hbm, ⟨3, _⟩ => ⟨S1024x512, .bf16⟩
  | .hbm, ⟨4, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .f32⟩
  | .local _ .vmem, ⟨4, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference25Ideal.lean ====
abbrev S8192x1024 : Shape := ⟨2, ![8192, 1024]⟩
abbrev S1024x512 : Shape := ⟨2, ![1024, 512]⟩
abbrev S8192x512 : Shape := ⟨2, ![8192, 512]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel26.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference26Ideal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel27.lean ====
abbrev S8192x512 : Shape := ⟨2, ![8192, 512]⟩
abbrev S1024x1024 : Shape := ⟨2, ![1024, 1024]⟩
abbrev S8192x1024 : Shape := ⟨2, ![8192, 1024]⟩
abbrev S1024 : Shape := ⟨1, ![1024]⟩
abbrev S512x1024 : Shape := ⟨2, ![512, 1024]⟩
abbrev S1x1024 : Shape := ⟨2, ![1, 1024]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩

abbrev nBuf : Space → Nat
  | .hbm => 14
  | .vmem => 16
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1024x1024, .f32⟩
  | .hbm, ⟨3, _⟩ => ⟨S8192x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S512x1024, .bf16⟩
  | .hbm, ⟨8, _⟩ => ⟨S512x1024, .bf16⟩
  | .hbm, ⟨9, _⟩ => ⟨S1x1024, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S8192x1024, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S512x1024, .bf16⟩
  | .local _ .vmem, ⟨5, _⟩ => ⟨S512x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference27Ideal.lean ====
abbrev S8192x512 : Shape := ⟨2, ![8192, 512]⟩
abbrev S1024x1024 : Shape := ⟨2, ![1024, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1024x1024, .f32⟩
  | .hbm, ⟨3, _⟩ => ⟨S8192x1024, .f32⟩
  | .hbm, ⟨4, _⟩ => ⟨S1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Kernel28.lean ====
abbrev S4x2048x512 : Shape := ⟨3, ![4, 2048, 512]⟩
abbrev S4x512 : Shape := ⟨2, ![4, 512]⟩
abbrev S512 : Shape := ⟨1, ![512]⟩
abbrev S8192x512 : Shape := ⟨2, ![8192, 512]⟩
abbrev S1x512 : Shape := ⟨2, ![1, 512]⟩
abbrev S2048x128 : Shape := ⟨2, ![2048, 128]⟩
abbrev S4x128 : Shape := ⟨2, ![4, 128]⟩
abbrev S1x128 : Shape := ⟨2, ![1, 128]⟩
abbrev S2056x128 : Shape := ⟨2, ![2056, 128]⟩
abbrev S8x128 : Shape := ⟨2, ![8, 128]⟩

abbrev nBuf : Space → Nat
  | .hbm => 6
  | .vmem => 9
  | .smem => 0
  | _ => 0

abbrev bufTy : (tb : Table) → Fin (tcTables nBuf tb) → BufTy
  | .hbm, ⟨0, _⟩ => ⟨S4x2048x512, .f32⟩
  | .hbm, ⟨1, _⟩ => ⟨S4x512, .f32⟩
  | .hbm, ⟨2, _⟩ => ⟨S512, .f32⟩
  | .hbm, ⟨3, _⟩ => ⟨S8192x512, .f32⟩
  | .hbm, ⟨4, _⟩ => ⟨S1x512, .f32⟩
  | .hbm, ⟨5, _⟩ => ⟨S8192x512, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S1x128, .f32⟩
  | .local _ .vmem, ⟨5, _⟩ => ⟨S1x128, .f32⟩
  | .local _ .vmem, ⟨6, _⟩ => ⟨S2048x128, .f32⟩
  | .local _ .vmem, ⟨7, _⟩ => ⟨S2048x128, .f32⟩
  | .local _ .vmem, ⟨8, _⟩ => ⟨S2056x128, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference28Ideal.lean ====
abbrev S4x2048x512 : Shape := ⟨3, ![4, 2048, 512]⟩
abbrev S4x512 : Shape := ⟨2, ![4, 512]⟩
abbrev S512 : Shape := ⟨1, ![512]⟩
abbrev S_ : Shape := ⟨0, ![]⟩
abbrev S4x3x512 : Shape := ⟨3, ![4, 3, 512]⟩
abbrev S4x2051x512 : Shape := ⟨3, ![4, 2051, 512]⟩
abbrev S1x512 : Shape := ⟨2, ![1, 512]⟩
abbrev S1x1x512 : Shape := ⟨3, ![1, 1, 512]⟩
abbrev S8192x512 : Shape := ⟨2, ![8192, 512]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x512, .f32⟩
  | .hbm, ⟨2, _⟩ => ⟨S512, .f32⟩
  | .hbm, ⟨3, _⟩ => ⟨S_, .f32⟩
  | .hbm, ⟨4, _⟩ => ⟨S4x3x512, .f32⟩
  | .hbm, ⟨5, _⟩ => ⟨S4x2051x512, .f32⟩
  | .hbm, ⟨6, _⟩ => ⟨S4x2048x512, .f32⟩
  | .hbm, ⟨7, _⟩ => ⟨S1x512, .f32⟩
  | .hbm, ⟨8, _⟩ => ⟨S512, .f32⟩
  | .hbm, ⟨9, _⟩ => ⟨S1x1x512, .f32⟩
  | .hbm, ⟨10, _⟩ => ⟨S4x2048x512, .f32⟩
  | .hbm, ⟨11, _⟩ => ⟨S4x2048x512, .f32⟩
  | .hbm, ⟨12, _⟩ => ⟨S4x2048x512, .f32⟩
  | .hbm, ⟨13, _⟩ => ⟨S1x512, .f32⟩
  | .hbm, ⟨14, _⟩ => ⟨S512, .f32⟩
  | .hbm, ⟨15, _⟩ => ⟨S1x1x512, .f32⟩
  | .hbm, ⟨16, _⟩ => ⟨S4x2048x512, .f32⟩
  | .hbm, ⟨17, _⟩ => ⟨S4x2048x512, .f32⟩
  | .hbm, ⟨18, _⟩ => ⟨S4x2048x512, .f32⟩
  | .hbm, ⟨19, _⟩ => ⟨S4x2048x512, .f32⟩
  | .hbm, ⟨20, _⟩ => ⟨S1x512, .f32⟩
  | .hbm, ⟨21, _⟩ => ⟨S512, .f32⟩
  | .hbm, ⟨22, _⟩ => ⟨S1x1x512, .f32⟩
  | .hbm, ⟨23, _⟩ => ⟨S4x2048x512, .f32⟩
  | .hbm, ⟨24, _⟩ => ⟨S4x2048x512, .f32⟩
  | .hbm, ⟨25, _⟩ => ⟨S4x2048x512, .f32⟩
  | .hbm, ⟨26, _⟩ => ⟨S4x2048x512, .f32⟩
  | .hbm, ⟨27, _⟩ => ⟨S1x512, .f32⟩
  | .hbm, ⟨28, _⟩ => ⟨S512, .f32⟩
  | .hbm, ⟨29, _⟩ => ⟨S1x1x512, .f32⟩
  | .hbm, ⟨30, _⟩ => ⟨S4x2048x512, .f32⟩
  | .hbm, ⟨31, _⟩ => ⟨S4x2048x512, .f32⟩
  | .hbm, ⟨32, _⟩ => ⟨S4x2048x512, .f32⟩
  | .hbm, ⟨33, _⟩ => ⟨S1x1x512, .f32⟩
  | .hbm, ⟨34, _⟩ => ⟨S4x2048x512, .f32⟩
  | .hbm, ⟨35, _⟩ => ⟨S4x2048x512, .f32⟩
  | .hbm, ⟨36, _⟩ => ⟨S8192x512, .f32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩

abbrev nD : Nat := 1
abbrev τ : Topo := Topo.v7x

variable {F : FTy → Type} [FloatOps F]
-- ==== Kernel29.lean ====
abbrev S4x2048x3072 : Shape := ⟨3, ![4, 2048, 3072]⟩
abbrev S4x3072 : Shape := ⟨2, ![4, 3072]⟩
abbrev S8192x3072 : Shape := ⟨2, ![8192, 3072]⟩
abbrev S_ : Shape := ⟨0, ![]⟩
abbrev S1x3072 : Shape := ⟨2, ![1, 3072]⟩
abbrev S2048x128 : Shape := ⟨2, ![2048, 128]⟩
abbrev S4x128 : Shape := ⟨2, ![4, 128]⟩
abbrev S1x128 : Shape := ⟨2, ![1, 128]⟩
abbrev S2056x128 : Shape := ⟨2, ![2056, 128]⟩
abbrev S8x128 : Shape := ⟨2, ![8, 128]⟩

abbrev nBuf : Space → Nat
  | .hbm => 6
  | .vmem => 9
  | .smem => 0
  | _ => 0

abbrev bufTy : (tb : Table) → Fin (tcTables nBuf tb) → BufTy
  | .hbm, ⟨0, _⟩ => ⟨S4x2048x3072, .f32⟩
  | .hbm, ⟨1, _⟩ => ⟨S4x3072, .f32⟩
  | .hbm, ⟨2, _⟩ => ⟨S8192x3072, .f32⟩
  | .hbm, ⟨3, _⟩ => ⟨S_, .f32⟩
  | .hbm, ⟨4, _⟩ => ⟨S1x3072, .f32⟩
  | .hbm, ⟨5, _⟩ => ⟨S8192x3072, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S1x128, .f32⟩
  | .local _ .vmem, ⟨5, _⟩ => ⟨S1x128, .f32⟩
  | .local _ .vmem, ⟨6, _⟩ => ⟨S2048x128, .f32⟩
  | .local _ .vmem, ⟨7, _⟩ => ⟨S2048x128, .f32⟩
  | .local _ .vmem, ⟨8, _⟩ => ⟨S2056x128, .f32⟩
  | _, _ => ⟨S4x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference29Ideal.lean ====
abbrev S4x2048x3072 : Shape := ⟨3, ![4, 2048, 3072]⟩
abbrev S4x3072 : Shape := ⟨2, ![4, 3072]⟩
abbrev S_ : Shape := ⟨0, ![]⟩
abbrev S4x3x3072 : Shape := ⟨3, ![4, 3, 3072]⟩
abbrev S4x2051x3072 : Shape := ⟨3, ![4, 2051, 3072]⟩
abbrev S1x3072 : Shape := ⟨2, ![1, 3072]⟩
abbrev S3072 : Shape := ⟨1, ![3072]⟩
abbrev S1x1x3072 : Shape := ⟨3, ![1, 1, 3072]⟩
abbrev S8192x3072 : Shape := ⟨2, ![8192, 3072]⟩

abbrev nBuf : Space → Nat
  | .hbm => 42
  | .vmem => 0
  | .smem => 0
  | _ => 0

abbrev bufTy : (tb : Table) → Fin (tcTables nBuf tb) → BufTy
  | .hbm, ⟨0, _⟩ => ⟨S4x2048x3072, .f32⟩
  | .hbm, ⟨1, _⟩ => ⟨S4x3072, .f32⟩
  | .hbm, ⟨2, _⟩ => ⟨S_, .f32⟩
  | .hbm, ⟨3, _⟩ => ⟨S4x3x3072, .f32⟩
  | .hbm, ⟨4, _⟩ => ⟨S4x2051x3072, .f32⟩
  | .hbm, ⟨5, _⟩ => ⟨S4x2048x3072, .f32⟩
  | .hbm, ⟨6, _⟩ => ⟨S1x3072, .f32⟩
  | .hbm, ⟨7, _⟩ => ⟨S3072, .f32⟩
  | .hbm, ⟨8, _⟩ => ⟨S1x1x3072, .f32⟩
  | .hbm, ⟨9, _⟩ => ⟨S4x2048x3072, .f32⟩
  | .hbm, ⟨10, _⟩ => ⟨S4x2048x3072, .f32⟩
  | .hbm, ⟨11, _⟩ => ⟨S4x2048x3072, .f32⟩
  | .hbm, ⟨12, _⟩ => ⟨S1x3072, .f32⟩
  | .hbm, ⟨13, _⟩ => ⟨S3072, .f32⟩
  | .hbm, ⟨14, _⟩ => ⟨S1x1x3072, .f32⟩
  | .hbm, ⟨15, _⟩ => ⟨S4x2048x3072, .f32⟩
  | .hbm, ⟨16, _⟩ => ⟨S4x2048x3072, .f32⟩
  | .hbm, ⟨17, _⟩ => ⟨S4x2048x3072, .f32⟩
  | .hbm, ⟨18, _⟩ => ⟨S4x2048x3072, .f32⟩
  | .hbm, ⟨19, _⟩ => ⟨S1x3072, .f32⟩
  | .hbm, ⟨20, _⟩ => ⟨S3072, .f32⟩
  | .hbm, ⟨21, _⟩ => ⟨S1x1x3072, .f32⟩
  | .hbm, ⟨22, _⟩ => ⟨S4x2048x3072, .f32⟩
  | .hbm, ⟨23, _⟩ => ⟨S4x2048x3072, .f32⟩
  | .hbm, ⟨24, _⟩ => ⟨S4x2048x3072, .f32⟩
  | .hbm, ⟨25, _⟩ => ⟨S4x2048x3072, .f32⟩
  | .hbm, ⟨26, _⟩ => ⟨S1x3072, .f32⟩
  | .hbm, ⟨27, _⟩ => ⟨S3072, .f32⟩
  | .hbm, ⟨28, _⟩ => ⟨S1x1x3072, .f32⟩
  | .hbm, ⟨29, _⟩ => ⟨S4x2048x3072, .f32⟩
  | .hbm, ⟨30, _⟩ => ⟨S4x2048x3072, .f32⟩
  | .hbm, ⟨31, _⟩ => ⟨S4x2048x3072, .f32⟩
  | .hbm, ⟨32, _⟩ => ⟨S4x2048x3072, .f32⟩
  | .hbm, ⟨33, _⟩ => ⟨S4x2048x3072, .f32⟩
  | .hbm, ⟨34, _⟩ => ⟨S_, .f32⟩
  | .hbm, ⟨35, _⟩ => ⟨S4x2048x3072, .f32⟩
  | .hbm, ⟨36, _⟩ => ⟨S4x2048x3072, .f32⟩
  | .hbm, ⟨37, _⟩ => ⟨S_, .f32⟩
  | .hbm, ⟨38, _⟩ => ⟨S4x2048x3072, .f32⟩
  | .hbm, ⟨39, _⟩ => ⟨S4x2048x3072, .f32⟩
  | .hbm, ⟨40, _⟩ => ⟨S4x2048x3072, .f32⟩
  | .hbm, ⟨41, _⟩ => ⟨S8192x3072, .f32⟩
  | _, _ => ⟨S4x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Kernel30.lean ====
abbrev S8192x1024 : Shape := ⟨2, ![8192, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v9 : BitVec 1 := Scalar.cmpi .eq arg0 c0_i32
  let v10 : BitVec 32 := Scalar.extui v9
  let c0_i32_6 : BitVec 32 := 0#32
  let v11 : BitVec 1 := Scalar.cmpi .ne v10 c0_i32_6
  v11

def k0_cond2 (i : grid0.Coords) : BitVec 1 :=
  let arg0 : BitVec 32 := BitVec.ofNat 32 (i 0).val
  let c0_i32_7 : BitVec 32 := 0#32
  let v12 : BitVec 1 := Scalar.cmpi .sgt arg0 c0_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference30Ideal.lean ====
abbrev S8192x1024 : Shape := ⟨2, ![8192, 1024]⟩
abbrev S_ : Shape := ⟨0, ![]⟩
abbrev S8192 : Shape := ⟨1, ![8192]⟩
abbrev S1024 : Shape := ⟨1, ![1024]⟩
abbrev S1x1024 : Shape := ⟨2, ![1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_7 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]
-- ==== Kernel31.lean ====
abbrev S4x2048x3072 : Shape := ⟨3, ![4, 2048, 3072]⟩
abbrev S4x3072 : Shape := ⟨2, ![4, 3072]⟩
abbrev S8192x3072 : Shape := ⟨2, ![8192, 3072]⟩
abbrev S_ : Shape := ⟨0, ![]⟩
abbrev S1x3072 : Shape := ⟨2, ![1, 3072]⟩
abbrev S2048x128 : Shape := ⟨2, ![2048, 128]⟩
abbrev S4x128 : Shape := ⟨2, ![4, 128]⟩
abbrev S1x128 : Shape := ⟨2, ![1, 128]⟩
abbrev S2056x128 : Shape := ⟨2, ![2056, 128]⟩
abbrev S8x128 : Shape := ⟨2, ![8, 128]⟩
abbrev S128 : Shape := ⟨1, ![128]⟩

abbrev nBuf : Space → Nat
  | .hbm => 10
  | .vmem => 16
  | .smem => 0
  | _ => 0

abbrev bufTy : (tb : Table) → Fin (tcTables nBuf tb) → BufTy
  | .hbm, ⟨0, _⟩ => ⟨S4x2048x3072, .f32⟩
  | .hbm, ⟨1, _⟩ => ⟨S4x3072, .f32⟩
  | .hbm, ⟨2, _⟩ => ⟨S4x2048x3072, .f32⟩
  | .hbm, ⟨3, _⟩ => ⟨S8192x3072, .f32⟩
  | .hbm, ⟨4, _⟩ => ⟨S_, .f32⟩
  | .hbm, ⟨5, _⟩ => ⟨S1x3072, .f32⟩
  | .hbm, ⟨6, _⟩ => ⟨S8192x3072, .f32⟩
  | .hbm, ⟨7, _⟩ => ⟨S8192x3072, .f32⟩
  | .hbm, ⟨8, _⟩ => ⟨S4x3072, .f32⟩
  | .hbm, ⟨9, _⟩ => ⟨S1x3072, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S1x128, .f32⟩
  | .local _ .vmem, ⟨5, _⟩ => ⟨S1x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S4x128, .f32⟩
  | .local _ .vmem, ⟨11, _⟩ => ⟨S4x128, .f32⟩
  | .local _ .vmem, ⟨12, _⟩ => ⟨S1x128, .f32⟩
  | .local _ .vmem, ⟨13, _⟩ => ⟨S1x128, .f32⟩
  | .local _ .vmem, ⟨14, _⟩ => ⟨S2056x128, .f32⟩
  | .local _ .vmem, ⟨15, _⟩ => ⟨S2056x128, .f32⟩
  | _, _ => ⟨S4x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![24, 4], ![false, false]⟩

def k0_cond1 (i : grid0.Coords) : BitVec 1 :=
  let arg1 : BitVec 32 := BitVec.ofNat 32 (i 1).val
  let c0_i32 : BitVec 32 := 0#32
  let v69 : BitVec 1 := Scalar.cmpi .eq arg1 c0_i32
  let v74 : BitVec 32 := Scalar.extui v69
  let c0_i32_45 : BitVec 32 := 0#32
  let v75 : BitVec 1 := Scalar.cmpi .ne v74 c0_i32_45
  v75

def k0_cond2 (i : grid0.Coords) : BitVec 1 :=
  let arg1 : BitVec 32 := BitVec.ofNat 32 (i 1).val
  let c0_i32 : BitVec 32 := 0#32
  let v69 : BitVec 1 := Scalar.cmpi .eq arg1 c0_i32
  let v_true : BitVec 1 := 1#1
  let v76 : BitVec 1 := Scalar.xori v69 v_true
  let v77 : BitVec 32 := Scalar.extui v76
  let c0_i32_46 : BitVec 32 := 0#32
  let v78 : BitVec 1 := Scalar.cmpi .ne v77 c0_i32_46
  v78

def k0_cond3 (i : grid0.Coords) : BitVec 1 :=
  let arg1 : BitVec 32 := BitVec.ofNat 32 (i 1).val
  let c0_i32 : BitVec 32 := 0#32
  let v69 : BitVec 1 := Scalar.cmpi .eq arg1 c0_i32
  let v83 : BitVec 32 := Scalar.extui v69
  let c0_i32_50 : BitVec 32 := 0#32
  let v84 : BitVec 1 := Scalar.cmpi .ne v83 c0_i32_50
  v84

def k0_cond4 (i : grid0.Coords) : BitVec 1 :=
  let arg1 : BitVec 32 := BitVec.ofNat 32 (i 1).val
  let c0_i32 : BitVec 32 := 0#32
  let v69 : BitVec 1 := Scalar.cmpi .eq arg1 c0_i32
  let true_51 : BitVec 1 := 1#1
  let v85 : BitVec 1 := Scalar.xori v69 true_51
  let v86 : BitVec 32 := Scalar.extui v85
  let c0_i32_52 : BitVec 32 := 0#32
  let v87 : BitVec 1 := Scalar.cmpi .ne v86 c0_i32_52
  v87

def k0_cond5 (i : grid0.Coords) : BitVec 1 :=
  let arg1 : BitVec 32 := BitVec.ofNat 32 (i 1).val
  let c0_i32 : BitVec 32 := 0#32
  let v69 : BitVec 1 := Scalar.cmpi .eq arg1 c0_i32
  let v92 : BitVec 32 := Scalar.extui v69
  let c0_i32_56 : BitVec 32 := 0#32
  let v93 : BitVec 1 := Scalar.cmpi .ne v92 c0_i32_56
  v93

def k0_cond6 (i : grid0.Coords) : BitVec 1 :=
  let arg1 : BitVec 32 := BitVec.ofNat 32 (i 1).val
  let c0_i32 : BitVec 32 := 0#32
  let v69 : BitVec 1 := Scalar.cmpi .eq arg1 c0_i32
  let true_57 : BitVec 1 := 1#1
  let v94 : BitVec 1 := Scalar.xori v69 true_57
  let v95 : BitVec 32 := Scalar.extui v94
  let c0_i32_58 : BitVec 32 := 0#32
  let v96 : BitVec 1 := Scalar.cmpi .ne v95 c0_i32_58
  v96

def k0_cond7 (i : grid0.Coords) : BitVec 1 :=
  let arg1 : BitVec 32 := BitVec.ofNat 32 (i 1).val
  let c0_i32 : BitVec 32 := 0#32
  let v69 : BitVec 1 := Scalar.cmpi .eq arg1 c0_i32
  let v101 : BitVec 32 := Scalar.extui v69
  let c0_i32_62 : BitVec 32 := 0#32
  let v102 : BitVec 1 := Scalar.cmpi .ne v101 c0_i32_62
  v102

def k0_cond8 (i : grid0.Coords) : BitVec 1 :=
  let arg1 : BitVec 32 := BitVec.ofNat 32 (i 1).val
  let c0_i32 : BitVec 32 := 0#32
  let v69 : BitVec 1 := Scalar.cmpi .eq arg1 c0_i32
  let true_63 : BitVec 1 := 1#1
  let v103 : BitVec 1 := Scalar.xori v69 true_63
  let v104 : BitVec 32 := Scalar.extui v103
  let c0_i32_64 : BitVec 32 := 0#32
  let v105 : BitVec 1 := Scalar.cmpi .ne v104 c0_i32_64
  v105

def k0_cond9 (i : grid0.Coords) : BitVec 1 :=
  let arg1 : BitVec 32 := BitVec.ofNat 32 (i 1).val
  let c0_i32 : BitVec 32 := 0#32
  let v69 : BitVec 1 := Scalar.cmpi .eq arg1 c0_i32
  let v108 : BitVec 32 := Scalar.extui v69
  let c0_i32_66 : BitVec 32 := 0#32
  let v109 : BitVec 1 := Scalar.cmpi .ne v108 c0_i32_66
  v109

def k0_cond10 (i : grid0.Coords) : BitVec 1 :=
  let arg1 : BitVec 32 := BitVec.ofNat 32 (i 1).val
  let c0_i32 : BitVec 32 := 0#32
  let v69 : BitVec 1 := Scalar.cmpi .eq arg1 c0_i32
  let true_67 : BitVec 1 := 1#1
  let v110 : BitVec 1 := Scalar.xori v69 true_67
  let v111 : BitVec 32 := Scalar.extui v110
  let c0_i32_68 : BitVec 32 := 0#32
  let v112 : BitVec 1 := Scalar.cmpi .ne v111 c0_i32_68
  v112

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference31Ideal.lean ====
abbrev S4x2048x3072 : Shape := ⟨3, ![4, 2048, 3072]⟩
abbrev S4x3072 : Shape := ⟨2, ![4, 3072]⟩
abbrev S_ : Shape := ⟨0, ![]⟩
abbrev S4x3x3072 : Shape := ⟨3, ![4, 3, 3072]⟩
abbrev S4x2051x3072 : Shape := ⟨3, ![4, 2051, 3072]⟩
abbrev S1x3072 : Shape := ⟨2, ![1, 3072]⟩
abbrev S3072 : Shape := ⟨1, ![3072]⟩
abbrev S1x1x3072 : Shape := ⟨3, ![1, 1, 3072]⟩
abbrev S8192x3072 : Shape := ⟨2, ![8192, 3072]⟩

abbrev nBuf : Space → Nat
  | .hbm => 113
  | .vmem => 0
  | .smem => 0
  | _ => 0

abbrev bufTy : (tb : Table) → Fin (tcTables nBuf tb) → BufTy
  | .hbm, ⟨0, _⟩ => ⟨S4x2048x3072, .f32⟩
  | .hbm, ⟨1, _⟩ => ⟨S4x3072, .f32⟩
  | .hbm, ⟨2, _⟩ => ⟨S4x2048x3072, .f32⟩
  | .hbm, ⟨3, _⟩ => ⟨S_, .f32⟩
  | .hbm, ⟨4, _⟩ => ⟨S4x3x3072, .f32⟩
  | .hbm, ⟨5, _⟩ => ⟨S4x2051x3072, .f32⟩
  | .hbm, ⟨6, _⟩ => ⟨S_, .f32⟩
  | .hbm, ⟨7, _⟩ => ⟨S4x3x3072, .f32⟩
  | .hbm, ⟨8, _⟩ => ⟨S4x2048x3072, .f32⟩
  | .hbm, ⟨9, _⟩ => ⟨S1x3072, .f32⟩
  | .hbm, ⟨10, _⟩ => ⟨S3072, .f32⟩
  | .hbm, ⟨11, _⟩ => ⟨S1x1x3072, .f32⟩
  | .hbm, ⟨12, _⟩ => ⟨S4x2048x3072, .f32⟩
  | .hbm, ⟨13, _⟩ => ⟨S4x2048x3072, .f32⟩
  | .hbm, ⟨14, _⟩ => ⟨S4x2048x3072, .f32⟩
  | .hbm, ⟨15, _⟩ => ⟨S1x3072, .f32⟩
  | .hbm, ⟨16, _⟩ => ⟨S3072, .f32⟩
  | .hbm, ⟨17, _⟩ => ⟨S1x1x3072, .f32⟩
  | .hbm, ⟨18, _⟩ => ⟨S4x2048x3072, .f32⟩
  | .hbm, ⟨19, _⟩ => ⟨S4x2048x3072, .f32⟩
  | .hbm, ⟨20, _⟩ => ⟨S4x2048x3072, .f32⟩
  | .hbm, ⟨21, _⟩ => ⟨S4x2048x3072, .f32⟩
  | .hbm, ⟨22, _⟩ => ⟨S1x3072, .f32⟩
  | .hbm, ⟨23, _⟩ => ⟨S3072, .f32⟩
  | .hbm, ⟨24, _⟩ => ⟨S1x1x3072, .f32⟩
  | .hbm, ⟨25, _⟩ => ⟨S4x2048x3072, .f32⟩
  | .hbm, ⟨26, _⟩ => ⟨S4x2048x3072, .f32⟩
  | .hbm, ⟨27, _⟩ => ⟨S4x2048x3072, .f32⟩
  | .hbm, ⟨28, _⟩ => ⟨S4x2048x3072, .f32⟩
  | .hbm, ⟨29, _⟩ => ⟨S1x3072, .f32⟩
  | .hbm, ⟨30, _⟩ => ⟨S3072, .f32⟩
  | .hbm, ⟨31, _⟩ => ⟨S1x1x3072, .f32⟩
  | .hbm, ⟨32, _⟩ => ⟨S4x2048x3072, .f32⟩
  | .hbm, ⟨33, _⟩ => ⟨S4x2048x3072, .f32⟩
  | .hbm, ⟨34, _⟩ => ⟨S4x2048x3072, .f32⟩
  | .hbm, ⟨35, _⟩ => ⟨S4x2048x3072, .f32⟩
  | .hbm, ⟨36, _⟩ => ⟨S4x2048x3072, .f32⟩
  | .hbm, ⟨37, _⟩ => ⟨S_, .f32⟩
  | .hbm, ⟨38, _⟩ => ⟨S4x2048x3072, .f32⟩
  | .hbm, ⟨39, _⟩ => ⟨S4x2048x3072, .f32⟩
  | .hbm, ⟨40, _⟩ => ⟨S_, .f32⟩
  | .hbm, ⟨41, _⟩ => ⟨S4x2048x3072, .f32⟩
  | .hbm, ⟨42, _⟩ => ⟨S4x2048x3072, .f32⟩
  | .hbm, ⟨43, _⟩ => ⟨S_, .f32⟩
  | .hbm, ⟨44, _⟩ => ⟨S4x2048x3072, .f32⟩
  | .hbm, ⟨45, _⟩ => ⟨S4x2048x3072, .f32⟩
  | .hbm, ⟨46, _⟩ => ⟨S4x2048x3072, .f32⟩
  | .hbm, ⟨47, _⟩ => ⟨S4x2048x3072, .f32⟩
  | .hbm, ⟨48, _⟩ => ⟨S4x2048x3072, .f32⟩
  | .hbm, ⟨49, _⟩ => ⟨S4x2048x3072, .f32⟩
  | .hbm, ⟨50, _⟩ => ⟨S4x2048x3072, .f32⟩
  | .hbm, ⟨51, _⟩ => ⟨S4x2048x3072, .f32⟩
  | .hbm, ⟨52, _⟩ => ⟨S4x2048x3072, .f32⟩
  | .hbm, ⟨53, _⟩ => ⟨S_, .f32⟩
  | .hbm, ⟨54, _⟩ => ⟨S3072, .f32⟩
  | .hbm, ⟨55, _⟩ => ⟨S1x1x3072, .f32⟩
  | .hbm, ⟨56, _⟩ => ⟨S4x2048x3072, .f32⟩
  | .hbm, ⟨57, _⟩ => ⟨S4x2048x3072, .f32⟩
  | .hbm, ⟨58, _⟩ => ⟨S_, .f32⟩
  | .hbm, ⟨59, _⟩ => ⟨S3072, .f32⟩
  | .hbm, ⟨60, _⟩ => ⟨S1x3072, .f32⟩
  | .hbm, ⟨61, _⟩ => ⟨S_, .f32⟩
  | .hbm, ⟨62, _⟩ => ⟨S4x3072, .f32⟩
  | .hbm, ⟨63, _⟩ => ⟨S_, .f32⟩
  | .hbm, ⟨64, _⟩ => ⟨S4x2051x3072, .f32⟩
  | .hbm, ⟨65, _⟩ => ⟨S4x2048x3072, .f32⟩
  | .hbm, ⟨66, _⟩ => ⟨S_, .f32⟩
  | .hbm, ⟨67, _⟩ => ⟨S3072, .f32⟩
  | .hbm, ⟨68, _⟩ => ⟨S1x1x3072, .f32⟩
  | .hbm, ⟨69, _⟩ => ⟨S4x2048x3072, .f32⟩
  | .hbm, ⟨70, _⟩ => ⟨S4x2048x3072, .f32⟩
  | .hbm, ⟨71, _⟩ => ⟨S_, .f32⟩
  | .hbm, ⟨72, _⟩ => ⟨S3072, .f32⟩
  | .hbm, ⟨73, _⟩ => ⟨S1x3072, .f32⟩
  | .hbm, ⟨74, _⟩ => ⟨S_, .f32⟩
  | .hbm, ⟨75, _⟩ => ⟨S4x3072, .f32⟩
  | .hbm, ⟨76, _⟩ => ⟨S4x3072, .f32⟩
  | .hbm, ⟨77, _⟩ => ⟨S_, .f32⟩
  | .hbm, ⟨78, _⟩ => ⟨S4x2051x3072, .f32⟩
  | .hbm, ⟨79, _⟩ => ⟨S4x2051x3072, .f32⟩
  | .hbm, ⟨80, _⟩ => ⟨S4x2048x3072, .f32⟩
  | .hbm, ⟨81, _⟩ => ⟨S_, .f32⟩
  | .hbm, ⟨82, _⟩ => ⟨S3072, .f32⟩
  | .hbm, ⟨83, _⟩ => ⟨S1x1x3072, .f32⟩
  | .hbm, ⟨84, _⟩ => ⟨S4x2048x3072, .f32⟩
  | .hbm, ⟨85, _⟩ => ⟨S4x2048x3072, .f32⟩
  | .hbm, ⟨86, _⟩ => ⟨S_, .f32⟩
  | .hbm, ⟨87, _⟩ => ⟨S3072, .f32⟩
  | .hbm, ⟨88, _⟩ => ⟨S1x3072, .f32⟩
  | .hbm, ⟨89, _⟩ => ⟨S_, .f32⟩
  | .hbm, ⟨90, _⟩ => ⟨S4x3072, .f32⟩
  | .hbm, ⟨91, _⟩ => ⟨S4x3072, .f32⟩
  | .hbm, ⟨92, _⟩ => ⟨S_, .f32⟩
  | .hbm, ⟨93, _⟩ => ⟨S4x2051x3072, .f32⟩
  | .hbm, ⟨94, _⟩ => ⟨S4x2051x3072, .f32⟩
  | .hbm, ⟨95, _⟩ => ⟨S4x2048x3072, .f32⟩
  | .hbm, ⟨96, _⟩ => ⟨S_, .f32⟩
  | .hbm, ⟨97, _⟩ => ⟨S3072, .f32⟩
  | .hbm, ⟨98, _⟩ => ⟨S1x1x3072, .f32⟩
  | .hbm, ⟨99, _⟩ => ⟨S4x2048x3072, .f32⟩
  | .hbm, ⟨100, _⟩ => ⟨S4x2048x3072, .f32⟩
  | .hbm, ⟨101, _⟩ => ⟨S_, .f32⟩
  | .hbm, ⟨102, _⟩ => ⟨S3072, .f32⟩
  | .hbm, ⟨103, _⟩ => ⟨S1x3072, .f32⟩
  | .hbm, ⟨104, _⟩ => ⟨S_, .f32⟩
  | .hbm, ⟨105, _⟩ => ⟨S4x3072, .f32⟩
  | .hbm, ⟨106, _⟩ => ⟨S4x3072, .f32⟩
  | .hbm, ⟨107, _⟩ => ⟨S_, .f32⟩
  | .hbm, ⟨108, _⟩ => ⟨S4x2051x3072, .f32⟩
  | .hbm, ⟨109, _⟩ => ⟨S4x2051x3072, .f32⟩
  | .hbm, ⟨110, _⟩ => ⟨S4x3x3072, .f32⟩
  | .hbm, ⟨111, _⟩ => ⟨S4x2048x3072, .f32⟩
  | .hbm, ⟨112, _⟩ => ⟨S8192x3072, .f32⟩
  | _, _ => ⟨S4x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v30_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v30_1 : Ref sig .tc := ⟨.hbm, 46, rfl⟩
abbrev main_v30_0 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v31 : Ref sig .tc := ⟨.hbm, 51, rfl⟩
abbrev main_v32 : Ref sig .tc := ⟨.hbm, 52, rfl⟩
abbrev main_cst_1 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_2 : Ref sig .tc := ⟨.hbm, 58, rfl⟩
abbrev main_v37 : Ref sig .tc := ⟨.hbm, 59, rfl⟩
abbrev main_v38 : Ref sig .tc := ⟨.hbm, 60, rfl⟩
abbrev main_cst_3 : Ref sig .tc := ⟨.hbm, 61, rfl⟩
abbrev main_v39 : Ref sig .tc := ⟨.hbm, 62, rfl⟩
abbrev main_cst_4 : Ref sig .tc := ⟨.hbm, 63, rfl⟩
abbrev main_v40 : Ref sig .tc := ⟨.hbm, 64, rfl⟩
abbrev main_v41 : Ref sig .tc := ⟨.hbm, 65, rfl⟩
abbrev main_cst_5 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_6 : Ref sig .tc := ⟨.hbm, 71, rfl⟩
abbrev main_v46 : Ref sig .tc := ⟨.hbm, 72, rfl⟩
abbrev main_v47 : Ref sig .tc := ⟨.hbm, 73, rfl⟩
abbrev main_cst_7 : Ref sig .tc := ⟨.hbm, 74, rfl⟩
abbrev main_v48 : Ref sig .tc := ⟨.hbm, 75, rfl⟩
abbrev main_v49 : Ref sig .tc := ⟨.hbm, 76, rfl⟩
abbrev main_cst_8 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_9 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_10 : Ref sig .tc := ⟨.hbm, 86, rfl⟩
abbrev main_v57 : Ref sig .tc := ⟨.hbm, 87, rfl⟩
abbrev main_v58 : Ref sig .tc := ⟨.hbm, 88, rfl⟩
abbrev main_cst_11 : Ref sig .tc := ⟨.hbm, 89, rfl⟩
abbrev main_v59 : Ref sig .tc := ⟨.hbm, 90, rfl⟩
abbrev main_v60 : Ref sig .tc := ⟨.hbm, 91, rfl⟩
abbrev main_cst_12 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_13 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_14 : Ref sig .tc := ⟨.hbm, 101, rfl⟩
abbrev main_v68 : Ref sig .tc := ⟨.hbm, 102, rfl⟩
abbrev main_v69 : Ref sig .tc := ⟨.hbm, 103, rfl⟩
abbrev main_cst_15 : Ref sig .tc := ⟨.hbm, 104, rfl⟩
abbrev main_v70 : Ref sig .tc := ⟨.hbm, 105, rfl⟩
abbrev main_v71 : Ref sig .tc := ⟨.hbm, 106, rfl⟩
abbrev main_cst_16 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩

abbrev nD : Nat := 1
abbrev τ : Topo := Topo.v7x

variable {F : FTy → Type} [FloatOps F]
-- ==== Proof.Ffn.Block.lean ====
module

public import proofs.«01_k».proof.Proof.Gen.KernelIdeal.Skeleton
public import Idealize.ShloMosaic.Lib.Pointwise
public import Idealize.ShloMosaic.Lib.IdealHost
set_option maxRecDepth 16384

/-! What one grid point of the feed-forward block's weight-gradient call computes, as formulas over
    the blocks it is given: `x0` 1024 rows of the block's input, `x1` the same rows of the incoming
    gradient, `x2`/`x3` one device's columns of the gate and up weights, `x4` its rows of the down weight. -/

@[expose] public noncomputable section
open Idealize.ShloMosaic Idealize.ShloMosaic.TcCoe Idealize.SL.Sem

namespace Cert.Ffn

/-- The half step the block is scaled by: the single-precision constant 0.5. -/
def half : EReal := Ideal.ofBits .f32 0x3F000000#32

/-- The bf16 constant the kernel multiplies by is the same number. -/
theorem half_bf16 : Ideal.ofBits .bf16 0x3F00#16 = half := by
  have h1 : Ideal.ofBits .bf16 0x3F00#16 = ((1 / 2 : ℝ) : EReal) := by
    simp [Ideal.ofBits, Ideal.ieee, -EReal.coe_mul]; norm_num
  have h2 : half = ((1 / 2 : ℝ) : EReal) := by
    simp [half, Ideal.ofBits, Ideal.ieee, -EReal.coe_mul]; norm_num
  rw [h1, h2]

/-- The half step is the real number 1/2. -/
theorem half_eq : half = ((1 / 2 : ℝ) : EReal) := by
  simp [half, Ideal.ofBits, Ideal.ieee, -EReal.coe_mul]; norm_num

/-- The gate's gradient as the kernel writes it, of the gate `g`, the up projection `u` and the
    gradient `h` of the hidden product. -/
def dgate (g u h : EReal) : EReal := h * u * (Ideal.logistic g * (1 + g * (1 - Ideal.logistic g)))

/-- The up projection's gradient. -/
def dup (g h : EReal) : EReal := h * (g * Ideal.logistic g)

/-- The hidden activation. -/
def act (g u : EReal) : EReal := g * Ideal.logistic g * u

end Cert.Ffn

namespace Cert.KernelIdeal.Block
open Cert.KernelIdeal Cert.KernelIdeal.Gen Cert.Ffn

/-- A row block against one device's columns of a weight. -/
def proj (x0 : FVec Ideal S1024x1024 .bf16) (w : FVec Ideal S1x1024x704 .bf16) (r : Fin 1024) (f : Fin 704) : EReal :=
  ∑ k : Fin 1024, x0 (ix2 r k) * w (ix3 0 k f)

/-- The gradient of the hidden product: the halved incoming gradient against the down weight's rows. -/
def dhid (x1 : FVec Ideal S1024x1024 .bf16) (x4 : FVec Ideal S1x704x1024 .bf16) (r : Fin 1024) (f : Fin 704) : EReal :=
  ∑ d : Fin 1024, x1 (ix2 r d) * half * x4 (ix3 0 f d)

/-- The gate's gradient at a row and a hidden column of the block. -/
def dgateB (x0 x1 : FVec Ideal S1024x1024 .bf16) (x2 x3 : FVec Ideal S1x1024x704 .bf16) (x4 : FVec Ideal S1x704x1024 .bf16)
    (r : Fin 1024) (f : Fin 704) : EReal :=
  dgate (proj x0 x2 r f) (proj x0 x3 r f) (dhid x1 x4 r f)

/-- The up projection's gradient at a row and a hidden column of the block. -/
def dupB (x0 x1 : FVec Ideal S1024x1024 .bf16) (x2 : FVec Ideal S1x1024x704 .bf16) (x4 : FVec Ideal S1x704x1024 .bf16)
    (r : Fin 1024) (f : Fin 704) : EReal :=
  dup (proj x0 x2 r f) (dhid x1 x4 r f)

/-- One row block's share of the gate weight's gradient. -/
def dwgB (x0 x1 : FVec Ideal S1024x1024 .bf16) (x2 x3 : FVec Ideal S1x1024x704 .bf16) (x4 : FVec Ideal S1x704x1024 .bf16)
    (k : Fin 1024) (f : Fin 704) : EReal :=
  ∑ r : Fin 1024, x0 (ix2 r k) * dgateB x0 x1 x2 x3 x4 r f

/-- One row block's share of the up weight's gradient. -/
def dwuB (x0 x1 : FVec Ideal S1024x1024 .bf16) (x2 : FVec Ideal S1x1024x704 .bf16) (x4 : FVec Ideal S1x704x1024 .bf16)
    (k : Fin 1024) (f : Fin 704) : EReal :=
  ∑ r : Fin 1024, x0 (ix2 r k) * dupB x0 x1 x2 x4 r f

/-- One row block's share of the down weight's gradient. -/
def dwdB (x0 x1 : FVec Ideal S1024x1024 .bf16) (x2 x3 : FVec Ideal S1x1024x704 .bf16)
    (f : Fin 704) (d : Fin 1024) : EReal :=
  ∑ r : Fin 1024, act (proj x0 x2 r f) (proj x0 x3 r f) * (x1 (ix2 r d) * half)

end Cert.KernelIdeal.Block
-- ==== Proof.Ffn.Points.lean ====
module

public import proofs.«01_k».proof.Proof.Ffn.Block
public import proofs.«01_k».proof.Proof.Gen.KernelIdeal.Frame
public import Idealize.ShloMosaic.Lib.Pipeline.ValueKit
public import Idealize.ShloMosaic.Lib.Pipeline.ReadBack
set_option maxRecDepth 16384

/-! What the weight-gradient call leaves at each grid point, as the formulas of `Block`: the two
    gradients it stores at every point, and the three accumulators (set at the first row block of a
    shard, added to at the others, written out at the last). -/

@[expose] public noncomputable section
open Idealize.ShloMosaic Idealize.ShloMosaic.TcCoe Idealize.SL.Sem
open Idealize.ShloMosaic.Pipeline (Dat)

namespace Cert.KernelIdeal.Block
open Cert.KernelIdeal Cert.KernelIdeal.Gen Cert.Ffn
variable (m : (ℓ : Loc nD τ sig) → Buf (Elt Ideal) ℓ)

/-- The gate gradient stored at the first row block of a shard. -/
theorem dgate_A (c : Dev nD) (t : Fin cfg0.N) (ca : t.val % 8 = 0) (cb : ¬1 ≤ t.val % 8) (cc : ¬t.val % 8 = 7) (y : S1x1024x704.Idx) :
    (outsAt0 m c t.val t.isLt).1 y = dgateB (iblk m c 0 t) (iblk m c 1 t) (iblk m c 2 t) (iblk m c 3 t) (iblk m c 4 t) (y 1) (y 2) := by
  rw [outsAt0_A m c t ca cb cc]
  frame_out
  canon_tiles x h using View.cover_of_tiledBy _ ![1, 1024, 64] (by sl_kernel_rfl) _
  all_goals (open_payloads; idx_vars x; rw [show y 1 = ⟨_, _⟩ from Fin.ext h1, show y 2 = ⟨_, _⟩ from Fin.ext h2]; pointwise [dgateB, dgate, proj, dhid, half_bf16]; first | done | (show _ < _; dsimp [Shape.size]; omega) | exact Nat.lt_of_lt_of_le (Fin.isLt _) (by decide))

/-- The gate gradient stored at a middle row block. -/
theorem dgate_B (c : Dev nD) (t : Fin cfg0.N) (ca : ¬t.val % 8 = 0) (cb : 1 ≤ t.val % 8) (cc : ¬t.val % 8 = 7) (y : S1x1024x704.Idx) :
    (outsAt0 m c t.val t.isLt).1 y = dgateB (iblk m c 0 t) (iblk m c 1 t) (iblk m c 2 t) (iblk m c 3 t) (iblk m c 4 t) (y 1) (y 2) := by
  rw [outsAt0_B m c t ca cb cc]
  frame_out
  canon_tiles x h using View.cover_of_tiledBy _ ![1, 1024, 64] (by sl_kernel_rfl) _
  all_goals (open_payloads; idx_vars x; rw [show y 1 = ⟨_, _⟩ from Fin.ext h1, show y 2 = ⟨_, _⟩ from Fin.ext h2]; pointwise [dgateB, dgate, proj, dhid, half_bf16]; first | done | (show _ < _; dsimp [Shape.size]; omega) | exact Nat.lt_of_lt_of_le (Fin.isLt _) (by decide))

/-- The gate gradient stored at the last row block. -/
theorem dgate_C (c : Dev nD) (t : Fin cfg0.N) (ca : ¬t.val % 8 = 0) (cb : 1 ≤ t.val % 8) (cc : t.val % 8 = 7) (y : S1x1024x704.Idx) :
    (outsAt0 m c t.val t.isLt).1 y = dgateB (iblk m c 0 t) (iblk m c 1 t) (iblk m c 2 t) (iblk m c 3 t) (iblk m c 4 t) (y 1) (y 2) := by
  rw [outsAt0_C m c t ca cb cc]
  frame_out
  canon_tiles x h using View.cover_of_tiledBy _ ![1, 1024, 64] (by sl_kernel_rfl) _
  all_goals (open_payloads; idx_vars x; rw [show y 1 = ⟨_, _⟩ from Fin.ext h1, show y 2 = ⟨_, _⟩ from Fin.ext h2]; pointwise [dgateB, dgate, proj, dhid, half_bf16]; first | done | (show _ < _; dsimp [Shape.size]; omega) | exact Nat.lt_of_lt_of_le (Fin.isLt _) (by decide))

/-- The up gradient stored at the first row block of a shard. -/
theorem dup_A (c : Dev nD) (t : Fin cfg0.N) (ca : t.val % 8 = 0) (cb : ¬1 ≤ t.val % 8) (cc : ¬t.val % 8 = 7) (y : S1x1024x704.Idx) :
    (outsAt0 m c t.val t.isLt).2.1 y = dupB (iblk m c 0 t) (iblk m c 1 t) (iblk m c 2 t) (iblk m c 4 t) (y 1) (y 2) := by
  rw [outsAt0_A m c t ca cb cc]
  frame_out
  canon_tiles x h using View.cover_of_tiledBy _ ![1, 1024, 64] (by sl_kernel_rfl) _
  all_goals (open_payloads; idx_vars x; rw [show y 1 = ⟨_, _⟩ from Fin.ext h1, show y 2 = ⟨_, _⟩ from Fin.ext h2]; pointwise [dupB, dup, proj, dhid, half_bf16]; first | done | (show _ < _; dsimp [Shape.size]; omega) | exact Nat.lt_of_lt_of_le (Fin.isLt _) (by decide))

/-- The up gradient stored at a middle row block. -/
theorem dup_B (c : Dev nD) (t : Fin cfg0.N) (ca : ¬t.val % 8 = 0) (cb : 1 ≤ t.val % 8) (cc : ¬t.val % 8 = 7) (y : S1x1024x704.Idx) :
    (outsAt0 m c t.val t.isLt).2.1 y = dupB (iblk m c 0 t) (iblk m c 1 t) (iblk m c 2 t) (iblk m c 4 t) (y 1) (y 2) := by
  rw [outsAt0_B m c t ca cb cc]
  frame_out
  canon_tiles x h using View.cover_of_tiledBy _ ![1, 1024, 64] (by sl_kernel_rfl) _
  all_goals (open_payloads; idx_vars x; rw [show y 1 = ⟨_, _⟩ from Fin.ext h1, show y 2 = ⟨_, _⟩ from Fin.ext h2]; pointwise [dupB, dup, proj, dhid, half_bf16]; first | done | (show _ < _; dsimp [Shape.size]; omega) | exact Nat.lt_of_lt_of_le (Fin.isLt _) (by decide))

/-- The up gradient stored at the last row block. -/
theorem dup_C (c : Dev nD) (t : Fin cfg0.N) (ca : ¬t.val % 8 = 0) (cb : 1 ≤ t.val % 8) (cc : t.val % 8 = 7) (y : S1x1024x704.Idx) :
    (outsAt0 m c t.val t.isLt).2.1 y = dupB (iblk m c 0 t) (iblk m c 1 t) (iblk m c 2 t) (iblk m c 4 t) (y 1) (y 2) := by
  rw [outsAt0_C m c t ca cb cc]
  frame_out
  canon_tiles x h using View.cover_of_tiledBy _ ![1, 1024, 64] (by sl_kernel_rfl) _
  all_goals (open_payloads; idx_vars x; rw [show y 1 = ⟨_, _⟩ from Fin.ext h1, show y 2 = ⟨_, _⟩ from Fin.ext h2]; pointwise [dupB, dup, proj, dhid, half_bf16]; first | done | (show _ < _; dsimp [Shape.size]; omega) | exact Nat.lt_of_lt_of_le (Fin.isLt _) (by decide))

/-- The gate weight's accumulator after the first row block of a shard. -/
theorem accg_A (c : Dev nD) (t : Fin cfg0.N) (ca : t.val % 8 = 0) (cb : ¬1 ≤ t.val % 8) (cc : ¬t.val % 8 = 7) (y : S1024x704.Idx) :
    (outsAt0 m c t.val t.isLt).2.2.2.2.2.1 y = dwgB (iblk m c 0 t) (iblk m c 1 t) (iblk m c 2 t) (iblk m c 3 t) (iblk m c 4 t) (y 0) (y 1) := by
  rw [outsAt0_A m c t ca cb cc]
  frame_out
  canon_tiles x h using View.cover_of_tiledBy _ ![1024, 64] (by sl_kernel_rfl) _
  all_goals (open_payloads; idx_vars x; rw [show y 0 = ⟨_, _⟩ from Fin.ext h0, show y 1 = ⟨_, _⟩ from Fin.ext h1]; pointwise [dwgB, dgateB, dgate, proj, dhid, half_bf16]; first | done | (show _ < _; dsimp [Shape.size]; omega) | exact Nat.lt_of_lt_of_le (Fin.isLt _) (by decide))

/-- The gate weight's accumulator after a middle row block. -/
theorem accg_B (c : Dev nD) (t : Fin cfg0.N) (ca : ¬t.val % 8 = 0) (cb : 1 ≤ t.val % 8) (cc : ¬t.val % 8 = 7) (y : S1024x704.Idx) :
    (outsAt0 m c t.val t.isLt).2.2.2.2.2.1 y = (outsAt0 m c (t.val - 1) (by omega)).2.2.2.2.2.1 (ix2 (y 0) (y 1)) + dwgB (iblk m c 0 t) (iblk m c 1 t) (iblk m c 2 t) (iblk m c 3 t) (iblk m c 4 t) (y 0) (y 1) := by
  rw [outsAt0_B m c t ca cb cc]
  frame_out
  canon_tiles x h using View.cover_of_tiledBy _ ![1024, 64] (by sl_kernel_rfl) _
  all_goals (open_payloads; idx_vars x; rw [show y 0 = ⟨_, _⟩ from Fin.ext h0, show y 1 = ⟨_, _⟩ from Fin.ext h1]; pointwise [dwgB, dgateB, dgate, proj, dhid, half_bf16, read_unread_whole]; first | done | (show _ < _; dsimp [Shape.size]; omega) | exact Nat.lt_of_lt_of_le (Fin.isLt _) (by decide))

/-- The gate weight's accumulator after the last row block. -/
theorem accg_C (c : Dev nD) (t : Fin cfg0.N) (ca : ¬t.val % 8 = 0) (cb : 1 ≤ t.val % 8) (cc : t.val % 8 = 7) (y : S1024x704.Idx) :
    (outsAt0 m c t.val t.isLt).2.2.2.2.2.1 y = (outsAt0 m c (t.val - 1) (by omega)).2.2.2.2.2.1 (ix2 (y 0) (y 1)) + dwgB (iblk m c 0 t) (iblk m c 1 t) (iblk m c 2 t) (iblk m c 3 t) (iblk m c 4 t) (y 0) (y 1) := by
  rw [outsAt0_C m c t ca cb cc]
  frame_out
  canon_tiles x h using View.cover_of_tiledBy _ ![1024, 64] (by sl_kernel_rfl) _
  all_goals (open_payloads; idx_vars x; rw [show y 0 = ⟨_, _⟩ from Fin.ext h0, show y 1 = ⟨_, _⟩ from Fin.ext h1]; pointwise [dwgB, dgateB, dgate, proj, dhid, half_bf16, read_unread_whole]; first | done | (show _ < _; dsimp [Shape.size]; omega) | exact Nat.lt_of_lt_of_le (Fin.isLt _) (by decide))

/-- What is written out of that accumulator at the last row block is what it then holds. -/
theorem outg (c : Dev nD) (t : Fin cfg0.N) (ca : ¬t.val % 8 = 0) (cb : 1 ≤ t.val % 8) (cc : t.val % 8 = 7) (y : S1x1024x704.Idx) :
    (outsAt0 m c t.val t.isLt).2.2.1 y = (outsAt0 m c t.val t.isLt).2.2.2.2.2.1 (ix2 (y 1) (y 2)) := by
  rw [outsAt0_C m c t ca cb cc]
  frame_out
  rw [View.readCov_eq_canon']
  generalize View.canon (Val := Elt Ideal) (s := S1024x704) (e := .f32) _ = Z
  pointwise [k0_pay16]

/-- The up weight's accumulator after the first row block of a shard. -/
theorem accu_A (c : Dev nD) (t : Fin cfg0.N) (ca : t.val % 8 = 0) (cb : ¬1 ≤ t.val % 8) (cc : ¬t.val % 8 = 7) (y : S1024x704.Idx) :
    (outsAt0 m c t.val t.isLt).2.2.2.2.2.2.1 y = dwuB (iblk m c 0 t) (iblk m c 1 t) (iblk m c 2 t) (iblk m c 4 t) (y 0) (y 1) := by
  rw [outsAt0_A m c t ca cb cc]
  frame_out
  canon_tiles x h using View.cover_of_tiledBy _ ![1024, 64] (by sl_kernel_rfl) _
  all_goals (open_payloads; idx_vars x; rw [show y 0 = ⟨_, _⟩ from Fin.ext h0, show y 1 = ⟨_, _⟩ from Fin.ext h1]; pointwise [dwuB, dupB, dup, proj, dhid, half_bf16]; first | done | (show _ < _; dsimp [Shape.size]; omega) | exact Nat.lt_of_lt_of_le (Fin.isLt _) (by decide))

/-- The up weight's accumulator after a middle row block. -/
theorem accu_B (c : Dev nD) (t : Fin cfg0.N) (ca : ¬t.val % 8 = 0) (cb : 1 ≤ t.val % 8) (cc : ¬t.val % 8 = 7) (y : S1024x704.Idx) :
    (outsAt0 m c t.val t.isLt).2.2.2.2.2.2.1 y = (outsAt0 m c (t.val - 1) (by omega)).2.2.2.2.2.2.1 (ix2 (y 0) (y 1)) + dwuB (iblk m c 0 t) (iblk m c 1 t) (iblk m c 2 t) (iblk m c 4 t) (y 0) (y 1) := by
  rw [outsAt0_B m c t ca cb cc]
  frame_out
  canon_tiles x h using View.cover_of_tiledBy _ ![1024, 64] (by sl_kernel_rfl) _
  all_goals (open_payloads; idx_vars x; rw [show y 0 = ⟨_, _⟩ from Fin.ext h0, show y 1 = ⟨_, _⟩ from Fin.ext h1]; pointwise [dwuB, dupB, dup, proj, dhid, half_bf16, read_unread_whole]; first | done | (show _ < _; dsimp [Shape.size]; omega) | exact Nat.lt_of_lt_of_le (Fin.isLt _) (by decide))

/-- The up weight's accumulator after the last row block. -/
theorem accu_C (c : Dev nD) (t : Fin cfg0.N) (ca : ¬t.val % 8 = 0) (cb : 1 ≤ t.val % 8) (cc : t.val % 8 = 7) (y : S1024x704.Idx) :
    (outsAt0 m c t.val t.isLt).2.2.2.2.2.2.1 y = (outsAt0 m c (t.val - 1) (by omega)).2.2.2.2.2.2.1 (ix2 (y 0) (y 1)) + dwuB (iblk m c 0 t) (iblk m c 1 t) (iblk m c 2 t) (iblk m c 4 t) (y 0) (y 1) := by
  rw [outsAt0_C m c t ca cb cc]
  frame_out
  canon_tiles x h using View.cover_of_tiledBy _ ![1024, 64] (by sl_kernel_rfl) _
  all_goals (open_payloads; idx_vars x; rw [show y 0 = ⟨_, _⟩ from Fin.ext h0, show y 1 = ⟨_, _⟩ from Fin.ext h1]; pointwise [dwuB, dupB, dup, proj, dhid, half_bf16, read_unread_whole]; first | done | (show _ < _; dsimp [Shape.size]; omega) | exact Nat.lt_of_lt_of_le (Fin.isLt _) (by decide))

/-- What is written out of that accumulator at the last row block is what it then holds. -/
theorem outu (c : Dev nD) (t : Fin cfg0.N) (ca : ¬t.val % 8 = 0) (cb : 1 ≤ t.val % 8) (cc : t.val % 8 = 7) (y : S1x1024x704.Idx) :
    (outsAt0 m c t.val t.isLt).2.2.2.1 y = (outsAt0 m c t.val t.isLt).2.2.2.2.2.2.1 (ix2 (y 1) (y 2)) := by
  rw [outsAt0_C m c t ca cb cc]
  frame_out
  rw [View.readCov_eq_canon']
  generalize View.canon (Val := Elt Ideal) (s := S1024x704) (e := .f32) _ = Z
  pointwise [k0_pay17]

/-- The down weight's accumulator after the first row block of a shard. -/
theorem accd_A (c : Dev nD) (t : Fin cfg0.N) (ca : t.val % 8 = 0) (cb : ¬1 ≤ t.val % 8) (cc : ¬t.val % 8 = 7) (y : S704x1024.Idx) :
    (outsAt0 m c t.val t.isLt).2.2.2.2.2.2.2 y = dwdB (iblk m c 0 t) (iblk m c 1 t) (iblk m c 2 t) (iblk m c 3 t) (y 0) (y 1) := by
  rw [outsAt0_A m c t ca cb cc]
  frame_out
  canon_tiles x h using View.cover_of_tiledBy _ ![64, 1024] (by sl_kernel_rfl) _
  all_goals (open_payloads; idx_vars x; rw [show y 0 = ⟨_, _⟩ from Fin.ext h0, show y 1 = ⟨_, _⟩ from Fin.ext h1]; pointwise [dwdB, act, proj, half_bf16]; first | done | (show _ < _; dsimp [Shape.size]; omega) | exact Nat.lt_of_lt_of_le (Fin.isLt _) (by decide))

/-- The down weight's accumulator after a middle row block. -/
theorem accd_B (c : Dev nD) (t : Fin cfg0.N) (ca : ¬t.val % 8 = 0) (cb : 1 ≤ t.val % 8) (cc : ¬t.val % 8 = 7) (y : S704x1024.Idx) :
    (outsAt0 m c t.val t.isLt).2.2.2.2.2.2.2 y = (outsAt0 m c (t.val - 1) (by omega)).2.2.2.2.2.2.2 (ix2 (y 0) (y 1)) + dwdB (iblk m c 0 t) (iblk m c 1 t) (iblk m c 2 t) (iblk m c 3 t) (y 0) (y 1) := by
  rw [outsAt0_B m c t ca cb cc]
  frame_out
  canon_tiles x h using View.cover_of_tiledBy _ ![64, 1024] (by sl_kernel_rfl) _
  all_goals (open_payloads; idx_vars x; rw [show y 0 = ⟨_, _⟩ from Fin.ext h0, show y 1 = ⟨_, _⟩ from Fin.ext h1]; pointwise [dwdB, act, proj, half_bf16, read_unread_whole]; first | done | (show _ < _; dsimp [Shape.size]; omega) | exact Nat.lt_of_lt_of_le (Fin.isLt _) (by decide))

/-- The down weight's accumulator after the last row block. -/
theorem accd_C (c : Dev nD) (t : Fin cfg0.N) (ca : ¬t.val % 8 = 0) (cb : 1 ≤ t.val % 8) (cc : t.val % 8 = 7) (y : S704x1024.Idx) :
    (outsAt0 m c t.val t.isLt).2.2.2.2.2.2.2 y = (outsAt0 m c (t.val - 1) (by omega)).2.2.2.2.2.2.2 (ix2 (y 0) (y 1)) + dwdB (iblk m c 0 t) (iblk m c 1 t) (iblk m c 2 t) (iblk m c 3 t) (y 0) (y 1) := by
  rw [outsAt0_C m c t ca cb cc]
  frame_out
  canon_tiles x h using View.cover_of_tiledBy _ ![64, 1024] (by sl_kernel_rfl) _
  all_goals (open_payloads; idx_vars x; rw [show y 0 = ⟨_, _⟩ from Fin.ext h0, show y 1 = ⟨_, _⟩ from Fin.ext h1]; pointwise [dwdB, act, proj, half_bf16, read_unread_whole]; first | done | (show _ < _; dsimp [Shape.size]; omega) | exact Nat.lt_of_lt_of_le (Fin.isLt _) (by decide))

/-- What is written out of that accumulator at the last row block is what it then holds. -/
theorem outd (c : Dev nD) (t : Fin cfg0.N) (ca : ¬t.val % 8 = 0) (cb : 1 ≤ t.val % 8) (cc : t.val % 8 = 7) (y : S1x704x1024.Idx) :
    (outsAt0 m c t.val t.isLt).2.2.2.2.1 y = (outsAt0 m c t.val t.isLt).2.2.2.2.2.2.2 (ix2 (y 1) (y 2)) := by
  rw [outsAt0_C m c t ca cb cc]
  frame_out
  rw [View.readCov_eq_canon']
  generalize View.canon (Val := Elt Ideal) (s := S704x1024) (e := .f32) _ = Z
  pointwise [k0_pay18]

end Cert.KernelIdeal.Block
-- ==== Proof.Ffn.Ref.lean ====
module

public import proofs.«01_k».proof.Proof.Gen.ReferenceIdeal
public import proofs.«01_k».proof.Proof.Ffn.Block
set_option maxRecDepth 16384

/-! What the reference computes, read at an index: `X` the block's input, `Z` the incoming gradient,
    `WG`, `WU`, `WD` the three weights, all whole. -/

@[expose] public noncomputable section
open Idealize.ShloMosaic Idealize.ShloMosaic.TcCoe Idealize.SL.Sem

namespace Cert.ReferenceIdeal.Ffn
open Cert.ReferenceIdeal Cert.ReferenceIdeal.Gen Cert.Ffn

variable (X Z : FVec Ideal S8192x1024 .f32) (WG WU : FVec Ideal S1024x2816 .f32) (WD : FVec Ideal S2816x1024 .f32)

/-! ## The reference's arrays -/

/-- A projection of the input. -/
def projA (W : FVec Ideal S1024x2816 .f32) : FVec Ideal S8192x2816 .f32 :=
  Host.dotGeneral dot_S8192x1024_S1024x2816_S8192x2816_1_0_0_1_n_n none X W

/-- The halved incoming gradient. -/
def dzA : FVec Ideal S8192x1024 .f32 :=
  mulf (broadcastInDim S8192x1024 ![] bcast_S_S8192x1024 (constant S_ .f32 0x3F000000#32)) Z

/-- The gradient of the hidden product. -/
def dhidA : FVec Ideal S8192x2816 .f32 :=
  Host.dotGeneral dot_S8192x1024_S2816x1024_S8192x2816_1_1_0_0_n_n none (dzA Z) WD

/-- The sigmoid of the gate. -/
def sgA : FVec Ideal S8192x2816 .f32 :=
  Host.divf (broadcastInDim S8192x2816 ![] bcast_S_S8192x2816 (constant S_ .f32 0x3F800000#32))
    (addf (broadcastInDim S8192x2816 ![] bcast_S_S8192x2816 (constant S_ .f32 0x3F800000#32)) (Host.exp (Host.negf (projA X WG))))

/-- The gradient of the gate projection. -/
def dgateA : FVec Ideal S8192x2816 .f32 :=
  addf (mulf (mulf (dhidA Z WD) (projA X WU)) (sgA X WG))
    (mulf (mulf (projA X WG) (mulf (dhidA Z WD) (projA X WU)))
      (mulf (sgA X WG) (subf (broadcastInDim S8192x2816 ![] bcast_S_S8192x2816 (constant S_ .f32 0x3F800000#32)) (sgA X WG))))

/-- The gradient of the up projection. -/
def dupA : FVec Ideal S8192x2816 .f32 := mulf (mulf (projA X WG) (sgA X WG)) (dhidA Z WD)

/-- The hidden activation. -/
def actA : FVec Ideal S8192x2816 .f32 := mulf (mulf (projA X WG) (sgA X WG)) (projA X WU)

/-- An array of hidden columns, cut by device. -/
def cutA (A : FVec Ideal S8192x2816 .f32) : FVec Ideal S4x8192x704 .bf16 :=
  truncf .bf16 (transpose S4x8192x704 [1, 0, 2] (shapeCast _ A shapeCasts_S8192x2816_S8192x4x704)
    transposes_S8192x4x704_S4x8192x704_1_0_2) bitsLt_bf16_f32

/-- The gradient of a projection's weight, cut by device. -/
def dwA (A : FVec Ideal S8192x2816 .f32) : FVec Ideal S4x1024x704 .bf16 :=
  truncf .bf16 (transpose S4x1024x704 [1, 0, 2] (shapeCast _ (transpose S1024x2816 [1, 0]
    (Host.dotGeneral dot_S8192x2816_S8192x1024_S2816x1024_0_0_1_1_n_n none A X) transposes_S2816x1024_S1024x2816_1_0)
    shapeCasts_S1024x2816_S1024x4x704) transposes_S1024x4x704_S4x1024x704_1_0_2) bitsLt_bf16_f32

/-- The gradient of the down weight, cut by device. -/
def dwdA : FVec Ideal S4x704x1024 .bf16 :=
  truncf .bf16 (shapeCast _ (transpose S2816x1024 [1, 0]
    (Host.dotGeneral dot_S8192x1024_S8192x2816_S1024x2816_0_0_1_1_n_n none (dzA Z) (actA X WG WU))
    transposes_S1024x2816_S2816x1024_1_0) shapeCasts_S2816x1024_S4x704x1024) bitsLt_bf16_f32

/-! ## Their entries -/

theorem projA_at (W : FVec Ideal S1024x2816 .f32) (n : Fin 8192) (f : Fin 2816) :
    projA X W (ix2 n f) = ∑ k : Fin 1024, X (ix2 n k) * W (ix2 k f) := by
  pointwise [projA]

theorem dzA_at (n : Fin 8192) (d : Fin 1024) : dzA Z (ix2 n d) = Z (ix2 n d) * half := by
  pointwise [dzA]
  rw [mul_comm]; rfl

theorem dhidA_at (n : Fin 8192) (f : Fin 2816) :
    dhidA Z WD (ix2 n f) = ∑ d : Fin 1024, Z (ix2 n d) * half * WD (ix2 f d) := by
  pointwise [dhidA]
  exact Finset.sum_congr rfl fun d _ => by rw [dzA_at]

theorem sgA_at (n : Fin 8192) (f : Fin 2816) : sgA X WG (ix2 n f) = Ideal.logistic (projA X WG (ix2 n f)) := by
  pointwise [sgA]
  rfl

theorem dgateA_at (n : Fin 8192) (f : Fin 2816) :
    dgateA X Z WG WU WD (ix2 n f)
      = dhidA Z WD (ix2 n f) * projA X WU (ix2 n f) * Ideal.logistic (projA X WG (ix2 n f))
        + projA X WG (ix2 n f) * (dhidA Z WD (ix2 n f) * projA X WU (ix2 n f))
          * (Ideal.logistic (projA X WG (ix2 n f)) * (1 - Ideal.logistic (projA X WG (ix2 n f)))) := by
  rw [← sgA_at]
  pointwise [dgateA]

theorem dupA_at (n : Fin 8192) (f : Fin 2816) :
    dupA X Z WG WD (ix2 n f) = dup (projA X WG (ix2 n f)) (dhidA Z WD (ix2 n f)) := by
  unfold dup
  rw [← sgA_at]
  pointwise [dupA]
  exact mul_comm _ _

theorem actA_at (n : Fin 8192) (f : Fin 2816) :
    actA X WG WU (ix2 n f) = act (projA X WG (ix2 n f)) (projA X WU (ix2 n f)) := by
  unfold act
  rw [← sgA_at]
  pointwise [actA]

/-- Column `f` of device `j` is column `704 j + f` of the whole. -/
theorem cutA_at (A : FVec Ideal S8192x2816 .f32) (j : Fin 4) (n : Fin 8192) (f : Fin 704) :
    cutA A (ix3 j n f) = A (ix2 n ⟨j.val * 704 + f.val, by omega⟩) := by
  pointwise [cutA]

theorem dwA_at (A : FVec Ideal S8192x2816 .f32) (j : Fin 4) (k : Fin 1024) (f : Fin 704) :
    dwA X A (ix3 j k f) = ∑ n : Fin 8192, X (ix2 n k) * A (ix2 n ⟨j.val * 704 + f.val, by omega⟩) := by
  pointwise [dwA]
  exact Finset.sum_congr rfl fun n _ => mul_comm _ _

theorem dwdA_at (j : Fin 4) (f : Fin 704) (d : Fin 1024) :
    dwdA X Z WG WU (ix3 j f d)
      = ∑ n : Fin 8192, act (projA X WG (ix2 n ⟨j.val * 704 + f.val, by omega⟩)) (projA X WU (ix2 n ⟨j.val * 704 + f.val, by omega⟩))
          * (Z (ix2 n d) * half) := by
  pointwise [dwdA]
  exact Finset.sum_congr rfl fun n _ => by rw [dzA_at, actA_at, mul_comm]

end Cert.ReferenceIdeal.Ffn
-- ==== Proof.Ffn.Real.lean ====
module

public import proofs.«01_k».proof.Proof.Ffn.Block

/-! The one identity of the feed-forward backward that is not a rearrangement of sums: the two ways of
    writing the gate's gradient agree wherever the gradient that arrives at the gate is finite. -/

@[expose] public noncomputable section
open Idealize.ShloMosaic

namespace Cert.Ffn

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sum {ι : Type} [DecidableEq ι] (s : Finset ι) (f : ι → EReal) (h : ∀ i, IsReal (f i)) : IsReal (∑ i ∈ s, f i) := by
  induction s using Finset.induction_on with
  | empty => exact ⟨0, by simp⟩
  | insert a s ha ih => rw [Finset.sum_insert ha]; exact (h a).add ih

theorem isReal_half : IsReal half := ⟨1 / 2, half_eq⟩

/-- An extended real whose absolute value is below the infinity is a real number. -/
theorem isReal_of_abs_lt {x : EReal} (h : max x (-x) < ⊤) : IsReal x := by
  induction x with
  | bot => simp at h
  | coe r => exact ⟨r, rfl⟩
  | top => simp at h

/-- The gradient through a swish gate: differentiated factor by factor (left, the reference) it is the
    single product the kernel computes (right), whenever the arriving gradient `c` is a real number. -/
theorem gate_eq (g c : EReal) (hc : IsReal c) :
    c * Ideal.logistic g + g * c * (Ideal.logistic g * (1 - Ideal.logistic g))
      = c * (Ideal.logistic g * (1 + g * (1 - Ideal.logistic g))) := by
  obtain ⟨r, rfl⟩ := hc
  have e : (1 : EReal) - 1 = 0 := by rw [← EReal.coe_one, ← EReal.coe_sub]; simp
  induction g with
  | bot => simp
  | top => simp [e]
  | coe a =>
    rw [Ideal.logistic_coe]
    generalize (1 + Real.exp (-a))⁻¹ = s
    norm_cast
    ring_nf

end Cert.Ffn
-- ==== Proof.Ffn.Blocks.lean ====
module

public import proofs.«01_k».proof.Proof.Ffn.Points
public import proofs.«01_k».proof.Proof.Ffn.Ref
public import proofs.«01_k».proof.Proof.Ffn.Real
public import Idealize.ShloMosaic.Lib.Claim
set_option maxRecDepth 16384

/-! Point `t = 8 j + i` of the weight-gradient call works on device column block `j` and row block `i`:
    its blocks are entries of the whole arrays, and so are the products formed from them. -/

@[expose] public noncomputable section
open Idealize.ShloMosaic Idealize.ShloMosaic.TcCoe Idealize.SL.Sem
open Idealize.ShloMosaic.Pipeline (Dat)

namespace Cert.KernelIdeal.Block
open Cert.KernelIdeal Cert.KernelIdeal.Gen Cert.Ffn
variable (m : (ℓ : Loc nD τ sig) → Buf (Elt Ideal) ℓ)

/-- The block input, the incoming gradient and the three weights, as device `c` is given them. -/
abbrev aX (c : Dev nD) : FVec Ideal S8192x1024 .f32 := m ((c : Thread nD τ).loc main_arg0)
abbrev aZ (c : Dev nD) : FVec Ideal S8192x1024 .f32 := m ((c : Thread nD τ).loc main_arg1)
abbrev aG (c : Dev nD) : FVec Ideal S1024x2816 .f32 := m ((c : Thread nD τ).loc main_arg2)
abbrev aU (c : Dev nD) : FVec Ideal S1024x2816 .f32 := m ((c : Thread nD τ).loc main_arg3)
abbrev aD (c : Dev nD) : FVec Ideal S2816x1024 .f32 := m ((c : Thread nD τ).loc main_arg4)

theorem idx : ∀ t : Fin cfg0.N, win0_0.index t = ![t.val % 8, 0] ∧ win0_1.index t = ![t.val % 8, 0]
    ∧ win0_2.index t = ![t.val / 8, 0, 0] ∧ win0_3.index t = ![t.val / 8, 0, 0] ∧ win0_4.index t = ![t.val / 8, 0, 0]
    ∧ win0_5.index t = ![t.val / 8, t.val % 8, 0] ∧ win0_6.index t = ![t.val / 8, t.val % 8, 0]
    ∧ win0_7.index t = ![t.val / 8, 0, 0] ∧ win0_8.index t = ![t.val / 8, 0, 0] ∧ win0_9.index t = ![t.val / 8, 0, 0] :=
  (by decide +kernel : ∀ t : Fin grid0.N, _)

theorem x_at (c : Dev nD) (t : Fin cfg0.N) (r k : Fin 1024) (n : Fin 8192) (hn : n.val = t.val % 8 * 1024 + r.val) :
    iblk m c 0 t (ix2 r k) = aX m c (ix2 n k) := by
  blk_simp [iblk, V, idx t]; entry_read; pointwise; blk_ext [idx t]

theorem z_at (c : Dev nD) (t : Fin cfg0.N) (r k : Fin 1024) (n : Fin 8192) (hn : n.val = t.val % 8 * 1024 + r.val) :
    iblk m c 1 t (ix2 r k) = aZ m c (ix2 n k) := by
  blk_simp [iblk, V, idx t]; entry_read; pointwise; blk_ext [idx t]

theorem g_at (c : Dev nD) (t : Fin cfg0.N) (k : Fin 1024) (f : Fin 704) (q : Fin 2816) (hq : q.val = t.val / 8 * 704 + f.val) :
    iblk m c 2 t (ix3 0 k f) = aG m c (ix2 k q) := by
  blk_simp [iblk, V, idx t]; entry_read; pointwise; blk_ext [idx t]

theorem u_at (c : Dev nD) (t : Fin cfg0.N) (k : Fin 1024) (f : Fin 704) (q : Fin 2816) (hq : q.val = t.val / 8 * 704 + f.val) :
    iblk m c 3 t (ix3 0 k f) = aU m c (ix2 k q) := by
  blk_simp [iblk, V, idx t]; entry_read; pointwise; blk_ext [idx t]

theorem d_at (c : Dev nD) (t : Fin cfg0.N) (f : Fin 704) (k : Fin 1024) (q : Fin 2816) (hq : q.val = t.val / 8 * 704 + f.val) :
    iblk m c 4 t (ix3 0 f k) = aD m c (ix2 q k) := by
  blk_simp [iblk, V, idx t]; entry_read; pointwise; blk_ext [idx t]

open Cert.ReferenceIdeal.Ffn (projA dzA dhidA dgateA dupA actA)

theorem projg_at (c : Dev nD) (t : Fin cfg0.N) (r : Fin 1024) (f : Fin 704) (n : Fin 8192) (q : Fin 2816)
    (hn : n.val = t.val % 8 * 1024 + r.val) (hq : q.val = t.val / 8 * 704 + f.val) :
    proj (iblk m c 0 t) (iblk m c 2 t) r f = projA (aX m c) (aG m c) (ix2 n q) := by
  rw [Cert.ReferenceIdeal.Ffn.projA_at]
  exact Finset.sum_congr rfl fun k _ => by rw [x_at m c t r k n hn, g_at m c t k f q hq]

theorem proju_at (c : Dev nD) (t : Fin cfg0.N) (r : Fin 1024) (f : Fin 704) (n : Fin 8192) (q : Fin 2816)
    (hn : n.val = t.val % 8 * 1024 + r.val) (hq : q.val = t.val / 8 * 704 + f.val) :
    proj (iblk m c 0 t) (iblk m c 3 t) r f = projA (aX m c) (aU m c) (ix2 n q) := by
  rw [Cert.ReferenceIdeal.Ffn.projA_at]
  exact Finset.sum_congr rfl fun k _ => by rw [x_at m c t r k n hn, u_at m c t k f q hq]

theorem dhid_at (c : Dev nD) (t : Fin cfg0.N) (r : Fin 1024) (f : Fin 704) (n : Fin 8192) (q : Fin 2816)
    (hn : n.val = t.val % 8 * 1024 + r.val) (hq : q.val = t.val / 8 * 704 + f.val) :
    dhid (iblk m c 1 t) (iblk m c 4 t) r f = dhidA (aZ m c) (aD m c) (ix2 n q) := by
  rw [Cert.ReferenceIdeal.Ffn.dhidA_at]
  exact Finset.sum_congr rfl fun k _ => by rw [z_at m c t r k n hn, d_at m c t f k q hq]

/-- What the precondition gives: the input, the incoming gradient, the up weight and the down weight hold real numbers. -/
def Fin4 (c : Dev nD) : Prop :=
  (∀ i, IsReal (aX m c i)) ∧ (∀ i, IsReal (aZ m c i)) ∧ (∀ i, IsReal (aU m c i)) ∧ ∀ i, IsReal (aD m c i)

theorem real_arriving (c : Dev nD) (H : Fin4 m c) (n : Fin 8192) (q : Fin 2816) :
    IsReal (dhidA (aZ m c) (aD m c) (ix2 n q) * projA (aX m c) (aU m c) (ix2 n q)) := by
  rw [Cert.ReferenceIdeal.Ffn.projA_at, Cert.ReferenceIdeal.Ffn.dhidA_at]
  exact (IsReal.sum _ _ fun d => ((H.2.1 _).mul isReal_half).mul (H.2.2.2 _)).mul
    (IsReal.sum _ _ fun k => (H.1 _).mul (H.2.2.1 _))

theorem dgateB_at (c : Dev nD) (H : Fin4 m c) (t : Fin cfg0.N) (r : Fin 1024) (f : Fin 704) (n : Fin 8192) (q : Fin 2816)
    (hn : n.val = t.val % 8 * 1024 + r.val) (hq : q.val = t.val / 8 * 704 + f.val) :
    dgateB (iblk m c 0 t) (iblk m c 1 t) (iblk m c 2 t) (iblk m c 3 t) (iblk m c 4 t) r f
      = dgateA (aX m c) (aZ m c) (aG m c) (aU m c) (aD m c) (ix2 n q) := by
  unfold dgateB dgate
  rw [projg_at m c t r f n q hn hq, proju_at m c t r f n q hn hq, dhid_at m c t r f n q hn hq,
    Cert.ReferenceIdeal.Ffn.dgateA_at, gate_eq _ _ (real_arriving m c H n q)]

theorem dupB_at (c : Dev nD) (t : Fin cfg0.N) (r : Fin 1024) (f : Fin 704) (n : Fin 8192) (q : Fin 2816)
    (hn : n.val = t.val % 8 * 1024 + r.val) (hq : q.val = t.val / 8 * 704 + f.val) :
    dupB (iblk m c 0 t) (iblk m c 1 t) (iblk m c 2 t) (iblk m c 4 t) r f
      = dupA (aX m c) (aZ m c) (aG m c) (aD m c) (ix2 n q) := by
  unfold dupB
  rw [projg_at m c t r f n q hn hq, dhid_at m c t r f n q hn hq, Cert.ReferenceIdeal.Ffn.dupA_at]

end Cert.KernelIdeal.Block
-- ==== Proof.Ffn.Arrays.lean ====
module

public import proofs.«01_k».proof.Proof.Ffn.Blocks
set_option maxRecDepth 16384

/-! The five result arrays of the weight-gradient call after its whole grid, as the reference's arrays. -/

@[expose] public noncomputable section
open Idealize.ShloMosaic Idealize.ShloMosaic.TcCoe Idealize.SL.Sem
open Idealize.ShloMosaic.Pipeline (Dat)

namespace Cert.KernelIdeal.Block
open Cert.KernelIdeal Cert.KernelIdeal.Gen Cert.Ffn
open Cert.ReferenceIdeal.Ffn (projA dzA dhidA dgateA dupA actA cutA dwA dwdA cutA_at dwA_at dwdA_at)
variable (m : (ℓ : Loc nD τ sig) → Buf (Elt Ideal) ℓ)

/-- The gate gradient stored at any point. -/
theorem dgate_point (c : Dev nD) (t : Fin cfg0.N) (y : S1x1024x704.Idx) :
    (outsAt0 m c t.val t.isLt).1 y
      = dgateB (iblk m c 0 t) (iblk m c 1 t) (iblk m c 2 t) (iblk m c 3 t) (iblk m c 4 t) (y 1) (y 2) := by
  by_cases ca : t.val % 8 = 0
  · exact dgate_A m c t ca (by omega) (by omega) y
  · by_cases cc : t.val % 8 = 7
    · exact dgate_C m c t ca (by omega) cc y
    · exact dgate_B m c t ca (by omega) cc y

/-- The up gradient stored at any point. -/
theorem dup_point (c : Dev nD) (t : Fin cfg0.N) (y : S1x1024x704.Idx) :
    (outsAt0 m c t.val t.isLt).2.1 y
      = dupB (iblk m c 0 t) (iblk m c 1 t) (iblk m c 2 t) (iblk m c 4 t) (y 1) (y 2) := by
  by_cases ca : t.val % 8 = 0
  · exact dup_A m c t ca (by omega) (by omega) y
  · by_cases cc : t.val % 8 = 7
    · exact dup_C m c t ca (by omega) cc y
    · exact dup_B m c t ca (by omega) cc y

theorem lt32 (t : Fin cfg0.N) : t.val < 32 := lt_of_lt_of_eq t.isLt N_0

/-- Where a block of result 1 lies in its array. -/
theorem emb5 (t : Fin cfg0.N) (y : S1x1024x704.Idx) :
    (win0_5.blk t).view.emb y = ix3 (⟨t.val / 8, by have := lt32 t; omega⟩ : Fin 4) (⟨t.val % 8 * 1024 + (y 1).val, by have : (y 1).val < 1024 := (y 1).isLt; omega⟩ : Fin 8192) (y 2) := by
  idx_vars y
  blk_ext [idx t]

/-- Where a block of result 2 lies in its array. -/
theorem emb6 (t : Fin cfg0.N) (y : S1x1024x704.Idx) :
    (win0_6.blk t).view.emb y = ix3 (⟨t.val / 8, by have := lt32 t; omega⟩ : Fin 4) (⟨t.val % 8 * 1024 + (y 1).val, by have : (y 1).val < 1024 := (y 1).isLt; omega⟩ : Fin 8192) (y 2) := by
  idx_vars y
  blk_ext [idx t]

/-- Where a block of result 3 lies in its array. -/
theorem emb7 (t : Fin cfg0.N) (y : S1x1024x704.Idx) :
    (win0_7.blk t).view.emb y = ix3 (⟨t.val / 8, by have := lt32 t; omega⟩ : Fin 4) (y 1) (y 2) := by
  idx_vars y
  blk_ext [idx t]

/-- Where a block of result 4 lies in its array. -/
theorem emb8 (t : Fin cfg0.N) (y : S1x1024x704.Idx) :
    (win0_8.blk t).view.emb y = ix3 (⟨t.val / 8, by have := lt32 t; omega⟩ : Fin 4) (y 1) (y 2) := by
  idx_vars y
  blk_ext [idx t]

/-- Where a block of result 5 lies in its array. -/
theorem emb9 (t : Fin cfg0.N) (y : S1x704x1024.Idx) :
    (win0_9.blk t).view.emb y = ix3 (⟨t.val / 8, by have := lt32 t; omega⟩ : Fin 4) (y 1) (y 2) := by
  idx_vars y
  blk_ext [idx t]

/-- The first result is the gate projection's gradient, cut by device. -/
theorem final5 (c : Dev nD) (H : Fin4 m c) : (dats m 0 c).arrAt 5 cfg0.N
    = cutA (dgateA (aX m c) (aZ m c) (aG m c) (aU m c) (aD m c)) := by
  refine (dats m 0 c).arrAt_eq_of_covers 5 _ (by decide +kernel) fun t hf y => ?_
  blk_simp
  rw [after0_5, dgate_point m c t y]
  exact (dgateB_at m c H t _ _ _ _ rfl rfl).trans ((cutA_at _ _ _ _).symm.trans (congrArg _ (emb5 t y).symm))

/-- The second result is the up projection's gradient, cut by device. -/
theorem final6 (c : Dev nD) : (dats m 0 c).arrAt 6 cfg0.N
    = cutA (dupA (aX m c) (aZ m c) (aG m c) (aD m c)) := by
  refine (dats m 0 c).arrAt_eq_of_covers 6 _ (by decide +kernel) fun t hf y => ?_
  blk_simp
  rw [after0_6, dup_point m c t y]
  exact (dupB_at m c t _ _ _ _ rfl rfl).trans ((cutA_at _ _ _ _).symm.trans (congrArg _ (emb6 t y).symm))

/-- The third result is the gate weight's gradient, cut by device. -/
theorem final7 (c : Dev nD) (H : Fin4 m c) : (dats m 0 c).arrAt 7 cfg0.N
    = dwA (aX m c) (dgateA (aX m c) (aZ m c) (aG m c) (aU m c) (aD m c)) := by
  refine (dats m 0 c).arrAt_eq_of_covers 7 _ (by decide +kernel) fun t hf y => ?_
  blk_simp
  have ct := (flush0_7 t).mp hf
  rw [after0_7, outg m c t (by omega) (by omega) ct y,
    Pipeline.eq_sum_fin_of_reset_step_apply_of_flush (fun n h => (outsAt0 m c n h).2.2.2.2.2.1) 8 (fun _ => 0)
      (fun p i => dwgB (iblk m c 0 p) (iblk m c 1 p) (iblk m c 2 p) (iblk m c 3 p) (iblk m c 4 p) (i 0) (i 1))
      (fun p h i => by rw [accg_A m c p h (by omega) (by omega) i, zero_add])
      (fun p h i => by
        by_cases cc : p.val % 8 = 7
        · rw [accg_C m c p h (by omega) cc i, ix2_eta]
        · rw [accg_B m c p h (by omega) cc i, ix2_eta]) t ct _, zero_add]
  refine Eq.trans ?_ (congrArg _ (emb7 t y).symm)
  refine Eq.trans ?_ (dwA_at _ _ _ _ _).symm
  refine Fin.sum_mul_add_congr fun s r hr => ?_
  have hp := Pipeline.run_point_lt_of_flush t ct s
  have e8 : (8 * (t.val / 8) + s.val) % 8 = s.val := by omega
  have ed : (8 * (t.val / 8) + s.val) / 8 = t.val / 8 := by omega
  exact congrArg₂ (· * ·) (x_at m c ⟨8 * (t.val / 8) + s.val, hp⟩ _ _ _ (by dsimp only; omega)) (dgateB_at m c H ⟨8 * (t.val / 8) + s.val, hp⟩ _ _ _ _ (by dsimp only; omega) (congrArg (fun a => a * 704 + (y 2).val) ed.symm))

/-- The fourth result is the up weight's gradient, cut by device. -/
theorem final8 (c : Dev nD) : (dats m 0 c).arrAt 8 cfg0.N
    = dwA (aX m c) (dupA (aX m c) (aZ m c) (aG m c) (aD m c)) := by
  refine (dats m 0 c).arrAt_eq_of_covers 8 _ (by decide +kernel) fun t hf y => ?_
  blk_simp
  have ct := (flush0_8 t).mp hf
  rw [after0_8, outu m c t (by omega) (by omega) ct y,
    Pipeline.eq_sum_fin_of_reset_step_apply_of_flush (fun n h => (outsAt0 m c n h).2.2.2.2.2.2.1) 8 (fun _ => 0)
      (fun p i => dwuB (iblk m c 0 p) (iblk m c 1 p) (iblk m c 2 p) (iblk m c 4 p) (i 0) (i 1))
      (fun p h i => by rw [accu_A m c p h (by omega) (by omega) i, zero_add])
      (fun p h i => by
        by_cases cc : p.val % 8 = 7
        · rw [accu_C m c p h (by omega) cc i, ix2_eta]
        · rw [accu_B m c p h (by omega) cc i, ix2_eta]) t ct _, zero_add]
  refine Eq.trans ?_ (congrArg _ (emb8 t y).symm)
  refine Eq.trans ?_ (dwA_at _ _ _ _ _).symm
  refine Fin.sum_mul_add_congr fun s r hr => ?_
  have hp := Pipeline.run_point_lt_of_flush t ct s
  have e8 : (8 * (t.val / 8) + s.val) % 8 = s.val := by omega
  have ed : (8 * (t.val / 8) + s.val) / 8 = t.val / 8 := by omega
  exact congrArg₂ (· * ·) (x_at m c ⟨8 * (t.val / 8) + s.val, hp⟩ _ _ _ (by dsimp only; omega)) (dupB_at m c ⟨8 * (t.val / 8) + s.val, hp⟩ _ _ _ _ (by dsimp only; omega) (congrArg (fun a => a * 704 + (y 2).val) ed.symm))

/-- The fifth result is the down weight's gradient, cut by device. -/
theorem final9 (c : Dev nD) : (dats m 0 c).arrAt 9 cfg0.N
    = dwdA (aX m c) (aZ m c) (aG m c) (aU m c) := by
  refine (dats m 0 c).arrAt_eq_of_covers 9 _ (by decide +kernel) fun t hf y => ?_
  blk_simp
  have ct := (flush0_9 t).mp hf
  rw [after0_9, outd m c t (by omega) (by omega) ct y,
    Pipeline.eq_sum_fin_of_reset_step_apply_of_flush (fun n h => (outsAt0 m c n h).2.2.2.2.2.2.2) 8 (fun _ => 0)
      (fun p i => dwdB (iblk m c 0 p) (iblk m c 1 p) (iblk m c 2 p) (iblk m c 3 p) (i 0) (i 1))
      (fun p h i => by rw [accd_A m c p h (by omega) (by omega) i, zero_add])
      (fun p h i => by
        by_cases cc : p.val % 8 = 7
        · rw [accd_C m c p h (by omega) cc i, ix2_eta]
        · rw [accd_B m c p h (by omega) cc i, ix2_eta]) t ct _, zero_add]
  refine Eq.trans ?_ (congrArg _ (emb9 t y).symm)
  refine Eq.trans ?_ (dwdA_at _ _ _ _ _ _ _).symm
  refine Fin.sum_mul_add_congr fun s r hr => ?_
  have hp := Pipeline.run_point_lt_of_flush t ct s
  have e8 : (8 * (t.val / 8) + s.val) % 8 = s.val := by omega
  have ed : (8 * (t.val / 8) + s.val) / 8 = t.val / 8 := by omega
  exact congrArg₂ (· * ·) (congrArg₂ act (projg_at m c ⟨8 * (t.val / 8) + s.val, hp⟩ _ _ _ _ (by dsimp only; omega) (congrArg (fun a => a * 704 + (y 1).val) ed.symm)) (proju_at m c ⟨8 * (t.val / 8) + s.val, hp⟩ _ _ _ _ (by dsimp only; omega) (congrArg (fun a => a * 704 + (y 1).val) ed.symm)))
    (congrArg (· * half) (z_at m c ⟨8 * (t.val / 8) + s.val, hp⟩ _ _ _ (by dsimp only; omega)))

end Cert.KernelIdeal.Block
-- ==== Proof.Ffn.Pre.lean ====
module

public import proofs.«01_k».proof.Defs
public import proofs.«01_k».proof.Proof.Gen.Pre_finite
public import proofs.«01_k».proof.Proof.Ffn.Blocks
public import Idealize.ShloMosaic.Lib.ReduceAll
set_option maxRecDepth 16384

/-! The precondition `finite`, read entry by entry: the four arrays it tests hold real numbers. -/

@[expose] public noncomputable section
open Idealize.ShloMosaic Idealize.ShloMosaic.TcCoe Idealize.SL.Sem

namespace Cert.Ffn

instance : Subsingleton Cert.Pre_finite.S_.Idx := ⟨fun a b => funext fun k => k.elim0⟩

/-- The constant the absolute values are compared with is the infinity. -/
theorem inf_bits : Ideal.ofBits .f32 0x7F800000#32 = ⊤ := by
  simp [Ideal.ofBits, Ideal.ieee]

/-- An array all of whose entries compare below the infinity holds real numbers. -/
theorem real_of_all {S : Shape} (A : FVec Ideal S .f32) {ax : List (Fin S.rank)} (h : S.ReducesTo ax Cert.Pre_finite.S_) (hb) (hu) (j : Cert.Pre_finite.S_.Idx)
    (e : Host.reduce IntOp.andi (cmpf .olt (Host.absf A) (broadcastInDim S ![] hb (constant Cert.Pre_finite.S_ .f32 0x7F800000#32)))
      (constantI Cert.Pre_finite.S_ 1 1#1) h hu j = 1#1) (i : S.Idx) : IsReal (A i) := by
  have h1 := Host.reduce_andi_all _ _ h hu j e i
  have h2 : BitVec.ofBool (decide (max (A i) (-(A i)) < Ideal.ofBits .f32 0x7F800000#32)) = 1#1 := h1
  rw [inf_bits] at h2
  exact isReal_of_abs_lt (of_decide_eq_true (by revert h2; cases decide (max (A i) (-(A i)) < ⊤) <;> simp))

end Cert.Ffn

namespace Cert.KernelIdeal.Block
open Cert.KernelIdeal Cert.KernelIdeal.Gen Cert.Ffn

/-- Under `finite` the block input, the incoming gradient, the up weight and the down weight are real on every device. -/
theorem fin4_of_pre (m : (ℓ : Loc nD τ sig) → Buf (Elt Ideal) ℓ) (h : Cert.Pre_KernelIdeal_finite m) (c : Dev nD) : Fin4 m c := by
  have e := congrFun (h c) (fun k => k.elim0)
  obtain ⟨e, e4⟩ := IntOp.andi_eq_one.1 e
  obtain ⟨e, e3⟩ := IntOp.andi_eq_one.1 e
  obtain ⟨e0, e1⟩ := IntOp.andi_eq_one.1 e
  exact ⟨real_of_all _ _ _ _ _ e0, real_of_all _ _ _ _ _ e1, real_of_all _ _ _ _ _ e3, real_of_all _ _ _ _ _ e4⟩

end Cert.KernelIdeal.Block
-- ==== Proof.Ffn.Input.lean ====
module

public import proofs.«01_k».proof.Proof.Gen.Kernel2Ideal.Frame
public import proofs.«01_k».proof.Proof.Gen.Reference2Ideal
public import Idealize.ShloMosaic.Lib.Pointwise
public import Idealize.ShloMosaic.Lib.IdealHost
public import Idealize.ShloMosaic.Lib.Pipeline.ValueKit
public import Idealize.ShloMosaic.Lib.Pipeline.ReadBack
public import Idealize.ShloMosaic.Lib.Claim
set_option maxRecDepth 16384

/-! The feed-forward block's input gradient. The call is given the gradients of the gate and up projections and the
    two weights, all cut in four shards of 704 hidden columns, and the gradient that arrives at the block's output;
    each grid point forms 512 rows of the result, adding the shards' products one after the other. -/

@[expose] public noncomputable section
open Idealize.ShloMosaic Idealize.ShloMosaic.TcCoe Idealize.SL.Sem
open Idealize.ShloMosaic.Pipeline (Dat)

namespace Cert.Kernel2Ideal.Block
open Cert.Kernel2Ideal Cert.Kernel2Ideal.Gen
variable (m : (ℓ : Loc nD τ sig) → Buf (Elt Ideal) ℓ)

/-- Which blocks a grid point works on: its own 512 rows, and the whole weights. -/
theorem idx : ∀ t : Fin cfg0.N, win0_0.index t = ![0, t.val, 0] ∧ win0_1.index t = ![0, t.val, 0]
    ∧ win0_2.index t = ![0, 0, 0] ∧ win0_3.index t = ![0, 0, 0] ∧ win0_4.index t = ![t.val, 0]
    ∧ win0_5.index t = ![t.val, 0] :=
  (by decide +kernel : ∀ t : Fin grid0.N, _)

/-- The constant that the residual branch is scaled by, as the word the programs hold. -/
def c0 : EReal := Ideal.ofBits .f32 0x3FB504F3#32

/-- One shard's product: a row of the gradient against a row of the weight. -/
def part (x0 : FVec Ideal S4x512x704 .bf16) (w : FVec Ideal S4x1024x704 .bf16) (j : Fin 4) (r : Fin 512) (d : Fin 1024) : EReal :=
  ∑ f : Fin 704, x0 (ix3 j r f) * w (ix3 j d f)

/-- What a grid point stores: the scaled incoming gradient and both products of every shard. -/
theorem point (x0 x1 : FVec Ideal S4x512x704 .bf16) (x2 x3 : FVec Ideal S4x1024x704 .bf16) (x4 : FVec Ideal S512x1024 .f32)
    (y : S512x1024.Idx) : out0_5 (F := Ideal) x0 x1 x2 x3 x4 y = c0 * x4 (ix2 (y 0) (y 1)) + ∑ j : Fin 4, (part x0 x2 j (y 0) (y 1) + part x1 x3 j (y 0) (y 1)) := by
  unfold out0_5
  canon_tiles x h
  all_goals (open_payloads; idx_vars x; rw [show y 0 = ⟨_, _⟩ from Fin.ext h0, show y 1 = ⟨_, _⟩ from Fin.ext h1]; pointwise [part, c0, Fin.sum_univ_four, k0_pay1, k0_pay2])
  simp only [add_assoc]

/-- The block's input, the incoming gradient and the three weights, as device `c` is given them. -/
abbrev aX (c : Dev nD) : FVec Ideal S8192x1024 .f32 := m ((c : Thread nD τ).loc main_arg0)
abbrev aZ (c : Dev nD) : FVec Ideal S8192x1024 .f32 := m ((c : Thread nD τ).loc main_arg1)
abbrev aG (c : Dev nD) : FVec Ideal S1024x2816 .f32 := m ((c : Thread nD τ).loc main_arg2)
abbrev aU (c : Dev nD) : FVec Ideal S1024x2816 .f32 := m ((c : Thread nD τ).loc main_arg3)
abbrev aD (c : Dev nD) : FVec Ideal S2816x1024 .f32 := m ((c : Thread nD τ).loc main_arg4)

/-- A projection of the input. -/
def projA (X : FVec Ideal S8192x1024 .f32) (W : FVec Ideal S1024x2816 .f32) : FVec Ideal S8192x2816 .f32 :=
  Host.dotGeneral dot_S8192x1024_S1024x2816_S8192x2816_1_0_0_1_n_n none X W

/-- The gradient of the hidden product. -/
def dhidA (Z : FVec Ideal S8192x1024 .f32) (WD : FVec Ideal S2816x1024 .f32) : FVec Ideal S8192x2816 .f32 :=
  Host.dotGeneral dot_S8192x1024_S2816x1024_S8192x2816_1_1_0_0_n_n none
    (mulf (broadcastInDim S8192x1024 ![] bcast_S_S8192x1024 (constant S_ .f32 0x3F000000#32)) Z) WD

/-- The array of ones. -/
def one : FVec Ideal S8192x2816 .f32 := broadcastInDim S8192x2816 ![] bcast_S_S8192x2816 (constant S_ .f32 0x3F800000#32)

/-- The sigmoid of the gate projection. -/
def sgA (A : FVec Ideal S8192x2816 .f32) : FVec Ideal S8192x2816 .f32 := Host.divf one (addf one (Host.exp (Host.negf A)))

/-- The gate projection's gradient, of the projections `A`, `B` and the hidden product's gradient `H`. -/
def dgateA (A B H : FVec Ideal S8192x2816 .f32) : FVec Ideal S8192x2816 .f32 :=
  addf (mulf (mulf H B) (sgA A)) (mulf (mulf A (mulf H B)) (mulf (sgA A) (subf one (sgA A))))

/-- The up projection's gradient. -/
def dupA (A H : FVec Ideal S8192x2816 .f32) : FVec Ideal S8192x2816 .f32 := mulf (mulf A (sgA A)) H

/-- An array of hidden columns, cut by device. -/
def cutA (A : FVec Ideal S8192x2816 .f32) : FVec Ideal S4x8192x704 .bf16 :=
  truncf .bf16 (transpose S4x8192x704 [1, 0, 2] (shapeCast _ A shapeCasts_S8192x2816_S8192x4x704)
    transposes_S8192x4x704_S4x8192x704_1_0_2) bitsLt_bf16_f32

/-- The call's first argument is the gate projection's gradient, cut by shard. -/
theorem V17 (c : Dev nD) : V m c main_v17 = cutA (dgateA (projA (aX m c) (aG m c)) (projA (aX m c) (aU m c)) (dhidA (aZ m c) (aD m c))) := by
  unfold V
  simp only [hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

/-- The call's second argument is the up projection's gradient, cut by shard. -/
theorem V20 (c : Dev nD) : V m c main_v20 = cutA (dupA (projA (aX m c) (aG m c)) (dhidA (aZ m c) (aD m c))) := by
  unfold V
  simp only [hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

/-- Column `f` of shard `j` is column `704 j + f` of the whole. -/
theorem cutA_at (A : FVec Ideal S8192x2816 .f32) (j : Fin 4) (n : Fin 8192) (f : Fin 704) :
    cutA A (ix3 j n f) = A (ix2 n ⟨j.val * 704 + f.val, by omega⟩) := by
  pointwise [cutA]

/-- A block of the gate gradient, read in the whole array. -/
theorem dg_at (c : Dev nD) (t : Fin cfg0.N) (j : Fin 4) (r : Fin 512) (f : Fin 704) (n : Fin 8192) (hn : n.val = t.val * 512 + r.val) :
    iblk m c 0 t (ix3 j r f) = dgateA (projA (aX m c) (aG m c)) (projA (aX m c) (aU m c)) (dhidA (aZ m c) (aD m c)) (ix2 n ⟨j.val * 704 + f.val, by omega⟩) := by
  refine Eq.trans ?_ ((congrFun (V17 m c) (ix3 j n f)).trans (cutA_at _ _ _ _))
  blk_simp [iblk]
  blk_ext [idx t]

/-- A block of the up gradient, read in the whole array. -/
theorem du_at (c : Dev nD) (t : Fin cfg0.N) (j : Fin 4) (r : Fin 512) (f : Fin 704) (n : Fin 8192) (hn : n.val = t.val * 512 + r.val) :
    iblk m c 1 t (ix3 j r f) = dupA (projA (aX m c) (aG m c)) (dhidA (aZ m c) (aD m c)) (ix2 n ⟨j.val * 704 + f.val, by omega⟩) := by
  refine Eq.trans ?_ ((congrFun (V20 m c) (ix3 j n f)).trans (cutA_at _ _ _ _))
  blk_simp [iblk]
  blk_ext [idx t]

/-- A weight cut by device. -/
def cutW (W : FVec Ideal S1024x2816 .f32) : FVec Ideal S4x1024x704 .bf16 :=
  truncf .bf16 (transpose S4x1024x704 [1, 0, 2] (shapeCast _ W shapeCasts_S1024x2816_S1024x4x704)
    transposes_S1024x4x704_S4x1024x704_1_0_2) bitsLt_bf16_f32

/-- Column `f` of shard `j` is column `704 j + f` of the whole weight. -/
theorem cutW_at (W : FVec Ideal S1024x2816 .f32) (j : Fin 4) (d : Fin 1024) (f : Fin 704) :
    cutW W (ix3 j d f) = W (ix2 d ⟨j.val * 704 + f.val, by omega⟩) := by
  pointwise [cutW]

/-- The call's third argument is the gate weight, cut by shard. -/
theorem V23 (c : Dev nD) : V m c main_v23 = cutW (aG m c) := by
  unfold V
  simp only [hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

/-- The call's fourth argument is the up weight, cut by shard. -/
theorem V26 (c : Dev nD) : V m c main_v26 = cutW (aU m c) := by
  unfold V
  simp only [hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

/-- An entry of the gate weight's shard. -/
theorem g_at (c : Dev nD) (t : Fin cfg0.N) (j : Fin 4) (d : Fin 1024) (f : Fin 704) :
    iblk m c 2 t (ix3 j d f) = aG m c (ix2 d ⟨j.val * 704 + f.val, by omega⟩) := by
  refine Eq.trans ?_ ((congrFun (V23 m c) (ix3 j d f)).trans (cutW_at _ _ _ _))
  blk_simp [iblk]
  blk_ext [idx t]

/-- An entry of the up weight's shard. -/
theorem u_at (c : Dev nD) (t : Fin cfg0.N) (j : Fin 4) (d : Fin 1024) (f : Fin 704) :
    iblk m c 3 t (ix3 j d f) = aU m c (ix2 d ⟨j.val * 704 + f.val, by omega⟩) := by
  refine Eq.trans ?_ ((congrFun (V26 m c) (ix3 j d f)).trans (cutW_at _ _ _ _))
  blk_simp [iblk]
  blk_ext [idx t]

/-- A block of the incoming gradient. -/
theorem z_at (c : Dev nD) (t : Fin cfg0.N) (r : Fin 512) (d : Fin 1024) (n : Fin 8192) (hn : n.val = t.val * 512 + r.val) :
    iblk m c 4 t (ix2 r d) = aZ m c (ix2 n d) := by
  rw [← show V m c main_arg1 = aZ m c from V_main_arg1 m c]
  blk_simp [iblk]
  blk_ext [idx t]

end Cert.Kernel2Ideal.Block

namespace Cert.Reference2Ideal.Ffn
open Cert.Reference2Ideal Cert.Reference2Ideal.Gen
variable (X Z : FVec Ideal S8192x1024 .f32) (WG WU : FVec Ideal S1024x2816 .f32) (WD : FVec Ideal S2816x1024 .f32)

/-- The reference's gradient of the hidden product. -/
def hid : FVec Ideal S8192x2816 .f32 := Host.dotGeneral dot_S8192x1024_S2816x1024_S8192x2816_1_1_0_0_n_n none
  (mulf (broadcastInDim S8192x1024 ![] bcast_S_S8192x1024 (constant S_ .f32 0x3F000000#32)) (shapeCast _ Z shapeCasts_S8192x1024_S8192x1024)) WD
/-- A projection of the block's input. -/
def proj (W : FVec Ideal S1024x2816 .f32) : FVec Ideal S8192x2816 .f32 :=
  Host.dotGeneral dot_S8192x1024_S1024x2816_S8192x2816_1_0_0_1_n_n none X W
/-- The array of ones. -/
def one : FVec Ideal S8192x2816 .f32 := broadcastInDim S8192x2816 ![] bcast_S_S8192x2816 (constant S_ .f32 0x3F800000#32)
/-- The sigmoid of the gate projection. -/
def sg (A : FVec Ideal S8192x2816 .f32) : FVec Ideal S8192x2816 .f32 := Host.divf one (addf one (Host.exp (Host.negf A)))

/-- The reference's gradient of the gate projection. -/
def dgate (A B H : FVec Ideal S8192x2816 .f32) : FVec Ideal S8192x2816 .f32 :=
  addf (mulf (mulf H B) (sg A)) (mulf (mulf A (mulf H B)) (mulf (sg A) (subf one (sg A))))
/-- The reference's gradient of the up projection. -/
def dup (A H : FVec Ideal S8192x2816 .f32) : FVec Ideal S8192x2816 .f32 := mulf (mulf A (sg A)) H
/-- A projection's gradient taken back through its weight. -/
def back (A : FVec Ideal S8192x2816 .f32) (W : FVec Ideal S1024x2816 .f32) : FVec Ideal S8192x1024 .f32 :=
  Host.dotGeneral dot_S8192x2816_S1024x2816_S8192x1024_1_1_0_0_n_n none A W
/-- The reference's gradient of the block's input. -/
def dx : FVec Ideal S8192x1024 .f32 :=
  addf (addf (back (dup (proj X WG) (hid Z WD)) WU) (back (dgate (proj X WG) (proj X WU) (hid Z WD)) WG))
    (mulf (broadcastInDim S8192x1024 ![] bcast_S_S8192x1024 (constant S_ .f32 0x3FB504F3#32)) (shapeCast _ Z shapeCasts_S8192x1024_S8192x1024))

/-- Both programs form the same gradient of the hidden product. -/
theorem hid_eq : hid Z WD = Cert.Kernel2Ideal.Block.dhidA Z WD := by
  unfold hid
  rw [shapeCast_self]
  rfl

/-- An entry of the input's gradient. -/
theorem dx_at (n : Fin 8192) (d : Fin 1024) : dx X Z WG WU WD (ix2 n d)
    = ∑ q : Fin 2816, dup (proj X WG) (hid Z WD) (ix2 n q) * WU (ix2 d q)
      + ∑ q : Fin 2816, dgate (proj X WG) (proj X WU) (hid Z WD) (ix2 n q) * WG (ix2 d q)
      + Cert.Kernel2Ideal.Block.c0 * Z (ix2 n d) := by
  pointwise [dx, back, Cert.Kernel2Ideal.Block.c0]

end Cert.Reference2Ideal.Ffn

namespace Cert.Kernel2Ideal.Block
open Cert.Kernel2Ideal Cert.Kernel2Ideal.Gen
variable (m : (ℓ : Loc nD τ sig) → Buf (Elt Ideal) ℓ)

/-- There are sixteen grid points. -/
theorem lt16 (t : Fin cfg0.N) : t.val < 16 := lt_of_lt_of_eq t.isLt N_0

/-- Where a block of the result lies in its array. -/
theorem emb5 (t : Fin cfg0.N) (y : S512x1024.Idx) :
    (win0_5.blk t).view.emb y = ix2 (⟨t.val * 512 + (y 0).val, by have := lt16 t; have : (y 0).val < 512 := (y 0).isLt; omega⟩ : Fin 8192) (y 1) := by
  idx_vars y
  blk_ext [idx t]

/-- The call's result is the reference's gradient of the block's input. -/
theorem final5 (c : Dev nD) : (dats m 0 c).arrAt 5 cfg0.N
    = Cert.Reference2Ideal.Ffn.dx (aX m c) (aZ m c) (aG m c) (aU m c) (aD m c) := by
  refine (dats m 0 c).arrAt_eq_of_covers 5 _ (by decide +kernel) fun t hf y => ?_
  blk_simp
  rw [after0_5, point]
  refine Eq.trans ?_ (congrArg _ (emb5 t y).symm)
  refine Eq.trans ?_ (Cert.Reference2Ideal.Ffn.dx_at _ _ _ _ _ _ _).symm
  rw [Finset.sum_add_distrib, add_comm, Cert.Reference2Ideal.Ffn.hid_eq]
  refine congrArg₂ (· + ·) ((add_comm _ _).trans (congrArg₂ (· + ·) ?_ ?_)) (congrArg (c0 * ·) (z_at m c t _ _ _ rfl))
  · exact Fin.sum_mul_add_congr fun s r hr => congrArg₂ (· * ·) (du_at m c t s _ r _ rfl) (u_at m c t s _ r)
  · exact Fin.sum_mul_add_congr fun s r hr => congrArg₂ (· * ·) (dg_at m c t s _ r _ rfl) (g_at m c t s _ r)

end Cert.Kernel2Ideal.Block
-- ==== Proof.Ffn.Forward.lean ====
module

public import proofs.«01_k».proof.Proof.Gen.Kernel3Ideal.Frame
public import proofs.«01_k».proof.Proof.Gen.Reference3Ideal.Run
public import Idealize.ShloMosaic.Lib.Pointwise
public import Idealize.ShloMosaic.Lib.IdealHost
public import Idealize.ShloMosaic.Lib.Pipeline.ValueKit
public import Idealize.ShloMosaic.Lib.Pipeline.ReadBack
public import Idealize.ShloMosaic.Lib.Claim
set_option maxRecDepth 16384

/-! The feed-forward block's forward call. A grid point takes 1024 rows and one of four shards of 704 hidden columns;
    the shards' products are added up in a scratch array, and at the last shard the residual sum and its layer norm are
    written out. -/

@[expose] public noncomputable section
open Idealize.ShloMosaic Idealize.ShloMosaic.TcCoe Idealize.SL.Sem
open Idealize.ShloMosaic.Pipeline (Dat)

namespace Cert.Kernel3Ideal.Block
open Cert.Kernel3Ideal Cert.Kernel3Ideal.Gen
variable (m : (ℓ : Loc nD τ sig) → Buf (Elt Ideal) ℓ)

/-- The constants of the residual sum and of the layer norm, as the words the programs hold. -/
def cα : EReal := Ideal.ofBits .f32 0x3FB504F3#32
def cβ : EReal := Ideal.ofBits .f32 0x3F000000#32
def cn : EReal := Ideal.ofBits .f32 0x44800000#32
def cε : EReal := Ideal.ofBits .f32 0x3727C5AC#32

/-- A projection of a row onto one hidden column of the shard. -/
def proj (x0 : FVec Ideal S1024x1024 .f32) (w : FVec Ideal S1x1024x704 .bf16) (r : Fin 1024) (f : Fin 704) : EReal :=
  ∑ k : Fin 1024, x0 (ix2 r k) * w (ix3 0 k f)

/-- The gated hidden value. -/
def hidB (x0 : FVec Ideal S1024x1024 .f32) (x1 x2 : FVec Ideal S1x1024x704 .bf16) (r : Fin 1024) (f : Fin 704) : EReal :=
  proj x0 x1 r f * Ideal.logistic (proj x0 x1 r f) * proj x0 x2 r f

/-- What one shard adds to an entry of the result. -/
def part (x0 : FVec Ideal S1024x1024 .f32) (x1 x2 : FVec Ideal S1x1024x704 .bf16) (x3 : FVec Ideal S1x704x1024 .bf16)
    (r d : Fin 1024) : EReal :=
  ∑ f : Fin 704, hidB x0 x1 x2 r f * x3 (ix3 0 f d)

/-- A sum over a shard's columns, taken in the kernel's three pieces of 256, 256 and 192. -/
theorem sum704 (F : Fin 704 → EReal) : ∑ f : Fin 704, F f
    = ∑ f : Fin 256, F ⟨f.val, by omega⟩ + ∑ f : Fin 256, F ⟨256 + f.val, by omega⟩ + ∑ f : Fin 192, F ⟨512 + f.val, by omega⟩ := by
  have h1 := Fin.sum_univ_add (a := 512) (b := 192) F
  have h2 := Fin.sum_univ_add (a := 256) (b := 256) (fun i => F (Fin.castAdd 192 i))
  rw [h1, h2]
  rfl

/-- The accumulator after the first shard. -/
theorem acc_A (c : Dev nD) (t : Fin cfg0.N) (ca : t.val % 4 = 0) (cb : ¬1 ≤ t.val % 4) (cc : ¬t.val % 4 = 3) (y : S1024x1024.Idx) :
    (outsAt0 m c t.val t.isLt).2.2.2 y = part (iblk m c 0 t) (iblk m c 1 t) (iblk m c 2 t) (iblk m c 3 t) (y 0) (y 1) := by
  rw [outsAt0_A m c t ca cb cc]
  frame_out
  open_payloads
  idx_vars y
  unfold part
  rw [sum704]
  pointwise [hidB, proj, k0_pay1, k0_pay2, k0_pay7, k0_pay8, k0_pay9, k0_pay10, k0_pay11, k0_pay12, k0_pay13]

/-- The accumulator after a middle shard. -/
theorem acc_B (c : Dev nD) (t : Fin cfg0.N) (ca : ¬t.val % 4 = 0) (cb : 1 ≤ t.val % 4) (cc : ¬t.val % 4 = 3) (y : S1024x1024.Idx) :
    (outsAt0 m c t.val t.isLt).2.2.2 y = (outsAt0 m c (t.val - 1) (by omega)).2.2.2 (ix2 (y 0) (y 1))
      + part (iblk m c 0 t) (iblk m c 1 t) (iblk m c 2 t) (iblk m c 3 t) (y 0) (y 1) := by
  rw [outsAt0_B m c t ca cb cc]
  frame_out
  open_payloads
  idx_vars y
  unfold part
  rw [sum704]
  pointwise [hidB, proj, k0_pay1, k0_pay3, k0_pay7, k0_pay8, k0_pay9, k0_pay10, k0_pay11, k0_pay12, k0_pay13, read_unread_whole]

/-- The accumulator after the last shard. -/
theorem acc_C (c : Dev nD) (t : Fin cfg0.N) (ca : ¬t.val % 4 = 0) (cb : 1 ≤ t.val % 4) (cc : t.val % 4 = 3) (y : S1024x1024.Idx) :
    (outsAt0 m c t.val t.isLt).2.2.2 y = (outsAt0 m c (t.val - 1) (by omega)).2.2.2 (ix2 (y 0) (y 1))
      + part (iblk m c 0 t) (iblk m c 1 t) (iblk m c 2 t) (iblk m c 3 t) (y 0) (y 1) := by
  rw [outsAt0_C m c t ca cb cc]
  frame_out
  open_payloads
  idx_vars y
  unfold part
  rw [sum704]
  pointwise [hidB, proj, k0_pay1, k0_pay3, k0_pay7, k0_pay8, k0_pay9, k0_pay10, k0_pay11, k0_pay12, k0_pay13, read_unread_whole]

/-- The mean of a row. -/
def mean (z : Fin 1024 → EReal) : EReal := Ideal.div (∑ k : Fin 1024, z k) cn

/-- An entry of a row's layer norm. -/
def ln (z : Fin 1024 → EReal) (g b : EReal) (d : Fin 1024) : EReal :=
  (z d - mean z) * Ideal.rsqrt (mean (fun k => (z k - mean z) * (z k - mean z)) + cε) * g + b

/-- The residual sum of a block: its input and the added-up shards. -/
def resB (x Z : FVec Ideal S1024x1024 .f32) (r d : Fin 1024) : EReal := cα * x (ix2 r d) + cβ * Z (ix2 r d)

/-- What is written out at the last shard: the residual sum. -/
theorem outz (c : Dev nD) (t : Fin cfg0.N) (ca : ¬t.val % 4 = 0) (cb : 1 ≤ t.val % 4) (cc : t.val % 4 = 3) (y : S1024x1024.Idx) :
    (outsAt0 m c t.val t.isLt).2.1 y = resB (iblk m c 0 t) (outsAt0 m c t.val t.isLt).2.2.2 (y 0) (y 1) := by
  rw [outsAt0_C m c t ca cb cc]
  frame_out
  generalize k0_pay3 (F := Ideal) _ _ _ _ _ _ _ _ _ = Z
  idx_vars y
  pointwise [k0_pay4, resB, cα, cβ]

/-- The layer norm that is written out beside it. -/
theorem outy (c : Dev nD) (t : Fin cfg0.N) (ca : ¬t.val % 4 = 0) (cb : 1 ≤ t.val % 4) (cc : t.val % 4 = 3) (y : S1024x1024.Idx) :
    (outsAt0 m c t.val t.isLt).1 y = ln (resB (iblk m c 0 t) (outsAt0 m c t.val t.isLt).2.2.2 (y 0)) (iblk m c 4 t (ix2 0 (y 1))) (iblk m c 5 t (ix2 0 (y 1))) (y 1) := by
  rw [outsAt0_C m c t ca cb cc]
  frame_out
  generalize k0_pay3 (F := Ideal) _ _ _ _ _ _ _ _ _ = Z
  idx_vars y
  pointwise [k0_pay4, k0_pay5, ln, mean, resB, cα, cβ, cn, cε]

/-- The same layer norm, written out rounded. -/
theorem outyb (c : Dev nD) (t : Fin cfg0.N) (ca : ¬t.val % 4 = 0) (cb : 1 ≤ t.val % 4) (cc : t.val % 4 = 3) (y : S1024x1024.Idx) :
    (outsAt0 m c t.val t.isLt).2.2.1 y = ln (resB (iblk m c 0 t) (outsAt0 m c t.val t.isLt).2.2.2 (y 0)) (iblk m c 4 t (ix2 0 (y 1))) (iblk m c 5 t (ix2 0 (y 1))) (y 1) := by
  rw [outsAt0_C m c t ca cb cc]
  frame_out
  generalize k0_pay3 (F := Ideal) _ _ _ _ _ _ _ _ _ = Z
  idx_vars y
  pointwise [k0_pay4, k0_pay5, k0_pay6, ln, mean, resB, cα, cβ, cn, cε]

/-- Which blocks a grid point works on. -/
theorem idx : ∀ t : Fin cfg0.N, win0_0.index t = ![t.val / 4, 0] ∧ win0_1.index t = ![t.val % 4, 0, 0]
    ∧ win0_2.index t = ![t.val % 4, 0, 0] ∧ win0_3.index t = ![t.val % 4, 0, 0] ∧ win0_4.index t = ![0, 0]
    ∧ win0_5.index t = ![0, 0] ∧ win0_6.index t = ![t.val / 4, 0] ∧ win0_7.index t = ![t.val / 4, 0] ∧ win0_8.index t = ![t.val / 4, 0] :=
  (by decide +kernel : ∀ t : Fin grid0.N, _)

/-- There are thirty-two grid points. -/
theorem lt32 (t : Fin cfg0.N) : t.val < 32 := lt_of_lt_of_eq t.isLt N_0

/-- The block's input, the three weights and the layer norm's gain and offset, as device `c` is given them. -/
abbrev aX (c : Dev nD) : FVec Ideal S8192x1024 .f32 := m ((c : Thread nD τ).loc main_arg0)
abbrev aG (c : Dev nD) : FVec Ideal S1024x2816 .f32 := m ((c : Thread nD τ).loc main_arg1)
abbrev aU (c : Dev nD) : FVec Ideal S1024x2816 .f32 := m ((c : Thread nD τ).loc main_arg2)
abbrev aD (c : Dev nD) : FVec Ideal S2816x1024 .f32 := m ((c : Thread nD τ).loc main_arg3)
abbrev aγ (c : Dev nD) : FVec Ideal S1024 .f32 := m ((c : Thread nD τ).loc main_arg4)
abbrev aβ (c : Dev nD) : FVec Ideal S1024 .f32 := m ((c : Thread nD τ).loc main_arg5)

/-- A block of the input. -/
theorem x_at (c : Dev nD) (t : Fin cfg0.N) (r : Fin 1024) (d : Fin 1024) (n : Fin 8192) (hn : n.val = t.val / 4 * 1024 + r.val) :
    iblk m c 0 t (ix2 r d) = aX m c (ix2 n d) := by
  rw [← show V m c main_arg0 = aX m c from V_main_arg0 m c]
  blk_simp [iblk]
  blk_ext [idx t]

/-- An entry of the gate weight's shard. -/
theorem g_at (c : Dev nD) (t : Fin cfg0.N) (k : Fin 1024) (f : Fin 704) (q : Fin 2816) (hq : q.val = t.val % 4 * 704 + f.val) :
    iblk m c 1 t (ix3 0 k f) = aG m c (ix2 k q) := by
  blk_simp [iblk, V, idx t]; entry_read; pointwise; blk_ext [idx t]

/-- An entry of the up weight's shard. -/
theorem u_at (c : Dev nD) (t : Fin cfg0.N) (k : Fin 1024) (f : Fin 704) (q : Fin 2816) (hq : q.val = t.val % 4 * 704 + f.val) :
    iblk m c 2 t (ix3 0 k f) = aU m c (ix2 k q) := by
  blk_simp [iblk, V, idx t]; entry_read; pointwise; blk_ext [idx t]

/-- An entry of the down weight's shard. -/
theorem d_at (c : Dev nD) (t : Fin cfg0.N) (d : Fin 1024) (f : Fin 704) (q : Fin 2816) (hq : q.val = t.val % 4 * 704 + f.val) :
    iblk m c 3 t (ix3 0 f d) = aD m c (ix2 q d) := by
  blk_simp [iblk, V, idx t]; entry_read; pointwise; blk_ext [idx t]

/-- An entry of the gain. -/
theorem γ_at (c : Dev nD) (t : Fin cfg0.N) (d : Fin 1024) : iblk m c 4 t (ix2 0 d) = aγ m c (ix1 d) := by
  blk_simp [iblk, V, idx t]; entry_read; pointwise; blk_ext [idx t]

/-- An entry of the offset. -/
theorem β_at (c : Dev nD) (t : Fin cfg0.N) (d : Fin 1024) : iblk m c 5 t (ix2 0 d) = aβ m c (ix1 d) := by
  blk_simp [iblk, V, idx t]; entry_read; pointwise; blk_ext [idx t]

end Cert.Kernel3Ideal.Block

namespace Cert.Reference3Ideal.Ffn
open Cert.Reference3Ideal Cert.Reference3Ideal.Gen Cert.Reference3Ideal.Value
open Cert.Kernel3Ideal.Block (cα cβ cn cε mean ln)
variable (X : FVec Ideal S8192x1024 .f32) (WG WU : FVec Ideal S1024x2816 .f32) (WD : FVec Ideal S2816x1024 .f32) (G B : FVec Ideal S1024 .f32)

/-- A projection of the block's input. -/
def proj (W : FVec Ideal S1024x2816 .f32) : FVec Ideal S8192x2816 .f32 :=
  Host.dotGeneral dot_S8192x1024_S1024x2816_S8192x2816_1_0_0_1_n_n none X W
/-- The array of ones. -/
def one : FVec Ideal S8192x2816 .f32 := broadcastInDim S8192x2816 ![] bcast_S_S8192x2816 (constant S_ .f32 0x3F800000#32)
/-- The gated hidden values. -/
def hid : FVec Ideal S8192x2816 .f32 :=
  mulf (mulf (proj X WG) (Host.divf one (addf one (Host.exp (Host.negf (proj X WG)))))) (proj X WU)
/-- The residual sum. -/
def res : FVec Ideal S8192x1024 .f32 :=
  addf (mulf (broadcastInDim S8192x1024 ![] bcast_S_S8192x1024 (constant S_ .f32 0x3FB504F3#32)) X)
    (mulf (broadcastInDim S8192x1024 ![] bcast_S_S8192x1024 (constant S_ .f32 0x3F000000#32))
      (Host.dotGeneral dot_S8192x2816_S2816x1024_S8192x1024_1_0_0_1_n_n none (hid X WG WU) WD))
/-- A row's mean, as a column. -/
def meanA (Z : FVec Ideal S8192x1024 .f32) : FVec Ideal S8192x1 .f32 :=
  Host.divf (broadcastInDim S8192x1 ![0] bcast_S8192_S8192x1_0 (Host.reduceAdd Z (constant S_ .f32 0x00000000#32) reducesTo_S8192x1024_S8192_d1 h_S_))
    (broadcastInDim S8192x1 ![] bcast_S_S8192x1 (constant S_ .f32 0x44800000#32))
/-- A row less its mean. -/
def cenA (Z : FVec Ideal S8192x1024 .f32) : FVec Ideal S8192x1024 .f32 :=
  subf Z (broadcastInDim S8192x1024 ![0, 1] bcast_S8192x1_S8192x1024_0_1 (meanA Z))
/-- The layer norm. -/
def lnA (Z : FVec Ideal S8192x1024 .f32) : FVec Ideal S8192x1024 .f32 :=
  addf (mulf (mulf (cenA Z) (broadcastInDim S8192x1024 ![0, 1] bcast_S8192x1_S8192x1024_0_1
      (Host.rsqrt (addf (meanA (mulf (cenA Z) (cenA Z))) (broadcastInDim S8192x1 ![] bcast_S_S8192x1 (constant S_ .f32 0x3727C5AC#32))))))
    (broadcastInDim S8192x1024 ![0, 1] bcast_S1x1024_S8192x1024_0_1 (broadcastInDim S1x1024 ![1] bcast_S1024_S1x1024_1 G)))
    (broadcastInDim S8192x1024 ![0, 1] bcast_S1x1024_S8192x1024_0_1 (broadcastInDim S1x1024 ![1] bcast_S1024_S1x1024_1 B))

/-- The terms the reference's results are stated with are these. -/
theorem out0_eq (m : (ℓ : Loc nD τ sig) → Buf (Elt Ideal) ℓ) (c : Dev nD) : res_out0 m c
    = lnA (m ((c.tc : Thread nD τ).loc main_arg4)) (m ((c.tc : Thread nD τ).loc main_arg5)) (res (m ((c.tc : Thread nD τ).loc main_arg0)) (m ((c.tc : Thread nD τ).loc main_arg1)) (m ((c.tc : Thread nD τ).loc main_arg2)) (m ((c.tc : Thread nD τ).loc main_arg3))) := rfl
theorem out2_eq (m : (ℓ : Loc nD τ sig) → Buf (Elt Ideal) ℓ) (c : Dev nD) : res_out2 m c
    = truncf .bf16 (lnA (m ((c.tc : Thread nD τ).loc main_arg4)) (m ((c.tc : Thread nD τ).loc main_arg5)) (res (m ((c.tc : Thread nD τ).loc main_arg0)) (m ((c.tc : Thread nD τ).loc main_arg1)) (m ((c.tc : Thread nD τ).loc main_arg2)) (m ((c.tc : Thread nD τ).loc main_arg3)))) bitsLt_bf16_f32 := rfl

/-- A gated hidden value. -/
theorem hid_at (n : Fin 8192) (q : Fin 2816) : hid X WG WU (ix2 n q)
    = (∑ k : Fin 1024, X (ix2 n k) * WG (ix2 k q)) * Ideal.logistic (∑ k : Fin 1024, X (ix2 n k) * WG (ix2 k q))
      * ∑ k : Fin 1024, X (ix2 n k) * WU (ix2 k q) := by
  pointwise [hid, proj, one]
  rfl

/-- An entry of the residual sum. -/
theorem res_at (n : Fin 8192) (d : Fin 1024) : res X WG WU WD (ix2 n d)
    = cα * X (ix2 n d) + cβ * ∑ q : Fin 2816, hid X WG WU (ix2 n q) * WD (ix2 q d) := by
  pointwise [res, cα, cβ]

/-- An entry of the layer norm. -/
theorem lnA_at (Z : FVec Ideal S8192x1024 .f32) (n : Fin 8192) (d : Fin 1024) : lnA G B Z (ix2 n d)
    = ln (fun k => Z (ix2 n k)) (G (ix1 d)) (B (ix1 d)) d := by
  pointwise [lnA, meanA, cenA, ln, mean, cn, cε]

end Cert.Reference3Ideal.Ffn

namespace Cert.Kernel3Ideal.Block
open Cert.Kernel3Ideal Cert.Kernel3Ideal.Gen
open Cert.Reference3Ideal.Ffn (hid res lnA hid_at res_at lnA_at)
variable (m : (ℓ : Loc nD τ sig) → Buf (Elt Ideal) ℓ)

/-- A shard's gated hidden value, in the whole. -/
theorem hidB_at (c : Dev nD) (t : Fin cfg0.N) (r : Fin 1024) (f : Fin 704) (n : Fin 8192) (q : Fin 2816)
    (hn : n.val = t.val / 4 * 1024 + r.val) (hq : q.val = t.val % 4 * 704 + f.val) :
    hidB (iblk m c 0 t) (iblk m c 1 t) (iblk m c 2 t) r f = hid (aX m c) (aG m c) (aU m c) (ix2 n q) := by
  have e1 : proj (iblk m c 0 t) (iblk m c 1 t) r f = ∑ k : Fin 1024, aX m c (ix2 n k) * aG m c (ix2 k q) :=
    Finset.sum_congr rfl fun k _ => congrArg₂ (· * ·) (x_at m c t r k n hn) (g_at m c t k f q hq)
  have e2 : proj (iblk m c 0 t) (iblk m c 2 t) r f = ∑ k : Fin 1024, aX m c (ix2 n k) * aU m c (ix2 k q) :=
    Finset.sum_congr rfl fun k _ => congrArg₂ (· * ·) (x_at m c t r k n hn) (u_at m c t k f q hq)
  rw [hid_at, hidB, e1, e2]

/-- The accumulator after a row block's last shard: the whole hidden product. -/
theorem acc_at (c : Dev nD) (t : Fin cfg0.N) (ct : t.val % 4 = 3) (r d : Fin 1024) (n : Fin 8192) (hn : n.val = t.val / 4 * 1024 + r.val) :
    (outsAt0 m c t.val t.isLt).2.2.2 (ix2 r d) = ∑ q : Fin 2816, hid (aX m c) (aG m c) (aU m c) (ix2 n q) * aD m c (ix2 q d) := by
  rw [Pipeline.eq_sum_fin_of_reset_step_apply_of_flush (fun n h => (outsAt0 m c n h).2.2.2) 4 (fun _ => 0)
      (fun p i => part (iblk m c 0 p) (iblk m c 1 p) (iblk m c 2 p) (iblk m c 3 p) (i 0) (i 1))
      (fun p h i => by rw [acc_A m c p h (by omega) (by omega) i, zero_add])
      (fun p h i => by
        by_cases cc : p.val % 4 = 3
        · rw [acc_C m c p h (by omega) cc i, ix2_eta]
        · rw [acc_B m c p h (by omega) cc i, ix2_eta]) t ct _, zero_add]
  refine Fin.sum_mul_add_congr fun s f hq => ?_
  have hp := Pipeline.run_point_lt_of_flush t ct s
  exact congrArg₂ (· * ·) (hidB_at m c ⟨4 * (t.val / 4) + s.val, hp⟩ r f n _ (by dsimp only; omega) (by dsimp only; omega))
    (d_at m c ⟨4 * (t.val / 4) + s.val, hp⟩ d f _ (by dsimp only; omega))

/-- The residual sum of a block, in the whole. -/
theorem resB_at (c : Dev nD) (t : Fin cfg0.N) (ct : t.val % 4 = 3) (r d : Fin 1024) (n : Fin 8192) (hn : n.val = t.val / 4 * 1024 + r.val) :
    resB (iblk m c 0 t) (outsAt0 m c t.val t.isLt).2.2.2 r d = res (aX m c) (aG m c) (aU m c) (aD m c) (ix2 n d) := by
  rw [res_at, resB, acc_at m c t ct r d n hn, x_at m c t r d n hn]

/-- Where a block of a result lies in its array. -/
theorem emb6 (t : Fin cfg0.N) (y : S1024x1024.Idx) :
    (win0_6.blk t).view.emb y = ix2 (⟨t.val / 4 * 1024 + (y 0).val, by have := lt32 t; have : (y 0).val < 1024 := (y 0).isLt; omega⟩ : Fin 8192) (y 1) := by
  idx_vars y
  blk_ext [idx t]
theorem emb7 (t : Fin cfg0.N) (y : S1024x1024.Idx) :
    (win0_7.blk t).view.emb y = ix2 (⟨t.val / 4 * 1024 + (y 0).val, by have := lt32 t; have : (y 0).val < 1024 := (y 0).isLt; omega⟩ : Fin 8192) (y 1) := by
  idx_vars y
  blk_ext [idx t]
theorem emb8 (t : Fin cfg0.N) (y : S1024x1024.Idx) :
    (win0_8.blk t).view.emb y = ix2 (⟨t.val / 4 * 1024 + (y 0).val, by have := lt32 t; have : (y 0).val < 1024 := (y 0).isLt; omega⟩ : Fin 8192) (y 1) := by
  idx_vars y
  blk_ext [idx t]

/-- An entry of the layer norm a block forms, in the whole. -/
theorem lnB_at (c : Dev nD) (t : Fin cfg0.N) (ct : t.val % 4 = 3) (r d : Fin 1024) (n : Fin 8192) (hn : n.val = t.val / 4 * 1024 + r.val) :
    ln (resB (iblk m c 0 t) (outsAt0 m c t.val t.isLt).2.2.2 r) (iblk m c 4 t (ix2 0 d)) (iblk m c 5 t (ix2 0 d)) d
      = lnA (aγ m c) (aβ m c) (res (aX m c) (aG m c) (aU m c) (aD m c)) (ix2 n d) := by
  rw [lnA_at, γ_at, β_at, show resB (iblk m c 0 t) (outsAt0 m c t.val t.isLt).2.2.2 r = fun k => res (aX m c) (aG m c) (aU m c) (aD m c) (ix2 n k) from
    funext fun k => resB_at m c t ct r k n hn]

/-- The call's first result is the layer norm of the residual sum. -/
theorem final6 (c : Dev nD) : (dats m 0 c).arrAt 6 cfg0.N = lnA (aγ m c) (aβ m c) (res (aX m c) (aG m c) (aU m c) (aD m c)) := by
  refine (dats m 0 c).arrAt_eq_of_covers 6 _ (by decide +kernel) fun t hf y => ?_
  blk_simp
  have ct := (flush0_6 t).mp hf
  rw [after0_6, outy m c t (by omega) (by omega) ct y]
  exact (lnB_at m c t ct _ _ _ rfl).trans (congrArg _ (emb6 t y).symm)

/-- The second is the residual sum. -/
theorem final7 (c : Dev nD) : (dats m 0 c).arrAt 7 cfg0.N = res (aX m c) (aG m c) (aU m c) (aD m c) := by
  refine (dats m 0 c).arrAt_eq_of_covers 7 _ (by decide +kernel) fun t hf y => ?_
  blk_simp
  have ct := (flush0_7 t).mp hf
  rw [after0_7, outz m c t (by omega) (by omega) ct y]
  exact (resB_at m c t ct _ _ _ rfl).trans (congrArg _ (emb7 t y).symm)

/-- The third is the layer norm, rounded. -/
theorem final8 (c : Dev nD) : (dats m 0 c).arrAt 8 cfg0.N = truncf .bf16 (lnA (aγ m c) (aβ m c) (res (aX m c) (aG m c) (aU m c) (aD m c))) bitsLt_bf16_f32 := by
  refine (dats m 0 c).arrAt_eq_of_covers 8 _ (by decide +kernel) fun t hf y => ?_
  blk_simp
  have ct := (flush0_8 t).mp hf
  rw [after0_8, outyb m c t (by omega) (by omega) ct y]
  exact (lnB_at m c t ct _ _ _ rfl).trans (congrArg _ (emb8 t y).symm)

end Cert.Kernel3Ideal.Block
-- ==== Proof.Conv.Block.lean ====
module

public import proofs.«01_k».proof.Proof.Gen.Kernel4Ideal.Frame
public import proofs.«01_k».proof.Proof.Gen.Reference4Ideal.Run
public import Idealize.ShloMosaic.Lib.Pointwise
public import Idealize.ShloMosaic.Lib.IdealHost
public import Idealize.ShloMosaic.Lib.Pipeline.ValueKit
public import Idealize.ShloMosaic.Lib.Pipeline.ReadBack
public import Idealize.ShloMosaic.Lib.Claim
set_option maxRecDepth 16384

/-! The short convolution's gradient. A grid point takes one sequence of 2048 steps and 128 channels. -/

@[expose] public noncomputable section
open Idealize.ShloMosaic Idealize.ShloMosaic.TcCoe Idealize.SL.Sem
open Idealize.ShloMosaic.Pipeline (Dat)

namespace Cert.Kernel4Ideal.Block
open Cert.Kernel4Ideal Cert.Kernel4Ideal.Gen
variable (m : (ℓ : Loc nD τ sig) → Buf (Elt Ideal) ℓ)

/-- A column's entry `k` steps later, nothing past the end. -/
def later (y : FVec Ideal S2048x128 .f32) (k : ℕ) (r : Fin 2048) (d : Fin 128) : EReal :=
  if h : r.val + k < 2048 then y (ix2 ⟨r.val + k, h⟩ d) else 0

/-- A column's entry `k` steps earlier, nothing before the start. -/
def earlier (x : FVec Ideal S2048x128 .f32) (k : ℕ) (r : Fin 2048) (d : Fin 128) : EReal :=
  if h : k ≤ r.val then x (ix2 ⟨r.val - k, by omega⟩ d) else 0

/-- The gradient of the input. -/
def dxB (w : FVec Ideal S4x128 .f32) (y : FVec Ideal S2048x128 .f32) (r : Fin 2048) (d : Fin 128) : EReal :=
  w (ix2 0 d) * later y 3 r d + w (ix2 1 d) * later y 2 r d + w (ix2 2 d) * later y 1 r d + w (ix2 3 d) * later y 0 r d

/-- What one sequence adds to a tap's gradient. -/
def dwB (x y : FVec Ideal S2048x128 .f32) (j : Fin 4) (d : Fin 128) : EReal :=
  ∑ r : Fin 2048, y (ix2 r d) * earlier x (3 - j.val) r d

/-- The output's gradient with eight empty steps after it. -/
def padAfter (y : FVec Ideal S2048x128 .f32) (i : S2056x128.Idx) : EReal :=
  if h : (i 0).val < 2048 then y (ix2 ⟨(i 0).val, h⟩ (i 1)) else 0

/-- The input with eight empty steps before it. -/
def padBefore (x : FVec Ideal S2048x128 .f32) (i : S2056x128.Idx) : EReal :=
  if h : 8 ≤ (i 0).val then x (ix2 ⟨(i 0).val - 8, by have : (i 0).val < 2056 := (i 0).isLt; omega⟩ (i 1)) else 0

/-- What one sequence adds to the offset's gradient. -/
def dbB (y : FVec Ideal S2048x128 .f32) (d : Fin 128) : EReal := ∑ r : Fin 2048, y (ix2 r d)

/-- What is read of the padded output gradient from step `k` on. -/
theorem readAfter (y : FVec Ideal S2048x128 .f32) (k : ℕ) (h1 h2 h3) (r : Fin 2048) (d : Fin 128) :
    (View.whole cc0_scratch1).readCov (Val := Elt Ideal)
      [⟨Rect.unit (s := S2056x128) ![2048, 0] S8x128.size h1, broadcast S8x128 (0 : EReal)⟩,
        ⟨Rect.unit (s := S2056x128) ![0, 0] S2048x128.size h2, y⟩]
      (Rect.unit (s := S2056x128) ![k, 0] S2048x128.size h3).toLoadRect (ix2 r d) = later y k r d := by
  rw [View.readCov_eq_canon']
  refine (View.canon_apply_of_pieces (padAfter y) _ ?_ _ (View.cover_of_tiledBy _ ![8, 128] (by sl_kernel_rfl) _)).trans ?_
  · intro p hp x
    rcases List.mem_cons.mp hp with rfl | hp
    · refine Eq.trans ?_ (dif_neg (show ¬ (2048 + 1 * (x 0).val < 2048) by omega)).symm
      rfl
    · obtain rfl := List.mem_singleton.mp hp
      have hx : (x 0).val < 2048 := (x 0).isLt
      refine Eq.trans ?_ (dif_pos (show 0 + 1 * (x 0).val < 2048 by omega)).symm
      refine congrArg y (funext fun a => ?_)
      fin_cases a
      · exact Fin.ext (by show (x 0).val = 0 + 1 * (x 0).val; omega)
      · exact Fin.ext (by show (x 1).val = 0 + 1 * (x 1).val; omega)
  · unfold padAfter later
    have e : ((Rect.unit (s := S2056x128) ![k, 0] S2048x128.size h3).toLoadRect.idx (ix2 r d) 0).val = r.val + k := by
      show k + 1 * r.val = _; omega
    have e1 : (Rect.unit (s := S2056x128) ![k, 0] S2048x128.size h3).toLoadRect.idx (ix2 r d) 1 = d :=
      Fin.ext (by show 0 + 1 * d.val = _; omega)
    by_cases h : r.val + k < 2048
    · rw [dif_pos (by rw [e]; exact h), dif_pos h]
      exact congrArg y (congrArg₂ ix2 (Fin.ext e) e1)
    · rw [dif_neg (by rw [e]; exact h), dif_neg h]

/-- What is read of the padded input from step `8 - k` on. -/
theorem readBefore (x : FVec Ideal S2048x128 .f32) (o k : ℕ) (ho : o + k = 8) (h1 h2 h3) (r : Fin 2048) (d : Fin 128) :
    (View.whole cc0_scratch0).readCov (Val := Elt Ideal)
      [⟨Rect.unit (s := S2056x128) ![8, 0] S2048x128.size h2, x⟩,
        ⟨Rect.unit (s := S2056x128) ![0, 0] S8x128.size h1, broadcast S8x128 (0 : EReal)⟩]
      (Rect.unit (s := S2056x128) ![o, 0] S2048x128.size h3).toLoadRect (ix2 r d) = earlier x k r d := by
  rw [View.readCov_eq_canon']
  refine (View.canon_apply_of_pieces (padBefore x) _ ?_ _ (View.cover_of_tiledBy _ ![8, 128] (by sl_kernel_rfl) _)).trans ?_
  · intro p hp z
    rcases List.mem_cons.mp hp with rfl | hp
    · have hx : (z 0).val < 2048 := (z 0).isLt
      refine Eq.trans ?_ (dif_pos (show 8 ≤ 8 + 1 * (z 0).val by omega)).symm
      refine congrArg x (funext fun a => ?_)
      fin_cases a
      · exact Fin.ext (by show (z 0).val = 8 + 1 * (z 0).val - 8; omega)
      · exact Fin.ext (by show (z 1).val = 0 + 1 * (z 1).val; omega)
    · obtain rfl := List.mem_singleton.mp hp
      have hx : (z 0).val < 8 := (z 0).isLt
      refine Eq.trans ?_ (dif_neg (show ¬ (8 ≤ 0 + 1 * (z 0).val) by omega)).symm
      rfl
  · unfold padBefore earlier
    have e : ((Rect.unit (s := S2056x128) ![o, 0] S2048x128.size h3).toLoadRect.idx (ix2 r d) 0).val = r.val + o := by
      show o + 1 * r.val = _; omega
    have e1 : (Rect.unit (s := S2056x128) ![o, 0] S2048x128.size h3).toLoadRect.idx (ix2 r d) 1 = d :=
      Fin.ext (by show 0 + 1 * d.val = _; omega)
    by_cases h : k ≤ r.val
    · rw [dif_pos (by rw [e]; omega), dif_pos h]
      exact congrArg x (congrArg₂ ix2 (Fin.ext (by show _ - 8 = r.val - k; rw [e]; omega)) e1)
    · rw [dif_neg (by rw [e]; omega), dif_neg h]

/-- The input's gradient, at a first sequence. -/
theorem dx_A (c : Dev nD) (t : Fin cfg0.N) (ca : t.val % 4 = 0) (cb : ¬1 ≤ t.val % 4) (y : S2048x128.Idx) :
    (outsAt0 m c t.val t.isLt).1 y = dxB (iblk m c 1 t) (iblk m c 3 t) (y 0) (y 1) := by
  rw [outsAt0_A m c t ca cb ca cb ca cb ca cb ca cb]
  frame_out
  open_payloads
  idx_vars y
  pointwise [dxB, k0_pay12, k0_pay11]
  exact congrArg₂ (· + ·) (congrArg₂ (· + ·) (congrArg₂ (· + ·) (congrArg _ (readAfter _ _ _ _ _ _ _)) (congrArg _ (readAfter _ _ _ _ _ _ _)))
    (congrArg _ (readAfter _ _ _ _ _ _ _))) (congrArg _ (readAfter _ _ _ _ _ _ _))

/-- The input's gradient, at a later sequence. -/
theorem dx_B (c : Dev nD) (t : Fin cfg0.N) (ca : ¬t.val % 4 = 0) (cb : 1 ≤ t.val % 4) (y : S2048x128.Idx) :
    (outsAt0 m c t.val t.isLt).1 y = dxB (iblk m c 1 t) (iblk m c 3 t) (y 0) (y 1) := by
  rw [outsAt0_B m c t ca cb ca cb ca cb ca cb ca cb]
  frame_out
  open_payloads
  idx_vars y
  pointwise [dxB, k0_pay12, k0_pay11]
  exact congrArg₂ (· + ·) (congrArg₂ (· + ·) (congrArg₂ (· + ·) (congrArg _ (readAfter _ _ _ _ _ _ _)) (congrArg _ (readAfter _ _ _ _ _ _ _)))
    (congrArg _ (readAfter _ _ _ _ _ _ _))) (congrArg _ (readAfter _ _ _ _ _ _ _))

/-- A tap's gradient after the first sequence. -/
theorem dw_A (c : Dev nD) (t : Fin cfg0.N) (ca : t.val % 4 = 0) (cb : ¬1 ≤ t.val % 4) (y : S4x128.Idx) :
    (outsAt0 m c t.val t.isLt).2.1 y = dwB (iblk m c 0 t) (iblk m c 3 t) (y 0) (y 1) := by
  rw [outsAt0_A m c t ca cb ca cb ca cb ca cb ca cb]
  frame_out
  canon_tiles x h using View.cover_of_tiledBy _ ![1, 128] (by sl_kernel_rfl) _
  all_goals (open_payloads; idx_vars x; obtain rfl : x0 = 0 := Subsingleton.elim _ _; rw [show y 0 = ⟨_, _⟩ from Fin.ext h0, show y 1 = ⟨_, _⟩ from Fin.ext h1])
  all_goals pointwise [dwB]
  all_goals first
    | exact Finset.sum_congr rfl fun r _ => congrArg _ (readBefore _ _ _ rfl _ _ _ r _)
    | decide

/-- A tap's gradient after a later sequence. -/
theorem dw_B (c : Dev nD) (t : Fin cfg0.N) (ca : ¬t.val % 4 = 0) (cb : 1 ≤ t.val % 4) (y : S4x128.Idx) :
    (outsAt0 m c t.val t.isLt).2.1 y = (outsAt0 m c (t.val - 1) (by omega)).2.1 (ix2 (y 0) (y 1)) + dwB (iblk m c 0 t) (iblk m c 3 t) (y 0) (y 1) := by
  rw [outsAt0_B m c t ca cb ca cb ca cb ca cb ca cb]
  frame_out
  canon_tiles x h using View.cover_of_tiledBy _ ![1, 128] (by sl_kernel_rfl) _
  all_goals (open_payloads; idx_vars x; obtain rfl : x0 = 0 := Subsingleton.elim _ _; rw [show y 0 = ⟨_, _⟩ from Fin.ext h0, show y 1 = ⟨_, _⟩ from Fin.ext h1])
  all_goals pointwise [dwB, read_unread_whole]
  all_goals first
    | exact congrArg _ (Finset.sum_congr rfl fun r _ => congrArg _ (readBefore _ _ _ rfl _ _ _ r _))
    | decide

/-- The offset's gradient after the first sequence. -/
theorem db_A (c : Dev nD) (t : Fin cfg0.N) (ca : t.val % 4 = 0) (cb : ¬1 ≤ t.val % 4) (y : S1x128.Idx) :
    (outsAt0 m c t.val t.isLt).2.2 y = dbB (iblk m c 3 t) (y 1) := by
  rw [outsAt0_A m c t ca cb ca cb ca cb ca cb ca cb]
  frame_out
  open_payloads
  idx_vars y
  pointwise [dbB]

/-- The offset's gradient after a later sequence. -/
theorem db_B (c : Dev nD) (t : Fin cfg0.N) (ca : ¬t.val % 4 = 0) (cb : 1 ≤ t.val % 4) (y : S1x128.Idx) :
    (outsAt0 m c t.val t.isLt).2.2 y = (outsAt0 m c (t.val - 1) (by omega)).2.2 (ix2 (y 0) (y 1)) + dbB (iblk m c 3 t) (y 1) := by
  rw [outsAt0_B m c t ca cb ca cb ca cb ca cb ca cb]
  frame_out
  open_payloads
  idx_vars y
  pointwise [dbB, read_unread_whole]

/-- Which blocks a grid point works on. -/
theorem idx : ∀ t : Fin cfg0.N, win0_0.index t = ![t.val % 4, t.val / 4] ∧ win0_1.index t = ![0, t.val / 4]
    ∧ win0_2.index t = ![0, t.val / 4] ∧ win0_3.index t = ![t.val % 4, t.val / 4] ∧ win0_4.index t = ![t.val % 4, t.val / 4]
    ∧ win0_5.index t = ![0, t.val / 4] ∧ win0_6.index t = ![0, t.val / 4] :=
  (by decide +kernel : ∀ t : Fin grid0.N, _)

/-- There are sixteen grid points. -/
theorem lt16 (t : Fin cfg0.N) : t.val < 16 := lt_of_lt_of_eq t.isLt N_0

/-- The input, the taps and the output's gradient, as device `c` is given them. -/
abbrev aX (c : Dev nD) : FVec Ideal S4x2048x512 .f32 := m ((c : Thread nD τ).loc main_arg0)
abbrev aW (c : Dev nD) : FVec Ideal S4x512 .f32 := m ((c : Thread nD τ).loc main_arg1)
abbrev aY (c : Dev nD) : FVec Ideal S4x2048x512 .f32 := m ((c : Thread nD τ).loc main_arg3)

/-- An entry of the input's block. -/
theorem x_at (c : Dev nD) (t : Fin cfg0.N) (r : Fin 2048) (d : Fin 128) (b : Fin 4) (q : Fin 512)
    (hb : b.val = t.val % 4) (hq : q.val = t.val / 4 * 128 + d.val) : iblk m c 0 t (ix2 r d) = aX m c (ix3 b r q) := by
  blk_simp [iblk, V, idx t]; entry_read; pointwise; blk_ext [idx t]

/-- An entry of the taps' block. -/
theorem w_at (c : Dev nD) (t : Fin cfg0.N) (j : Fin 4) (d : Fin 128) (q : Fin 512)
    (hq : q.val = t.val / 4 * 128 + d.val) : iblk m c 1 t (ix2 j d) = aW m c (ix2 j q) := by
  rw [← show V m c main_arg1 = aW m c from V_main_arg1 m c]
  blk_simp [iblk]
  blk_ext [idx t]

/-- An entry of the output gradient's block. -/
theorem y_at (c : Dev nD) (t : Fin cfg0.N) (r : Fin 2048) (d : Fin 128) (b : Fin 4) (q : Fin 512)
    (hb : b.val = t.val % 4) (hq : q.val = t.val / 4 * 128 + d.val) : iblk m c 3 t (ix2 r d) = aY m c (ix3 b r q) := by
  blk_simp [iblk, V, idx t]; entry_read; pointwise; blk_ext [idx t]

/-- Where a block of a result lies in its array. -/
theorem emb4 (t : Fin cfg0.N) (y : S2048x128.Idx) :
    (win0_4.blk t).view.emb y = ix2 (⟨t.val % 4 * 2048 + (y 0).val, by have := lt16 t; have : (y 0).val < 2048 := (y 0).isLt; omega⟩ : Fin 8192)
      (⟨t.val / 4 * 128 + (y 1).val, by have := lt16 t; have : (y 1).val < 128 := (y 1).isLt; omega⟩ : Fin 512) := by
  idx_vars y
  blk_ext [idx t]
theorem emb5 (t : Fin cfg0.N) (y : S4x128.Idx) :
    (win0_5.blk t).view.emb y = ix2 (y 0) (⟨t.val / 4 * 128 + (y 1).val, by have := lt16 t; have : (y 1).val < 128 := (y 1).isLt; omega⟩ : Fin 512) := by
  idx_vars y
  blk_ext [idx t]
theorem emb6 (t : Fin cfg0.N) (y : S1x128.Idx) :
    (win0_6.blk t).view.emb y = ix2 (y 0) (⟨t.val / 4 * 128 + (y 1).val, by have := lt16 t; have : (y 1).val < 128 := (y 1).isLt; omega⟩ : Fin 512) := by
  idx_vars y
  blk_ext [idx t]

end Cert.Kernel4Ideal.Block
-- ==== Proof.Conv.Ref.lean ====
module

public import proofs.«01_k».proof.Proof.Conv.Block
public import Idealize.ShloMosaic.Lib.KernelVsHost
set_option maxRecDepth 16384

/-! The short convolution's gradient as the reference forms it. -/

@[expose] public noncomputable section
open Idealize.ShloMosaic Idealize.ShloMosaic.TcCoe Idealize.SL.Sem

namespace Cert.Reference4Ideal.Conv
open Cert.Reference4Ideal Cert.Reference4Ideal.Gen

section Sum
variable {n0 n1 n2 : Nat} {t : Shape}

theorem lt01 (h : (⟨3, ![n0, n1, n2]⟩ : Shape).ReducesTo [0, 1] t) : 0 < t.rank :=
  (show t.rank = 1 from h.1) ▸ (by decide)

theorem size01 (h : (⟨3, ![n0, n1, n2]⟩ : Shape).ReducesTo [0, 1] t) : t.size ⟨0, lt01 h⟩ = n2 := h.2 ⟨0, lt01 h⟩

/-- Which entries of an array are summed into one, when the first two axes go. -/
theorem fiber01 (h : (⟨3, ![n0, n1, n2]⟩ : Shape).ReducesTo [0, 1] t) (j : t.Idx) (i : (⟨3, ![n0, n1, n2]⟩ : Shape).Idx) :
    h.drop i = j ↔ ∃ k : Fin n0 × Fin n1, ix3 k.1 k.2 ⟨(j ⟨0, lt01 h⟩).val, Shape.coordLt (j ⟨0, lt01 h⟩) (size01 h)⟩ = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e ⟨0, lt01 h⟩)).symm
  · rintro ⟨k, rfl⟩
    funext b
    apply Fin.ext
    match b with
    | ⟨0, _⟩ => rfl
    | ⟨_ + 1, hb⟩ => exact absurd hb (by have : t.rank = 1 := h.1; omega)

/-- A sum over the first two axes. -/
theorem sum01 (h : (⟨3, ![n0, n1, n2]⟩ : Shape).ReducesTo [0, 1] t) (v : (⟨3, ![n0, n1, n2]⟩ : Shape).Idx → EReal) (init : EReal) (j : t.Idx) :
    Ideal.hostReduceAdd h v init j = init + ∑ a : Fin n0, ∑ b : Fin n1, v (ix3 a b ⟨(j ⟨0, lt01 h⟩).val, Shape.coordLt (j ⟨0, lt01 h⟩) (size01 h)⟩) := by
  refine congrArg (init + ·) ((Finset.sum_filter_eq_sum_of_fiber _ (fun k : Fin n0 × Fin n1 => ix3 k.1 k.2 ⟨(j ⟨0, lt01 h⟩).val, Shape.coordLt (j ⟨0, lt01 h⟩) (size01 h)⟩)
    (fun _ _ e => Prod.ext (congrFun e 0) (congrFun e 1)) (fiber01 h j) v).trans ?_)
  simp only [Fintype.sum_prod_type]

end Sum

variable (X Y : FVec Ideal S4x2048x512 .f32) (W : FVec Ideal S4x512 .f32)

/-- A sequence's entry `k` steps later, nothing past the end. -/
def later (k : ℕ) (b : Fin 4) (r : Fin 2048) (q : Fin 512) : EReal :=
  if h : r.val + k < 2048 then Y (ix3 b ⟨r.val + k, h⟩ q) else 0

/-- A sequence's entry `k` steps earlier, nothing before the start. -/
def earlier (k : ℕ) (b : Fin 4) (r : Fin 2048) (q : Fin 512) : EReal :=
  if h : k ≤ r.val then X (ix3 b ⟨r.val - k, by omega⟩ q) else 0

/-- The output's gradient times one tap. -/
def tap (j : ℕ) (h : S4x512.Slices ![j, 0] S1x512) : FVec Ideal S4x2048x512 .f32 :=
  mulf (shapeCast _ Y shapeCasts_S4x2048x512_S4x2048x512) (broadcastInDim S4x2048x512 ![0, 1, 2] bcast_S1x1x512_S4x2048x512_0_1_2
    (broadcastInDim S1x1x512 ![2] bcast_S512_S1x1x512_2 (shapeCast _ (extractStridedSlice S1x512 ![j, 0] W h) shapeCasts_S1x512_S512)))

/-- An array put `j` steps into a longer one of zeros. -/
def put (P : FVec Ideal S4x2048x512 .f32) (j i : ℕ) (h : S4x2048x512.Pads ![0, j, 0] ![0, i, 0] ![0, 0, 0] S4x2051x512) : FVec Ideal S4x2051x512 .f32 :=
  pad S4x2051x512 ![0, j, 0] ![0, i, 0] ![0, 0, 0] P (constant S_ .f32 0x00000000#32) h h_S_

/-- The gradient of the input. -/
def dx : FVec Ideal S8192x512 .f32 :=
  shapeCast _ (extractStridedSlice S4x2048x512 ![0, 3, 0] (addf (addf (addf
    (put (tap Y W 3 slices_S4x512_S1x512_3_0) 3 0 pads_S4x2048x512_S4x2051x512_000_300_000)
    (put (tap Y W 2 slices_S4x512_S1x512_2_0) 2 1 pads_S4x2048x512_S4x2051x512_000_210_000))
    (put (tap Y W 1 slices_S4x512_S1x512_1_0) 1 2 pads_S4x2048x512_S4x2051x512_000_120_000))
    (put (tap Y W 0 slices_S4x512_S1x512_0_0) 0 3 pads_S4x2048x512_S4x2051x512_000_030_000)) slices_S4x2051x512_S4x2048x512_0_3_0) shapeCasts_S4x2048x512_S8192x512

/-- The product of an output's gradient and a tap. -/
theorem tap_at (j : ℕ) (hj : j < 4) (h) (b : Fin 4) (r : Fin 2048) (q : Fin 512) : tap Y W j h (ix3 b r q) = Y (ix3 b r q) * W (ix2 ⟨j, hj⟩ q) := by
  pointwise [tap]

/-- An entry of the longer array. -/
theorem put_at (P : FVec Ideal S4x2048x512 .f32) (j i : ℕ) (hj : j ≤ 3) (h) (b : Fin 4) (r : Fin 2048) (p : Fin 2051) (hp : p.val = 3 + r.val) (q : Fin 512) :
    put P j i h (ix3 b p q) = later P (3 - j) b r q := by
  unfold put later
  by_cases c : r.val + (3 - j) < 2048
  · rw [dif_pos c]
    refine pad_apply_of_inside _ _ _ _ _ _ _ _ _ fun a => ?_
    fin_cases a
    · show b.val = 0 + b.val * 1; omega
    · show p.val = j + (r.val + (3 - j)) * 1; omega
    · show q.val = 0 + q.val * 1; omega
  · rw [dif_neg c]
    refine (pad_apply_of_not_inside _ _ _ _ _ _ _ _ 1 ?_).trans (by pointwise)
    show ¬(j ≤ p.val ∧ (p.val - j) % 1 = 0 ∧ (p.val - j) / 1 < 2048)
    omega

/-- A product moved is the moved gradient times the tap. -/
theorem later_tap (j : ℕ) (hj : j < 4) (h) (k : ℕ) (b : Fin 4) (r : Fin 2048) (q : Fin 512) : later (tap Y W j h) k b r q = W (ix2 ⟨j, hj⟩ q) * later Y k b r q := by
  unfold later
  by_cases c : r.val + k < 2048
  · rw [dif_pos c, dif_pos c, tap_at _ _ j hj, mul_comm]
  · rw [dif_neg c, dif_neg c, mul_zero]

/-- An entry of the input's gradient. -/
theorem dx_at (n : Fin 8192) (q : Fin 512) (b : Fin 4) (r : Fin 2048) (hn : n.val = b.val * 2048 + r.val) : dx Y W (ix2 n q)
    = W (ix2 0 q) * later Y 3 b r q + W (ix2 1 q) * later Y 2 b r q + W (ix2 2 q) * later Y 1 b r q + W (ix2 3 q) * later Y 0 b r q := by
  pointwise [dx]
  have hb : (⟨n.val / 2048, by omega⟩ : Fin 4) = b := Fin.ext (by show n.val / 2048 = b.val; omega)
  have hr : n.val % 2048 = r.val := by omega
  rw [hb, put_at _ 3 0 (by omega) _ b r _ (congrArg (3 + ·) hr) q, put_at _ 2 1 (by omega) _ b r _ (congrArg (3 + ·) hr) q,
    put_at _ 1 2 (by omega) _ b r _ (congrArg (3 + ·) hr) q, put_at _ 0 3 (by omega) _ b r _ (congrArg (3 + ·) hr) q,
    later_tap Y W 3 (by omega), later_tap Y W 2 (by omega), later_tap Y W 1 (by omega), later_tap Y W 0 (by omega)]
  show W (ix2 3 q) * later Y 0 b r q + W (ix2 2 q) * later Y 1 b r q + W (ix2 1 q) * later Y 2 b r q + W (ix2 0 q) * later Y 3 b r q = _
  abel

/-- The input with three empty steps before it. -/
def cat : FVec Ideal S4x2051x512 .f32 :=
  concatenate S4x2051x512 1 [⟨S4x3x512, (broadcastInDim S4x3x512 ![] bcast_S_S4x3x512 (constant S_ .f32 0x00000000#32))⟩, ⟨S4x2048x512, X⟩] concatenates_S4x3x512_S4x2048x512_S4x2051x512_d1

/-- An entry of it. -/
theorem cat_at (j : ℕ) (hj : j ≤ 3) (b : Fin 4) (r : Fin 2048) (p : Fin 2051) (hp : p.val = j + r.val) (q : Fin 512) :
    cat X (ix3 b p q) = earlier X (3 - j) b r q := by
  pointwise [cat]
  unfold earlier
  by_cases c : 3 - j ≤ r.val
  · rw [dif_neg (by omega), dif_pos c]
    exact congrArg (fun k => X (ix3 b k q)) (Fin.ext (by show p.val - 3 = r.val - (3 - j); omega))
  · rw [dif_pos (by omega), dif_neg c]

/-- A sum over sequences and steps, as the reference forms it. -/
def tot (P : FVec Ideal S4x2048x512 .f32) : FVec Ideal S512 .f32 :=
  Host.reduceAdd (shapeCast _ (Host.reduceAdd P (constant S_ .f32 0x00000000#32) reducesTo_S4x2048x512_S512_d0_1 h_S_) shapeCasts_S512_S1x1x512) (constant S_ .f32 0x00000000#32) reducesTo_S1x1x512_S512_d0_1 h_S_

theorem tot_at (P : FVec Ideal S4x2048x512 .f32) (q : Fin 512) : tot P (ix1 q) = ∑ b : Fin 4, ∑ r : Fin 2048, P (ix3 b r q) := by
  pointwise [tot, sum01]
  simp only [Fin.sum_univ_one]

/-- A tap's gradient. -/
def dtap (j : ℕ) (h : S4x2051x512.Slices ![0, j, 0] S4x2048x512) : FVec Ideal S512 .f32 :=
  tot (mulf (extractStridedSlice S4x2048x512 ![0, j, 0] (cat X) h) (shapeCast _ Y shapeCasts_S4x2048x512_S4x2048x512))

/-- A row put into an array of four. -/
def row (v : FVec Ideal S512 .f32) (j i : ℕ) (h : S1x512.Pads ![j, 0] ![i, 0] ![0, 0] S4x512) : FVec Ideal S4x512 .f32 :=
  pad S4x512 ![j, 0] ![i, 0] ![0, 0] (broadcastInDim S1x512 ![1] bcast_S512_S1x512_1 v) (constant S_ .f32 0x00000000#32) h h_S_

/-- The gradient of the taps. -/
def dw : FVec Ideal S4x512 .f32 :=
  addf (addf (addf (row (dtap X Y 3 slices_S4x2051x512_S4x2048x512_0_3_0) 3 0 pads_S1x512_S4x512_300_000)
    (row (dtap X Y 2 slices_S4x2051x512_S4x2048x512_0_2_0) 2 1 pads_S1x512_S4x512_210_000))
    (row (dtap X Y 1 slices_S4x2051x512_S4x2048x512_0_1_0) 1 2 pads_S1x512_S4x512_120_000))
    (row (dtap X Y 0 slices_S4x2051x512_S4x2048x512_0_0_0) 0 3 pads_S1x512_S4x512_030_000)

/-- The gradient of the offset. -/
def db : FVec Ideal S1x512 .f32 := broadcastInDim S1x512 ![1] bcast_S512_S1x512_1 (tot Y)

/-- An entry of a tap's gradient. -/
theorem dtap_at (j : ℕ) (hj : j ≤ 3) (h) (q : Fin 512) : dtap X Y j h (ix1 q) = ∑ b : Fin 4, ∑ r : Fin 2048, Y (ix3 b r q) * earlier X (3 - j) b r q := by
  rw [dtap, tot_at]
  refine Finset.sum_congr rfl fun b _ => Finset.sum_congr rfl fun r _ => ?_
  pointwise
  rw [mul_comm]
  exact congrArg _ (cat_at X j hj b r _ rfl q)

/-- An entry of a row among four. -/
theorem row_at (v : FVec Ideal S512 .f32) (j i : ℕ) (h) (k : Fin 4) (q : Fin 512) : row v j i h (ix2 k q) = if k.val = j then v (ix1 q) else 0 := by
  unfold row
  by_cases c : k.val = j
  · rw [if_pos c]
    refine (pad_apply_of_inside _ _ _ _ _ _ _ _ (ix2 0 q) fun a => ?_).trans (by pointwise)
    fin_cases a
    · show k.val = j + 0 * 1; omega
    · show q.val = 0 + q.val * 1; omega
  · rw [if_neg c]
    refine (pad_apply_of_not_inside _ _ _ _ _ _ _ _ 0 ?_).trans (by pointwise)
    show ¬(j ≤ k.val ∧ (k.val - j) % 1 = 0 ∧ (k.val - j) / 1 < 1)
    omega

/-- An entry of the taps' gradient. -/
theorem dw_at (k : Fin 4) (q : Fin 512) : dw X Y (ix2 k q) = ∑ b : Fin 4, ∑ r : Fin 2048, Y (ix3 b r q) * earlier X (3 - k.val) b r q := by
  pointwise [dw]
  simp only [row_at]
  fin_cases k <;> simp [dtap_at]

/-- An entry of the offset's gradient. -/
theorem db_at (z : Fin 1) (q : Fin 512) : db Y (ix2 z q) = ∑ b : Fin 4, ∑ r : Fin 2048, Y (ix3 b r q) := by
  pointwise [db]
  exact tot_at Y q

end Cert.Reference4Ideal.Conv
-- ==== Proof.Conv.Grad.lean ====
module

public import proofs.«01_k».proof.Proof.Conv.Ref
set_option maxRecDepth 16384

/-! The three arrays of the short convolution's backward call are the reference's gradients. -/

@[expose] public noncomputable section
open Idealize.ShloMosaic Idealize.ShloMosaic.TcCoe Idealize.SL.Sem
open Idealize.ShloMosaic.Pipeline (Dat)

namespace Cert.Kernel4Ideal.Block
open Cert.Kernel4Ideal Cert.Kernel4Ideal.Gen
variable (m : (ℓ : Loc nD τ sig) → Buf (Elt Ideal) ℓ)

/-- A block's column of the output's gradient, moved. -/
theorem later_at (c : Dev nD) (t : Fin cfg0.N) (k : ℕ) (r : Fin 2048) (d : Fin 128) (b : Fin 4) (q : Fin 512)
    (hb : b.val = t.val % 4) (hq : q.val = t.val / 4 * 128 + d.val) :
    later (iblk m c 3 t) k r d = Cert.Reference4Ideal.Conv.later (aY m c) k b r q := by
  unfold later Cert.Reference4Ideal.Conv.later
  by_cases h : r.val + k < 2048
  · rw [dif_pos h, dif_pos h]; exact y_at m c t _ d b q hb hq
  · rw [dif_neg h, dif_neg h]

/-- A block's column of the input, moved. -/
theorem earlier_at (c : Dev nD) (t : Fin cfg0.N) (k : ℕ) (r : Fin 2048) (d : Fin 128) (b : Fin 4) (q : Fin 512)
    (hb : b.val = t.val % 4) (hq : q.val = t.val / 4 * 128 + d.val) :
    earlier (iblk m c 0 t) k r d = Cert.Reference4Ideal.Conv.earlier (aX m c) k b r q := by
  unfold earlier Cert.Reference4Ideal.Conv.earlier
  by_cases h : k ≤ r.val
  · rw [dif_pos h, dif_pos h]; exact x_at m c t _ d b q hb hq
  · rw [dif_neg h, dif_neg h]

/-- The input's gradient in a block, in the whole. -/
theorem dx_at (c : Dev nD) (t : Fin cfg0.N) (r : Fin 2048) (d : Fin 128) (n : Fin 8192) (q : Fin 512)
    (hn : n.val = t.val % 4 * 2048 + r.val) (hq : q.val = t.val / 4 * 128 + d.val) :
    dxB (iblk m c 1 t) (iblk m c 3 t) r d = Cert.Reference4Ideal.Conv.dx (aY m c) (aW m c) (ix2 n q) := by
  have hb : t.val % 4 < 4 := Nat.mod_lt _ (by decide)
  rw [Cert.Reference4Ideal.Conv.dx_at (aY m c) (aW m c) n q ⟨t.val % 4, hb⟩ r hn, dxB]
  simp only [w_at m c t _ d q hq, later_at m c t _ r d ⟨t.val % 4, hb⟩ q rfl hq]

/-- The call's first result is the input's gradient. -/
theorem final4 (c : Dev nD) : (dats m 0 c).arrAt 4 cfg0.N = Cert.Reference4Ideal.Conv.dx (aY m c) (aW m c) := by
  refine (dats m 0 c).arrAt_eq_of_covers 4 _ (by decide +kernel) fun t hf y => ?_
  blk_simp
  rw [after0_4]
  refine Eq.trans ?_ (congrArg _ (emb4 t y).symm)
  by_cases h : t.val % 4 = 0
  · exact (dx_A m c t h (by omega) y).trans (dx_at m c t _ _ _ _ rfl rfl)
  · exact (dx_B m c t h (by omega) y).trans (dx_at m c t _ _ _ _ rfl rfl)

/-- The taps' gradient after a channel group's last sequence. -/
theorem dw_acc (c : Dev nD) (t : Fin cfg0.N) (ct : t.val % 4 = 3) (j : Fin 4) (d : Fin 128) (q : Fin 512) (hq : q.val = t.val / 4 * 128 + d.val) :
    (outsAt0 m c t.val t.isLt).2.1 (ix2 j d) = Cert.Reference4Ideal.Conv.dw (aX m c) (aY m c) (ix2 j q) := by
  rw [Pipeline.eq_sum_fin_of_reset_step_apply_of_flush (fun n h => (outsAt0 m c n h).2.1) 4 (fun _ => 0)
      (fun p i => dwB (iblk m c 0 p) (iblk m c 3 p) (i 0) (i 1))
      (fun p h i => by rw [dw_A m c p h (by omega) i, zero_add])
      (fun p h i => by rw [dw_B m c p h (by omega) i, ix2_eta]) t ct _, zero_add, Cert.Reference4Ideal.Conv.dw_at]
  refine Finset.sum_congr rfl fun s _ => Finset.sum_congr rfl fun r _ => ?_
  have hp := Pipeline.run_point_lt_of_flush t ct s
  exact congrArg₂ (· * ·) (y_at m c ⟨4 * (t.val / 4) + s.val, hp⟩ r d s q (by dsimp only; omega) (by dsimp only; omega))
    (earlier_at m c ⟨4 * (t.val / 4) + s.val, hp⟩ _ r d s q (by dsimp only; omega) (by dsimp only; omega))

/-- The call's second result is the taps' gradient. -/
theorem final5 (c : Dev nD) : (dats m 0 c).arrAt 5 cfg0.N = Cert.Reference4Ideal.Conv.dw (aX m c) (aY m c) := by
  refine (dats m 0 c).arrAt_eq_of_covers 5 _ (by decide +kernel) fun t hf y => ?_
  blk_simp
  have ct := (flush0_5 t).mp hf
  rw [after0_5]
  refine Eq.trans ?_ (congrArg _ (emb5 t y).symm)
  exact (congrArg _ (ix2_eta y).symm).trans (dw_acc m c t ct _ _ _ rfl)

/-- The offset's gradient after a channel group's last sequence. -/
theorem db_acc (c : Dev nD) (t : Fin cfg0.N) (ct : t.val % 4 = 3) (j : Fin 1) (d : Fin 128) (q : Fin 512) (hq : q.val = t.val / 4 * 128 + d.val) :
    (outsAt0 m c t.val t.isLt).2.2 (ix2 j d) = Cert.Reference4Ideal.Conv.db (aY m c) (ix2 j q) := by
  rw [Pipeline.eq_sum_fin_of_reset_step_apply_of_flush (fun n h => (outsAt0 m c n h).2.2) 4 (fun _ => 0)
      (fun p i => dbB (iblk m c 3 p) (i 1))
      (fun p h i => by rw [db_A m c p h (by omega) i, zero_add])
      (fun p h i => by rw [db_B m c p h (by omega) i, ix2_eta]) t ct _, zero_add, Cert.Reference4Ideal.Conv.db_at]
  refine Finset.sum_congr rfl fun s _ => Finset.sum_congr rfl fun r _ => ?_
  have hp := Pipeline.run_point_lt_of_flush t ct s
  exact y_at m c ⟨4 * (t.val / 4) + s.val, hp⟩ r d s q (by dsimp only; omega) (by dsimp only; omega)

/-- The call's third result is the offset's gradient. -/
theorem final6 (c : Dev nD) : (dats m 0 c).arrAt 6 cfg0.N = Cert.Reference4Ideal.Conv.db (aY m c) := by
  refine (dats m 0 c).arrAt_eq_of_covers 6 _ (by decide +kernel) fun t hf y => ?_
  blk_simp
  have ct := (flush0_6 t).mp hf
  rw [after0_6]
  refine Eq.trans ?_ (congrArg _ (emb6 t y).symm)
  exact (congrArg _ (ix2_eta y).symm).trans (db_acc m c t ct _ _ _ rfl)

end Cert.Kernel4Ideal.Block
-- ==== Proof.Norm.Row.lean ====
module

public import proofs.«01_k».proof.Proof.Ffn.Real

/-! A row's layer norm taken backward, in the two ways that it is written: the short form of the kernel, and the
    reference's, which differentiates the mean, the variance and the reciprocal square root one after the other. -/

@[expose] public noncomputable section
open Idealize.ShloMosaic

namespace Cert.Norm
open Cert.Ffn

/-- The row's length, the constant added to the variance, and the constants 2 and -1/2 of the derivatives, as the words
    the programs hold. -/
def cn : EReal := Ideal.ofBits .f32 0x44800000#32
def cε : EReal := Ideal.ofBits .f32 0x3727C5AC#32
def c2 : EReal := Ideal.ofBits .f32 0x40000000#32
def cm : EReal := Ideal.ofBits .f32 0xBF000000#32

theorem cn_eq : cn = ((1024 : ℝ) : EReal) := by
  simp [cn, Ideal.ofBits, Ideal.ieee, -EReal.coe_mul]; norm_num
theorem c2_eq : c2 = ((2 : ℝ) : EReal) := by
  simp [c2, Ideal.ofBits, Ideal.ieee, -EReal.coe_mul]; norm_num
theorem cm_eq : cm = ((-(1 / 2) : ℝ) : EReal) := by
  simp [cm, Ideal.ofBits, Ideal.ieee, -EReal.coe_mul]; norm_num
theorem cε_eq : ∃ e : ℝ, 0 < e ∧ cε = (e : EReal) := by
  refine ⟨10995116 * (2 : ℝ) ^ (-40 : ℤ), by positivity, ?_⟩
  simp [cε, Ideal.ofBits, Ideal.ieee, -EReal.coe_mul]

/-- The mean of a row. -/
def mean (z : Fin 1024 → EReal) : EReal := Ideal.div (∑ k : Fin 1024, z k) cn

/-- A row less its mean. -/
def cen (z : Fin 1024 → EReal) (k : Fin 1024) : EReal := z k - mean z

/-- The variance with the constant added. -/
def var (z : Fin 1024 → EReal) : EReal := mean (fun k => cen z k * cen z k) + cε

/-- The reciprocal of the deviation. -/
def rstd (z : Fin 1024 → EReal) : EReal := Ideal.rsqrt (var z)

/-- The normalised row. -/
def xhat (z : Fin 1024 → EReal) (k : Fin 1024) : EReal := cen z k * rstd z

/-- The gradient as the kernel writes it. -/
def bwdK (z u : Fin 1024 → EReal) (k : Fin 1024) : EReal :=
  rstd z * (u k - mean u - xhat z k * mean (fun j => u j * xhat z j))

/-- What reaches a centred entry through the variance, as the reference writes it. -/
def viaVar (z u : Fin 1024 → EReal) (k : Fin 1024) : EReal :=
  Ideal.div ((∑ j : Fin 1024, cen z j * u j) * (cm * Ideal.div (rstd z) (var z))) cn * (c2 * cen z k)

/-- The gradient as the reference writes it. -/
def bwdR (z u : Fin 1024 → EReal) (k : Fin 1024) : EReal :=
  u k * rstd z + viaVar z u k + Ideal.div ((∑ j : Fin 1024, -(u j * rstd z)) + ∑ j : Fin 1024, -(viaVar z u j)) cn

theorem coe_sum {ι : Type} (t : Finset ι) (f : ι → ℝ) : ((∑ k ∈ t, f k : ℝ) : EReal) = ∑ k ∈ t, (f k : EReal) := by
  classical
  induction t using Finset.induction_on with
  | empty => simp
  | insert a t h ih => rw [Finset.sum_insert h, Finset.sum_insert h, EReal.coe_add, ih]

theorem div_coe (a b : ℝ) (hb : b ≠ 0) : Ideal.div (a : EReal) (b : EReal) = ((a / b : ℝ) : EReal) := by
  rw [Ideal.div_coe hb, ← EReal.coe_mul, mul_one_div]

theorem mean_coe (f : Fin 1024 → ℝ) : mean (fun k => (f k : EReal)) = (((∑ k : Fin 1024, f k) / 1024 : ℝ) : EReal) := by
  rw [mean, cn_eq, ← div_coe _ _ (by norm_num)]
  rw [coe_sum]

/-- On real rows the two are equal. -/
theorem bwd_eq (z u : Fin 1024 → EReal) (hz : ∀ k, IsReal (z k)) (hu : ∀ k, IsReal (u k)) (k : Fin 1024) : bwdK z u k = bwdR z u k := by
  choose a ha using hz
  choose b hb using hu
  obtain rfl : z = fun k => (a k : EReal) := funext ha
  obtain rfl : u = fun k => (b k : EReal) := funext hb
  obtain ⟨e, he, hε⟩ := cε_eq
  obtain ⟨d, hd, h0⟩ : ∃ d : Fin 1024 → ℝ, cen (fun k => (a k : EReal)) = (fun k => (d k : EReal)) ∧ ∑ k, d k = 0 := by
    refine ⟨fun k => a k - (∑ k : Fin 1024, a k) / 1024, funext fun k => ?_, ?_⟩
    · rw [cen, mean_coe, ← EReal.coe_sub]
    · rw [Finset.sum_sub_distrib, Finset.sum_const, Finset.card_univ, Fintype.card_fin, nsmul_eq_mul]; push_cast; ring
  obtain ⟨v, hv, hvar⟩ : ∃ v : ℝ, 0 < v ∧ var (fun k => (a k : EReal)) = (v : EReal) := by
    refine ⟨(∑ k, d k * d k) / 1024 + e, ?_, ?_⟩
    · have : 0 ≤ ∑ k, d k * d k := Finset.sum_nonneg fun k _ => mul_self_nonneg _
      positivity
    · rw [var, hd, hε, EReal.coe_add, ← mean_coe]; simp only [EReal.coe_mul]
  obtain ⟨s, hs, hr⟩ : ∃ s : ℝ, s * s * v = 1 ∧ rstd (fun k => (a k : EReal)) = (s : EReal) := by
    refine ⟨(Real.sqrt v)⁻¹, ?_, ?_⟩
    · rw [← mul_inv, Real.mul_self_sqrt hv.le, inv_mul_cancel₀ hv.ne']
    · rw [rstd, hvar, Ideal.rsqrt_coe, if_neg (not_lt.mpr hv.le), if_neg hv.ne']
  have hx : xhat (fun k => (a k : EReal)) = fun k => ((d k * s : ℝ) : EReal) := by
    funext k; rw [xhat, hd, hr, EReal.coe_mul]
  have hV : viaVar (fun k => (a k : EReal)) (fun k => (b k : EReal)) = fun k => (((∑ j, d j * b j) * (-(1 / 2) * (s / v)) / 1024 * (2 * d k) : ℝ) : EReal) := by
    funext k
    rw [viaVar, hd, hr, hvar, div_coe _ _ hv.ne', cm_eq, c2_eq, cn_eq]
    simp only [← EReal.coe_mul, ← coe_sum]
    rw [div_coe _ _ (by norm_num), ← EReal.coe_mul]
  rw [bwdK, bwdR, hx, hV, hr, mean_coe, cn_eq]
  simp only [← EReal.coe_mul, ← EReal.coe_neg, ← coe_sum, ← EReal.coe_add]
  rw [div_coe _ _ (by norm_num), mean_coe]
  simp only [← EReal.coe_mul, ← EReal.coe_sub, ← EReal.coe_add]
  congr 1
  have e1 : ∑ j, b j * (d j * s) = s * ∑ j, d j * b j := by rw [Finset.mul_sum]; exact Finset.sum_congr rfl fun j _ => by ring
  have e2 : ∑ j, -(b j * s) = -(s * ∑ j, b j) := by rw [Finset.mul_sum, ← Finset.sum_neg_distrib]; exact Finset.sum_congr rfl fun j _ => by ring
  have e3 : ∀ w : ℝ, ∑ j, -(w * (2 * d j)) = -(w * 2 * ∑ j, d j) := fun w => by rw [Finset.mul_sum, ← Finset.sum_neg_distrib]; exact Finset.sum_congr rfl fun j _ => by ring
  have e4 : s / v = s * s * s := by
    rw [div_eq_iff hv.ne']; linear_combination (-s) * hs
  rw [e1, e2, e3, h0, e4]
  ring

/-- The normalised row of a real row is real. -/
theorem isReal_xhat (z : Fin 1024 → EReal) (hz : ∀ k, IsReal (z k)) (k : Fin 1024) : IsReal (xhat z k) := by
  choose a ha using hz
  obtain rfl : z = fun k => (a k : EReal) := funext ha
  obtain ⟨e, he, hε⟩ := cε_eq
  obtain ⟨d, hd⟩ : ∃ d : Fin 1024 → ℝ, cen (fun k => (a k : EReal)) = (fun k => (d k : EReal)) :=
    ⟨fun k => a k - (∑ k : Fin 1024, a k) / 1024, funext fun k => by rw [cen, mean_coe, ← EReal.coe_sub]⟩
  have hv : 0 < (∑ k, d k * d k) / 1024 + e := by
    have : 0 ≤ ∑ k, d k * d k := Finset.sum_nonneg fun k _ => mul_self_nonneg _
    positivity
  have hvar : var (fun k => (a k : EReal)) = (((∑ k, d k * d k) / 1024 + e : ℝ) : EReal) := by
    rw [var, hd, hε, EReal.coe_add, ← mean_coe]; simp only [EReal.coe_mul]
  rw [xhat, hd, rstd, hvar, Ideal.rsqrt_coe, if_neg (not_lt.mpr hv.le), if_neg hv.ne']
  exact ⟨_, (EReal.coe_mul _ _).symm⟩

end Cert.Norm
-- ==== Proof.Norm.Block.lean ====
module

public import proofs.«01_k».proof.Proof.Gen.Kernel5Ideal.Frame
public import proofs.«01_k».proof.Proof.Ffn.Input
public import proofs.«01_k».proof.Proof.Norm.Row
set_option maxRecDepth 16384

/-! The feed-forward block's input gradient taken on through the layer norm before it, in one call. Each grid point
    forms 512 rows of the block's input gradient, takes them back through the layer norm, and adds the rows' shares of
    the gain's and the offset's gradients to what the points before it left. -/

@[expose] public noncomputable section
open Idealize.ShloMosaic Idealize.ShloMosaic.TcCoe Idealize.SL.Sem
open Idealize.ShloMosaic.Pipeline (Dat)

namespace Cert.Kernel5Ideal.Block
open Cert.Kernel5Ideal Cert.Kernel5Ideal.Gen Cert.Norm
open Cert.Kernel2Ideal.Block (c0 part)
variable (m : (ℓ : Loc nD τ sig) → Buf (Elt Ideal) ℓ)

/-- Which blocks a grid point works on: its own 512 rows, and the whole weights, gain and gradient rows. -/
theorem idx : ∀ t : Fin cfg0.N, win0_0.index t = ![0, t.val, 0] ∧ win0_1.index t = ![0, t.val, 0]
    ∧ win0_2.index t = ![0, 0, 0] ∧ win0_3.index t = ![0, 0, 0] ∧ win0_4.index t = ![t.val, 0] ∧ win0_5.index t = ![t.val, 0]
    ∧ win0_6.index t = ![0, 0] ∧ win0_7.index t = ![t.val, 0] ∧ win0_8.index t = ![t.val, 0] ∧ win0_9.index t = ![0, 0] ∧ win0_10.index t = ![0, 0] :=
  (by decide +kernel : ∀ t : Fin grid0.N, _)

/-- The gradient of the feed-forward block's input, in a block of rows. -/
def dxB (x0 x1 : FVec Ideal S4x512x704 .bf16) (x2 x3 : FVec Ideal S4x1024x704 .bf16) (x4 : FVec Ideal S512x1024 .f32) (r : Fin 512) (d : Fin 1024) : EReal :=
  c0 * x4 (ix2 r d) + ∑ j : Fin 4, (part x0 x2 j r d + part x1 x3 j r d)

/-- A row of the incoming gradient as the layer norm meets it: the block's input gradient times the gain. -/
def uB (x0 x1 : FVec Ideal S4x512x704 .bf16) (x2 x3 : FVec Ideal S4x1024x704 .bf16) (x4 : FVec Ideal S512x1024 .f32) (x6 : FVec Ideal S1x1024 .f32)
    (r : Fin 512) (k : Fin 1024) : EReal :=
  dxB x0 x1 x2 x3 x4 r k * x6 (ix2 0 k)

/-- The rows' gradients after the first point. -/
theorem dz_A (c : Dev nD) (t : Fin cfg0.N) (h0 : t.val % 16 = 0) (h1 : ¬1 ≤ t.val) (y : S512x1024.Idx) :
    (outsAt0 m c t.val t.isLt).1 y = bwdK (fun k => iblk m c 5 t (ix2 (y 0) k)) (uB (iblk m c 0 t) (iblk m c 1 t) (iblk m c 2 t) (iblk m c 3 t) (iblk m c 4 t) (iblk m c 6 t) (y 0)) (y 1) := by
  rw [outsAt0_A m c t h0 h1]
  frame_out
  generalize hZ : k0_pay4 (F := Ideal) _ _ _ _ _ _ _ _ _ = Z
  have hz : ∀ r d, Z (ix2 r d) = dxB (iblk m c 0 t) (iblk m c 1 t) (iblk m c 2 t) (iblk m c 3 t) (iblk m c 4 t) r d := by
    intro r d
    subst hZ
    pointwise [part, c0, dxB, Fin.sum_univ_four, k0_pay3, k0_pay4]
    simp only [add_assoc]
  clear hZ
  idx_vars y
  pointwise [k0_pay5, k0_pay6, k0_pay7, k0_pay8, k0_pay9, k0_pay10, bwdK, uB, rstd, var, mean, cen, xhat, cn, cε, hz]

/-- The rounded copy of the rows' gradients after the first point. -/
theorem dzb_A (c : Dev nD) (t : Fin cfg0.N) (h0 : t.val % 16 = 0) (h1 : ¬1 ≤ t.val) (y : S512x1024.Idx) :
    (outsAt0 m c t.val t.isLt).2.1 y = bwdK (fun k => iblk m c 5 t (ix2 (y 0) k)) (uB (iblk m c 0 t) (iblk m c 1 t) (iblk m c 2 t) (iblk m c 3 t) (iblk m c 4 t) (iblk m c 6 t) (y 0)) (y 1) := by
  rw [outsAt0_A m c t h0 h1]
  frame_out
  generalize hZ : k0_pay4 (F := Ideal) _ _ _ _ _ _ _ _ _ = Z
  have hz : ∀ r d, Z (ix2 r d) = dxB (iblk m c 0 t) (iblk m c 1 t) (iblk m c 2 t) (iblk m c 3 t) (iblk m c 4 t) r d := by
    intro r d
    subst hZ
    pointwise [part, c0, dxB, Fin.sum_univ_four, k0_pay3, k0_pay4]
    simp only [add_assoc]
  clear hZ
  idx_vars y
  pointwise [k0_pay13, k0_pay5, k0_pay6, k0_pay7, k0_pay8, k0_pay9, k0_pay10, bwdK, uB, rstd, var, mean, cen, xhat, cn, cε, hz]

/-- The rows' gradients after a later point. -/
theorem dz_B (c : Dev nD) (t : Fin cfg0.N) (h0 : ¬t.val % 16 = 0) (h1 : 1 ≤ t.val) (y : S512x1024.Idx) :
    (outsAt0 m c t.val t.isLt).1 y = bwdK (fun k => iblk m c 5 t (ix2 (y 0) k)) (uB (iblk m c 0 t) (iblk m c 1 t) (iblk m c 2 t) (iblk m c 3 t) (iblk m c 4 t) (iblk m c 6 t) (y 0)) (y 1) := by
  rw [outsAt0_B m c t h0 h1]
  frame_out
  generalize hZ : k0_pay4 (F := Ideal) _ _ _ _ _ _ _ _ _ = Z
  have hz : ∀ r d, Z (ix2 r d) = dxB (iblk m c 0 t) (iblk m c 1 t) (iblk m c 2 t) (iblk m c 3 t) (iblk m c 4 t) r d := by
    intro r d
    subst hZ
    pointwise [part, c0, dxB, Fin.sum_univ_four, k0_pay3, k0_pay4]
    simp only [add_assoc]
  clear hZ
  idx_vars y
  pointwise [k0_pay5, k0_pay6, k0_pay7, k0_pay8, k0_pay9, k0_pay10, bwdK, uB, rstd, var, mean, cen, xhat, cn, cε, hz]

/-- The rounded copy of the rows' gradients after a later point. -/
theorem dzb_B (c : Dev nD) (t : Fin cfg0.N) (h0 : ¬t.val % 16 = 0) (h1 : 1 ≤ t.val) (y : S512x1024.Idx) :
    (outsAt0 m c t.val t.isLt).2.1 y = bwdK (fun k => iblk m c 5 t (ix2 (y 0) k)) (uB (iblk m c 0 t) (iblk m c 1 t) (iblk m c 2 t) (iblk m c 3 t) (iblk m c 4 t) (iblk m c 6 t) (y 0)) (y 1) := by
  rw [outsAt0_B m c t h0 h1]
  frame_out
  generalize hZ : k0_pay4 (F := Ideal) _ _ _ _ _ _ _ _ _ = Z
  have hz : ∀ r d, Z (ix2 r d) = dxB (iblk m c 0 t) (iblk m c 1 t) (iblk m c 2 t) (iblk m c 3 t) (iblk m c 4 t) r d := by
    intro r d
    subst hZ
    pointwise [part, c0, dxB, Fin.sum_univ_four, k0_pay3, k0_pay4]
    simp only [add_assoc]
  clear hZ
  idx_vars y
  pointwise [k0_pay13, k0_pay5, k0_pay6, k0_pay7, k0_pay8, k0_pay9, k0_pay10, bwdK, uB, rstd, var, mean, cen, xhat, cn, cε, hz]

/-- A point's share of the gain's gradient. -/
def dgB (x0 x1 : FVec Ideal S4x512x704 .bf16) (x2 x3 : FVec Ideal S4x1024x704 .bf16) (x4 x5 : FVec Ideal S512x1024 .f32) (d : Fin 1024) : EReal :=
  ∑ r : Fin 512, dxB x0 x1 x2 x3 x4 r d * xhat (fun k => x5 (ix2 r k)) d

/-- A point's share of the offset's gradient. -/
def dbB (x0 x1 : FVec Ideal S4x512x704 .bf16) (x2 x3 : FVec Ideal S4x1024x704 .bf16) (x4 : FVec Ideal S512x1024 .f32) (d : Fin 1024) : EReal :=
  ∑ r : Fin 512, dxB x0 x1 x2 x3 x4 r d

/-- The gain's gradient after the first point. -/
theorem dg_A (c : Dev nD) (t : Fin cfg0.N) (h0 : t.val % 16 = 0) (h1 : ¬1 ≤ t.val) (y : S1x1024.Idx) :
    (outsAt0 m c t.val t.isLt).2.2.1 y = dgB (iblk m c 0 t) (iblk m c 1 t) (iblk m c 2 t) (iblk m c 3 t) (iblk m c 4 t) (iblk m c 5 t) (y 1) := by
  rw [outsAt0_A m c t h0 h1]
  frame_out
  generalize hZ : k0_pay4 (F := Ideal) _ _ _ _ _ _ _ _ _ = Z
  have hz : ∀ r d, Z (ix2 r d) = dxB (iblk m c 0 t) (iblk m c 1 t) (iblk m c 2 t) (iblk m c 3 t) (iblk m c 4 t) r d := by
    intro r d
    subst hZ
    pointwise [part, c0, dxB, Fin.sum_univ_four, k0_pay3, k0_pay4]
    simp only [add_assoc]
  clear hZ
  idx_vars y
  pointwise [k0_pay1, k0_pay11, k0_pay6, k0_pay7, k0_pay8, k0_pay9, dgB, rstd, var, mean, cen, xhat, cn, cε, hz]

/-- The offset's gradient after the first point. -/
theorem db_A (c : Dev nD) (t : Fin cfg0.N) (h0 : t.val % 16 = 0) (h1 : ¬1 ≤ t.val) (y : S1x1024.Idx) :
    (outsAt0 m c t.val t.isLt).2.2.2 y = dbB (iblk m c 0 t) (iblk m c 1 t) (iblk m c 2 t) (iblk m c 3 t) (iblk m c 4 t) (y 1) := by
  rw [outsAt0_A m c t h0 h1]
  frame_out
  generalize hZ : k0_pay4 (F := Ideal) _ _ _ _ _ _ _ _ _ = Z
  have hz : ∀ r d, Z (ix2 r d) = dxB (iblk m c 0 t) (iblk m c 1 t) (iblk m c 2 t) (iblk m c 3 t) (iblk m c 4 t) r d := by
    intro r d
    subst hZ
    pointwise [part, c0, dxB, Fin.sum_univ_four, k0_pay3, k0_pay4]
    simp only [add_assoc]
  clear hZ
  idx_vars y
  pointwise [k0_pay2, k0_pay12, k0_pay6, k0_pay7, k0_pay8, k0_pay9, dbB, rstd, var, mean, cen, xhat, cn, cε, hz]

/-- The gain's gradient after a later point. -/
theorem dg_B (c : Dev nD) (t : Fin cfg0.N) (h0 : ¬t.val % 16 = 0) (h1 : 1 ≤ t.val) (y : S1x1024.Idx) :
    (outsAt0 m c t.val t.isLt).2.2.1 y = (outsAt0 m c (t.val - 1) (by omega)).2.2.1 (ix2 (y 0) (y 1)) + dgB (iblk m c 0 t) (iblk m c 1 t) (iblk m c 2 t) (iblk m c 3 t) (iblk m c 4 t) (iblk m c 5 t) (y 1) := by
  rw [outsAt0_B m c t h0 h1]
  frame_out
  generalize hZ : k0_pay4 (F := Ideal) _ _ _ _ _ _ _ _ _ = Z
  have hz : ∀ r d, Z (ix2 r d) = dxB (iblk m c 0 t) (iblk m c 1 t) (iblk m c 2 t) (iblk m c 3 t) (iblk m c 4 t) r d := by
    intro r d
    subst hZ
    pointwise [part, c0, dxB, Fin.sum_univ_four, k0_pay3, k0_pay4]
    simp only [add_assoc]
  clear hZ
  idx_vars y
  pointwise [k0_pay1, k0_pay11, k0_pay6, k0_pay7, k0_pay8, k0_pay9, dgB, rstd, var, mean, cen, xhat, cn, cε, hz, read_unread_whole]

/-- The offset's gradient after a later point. -/
theorem db_B (c : Dev nD) (t : Fin cfg0.N) (h0 : ¬t.val % 16 = 0) (h1 : 1 ≤ t.val) (y : S1x1024.Idx) :
    (outsAt0 m c t.val t.isLt).2.2.2 y = (outsAt0 m c (t.val - 1) (by omega)).2.2.2 (ix2 (y 0) (y 1)) + dbB (iblk m c 0 t) (iblk m c 1 t) (iblk m c 2 t) (iblk m c 3 t) (iblk m c 4 t) (y 1) := by
  rw [outsAt0_B m c t h0 h1]
  frame_out
  generalize hZ : k0_pay4 (F := Ideal) _ _ _ _ _ _ _ _ _ = Z
  have hz : ∀ r d, Z (ix2 r d) = dxB (iblk m c 0 t) (iblk m c 1 t) (iblk m c 2 t) (iblk m c 3 t) (iblk m c 4 t) r d := by
    intro r d
    subst hZ
    pointwise [part, c0, dxB, Fin.sum_univ_four, k0_pay3, k0_pay4]
    simp only [add_assoc]
  clear hZ
  idx_vars y
  pointwise [k0_pay2, k0_pay12, k0_pay6, k0_pay7, k0_pay8, k0_pay9, dbB, rstd, var, mean, cen, xhat, cn, cε, hz, read_unread_whole]

end Cert.Kernel5Ideal.Block
-- ==== Proof.Norm.Ref.lean ====
module

public import proofs.«01_k».proof.Proof.Gen.Reference5Ideal.Run
public import proofs.«01_k».proof.Proof.Ffn.Input
public import proofs.«01_k».proof.Proof.Ffn.Forward
public import proofs.«01_k».proof.Proof.Norm.Row
set_option maxRecDepth 16384

/-! The reference's gradients of a layer norm followed by the feed-forward block, read entry by entry. -/

@[expose] public noncomputable section
open Idealize.ShloMosaic Idealize.ShloMosaic.TcCoe Idealize.SL.Sem

namespace Cert.Reference5Ideal.Ln
open Cert.Reference5Ideal Cert.Reference5Ideal.Gen Cert.Reference5Ideal.Value Cert.Norm
open Cert.Reference3Ideal.Ffn (meanA cenA lnA)
open Cert.Reference2Ideal.Ffn (dx)

/-- A constant, as an array of rows and as a column. -/
def full (w : BitVec 32) : FVec Ideal S8192x1024 .f32 := broadcastInDim S8192x1024 ![] bcast_S_S8192x1024 (constant S_ .f32 w)
def col (w : BitVec 32) : FVec Ideal S8192x1 .f32 := broadcastInDim S8192x1 ![] bcast_S_S8192x1 (constant S_ .f32 w)
/-- A column, repeated along the rows. -/
def wide (s : FVec Ideal S8192x1 .f32) : FVec Ideal S8192x1024 .f32 := broadcastInDim S8192x1024 ![0, 1] bcast_S8192x1_S8192x1024_0_1 s
/-- The rows' sums, as a column. -/
def rowSum (A : FVec Ideal S8192x1024 .f32) : FVec Ideal S8192x1 .f32 :=
  shapeCast _ (Host.reduceAdd A (constant S_ .f32 0x00000000#32) reducesTo_S8192x1024_S8192_d1 h_S_) shapeCasts_S8192_S8192x1
/-- A column summed over its one entry per row, repeated along the rows. -/
def wide1 (s : FVec Ideal S8192x1 .f32) : FVec Ideal S8192x1024 .f32 :=
  broadcastInDim S8192x1024 ![0] bcast_S8192_S8192x1024_0 (Host.reduceAdd s (constant S_ .f32 0x00000000#32) reducesTo_S8192x1_S8192_d1 h_S_)
/-- The columns' sums, as a row. -/
def colSum (A : FVec Ideal S8192x1024 .f32) : FVec Ideal S1x1024 .f32 :=
  broadcastInDim S1x1024 ![1] bcast_S1024_S1x1024_1
    (Host.reduceAdd (shapeCast S1x1024 (Host.reduceAdd A (constant S_ .f32 0x00000000#32) reducesTo_S8192x1024_S1024_d0 h_S_) shapeCasts_S1024_S1x1024)
      (constant S_ .f32 0x00000000#32) reducesTo_S1x1024_S1024_d0 h_S_)

variable (Z : FVec Ideal S8192x1024 .f32) (G B : FVec Ideal S1024 .f32) (Y D U : FVec Ideal S8192x1024 .f32)
  (WG WU : FVec Ideal S1024x2816 .f32) (WD : FVec Ideal S2816x1024 .f32)

/-- The variance with the constant added, and its reciprocal square root. -/
def varA : FVec Ideal S8192x1 .f32 := addf (meanA (mulf (cenA Z) (cenA Z))) (col 0x3727C5AC#32)
def rstdA : FVec Ideal S8192x1 .f32 := Host.rsqrt (varA Z)
/-- The normalised rows. -/
def xhatA : FVec Ideal S8192x1024 .f32 := mulf (cenA Z) (wide (rstdA Z))
/-- The gradient of the feed-forward block's input. -/
def dxA : FVec Ideal S8192x1024 .f32 := dx (lnA G B Z) Y WG WU WD
/-- That gradient times the gain. -/
def uA : FVec Ideal S8192x1024 .f32 :=
  mulf D (broadcastInDim S8192x1024 ![0, 1] bcast_S1x1024_S8192x1024_0_1 (broadcastInDim S1x1024 ![1] bcast_S1024_S1x1024_1 G))
/-- What reaches a centred entry through the variance. -/
def viaA : FVec Ideal S8192x1024 .f32 :=
  mulf (wide1 (Host.divf (mulf (rowSum (mulf (cenA Z) U)) (mulf (col 0xBF000000#32) (Host.divf (rstdA Z) (varA Z)))) (col 0x44800000#32)))
    (mulf (full 0x40000000#32) (cenA Z))
/-- The rows' gradients. -/
def dzA : FVec Ideal S8192x1024 .f32 :=
  addf (addf (mulf U (wide (rstdA Z))) (viaA Z U))
    (wide1 (Host.divf (addf (rowSum (Host.negf (mulf U (wide (rstdA Z))))) (rowSum (Host.negf (viaA Z U)))) (col 0x44800000#32)))

theorem wide_at (s : FVec Ideal S8192x1 .f32) (n : Fin 8192) (d : Fin 1024) : wide s (ix2 n d) = s (ix2 n 0) := by pointwise [wide]
theorem wide1_at (s : FVec Ideal S8192x1 .f32) (n : Fin 8192) (d : Fin 1024) : wide1 s (ix2 n d) = s (ix2 n 0) := by pointwise [wide1, Fin.sum_univ_one]
theorem rowSum_at (A : FVec Ideal S8192x1024 .f32) (n : Fin 8192) : rowSum A (ix2 n 0) = ∑ k : Fin 1024, A (ix2 n k) := by pointwise [rowSum]
theorem colSum_at (A : FVec Ideal S8192x1024 .f32) (d : Fin 1024) : colSum A (ix2 0 d) = ∑ n : Fin 8192, A (ix2 n d) := by pointwise [colSum, Fin.sum_univ_one]
theorem cenA_at (n : Fin 8192) (d : Fin 1024) : cenA Z (ix2 n d) = cen (fun k => Z (ix2 n k)) d := by pointwise [cenA, meanA, cen, mean, cn]
theorem varA_at (n : Fin 8192) : varA Z (ix2 n 0) = var (fun k => Z (ix2 n k)) := by
  pointwise [varA, cenA, meanA, cen, mean, cn, var, cε, col]
theorem rstdA_at (n : Fin 8192) : rstdA Z (ix2 n 0) = rstd (fun k => Z (ix2 n k)) := by
  rw [rstd, ← varA_at]; pointwise [rstdA]
theorem xhatA_at (n : Fin 8192) (d : Fin 1024) : xhatA Z (ix2 n d) = xhat (fun k => Z (ix2 n k)) d := by
  rw [xhat, ← cenA_at, ← rstdA_at, ← wide_at (rstdA Z) n d]; rfl
theorem uA_at (n : Fin 8192) (d : Fin 1024) : uA G D (ix2 n d) = D (ix2 n d) * G (ix1 d) := by pointwise [uA]

/-- What reaches a centred entry through the variance, in its row. -/
theorem viaA_at (n : Fin 8192) (d : Fin 1024) : viaA Z U (ix2 n d) = viaVar (fun k => Z (ix2 n k)) (fun k => U (ix2 n k)) d := by
  pointwise [viaA, wide1_at, rowSum_at, cenA_at, rstdA_at, varA_at, viaVar, cm, c2, cn, full, col]

/-- An entry of the rows' gradients, in its row. -/
theorem dzA_at (n : Fin 8192) (d : Fin 1024) : dzA Z U (ix2 n d) = bwdR (fun k => Z (ix2 n k)) (fun k => U (ix2 n k)) d := by
  pointwise [dzA, wide1_at, wide_at, rowSum_at, viaA_at, rstdA_at, bwdR, cn, col]

/-- The terms the reference's results are stated with are these. -/
theorem out0_eq (m : (ℓ : Loc nD τ sig) → Buf (Elt Ideal) ℓ) (c : Dev nD) : res_out0 m c
    = dzA (m ((c.tc : Thread nD τ).loc main_arg0)) (uA (m ((c.tc : Thread nD τ).loc main_arg1)) (dxA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))) := rfl
theorem out1_eq (m : (ℓ : Loc nD τ sig) → Buf (Elt Ideal) ℓ) (c : Dev nD) : res_out1 m c = truncf .bf16 (dzA (m ((c.tc : Thread nD τ).loc main_arg0)) (uA (m ((c.tc : Thread nD τ).loc main_arg1)) (dxA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))))) bitsLt_bf16_f32 := rfl
theorem out2_eq (m : (ℓ : Loc nD τ sig) → Buf (Elt Ideal) ℓ) (c : Dev nD) : res_out2 m c
    = colSum (mulf (xhatA (m ((c.tc : Thread nD τ).loc main_arg0))) (dxA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))) := rfl
theorem out3_eq (m : (ℓ : Loc nD τ sig) → Buf (Elt Ideal) ℓ) (c : Dev nD) : res_out3 m c
    = colSum (dxA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := rfl

end Cert.Reference5Ideal.Ln
-- ==== Proof.Norm.Grad.lean ====
module

public import proofs.«01_k».proof.Proof.Norm.Block
public import proofs.«01_k».proof.Proof.Norm.Ref
set_option maxRecDepth 16384

/-! The arrays the call is given, and its blocks and results read in the whole arrays. -/

@[expose] public noncomputable section
open Idealize.ShloMosaic Idealize.ShloMosaic.TcCoe Idealize.SL.Sem
open Idealize.ShloMosaic.Pipeline (Dat)

namespace Cert.Kernel5Ideal.Block
open Cert.Kernel5Ideal Cert.Kernel5Ideal.Gen Cert.Norm
open Cert.Kernel2Ideal.Block (c0 part cutA cutW cutA_at cutW_at dgateA dupA projA dhidA)
open Cert.Reference3Ideal.Ffn (lnA)
open Cert.Reference5Ideal.Ln (dxA uA uA_at dzA dzA_at xhatA xhatA_at colSum colSum_at)
variable (m : (ℓ : Loc nD τ sig) → Buf (Elt Ideal) ℓ)

/-- The rows the layer norm takes, its gain and offset, the incoming gradient and the three weights, as device `c` is given them. -/
abbrev aZ (c : Dev nD) : FVec Ideal S8192x1024 .f32 := m ((c : Thread nD τ).loc main_arg0)
abbrev aγ (c : Dev nD) : FVec Ideal S1024 .f32 := m ((c : Thread nD τ).loc main_arg1)
abbrev aβ (c : Dev nD) : FVec Ideal S1024 .f32 := m ((c : Thread nD τ).loc main_arg2)
abbrev aY (c : Dev nD) : FVec Ideal S8192x1024 .f32 := m ((c : Thread nD τ).loc main_arg3)
abbrev aG (c : Dev nD) : FVec Ideal S1024x2816 .f32 := m ((c : Thread nD τ).loc main_arg4)
abbrev aU (c : Dev nD) : FVec Ideal S1024x2816 .f32 := m ((c : Thread nD τ).loc main_arg5)
abbrev aD (c : Dev nD) : FVec Ideal S2816x1024 .f32 := m ((c : Thread nD τ).loc main_arg6)

/-- The block's input: the layer norm of the rows. -/
abbrev aX (c : Dev nD) : FVec Ideal S8192x1024 .f32 := lnA (aγ m c) (aβ m c) (aZ m c)

/-- The call's first argument is the gate projection's gradient, cut by shard. -/
theorem V41 (c : Dev nD) : V m c main_v41 = cutA (dgateA (projA (aX m c) (aG m c)) (projA (aX m c) (aU m c)) (dhidA (aY m c) (aD m c))) := by
  unfold V
  simp only [hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

/-- The call's second argument is the up projection's gradient, cut by shard. -/
theorem V44 (c : Dev nD) : V m c main_v44 = cutA (dupA (projA (aX m c) (aG m c)) (dhidA (aY m c) (aD m c))) := by
  unfold V
  simp only [hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

/-- The third and the fourth are the gate and the up weight, cut by shard. -/
theorem V47 (c : Dev nD) : V m c main_v47 = cutW (aG m c) := by
  unfold V
  simp only [hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl
theorem V50 (c : Dev nD) : V m c main_v50 = cutW (aU m c) := by
  unfold V
  simp only [hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

/-- The last is the gain, as a row. -/
theorem V51 (c : Dev nD) : V m c main_v51 = broadcastInDim S1x1024 ![1] bcast_S1024_S1x1024_1 (aγ m c) := by
  unfold V
  simp only [hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

/-- A block of the gate gradient, read in the whole array. -/
theorem dg_at (c : Dev nD) (t : Fin cfg0.N) (j : Fin 4) (r : Fin 512) (f : Fin 704) (n : Fin 8192) (hn : n.val = t.val * 512 + r.val) :
    iblk m c 0 t (ix3 j r f) = dgateA (projA (aX m c) (aG m c)) (projA (aX m c) (aU m c)) (dhidA (aY m c) (aD m c)) (ix2 n ⟨j.val * 704 + f.val, by omega⟩) := by
  refine Eq.trans ?_ ((congrFun (V41 m c) (ix3 j n f)).trans (cutA_at _ _ _ _))
  blk_simp [iblk]
  blk_ext [idx t]

/-- A block of the up gradient, read in the whole array. -/
theorem du_at (c : Dev nD) (t : Fin cfg0.N) (j : Fin 4) (r : Fin 512) (f : Fin 704) (n : Fin 8192) (hn : n.val = t.val * 512 + r.val) :
    iblk m c 1 t (ix3 j r f) = dupA (projA (aX m c) (aG m c)) (dhidA (aY m c) (aD m c)) (ix2 n ⟨j.val * 704 + f.val, by omega⟩) := by
  refine Eq.trans ?_ ((congrFun (V44 m c) (ix3 j n f)).trans (cutA_at _ _ _ _))
  blk_simp [iblk]
  blk_ext [idx t]

/-- An entry of the gate weight's shard. -/
theorem g_at (c : Dev nD) (t : Fin cfg0.N) (j : Fin 4) (d : Fin 1024) (f : Fin 704) :
    iblk m c 2 t (ix3 j d f) = aG m c (ix2 d ⟨j.val * 704 + f.val, by omega⟩) := by
  refine Eq.trans ?_ ((congrFun (V47 m c) (ix3 j d f)).trans (cutW_at _ _ _ _))
  blk_simp [iblk]
  blk_ext [idx t]

/-- An entry of the up weight's shard. -/
theorem u_at (c : Dev nD) (t : Fin cfg0.N) (j : Fin 4) (d : Fin 1024) (f : Fin 704) :
    iblk m c 3 t (ix3 j d f) = aU m c (ix2 d ⟨j.val * 704 + f.val, by omega⟩) := by
  refine Eq.trans ?_ ((congrFun (V50 m c) (ix3 j d f)).trans (cutW_at _ _ _ _))
  blk_simp [iblk]
  blk_ext [idx t]

/-- A block of the incoming gradient. -/
theorem y_at (c : Dev nD) (t : Fin cfg0.N) (r : Fin 512) (d : Fin 1024) (n : Fin 8192) (hn : n.val = t.val * 512 + r.val) :
    iblk m c 4 t (ix2 r d) = aY m c (ix2 n d) := by
  rw [← show V m c main_arg3 = aY m c from V_main_arg3 m c]
  blk_simp [iblk]
  blk_ext [idx t]

/-- A block of the rows. -/
theorem z_at (c : Dev nD) (t : Fin cfg0.N) (r : Fin 512) (d : Fin 1024) (n : Fin 8192) (hn : n.val = t.val * 512 + r.val) :
    iblk m c 5 t (ix2 r d) = aZ m c (ix2 n d) := by
  rw [← show V m c main_arg0 = aZ m c from V_main_arg0 m c]
  blk_simp [iblk]
  blk_ext [idx t]

/-- An entry of the gain. -/
theorem γ_at (c : Dev nD) (t : Fin cfg0.N) (d : Fin 1024) : iblk m c 6 t (ix2 0 d) = aγ m c (ix1 d) := by
  refine Eq.trans ?_ ((congrFun (V51 m c) (ix2 0 d)).trans (by pointwise))
  blk_simp [iblk]
  blk_ext [idx t]

/-- The reference's gradient of the block's input, as device `c` is given its arrays. -/
abbrev aDx (c : Dev nD) : FVec Ideal S8192x1024 .f32 := dxA (aZ m c) (aγ m c) (aβ m c) (aY m c) (aG m c) (aU m c) (aD m c)

/-- A block of the block input's gradient, in the whole. -/
theorem dxB_at (c : Dev nD) (t : Fin cfg0.N) (r : Fin 512) (d : Fin 1024) (n : Fin 8192) (hn : n.val = t.val * 512 + r.val) :
    dxB (iblk m c 0 t) (iblk m c 1 t) (iblk m c 2 t) (iblk m c 3 t) (iblk m c 4 t) r d = aDx m c (ix2 n d) := by
  refine Eq.trans ?_ (Cert.Reference2Ideal.Ffn.dx_at _ _ _ _ _ _ _).symm
  rw [dxB, Finset.sum_add_distrib, add_comm, Cert.Reference2Ideal.Ffn.hid_eq]
  refine congrArg₂ (· + ·) ((add_comm _ _).trans (congrArg₂ (· + ·) ?_ ?_)) (congrArg (c0 * ·) (y_at m c t _ _ _ hn))
  · exact Fin.sum_mul_add_congr fun s f hf => congrArg₂ (· * ·) (du_at m c t s _ f _ hn) (u_at m c t s _ f)
  · exact Fin.sum_mul_add_congr fun s f hf => congrArg₂ (· * ·) (dg_at m c t s _ f _ hn) (g_at m c t s _ f)

/-- There are sixteen grid points. -/
theorem lt16 (t : Fin cfg0.N) : t.val < 16 := lt_of_lt_of_eq t.isLt N_0

/-- The gain's gradient in a block's rows. -/
theorem dgB_at (c : Dev nD) (t : Fin cfg0.N) (d : Fin 1024) (r : Fin 512) (n : Fin 8192) (hn : n.val = t.val * 512 + r.val) :
    dxB (iblk m c 0 t) (iblk m c 1 t) (iblk m c 2 t) (iblk m c 3 t) (iblk m c 4 t) r d * xhat (fun k => iblk m c 5 t (ix2 r k)) d
      = mulf (xhatA (aZ m c)) (aDx m c) (ix2 n d) := by
  rw [dxB_at m c t r d n hn, show (fun k => iblk m c 5 t (ix2 r k)) = fun k => aZ m c (ix2 n k) from funext fun k => z_at m c t r k n hn,
    ← xhatA_at, mul_comm]
  rfl

/-- The gain's gradient after the last point. -/
theorem dg_acc (c : Dev nD) (t : Fin cfg0.N) (ct : t.val % 16 = 15) (d : Fin 1024) :
    (outsAt0 m c t.val t.isLt).2.2.1 (ix2 0 d) = ∑ n : Fin 8192, mulf (xhatA (aZ m c)) (aDx m c) (ix2 n d) := by
  rw [Pipeline.eq_sum_fin_of_reset_step_apply_of_flush (fun n h => (outsAt0 m c n h).2.2.1) 16 (fun _ => 0)
      (fun p i => dgB (iblk m c 0 p) (iblk m c 1 p) (iblk m c 2 p) (iblk m c 3 p) (iblk m c 4 p) (iblk m c 5 p) (i 1))
      (fun p h i => by have := lt16 p; rw [dg_A m c p h (by omega) i, zero_add])
      (fun p h i => by rw [dg_B m c p h (by omega) i, ix2_eta]) t ct _, zero_add]
  refine Fin.sum_mul_add_congr fun s r hr => ?_
  have hp := Pipeline.run_point_lt_of_flush t ct s
  have := lt16 t
  exact dgB_at m c ⟨16 * (t.val / 16) + s.val, hp⟩ d r _ (by dsimp only; omega)

/-- The offset's gradient after the last point. -/
theorem db_acc (c : Dev nD) (t : Fin cfg0.N) (ct : t.val % 16 = 15) (d : Fin 1024) :
    (outsAt0 m c t.val t.isLt).2.2.2 (ix2 0 d) = ∑ n : Fin 8192, aDx m c (ix2 n d) := by
  rw [Pipeline.eq_sum_fin_of_reset_step_apply_of_flush (fun n h => (outsAt0 m c n h).2.2.2) 16 (fun _ => 0)
      (fun p i => dbB (iblk m c 0 p) (iblk m c 1 p) (iblk m c 2 p) (iblk m c 3 p) (iblk m c 4 p) (i 1))
      (fun p h i => by have := lt16 p; rw [db_A m c p h (by omega) i, zero_add])
      (fun p h i => by rw [db_B m c p h (by omega) i, ix2_eta]) t ct _, zero_add]
  refine Fin.sum_mul_add_congr fun s r hr => ?_
  have hp := Pipeline.run_point_lt_of_flush t ct s
  have := lt16 t
  exact dxB_at m c ⟨16 * (t.val / 16) + s.val, hp⟩ r d _ (by dsimp only; omega)

/-- Where a block of a result lies in its array. -/
theorem emb7 (t : Fin cfg0.N) (y : S512x1024.Idx) :
    (win0_7.blk t).view.emb y = ix2 (⟨t.val * 512 + (y 0).val, by have := lt16 t; have : (y 0).val < 512 := (y 0).isLt; omega⟩ : Fin 8192) (y 1) := by
  idx_vars y
  blk_ext [idx t]
theorem emb8 (t : Fin cfg0.N) (y : S512x1024.Idx) :
    (win0_8.blk t).view.emb y = ix2 (⟨t.val * 512 + (y 0).val, by have := lt16 t; have : (y 0).val < 512 := (y 0).isLt; omega⟩ : Fin 8192) (y 1) := by
  idx_vars y
  blk_ext [idx t]
theorem emb9 (t : Fin cfg0.N) (y : S1x1024.Idx) : (win0_9.blk t).view.emb y = ix2 (0 : Fin 1) (y 1) := by
  idx_vars y
  blk_ext [idx t]
theorem emb10 (t : Fin cfg0.N) (y : S1x1024.Idx) : (win0_10.blk t).view.emb y = ix2 (0 : Fin 1) (y 1) := by
  idx_vars y
  blk_ext [idx t]

/-- The third result is the gain's gradient. -/
theorem final9 (c : Dev nD) : (dats m 0 c).arrAt 9 cfg0.N = colSum (mulf (xhatA (aZ m c)) (aDx m c)) := by
  refine (dats m 0 c).arrAt_eq_of_covers 9 _ (by decide +kernel) fun t hf y => ?_
  blk_simp
  have ct := (flush0_9 t).mp hf
  rw [after0_9]
  refine Eq.trans ?_ (congrArg _ (emb9 t y).symm)
  idx_vars y
  rw [Subsingleton.elim y0 0]
  exact (dg_acc m c t ct _).trans (colSum_at _ _).symm

/-- The fourth is the offset's. -/
theorem final10 (c : Dev nD) : (dats m 0 c).arrAt 10 cfg0.N = colSum (aDx m c) := by
  refine (dats m 0 c).arrAt_eq_of_covers 10 _ (by decide +kernel) fun t hf y => ?_
  blk_simp
  have ct := (flush0_10 t).mp hf
  rw [after0_10]
  refine Eq.trans ?_ (congrArg _ (emb10 t y).symm)
  idx_vars y
  rw [Subsingleton.elim y0 0]
  exact (db_acc m c t ct _).trans (colSum_at _ _).symm

/-- A block's rows' gradients, in the whole, where the rows and what arrives at them are real. -/
theorem dzB_at (c : Dev nD) (hz : ∀ i, Cert.Ffn.IsReal (aZ m c i)) (hu : ∀ n k, Cert.Ffn.IsReal (aDx m c (ix2 n k) * aγ m c (ix1 k)))
    (t : Fin cfg0.N) (r : Fin 512) (d : Fin 1024) (n : Fin 8192) (hn : n.val = t.val * 512 + r.val) :
    bwdK (fun k => iblk m c 5 t (ix2 r k)) (uB (iblk m c 0 t) (iblk m c 1 t) (iblk m c 2 t) (iblk m c 3 t) (iblk m c 4 t) (iblk m c 6 t) r) d
      = dzA (aZ m c) (uA (aγ m c) (aDx m c)) (ix2 n d) := by
  rw [dzA_at, show (fun k => iblk m c 5 t (ix2 r k)) = fun k => aZ m c (ix2 n k) from funext fun k => z_at m c t r k n hn,
    show uB (iblk m c 0 t) (iblk m c 1 t) (iblk m c 2 t) (iblk m c 3 t) (iblk m c 4 t) (iblk m c 6 t) r = fun k => uA (aγ m c) (aDx m c) (ix2 n k) from
      funext fun k => by rw [uA_at, uB, dxB_at m c t r k n hn, γ_at]]
  exact bwd_eq _ _ (fun k => hz _) (fun k => by rw [uA_at]; exact hu n k) d

/-- The first result is the rows' gradient. -/
theorem final7 (c : Dev nD) (hz : ∀ i, Cert.Ffn.IsReal (aZ m c i)) (hu : ∀ n k, Cert.Ffn.IsReal (aDx m c (ix2 n k) * aγ m c (ix1 k))) :
    (dats m 0 c).arrAt 7 cfg0.N = dzA (aZ m c) (uA (aγ m c) (aDx m c)) := by
  refine (dats m 0 c).arrAt_eq_of_covers 7 _ (by decide +kernel) fun t hf y => ?_
  blk_simp
  rw [after0_7]
  refine Eq.trans ?_ (congrArg _ (emb7 t y).symm)
  have := lt16 t
  by_cases h : t.val % 16 = 0
  · exact (dz_A m c t h (by omega) y).trans (dzB_at m c hz hu t _ _ _ rfl)
  · exact (dz_B m c t h (by omega) y).trans (dzB_at m c hz hu t _ _ _ rfl)

/-- The second is the same, rounded. -/
theorem final8 (c : Dev nD) (hz : ∀ i, Cert.Ffn.IsReal (aZ m c i)) (hu : ∀ n k, Cert.Ffn.IsReal (aDx m c (ix2 n k) * aγ m c (ix1 k))) :
    (dats m 0 c).arrAt 8 cfg0.N = truncf .bf16 (dzA (aZ m c) (uA (aγ m c) (aDx m c))) bitsLt_bf16_f32 := by
  refine (dats m 0 c).arrAt_eq_of_covers 8 _ (by decide +kernel) fun t hf y => ?_
  blk_simp
  rw [after0_8]
  refine Eq.trans ?_ (congrArg _ (emb8 t y).symm)
  have := lt16 t
  by_cases h : t.val % 16 = 0
  · exact (dzb_A m c t h (by omega) y).trans (dzB_at m c hz hu t _ _ _ rfl)
  · exact (dzb_B m c t h (by omega) y).trans (dzB_at m c hz hu t _ _ _ rfl)

end Cert.Kernel5Ideal.Block
-- ==== Proof.Norm.Pre.lean ====
module

public import proofs.«01_k».proof.Defs
public import proofs.«01_k».proof.Proof.Gen.Pre_finite5
public import proofs.«01_k».proof.Proof.Ffn.Pre
public import proofs.«01_k».proof.Proof.Norm.Grad
set_option maxRecDepth 16384

/-! The precondition `finite5`, read entry by entry: the seven arrays hold real numbers, and so does all that the
    block's input gradient is formed of. -/

@[expose] public noncomputable section
open Idealize.ShloMosaic Idealize.ShloMosaic.TcCoe Idealize.SL.Sem

namespace Cert.Norm
open Cert.Ffn
open Cert.Reference5Ideal

/-- The sigmoid of a real number is one. -/
theorem isReal_logistic {x : EReal} (h : IsReal x) : IsReal (Ideal.logistic x) := by
  obtain ⟨r, rfl⟩ := h
  exact ⟨_, Ideal.logistic_coe r⟩

theorem isReal_one_sub {x : EReal} (h : IsReal x) : IsReal (1 - x) := by
  obtain ⟨r, rfl⟩ := h
  exact ⟨1 - r, by rw [EReal.coe_sub, EReal.coe_one]⟩

theorem isReal_c0 : IsReal Cert.Kernel2Ideal.Block.c0 :=
  ⟨_, by simp only [Cert.Kernel2Ideal.Block.c0, Ideal.ofBits, Ideal.ieee]; rfl⟩

section
variable (X Y : FVec Ideal S8192x1024 .f32) (WG WU : FVec Ideal S1024x2816 .f32) (WD : FVec Ideal S2816x1024 .f32)
open Cert.Reference2Ideal.Ffn (proj hid hid_eq dup dgate dx dx_at sg one)

theorem isReal_proj (hX : ∀ i, IsReal (X i)) (hW : ∀ i, IsReal (WG i)) (n : Fin 8192) (q : Fin 2816) : IsReal (proj X WG (ix2 n q)) := by
  have e : proj X WG (ix2 n q) = ∑ k : Fin 1024, X (ix2 n k) * WG (ix2 k q) := by pointwise [proj]
  rw [e]
  exact IsReal.sum _ _ fun k => (hX _).mul (hW _)

theorem isReal_hid (hY : ∀ i, IsReal (Y i)) (hW : ∀ i, IsReal (WD i)) (n : Fin 8192) (q : Fin 2816) : IsReal (hid Y WD (ix2 n q)) := by
  have e : hid Y WD (ix2 n q) = ∑ k : Fin 1024, half * Y (ix2 n k) * WD (ix2 q k) := by
    rw [hid_eq]; pointwise [Cert.Kernel2Ideal.Block.dhidA, half]
  rw [e]
  exact IsReal.sum _ _ fun k => (isReal_half.mul (hY _)).mul (hW _)

theorem isReal_dup (A H : FVec Ideal S8192x2816 .f32) (n : Fin 8192) (q : Fin 2816) (hA : IsReal (A (ix2 n q))) (hH : IsReal (H (ix2 n q))) : IsReal (dup A H (ix2 n q)) := by
  have e : dup A H (ix2 n q) = A (ix2 n q) * Ideal.logistic (A (ix2 n q)) * H (ix2 n q) := by
    pointwise [Cert.Reference2Ideal.Ffn.dup, sg, one]
    rfl
  rw [e]
  exact (hA.mul (isReal_logistic hA)).mul hH

theorem isReal_dgate (A B H : FVec Ideal S8192x2816 .f32) (n : Fin 8192) (q : Fin 2816) (hA : IsReal (A (ix2 n q))) (hB : IsReal (B (ix2 n q)))
    (hH : IsReal (H (ix2 n q))) : IsReal (dgate A B H (ix2 n q)) := by
  have e : dgate A B H (ix2 n q) = H (ix2 n q) * B (ix2 n q) * Ideal.logistic (A (ix2 n q))
      + A (ix2 n q) * (H (ix2 n q) * B (ix2 n q)) * (Ideal.logistic (A (ix2 n q)) * (1 - Ideal.logistic (A (ix2 n q)))) := by
    pointwise [Cert.Reference2Ideal.Ffn.dgate, sg, one]
    rfl
  rw [e]
  exact ((hH.mul hB).mul (isReal_logistic hA)).add ((hA.mul (hH.mul hB)).mul ((isReal_logistic hA).mul (isReal_one_sub (isReal_logistic hA))))

/-- The gradient of the feed-forward block's input, of arrays of real numbers, holds real numbers. -/
theorem isReal_dx (hX : ∀ i, IsReal (X i)) (hY : ∀ i, IsReal (Y i)) (hG : ∀ i, IsReal (WG i)) (hU : ∀ i, IsReal (WU i)) (hD : ∀ i, IsReal (WD i))
    (n : Fin 8192) (d : Fin 1024) : IsReal (dx X Y WG WU WD (ix2 n d)) := by
  rw [dx_at]
  refine ((IsReal.sum _ _ fun q => ?_).add (IsReal.sum _ _ fun q => ?_)).add (isReal_c0.mul (hY _))
  · exact (isReal_dup _ _ _ _ (isReal_proj X WG hX hG n q) (isReal_hid Y WD hY hD n q)).mul (hU _)
  · exact (isReal_dgate _ _ _ _ _ (isReal_proj X WG hX hG n q) (isReal_proj X WU hX hU n q) (isReal_hid Y WD hY hD n q)).mul (hG _)

end

/-- A layer norm of real rows, with a real gain and offset, is real. -/
theorem isReal_lnA (Z : FVec Ideal S8192x1024 .f32) (G B : FVec Ideal S1024 .f32) (hZ : ∀ i, IsReal (Z i)) (hG : ∀ i, IsReal (G i)) (hB : ∀ i, IsReal (B i))
    (n : Fin 8192) (d : Fin 1024) : IsReal (Cert.Reference3Ideal.Ffn.lnA G B Z (ix2 n d)) := by
  rw [Cert.Reference3Ideal.Ffn.lnA_at]
  exact ((isReal_xhat (fun k => Z (ix2 n k)) (fun k => hZ _) d).mul (hG _)).add (hB _)

end Cert.Norm

namespace Cert.Kernel5Ideal.Block
open Cert.Kernel5Ideal Cert.Kernel5Ideal.Gen Cert.Ffn Cert.Norm
variable (m : (ℓ : Loc nD τ sig) → Buf (Elt Ideal) ℓ)

/-- Under `finite5` the rows are real, and so is what arrives at the layer norm. -/
theorem real_of_pre (h : Cert.Pre_Kernel5Ideal_finite5 m) (c : Dev nD) :
    (∀ i, IsReal (aZ m c i)) ∧ ∀ n k, IsReal (aDx m c (ix2 n k) * aγ m c (ix1 k)) := by
  have e := congrFun (h c) (fun k => k.elim0)
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  have r0 : ∀ i, IsReal (aZ m c i) := real_of_all _ _ _ _ _ e0
  have r1 : ∀ i, IsReal (aγ m c i) := real_of_all _ _ _ _ _ e1
  have r2 : ∀ i, IsReal (aβ m c i) := real_of_all _ _ _ _ _ e2
  have r3 : ∀ i, IsReal (aY m c i) := real_of_all _ _ _ _ _ e3
  have r4 : ∀ i, IsReal (aG m c i) := real_of_all _ _ _ _ _ e4
  have r5 : ∀ i, IsReal (aU m c i) := real_of_all _ _ _ _ _ e5
  have r6 : ∀ i, IsReal (aD m c i) := real_of_all _ _ _ _ _ e6
  refine ⟨r0, fun n k => IsReal.mul ?_ (r1 _)⟩
  exact isReal_dx _ _ _ _ _ (fun i => by rw [← ix2_eta i]; exact isReal_lnA _ _ _ r0 r1 r2 _ _) r3 r4 r5 r6 n k

end Cert.Kernel5Ideal.Block
-- ==== Proof.Rg.Scan.lean ====
module

public import Mathlib.Analysis.SpecialFunctions.Exp
public import Mathlib.Algebra.BigOperators.Fin
public import Mathlib.Algebra.BigOperators.Intervals

/-! A linear recurrence over real numbers: the doubling form of its reverse scan, and the gradient of its decays. -/

@[expose] public noncomputable section

namespace Cert.Rg.Scan
open Finset

/-- The product of `m` factors from `n` on. -/
def A (α : ℕ → ℝ) (m n : ℕ) : ℝ := ∏ i ∈ range m, α (n + i)

/-- The sum of `m` terms from `n` on, each with the factors before it. -/
def U (α υ : ℕ → ℝ) (m n : ℕ) : ℝ := ∑ j ∈ range m, (∏ i ∈ range j, α (n + i)) * υ (n + j)

theorem A_one (α : ℕ → ℝ) (n : ℕ) : A α 1 n = α n := by simp [A]
theorem U_one (α υ : ℕ → ℝ) (n : ℕ) : U α υ 1 n = υ n := by simp [U]

theorem A_double (α : ℕ → ℝ) (m n : ℕ) : A α (m + m) n = A α m n * A α m (n + m) := by
  simp only [A, prod_range_add, add_assoc]

theorem U_double (α υ : ℕ → ℝ) (m n : ℕ) : U α υ (m + m) n = U α υ m n + A α m n * U α υ m (n + m) := by
  simp only [U, A, sum_range_add, prod_range_add, add_assoc, mul_sum, mul_assoc]

theorem A_past (α : ℕ → ℝ) (h : ∀ n, 2048 ≤ n → α n = 1) (m n : ℕ) (hn : 2048 ≤ n) : A α m n = 1 :=
  prod_eq_one fun i _ => h _ (by omega)

theorem U_past (α υ : ℕ → ℝ) (h : ∀ n, 2048 ≤ n → υ n = 0) (m n : ℕ) (hn : 2048 ≤ n) : U α υ m n = 0 :=
  sum_eq_zero fun j _ => by rw [h _ (by omega), mul_zero]

/-- The log-decay summed up to a step. -/
def L (la : Fin 2048 → ℝ) (t : Fin 2048) : ℝ := ∑ s : Fin 2048, if s ≤ t then la s else 0

/-- The decay from step `s` to step `t`. -/
def E (la : Fin 2048 → ℝ) (t s : Fin 2048) : ℝ := if s ≤ t then Real.exp (L la t - L la s) else 0

/-- The scan's gradient at a step: the later gradients, decayed back to it. -/
def back (la dh : Fin 2048 → ℝ) (s : Fin 2048) : ℝ := ∑ t : Fin 2048, E la t s * dh t

/-- The scan. -/
def scan (la u : Fin 2048 → ℝ) (t : Fin 2048) : ℝ := ∑ s : Fin 2048, E la t s * u s

theorem L_succ (la : Fin 2048 → ℝ) (n : ℕ) (h : n + 1 < 2048) : L la ⟨n + 1, h⟩ = L la ⟨n, by omega⟩ + la ⟨n + 1, h⟩ := by
  have e : la ⟨n + 1, h⟩ = ∑ s : Fin 2048, if s = ⟨n + 1, h⟩ then la s else 0 := by simp
  rw [e, L, L, ← sum_add_distrib]
  refine sum_congr rfl fun s _ => ?_
  by_cases h1 : s = ⟨n + 1, h⟩
  · subst h1
    simp [Fin.le_def]
  · have : s.val ≠ n + 1 := fun e => h1 (Fin.ext e)
    simp only [Fin.le_def, if_neg h1, add_zero]
    by_cases h2 : s.val ≤ n
    · rw [if_pos h2, if_pos (by omega)]
    · rw [if_neg h2, if_neg (by omega)]

/-- The factors of the reverse scan: the next step's decay, none at the last step, one past it. -/
def nxt (la : Fin 2048 → ℝ) (n : ℕ) : ℝ := if h : n + 1 < 2048 then Real.exp (la ⟨n + 1, h⟩) else if n < 2048 then 0 else 1

/-- A column, nothing past its end. -/
def ext (v : Fin 2048 → ℝ) (n : ℕ) : ℝ := if h : n < 2048 then v ⟨n, h⟩ else 0

theorem prod_nxt (la : Fin 2048 → ℝ) (t : Fin 2048) (j : ℕ) (h : t.val + j < 2048) :
    ∏ i ∈ range j, nxt la (t.val + i) = Real.exp (L la ⟨t.val + j, h⟩ - L la t) := by
  induction j with
  | zero => simp
  | succ j ih =>
    rw [prod_range_succ, ih (by omega), nxt, dif_pos (by omega), ← Real.exp_add]
    congr 1
    have := L_succ la (t.val + j) (by omega)
    simp only [← add_assoc]
    rw [this]
    ring

/-- After the last doubling the scan holds the whole sum. -/
theorem U_top (la dh : Fin 2048 → ℝ) (t : Fin 2048) : U (nxt la) (ext dh) 2048 t.val = back la dh t := by
  have e : ∀ s : Fin 2048, E la s t * dh s = (fun n => if h : n < 2048 then (if t.val ≤ n then Real.exp (L la ⟨n, h⟩ - L la t) * dh ⟨n, h⟩ else 0) else 0) s.val := by
    intro s
    simp only [E, Fin.le_def, s.isLt, dif_pos]
    split <;> simp
  rw [back, sum_congr rfl fun s _ => e s, Fin.sum_univ_eq_sum_range (fun n => if h : n < 2048 then (if t.val ≤ n then Real.exp (L la ⟨n, h⟩ - L la t) * dh ⟨n, h⟩ else 0) else 0), U]
  have tl := t.isLt
  have hl : ∑ j ∈ range 2048, (∏ i ∈ range j, nxt la (t.val + i)) * ext dh (t.val + j)
      = ∑ j ∈ range (2048 - t.val), (∏ i ∈ range j, nxt la (t.val + i)) * ext dh (t.val + j) := by
    symm
    refine sum_subset (fun n hn => mem_range.2 (by have := mem_range.1 hn; omega)) fun n _ hn => ?_
    have : ¬ t.val + n < 2048 := fun h => hn (mem_range.2 (by omega))
    rw [ext, dif_neg this, mul_zero]
  have hr : ∀ F : ℕ → ℝ, (∀ n, n < t.val → F n = 0) → ∑ n ∈ range 2048, F n = ∑ j ∈ range (2048 - t.val), F (t.val + j) := by
    intro F h
    rw [show range 2048 = range (t.val + (2048 - t.val)) from by congr 1; omega, sum_range_add,
      sum_eq_zero (s := range t.val) fun n hn => h n (mem_range.1 hn), zero_add]
  rw [hl, hr _ fun n hn => by rw [dif_pos (by omega), if_neg (by omega)]]
  refine sum_congr rfl fun j hj => ?_
  have := mem_range.1 hj
  rw [ext, dif_pos (by omega), dif_pos (by omega), if_pos (by omega), prod_nxt la t j (by omega)]

/-- The gradient that arrives at the decay's exponent between two steps. -/
def D (la u dh : Fin 2048 → ℝ) (t s : Fin 2048) : ℝ := if s ≤ t then dh t * u s * Real.exp (L la t - L la s) else 0

/-- The gradient of a step's log-decay is the product of the step's decay, of the gradient decayed back to it and of
    the state before it. -/
theorem decay_grad (la u dh : Fin 2048 → ℝ) (r : Fin 2048) :
    ∑ t : Fin 2048, (if r ≤ t then (∑ t' : Fin 2048, -D la u dh t' t) + ∑ s : Fin 2048, D la u dh t s else 0)
      = back la dh r * (if h : 1 ≤ r.val then scan la u ⟨r.val - 1, by omega⟩ else 0) * Real.exp (la r) := by
  have h1 : ∑ t : Fin 2048, (if r ≤ t then (∑ t' : Fin 2048, -D la u dh t' t) + ∑ s : Fin 2048, D la u dh t s else 0)
      = ∑ t : Fin 2048, ∑ s : Fin 2048, (if r ≤ t ∧ ¬ r ≤ s then D la u dh t s else 0) := by
    have a1 : ∀ t : Fin 2048, (if r ≤ t then (∑ t' : Fin 2048, -D la u dh t' t) + ∑ s : Fin 2048, D la u dh t s else 0)
        = (∑ t' : Fin 2048, if r ≤ t then -D la u dh t' t else 0) + ∑ s : Fin 2048, if r ≤ t then D la u dh t s else 0 := by
      intro t
      split <;> simp
    rw [sum_congr rfl fun t _ => a1 t, sum_add_distrib, sum_comm, ← sum_add_distrib]
    refine sum_congr rfl fun t _ => ?_
    rw [← sum_add_distrib]
    refine sum_congr rfl fun s _ => ?_
    by_cases hs : r ≤ s <;> by_cases ht : r ≤ t <;> simp only [hs, ht, if_true, if_false, not_true, not_false_eq_true, and_true, and_false, and_self] <;> try ring
    rw [D, if_neg (fun h => ht (hs.trans h))]
    ring
  rw [h1]
  by_cases hr : 1 ≤ r.val
  · rw [dif_pos hr, back, scan, sum_mul, sum_mul]
    refine sum_congr rfl fun t _ => ?_
    rw [mul_sum, sum_mul]
    refine sum_congr rfl fun s _ => ?_
    have e : L la r = L la ⟨r.val - 1, by omega⟩ + la r := by
      have := L_succ la (r.val - 1) (by omega)
      have h2 : (⟨r.val - 1 + 1, by omega⟩ : Fin 2048) = r := Fin.ext (by show r.val - 1 + 1 = r.val; omega)
      rwa [h2] at this
    by_cases h : r ≤ t ∧ ¬ r ≤ s
    · have h3 : s ≤ t := le_of_lt (lt_of_lt_of_le (not_le.1 h.2) h.1)
      have h4 : s ≤ (⟨r.val - 1, by omega⟩ : Fin 2048) := by
        have := Fin.lt_def.1 (not_le.1 h.2)
        exact Fin.le_def.2 (by show s.val ≤ r.val - 1; omega)
      rw [if_pos h, D, if_pos h3, E, if_pos h.1, E, if_pos h4]
      rw [show L la t - L la s = (L la t - L la r) + (L la ⟨r.val - 1, by omega⟩ - L la s) + la r from by rw [e]; ring, Real.exp_add, Real.exp_add]
      ring
    · rw [if_neg h]
      by_cases h5 : r ≤ t
      · have h6 : r ≤ s := by by_contra h7; exact h ⟨h5, h7⟩
        rw [E, E, if_neg (c := s ≤ (⟨r.val - 1, by omega⟩ : Fin 2048)) (by
          have := Fin.le_def.1 h6
          exact fun h8 => by have := Fin.le_def.1 h8; dsimp only at this; omega)]
        ring
      · rw [E, if_neg h5]
        ring
  · rw [dif_neg hr, mul_zero, zero_mul]
    refine sum_eq_zero fun t _ => sum_eq_zero fun s _ => if_neg fun h => h.2 (Fin.le_def.2 (by omega))

end Cert.Rg.Scan
-- ==== Proof.Rg.Col.lean ====
module

public import proofs.«01_k».proof.Proof.Rg.Scan
public import Idealize.ShloMosaic.Lib.Pointwise
public import Idealize.ShloMosaic.Lib.IdealHost
public import Mathlib.Analysis.SpecialFunctions.Log.Basic
public import Mathlib.Analysis.SpecialFunctions.Trigonometric.DerivHyp

/-! One channel of the gated recurrence over one sequence, over real numbers: its gates, its scan and their gradients. -/

@[expose] public noncomputable section
open Idealize.ShloMosaic

namespace Cert.Rg
open Scan

/-! Extended reals that are real numbers. -/

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem coe_ite (p : Prop) [Decidable p] (a b : ℝ) : ((if p then a else b : ℝ) : EReal) = if p then (a : EReal) else (b : EReal) := by
  split <;> rfl

theorem coe_max (a b : ℝ) : ((max a b : ℝ) : EReal) = max (a : EReal) (b : EReal) := by
  rcases le_total a b with h | h
  · rw [max_eq_right h, max_eq_right (EReal.coe_le_coe_iff.2 h)]
  · rw [max_eq_left h, max_eq_left (EReal.coe_le_coe_iff.2 h)]

theorem div_coe (a b : ℝ) (h : b ≠ 0) : Ideal.div (a : EReal) (b : EReal) = ((a / b : ℝ) : EReal) := by
  rw [Ideal.div, if_neg (by simpa using h), ← EReal.coe_inv, ← EReal.coe_mul, div_eq_mul_inv]

theorem sqrt_coe_pos (a : ℝ) (h : 0 ≤ a) : Ideal.sqrt (a : EReal) = ((√a : ℝ) : EReal) := by
  rw [Ideal.sqrt_coe, if_neg (not_lt.2 h)]

theorem log1p_coe (a : ℝ) (h : 0 < 1 + a) : Ideal.log1p (a : EReal) = ((Real.log (1 + a) : ℝ) : EReal) := by
  rw [Ideal.log1p, ← EReal.coe_one, ← EReal.coe_add, Ideal.log_coe, if_neg (not_le.2 h)]

theorem two_eq : Ideal.ofBits .f32 0x40000000#32 = ((2 : ℝ) : EReal) := by
  simp [Ideal.ofBits, Ideal.ieee, -EReal.coe_mul]; norm_num
theorem half_eq : Ideal.ofBits .f32 0x3F000000#32 = ((1 / 2 : ℝ) : EReal) := by
  simp [Ideal.ofBits, Ideal.ieee, -EReal.coe_mul]; norm_num
theorem three_eq : Ideal.ofBits .f32 0x40400000#32 = ((3 : ℝ) : EReal) := by
  simp [Ideal.ofBits, Ideal.ieee, -EReal.coe_mul]; norm_num
theorem neg8_eq : Ideal.ofBits .f32 0xC1000000#32 = ((-8 : ℝ) : EReal) := by
  simp [Ideal.ofBits, Ideal.ieee, -EReal.coe_mul]; norm_num
theorem inf_eq : Ideal.ofBits .f32 0x7F800000#32 = ⊤ := by
  simp [Ideal.ofBits, Ideal.ieee, -EReal.coe_mul]

/-- The two factors of the gelu's argument. -/
def ga : ℝ := (Ideal.ofBits .f32 0x3D372713#32).toReal
def gb : ℝ := (Ideal.ofBits .f32 0x3F4C422A#32).toReal
theorem ga_eq : Ideal.ofBits .f32 0x3D372713#32 = (ga : EReal) :=
  (EReal.coe_toReal (by simp [Ideal.ofBits, Ideal.ieee, -EReal.coe_mul]) (by simp [Ideal.ofBits, Ideal.ieee, -EReal.coe_mul])).symm
theorem gb_eq : Ideal.ofBits .f32 0x3F4C422A#32 = (gb : EReal) :=
  (EReal.coe_toReal (by simp [Ideal.ofBits, Ideal.ieee, -EReal.coe_mul]) (by simp [Ideal.ofBits, Ideal.ieee, -EReal.coe_mul])).symm

/-! The gates. -/

/-- A sigmoid. -/
def sgm (p : ℝ) : ℝ := (1 + Real.exp (-p))⁻¹
theorem sgm_pos (p : ℝ) : 0 < sgm p := inv_pos.2 (by positivity)

/-- The softplus of `l`, and its derivative. -/
def soft (l : ℝ) : ℝ := max l 0 + Real.log (1 + Real.exp (-|l|))
def dsoft (l : ℝ) : ℝ := Real.exp (l - soft l)
theorem soft_pos (l : ℝ) : 0 < soft l :=
  add_pos_of_nonneg_of_pos (le_max_right _ _) (Real.log_pos (by have := Real.exp_pos (-|l|); linarith))

/-- The gelu's hyperbolic tangent, its gate and its gradient, the gradient `c` arriving. -/
def gt (g : ℝ) : ℝ := Real.tanh (gb * (g + ga * (g * (g * g))))
def gg (g : ℝ) : ℝ := 1 / 2 * (1 + gt g)
def dgelu (g c : ℝ) : ℝ := c * gg g + gb * (1 / 2 * (g * c) * ((1 + gt g) * (1 - gt g))) + ga * (gb * (1 / 2 * (g * c) * ((1 + gt g) * (1 - gt g)))) * (3 * (g * g))

section
variable (r i x : Fin 2048 → ℝ) (s : ℝ)

/-- The log-decay, the input's scale and the scan's input. -/
def la (t : Fin 2048) : ℝ := -8 * r t * s
def mult (t : Fin 2048) : ℝ := √(1 - Real.exp (2 * la r s t))
def inp (t : Fin 2048) : ℝ := mult r s t * (i t * x t)

/-- The state, and the state before. -/
def state (t : Fin 2048) : ℝ := scan (la r s) (inp r i x s) t
def before (h : Fin 2048 → ℝ) (t : Fin 2048) : ℝ := if _ : 1 ≤ t.val then h ⟨t.val - 1, by omega⟩ else 0

variable (dh : Fin 2048 → ℝ)

/-- The scan's gradient. -/
def lamt (t : Fin 2048) : ℝ := back (la r s) dh t
/-- The gradient through the input's scale, without its outer factors. -/
def dmult (t : Fin 2048) : ℝ := lamt r s dh t * (i t * x t) * (1 / 2 / mult r s t)
/-- The log-decay's gradient. -/
def dla (t : Fin 2048) : ℝ :=
  -(2 * (dmult r i x s dh t * Real.exp (2 * la r s t))) + lamt r s dh t * before (state r i x s) t * Real.exp (la r s t)
/-- The gradients of the two gates' arguments. -/
def dpi (t : Fin 2048) : ℝ := mult r s t * lamt r s dh t * x t * (i t * (1 - i t))
def dpr (t : Fin 2048) : ℝ := -8 * (dla r i x s dh t * s) * (r t * (1 - r t))
/-- The input's gradient past the gates. -/
def dxg (t : Fin 2048) : ℝ := i t * (mult r s t * lamt r s dh t)

theorem la_neg (hr : ∀ t, 0 < r t) (hs : 0 < s) (t : Fin 2048) : la r s t < 0 := by
  have := mul_pos (hr t) hs
  rw [la, mul_assoc]; linarith

theorem exp_lt (hr : ∀ t, 0 < r t) (hs : 0 < s) (t : Fin 2048) : 0 < 1 - Real.exp (2 * la r s t) := by
  have := la_neg r s hr hs t
  have : Real.exp (2 * la r s t) < Real.exp 0 := Real.exp_lt_exp.2 (by linarith)
  rw [Real.exp_zero] at this
  linarith

theorem mult_ne (hr : ∀ t, 0 < r t) (hs : 0 < s) (t : Fin 2048) : mult r s t ≠ 0 :=
  (Real.sqrt_pos.2 (exp_lt r s hr hs t)).ne'

/-- The hyperbolic tangent of half an exponent. -/
theorem tanh_mul (a : ℝ) : (0 - Real.tanh a) * (Real.exp (2 * a) + 1) = 1 - Real.exp (2 * a) := by
  rw [Real.tanh_eq_sinh_div_cosh, Real.sinh_eq, Real.cosh_eq, show Real.exp (2 * a) = Real.exp a * Real.exp a from by rw [← Real.exp_add]; ring_nf, Real.exp_neg]
  have := Real.exp_pos a
  field_simp
  ring

/-- The scale's derivative as the kernel writes it. -/
theorem scale_grad (a c : ℝ) :
    2 * ((0 - Real.tanh a) * c * Real.exp (2 * a)) + (0 - c * (Real.exp (2 * a) + 1)) * ((1 + Real.tanh a) * (1 - Real.tanh a))
      = -(2 * (c * Real.exp (2 * a))) := by
  rw [Real.tanh_eq_sinh_div_cosh, Real.sinh_eq, Real.cosh_eq, show Real.exp (2 * a) = Real.exp a * Real.exp a from by rw [← Real.exp_add]; ring_nf, Real.exp_neg]
  have := Real.exp_pos a
  field_simp
  ring

end

end Cert.Rg
-- ==== Proof.Rg.Terms.lean ====
module

public import proofs.«01_k».proof.Proof.Gen.Reference6Ideal.Run
public import Idealize.ShloMosaic.Lib.Pointwise
public import Idealize.ShloMosaic.Lib.IdealHost
public import Idealize.ShloMosaic.Lib.KernelVsHost
public import proofs.«01_k».proof.Proof.Rg.Col
set_option maxRecDepth 16384

/-! The terms the reference's gradients of the gated recurrence are composed of. -/

@[expose] public noncomputable section
open Idealize.ShloMosaic Idealize.ShloMosaic.TcCoe Idealize.SL.Sem

namespace Cert.Reference6Ideal.Rg
open Cert.Reference6Ideal Cert.Reference6Ideal.Gen Cert.Reference6Ideal.Value
variable (X G Y : FVec Ideal S4x2048x512 .f32) (WA : FVec Ideal S8x64x64 .f32) (BA : FVec Ideal S512 .f32) (WX : FVec Ideal S8x64x64 .f32) (BX L : FVec Ideal S512 .f32)

/-- The block-diagonal matrix of eight square blocks. -/
def dense : FVec Ideal S512x512 .f32 :=
  shapeCast _ (select (broadcastInDim S8x64x8x64 ![0, 1, 2, 3] bcast_S8x1x8x1_S8x64x8x64_0_1_2_3 (broadcastInDim S8x1x8x1 ![0, 2] bcast_S8x8_S8x1x8x1_0_2 (cmpi .eq (broadcastInDim S8x8 ![0, 1] bcast_S8x1_S8x8_0_1 (broadcastInDim S8x1 ![0] bcast_S8_S8x1_0 (iotaInDim S8 32 0))) (broadcastInDim S8x8 ![0, 1] bcast_S1x8_S8x8_0_1 (broadcastInDim S1x8 ![1] bcast_S8_S1x8_1 (iotaInDim S8 32 0)))))) (broadcastInDim S8x64x8x64 ![0, 1, 2, 3] bcast_S8x64x1x64_S8x64x8x64_0_1_2_3 (broadcastInDim S8x64x1x64 ![0, 1, 3] bcast_S8x64x64_S8x64x1x64_0_1_3 WA)) (broadcastInDim S8x64x8x64 ![] bcast_S_S8x64x8x64 (id (constant S_ .f32 0x00000000#32)))) shapeCasts_S8x64x8x64_S512x512

/-- A gate: the sigmoid of a product and an offset. -/
def gate : FVec Ideal S4x2048x512 .f32 :=
  Host.divf (broadcastInDim S4x2048x512 ![] bcast_S_S4x2048x512 (constant S_ .f32 0x3F800000#32)) (addf (broadcastInDim S4x2048x512 ![] bcast_S_S4x2048x512 (constant S_ .f32 0x3F800000#32)) (Host.exp (Host.negf (addf (Host.dotGeneral dot_S4x2048x512_S512x512_S4x2048x512_2_0_01_1_n_n none X (dense WA)) (broadcastInDim S4x2048x512 ![0, 1, 2] bcast_S1x1x512_S4x2048x512_0_1_2 (broadcastInDim S1x1x512 ![2] bcast_S512_S1x1x512_2 BA))))))

/-- The first gate, scaled. -/
def gate8 : FVec Ideal S4x2048x512 .f32 :=
  mulf (broadcastInDim S4x2048x512 ![] bcast_S_S4x2048x512 (constant S_ .f32 0xC1000000#32)) (gate X WA BA)

/-- The decay parameter, negated. -/
def negL : FVec Ideal S512 .f32 :=
  Host.negf L

/-- The same, nothing taken off. -/
def negL0 : FVec Ideal S512 .f32 :=
  subf (negL L) (broadcastInDim S512 ![] bcast_S_S512 (constant S_ .f32 0x00000000#32))

/-- Its softplus. -/
def sp : FVec Ideal S512 .f32 :=
  select (cmpf .une (negL0 L) (negL0 L)) (addf (negL L) (broadcastInDim S512 ![] bcast_S_S512 (constant S_ .f32 0x00000000#32))) (addf (maximumf (negL L) (broadcastInDim S512 ![] bcast_S_S512 (constant S_ .f32 0x00000000#32))) (Host.log1p (Host.exp (Host.negf (Host.absf (negL0 L))))))

/-- The softplus as a row. -/
def spRow : FVec Ideal S1x1x512 .f32 :=
  broadcastInDim S1x1x512 ![2] bcast_S512_S1x1x512_2 (sp L)

/-- The log-decay. -/
def logA : FVec Ideal S4x2048x512 .f32 :=
  mulf (gate8 X WA BA) (broadcastInDim S4x2048x512 ![0, 1, 2] bcast_S1x1x512_S4x2048x512_0_1_2 (spRow L))

/-- Twice the log-decay. -/
def logA2 : FVec Ideal S4x2048x512 .f32 :=
  mulf (broadcastInDim S4x2048x512 ![] bcast_S_S4x2048x512 (constant S_ .f32 0x40000000#32)) (logA X WA BA L)

/-- The input's scale. -/
def scale : FVec Ideal S4x2048x512 .f32 :=
  Host.sqrt (Host.negf (Host.expm1 (logA2 X WA BA L)))

/-- The gated input. -/
def gated : FVec Ideal S4x2048x512 .f32 :=
  mulf (gate X WX BX) X

/-- Which step is not before which. -/
def mask0 : IVec S1x2048x2048x1 1 :=
  broadcastInDim S1x2048x2048x1 ![1, 2] bcast_S2048x2048_S1x2048x2048x1_1_2 (cmpi .sge (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0))))

/-- The same, for every sequence and channel. -/
def mask : IVec S4x2048x2048x512 1 :=
  broadcastInDim S4x2048x2048x512 ![0, 1, 2, 3] bcast_S1x2048x2048x1_S4x2048x2048x512_0_1_2_3 mask0

/-- The sum of the log-decays up to a step. -/
def cum : FVec Ideal S4x2048x512 .f32 :=
  Host.reduceAdd (select mask (broadcastInDim S4x2048x2048x512 ![0, 1, 2, 3] bcast_S4x1x2048x512_S4x2048x2048x512_0_1_2_3 (broadcastInDim S4x1x2048x512 ![0, 2, 3] bcast_S4x2048x512_S4x1x2048x512_0_2_3 (logA X WA BA L))) (broadcastInDim S4x2048x2048x512 ![] bcast_S_S4x2048x2048x512 (id (constant S_ .f32 0x00000000#32)))) (constant S_ .f32 0x00000000#32) reducesTo_S4x2048x2048x512_S4x2048x512_d2 h_S_

/-- The decay between two steps. -/
def ratio : FVec Ideal S4x2048x2048x512 .f32 :=
  Host.exp (select mask (subf (broadcastInDim S4x2048x2048x512 ![0, 1, 2, 3] bcast_S4x2048x1x512_S4x2048x2048x512_0_1_2_3 (broadcastInDim S4x2048x1x512 ![0, 1, 3] bcast_S4x2048x512_S4x2048x1x512_0_1_3 (cum X WA BA L))) (broadcastInDim S4x2048x2048x512 ![0, 1, 2, 3] bcast_S4x1x2048x512_S4x2048x2048x512_0_1_2_3 (broadcastInDim S4x1x2048x512 ![0, 2, 3] bcast_S4x2048x512_S4x1x2048x512_0_2_3 (cum X WA BA L)))) (broadcastInDim S4x2048x2048x512 ![] bcast_S_S4x2048x2048x512 (id (constant S_ .f32 0x00000000#32))))

/-- The decay between two steps, nothing where the order is wrong. -/
def decay : FVec Ideal S4x2048x2048x512 .f32 :=
  select mask (ratio X WA BA L) (broadcastInDim S4x2048x2048x512 ![] bcast_S_S4x2048x2048x512 (id (constant S_ .f32 0x00000000#32)))

/-- The scan's input. -/
def inRow : FVec Ideal S4x1x2048x512 .f32 :=
  broadcastInDim S4x1x2048x512 ![0, 2, 3] bcast_S4x2048x512_S4x1x2048x512_0_2_3 (mulf (scale X WA BA L) (gated X WX BX))

/-- The states. -/
def hA : FVec Ideal S4x2048x512 .f32 :=
  Host.reduceAdd (mulf (decay X WA BA L) (broadcastInDim S4x2048x2048x512 ![0, 1, 2, 3] bcast_S4x1x2048x512_S4x2048x2048x512_0_1_2_3 (inRow X WA BA WX BX L))) (constant S_ .f32 0x00000000#32) reducesTo_S4x2048x2048x512_S4x2048x512_d2 h_S_

/-- The gelu's hyperbolic tangent. -/
def thA : FVec Ideal S4x2048x512 .f32 :=
  Host.tanh (mulf (broadcastInDim S4x2048x512 ![] bcast_S_S4x2048x512 (constant S_ .f32 0x3F4C422A#32)) (addf G (mulf (broadcastInDim S4x2048x512 ![] bcast_S_S4x2048x512 (constant S_ .f32 0x3D372713#32)) (mulf (mulf G G) G))))

/-- The gelu's factor. -/
def glA : FVec Ideal S4x2048x512 .f32 :=
  mulf (broadcastInDim S4x2048x512 ![] bcast_S_S4x2048x512 (constant S_ .f32 0x3F000000#32)) (addf (broadcastInDim S4x2048x512 ![] bcast_S_S4x2048x512 (constant S_ .f32 0x3F800000#32)) (thA G))

/-- The gelu. -/
def gelA : FVec Ideal S4x2048x512 .f32 :=
  mulf G (glA G)

/-- The gelu's incoming gradient. -/
def dgA : FVec Ideal S4x2048x512 .f32 :=
  mulf (hA X WA BA WX BX L) Y

/-- The gradient at the hyperbolic tangent's argument. -/
def dtA : FVec Ideal S4x2048x512 .f32 :=
  mulf (broadcastInDim S4x2048x512 ![] bcast_S_S4x2048x512 (constant S_ .f32 0x3F4C422A#32)) (mulf (mulf (broadcastInDim S4x2048x512 ![] bcast_S_S4x2048x512 (constant S_ .f32 0x3F000000#32)) (mulf G (dgA X Y WA BA WX BX L))) (mulf (addf (broadcastInDim S4x2048x512 ![] bcast_S_S4x2048x512 (constant S_ .f32 0x3F800000#32)) (thA G)) (subf (broadcastInDim S4x2048x512 ![] bcast_S_S4x2048x512 (constant S_ .f32 0x3F800000#32)) (thA G))))

/-- The states' gradient, for every pair of steps. -/
def dhA : FVec Ideal S4x2048x2048x512 .f32 :=
  broadcastInDim S4x2048x2048x512 ![0, 1, 3] bcast_S4x2048x512_S4x2048x2048x512_0_1_3 (mulf Y (gelA G))

/-- The scan's input's gradient. -/
def duA : FVec Ideal S4x2048x512 .f32 :=
  Host.reduceAdd (shapeCast _ (Host.reduceAdd (mulf (decay X WA BA L) (dhA G Y)) (constant S_ .f32 0x00000000#32) reducesTo_S4x2048x2048x512_S4x2048x512_d1 h_S_) shapeCasts_S4x2048x512_S4x1x2048x512) (constant S_ .f32 0x00000000#32) reducesTo_S4x1x2048x512_S4x2048x512_d1 h_S_

/-- The gradient of the exponents. -/
def dD : FVec Ideal S4x2048x2048x512 .f32 :=
  select mask (mulf (select mask (mulf (dhA G Y) (broadcastInDim S4x2048x2048x512 ![0, 1, 2, 3] bcast_S4x1x2048x512_S4x2048x2048x512_0_1_2_3 (inRow X WA BA WX BX L))) (broadcastInDim S4x2048x2048x512 ![] bcast_S_S4x2048x2048x512 (constant S_ .f32 0x00000000#32))) (ratio X WA BA L)) (broadcastInDim S4x2048x2048x512 ![] bcast_S_S4x2048x2048x512 (constant S_ .f32 0x00000000#32))

/-- The gated input's gradient. -/
def dgx : FVec Ideal S4x2048x512 .f32 :=
  mulf (scale X WA BA L) (duA X G Y WA BA L)

/-- The log-decay's gradient. -/
def dlaA : FVec Ideal S4x2048x512 .f32 :=
  addf (Host.reduceAdd (broadcastInDim S4x1x2048x512 ![0, 2, 3] bcast_S4x2048x512_S4x1x2048x512_0_2_3 (Host.reduceAdd (select mask (broadcastInDim S4x2048x2048x512 ![0, 1, 3] bcast_S4x2048x512_S4x2048x2048x512_0_1_3 (addf (Host.reduceAdd (shapeCast _ (Host.reduceAdd (Host.negf (dD X G Y WA BA WX BX L)) (constant S_ .f32 0x00000000#32) reducesTo_S4x2048x2048x512_S4x2048x512_d1 h_S_) shapeCasts_S4x2048x512_S4x1x2048x512) (constant S_ .f32 0x00000000#32) reducesTo_S4x1x2048x512_S4x2048x512_d1 h_S_) (Host.reduceAdd (shapeCast _ (Host.reduceAdd (dD X G Y WA BA WX BX L) (constant S_ .f32 0x00000000#32) reducesTo_S4x2048x2048x512_S4x2048x512_d2 h_S_) shapeCasts_S4x2048x512_S4x2048x1x512) (constant S_ .f32 0x00000000#32) reducesTo_S4x2048x1x512_S4x2048x512_d2 h_S_))) (broadcastInDim S4x2048x2048x512 ![] bcast_S_S4x2048x2048x512 (constant S_ .f32 0x00000000#32))) (constant S_ .f32 0x00000000#32) reducesTo_S4x2048x2048x512_S4x2048x512_d1 h_S_)) (constant S_ .f32 0x00000000#32) reducesTo_S4x1x2048x512_S4x2048x512_d1 h_S_) (mulf (broadcastInDim S4x2048x512 ![] bcast_S_S4x2048x512 (constant S_ .f32 0x40000000#32)) (mulf (Host.negf (mulf (mulf (duA X G Y WA BA L) (gated X WX BX)) (Host.divf (broadcastInDim S4x2048x512 ![] bcast_S_S4x2048x512 (constant S_ .f32 0x3F000000#32)) (scale X WA BA L)))) (Host.exp (logA2 X WA BA L))))

/-- The gradient at the second gate's argument. -/
def dpiA : FVec Ideal S4x2048x512 .f32 :=
  mulf (mulf (dgx X G Y WA BA L) X) (mulf (gate X WX BX) (subf (broadcastInDim S4x2048x512 ![] bcast_S_S4x2048x512 (constant S_ .f32 0x3F800000#32)) (gate X WX BX)))

/-- The second gate's matrix's gradient. -/
def dwxA : FVec Ideal S512x512 .f32 :=
  transpose S512x512 [1, 0] (Host.dotGeneral dot_S4x2048x512_S4x2048x512_S512x512_01_01_2_2_n_n none (dpiA X G Y WA BA WX BX L) X) transposes_S512x512_S512x512_1_0

/-- The gradient at the first gate's argument. -/
def dprA : FVec Ideal S4x2048x512 .f32 :=
  mulf (mulf (broadcastInDim S4x2048x512 ![] bcast_S_S4x2048x512 (constant S_ .f32 0xC1000000#32)) (mulf (dlaA X G Y WA BA WX BX L) (broadcastInDim S4x2048x512 ![0, 1, 2] bcast_S1x1x512_S4x2048x512_0_1_2 (spRow L)))) (mulf (gate X WA BA) (subf (broadcastInDim S4x2048x512 ![] bcast_S_S4x2048x512 (constant S_ .f32 0x3F800000#32)) (gate X WA BA)))

/-- The first gate's matrix's gradient. -/
def dwaA : FVec Ideal S512x512 .f32 :=
  transpose S512x512 [1, 0] (Host.dotGeneral dot_S4x2048x512_S4x2048x512_S512x512_01_01_2_2_n_n none (dprA X G Y WA BA WX BX L) X) transposes_S512x512_S512x512_1_0

/-- The reference's gradient of the input. -/
def out0 : FVec Ideal S8192x512 .f32 :=
  shapeCast _ (addf (addf (mulf (gate X WX BX) (dgx X G Y WA BA L)) (Host.dotGeneral dot_S4x2048x512_S512x512_S4x2048x512_2_1_01_0_n_n none (dpiA X G Y WA BA WX BX L) (dense WX))) (Host.dotGeneral dot_S4x2048x512_S512x512_S4x2048x512_2_1_01_0_n_n none (dprA X G Y WA BA WX BX L) (dense WA))) shapeCasts_S4x2048x512_S8192x512

/-- The reference's gradient of the gate's input. -/
def out1 : FVec Ideal S8192x512 .f32 :=
  shapeCast _ (addf (addf (mulf (dgA X Y WA BA WX BX L) (glA G)) (dtA X G Y WA BA WX BX L)) (mulf (mulf (broadcastInDim S4x2048x512 ![] bcast_S_S4x2048x512 (constant S_ .f32 0x3D372713#32)) (dtA X G Y WA BA WX BX L)) (mulf (broadcastInDim S4x2048x512 ![] bcast_S_S4x2048x512 (constant S_ .f32 0x40400000#32)) (mulf G G)))) shapeCasts_S4x2048x512_S8192x512

/-- The reference's gradient of the first matrix. -/
def out2 : FVec Ideal S4x128x128 .f32 :=
  (concatenate S4x128x128 0 [⟨S1x128x128, ((broadcastInDim S1x128x128 ![1, 2] bcast_S128x128_S1x128x128_1_2 (extractStridedSlice S128x128 ![0, 0] (dwaA X G Y WA BA WX BX L) slices_S512x512_S128x128_0_0)) : (⟨S1x128x128, .f32⟩ : BufTy).Contents (Elt Ideal))⟩, ⟨S1x128x128, ((broadcastInDim S1x128x128 ![1, 2] bcast_S128x128_S1x128x128_1_2 (extractStridedSlice S128x128 ![128, 128] (dwaA X G Y WA BA WX BX L) slices_S512x512_S128x128_128_128)) : (⟨S1x128x128, .f32⟩ : BufTy).Contents (Elt Ideal))⟩, ⟨S1x128x128, ((broadcastInDim S1x128x128 ![1, 2] bcast_S128x128_S1x128x128_1_2 (extractStridedSlice S128x128 ![256, 256] (dwaA X G Y WA BA WX BX L) slices_S512x512_S128x128_256_256)) : (⟨S1x128x128, .f32⟩ : BufTy).Contents (Elt Ideal))⟩, ⟨S1x128x128, ((broadcastInDim S1x128x128 ![1, 2] bcast_S128x128_S1x128x128_1_2 (extractStridedSlice S128x128 ![384, 384] (dwaA X G Y WA BA WX BX L) slices_S512x512_S128x128_384_384)) : (⟨S1x128x128, .f32⟩ : BufTy).Contents (Elt Ideal))⟩] concatenates_S1x128x128_S1x128x128_S1x128x128_S1x128x128_S4x128x128_d0 : (⟨S4x128x128, .f32⟩ : BufTy).Contents (Elt Ideal))

/-- The reference's gradient of the second matrix. -/
def out3 : FVec Ideal S4x128x128 .f32 :=
  (concatenate S4x128x128 0 [⟨S1x128x128, ((broadcastInDim S1x128x128 ![1, 2] bcast_S128x128_S1x128x128_1_2 (extractStridedSlice S128x128 ![0, 0] (dwxA X G Y WA BA WX BX L) slices_S512x512_S128x128_0_0)) : (⟨S1x128x128, .f32⟩ : BufTy).Contents (Elt Ideal))⟩, ⟨S1x128x128, ((broadcastInDim S1x128x128 ![1, 2] bcast_S128x128_S1x128x128_1_2 (extractStridedSlice S128x128 ![128, 128] (dwxA X G Y WA BA WX BX L) slices_S512x512_S128x128_128_128)) : (⟨S1x128x128, .f32⟩ : BufTy).Contents (Elt Ideal))⟩, ⟨S1x128x128, ((broadcastInDim S1x128x128 ![1, 2] bcast_S128x128_S1x128x128_1_2 (extractStridedSlice S128x128 ![256, 256] (dwxA X G Y WA BA WX BX L) slices_S512x512_S128x128_256_256)) : (⟨S1x128x128, .f32⟩ : BufTy).Contents (Elt Ideal))⟩, ⟨S1x128x128, ((broadcastInDim S1x128x128 ![1, 2] bcast_S128x128_S1x128x128_1_2 (extractStridedSlice S128x128 ![384, 384] (dwxA X G Y WA BA WX BX L) slices_S512x512_S128x128_384_384)) : (⟨S1x128x128, .f32⟩ : BufTy).Contents (Elt Ideal))⟩] concatenates_S1x128x128_S1x128x128_S1x128x128_S1x128x128_S4x128x128_d0 : (⟨S4x128x128, .f32⟩ : BufTy).Contents (Elt Ideal))

/-- The reference's gradient of the first offset. -/
def out4 : FVec Ideal S1x512 .f32 :=
  broadcastInDim S1x512 ![1] bcast_S512_S1x512_1 (Host.reduceAdd (shapeCast _ (Host.reduceAdd (dprA X G Y WA BA WX BX L) (constant S_ .f32 0x00000000#32) reducesTo_S4x2048x512_S512_d0_1 h_S_) shapeCasts_S512_S1x1x512) (constant S_ .f32 0x00000000#32) reducesTo_S1x1x512_S512_d0_1 h_S_)

/-- The reference's gradient of the second offset. -/
def out5 : FVec Ideal S1x512 .f32 :=
  broadcastInDim S1x512 ![1] bcast_S512_S1x512_1 (Host.reduceAdd (shapeCast _ (Host.reduceAdd (dpiA X G Y WA BA WX BX L) (constant S_ .f32 0x00000000#32) reducesTo_S4x2048x512_S512_d0_1 h_S_) shapeCasts_S512_S1x1x512) (constant S_ .f32 0x00000000#32) reducesTo_S1x1x512_S512_d0_1 h_S_)

/-- The reference's gradient of the decay parameter. -/
def out6 : FVec Ideal S1x512 .f32 :=
  broadcastInDim S1x512 ![1] bcast_S512_S1x512_1 (Host.negf (mulf (Host.reduceAdd (shapeCast _ (Host.reduceAdd (mulf (gate8 X WA BA) (dlaA X G Y WA BA WX BX L)) (constant S_ .f32 0x00000000#32) reducesTo_S4x2048x512_S512_d0_1 h_S_) shapeCasts_S512_S1x1x512) (constant S_ .f32 0x00000000#32) reducesTo_S1x1x512_S512_d0_1 h_S_) (Host.exp (subf (select (cmpf .oeq (negL L) (broadcastInDim S512 ![] bcast_S_S512 (constant S_ .f32 0x7F800000#32))) (broadcastInDim S512 ![] bcast_S_S512 (constant S_ .f32 0x00000000#32)) (negL L)) (select (cmpf .oeq (sp L) (broadcastInDim S512 ![] bcast_S_S512 (constant S_ .f32 0x7F800000#32))) (broadcastInDim S512 ![] bcast_S_S512 (constant S_ .f32 0x00000000#32)) (sp L))))))

/-- The reference ends with these terms of its arguments, and leaves the arguments alone. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v179) = out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v180) = out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v189) = out2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v198) = out3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v199) = out4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v200) = out5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v201) = out6 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1, (h c).2.1, (h c).2.2.1, (h c).2.2.2.1, (h c).2.2.2.2.1, (h c).2.2.2.2.2.1, (h c).2.2.2.2.2.2.1, (h c).2.2.2.2.2.2.2⟩) (Value.run m ρ)

end Cert.Reference6Ideal.Rg
-- ==== Proof.Rg.Pay.lean ====
module

public import proofs.«01_k».proof.Proof.Gen.Kernel6Ideal.Frame
public import proofs.«01_k».proof.Proof.Rg.Col
public import Idealize.ShloMosaic.Lib.Pointwise
public import Idealize.ShloMosaic.Lib.IdealHost
public import Idealize.ShloMosaic.Lib.Pipeline.ValueKit
public import Idealize.ShloMosaic.Lib.Pipeline.ReadBack
public import Idealize.ShloMosaic.Lib.KernelVsHost
public import Idealize.ShloMosaic.Lib.Claim
set_option maxRecDepth 16384

/-! The gated recurrence's gradient, step by step of the kernel's body, on blocks that hold real numbers. -/

@[expose] public noncomputable section
open Idealize.ShloMosaic Idealize.ShloMosaic.TcCoe Idealize.SL.Sem

namespace Cert.Kernel6Ideal.Block
open Cert.Kernel6Ideal Cert.Kernel6Ideal.Gen Cert.Rg Cert.Rg.Scan

abbrev M := FVec Ideal S2048x128 .f32
abbrev R := FVec Ideal S1x128 .f32
abbrev W := FVec Ideal S128x128 .f32
abbrev W1 := Vec Ideal S1x128x128 .f32

/-- A block, a row, a square block that hold the real numbers of a function. -/
def Is (v : M) (f : Fin 128 → Fin 2048 → ℝ) : Prop := ∀ r d, v (ix2 r d) = ((f d r : ℝ) : EReal)
def IsR (v : R) (f : Fin 128 → ℝ) : Prop := ∀ j d, v (ix2 j d) = ((f d : ℝ) : EReal)
def IsW (v : W) (f : Fin 128 → Fin 128 → ℝ) : Prop := ∀ p q, v (ix2 p q) = ((f p q : ℝ) : EReal)
def IsW1 (v : W1) (f : Fin 128 → Fin 128 → ℝ) : Prop := ∀ j p q, v (ix3 j p q) = ((f p q : ℝ) : EReal)
/-- A block whose columns are functions of every natural number. -/
def IsN (v : M) (f : Fin 128 → ℕ → ℝ) : Prop := ∀ r d, v (ix2 r d) = ((f d r.val : ℝ) : EReal)

/-- The steps of a block. -/
abbrev steps : IVec S2048x128 32 := iota .tc S2048x128 32 [0] iota_S2048x128_d0_w32

/-- A block moved up, another value past its end. -/
theorem up_at (k n : ℕ) (hn : k + n = 2048) (hk : 0 < k) (v : M) (c : Ideal .f32) (r : Fin 2048) (d : Fin 128) :
    select (cmpi .slt steps (broadcast S2048x128 (BitVec.ofNat 32 n))) (dynamicRotate 0 (BitVec.ofNat 32 n) none v rotates_S2048x128_d0)
      (broadcast S2048x128 c) (ix2 r d) = if h : r.val + k < 2048 then v (ix2 ⟨r.val + k, h⟩ d) else c := by
  have hr := r.isLt
  have n32 : (BitVec.ofNat 32 n).toNat = n := by rw [BitVec.toNat_ofNat]; exact Nat.mod_eq_of_lt (by omega)
  have r32 : (BitVec.ofNat 32 r.val).toNat = r.val := by rw [BitVec.toNat_ofNat]; exact Nat.mod_eq_of_lt (by omega)
  have lt : (BitVec.ofNat 32 r.val).slt (BitVec.ofNat 32 n) = decide (r.val < n) := by
    rw [BitVec.slt_eq_decide, BitVec.toInt_eq_toNat_of_lt (by rw [r32]; omega), BitVec.toInt_eq_toNat_of_lt (by rw [n32]; omega), r32, n32]
    simp
  have e : select (cmpi .slt steps (broadcast S2048x128 (BitVec.ofNat 32 n))) (dynamicRotate 0 (BitVec.ofNat 32 n) none v rotates_S2048x128_d0)
      (broadcast S2048x128 c) (ix2 r d) = Scalar.select (IntOp.cmpi .slt (BitVec.ofNat 32 r.val) (BitVec.ofNat 32 n))
        (dynamicRotate 0 (BitVec.ofNat 32 n) none v rotates_S2048x128_d0 (ix2 r d)) c := by
    generalize dynamicRotate 0 (BitVec.ofNat 32 n) none v rotates_S2048x128_d0 = z
    pointwise
  rw [e]
  by_cases h : r.val + k < 2048
  · rw [dif_pos h, dynamicRotate_apply 0 _ v _ (ix2 r d) (ix2 ⟨r.val + k, h⟩ d) (by
      intro b
      rw [n32]
      fin_cases b
      · show r.val + k = (r.val + 2048 - n % 2048) % 2048
        rw [Nat.mod_eq_of_lt (by omega : n < 2048), show r.val + 2048 - n = r.val + k from by omega, Nat.mod_eq_of_lt h]
      · rfl)]
    simp [Scalar.select, IntOp.cmpi, lt, show r.val < n from by omega]
  · rw [dif_neg h]
    simp [Scalar.select, IntOp.cmpi, lt, show ¬ r.val < n from by omega]

/-- One doubling of the scan, and of its factors. -/
theorem isU (k n : ℕ) (hn : k + n = 2048) (hk : 0 < k) {u a : M} {α υ : Fin 128 → ℕ → ℝ} (hα : ∀ d n, 2048 ≤ n → α d n = 1) (hυ : ∀ d n, 2048 ≤ n → υ d n = 0)
    (hu : IsN u fun d => U (α d) (υ d) k) (ha : IsN a fun d => A (α d) k) :
    IsN (addf u (mulf a (select (cmpi .slt steps (broadcast S2048x128 (BitVec.ofNat 32 n)))
      (dynamicRotate 0 (BitVec.ofNat 32 n) none u rotates_S2048x128_d0) (broadcast S2048x128 (Scalar.ofBits (F := Ideal) .f32 0x00000000#32)))))
      fun d => U (α d) (υ d) (k + k) := by
  intro r d
  show u (ix2 r d) + a (ix2 r d) * select _ _ _ (ix2 r d) = _
  rw [up_at k n hn hk, hu, ha]
  beta_reduce
  rw [U_double, EReal.coe_add, EReal.coe_mul]
  refine congrArg _ (congrArg _ ?_)
  by_cases h : r.val + k < 2048
  · rw [dif_pos h, hu]
  · rw [dif_neg h, U_past _ _ (hυ d) _ _ (by omega)]
    exact Ideal.ofBits_zero_f32

theorem isA (k n : ℕ) (hn : k + n = 2048) (hk : 0 < k) {a : M} {α : Fin 128 → ℕ → ℝ} (hα : ∀ d n, 2048 ≤ n → α d n = 1)
    (ha : IsN a fun d => A (α d) k) :
    IsN (mulf a (select (cmpi .slt steps (broadcast S2048x128 (BitVec.ofNat 32 n)))
      (dynamicRotate 0 (BitVec.ofNat 32 n) none a rotates_S2048x128_d0) (broadcast S2048x128 (Scalar.ofBits (F := Ideal) .f32 0x3F800000#32))))
      fun d => A (α d) (k + k) := by
  intro r d
  show a (ix2 r d) * select _ _ _ (ix2 r d) = _
  rw [up_at k n hn hk, ha]
  beta_reduce
  rw [A_double, EReal.coe_mul]
  refine congrArg _ ?_
  by_cases h : r.val + k < 2048
  · rw [dif_pos h, ha]
  · rw [dif_neg h, A_past _ (hα d) _ _ (by omega)]
    exact Ideal.ofBits_one_f32

section Scan
variable {v41 v102 : M} {la dh : Fin 128 → Fin 2048 → ℝ}

theorem nxt_past (d : Fin 128) (n : ℕ) (h : 2048 ≤ n) : nxt (la d) n = 1 := by
  rw [nxt, dif_neg (by omega), if_neg (by omega)]
theorem ext_past (d : Fin 128) (n : ℕ) (h : 2048 ≤ n) : ext (dh d) n = 0 := by
  rw [ext, dif_neg (by omega)]

variable (hu : Is v41 dh) (ha : Is v102 fun d t => Real.exp (la d t))

/-- The decays moved up by one step. -/
abbrev rot (v102 : M) : M := dynamicRotate 0 2047#32 none v102 rotates_S2048x128_d0

include ha in
theorem is40 : IsN (k0_pay40 (F := Ideal) k0_pay38 (rot v102)) fun d => A (nxt (la d)) 1 := by
  intro r d
  have := up_at 1 2047 rfl (by decide) v102 (Scalar.ofBits (F := Ideal) .f32 0x00000000#32) r d
  refine Eq.trans this ?_
  simp only [A_one, nxt]
  by_cases h : r.val + 1 < 2048
  · rw [dif_pos h, dif_pos h, ha]
  · rw [dif_neg h, dif_neg h, if_pos r.isLt]
    exact Ideal.ofBits_zero_f32

include hu in
theorem is41 : IsN v41 fun d => U (nxt (la d)) (ext (dh d)) 1 := by
  intro r d
  simp only [U_one]
  rw [ext, dif_pos r.isLt]
  exact hu r d

include ha in
theorem is42 : IsN (k0_pay42 (F := Ideal) k0_pay38 (rot v102)) fun d => A (nxt (la d)) 2 := isA 1 2047 rfl (by decide) nxt_past (is40 ha)
include ha in
theorem is44 : IsN (k0_pay44 (F := Ideal) k0_pay38 (rot v102)) fun d => A (nxt (la d)) 4 := isA 2 2046 rfl (by decide) nxt_past (is42 ha)
include ha in
theorem is47 : IsN (k0_pay47 (F := Ideal) k0_pay38 (rot v102)) fun d => A (nxt (la d)) 8 := isA 4 2044 rfl (by decide) nxt_past (is44 ha)
include ha in
theorem is50 : IsN (k0_pay50 (F := Ideal) (k0_pay47 k0_pay38 (rot v102)) k0_pay48) fun d => A (nxt (la d)) 16 := isA 8 2040 rfl (by decide) nxt_past (is47 ha)
include ha in
theorem is52 : IsN (k0_pay52 (F := Ideal) steps (k0_pay47 k0_pay38 (rot v102)) k0_pay48) fun d => A (nxt (la d)) 32 := isA 16 2032 rfl (by decide) nxt_past (is50 ha)
include ha in
theorem is54 : IsN (k0_pay54 (F := Ideal) steps (k0_pay47 k0_pay38 (rot v102)) k0_pay48) fun d => A (nxt (la d)) 64 := isA 32 2016 rfl (by decide) nxt_past (is52 ha)
include ha in
theorem is57 : IsN (k0_pay57 (F := Ideal) steps (k0_pay47 k0_pay38 (rot v102)) k0_pay48) fun d => A (nxt (la d)) 128 := isA 64 1984 rfl (by decide) nxt_past (is54 ha)

include hu ha in
theorem is46 : IsN (k0_pay46 (F := Ideal) v41 k0_pay38 (rot v102)) fun d => U (nxt (la d)) (ext (dh d)) 8 :=
  isU 4 2044 rfl (by decide) nxt_past ext_past
    (isU 2 2046 rfl (by decide) nxt_past ext_past (isU 1 2047 rfl (by decide) nxt_past ext_past (is41 hu) (is40 ha)) (is42 ha)) (is44 ha)

include hu ha in
theorem is56 : IsN (k0_pay56 (F := Ideal) steps (k0_pay46 v41 k0_pay38 (rot v102)) (k0_pay47 k0_pay38 (rot v102)) k0_pay48 (k0_pay49 v41 k0_pay38 (rot v102)))
    fun d => U (nxt (la d)) (ext (dh d)) 128 :=
  isU 64 1984 rfl (by decide) nxt_past ext_past
    (isU 32 2016 rfl (by decide) nxt_past ext_past
      (isU 16 2032 rfl (by decide) nxt_past ext_past (isU 8 2040 rfl (by decide) nxt_past ext_past (is46 hu ha) (is47 ha)) (is50 ha)) (is52 ha)) (is54 ha)

/-- The kernel's last four doublings. -/
theorem is59 {v203 v204 : M} {α υ : Fin 128 → ℕ → ℝ} (hα : ∀ d n, 2048 ≤ n → α d n = 1) (hυ : ∀ d n, 2048 ≤ n → υ d n = 0)
    (hu : IsN v203 fun d => U (α d) (υ d) 128) (ha : IsN v204 fun d => A (α d) 128) :
    IsN (k0_pay59 (F := Ideal) steps v203 v204 (k0_pay58 steps) 1920#32) fun d => U (α d) (υ d) 2048 :=
  have u1 := isU 128 1920 rfl (by decide) hα hυ hu ha
  have a1 := isA 128 1920 rfl (by decide) hα ha
  have u2 := isU 256 1792 rfl (by decide) hα hυ u1 a1
  have a2 := isA 256 1792 rfl (by decide) hα a1
  have u3 := isU 512 1536 rfl (by decide) hα hυ u2 a2
  have a3 := isA 512 1536 rfl (by decide) hα a2
  isU 1024 1024 rfl (by decide) hα hυ u3 a3

/-- The kernel's reverse scan. -/
abbrev kscan (v41 v102 : M) : M :=
  k0_pay59 (F := Ideal) steps (k0_pay56 steps (k0_pay46 v41 k0_pay38 (rot v102)) (k0_pay47 k0_pay38 (rot v102)) k0_pay48 (k0_pay49 v41 k0_pay38 (rot v102)))
    (k0_pay57 steps (k0_pay47 k0_pay38 (rot v102)) k0_pay48) (k0_pay58 steps) 1920#32

include hu ha in
theorem is_scan : Is (kscan v41 v102) fun d t => back (la d) (dh d) t := by
  intro r d
  exact (is59 nxt_past ext_past (is56 hu ha) (is57 ha) r d).trans (congrArg _ (U_top _ _ _))

end Scan

section Gates
variable {v0 v2 v4 v42 : M} {v44 v46 : W1} {v48 v50 v52 : R} {h y g x : Fin 128 → Fin 2048 → ℝ} {wa wx : Fin 128 → Fin 128 → ℝ} {ba bx l : Fin 128 → ℝ}

/-- What arrives at the scan. -/
theorem is15 (hy : Is v2 y) (hg : Is v4 g) : Is (k0_pay15 (F := Ideal) (k0_pay9 v2) (k0_pay13 v4)) fun d t => y d t * (g d t * gg (g d t)) := by
  intro r d
  pointwise [k0_pay15, k0_pay9, k0_pay13, k0_pay10, k0_pay12, k0_pay11]
  simp only [hy r d, hg r d, ga_eq, gb_eq, half_eq, gg, gt, ← EReal.coe_mul, ← EReal.coe_add, Ideal.tanh_coe, ← EReal.coe_one]

/-- The gelu's gradient. -/
theorem is14 (hh : Is v0 h) (hy : Is v2 y) (hg : Is v4 g) : Is (k0_pay14 (F := Ideal) v0 v2 v4) fun d t => dgelu (g d t) (y d t * h d t) := by
  intro r d
  pointwise [k0_pay14, k0_pay8, k0_pay9, k0_pay10, k0_pay12, k0_pay11]
  simp only [hh r d, hy r d, hg r d, ga_eq, gb_eq, half_eq, three_eq, dgelu, gg, gt, ← EReal.coe_mul, ← EReal.coe_add, ← EReal.coe_sub, Ideal.tanh_coe, ← EReal.coe_one]

theorem coe_logistic (p : ℝ) : Ideal.logistic (p : EReal) = ((sgm p : ℝ) : EReal) := Ideal.logistic_coe p

/-- A gate. -/
theorem is19 (hx : Is v42 x) (ha : IsW1 v44 wa) (hb : IsR v48 ba) :
    Is (k0_pay19 (F := Ideal) v42 v44 v48) fun d t => sgm ((∑ k, x k t * wa k d) + ba d) := by
  intro r d
  pointwise [k0_pay19, k0_pay16, k0_pay17]
  simp only [hx r, ha 0, hb 0 d, ← EReal.coe_mul, ← coe_sum, ← EReal.coe_add, coe_logistic]
theorem is21 (hx : Is v42 x) (ha : IsW1 v46 wx) (hb : IsR v50 bx) :
    Is (k0_pay21 (F := Ideal) v42 v46 v50) fun d t => sgm ((∑ k, x k t * wx k d) + bx d) := by
  intro r d
  pointwise [k0_pay21, k0_pay16, k0_pay18]
  simp only [hx r, ha 0, hb 0 d, ← EReal.coe_mul, ← coe_sum, ← EReal.coe_add, coe_logistic]

/-- The softplus, and its derivative. -/
theorem is24 (hl : IsR v52 l) : IsR (k0_pay24 (F := Ideal) v52) fun d => -l d := by
  intro j d
  pointwise [k0_pay24]
  simp only [hl j d, ← EReal.coe_zero, ← EReal.coe_sub, zero_sub]
theorem is26 (hl : IsR v52 l) : IsR (k0_pay26 (F := Ideal) (k0_pay24 v52) (Scalar.ofBits .f32 0x00000000#32) (k0_pay25 v52)) fun d => soft (-l d) := by
  intro j d
  have e := is24 hl j d
  generalize hz : k0_pay24 (F := Ideal) v52 = z at e
  have hm : k0_pay25 (F := Ideal) v52 = maximumf z (broadcast S1x128 (Scalar.ofBits .f32 0x00000000#32)) := by subst hz; rfl
  rw [hm]
  clear hm hz
  pointwise [k0_pay26]
  rw [if_neg (by simp), e]
  have habs : FloatOps.absf (F := Ideal) (φ := .f32) ((-l d : ℝ) : EReal) = ((|-l d| : ℝ) : EReal) := by
    rw [Ideal.absf_def, ← EReal.coe_neg, ← coe_max]
    rfl
  have h0 : (0 : EReal) = ((0 : ℝ) : EReal) := rfl
  rw [habs, h0, ← EReal.coe_sub, zero_sub, Ideal.exp_coe, log1p_coe _ (by positivity), ← coe_max, ← EReal.coe_add]
  rfl
theorem is27 {v75 v77 : R} {c : Ideal .f32} {l s : Fin 128 → ℝ} (hl : IsR v75 l) (hs : IsR (k0_pay26 (F := Ideal) v75 c v77) s) :
    IsR (k0_pay27 (F := Ideal) v75 c v77) fun d => Real.exp (l d - s d) := by
  intro j d
  pointwise [k0_pay27]
  rw [inf_eq, hl, hs, if_neg (EReal.coe_ne_top _), if_neg (EReal.coe_ne_top _), ← EReal.coe_sub, Ideal.exp_coe]
end Gates

section Later
variable {v73 : M} {v75 v77 : R} {c : Ideal .f32} {r8 : Fin 128 → Fin 2048 → ℝ} {s : Fin 128 → ℝ} (h8 : Is v73 r8) (hs : IsR (k0_pay26 (F := Ideal) v75 c v77) s)

include h8 hs in
theorem is28 : Is (k0_pay28 (F := Ideal) v73 v75 c v77) fun d t => r8 d t * s d := by
  intro r d
  pointwise [k0_pay28]
  rw [h8, hs, ← EReal.coe_mul]

variable {v102 : M} {la : Fin 128 → Fin 2048 → ℝ} (hl : Is (k0_pay28 (F := Ideal) v73 v75 c v77) la)

include hl in
theorem is29 : Is (k0_pay29 (F := Ideal) v73 v75 c v77) fun d t => Real.exp (la d t) := by
  intro r d
  show Ideal.exp (k0_pay28 (F := Ideal) v73 v75 c v77 (ix2 r d)) = _
  rw [hl, Ideal.exp_coe]
include hl in
theorem is30 : Is (k0_pay30 (F := Ideal) v73 v75 c v77) fun d t => Real.tanh (la d t) := by
  intro r d
  show Ideal.tanh (k0_pay28 (F := Ideal) v73 v75 c v77 (ix2 r d)) = _
  rw [hl, Ideal.tanh_coe]
include hl in
theorem is31 : Is (k0_pay31 (F := Ideal) v73 v75 c v77) fun d t => (1 + Real.tanh (la d t)) * (1 - Real.tanh (la d t)) := by
  intro r d
  have := is30 hl r d
  pointwise [k0_pay31]
  rw [this]
  simp only [← EReal.coe_mul, ← EReal.coe_add, ← EReal.coe_sub, ← EReal.coe_one]
include hl in
theorem is32 : Is (k0_pay32 (F := Ideal) v73 v75 c v77) fun d t => 0 - Real.tanh (la d t) := by
  intro r d
  have := is30 hl r d
  pointwise [k0_pay32]
  rw [this]
  simp only [← EReal.coe_sub, ← EReal.coe_zero]
include hl in
theorem is33 : Is (k0_pay33 (F := Ideal) v73 v75 c v77) fun d t => Real.exp (2 * la d t) := by
  intro r d
  have := hl r d
  pointwise [k0_pay33]
  rw [this, two_eq, ← EReal.coe_mul, Ideal.exp_coe]
include hl in
theorem is34 : Is (k0_pay34 (F := Ideal) v73 v75 c v77) fun d t => Real.exp (2 * la d t) + 1 := by
  intro r d
  have := is33 hl r d
  pointwise [k0_pay34]
  rw [this, ← EReal.coe_one, ← EReal.coe_add]
include hl in
theorem is35 (hn : ∀ d t, la d t < 0) : Is (k0_pay35 (F := Ideal) v73 v75 c v77) fun d t => √(1 - Real.exp (2 * la d t)) := by
  intro r d
  have h2 := is32 hl r d
  have h4 := is34 hl r d
  pointwise [k0_pay35]
  rw [h2, h4, ← EReal.coe_mul, tanh_mul, sqrt_coe_pos]
  have : Real.exp (2 * la d r) < Real.exp 0 := Real.exp_lt_exp.2 (by have := hn d r; linarith)
  rw [Real.exp_zero] at this
  linarith
include hl in
theorem is36 (hn : ∀ d t, la d t < 0) : Is (k0_pay36 (F := Ideal) v73 v75 c v77) fun d t => 1 / 2 / √(1 - Real.exp (2 * la d t)) := by
  intro r d
  have h2 := is35 hl hn r d
  pointwise [k0_pay36]
  rw [h2, half_eq, div_coe]
  have : Real.exp (2 * la d r) < Real.exp 0 := Real.exp_lt_exp.2 (by have := hn d r; linarith)
  rw [Real.exp_zero] at this
  exact (Real.sqrt_pos.2 (by linarith)).ne'
end Later

section Grads
variable {v1 v42 v43 v62 v68 v71 v73 v102 v108 v110 v113 v115 v117 v119 v120 v244 : M} {v44 v46 : W1} {v45 v47 : W} {v89 v99 : R}
  {f h r i x a th nt e2 e1 hm ix lm mu qr qi : Fin 128 → Fin 2048 → ℝ} {wa wx : Fin 128 → Fin 128 → ℝ} {s ds : Fin 128 → ℝ}

theorem is16 (hx : Is v42 x) : Is (k0_pay16 (F := Ideal) v42) x := by
  intro r d
  pointwise [k0_pay16]
  exact hx r d
theorem is17 (ha : IsW1 v44 wa) : IsW (k0_pay17 (F := Ideal) v44) wa := by
  intro p q
  pointwise [k0_pay17]
  exact ha 0 p q
theorem is18 (ha : IsW1 v44 wa) : IsW (k0_pay18 (F := Ideal) v44) wa := by
  intro p q
  pointwise [k0_pay18]
  exact ha 0 p q
theorem is8 (hx : Is v42 x) : Is (k0_pay8 (F := Ideal) v42) x := by
  intro r d
  pointwise [k0_pay8]
  exact hx r d

theorem is20 {v48 : R} (hr : Is (k0_pay19 (F := Ideal) v42 v44 v48) r) : Is (k0_pay20 (F := Ideal) v42 v44 v48) fun d t => r d t * (1 - r d t) := by
  intro t d
  have := hr t d
  pointwise [k0_pay20]
  rw [this]
  simp only [← EReal.coe_mul, ← EReal.coe_sub, ← EReal.coe_one]
theorem is22 {v50 : R} (hr : Is (k0_pay21 (F := Ideal) v42 v46 v50) r) : Is (k0_pay22 (F := Ideal) v42 v46 v50) fun d t => r d t * (1 - r d t) := by
  intro t d
  have := hr t d
  pointwise [k0_pay22]
  rw [this]
  simp only [← EReal.coe_mul, ← EReal.coe_sub, ← EReal.coe_one]
theorem is23 {v48 : R} (hr : Is (k0_pay19 (F := Ideal) v42 v44 v48) r) : Is (k0_pay23 (F := Ideal) v42 v44 v48) fun d t => -8 * r d t := by
  intro t d
  have := hr t d
  pointwise [k0_pay23]
  rw [this, neg8_eq, ← EReal.coe_mul]
theorem is37 (hx : Is v43 x) (hi : Is v68 i) : Is (k0_pay37 (F := Ideal) v43 v68) fun d t => i d t * x d t := by
  intro t d
  pointwise [k0_pay37]
  rw [hx, hi, ← EReal.coe_mul]
theorem is62 (hm : Is v117 mu) (hl : Is v244 lm) : Is (k0_pay62 (F := Ideal) v117 v244) fun d t => mu d t * lm d t := by
  intro t d
  pointwise [k0_pay62]
  rw [hm, hl, ← EReal.coe_mul]
theorem is65 (hx : Is v43 x) (hi : Is v71 qi) (hm : Is v117 mu) (hl : Is v244 lm) :
    Is (k0_pay65 (F := Ideal) v43 v71 v117 v244) fun d t => mu d t * lm d t * x d t * qi d t := by
  intro t d
  pointwise [k0_pay65, k0_pay62]
  rw [hm, hl, hx, hi]
  simp only [← EReal.coe_mul]

/-- A block moved down by one step, nothing before its start. -/
theorem down_at (hh : Is v1 h) (r : Fin 2048) (d : Fin 128) :
    select (k0_pay60 steps) (k0_pay61 v1) (broadcast S2048x128 (Scalar.ofBits (F := Ideal) .f32 0x00000000#32)) (ix2 r d) = ((before (h d) r : ℝ) : EReal) := by
  have hr := r.isLt
  have r32 : (BitVec.ofNat 32 r.val).toNat = r.val := by rw [BitVec.toNat_ofNat]; exact Nat.mod_eq_of_lt (by omega)
  have lt : (1#32).sle (BitVec.ofNat 32 r.val) = decide (1 ≤ r.val) := by
    rw [BitVec.sle_eq_decide, BitVec.toInt_eq_toNat_of_lt (by decide), BitVec.toInt_eq_toNat_of_lt (by rw [r32]; omega), r32]
    simp
  have e : select (k0_pay60 steps) (k0_pay61 v1) (broadcast S2048x128 (Scalar.ofBits (F := Ideal) .f32 0x00000000#32)) (ix2 r d)
      = Scalar.select (IntOp.cmpi .sge (BitVec.ofNat 32 r.val) 1#32) (k0_pay61 v1 (ix2 r d)) 0 := by
    generalize k0_pay61 (F := Ideal) v1 = z
    pointwise [k0_pay60]
  rw [e, before]
  by_cases h1 : 1 ≤ r.val
  · rw [dif_pos h1, k0_pay61, dynamicRotate_apply 0 _ v1 _ (ix2 r d) (ix2 ⟨r.val - 1, by omega⟩ d) (by
      intro b
      fin_cases b
      · show r.val - 1 = (r.val + 2048 - 1 % 2048) % 2048
        omega
      · rfl), hh]
    simp [Scalar.select, IntOp.cmpi, lt, h1]
  · rw [dif_neg h1]
    simp [Scalar.select, IntOp.cmpi, lt, h1]

/-- The log-decay's gradient as the kernel forms it. -/
def kla (h a th nt e2 e1 hm ix lm : Fin 128 → Fin 2048 → ℝ) (d : Fin 128) (t : Fin 2048) : ℝ :=
  2 * (nt d t * (lm d t * ix d t * hm d t) * e2 d t) + (0 - lm d t * ix d t * hm d t * e1 d t) * th d t + lm d t * before (h d) t * a d t

/-- The kernel's log-decay gradient. -/
abbrev g63 (v1 v102 v108 v110 v113 v115 v119 v120 v244 : M) : M :=
  k0_pay63 (F := Ideal) v102 v108 v110 v113 v115 v119 v120 v244 (k0_pay60 steps) (k0_pay61 v1) (Scalar.ofBits .f32 0x00000000#32)

section
variable (h1 : Is v1 h) (h102 : Is v102 a) (h108 : Is v108 th) (h110 : Is v110 nt) (h113 : Is v113 e2) (h115 : Is v115 e1) (h119 : Is v119 hm)
  (h120 : Is v120 ix) (h244 : Is v244 lm)
include h1 h102 h108 h110 h113 h115 h119 h120 h244

theorem is63 : Is (g63 v1 v102 v108 v110 v113 v115 v119 v120 v244) (kla h a th nt e2 e1 hm ix lm) := by
  intro t d
  have e := down_at h1 t d
  unfold g63 k0_pay63
  generalize select (k0_pay60 steps) (k0_pay61 v1) (broadcast S2048x128 (Scalar.ofBits (F := Ideal) .f32 0x00000000#32)) = z at e ⊢
  pointwise
  rw [h102, h108, h110, h113, h115, h119, h120, h244, e, two_eq]
  simp only [kla, ← EReal.coe_mul, ← EReal.coe_sub, ← EReal.coe_add, ← EReal.coe_zero]

theorem is68 (h62 : Is v62 qr) (h89 : IsR v89 s) :
    Is (k0_pay68 (F := Ideal) v62 v89 v102 v108 v110 v113 v115 v119 v120 v244 (k0_pay60 steps) (k0_pay61 v1) (Scalar.ofBits .f32 0x00000000#32))
      fun d t => -8 * (kla h a th nt e2 e1 hm ix lm d t * s d) * qr d t := by
  intro t d
  have e := is63 h1 h102 h108 h110 h113 h115 h119 h120 h244 t d
  unfold k0_pay68
  unfold g63 at e
  generalize k0_pay63 (F := Ideal) v102 v108 v110 v113 v115 v119 v120 v244 (k0_pay60 steps) (k0_pay61 v1) (Scalar.ofBits .f32 0x00000000#32) = z at e ⊢
  pointwise
  rw [e, h89, h62, neg8_eq]
  simp only [← EReal.coe_mul]

theorem is64 (h73 : Is v73 r) (h99 : IsR v99 ds) :
    IsR (k0_pay64 (F := Ideal) v73 v99 v102 v108 v110 v113 v115 v119 v120 v244 (k0_pay60 steps) (k0_pay61 v1) (Scalar.ofBits .f32 0x00000000#32))
      fun d => -((∑ t, r d t * kla h a th nt e2 e1 hm ix lm d t) * ds d) := by
  intro j d
  have e := fun t => is63 h1 h102 h108 h110 h113 h115 h119 h120 h244 t d
  unfold k0_pay64
  unfold g63 at e
  generalize k0_pay63 (F := Ideal) v102 v108 v110 v113 v115 v119 v120 v244 (k0_pay60 steps) (k0_pay61 v1) (Scalar.ofBits .f32 0x00000000#32) = z at e ⊢
  pointwise
  simp only [e, h73 _ d, h99 _ d, ← EReal.coe_mul, ← coe_sum, ← EReal.coe_zero, ← EReal.coe_sub, zero_sub]

theorem is69 (h62 : Is v62 qr) (h89 : IsR v89 s) :
    IsR (k0_pay69 (F := Ideal) v62 v89 v102 v108 v110 v113 v115 v119 v120 v244 (k0_pay60 steps) (k0_pay61 v1) (Scalar.ofBits .f32 0x00000000#32))
      fun d => ∑ t, -8 * (kla h a th nt e2 e1 hm ix lm d t * s d) * qr d t := by
  intro j d
  have e := fun t => is68 h1 h102 h108 h110 h113 h115 h119 h120 h244 h62 h89 t d
  unfold k0_pay69
  generalize k0_pay68 (F := Ideal) v62 v89 v102 v108 v110 v113 v115 v119 v120 v244 (k0_pay60 steps) (k0_pay61 v1) (Scalar.ofBits .f32 0x00000000#32) = z at e ⊢
  pointwise
  simp only [e, ← coe_sum]

theorem is70 (hx : Is v43 x) (h62 : Is v62 qr) (h89 : IsR v89 s) :
    IsW (k0_pay70 (F := Ideal) v43 v62 v89 v102 v108 v110 v113 v115 v119 v120 v244 (k0_pay60 steps) (k0_pay61 v1) (Scalar.ofBits .f32 0x00000000#32))
      fun p q => ∑ t, x p t * (-8 * (kla h a th nt e2 e1 hm ix lm q t * s q) * qr q t) := by
  intro p q
  have e := fun t => is68 h1 h102 h108 h110 h113 h115 h119 h120 h244 h62 h89 t q
  unfold k0_pay70
  generalize k0_pay68 (F := Ideal) v62 v89 v102 v108 v110 v113 v115 v119 v120 v244 (k0_pay60 steps) (k0_pay61 v1) (Scalar.ofBits .f32 0x00000000#32) = z at e ⊢
  pointwise
  simp only [e, hx _ p, ← EReal.coe_mul, ← coe_sum]

theorem is71 (hx : Is v43 x) (ha : IsW v45 wa) (hb : IsW v47 wx) (h62 : Is v62 qr) (h68 : Is v68 i) (h71 : Is v71 qi) (h89 : IsR v89 s) (h117 : Is v117 mu) :
    Is (k0_pay71 (F := Ideal) v43 v45 v47 v62 v68 v71 v89 v102 v108 v110 v113 v115 v117 v119 v120 v244 (k0_pay60 steps) (k0_pay61 v1) (Scalar.ofBits .f32 0x00000000#32))
      fun d t => i d t * (mu d t * lm d t) + (∑ k, mu k t * lm k t * x k t * qi k t * wx d k)
        + ∑ k, -8 * (kla h a th nt e2 e1 hm ix lm k t * s k) * qr k t * wa d k := by
  intro t d
  have e := is68 h1 h102 h108 h110 h113 h115 h119 h120 h244 h62 h89 t
  have e1 := is62 h117 h244 t d
  have e2 := is65 hx h71 h117 h244 t
  unfold k0_pay71
  generalize k0_pay68 (F := Ideal) v62 v89 v102 v108 v110 v113 v115 v119 v120 v244 (k0_pay60 steps) (k0_pay61 v1) (Scalar.ofBits .f32 0x00000000#32) = z at e ⊢
  generalize k0_pay65 (F := Ideal) v43 v71 v117 v244 = z2 at e2 ⊢
  generalize k0_pay62 (F := Ideal) v117 v244 = z1 at e1 ⊢
  pointwise
  simp only [e, e1, e2, h68 _ d, ha d, hb d, ← EReal.coe_mul, ← coe_sum, ← EReal.coe_add]

end

theorem is66 (hx : Is v43 x) (hi : Is v71 qi) (hm : Is v117 mu) (hl : Is v244 lm) :
    IsR (k0_pay66 (F := Ideal) v43 v71 v117 v244) fun d => ∑ t, mu d t * lm d t * x d t * qi d t := by
  intro j d
  have e := fun t => is65 hx hi hm hl t d
  unfold k0_pay66
  generalize k0_pay65 (F := Ideal) v43 v71 v117 v244 = z2 at e ⊢
  pointwise
  simp only [e, ← coe_sum]

theorem is67 (hx : Is v43 x) (hi : Is v71 qi) (hm : Is v117 mu) (hl : Is v244 lm) :
    IsW (k0_pay67 (F := Ideal) v43 v71 v117 v244) fun p q => ∑ t, x p t * (mu q t * lm q t * x q t * qi q t) := by
  intro p q
  have e := fun t => is65 hx hi hm hl t q
  unfold k0_pay67
  generalize k0_pay65 (F := Ideal) v43 v71 v117 v244 = z2 at e ⊢
  pointwise
  simp only [e, hx _ p, ← EReal.coe_mul, ← coe_sum]

end Grads

section Whole
variable (X G H Y : M) (WA WX : W1) (BA BX Lb : R)

/-- The kernel's values of one grid point. -/
abbrev z0 : Ideal .f32 := Scalar.ofBits .f32 0x00000000#32
abbrev n23 : M := k0_pay23 (F := Ideal) X WA BA
abbrev n28 : M := k0_pay28 (F := Ideal) (n23 X WA BA) (k0_pay24 Lb) z0 (k0_pay25 Lb)
abbrev n29 : M := k0_pay29 (F := Ideal) (n23 X WA BA) (k0_pay24 Lb) z0 (k0_pay25 Lb)
abbrev n31 : M := k0_pay31 (F := Ideal) (n23 X WA BA) (k0_pay24 Lb) z0 (k0_pay25 Lb)
abbrev n32 : M := k0_pay32 (F := Ideal) (n23 X WA BA) (k0_pay24 Lb) z0 (k0_pay25 Lb)
abbrev n33 : M := k0_pay33 (F := Ideal) (n23 X WA BA) (k0_pay24 Lb) z0 (k0_pay25 Lb)
abbrev n34 : M := k0_pay34 (F := Ideal) (n23 X WA BA) (k0_pay24 Lb) z0 (k0_pay25 Lb)
abbrev n35 : M := k0_pay35 (F := Ideal) (n23 X WA BA) (k0_pay24 Lb) z0 (k0_pay25 Lb)
abbrev n36 : M := k0_pay36 (F := Ideal) (n23 X WA BA) (k0_pay24 Lb) z0 (k0_pay25 Lb)
abbrev n37 : M := k0_pay37 (F := Ideal) (k0_pay16 X) (k0_pay21 X WX BX)
abbrev n26 : R := k0_pay26 (F := Ideal) (k0_pay24 Lb) z0 (k0_pay25 Lb)
abbrev n27 : R := k0_pay27 (F := Ideal) (k0_pay24 Lb) z0 (k0_pay25 Lb)
abbrev nlm : M := kscan (k0_pay15 (k0_pay9 Y) (k0_pay13 G)) (n29 X WA BA Lb)
abbrev n71 : M := k0_pay71 (F := Ideal) (k0_pay16 X) (k0_pay17 WA) (k0_pay18 WX) (k0_pay20 X WA BA) (k0_pay21 X WX BX) (k0_pay22 X WX BX) (n26 Lb)
  (n29 X WA BA Lb) (n31 X WA BA Lb) (n32 X WA BA Lb) (n33 X WA BA Lb) (n34 X WA BA Lb) (n35 X WA BA Lb) (n36 X WA BA Lb) (n37 X WX BX) (nlm X G Y WA BA Lb)
  (k0_pay60 steps) (k0_pay61 (k0_pay8 H)) z0
abbrev n70 : W := k0_pay70 (F := Ideal) (k0_pay16 X) (k0_pay20 X WA BA) (n26 Lb)
  (n29 X WA BA Lb) (n31 X WA BA Lb) (n32 X WA BA Lb) (n33 X WA BA Lb) (n34 X WA BA Lb) (n36 X WA BA Lb) (n37 X WX BX) (nlm X G Y WA BA Lb)
  (k0_pay60 steps) (k0_pay61 (k0_pay8 H)) z0
abbrev n69 : R := k0_pay69 (F := Ideal) (k0_pay20 X WA BA) (n26 Lb)
  (n29 X WA BA Lb) (n31 X WA BA Lb) (n32 X WA BA Lb) (n33 X WA BA Lb) (n34 X WA BA Lb) (n36 X WA BA Lb) (n37 X WX BX) (nlm X G Y WA BA Lb)
  (k0_pay60 steps) (k0_pay61 (k0_pay8 H)) z0
abbrev n64 : R := k0_pay64 (F := Ideal) (n23 X WA BA) (n27 Lb)
  (n29 X WA BA Lb) (n31 X WA BA Lb) (n32 X WA BA Lb) (n33 X WA BA Lb) (n34 X WA BA Lb) (n36 X WA BA Lb) (n37 X WX BX) (nlm X G Y WA BA Lb)
  (k0_pay60 steps) (k0_pay61 (k0_pay8 H)) z0
abbrev n67 : W := k0_pay67 (F := Ideal) (k0_pay16 X) (k0_pay22 X WX BX) (n35 X WA BA Lb) (nlm X G Y WA BA Lb)
abbrev n66 : R := k0_pay66 (F := Ideal) (k0_pay16 X) (k0_pay22 X WX BX) (n35 X WA BA Lb) (nlm X G Y WA BA Lb)

/-- The real numbers a grid point works on. -/
structure Data where
  x : Fin 128 → Fin 2048 → ℝ
  g : Fin 128 → Fin 2048 → ℝ
  y : Fin 128 → Fin 2048 → ℝ
  wa : Fin 128 → Fin 128 → ℝ
  wx : Fin 128 → Fin 128 → ℝ
  ba : Fin 128 → ℝ
  bx : Fin 128 → ℝ
  l : Fin 128 → ℝ

namespace Data
variable (D : Data)
def r (d : Fin 128) (t : Fin 2048) : ℝ := sgm ((∑ k, D.x k t * D.wa k d) + D.ba d)
def i (d : Fin 128) (t : Fin 2048) : ℝ := sgm ((∑ k, D.x k t * D.wx k d) + D.bx d)
def s (d : Fin 128) : ℝ := soft (-D.l d)
def dh (d : Fin 128) (t : Fin 2048) : ℝ := D.y d t * (D.g d t * gg (D.g d t))
def h (d : Fin 128) (t : Fin 2048) : ℝ := state (D.r d) (D.i d) (D.x d) (D.s d) t
def dpr (d : Fin 128) (t : Fin 2048) : ℝ := Cert.Rg.dpr (D.r d) (D.i d) (D.x d) (D.s d) (D.dh d) t
def dpi (d : Fin 128) (t : Fin 2048) : ℝ := Cert.Rg.dpi (D.r d) (D.i d) (D.x d) (D.s d) (D.dh d) t
def dla (d : Fin 128) (t : Fin 2048) : ℝ := Cert.Rg.dla (D.r d) (D.i d) (D.x d) (D.s d) (D.dh d) t
def dxg (d : Fin 128) (t : Fin 2048) : ℝ := Cert.Rg.dxg (D.r d) (D.i d) (D.s d) (D.dh d) t
end Data

variable {X G H Y WA WX BA BX Lb}
/-- The blocks hold the data. -/
structure Holds (D : Data) (X G H Y : M) (WA WX : W1) (BA BX Lb : R) : Prop where
  x : Is X D.x
  g : Is G D.g
  h : Is H D.h
  y : Is Y D.y
  wa : IsW1 WA D.wa
  wx : IsW1 WX D.wx
  ba : IsR BA D.ba
  bx : IsR BX D.bx
  l : IsR Lb D.l

variable {D : Data} (O : Holds D X G H Y WA WX BA BX Lb)
include O

theorem o19 : Is (k0_pay19 (F := Ideal) X WA BA) D.r := is19 O.x O.wa O.ba
theorem o21 : Is (k0_pay21 (F := Ideal) X WX BX) D.i := is21 O.x O.wx O.bx
theorem o26 : IsR (n26 Lb) D.s := is26 O.l
theorem o28 : Is (n28 X WA BA Lb) fun d t => la (D.r d) (D.s d) t := is28 (is23 (o19 O)) (o26 O)
theorem olm : Is (nlm X G Y WA BA Lb) fun d t => lamt (D.r d) (D.s d) (D.dh d) t := is_scan (is15 O.y O.g) (is29 (o28 O))
theorem oneg (d : Fin 128) (t : Fin 2048) : la (D.r d) (D.s d) t < 0 := la_neg _ _ (fun _ => sgm_pos _) (soft_pos _) t

omit O in
theorem kla_eq (d : Fin 128) (t : Fin 2048) :
    kla D.h (fun d t => Real.exp (la (D.r d) (D.s d) t)) (fun d t => (1 + Real.tanh (la (D.r d) (D.s d) t)) * (1 - Real.tanh (la (D.r d) (D.s d) t)))
      (fun d t => 0 - Real.tanh (la (D.r d) (D.s d) t)) (fun d t => Real.exp (2 * la (D.r d) (D.s d) t)) (fun d t => Real.exp (2 * la (D.r d) (D.s d) t) + 1)
      (fun d t => 1 / 2 / √(1 - Real.exp (2 * la (D.r d) (D.s d) t))) (fun d t => D.i d t * D.x d t) (fun d t => lamt (D.r d) (D.s d) (D.dh d) t) d t
    = D.dla d t := by
  unfold kla
  rw [scale_grad]
  rfl

theorem o71 : Is (n71 X G H Y WA WX BA BX Lb) fun d t => D.dxg d t + (∑ k, D.dpi k t * D.wx d k) + ∑ k, D.dpr k t * D.wa d k := by
  intro t d
  refine (is71 (is8 O.h) (is29 (o28 O)) (is31 (o28 O)) (is32 (o28 O)) (is33 (o28 O)) (is34 (o28 O)) (is36 (o28 O) (oneg O)) (is37 (is16 O.x) (o21 O)) (olm O)
    (is16 O.x) (is17 O.wa) (is18 O.wx) (is20 (o19 O)) (o21 O) (is22 (o21 O)) (o26 O) (is35 (o28 O) (oneg O)) t d).trans ?_
  simp only [kla_eq]
  rfl

theorem o70 : IsW (n70 X G H Y WA WX BA BX Lb) fun p q => ∑ t, D.x p t * D.dpr q t := by
  intro p q
  refine (is70 (is8 O.h) (is29 (o28 O)) (is31 (o28 O)) (is32 (o28 O)) (is33 (o28 O)) (is34 (o28 O)) (is36 (o28 O) (oneg O)) (is37 (is16 O.x) (o21 O)) (olm O)
    (is16 O.x) (is20 (o19 O)) (o26 O) p q).trans ?_
  simp only [kla_eq]
  rfl

theorem o69 : IsR (n69 X G H Y WA WX BA BX Lb) fun d => ∑ t, D.dpr d t := by
  intro j d
  refine (is69 (is8 O.h) (is29 (o28 O)) (is31 (o28 O)) (is32 (o28 O)) (is33 (o28 O)) (is34 (o28 O)) (is36 (o28 O) (oneg O)) (is37 (is16 O.x) (o21 O)) (olm O)
    (is20 (o19 O)) (o26 O) j d).trans ?_
  simp only [kla_eq]
  rfl

theorem o64 : IsR (n64 X G H Y WA WX BA BX Lb) fun d => -((∑ t, -8 * D.r d t * D.dla d t) * dsoft (-D.l d)) := by
  intro j d
  refine (is64 (is8 O.h) (is29 (o28 O)) (is31 (o28 O)) (is32 (o28 O)) (is33 (o28 O)) (is34 (o28 O)) (is36 (o28 O) (oneg O)) (is37 (is16 O.x) (o21 O)) (olm O)
    (is23 (o19 O)) (is27 (is24 O.l) (o26 O)) j d).trans ?_
  simp only [kla_eq]
  rfl

theorem o67 : IsW (n67 X G Y WA WX BA BX Lb) fun p q => ∑ t, D.x p t * D.dpi q t :=
  is67 (is16 O.x) (is22 (o21 O)) (is35 (o28 O) (oneg O)) (olm O)

theorem o66 : IsR (n66 X G Y WA WX BA BX Lb) fun d => ∑ t, D.dpi d t :=
  is66 (is16 O.x) (is22 (o21 O)) (is35 (o28 O) (oneg O)) (olm O)

theorem o14 : Is (k0_pay14 (F := Ideal) H Y G) fun d t => dgelu (D.g d t) (D.y d t * D.h d t) := is14 O.h O.y O.g

end Whole

end Cert.Kernel6Ideal.Block
-- ==== Proof.Rg.Block.lean ====
module

public import proofs.«01_k».proof.Proof.Rg.Pay
set_option maxRecDepth 16384

/-! The recurrence's gradient on one grid point, and where its blocks lie. -/

@[expose] public noncomputable section
open Idealize.ShloMosaic Idealize.ShloMosaic.TcCoe Idealize.SL.Sem
open Idealize.ShloMosaic.Pipeline (Dat)

namespace Cert.Kernel6Ideal.Block
open Cert.Kernel6Ideal Cert.Kernel6Ideal.Gen Cert.Rg
variable (m : (ℓ : Loc nD τ sig) → Buf (Elt Ideal) ℓ)

/-- The blocks of a grid point hold the real numbers `D`. -/
abbrev At (c : Dev nD) (t : Fin cfg0.N) (D : Data) : Prop :=
  Holds D (iblk m c 0 t) (iblk m c 1 t) (iblk m c 2 t) (iblk m c 3 t) (iblk m c 4 t) (iblk m c 5 t) (iblk m c 6 t) (iblk m c 7 t) (iblk m c 8 t)

variable {m}
/-- What is stored of a square block, and what a later sequence adds to it. -/
theorem pay1_at (v : W) (j : Fin 1) (p q : Fin 128) : k0_pay1 (F := Ideal) v (ix3 j p q) = v (ix2 p q) := by unfold k0_pay1; pointwise
theorem pay2_at (v : W) (j : Fin 1) (p q : Fin 128) : k0_pay2 (F := Ideal) v (ix3 j p q) = v (ix2 p q) := by unfold k0_pay2; pointwise
theorem pay3_at (v : W) (w : W1) (j : Fin 1) (p q : Fin 128) : k0_pay3 (F := Ideal) v w (ix3 j p q) = w (ix3 j p q) + v (ix2 p q) := by
  obtain rfl : j = 0 := Subsingleton.elim _ _
  unfold k0_pay3; pointwise
theorem pay4_at (v : W) (w : W1) (j : Fin 1) (p q : Fin 128) : k0_pay4 (F := Ideal) v w (ix3 j p q) = w (ix3 j p q) + v (ix2 p q) := by
  obtain rfl : j = 0 := Subsingleton.elim _ _
  unfold k0_pay4; pointwise
theorem pay5_at (v w : R) (j : Fin 1) (p : Fin 128) : k0_pay5 (F := Ideal) v w (ix2 j p) = w (ix2 j p) + v (ix2 j p) := by unfold k0_pay5; pointwise
theorem pay6_at (v w : R) (j : Fin 1) (p : Fin 128) : k0_pay6 (F := Ideal) v w (ix2 j p) = w (ix2 j p) + v (ix2 j p) := by unfold k0_pay6; pointwise
theorem pay7_at (v w : R) (j : Fin 1) (p : Fin 128) : k0_pay7 (F := Ideal) v w (ix2 j p) = w (ix2 j p) + v (ix2 j p) := by unfold k0_pay7; pointwise

/-- The input's gradient, at a first and at a later sequence. -/
theorem dx_A {c : Dev nD} {t : Fin cfg0.N} {D : Data} (O : At m c t D) (ca : t.val % 4 = 0) (cb : ¬1 ≤ t.val % 4) (y : S2048x128.Idx) :
    (outsAt0 m c t.val t.isLt).1 y = ((D.dxg (y 1) (y 0) + (∑ k, D.dpi k (y 0) * D.wx (y 1) k) + ∑ k, D.dpr k (y 0) * D.wa (y 1) k : ℝ) : EReal) := by
  rw [outsAt0_A m c t ca cb]
  frame_out
  idx_vars y
  exact o71 O _ _

theorem dx_B {c : Dev nD} {t : Fin cfg0.N} {D : Data} (O : At m c t D) (ca : ¬t.val % 4 = 0) (cb : 1 ≤ t.val % 4) (y : S2048x128.Idx) :
    (outsAt0 m c t.val t.isLt).1 y = ((D.dxg (y 1) (y 0) + (∑ k, D.dpi k (y 0) * D.wx (y 1) k) + ∑ k, D.dpr k (y 0) * D.wa (y 1) k : ℝ) : EReal) := by
  rw [outsAt0_B m c t ca cb]
  frame_out
  idx_vars y
  exact o71 O _ _

/-- The gate's gradient, at a first and at a later sequence. -/
theorem dg_A {c : Dev nD} {t : Fin cfg0.N} {D : Data} (O : At m c t D) (ca : t.val % 4 = 0) (cb : ¬1 ≤ t.val % 4) (y : S2048x128.Idx) :
    (outsAt0 m c t.val t.isLt).2.1 y = ((dgelu (D.g (y 1) (y 0)) (D.y (y 1) (y 0) * D.h (y 1) (y 0)) : ℝ) : EReal) := by
  rw [outsAt0_A m c t ca cb]
  frame_out
  idx_vars y
  exact o14 O _ _

theorem dg_B {c : Dev nD} {t : Fin cfg0.N} {D : Data} (O : At m c t D) (ca : ¬t.val % 4 = 0) (cb : 1 ≤ t.val % 4) (y : S2048x128.Idx) :
    (outsAt0 m c t.val t.isLt).2.1 y = ((dgelu (D.g (y 1) (y 0)) (D.y (y 1) (y 0) * D.h (y 1) (y 0)) : ℝ) : EReal) := by
  rw [outsAt0_B m c t ca cb]
  frame_out
  idx_vars y
  exact o14 O _ _

/-- The first gate's weights' gradient, after a first sequence. -/
theorem wa_A {c : Dev nD} {t : Fin cfg0.N} {D : Data} (O : At m c t D) (ca : t.val % 4 = 0) (cb : ¬1 ≤ t.val % 4) (y : S1x128x128.Idx) :
    (outsAt0 m c t.val t.isLt).2.2.1 y = ((∑ s, D.x (y 1) s * D.dpr (y 2) s : ℝ) : EReal) := by
  rw [outsAt0_A m c t ca cb]
  frame_out
  idx_vars y
  exact (pay1_at _ _ _ _).trans (o70 O _ _)

/-- The first gate's weights' gradient, after a later sequence. -/
theorem wa_B {c : Dev nD} {t : Fin cfg0.N} {D : Data} (O : At m c t D) (ca : ¬t.val % 4 = 0) (cb : 1 ≤ t.val % 4) (y : S1x128x128.Idx) :
    (outsAt0 m c t.val t.isLt).2.2.1 y = (outsAt0 m c (t.val - 1) (by omega)).2.2.1 (ix3 (y 0) (y 1) (y 2)) + ((∑ s, D.x (y 1) s * D.dpr (y 2) s : ℝ) : EReal) := by
  rw [outsAt0_B m c t ca cb]
  frame_out
  idx_vars y
  exact (pay3_at _ _ _ _ _).trans (congrArg _ (o70 O _ _))

/-- The second gate's weights' gradient, after a first sequence. -/
theorem wx_A {c : Dev nD} {t : Fin cfg0.N} {D : Data} (O : At m c t D) (ca : t.val % 4 = 0) (cb : ¬1 ≤ t.val % 4) (y : S1x128x128.Idx) :
    (outsAt0 m c t.val t.isLt).2.2.2.1 y = ((∑ s, D.x (y 1) s * D.dpi (y 2) s : ℝ) : EReal) := by
  rw [outsAt0_A m c t ca cb]
  frame_out
  idx_vars y
  exact (pay2_at _ _ _ _).trans (o67 O _ _)

/-- The second gate's weights' gradient, after a later sequence. -/
theorem wx_B {c : Dev nD} {t : Fin cfg0.N} {D : Data} (O : At m c t D) (ca : ¬t.val % 4 = 0) (cb : 1 ≤ t.val % 4) (y : S1x128x128.Idx) :
    (outsAt0 m c t.val t.isLt).2.2.2.1 y = (outsAt0 m c (t.val - 1) (by omega)).2.2.2.1 (ix3 (y 0) (y 1) (y 2)) + ((∑ s, D.x (y 1) s * D.dpi (y 2) s : ℝ) : EReal) := by
  rw [outsAt0_B m c t ca cb]
  frame_out
  idx_vars y
  exact (pay4_at _ _ _ _ _).trans (congrArg _ (o67 O _ _))

/-- The first gate's offset's gradient, after a first sequence. -/
theorem ba_A {c : Dev nD} {t : Fin cfg0.N} {D : Data} (O : At m c t D) (ca : t.val % 4 = 0) (cb : ¬1 ≤ t.val % 4) (y : S1x128.Idx) :
    (outsAt0 m c t.val t.isLt).2.2.2.2.1 y = ((∑ s, D.dpr (y 1) s : ℝ) : EReal) := by
  rw [outsAt0_A m c t ca cb]
  frame_out
  idx_vars y
  exact o69 O _ _

/-- The first gate's offset's gradient, after a later sequence. -/
theorem ba_B {c : Dev nD} {t : Fin cfg0.N} {D : Data} (O : At m c t D) (ca : ¬t.val % 4 = 0) (cb : 1 ≤ t.val % 4) (y : S1x128.Idx) :
    (outsAt0 m c t.val t.isLt).2.2.2.2.1 y = (outsAt0 m c (t.val - 1) (by omega)).2.2.2.2.1 (ix2 (y 0) (y 1)) + ((∑ s, D.dpr (y 1) s : ℝ) : EReal) := by
  rw [outsAt0_B m c t ca cb]
  frame_out
  idx_vars y
  exact (pay5_at _ _ _ _).trans (congrArg _ (o69 O _ _))

/-- The second gate's offset's gradient, after a first sequence. -/
theorem bx_A {c : Dev nD} {t : Fin cfg0.N} {D : Data} (O : At m c t D) (ca : t.val % 4 = 0) (cb : ¬1 ≤ t.val % 4) (y : S1x128.Idx) :
    (outsAt0 m c t.val t.isLt).2.2.2.2.2.1 y = ((∑ s, D.dpi (y 1) s : ℝ) : EReal) := by
  rw [outsAt0_A m c t ca cb]
  frame_out
  idx_vars y
  exact o66 O _ _

/-- The second gate's offset's gradient, after a later sequence. -/
theorem bx_B {c : Dev nD} {t : Fin cfg0.N} {D : Data} (O : At m c t D) (ca : ¬t.val % 4 = 0) (cb : 1 ≤ t.val % 4) (y : S1x128.Idx) :
    (outsAt0 m c t.val t.isLt).2.2.2.2.2.1 y = (outsAt0 m c (t.val - 1) (by omega)).2.2.2.2.2.1 (ix2 (y 0) (y 1)) + ((∑ s, D.dpi (y 1) s : ℝ) : EReal) := by
  rw [outsAt0_B m c t ca cb]
  frame_out
  idx_vars y
  exact (pay6_at _ _ _ _).trans (congrArg _ (o66 O _ _))

/-- The decay's gradient, after a first sequence. -/
theorem lm_A {c : Dev nD} {t : Fin cfg0.N} {D : Data} (O : At m c t D) (ca : t.val % 4 = 0) (cb : ¬1 ≤ t.val % 4) (y : S1x128.Idx) :
    (outsAt0 m c t.val t.isLt).2.2.2.2.2.2 y = ((-((∑ s, -8 * D.r (y 1) s * D.dla (y 1) s) * dsoft (-D.l (y 1))) : ℝ) : EReal) := by
  rw [outsAt0_A m c t ca cb]
  frame_out
  idx_vars y
  exact o64 O _ _

/-- The decay's gradient, after a later sequence. -/
theorem lm_B {c : Dev nD} {t : Fin cfg0.N} {D : Data} (O : At m c t D) (ca : ¬t.val % 4 = 0) (cb : 1 ≤ t.val % 4) (y : S1x128.Idx) :
    (outsAt0 m c t.val t.isLt).2.2.2.2.2.2 y = (outsAt0 m c (t.val - 1) (by omega)).2.2.2.2.2.2 (ix2 (y 0) (y 1)) + ((-((∑ s, -8 * D.r (y 1) s * D.dla (y 1) s) * dsoft (-D.l (y 1))) : ℝ) : EReal) := by
  rw [outsAt0_B m c t ca cb]
  frame_out
  idx_vars y
  exact (pay7_at _ _ _ _).trans (congrArg _ (o64 O _ _))

/-- Which blocks a grid point works on. -/
theorem idx : ∀ t : Fin cfg0.N, win0_0.index t = ![t.val % 4, t.val / 4] ∧ win0_1.index t = ![t.val % 4, t.val / 4]
    ∧ win0_2.index t = ![t.val % 4, t.val / 4] ∧ win0_3.index t = ![t.val % 4, t.val / 4] ∧ win0_4.index t = ![t.val / 4, 0, 0]
    ∧ win0_5.index t = ![t.val / 4, 0, 0] ∧ win0_6.index t = ![0, t.val / 4] ∧ win0_7.index t = ![0, t.val / 4] ∧ win0_8.index t = ![0, t.val / 4]
    ∧ win0_9.index t = ![t.val % 4, t.val / 4] ∧ win0_10.index t = ![t.val % 4, t.val / 4] ∧ win0_11.index t = ![t.val / 4, 0, 0]
    ∧ win0_12.index t = ![t.val / 4, 0, 0] ∧ win0_13.index t = ![0, t.val / 4] ∧ win0_14.index t = ![0, t.val / 4] ∧ win0_15.index t = ![0, t.val / 4] :=
  (by decide +kernel : ∀ t : Fin grid0.N, _)

/-- There are sixteen grid points. -/
theorem lt16 (t : Fin cfg0.N) : t.val < 16 := lt_of_lt_of_eq t.isLt N_0

/-- A grid point's sequence, group, steps and channels. -/
abbrev row (t : Fin cfg0.N) (r : Fin 2048) : Fin 8192 := ⟨t.val % 4 * 2048 + r.val, by omega⟩
abbrev sq (t : Fin cfg0.N) : Fin 4 := ⟨t.val % 4, by omega⟩
abbrev grp (t : Fin cfg0.N) : Fin 4 := ⟨t.val / 4, by have := lt16 t; omega⟩
abbrev chan (t : Fin cfg0.N) (d : Fin 128) : Fin 512 := ⟨t.val / 4 * 128 + d.val, by have := lt16 t; omega⟩

theorem emb9 (t : Fin cfg0.N) (y : S2048x128.Idx) : (win0_9.blk t).view.emb y = ix2 (row t (y 0)) (chan t (y 1)) := by
  idx_vars y
  blk_ext [idx t]
theorem emb10 (t : Fin cfg0.N) (y : S2048x128.Idx) : (win0_10.blk t).view.emb y = ix2 (row t (y 0)) (chan t (y 1)) := by
  idx_vars y
  blk_ext [idx t]
theorem emb11 (t : Fin cfg0.N) (y : S1x128x128.Idx) : (win0_11.blk t).view.emb y = ix3 (grp t) (y 1) (y 2) := by
  idx_vars y
  blk_ext [idx t]
theorem emb12 (t : Fin cfg0.N) (y : S1x128x128.Idx) : (win0_12.blk t).view.emb y = ix3 (grp t) (y 1) (y 2) := by
  idx_vars y
  blk_ext [idx t]
theorem emb13 (t : Fin cfg0.N) (y : S1x128.Idx) : (win0_13.blk t).view.emb y = ix2 (y 0) (chan t (y 1)) := by
  idx_vars y
  blk_ext [idx t]
theorem emb14 (t : Fin cfg0.N) (y : S1x128.Idx) : (win0_14.blk t).view.emb y = ix2 (y 0) (chan t (y 1)) := by
  idx_vars y
  blk_ext [idx t]
theorem emb15 (t : Fin cfg0.N) (y : S1x128.Idx) : (win0_15.blk t).view.emb y = ix2 (y 0) (chan t (y 1)) := by
  idx_vars y
  blk_ext [idx t]

end Cert.Kernel6Ideal.Block
-- ==== Proof.Rg.Host.lean ====
module

public import proofs.«01_k».proof.Proof.Rg.Terms
public import proofs.«01_k».proof.Proof.Rg.Block
set_option maxRecDepth 16384

/-! What the host hands to the call. -/

@[expose] public noncomputable section
open Idealize.ShloMosaic Idealize.ShloMosaic.TcCoe Idealize.SL.Sem
open Idealize.ShloMosaic.Pipeline (Dat)

namespace Cert.Kernel6Ideal.Block
open Cert.Kernel6Ideal Cert.Kernel6Ideal.Gen
variable (m : (ℓ : Loc nD τ sig) → Buf (Elt Ideal) ℓ)

/-- The arguments, as device `c` is given them. -/
abbrev aX (c : Dev nD) : FVec Ideal S4x2048x512 .f32 := m ((c : Thread nD τ).loc main_arg0)
abbrev aG (c : Dev nD) : FVec Ideal S4x2048x512 .f32 := m ((c : Thread nD τ).loc main_arg1)
abbrev aY (c : Dev nD) : FVec Ideal S4x2048x512 .f32 := m ((c : Thread nD τ).loc main_arg2)
abbrev aWA (c : Dev nD) : FVec Ideal S8x64x64 .f32 := m ((c : Thread nD τ).loc main_arg3)
abbrev aBA (c : Dev nD) : FVec Ideal S512 .f32 := m ((c : Thread nD τ).loc main_arg4)
abbrev aWX (c : Dev nD) : FVec Ideal S8x64x64 .f32 := m ((c : Thread nD τ).loc main_arg5)
abbrev aBX (c : Dev nD) : FVec Ideal S512 .f32 := m ((c : Thread nD τ).loc main_arg6)
abbrev aL (c : Dev nD) : FVec Ideal S512 .f32 := m ((c : Thread nD τ).loc main_arg7)

/-- The host's states are the reference's. -/
theorem V76 (c : Dev nD) : V m c main_v76 = Cert.Reference6Ideal.Rg.hA (aX m c) (aWA m c) (aBA m c) (aWX m c) (aBX m c) (aL m c) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp <;> rfl

/-- The rows the call is handed. -/
theorem V77 (c : Dev nD) : V m c main_v77 = (shapeCast S8192x512 (aX m c) shapeCasts_S4x2048x512_S8192x512 : FVec Ideal S8192x512 .f32) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp <;> rfl

theorem V78 (c : Dev nD) : V m c main_v78 = (shapeCast S8192x512 (aG m c) shapeCasts_S4x2048x512_S8192x512 : FVec Ideal S8192x512 .f32) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp <;> rfl

theorem V79 (c : Dev nD) : V m c main_v79 = (shapeCast S8192x512 (Cert.Reference6Ideal.Rg.hA (aX m c) (aWA m c) (aBA m c) (aWX m c) (aBX m c) (aL m c)) shapeCasts_S4x2048x512_S8192x512 : FVec Ideal S8192x512 .f32) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp <;> rfl

theorem V80 (c : Dev nD) : V m c main_v80 = (shapeCast S8192x512 (aY m c) shapeCasts_S4x2048x512_S8192x512 : FVec Ideal S8192x512 .f32) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp <;> rfl

/-- The offsets and the decay parameter, as rows. -/
theorem V195 (c : Dev nD) : V m c main_v195 = (broadcastInDim S1x512 ![1] bcast_S512_S1x512_1 (aBA m c) : FVec Ideal S1x512 .f32) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp <;> rfl

theorem V196 (c : Dev nD) : V m c main_v196 = (broadcastInDim S1x512 ![1] bcast_S512_S1x512_1 (aBX m c) : FVec Ideal S1x512 .f32) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp <;> rfl

theorem V197 (c : Dev nD) : V m c main_v197 = (broadcastInDim S1x512 ![1] bcast_S512_S1x512_1 (aL m c) : FVec Ideal S1x512 .f32) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp <;> rfl

end Cert.Kernel6Ideal.Block
-- ==== Proof.Rg.Ref.lean ====
module

public import proofs.«01_k».proof.Proof.Rg.Terms
public import proofs.«01_k».proof.Proof.Conv.Ref
set_option maxRecDepth 16384

/-! The reference's gradients of the gated recurrence, on arguments that hold real numbers. -/

@[expose] public noncomputable section
open Idealize.ShloMosaic Idealize.ShloMosaic.TcCoe Idealize.SL.Sem

namespace Cert.Reference6Ideal.Rg
open Cert.Reference6Ideal Cert.Reference6Ideal.Gen Cert.Rg Cert.Rg.Scan

/-- The real numbers the reference works on. -/
structure Data where
  x : Fin 4 → Fin 512 → Fin 2048 → ℝ
  g : Fin 4 → Fin 512 → Fin 2048 → ℝ
  y : Fin 4 → Fin 512 → Fin 2048 → ℝ
  wa : Fin 8 → Fin 64 → Fin 64 → ℝ
  ba : Fin 512 → ℝ
  wx : Fin 8 → Fin 64 → Fin 64 → ℝ
  bx : Fin 512 → ℝ
  l : Fin 512 → ℝ

/-- An entry of a block-diagonal matrix. -/
def dn (w : Fin 8 → Fin 64 → Fin 64 → ℝ) (p q : Fin 512) : ℝ :=
  if p.val / 64 = q.val / 64 then w ⟨p.val / 64, by omega⟩ ⟨p.val % 64, by omega⟩ ⟨q.val % 64, by omega⟩ else 0

def I1 (v : FVec Ideal S512 .f32) (f : Fin 512 → ℝ) : Prop := ∀ c, v (ix1 c) = ((f c : ℝ) : EReal)
def IW (v : FVec Ideal S8x64x64 .f32) (f : Fin 8 → Fin 64 → Fin 64 → ℝ) : Prop := ∀ n p q, v (ix3 n p q) = ((f n p q : ℝ) : EReal)
def I2 (v : FVec Ideal S512x512 .f32) (f : Fin 512 → Fin 512 → ℝ) : Prop := ∀ p q, v (ix2 p q) = ((f p q : ℝ) : EReal)
def I3 (v : FVec Ideal S4x2048x512 .f32) (f : Fin 4 → Fin 512 → Fin 2048 → ℝ) : Prop := ∀ b t c, v (ix3 b t c) = ((f b c t : ℝ) : EReal)

namespace Data
variable (D : Data)
def r (b : Fin 4) (c : Fin 512) (t : Fin 2048) : ℝ := sgm ((∑ k, D.x b k t * dn D.wa k c) + D.ba c)
def i (b : Fin 4) (c : Fin 512) (t : Fin 2048) : ℝ := sgm ((∑ k, D.x b k t * dn D.wx k c) + D.bx c)
def s (c : Fin 512) : ℝ := soft (-D.l c)
def dh (b : Fin 4) (c : Fin 512) (t : Fin 2048) : ℝ := D.y b c t * (D.g b c t * gg (D.g b c t))
def h (b : Fin 4) (c : Fin 512) (t : Fin 2048) : ℝ := state (D.r b c) (D.i b c) (D.x b c) (D.s c) t
def lam (b : Fin 4) (c : Fin 512) (t : Fin 2048) : ℝ := lamt (D.r b c) (D.s c) (D.dh b c) t
def dpr (b : Fin 4) (c : Fin 512) (t : Fin 2048) : ℝ := Cert.Rg.dpr (D.r b c) (D.i b c) (D.x b c) (D.s c) (D.dh b c) t
def dpi (b : Fin 4) (c : Fin 512) (t : Fin 2048) : ℝ := Cert.Rg.dpi (D.r b c) (D.i b c) (D.x b c) (D.s c) (D.dh b c) t
def dla (b : Fin 4) (c : Fin 512) (t : Fin 2048) : ℝ := Cert.Rg.dla (D.r b c) (D.i b c) (D.x b c) (D.s c) (D.dh b c) t
def dxg (b : Fin 4) (c : Fin 512) (t : Fin 2048) : ℝ := Cert.Rg.dxg (D.r b c) (D.i b c) (D.s c) (D.dh b c) t
end Data

/-- The arguments hold the numbers. -/
structure Holds (D : Data) (X G Y : FVec Ideal S4x2048x512 .f32) (WA : FVec Ideal S8x64x64 .f32) (BA : FVec Ideal S512 .f32) (WX : FVec Ideal S8x64x64 .f32)
    (BX L : FVec Ideal S512 .f32) : Prop where
  x : I3 X D.x
  g : I3 G D.g
  y : I3 Y D.y
  wa : IW WA D.wa
  ba : I1 BA D.ba
  wx : IW WX D.wx
  bx : I1 BX D.bx
  l : I1 L D.l

variable {X G Y : FVec Ideal S4x2048x512 .f32} {WA : FVec Ideal S8x64x64 .f32} {BA : FVec Ideal S512 .f32} {WX : FVec Ideal S8x64x64 .f32} {BX L : FVec Ideal S512 .f32}

theorem small_eq (a b : ℕ) (ha : a < 2 ^ 32) (hb : b < 2 ^ 32) : (BitVec.ofNat 32 a = BitVec.ofNat 32 b) ↔ a = b := by
  rw [← BitVec.toNat_inj, BitVec.toNat_ofNat, BitVec.toNat_ofNat, Nat.mod_eq_of_lt ha, Nat.mod_eq_of_lt hb]

theorem is_dense {W : FVec Ideal S8x64x64 .f32} {w} (h : IW W w) : I2 (dense W) (dn w) := by
  intro p q
  have hp := p.isLt
  have hq := q.isLt
  pointwise [dense]
  rw [h, dn]
  by_cases e : p.val / 64 = q.val / 64
  · rw [if_pos e]
    simp [Scalar.select, IntOp.cmpi, e]
  · rw [if_neg e]
    have : (BitVec.ofNat 32 (p.val / 64) == BitVec.ofNat 32 (q.val / 64)) = false := by
      rw [beq_eq_false_iff_ne]
      exact fun h => e ((small_eq _ _ (by omega) (by omega)).1 h)
    simp only [Scalar.select, IntOp.cmpi, this]
    exact Ideal.ofBits_zero_f32

theorem sgm_div (p : ℝ) : Ideal.div 1 (1 + Ideal.exp (-(p : EReal))) = ((sgm p : ℝ) : EReal) := by
  rw [← EReal.coe_neg, Ideal.exp_coe, ← EReal.coe_one, ← EReal.coe_add, div_coe _ _ (by positivity), sgm, one_div]

theorem is_gate {x w ba} (hx : I3 X x) (hw : IW WA w) (hb : I1 BA ba) : I3 (gate X WA BA) fun b c t => sgm ((∑ k, x b k t * dn w k c) + ba c) := by
  intro b t c
  have e := fun k => is_dense hw k c
  unfold gate
  generalize dense WA = z at e ⊢
  pointwise
  simp only [hx b t, hb c, e, ← EReal.coe_mul, ← coe_sum, ← EReal.coe_add, sgm_div]

theorem is_soft {l} (h : I1 L l) : I1 (sp L) fun c => soft (-l c) := by
  intro c
  pointwise [sp, negL0, negL]
  rw [if_neg (by simp), h c]
  have habs : FloatOps.absf (F := Ideal) (φ := .f32) (-((l c : ℝ) : EReal)) = ((|-l c| : ℝ) : EReal) := by
    rw [Ideal.absf_def, ← EReal.coe_neg, ← EReal.coe_neg, ← coe_max]
    rfl
  have h0 : (0 : EReal) = ((0 : ℝ) : EReal) := rfl
  rw [habs, h0, ← EReal.coe_neg, ← EReal.coe_neg, Ideal.exp_coe, log1p_coe _ (by positivity), ← coe_max, ← EReal.coe_add]
  rfl

theorem sge (t s : Fin 2048) : IntOp.cmpi CmpIPredicate.sge (BitVec.ofNat 32 t.val) (BitVec.ofNat 32 s.val) = if s ≤ t then 1#1 else 0#1 := by
  have ht := t.isLt
  have hs := s.isLt
  have e : (BitVec.ofNat 32 s.val).sle (BitVec.ofNat 32 t.val) = decide (s.val ≤ t.val) := by
    have t32 : (BitVec.ofNat 32 t.val).toNat = t.val := by rw [BitVec.toNat_ofNat]; exact Nat.mod_eq_of_lt (by omega)
    have s32 : (BitVec.ofNat 32 s.val).toNat = s.val := by rw [BitVec.toNat_ofNat]; exact Nat.mod_eq_of_lt (by omega)
    rw [BitVec.sle_eq_decide, BitVec.toInt_eq_toNat_of_lt (by rw [s32]; omega), BitVec.toInt_eq_toNat_of_lt (by rw [t32]; omega), s32, t32]
    simp
  by_cases h : s ≤ t
  · simp [IntOp.cmpi, e, h]
  · simp [IntOp.cmpi, e, h]

theorem mask_at (b : Fin 4) (t s : Fin 2048) (c : Fin 512) : mask (ix4 b t s c) = if s ≤ t then 1#1 else 0#1 := by
  pointwise [mask, mask0]
  exact sge t s

theorem sel_mask {p : Prop} [Decidable p] (a b : EReal) : Scalar.select (if p then 1#1 else 0#1) a b = if p then a else b := by
  by_cases h : p <;> simp [Scalar.select, h]

variable {D : Data} (O : Holds D X G Y WA BA WX BX L)
include O

theorem gate8_at (b t c) : gate8 X WA BA (ix3 b t c) = ((-8 * D.r b c t : ℝ) : EReal) := by
  pointwise [gate8]
  rw [is_gate O.x O.wa O.ba b t c, neg8_eq, ← EReal.coe_mul]
  rfl

theorem logA_at (b t c) : logA X WA BA L (ix3 b t c) = ((la (D.r b c) (D.s c) t : ℝ) : EReal) := by
  pointwise [logA, spRow]
  rw [gate8_at O b t c, is_soft O.l c, ← EReal.coe_mul]
  rfl

theorem logA2_at (b t c) : logA2 X WA BA L (ix3 b t c) = ((2 * la (D.r b c) (D.s c) t : ℝ) : EReal) := by
  pointwise [logA2]
  rw [logA_at O b t c, two_eq, ← EReal.coe_mul]

omit O in
theorem Data.r_pos (D : Data) (b c t) : 0 < D.r b c t := sgm_pos _
omit O in
theorem Data.s_pos (D : Data) (c) : 0 < D.s c := soft_pos _

theorem scale_at (b t c) : scale X WA BA L (ix3 b t c) = ((mult (D.r b c) (D.s c) t : ℝ) : EReal) := by
  pointwise [scale]
  have h := exp_lt (D.r b c) (D.s c) (D.r_pos b c) (D.s_pos c) t
  rw [logA2_at O b t c, Ideal.exp_coe, ← EReal.coe_one, ← EReal.coe_sub, ← EReal.coe_neg, neg_sub, sqrt_coe_pos _ h.le]
  rfl

theorem gated_at (b t c) : gated X WX BX (ix3 b t c) = ((D.i b c t * D.x b c t : ℝ) : EReal) := by
  pointwise [gated]
  rw [is_gate O.x O.wx O.bx b t c, O.x, ← EReal.coe_mul]
  rfl

omit O in
theorem id_zero : (id (constant (F := Ideal) S_ .f32 0x00000000#32) : FVec Ideal S_ .f32) ix0 = ((0 : ℝ) : EReal) := Ideal.ofBits_zero_f32

theorem cum_at (b t c) : cum X WA BA L (ix3 b t c) = ((Scan.L (la (D.r b c) (D.s c)) t : ℝ) : EReal) := by
  pointwise [cum]
  rw [Scan.L, coe_sum]
  refine Finset.sum_congr rfl fun s _ => ?_
  rw [mask_at, sel_mask, logA_at O b s c, id_zero, coe_ite]

theorem ratio_at (b t s c) (h : s ≤ t) : ratio X WA BA L (ix4 b t s c) = ((Real.exp (Scan.L (la (D.r b c) (D.s c)) t - Scan.L (la (D.r b c) (D.s c)) s) : ℝ) : EReal) := by
  pointwise [ratio]
  rw [mask_at, sel_mask, if_pos h, cum_at O b t c, cum_at O b s c, ← EReal.coe_sub, Ideal.exp_coe]

theorem decay_at (b t s c) : decay X WA BA L (ix4 b t s c) = ((E (la (D.r b c) (D.s c)) t s : ℝ) : EReal) := by
  pointwise [decay]
  rw [mask_at, sel_mask, id_zero, E, coe_ite]
  by_cases h : s ≤ t
  · rw [if_pos h, if_pos h, ratio_at O b t s c h]
  · rw [if_neg h, if_neg h]

theorem inRow_at (b j t c) : inRow X WA BA WX BX L (ix4 b j t c) = ((inp (D.r b c) (D.i b c) (D.x b c) (D.s c) t : ℝ) : EReal) := by
  pointwise [inRow]
  rw [scale_at O b t c, gated_at O b t c, ← EReal.coe_mul]
  rfl

/-- The states. -/
theorem h_at (b t c) : hA X WA BA WX BX L (ix3 b t c) = ((D.h b c t : ℝ) : EReal) := by
  pointwise [hA]
  simp only [decay_at O b t, inRow_at O b, ← EReal.coe_mul, ← coe_sum]
  rfl

theorem th_at (b t c) : thA G (ix3 b t c) = ((gt (D.g b c t) : ℝ) : EReal) := by
  pointwise [thA]
  simp only [O.g b t c, ga_eq, gb_eq, ← EReal.coe_mul, ← EReal.coe_add, Ideal.tanh_coe]
  simp only [gt, mul_assoc]

theorem gl_at (b t c) : glA G (ix3 b t c) = ((gg (D.g b c t) : ℝ) : EReal) := by
  pointwise [glA]
  simp only [th_at O b t c, half_eq, ← EReal.coe_mul, ← EReal.coe_add, ← EReal.coe_one]
  rfl

theorem dh_at (b t s c) : dhA G Y (ix4 b t s c) = ((D.dh b c t : ℝ) : EReal) := by
  pointwise [dhA, gelA]
  simp only [gl_at O b t c, O.g b t c, O.y b t c, ← EReal.coe_mul]
  rfl

/-- The scan's gradient. -/
theorem du_at (b t c) : duA X G Y WA BA L (ix3 b t c) = ((D.lam b c t : ℝ) : EReal) := by
  pointwise [duA]
  simp only [Fin.sum_univ_one, decay_at O b, dh_at O b, ← EReal.coe_mul, ← coe_sum]
  rfl

theorem dD_at (b t s c) : dD X G Y WA BA WX BX L (ix4 b t s c)
    = ((Scan.D (la (D.r b c) (D.s c)) (inp (D.r b c) (D.i b c) (D.x b c) (D.s c)) (D.dh b c) t s : ℝ) : EReal) := by
  pointwise [dD]
  rw [mask_at, sel_mask, sel_mask, Scan.D, coe_ite]
  by_cases h : s ≤ t
  · rw [if_pos h, if_pos h, if_pos h, ratio_at O b t s c h, dh_at O b t s c, inRow_at O b _ s c, ← EReal.coe_mul, ← EReal.coe_mul]
  · rw [if_neg h, if_neg h]; rfl

/-- The log-decay's gradient. -/
theorem dla_at (b t c) : dlaA X G Y WA BA WX BX L (ix3 b t c) = ((D.dla b c t : ℝ) : EReal) := by
  pointwise [dlaA]
  have hz : (0 : EReal) = ((0 : ℝ) : EReal) := rfl
  have hm := mult_ne (D.r b c) (D.s c) (D.r_pos b c) (D.s_pos c) t
  simp only [Fin.sum_univ_one, mask_at, sel_mask, dD_at O b, du_at O b t c, gated_at O b t c, scale_at O b t c, logA2_at O b t c, half_eq, two_eq, div_coe _ _ hm, Ideal.exp_coe,
    ← EReal.coe_neg, ← EReal.coe_mul, ← coe_sum, ← EReal.coe_add]
  rw [hz]
  simp only [← coe_ite, ← coe_sum, ← EReal.coe_add]
  refine congrArg _ ?_
  rw [decay_grad, Data.dla, Cert.Rg.dla, dmult, Data.lam, lamt]
  unfold before state
  ring

theorem dgx_at (b t c) : dgx X G Y WA BA L (ix3 b t c) = ((mult (D.r b c) (D.s c) t * D.lam b c t : ℝ) : EReal) := by
  pointwise [dgx]
  rw [scale_at O b t c, du_at O b t c, ← EReal.coe_mul]

theorem i_at (b t c) : gate X WX BX (ix3 b t c) = ((D.i b c t : ℝ) : EReal) := is_gate O.x O.wx O.bx b t c
theorem r_at (b t c) : gate X WA BA (ix3 b t c) = ((D.r b c t : ℝ) : EReal) := is_gate O.x O.wa O.ba b t c

theorem dpi_at (b t c) : dpiA X G Y WA BA WX BX L (ix3 b t c) = ((D.dpi b c t : ℝ) : EReal) := by
  pointwise [dpiA]
  simp only [dgx_at O b t c, i_at O b t c, O.x b t c, ← EReal.coe_mul, ← EReal.coe_sub, ← EReal.coe_one]
  rfl

theorem dpr_at (b t c) : dprA X G Y WA BA WX BX L (ix3 b t c) = ((D.dpr b c t : ℝ) : EReal) := by
  pointwise [dprA, spRow]
  simp only [dla_at O b t c, r_at O b t c, is_soft O.l c, neg8_eq, ← EReal.coe_mul, ← EReal.coe_sub, ← EReal.coe_one]
  rfl

theorem dwx_at (p q) : dwxA X G Y WA BA WX BX L (ix2 p q) = ((∑ b, ∑ t, D.x b p t * D.dpi b q t : ℝ) : EReal) := by
  pointwise [dwxA]
  simp only [dpi_at O, O.x _ _ p, ← EReal.coe_mul, ← coe_sum, mul_comm]

theorem dwa_at (p q) : dwaA X G Y WA BA WX BX L (ix2 p q) = ((∑ b, ∑ t, D.x b p t * D.dpr b q t : ℝ) : EReal) := by
  pointwise [dwaA]
  simp only [dpr_at O, O.x _ _ p, ← EReal.coe_mul, ← coe_sum, mul_comm]

/-- The input's gradient. -/
theorem out0_at (n : Fin 8192) (c : Fin 512) (b : Fin 4) (t : Fin 2048) (hn : n.val = b.val * 2048 + t.val) : out0 X G Y WA BA WX BX L (ix2 n c)
    = ((D.dxg b c t + (∑ k, D.dpi b k t * dn D.wx c k) + ∑ k, D.dpr b k t * dn D.wa c k : ℝ) : EReal) := by
  have e1 : (⟨n.val / 2048, by omega⟩ : Fin 4) = b := Fin.ext (by show n.val / 2048 = b.val; omega)
  have e2 : (⟨n.val % 2048, by omega⟩ : Fin 2048) = t := Fin.ext (by show n.val % 2048 = t.val; omega)
  pointwise [out0]
  simp only [e1, e2, i_at O b t c, dgx_at O b t c, dpi_at O b t, dpr_at O b t, is_dense O.wx c, is_dense O.wa c, ← EReal.coe_mul, ← coe_sum, ← EReal.coe_add]
  rfl

theorem dg_at (b t c) : dgA X Y WA BA WX BX L (ix3 b t c) = ((D.y b c t * D.h b c t : ℝ) : EReal) := by
  pointwise [dgA]
  rw [h_at O b t c, O.y b t c, ← EReal.coe_mul, mul_comm]

theorem dt_at (b t c) : dtA X G Y WA BA WX BX L (ix3 b t c)
    = ((gb * (1 / 2 * (D.g b c t * (D.y b c t * D.h b c t)) * ((1 + gt (D.g b c t)) * (1 - gt (D.g b c t)))) : ℝ) : EReal) := by
  pointwise [dtA]
  simp only [dg_at O b t c, th_at O b t c, O.g b t c, gb_eq, half_eq, ← EReal.coe_mul, ← EReal.coe_add, ← EReal.coe_sub, ← EReal.coe_one]

/-- The gate's input's gradient. -/
theorem out1_at (n : Fin 8192) (c : Fin 512) (b : Fin 4) (t : Fin 2048) (hn : n.val = b.val * 2048 + t.val) : out1 X G Y WA BA WX BX L (ix2 n c)
    = ((dgelu (D.g b c t) (D.y b c t * D.h b c t) : ℝ) : EReal) := by
  have e1 : (⟨n.val / 2048, by omega⟩ : Fin 4) = b := Fin.ext (by show n.val / 2048 = b.val; omega)
  have e2 : (⟨n.val % 2048, by omega⟩ : Fin 2048) = t := Fin.ext (by show n.val % 2048 = t.val; omega)
  pointwise [out1]
  simp only [e1, e2, dg_at O b t c, gl_at O b t c, dt_at O b t c, O.g b t c, ga_eq, three_eq, ← EReal.coe_mul, ← EReal.coe_add]
  rfl

omit O in
/-- Four square blocks down a matrix's diagonal. -/
theorem cut_at (z : FVec Ideal S512x512 .f32) (g : Fin 4) (p q : Fin 128) (P Q : Fin 512) (hp : P.val = g.val * 128 + p.val) (hq : Q.val = g.val * 128 + q.val) :
    (if h : g.val < 1 then z (ix2 ⟨p.val, by omega⟩ ⟨q.val, by omega⟩)
    else if h : g.val - 1 < 1 then z (ix2 ⟨128 + p.val, by omega⟩ ⟨128 + q.val, by omega⟩)
      else if h : g.val - 1 - 1 < 1 then z (ix2 ⟨256 + p.val, by omega⟩ ⟨256 + q.val, by omega⟩) else z (ix2 ⟨384 + p.val, by omega⟩ ⟨384 + q.val, by omega⟩)) = z (ix2 P Q) := by
  have hg := g.isLt
  split_ifs <;> exact congrArg z (congrArg₂ ix2 (Fin.ext (by dsimp only; omega)) (Fin.ext (by dsimp only; omega)))

/-- The matrices' gradients. -/
theorem out2_at (g : Fin 4) (p q : Fin 128) (P Q : Fin 512) (hp : P.val = g.val * 128 + p.val) (hq : Q.val = g.val * 128 + q.val) : out2 X G Y WA BA WX BX L (ix3 g p q)
    = ((∑ b, ∑ t, D.x b P t * D.dpr b Q t : ℝ) : EReal) := by
  rw [← dwa_at O]
  unfold out2
  generalize dwaA X G Y WA BA WX BX L = z
  pointwise
  exact cut_at z g p q P Q hp hq

theorem out3_at (g : Fin 4) (p q : Fin 128) (P Q : Fin 512) (hp : P.val = g.val * 128 + p.val) (hq : Q.val = g.val * 128 + q.val) : out3 X G Y WA BA WX BX L (ix3 g p q)
    = ((∑ b, ∑ t, D.x b P t * D.dpi b Q t : ℝ) : EReal) := by
  rw [← dwx_at O]
  unfold out3
  generalize dwxA X G Y WA BA WX BX L = z
  pointwise
  exact cut_at z g p q P Q hp hq

/-- A sum over the sequences and steps. -/
def tot (v : FVec Ideal S4x2048x512 .f32) : FVec Ideal S512 .f32 :=
  Host.reduceAdd (shapeCast S1x1x512 (Host.reduceAdd v (constant S_ .f32 0x00000000#32) reducesTo_S4x2048x512_S512_d0_1 h_S_) shapeCasts_S512_S1x1x512)
    (constant S_ .f32 0x00000000#32) reducesTo_S1x1x512_S512_d0_1 h_S_

omit O in
theorem total_at (v : FVec Ideal S4x2048x512 .f32) (c : Fin 512) : tot v (ix1 c) = ∑ b, ∑ t, v (ix3 b t c) := by
  have e : Host.reduceAdd v (constant S_ .f32 0x00000000#32) reducesTo_S4x2048x512_S512_d0_1 h_S_ (ix1 c) = ∑ b, ∑ t, v (ix3 b t c) :=
    (Cert.Reference4Ideal.Conv.sum01 _ _ _ _).trans ((congrArg (· + _) Ideal.ofBits_zero_f32).trans (zero_add _))
  refine (Cert.Reference4Ideal.Conv.sum01 _ _ _ _).trans ((congrArg (· + _) Ideal.ofBits_zero_f32).trans ((zero_add _).trans ?_))
  rw [Fin.sum_univ_one, Fin.sum_univ_one, ← e]
  generalize Host.reduceAdd v (constant S_ .f32 0x00000000#32) reducesTo_S4x2048x512_S512_d0_1 h_S_ = z
  pointwise

/-- The offsets' gradients. -/
theorem out4_at (j : Fin 1) (c : Fin 512) : out4 X G Y WA BA WX BX L (ix2 j c) = ((∑ b, ∑ t, D.dpr b c t : ℝ) : EReal) := by
  refine Eq.trans ?_ ((total_at (dprA X G Y WA BA WX BX L) c).trans ?_)
  · show broadcastInDim S1x512 ![1] bcast_S512_S1x512_1 (tot (dprA X G Y WA BA WX BX L)) (ix2 j c) = _
    generalize tot (dprA X G Y WA BA WX BX L) = z
    pointwise
  · simp only [dpr_at O, ← coe_sum]

theorem out5_at (j : Fin 1) (c : Fin 512) : out5 X G Y WA BA WX BX L (ix2 j c) = ((∑ b, ∑ t, D.dpi b c t : ℝ) : EReal) := by
  refine Eq.trans ?_ ((total_at (dpiA X G Y WA BA WX BX L) c).trans ?_)
  · show broadcastInDim S1x512 ![1] bcast_S512_S1x512_1 (tot (dpiA X G Y WA BA WX BX L)) (ix2 j c) = _
    generalize tot (dpiA X G Y WA BA WX BX L) = z
    pointwise
  · simp only [dpi_at O, ← coe_sum]

/-- The decay parameter's gradient. -/
theorem out6_at (j : Fin 1) (c : Fin 512) : out6 X G Y WA BA WX BX L (ix2 j c) = ((-((∑ b, ∑ t, -8 * D.r b c t * D.dla b c t) * dsoft (-D.l c)) : ℝ) : EReal) := by
  have e := total_at (mulf (gate8 X WA BA) (dlaA X G Y WA BA WX BX L)) c
  have e2 : ∀ b t, mulf (gate8 X WA BA) (dlaA X G Y WA BA WX BX L) (ix3 b t c) = ((-8 * D.r b c t * D.dla b c t : ℝ) : EReal) := by
    intro b t
    pointwise
    rw [gate8_at O b t c, dla_at O b t c, ← EReal.coe_mul]
  simp only [e2, ← coe_sum] at e
  have n : negL L (ix1 c) = ((-D.l c : ℝ) : EReal) := by
    pointwise [negL]
    rw [O.l c, ← EReal.coe_neg]
  show broadcastInDim S1x512 ![1] bcast_S512_S1x512_1 (Host.negf (mulf (tot (mulf (gate8 X WA BA) (dlaA X G Y WA BA WX BX L))) (Host.exp (subf (select (cmpf .oeq (negL L) (broadcastInDim S512 ![] bcast_S_S512 (constant S_ .f32 0x7F800000#32))) (broadcastInDim S512 ![] bcast_S_S512 (constant S_ .f32 0x00000000#32)) (negL L)) (select (cmpf .oeq (sp L) (broadcastInDim S512 ![] bcast_S_S512 (constant S_ .f32 0x7F800000#32))) (broadcastInDim S512 ![] bcast_S_S512 (constant S_ .f32 0x00000000#32)) (sp L)))))) (ix2 j c) = _
  generalize tot (mulf (gate8 X WA BA) (dlaA X G Y WA BA WX BX L)) = z at e ⊢
  pointwise
  rw [e, n, is_soft O.l c, inf_eq, if_neg (EReal.coe_ne_top _), if_neg (EReal.coe_ne_top _), ← EReal.coe_sub, Ideal.exp_coe, ← EReal.coe_mul, ← EReal.coe_neg]
  rfl

end Cert.Reference6Ideal.Rg
-- ==== Proof.Rg.Slab.lean ====
module

public import proofs.«01_k».proof.Proof.Rg.Host
public import proofs.«01_k».proof.Proof.Rg.Ref
public import Idealize.ShloMosaic.Lib.Routing.OpsSet
set_option maxRecDepth 16384

/-! The square blocks the call is handed are the diagonal blocks of the gates' whole matrices. -/

@[expose] public noncomputable section
open Idealize.ShloMosaic Idealize.ShloMosaic.TcCoe Idealize.SL.Sem
open Idealize.ShloMosaic.Pipeline (Dat)

namespace Cert.Kernel6Ideal.Block
open Cert.Kernel6Ideal Cert.Kernel6Ideal.Gen
open Cert.Reference6Ideal.Rg (dn IW)

/-- Where a small square is put. -/
def pos (g o : BitVec 32) : IVec S3 32 :=
  concatenate S3 0 [⟨S1, broadcastInDim S1 ![] bcast_S_S1 (constantI S_ 32 g)⟩, ⟨S1, broadcastInDim S1 ![] bcast_S_S1 (constantI S_ 32 o)⟩,
    ⟨S1, broadcastInDim S1 ![] bcast_S_S1 (constantI S_ 32 o)⟩] concatenates_S1_S1_S1_S3_d0

theorem pos_0 (g o : BitVec 32) : pos g o (ix1 0) = g := by pointwise [pos]
theorem pos_1 (g o : BitVec 32) : pos g o (ix1 1) = o := by pointwise [pos]
theorem pos_2 (g o : BitVec 32) : pos g o (ix1 2) = o := by pointwise [pos]

/-- Which entry a small square's entry goes to. -/
theorem lands (g o : BitVec 32) (k : S64x64.Idx) (i : Fin 4) (p q : Fin 128) :
    scatter_S4x128x128_S3_S64x64_01_0_012_0.resultIdx? k (pos g o) = some (ix3 i p q)
      ↔ g.toInt = i.val ∧ o.toInt + (k 0).val = p.val ∧ o.toInt + (k 1).val = q.val := by
  rw [Routing.resultIdx?_eq_some]
  have s0 : scatter_S4x128x128_S3_S64x64_01_0_012_0.start k (pos g o) 0 = (pos g o (ix1 0)).toInt :=
    congrArg (fun j => (pos g o j).toInt) (funext fun b => match b with | ⟨0, _⟩ => rfl : scatter_S4x128x128_S3_S64x64_01_0_012_0.siIdx k ⟨0, by decide⟩ = ix1 0)
  have s1 : scatter_S4x128x128_S3_S64x64_01_0_012_0.start k (pos g o) 1 = (pos g o (ix1 1)).toInt :=
    congrArg (fun j => (pos g o j).toInt) (funext fun b => match b with | ⟨0, _⟩ => rfl : scatter_S4x128x128_S3_S64x64_01_0_012_0.siIdx k ⟨1, by decide⟩ = ix1 1)
  have s2 : scatter_S4x128x128_S3_S64x64_01_0_012_0.start k (pos g o) 2 = (pos g o (ix1 2)).toInt :=
    congrArg (fun j => (pos g o j).toInt) (funext fun b => match b with | ⟨0, _⟩ => rfl : scatter_S4x128x128_S3_S64x64_01_0_012_0.siIdx k ⟨2, by decide⟩ = ix1 2)
  have w0 : scatter_S4x128x128_S3_S64x64_01_0_012_0.window k 0 = 0 := rfl
  have w1 : scatter_S4x128x128_S3_S64x64_01_0_012_0.window k 1 = (k 0).val := rfl
  have w2 : scatter_S4x128x128_S3_S64x64_01_0_012_0.window k 2 = (k 1).val := rfl
  rw [pos_0] at s0
  rw [pos_1] at s1
  rw [pos_2] at s2
  constructor
  · intro h
    have h0 := h 0
    have h1 := h 1
    have h2 := h 2
    rw [s0, w0] at h0
    rw [s1, w1] at h1
    rw [s2, w2] at h2
    exact ⟨by simpa using h0, h1, h2⟩
  · rintro ⟨h0, h1, h2⟩ a
    match a with
    | ⟨0, _⟩ => refine Eq.trans (congrArg₂ (fun a b => a + ((b : ℕ) : Int)) s0 w0) ?_; simpa using h0
    | ⟨1, _⟩ => exact Eq.trans (congrArg₂ (fun a b => a + ((b : ℕ) : Int)) s1 w1) h1
    | ⟨2, _⟩ => exact Eq.trans (congrArg₂ (fun a b => a + ((b : ℕ) : Int)) s2 w2) h2

/-- A matrix of square blocks with a small square put in it. -/
def put (v : FVec Ideal S4x128x128 .f32) (g o : BitVec 32) (u : FVec Ideal S64x64 .f32) : FVec Ideal S4x128x128 .f32 :=
  Host.scatter scatter_S4x128x128_S3_S64x64_01_0_012_0 (fun _ b => b) v (pos g o) u

theorem put_at (v : FVec Ideal S4x128x128 .f32) (g o : BitVec 32) (G O : ℕ) (hg : g.toInt = G) (ho : o.toInt = O) (u : FVec Ideal S64x64 .f32) (f : Fin 64 → Fin 64 → ℝ)
    (hu : ∀ a b, u (ix2 a b) = ((f a b : ℝ) : EReal)) (i : Fin 4) (p q : Fin 128) :
    put v g o u (ix3 i p q) = if h : i.val = G ∧ (O ≤ p.val ∧ p.val < O + 64) ∧ (O ≤ q.val ∧ q.val < O + 64)
      then ((f ⟨p.val - O, by omega⟩ ⟨q.val - O, by omega⟩ : ℝ) : EReal) else v (ix3 i p q) := by
  unfold put
  split_ifs with h
  · refine Routing.scatter_set_hit _ _ _ _ _ _ (fun k hk => ?_) (ix2 ⟨p.val - O, by omega⟩ ⟨q.val - O, by omega⟩) ((lands _ _ _ _ _ _).2 ?_)
    · have l := (lands _ _ _ _ _ _).1 hk
      idx_vars k
      rw [hu]
      rw [hg, ho] at l
      have l1 := l.2.1
      have l2 := l.2.2
      exact congrArg _ (congrArg₂ f (Fin.ext (by dsimp at l1 ⊢; omega)) (Fin.ext (by dsimp at l2 ⊢; omega)))
    · rw [hg, ho]
      refine ⟨by omega, ?_, ?_⟩
      · dsimp; omega
      · dsimp; omega
  · refine Routing.scatter_set_miss _ _ _ _ _ fun k hk => h ?_
    have l := (lands _ _ _ _ _ _).1 hk
    have k0 : (k 0).val < 64 := (k 0).isLt
    have k1 : (k 1).val < 64 := (k 1).isLt
    rw [hg, ho] at l
    omega

/-- The square blocks of a gate's matrix. -/
def slab (W : FVec Ideal S8x64x64 .f32) : FVec Ideal S4x128x128 .f32 :=
  (put (put (put (put (put (put (put (put (broadcastInDim S4x128x128 ![] bcast_S_S4x128x128 (constant S_ .f32 0x00000000#32)) (0#32) (0#32)
    (shapeCast S64x64 (extractStridedSlice S1x64x64 ![0, 0, 0] W slices_S8x64x64_S1x64x64_0_0_0) shapeCasts_S1x64x64_S64x64)) (0#32) (64#32)
    (shapeCast S64x64 (extractStridedSlice S1x64x64 ![1, 0, 0] W slices_S8x64x64_S1x64x64_1_0_0) shapeCasts_S1x64x64_S64x64)) (1#32) (0#32)
    (shapeCast S64x64 (extractStridedSlice S1x64x64 ![2, 0, 0] W slices_S8x64x64_S1x64x64_2_0_0) shapeCasts_S1x64x64_S64x64)) (1#32) (64#32)
    (shapeCast S64x64 (extractStridedSlice S1x64x64 ![3, 0, 0] W slices_S8x64x64_S1x64x64_3_0_0) shapeCasts_S1x64x64_S64x64)) (2#32) (0#32)
    (shapeCast S64x64 (extractStridedSlice S1x64x64 ![4, 0, 0] W slices_S8x64x64_S1x64x64_4_0_0) shapeCasts_S1x64x64_S64x64)) (2#32) (64#32)
    (shapeCast S64x64 (extractStridedSlice S1x64x64 ![5, 0, 0] W slices_S8x64x64_S1x64x64_5_0_0) shapeCasts_S1x64x64_S64x64)) (3#32) (0#32)
    (shapeCast S64x64 (extractStridedSlice S1x64x64 ![6, 0, 0] W slices_S8x64x64_S1x64x64_6_0_0) shapeCasts_S1x64x64_S64x64)) (3#32) (64#32)
    (shapeCast S64x64 (extractStridedSlice S1x64x64 ![7, 0, 0] W slices_S8x64x64_S1x64x64_7_0_0) shapeCasts_S1x64x64_S64x64))

theorem dn_hit (w : Fin 8 → Fin 64 → Fin 64 → ℝ) (n : Fin 8) (P Q : Fin 512) (a b : Fin 64) (hp : P.val = n.val * 64 + a.val) (hq : Q.val = n.val * 64 + b.val) :
    dn w P Q = w n a b := by
  have e1 : (⟨P.val / 64, by omega⟩ : Fin 8) = n := Fin.ext (by dsimp; omega)
  have e2 : (⟨P.val % 64, by omega⟩ : Fin 64) = a := Fin.ext (by dsimp; omega)
  have e3 : (⟨Q.val % 64, by omega⟩ : Fin 64) = b := Fin.ext (by dsimp; omega)
  rw [dn, if_pos (by omega), e1, e2, e3]

theorem slab_at (W : FVec Ideal S8x64x64 .f32) (w : Fin 8 → Fin 64 → Fin 64 → ℝ) (h : IW W w) (i : Fin 4) (p q : Fin 128) (P Q : Fin 512)
    (hp : P.val = i.val * 128 + p.val) (hq : Q.val = i.val * 128 + q.val) : slab W (ix3 i p q) = ((dn w P Q : ℝ) : EReal) := by
  have e0 (a b : Fin 64) : (shapeCast S64x64 (extractStridedSlice S1x64x64 ![0, 0, 0] W slices_S8x64x64_S1x64x64_0_0_0) shapeCasts_S1x64x64_S64x64 : FVec Ideal S64x64 .f32) (ix2 a b) = ((w 0 a b : ℝ) : EReal) := by
    refine Eq.trans ?_ (h 0 a b)
    pointwise
  have e1 (a b : Fin 64) : (shapeCast S64x64 (extractStridedSlice S1x64x64 ![1, 0, 0] W slices_S8x64x64_S1x64x64_1_0_0) shapeCasts_S1x64x64_S64x64 : FVec Ideal S64x64 .f32) (ix2 a b) = ((w 1 a b : ℝ) : EReal) := by
    refine Eq.trans ?_ (h 1 a b)
    pointwise
  have e2 (a b : Fin 64) : (shapeCast S64x64 (extractStridedSlice S1x64x64 ![2, 0, 0] W slices_S8x64x64_S1x64x64_2_0_0) shapeCasts_S1x64x64_S64x64 : FVec Ideal S64x64 .f32) (ix2 a b) = ((w 2 a b : ℝ) : EReal) := by
    refine Eq.trans ?_ (h 2 a b)
    pointwise
  have e3 (a b : Fin 64) : (shapeCast S64x64 (extractStridedSlice S1x64x64 ![3, 0, 0] W slices_S8x64x64_S1x64x64_3_0_0) shapeCasts_S1x64x64_S64x64 : FVec Ideal S64x64 .f32) (ix2 a b) = ((w 3 a b : ℝ) : EReal) := by
    refine Eq.trans ?_ (h 3 a b)
    pointwise
  have e4 (a b : Fin 64) : (shapeCast S64x64 (extractStridedSlice S1x64x64 ![4, 0, 0] W slices_S8x64x64_S1x64x64_4_0_0) shapeCasts_S1x64x64_S64x64 : FVec Ideal S64x64 .f32) (ix2 a b) = ((w 4 a b : ℝ) : EReal) := by
    refine Eq.trans ?_ (h 4 a b)
    pointwise
  have e5 (a b : Fin 64) : (shapeCast S64x64 (extractStridedSlice S1x64x64 ![5, 0, 0] W slices_S8x64x64_S1x64x64_5_0_0) shapeCasts_S1x64x64_S64x64 : FVec Ideal S64x64 .f32) (ix2 a b) = ((w 5 a b : ℝ) : EReal) := by
    refine Eq.trans ?_ (h 5 a b)
    pointwise
  have e6 (a b : Fin 64) : (shapeCast S64x64 (extractStridedSlice S1x64x64 ![6, 0, 0] W slices_S8x64x64_S1x64x64_6_0_0) shapeCasts_S1x64x64_S64x64 : FVec Ideal S64x64 .f32) (ix2 a b) = ((w 6 a b : ℝ) : EReal) := by
    refine Eq.trans ?_ (h 6 a b)
    pointwise
  have e7 (a b : Fin 64) : (shapeCast S64x64 (extractStridedSlice S1x64x64 ![7, 0, 0] W slices_S8x64x64_S1x64x64_7_0_0) shapeCasts_S1x64x64_S64x64 : FVec Ideal S64x64 .f32) (ix2 a b) = ((w 7 a b : ℝ) : EReal) := by
    refine Eq.trans ?_ (h 7 a b)
    pointwise
  unfold slab
  rw [put_at _ _ _ 3 64 rfl rfl _ _ e7, put_at _ _ _ 3 0 rfl rfl _ _ e6, put_at _ _ _ 2 64 rfl rfl _ _ e5, put_at _ _ _ 2 0 rfl rfl _ _ e4, put_at _ _ _ 1 64 rfl rfl _ _ e3, put_at _ _ _ 1 0 rfl rfl _ _ e2, put_at _ _ _ 0 64 rfl rfl _ _ e1, put_at _ _ _ 0 0 rfl rfl _ _ e0]
  split_ifs with h7 h6 h5 h4 h3 h2 h1 h0
  · exact congrArg _ (dn_hit w 7 P Q _ _ (by dsimp; omega) (by dsimp; omega)).symm
  · exact congrArg _ (dn_hit w 6 P Q _ _ (by dsimp; omega) (by dsimp; omega)).symm
  · exact congrArg _ (dn_hit w 5 P Q _ _ (by dsimp; omega) (by dsimp; omega)).symm
  · exact congrArg _ (dn_hit w 4 P Q _ _ (by dsimp; omega) (by dsimp; omega)).symm
  · exact congrArg _ (dn_hit w 3 P Q _ _ (by dsimp; omega) (by dsimp; omega)).symm
  · exact congrArg _ (dn_hit w 2 P Q _ _ (by dsimp; omega) (by dsimp; omega)).symm
  · exact congrArg _ (dn_hit w 1 P Q _ _ (by dsimp; omega) (by dsimp; omega)).symm
  · exact congrArg _ (dn_hit w 0 P Q _ _ (by dsimp; omega) (by dsimp; omega)).symm
  · have z : (broadcastInDim S4x128x128 ![] bcast_S_S4x128x128 (constant S_ .f32 0x00000000#32) : FVec Ideal S4x128x128 .f32) (ix3 i p q) = 0 := by
      pointwise
    have := p.isLt
    have := q.isLt
    have := i.isLt
    rw [z, dn, if_neg (by omega), EReal.coe_zero]

variable (m : (ℓ : Loc nD τ sig) → Buf (Elt Ideal) ℓ)

/-- The host's square blocks. -/
theorem V137 (c : Dev nD) : V m c main_v137 = slab (aWA m c) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp <;> rfl

theorem V194 (c : Dev nD) : V m c main_v194 = slab (aWX m c) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp <;> rfl

end Cert.Kernel6Ideal.Block
-- ==== Proof.Rg.Grad.lean ====
module

public import proofs.«01_k».proof.Proof.Rg.Slab
set_option maxRecDepth 16384

/-! The seven arrays of the recurrence's backward call are the reference's gradients. -/

@[expose] public noncomputable section
open Idealize.ShloMosaic Idealize.ShloMosaic.TcCoe Idealize.SL.Sem
open Idealize.ShloMosaic.Pipeline (Dat)

namespace Cert.Kernel6Ideal.Block
open Cert.Kernel6Ideal Cert.Kernel6Ideal.Gen Cert.Rg
open Cert.Reference6Ideal.Rg (dn)
abbrev All := Cert.Reference6Ideal.Rg.Data
abbrev AllHold := @Cert.Reference6Ideal.Rg.Holds

/-- The numbers of a grid point's blocks. -/
def blk (E : All) (t : Fin cfg0.N) : Data where
  x d r := E.x (sq t) (chan t d) r
  g d r := E.g (sq t) (chan t d) r
  y d r := E.y (sq t) (chan t d) r
  wa p q := dn E.wa (chan t p) (chan t q)
  wx p q := dn E.wx (chan t p) (chan t q)
  ba d := E.ba (chan t d)
  bx d := E.bx (chan t d)
  l d := E.l (chan t d)

/-- A sum over the channels of what is nothing outside a group is the group's sum. -/
theorem sum_group (t : Fin cfg0.N) (f : Fin 512 → ℝ) (h : ∀ k : Fin 512, k.val / 128 ≠ t.val / 4 → f k = 0) : ∑ k, f k = ∑ d : Fin 128, f (chan t d) := by
  refine (Fintype.sum_of_injective (chan t) (fun a b e => ?_) _ _ (fun k hk => h k fun e => hk ⟨⟨k.val % 128, by omega⟩, Fin.ext ?_⟩) fun _ => rfl).symm
  · have := congrArg Fin.val e
    exact Fin.ext (by dsimp at this; omega)
  · dsimp; omega

theorem dn_off (w : Fin 8 → Fin 64 → Fin 64 → ℝ) (p q : Fin 512) (h : p.val / 128 ≠ q.val / 128) : dn w p q = 0 := by
  rw [dn, if_neg (by omega)]

theorem chan_grp (t : Fin cfg0.N) (d : Fin 128) : (chan t d).val / 128 = t.val / 4 := by dsimp; omega

theorem blk_r (E : All) (t : Fin cfg0.N) (d) : (blk E t).r d = E.r (sq t) (chan t d) := by
  funext s
  unfold Data.r Cert.Reference6Ideal.Rg.Data.r
  rw [sum_group t _ fun k hk => by rw [dn_off _ _ _ (by rw [chan_grp]; exact hk), mul_zero]]
  rfl
theorem blk_i (E : All) (t : Fin cfg0.N) (d) : (blk E t).i d = E.i (sq t) (chan t d) := by
  funext s
  unfold Data.i Cert.Reference6Ideal.Rg.Data.i
  rw [sum_group t _ fun k hk => by rw [dn_off _ _ _ (by rw [chan_grp]; exact hk), mul_zero]]
  rfl
theorem blk_h (E : All) (t : Fin cfg0.N) (d) : (blk E t).h d = E.h (sq t) (chan t d) := by
  funext s
  unfold Data.h Cert.Reference6Ideal.Rg.Data.h
  rw [blk_r, blk_i]
  rfl
theorem blk_dpr (E : All) (t : Fin cfg0.N) (d) : (blk E t).dpr d = E.dpr (sq t) (chan t d) := by
  funext s
  unfold Data.dpr Cert.Reference6Ideal.Rg.Data.dpr
  rw [blk_r, blk_i]
  rfl
theorem blk_dpi (E : All) (t : Fin cfg0.N) (d) : (blk E t).dpi d = E.dpi (sq t) (chan t d) := by
  funext s
  unfold Data.dpi Cert.Reference6Ideal.Rg.Data.dpi
  rw [blk_r, blk_i]
  rfl
theorem blk_dla (E : All) (t : Fin cfg0.N) (d) : (blk E t).dla d = E.dla (sq t) (chan t d) := by
  funext s
  unfold Data.dla Cert.Reference6Ideal.Rg.Data.dla
  rw [blk_r, blk_i]
  rfl
theorem blk_dxg (E : All) (t : Fin cfg0.N) (d) : (blk E t).dxg d = E.dxg (sq t) (chan t d) := by
  funext s
  unfold Data.dxg Cert.Reference6Ideal.Rg.Data.dxg
  rw [blk_r, blk_i]
  rfl

variable (m : (ℓ : Loc nD τ sig) → Buf (Elt Ideal) ℓ)

/-- The arguments of device `c` hold the numbers `E`. -/
abbrev Given (c : Dev nD) (E : All) : Prop := AllHold E (aX m c) (aG m c) (aY m c) (aWA m c) (aBA m c) (aWX m c) (aBX m c) (aL m c)

/-- An entry of the input's block. -/
theorem x_at (c : Dev nD) (t : Fin cfg0.N) (r : Fin 2048) (d : Fin 128) : iblk m c 0 t (ix2 r d) = (aX m c) (ix3 (sq t) r (chan t d)) := by
  refine Eq.trans ?_ ((congrFun (V77 m c) (ix2 (row t r) (chan t d))).trans ?_)
  · blk_simp [iblk]
    blk_ext [idx t]
  · generalize (aX m c : FVec Ideal S4x2048x512 .f32) = z
    pointwise
    blk_ext [idx t]

/-- An entry of the gate's input's block. -/
theorem g_at (c : Dev nD) (t : Fin cfg0.N) (r : Fin 2048) (d : Fin 128) : iblk m c 1 t (ix2 r d) = (aG m c) (ix3 (sq t) r (chan t d)) := by
  refine Eq.trans ?_ ((congrFun (V78 m c) (ix2 (row t r) (chan t d))).trans ?_)
  · blk_simp [iblk]
    blk_ext [idx t]
  · generalize (aG m c : FVec Ideal S4x2048x512 .f32) = z
    pointwise
    blk_ext [idx t]

/-- An entry of the states's block. -/
theorem h_at (c : Dev nD) (t : Fin cfg0.N) (r : Fin 2048) (d : Fin 128) : iblk m c 2 t (ix2 r d) = (Cert.Reference6Ideal.Rg.hA (aX m c) (aWA m c) (aBA m c) (aWX m c) (aBX m c) (aL m c)) (ix3 (sq t) r (chan t d)) := by
  refine Eq.trans ?_ ((congrFun (V79 m c) (ix2 (row t r) (chan t d))).trans ?_)
  · blk_simp [iblk]
    blk_ext [idx t]
  · generalize (Cert.Reference6Ideal.Rg.hA (aX m c) (aWA m c) (aBA m c) (aWX m c) (aBX m c) (aL m c) : FVec Ideal S4x2048x512 .f32) = z
    pointwise
    blk_ext [idx t]

/-- An entry of the output's gradient's block. -/
theorem y_at (c : Dev nD) (t : Fin cfg0.N) (r : Fin 2048) (d : Fin 128) : iblk m c 3 t (ix2 r d) = (aY m c) (ix3 (sq t) r (chan t d)) := by
  refine Eq.trans ?_ ((congrFun (V80 m c) (ix2 (row t r) (chan t d))).trans ?_)
  · blk_simp [iblk]
    blk_ext [idx t]
  · generalize (aY m c : FVec Ideal S4x2048x512 .f32) = z
    pointwise
    blk_ext [idx t]

theorem wa_at (c : Dev nD) (t : Fin cfg0.N) (j : Fin 1) (p q : Fin 128) : iblk m c 4 t (ix3 j p q) = slab (aWA m c) (ix3 (grp t) p q) := by
  refine Eq.trans ?_ (congrFun (V137 m c) (ix3 (grp t) p q))
  blk_simp [iblk]
  blk_ext [idx t]

theorem wx_at (c : Dev nD) (t : Fin cfg0.N) (j : Fin 1) (p q : Fin 128) : iblk m c 5 t (ix3 j p q) = slab (aWX m c) (ix3 (grp t) p q) := by
  refine Eq.trans ?_ (congrFun (V194 m c) (ix3 (grp t) p q))
  blk_simp [iblk]
  blk_ext [idx t]

theorem ba_at (c : Dev nD) (t : Fin cfg0.N) (j : Fin 1) (d : Fin 128) : iblk m c 6 t (ix2 j d) = aBA m c (ix1 (chan t d)) := by
  refine Eq.trans ?_ ((congrFun (V195 m c) (ix2 j (chan t d))).trans ?_)
  · blk_simp [iblk]
    blk_ext [idx t]
  · generalize aBA m c = z
    pointwise

theorem bx_at (c : Dev nD) (t : Fin cfg0.N) (j : Fin 1) (d : Fin 128) : iblk m c 7 t (ix2 j d) = aBX m c (ix1 (chan t d)) := by
  refine Eq.trans ?_ ((congrFun (V196 m c) (ix2 j (chan t d))).trans ?_)
  · blk_simp [iblk]
    blk_ext [idx t]
  · generalize aBX m c = z
    pointwise

theorem l_at (c : Dev nD) (t : Fin cfg0.N) (j : Fin 1) (d : Fin 128) : iblk m c 8 t (ix2 j d) = aL m c (ix1 (chan t d)) := by
  refine Eq.trans ?_ ((congrFun (V197 m c) (ix2 j (chan t d))).trans ?_)
  · blk_simp [iblk]
    blk_ext [idx t]
  · generalize aL m c = z
    pointwise

variable {m} {c : Dev nD} {E : All} (O : Given m c E)
include O

/-- The blocks of a grid point hold their part of the numbers. -/
theorem at_blk (t : Fin cfg0.N) : At m c t (blk E t) where
  x r d := (x_at m c t r d).trans (O.x _ _ _)
  g r d := (g_at m c t r d).trans (O.g _ _ _)
  h r d := (h_at m c t r d).trans ((Cert.Reference6Ideal.Rg.h_at O _ _ _).trans (by rw [blk_h]))
  y r d := (y_at m c t r d).trans (O.y _ _ _)
  wa j p q := (wa_at m c t j p q).trans (slab_at _ _ O.wa _ _ _ _ _ rfl rfl)
  wx j p q := (wx_at m c t j p q).trans (slab_at _ _ O.wx _ _ _ _ _ rfl rfl)
  ba j d := (ba_at m c t j d).trans (O.ba _)
  bx j d := (bx_at m c t j d).trans (O.bx _)
  l j d := (l_at m c t j d).trans (O.l _)

/-- The input's gradient in a block, in the whole. -/
theorem dx_in (t : Fin cfg0.N) (r : Fin 2048) (d : Fin 128) :
    (((blk E t).dxg d r + (∑ k, (blk E t).dpi k r * (blk E t).wx d k) + ∑ k, (blk E t).dpr k r * (blk E t).wa d k : ℝ) : EReal)
      = Cert.Reference6Ideal.Rg.out0 (aX m c) (aG m c) (aY m c) (aWA m c) (aBA m c) (aWX m c) (aBX m c) (aL m c) (ix2 (row t r) (chan t d)) := by
  rw [Cert.Reference6Ideal.Rg.out0_at O (row t r) (chan t d) (sq t) r rfl]
  rw [sum_group t (fun k => E.dpi (sq t) k r * dn E.wx (chan t d) k) fun k hk => by rw [dn_off _ _ _ (by rw [chan_grp]; exact fun e => hk e.symm), mul_zero],
    sum_group t (fun k => E.dpr (sq t) k r * dn E.wa (chan t d) k) fun k hk => by rw [dn_off _ _ _ (by rw [chan_grp]; exact fun e => hk e.symm), mul_zero]]
  simp only [blk_dxg, blk_dpi, blk_dpr]
  rfl

/-- The call's first result is the input's gradient. -/
theorem final9 : (dats m 0 c).arrAt 9 cfg0.N = Cert.Reference6Ideal.Rg.out0 (aX m c) (aG m c) (aY m c) (aWA m c) (aBA m c) (aWX m c) (aBX m c) (aL m c) := by
  refine (dats m 0 c).arrAt_eq_of_covers 9 _ (by decide +kernel) fun t hf y => ?_
  blk_simp
  rw [after0_9]
  refine Eq.trans ?_ (congrArg _ (emb9 t y).symm)
  by_cases h : t.val % 4 = 0
  · exact (dx_A (at_blk O t) h (by omega) y).trans (dx_in O t _ _)
  · exact (dx_B (at_blk O t) h (by omega) y).trans (dx_in O t _ _)

theorem dg_in (t : Fin cfg0.N) (r : Fin 2048) (d : Fin 128) :
    ((dgelu ((blk E t).g d r) ((blk E t).y d r * (blk E t).h d r) : ℝ) : EReal) = Cert.Reference6Ideal.Rg.out1 (aX m c) (aG m c) (aY m c) (aWA m c) (aBA m c) (aWX m c) (aBX m c) (aL m c) (ix2 (row t r) (chan t d)) := by
  rw [Cert.Reference6Ideal.Rg.out1_at O (row t r) (chan t d) (sq t) r rfl, blk_h]
  rfl

/-- The call's second result is the gate's input's gradient. -/
theorem final10 : (dats m 0 c).arrAt 10 cfg0.N = Cert.Reference6Ideal.Rg.out1 (aX m c) (aG m c) (aY m c) (aWA m c) (aBA m c) (aWX m c) (aBX m c) (aL m c) := by
  refine (dats m 0 c).arrAt_eq_of_covers 10 _ (by decide +kernel) fun t hf y => ?_
  blk_simp
  rw [after0_10]
  refine Eq.trans ?_ (congrArg _ (emb10 t y).symm)
  by_cases h : t.val % 4 = 0
  · exact (dg_A (at_blk O t) h (by omega) y).trans (dg_in O t _ _)
  · exact (dg_B (at_blk O t) h (by omega) y).trans (dg_in O t _ _)

omit O in
theorem sq_run (t : Fin cfg0.N) (ct : t.val % 4 = 3) (s : Fin 4) : sq ⟨4 * (t.val / 4) + s.val, Pipeline.run_point_lt_of_flush t ct s⟩ = s :=
  Fin.ext (by dsimp; omega)
omit O in
theorem chan_run (t : Fin cfg0.N) (ct : t.val % 4 = 3) (s : Fin 4) (d : Fin 128) : chan ⟨4 * (t.val / 4) + s.val, Pipeline.run_point_lt_of_flush t ct s⟩ d = chan t d :=
  Fin.ext (by dsimp; omega)

/-- The first gate's matrix's gradient after a group's last sequence. -/
theorem wa_acc (t : Fin cfg0.N) (ct : t.val % 4 = 3) (j : Fin 1) (p q : Fin 128) :
    (outsAt0 m c t.val t.isLt).2.2.1 (ix3 j p q) = Cert.Reference6Ideal.Rg.out2 (aX m c) (aG m c) (aY m c) (aWA m c) (aBA m c) (aWX m c) (aBX m c) (aL m c) (ix3 (grp t) p q) := by
  rw [Pipeline.eq_sum_fin_of_reset_step_apply_of_flush (fun n h => (outsAt0 m c n h).2.2.1) 4 (fun _ => 0)
      (fun t i => ((∑ s, (blk E t).x (i 1) s * (blk E t).dpr (i 2) s : ℝ) : EReal))
      (fun t h i => by rw [wa_A (at_blk O t) h (by omega) i, zero_add])
      (fun t h i => by rw [wa_B (at_blk O t) h (by omega) i, ix3_eta]) t ct _, zero_add,
    Cert.Reference6Ideal.Rg.out2_at O (grp t) p q (chan t p) (chan t q) rfl rfl, ← coe_sum]
  refine congrArg _ (Finset.sum_congr rfl fun s _ => Finset.sum_congr rfl fun r _ => ?_)
  show (blk E _).x p r * (blk E _).dpr q r = _
  rw [blk_dpr, chan_run t ct s, sq_run t ct s]
  show E.x (sq _) (chan _ p) r * _ = _
  rw [chan_run t ct s, sq_run t ct s]

/-- The first gate's matrix's gradient. -/
theorem final11 : (dats m 0 c).arrAt 11 cfg0.N = Cert.Reference6Ideal.Rg.out2 (aX m c) (aG m c) (aY m c) (aWA m c) (aBA m c) (aWX m c) (aBX m c) (aL m c) := by
  refine (dats m 0 c).arrAt_eq_of_covers 11 _ (by decide +kernel) fun t hf y => ?_
  blk_simp
  have ct := (flush0_11 t).mp hf
  rw [after0_11]
  refine Eq.trans ?_ (congrArg _ (emb11 t y).symm)
  exact (congrArg _ (ix3_eta y).symm).trans (wa_acc O t ct _ _ _)

/-- The second gate's matrix's gradient after a group's last sequence. -/
theorem wx_acc (t : Fin cfg0.N) (ct : t.val % 4 = 3) (j : Fin 1) (p q : Fin 128) :
    (outsAt0 m c t.val t.isLt).2.2.2.1 (ix3 j p q) = Cert.Reference6Ideal.Rg.out3 (aX m c) (aG m c) (aY m c) (aWA m c) (aBA m c) (aWX m c) (aBX m c) (aL m c) (ix3 (grp t) p q) := by
  rw [Pipeline.eq_sum_fin_of_reset_step_apply_of_flush (fun n h => (outsAt0 m c n h).2.2.2.1) 4 (fun _ => 0)
      (fun t i => ((∑ s, (blk E t).x (i 1) s * (blk E t).dpi (i 2) s : ℝ) : EReal))
      (fun t h i => by rw [wx_A (at_blk O t) h (by omega) i, zero_add])
      (fun t h i => by rw [wx_B (at_blk O t) h (by omega) i, ix3_eta]) t ct _, zero_add,
    Cert.Reference6Ideal.Rg.out3_at O (grp t) p q (chan t p) (chan t q) rfl rfl, ← coe_sum]
  refine congrArg _ (Finset.sum_congr rfl fun s _ => Finset.sum_congr rfl fun r _ => ?_)
  show (blk E _).x p r * (blk E _).dpi q r = _
  rw [blk_dpi, chan_run t ct s, sq_run t ct s]
  show E.x (sq _) (chan _ p) r * _ = _
  rw [chan_run t ct s, sq_run t ct s]

/-- The second gate's matrix's gradient. -/
theorem final12 : (dats m 0 c).arrAt 12 cfg0.N = Cert.Reference6Ideal.Rg.out3 (aX m c) (aG m c) (aY m c) (aWA m c) (aBA m c) (aWX m c) (aBX m c) (aL m c) := by
  refine (dats m 0 c).arrAt_eq_of_covers 12 _ (by decide +kernel) fun t hf y => ?_
  blk_simp
  have ct := (flush0_12 t).mp hf
  rw [after0_12]
  refine Eq.trans ?_ (congrArg _ (emb12 t y).symm)
  exact (congrArg _ (ix3_eta y).symm).trans (wx_acc O t ct _ _ _)

/-- The first gate's offset's gradient after a group's last sequence. -/
theorem ba_acc (t : Fin cfg0.N) (ct : t.val % 4 = 3) (j : Fin 1) (d : Fin 128) :
    (outsAt0 m c t.val t.isLt).2.2.2.2.1 (ix2 j d) = Cert.Reference6Ideal.Rg.out4 (aX m c) (aG m c) (aY m c) (aWA m c) (aBA m c) (aWX m c) (aBX m c) (aL m c) (ix2 j (chan t d)) := by
  rw [Pipeline.eq_sum_fin_of_reset_step_apply_of_flush (fun n h => (outsAt0 m c n h).2.2.2.2.1) 4 (fun _ => 0)
      (fun t i => ((∑ s, (blk E t).dpr (i 1) s : ℝ) : EReal))
      (fun t h i => by rw [ba_A (at_blk O t) h (by omega) i, zero_add])
      (fun t h i => by rw [ba_B (at_blk O t) h (by omega) i, ix2_eta]) t ct _, zero_add,
    Cert.Reference6Ideal.Rg.out4_at O j (chan t d), ← coe_sum]
  refine congrArg _ (Finset.sum_congr rfl fun s _ => Finset.sum_congr rfl fun r _ => ?_)
  show (blk E _).dpr d r = _
  rw [blk_dpr, chan_run t ct s, sq_run t ct s]

/-- The first gate's offset's gradient. -/
theorem final13 : (dats m 0 c).arrAt 13 cfg0.N = Cert.Reference6Ideal.Rg.out4 (aX m c) (aG m c) (aY m c) (aWA m c) (aBA m c) (aWX m c) (aBX m c) (aL m c) := by
  refine (dats m 0 c).arrAt_eq_of_covers 13 _ (by decide +kernel) fun t hf y => ?_
  blk_simp
  have ct := (flush0_13 t).mp hf
  rw [after0_13]
  refine Eq.trans ?_ (congrArg _ (emb13 t y).symm)
  exact (congrArg _ (ix2_eta y).symm).trans (ba_acc O t ct _ _)

/-- The second gate's offset's gradient after a group's last sequence. -/
theorem bx_acc (t : Fin cfg0.N) (ct : t.val % 4 = 3) (j : Fin 1) (d : Fin 128) :
    (outsAt0 m c t.val t.isLt).2.2.2.2.2.1 (ix2 j d) = Cert.Reference6Ideal.Rg.out5 (aX m c) (aG m c) (aY m c) (aWA m c) (aBA m c) (aWX m c) (aBX m c) (aL m c) (ix2 j (chan t d)) := by
  rw [Pipeline.eq_sum_fin_of_reset_step_apply_of_flush (fun n h => (outsAt0 m c n h).2.2.2.2.2.1) 4 (fun _ => 0)
      (fun t i => ((∑ s, (blk E t).dpi (i 1) s : ℝ) : EReal))
      (fun t h i => by rw [bx_A (at_blk O t) h (by omega) i, zero_add])
      (fun t h i => by rw [bx_B (at_blk O t) h (by omega) i, ix2_eta]) t ct _, zero_add,
    Cert.Reference6Ideal.Rg.out5_at O j (chan t d), ← coe_sum]
  refine congrArg _ (Finset.sum_congr rfl fun s _ => Finset.sum_congr rfl fun r _ => ?_)
  show (blk E _).dpi d r = _
  rw [blk_dpi, chan_run t ct s, sq_run t ct s]

/-- The second gate's offset's gradient. -/
theorem final14 : (dats m 0 c).arrAt 14 cfg0.N = Cert.Reference6Ideal.Rg.out5 (aX m c) (aG m c) (aY m c) (aWA m c) (aBA m c) (aWX m c) (aBX m c) (aL m c) := by
  refine (dats m 0 c).arrAt_eq_of_covers 14 _ (by decide +kernel) fun t hf y => ?_
  blk_simp
  have ct := (flush0_14 t).mp hf
  rw [after0_14]
  refine Eq.trans ?_ (congrArg _ (emb14 t y).symm)
  exact (congrArg _ (ix2_eta y).symm).trans (bx_acc O t ct _ _)

/-- The decay parameter's gradient after a group's last sequence. -/
theorem lm_acc (t : Fin cfg0.N) (ct : t.val % 4 = 3) (j : Fin 1) (d : Fin 128) :
    (outsAt0 m c t.val t.isLt).2.2.2.2.2.2 (ix2 j d) = Cert.Reference6Ideal.Rg.out6 (aX m c) (aG m c) (aY m c) (aWA m c) (aBA m c) (aWX m c) (aBX m c) (aL m c) (ix2 j (chan t d)) := by
  rw [Pipeline.eq_sum_fin_of_reset_step_apply_of_flush (fun n h => (outsAt0 m c n h).2.2.2.2.2.2) 4 (fun _ => 0)
      (fun t i => ((-((∑ s, -8 * (blk E t).r (i 1) s * (blk E t).dla (i 1) s) * dsoft (-(blk E t).l (i 1))) : ℝ) : EReal))
      (fun t h i => by rw [lm_A (at_blk O t) h (by omega) i, zero_add])
      (fun t h i => by rw [lm_B (at_blk O t) h (by omega) i, ix2_eta]) t ct _, zero_add,
    Cert.Reference6Ideal.Rg.out6_at O j (chan t d), ← coe_sum]
  rw [Finset.sum_mul, ← Finset.sum_neg_distrib]
  refine congrArg _ (Finset.sum_congr rfl fun s _ => congrArg _ ?_)
  show (∑ r, -8 * (blk E _).r d r * (blk E _).dla d r) * dsoft (-E.l (chan _ d)) = _
  rw [blk_r, blk_dla, chan_run t ct s, sq_run t ct s]

/-- The decay parameter's gradient. -/
theorem final15 : (dats m 0 c).arrAt 15 cfg0.N = Cert.Reference6Ideal.Rg.out6 (aX m c) (aG m c) (aY m c) (aWA m c) (aBA m c) (aWX m c) (aBX m c) (aL m c) := by
  refine (dats m 0 c).arrAt_eq_of_covers 15 _ (by decide +kernel) fun t hf y => ?_
  blk_simp
  have ct := (flush0_15 t).mp hf
  rw [after0_15]
  refine Eq.trans ?_ (congrArg _ (emb15 t y).symm)
  exact (congrArg _ (ix2_eta y).symm).trans (lm_acc O t ct _ _)

end Cert.Kernel6Ideal.Block
-- ==== Proof.Rg.Pre.lean ====
module

public import proofs.«01_k».proof.Defs
public import proofs.«01_k».proof.Proof.Gen.Pre_finite6
public import proofs.«01_k».proof.Proof.Ffn.Pre
public import proofs.«01_k».proof.Proof.Rg.Grad
set_option maxRecDepth 16384

/-! The precondition `finite6`, read entry by entry: the eight arrays hold real numbers. -/

@[expose] public noncomputable section
open Idealize.ShloMosaic Idealize.ShloMosaic.TcCoe Idealize.SL.Sem

namespace Cert.Kernel6Ideal.Block
open Cert.Kernel6Ideal Cert.Kernel6Ideal.Gen Cert.Ffn
variable (m : (ℓ : Loc nD τ sig) → Buf (Elt Ideal) ℓ)

/-- The numbers that the arguments of device `c` hold. -/
def nums (c : Dev nD) : All where
  x b k t := (aX m c (ix3 b t k)).toReal
  g b k t := (aG m c (ix3 b t k)).toReal
  y b k t := (aY m c (ix3 b t k)).toReal
  wa n p q := (aWA m c (ix3 n p q)).toReal
  ba k := (aBA m c (ix1 k)).toReal
  wx n p q := (aWX m c (ix3 n p q)).toReal
  bx k := (aBX m c (ix1 k)).toReal
  l k := (aL m c (ix1 k)).toReal

theorem toReal_of {x : EReal} (h : IsReal x) : x = ((x.toReal : ℝ) : EReal) := by
  obtain ⟨r, rfl⟩ := h
  rw [EReal.toReal_coe]

/-- Under `finite6` the arguments hold those numbers. -/
theorem given_of_pre (h : Cert.Pre_Kernel6Ideal_finite6 m) (c : Dev nD) : Given m c (nums m c) := by
  have e := congrFun (h c) (fun k => k.elim0)
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  have r0 : ∀ i, IsReal (aX m c i) := real_of_all _ _ _ _ _ e0
  have r1 : ∀ i, IsReal (aG m c i) := real_of_all _ _ _ _ _ e1
  have r2 : ∀ i, IsReal (aY m c i) := real_of_all _ _ _ _ _ e2
  have r3 : ∀ i, IsReal (aWA m c i) := real_of_all _ _ _ _ _ e3
  have r4 : ∀ i, IsReal (aBA m c i) := real_of_all _ _ _ _ _ e4
  have r5 : ∀ i, IsReal (aWX m c i) := real_of_all _ _ _ _ _ e5
  have r6 : ∀ i, IsReal (aBX m c i) := real_of_all _ _ _ _ _ e6
  have r7 : ∀ i, IsReal (aL m c i) := real_of_all _ _ _ _ _ e7
  exact { x := fun b t k => toReal_of (r0 _), g := fun b t k => toReal_of (r1 _), y := fun b t k => toReal_of (r2 _)
          wa := fun n p q => toReal_of (r3 _), ba := fun k => toReal_of (r4 _)
          wx := fun n p q => toReal_of (r5 _), bx := fun k => toReal_of (r6 _), l := fun k => toReal_of (r7 _) }

end Cert.Kernel6Ideal.Block
-- ==== Proof.Conv.RefSilu.lean ====
module

public import proofs.«01_k».proof.Proof.Gen.Reference31Ideal.Run
public import proofs.«01_k».proof.Proof.Conv.Ref
public import proofs.«01_k».proof.Proof.Ffn.Real
public import Idealize.ShloMosaic.Lib.KernelVsHost
set_option maxRecDepth 16384

/-! The gradient of the convolution before the gated delta rule, as the reference forms it. -/

@[expose] public noncomputable section
open Idealize.ShloMosaic Idealize.ShloMosaic.TcCoe Idealize.SL.Sem

namespace Cert.Reference31Ideal.Conv
open Cert.Reference31Ideal Cert.Reference31Ideal.Gen
open Cert.Reference4Ideal.Conv (sum01)

variable (X Y : FVec Ideal S4x2048x3072 .f32) (W : FVec Ideal S4x3072 .f32)

/-- A sequence's entry `k` steps later, nothing past the end. -/
def later (k : ℕ) (b : Fin 4) (r : Fin 2048) (q : Fin 3072) : EReal :=
  if h : r.val + k < 2048 then Y (ix3 b ⟨r.val + k, h⟩ q) else 0

/-- A sequence's entry `k` steps earlier, nothing before the start. -/
def earlier (k : ℕ) (b : Fin 4) (r : Fin 2048) (q : Fin 3072) : EReal :=
  if h : k ≤ r.val then X (ix3 b ⟨r.val - k, by omega⟩ q) else 0

/-- The output's gradient times one tap. -/
def tap (j : ℕ) (h : S4x3072.Slices ![j, 0] S1x3072) : FVec Ideal S4x2048x3072 .f32 :=
  mulf Y (broadcastInDim S4x2048x3072 ![0, 1, 2] bcast_S1x1x3072_S4x2048x3072_0_1_2
    (broadcastInDim S1x1x3072 ![2] bcast_S3072_S1x1x3072_2 (shapeCast _ (extractStridedSlice S1x3072 ![j, 0] W h) shapeCasts_S1x3072_S3072)))

/-- An array put `j` steps into a longer one of zeros. -/
def put (P : FVec Ideal S4x2048x3072 .f32) (j i : ℕ) (h : S4x2048x3072.Pads ![0, j, 0] ![0, i, 0] ![0, 0, 0] S4x2051x3072) : FVec Ideal S4x2051x3072 .f32 :=
  pad S4x2051x3072 ![0, j, 0] ![0, i, 0] ![0, 0, 0] P (constant S_ .f32 0x00000000#32) h h_S_

/-- The gradient of the input. -/
def dx : FVec Ideal S8192x3072 .f32 :=
  shapeCast _ (extractStridedSlice S4x2048x3072 ![0, 3, 0] (addf (addf (addf
    (put (tap Y W 3 slices_S4x3072_S1x3072_3_0) 3 0 pads_S4x2048x3072_S4x2051x3072_000_300_000)
    (put (tap Y W 2 slices_S4x3072_S1x3072_2_0) 2 1 pads_S4x2048x3072_S4x2051x3072_000_210_000))
    (put (tap Y W 1 slices_S4x3072_S1x3072_1_0) 1 2 pads_S4x2048x3072_S4x2051x3072_000_120_000))
    (put (tap Y W 0 slices_S4x3072_S1x3072_0_0) 0 3 pads_S4x2048x3072_S4x2051x3072_000_030_000)) slices_S4x2051x3072_S4x2048x3072_0_3_0) shapeCasts_S4x2048x3072_S8192x3072

/-- The product of an output's gradient and a tap. -/
theorem tap_at (j : ℕ) (hj : j < 4) (h) (b : Fin 4) (r : Fin 2048) (q : Fin 3072) : tap Y W j h (ix3 b r q) = Y (ix3 b r q) * W (ix2 ⟨j, hj⟩ q) := by
  pointwise [tap]

/-- An entry of the longer array. -/
theorem put_at (P : FVec Ideal S4x2048x3072 .f32) (j i : ℕ) (hj : j ≤ 3) (h) (b : Fin 4) (r : Fin 2048) (p : Fin 2051) (hp : p.val = 3 + r.val) (q : Fin 3072) :
    put P j i h (ix3 b p q) = later P (3 - j) b r q := by
  unfold put later
  by_cases c : r.val + (3 - j) < 2048
  · rw [dif_pos c]
    refine pad_apply_of_inside _ _ _ _ _ _ _ _ _ fun a => ?_
    fin_cases a
    · show b.val = 0 + b.val * 1; omega
    · show p.val = j + (r.val + (3 - j)) * 1; omega
    · show q.val = 0 + q.val * 1; omega
  · rw [dif_neg c]
    refine (pad_apply_of_not_inside _ _ _ _ _ _ _ _ 1 ?_).trans (by pointwise)
    show ¬(j ≤ p.val ∧ (p.val - j) % 1 = 0 ∧ (p.val - j) / 1 < 2048)
    omega

/-- A product moved is the moved gradient times the tap. -/
theorem later_tap (j : ℕ) (hj : j < 4) (h) (k : ℕ) (b : Fin 4) (r : Fin 2048) (q : Fin 3072) : later (tap Y W j h) k b r q = W (ix2 ⟨j, hj⟩ q) * later Y k b r q := by
  unfold later
  by_cases c : r.val + k < 2048
  · rw [dif_pos c, dif_pos c, tap_at _ _ j hj, mul_comm]
  · rw [dif_neg c, dif_neg c, mul_zero]

/-- An entry of the input's gradient. -/
theorem dx_at (n : Fin 8192) (q : Fin 3072) (b : Fin 4) (r : Fin 2048) (hn : n.val = b.val * 2048 + r.val) : dx Y W (ix2 n q)
    = W (ix2 0 q) * later Y 3 b r q + W (ix2 1 q) * later Y 2 b r q + W (ix2 2 q) * later Y 1 b r q + W (ix2 3 q) * later Y 0 b r q := by
  pointwise [dx]
  have hb : (⟨n.val / 2048, by omega⟩ : Fin 4) = b := Fin.ext (by show n.val / 2048 = b.val; omega)
  have hr : n.val % 2048 = r.val := by omega
  rw [hb, put_at _ 3 0 (by omega) _ b r _ (congrArg (3 + ·) hr) q, put_at _ 2 1 (by omega) _ b r _ (congrArg (3 + ·) hr) q,
    put_at _ 1 2 (by omega) _ b r _ (congrArg (3 + ·) hr) q, put_at _ 0 3 (by omega) _ b r _ (congrArg (3 + ·) hr) q,
    later_tap Y W 3 (by omega), later_tap Y W 2 (by omega), later_tap Y W 1 (by omega), later_tap Y W 0 (by omega)]
  show W (ix2 3 q) * later Y 0 b r q + W (ix2 2 q) * later Y 1 b r q + W (ix2 1 q) * later Y 2 b r q + W (ix2 0 q) * later Y 3 b r q = _
  abel

/-- The input with three empty steps before it. -/
def cat : FVec Ideal S4x2051x3072 .f32 :=
  concatenate S4x2051x3072 1 [⟨S4x3x3072, (broadcastInDim S4x3x3072 ![] bcast_S_S4x3x3072 (constant S_ .f32 0x00000000#32))⟩, ⟨S4x2048x3072, X⟩] concatenates_S4x3x3072_S4x2048x3072_S4x2051x3072_d1

/-- An entry of it. -/
theorem cat_at (j : ℕ) (hj : j ≤ 3) (b : Fin 4) (r : Fin 2048) (p : Fin 2051) (hp : p.val = j + r.val) (q : Fin 3072) :
    cat X (ix3 b p q) = earlier X (3 - j) b r q := by
  pointwise [cat]
  unfold earlier
  by_cases c : 3 - j ≤ r.val
  · rw [dif_neg (by omega), dif_pos c]
    exact congrArg (fun k => X (ix3 b k q)) (Fin.ext (by show p.val - 3 = r.val - (3 - j); omega))
  · rw [dif_pos (by omega), dif_neg c]

/-- A sum over sequences and steps, as the reference forms it. -/
def tot (P : FVec Ideal S4x2048x3072 .f32) : FVec Ideal S3072 .f32 :=
  Host.reduceAdd (shapeCast _ (Host.reduceAdd P (constant S_ .f32 0x00000000#32) reducesTo_S4x2048x3072_S3072_d0_1 h_S_) shapeCasts_S3072_S1x1x3072) (constant S_ .f32 0x00000000#32) reducesTo_S1x1x3072_S3072_d0_1 h_S_

theorem tot_at (P : FVec Ideal S4x2048x3072 .f32) (q : Fin 3072) : tot P (ix1 q) = ∑ b : Fin 4, ∑ r : Fin 2048, P (ix3 b r q) := by
  pointwise [tot, sum01]
  simp only [Fin.sum_univ_one]

/-- A tap's gradient. -/
def dtap (j : ℕ) (h : S4x2051x3072.Slices ![0, j, 0] S4x2048x3072) : FVec Ideal S3072 .f32 :=
  tot (mulf (extractStridedSlice S4x2048x3072 ![0, j, 0] (cat X) h) Y)

/-- A row put into an array of four. -/
def row (v : FVec Ideal S3072 .f32) (j i : ℕ) (h : S1x3072.Pads ![j, 0] ![i, 0] ![0, 0] S4x3072) : FVec Ideal S4x3072 .f32 :=
  pad S4x3072 ![j, 0] ![i, 0] ![0, 0] (broadcastInDim S1x3072 ![1] bcast_S3072_S1x3072_1 v) (constant S_ .f32 0x00000000#32) h h_S_

/-- The gradient of the taps. -/
def dw : FVec Ideal S4x3072 .f32 :=
  addf (addf (addf (row (dtap X Y 3 slices_S4x2051x3072_S4x2048x3072_0_3_0) 3 0 pads_S1x3072_S4x3072_300_000)
    (row (dtap X Y 2 slices_S4x2051x3072_S4x2048x3072_0_2_0) 2 1 pads_S1x3072_S4x3072_210_000))
    (row (dtap X Y 1 slices_S4x2051x3072_S4x2048x3072_0_1_0) 1 2 pads_S1x3072_S4x3072_120_000))
    (row (dtap X Y 0 slices_S4x2051x3072_S4x2048x3072_0_0_0) 0 3 pads_S1x3072_S4x3072_030_000)

/-- An entry of a tap's gradient. -/
theorem dtap_at (j : ℕ) (hj : j ≤ 3) (h) (q : Fin 3072) : dtap X Y j h (ix1 q) = ∑ b : Fin 4, ∑ r : Fin 2048, Y (ix3 b r q) * earlier X (3 - j) b r q := by
  rw [dtap, tot_at]
  refine Finset.sum_congr rfl fun b _ => Finset.sum_congr rfl fun r _ => ?_
  pointwise
  rw [mul_comm]
  exact congrArg _ (cat_at X j hj b r _ rfl q)

/-- An entry of a row among four. -/
theorem row_at (v : FVec Ideal S3072 .f32) (j i : ℕ) (h) (k : Fin 4) (q : Fin 3072) : row v j i h (ix2 k q) = if k.val = j then v (ix1 q) else 0 := by
  unfold row
  by_cases c : k.val = j
  · rw [if_pos c]
    refine (pad_apply_of_inside _ _ _ _ _ _ _ _ (ix2 0 q) fun a => ?_).trans (by pointwise)
    fin_cases a
    · show k.val = j + 0 * 1; omega
    · show q.val = 0 + q.val * 1; omega
  · rw [if_neg c]
    refine (pad_apply_of_not_inside _ _ _ _ _ _ _ _ 0 ?_).trans (by pointwise)
    show ¬(j ≤ k.val ∧ (k.val - j) % 1 = 0 ∧ (k.val - j) / 1 < 1)
    omega

/-- An entry of the taps' gradient. -/
theorem dw_at (k : Fin 4) (q : Fin 3072) : dw X Y (ix2 k q) = ∑ b : Fin 4, ∑ r : Fin 2048, Y (ix3 b r q) * earlier X (3 - k.val) b r q := by
  pointwise [dw]
  simp only [row_at]
  fin_cases k <;> simp [dtap_at]

/-- The moved input times one tap. -/
def ftap (j : ℕ) (h : S4x2051x3072.Slices ![0, j, 0] S4x2048x3072) (h' : S4x3072.Slices ![j, 0] S1x3072) : FVec Ideal S4x2048x3072 .f32 :=
  mulf (extractStridedSlice S4x2048x3072 ![0, j, 0] (cat X) h) (broadcastInDim S4x2048x3072 ![0, 1, 2] bcast_S1x1x3072_S4x2048x3072_0_1_2
    (broadcastInDim S1x1x3072 ![2] bcast_S3072_S1x1x3072_2 (shapeCast _ (extractStridedSlice S1x3072 ![j, 0] W h') shapeCasts_S1x3072_S3072)))

/-- An entry of it. -/
theorem ftap_at (j : ℕ) (hj : j < 4) (h h') (b : Fin 4) (r : Fin 2048) (q : Fin 3072) : ftap X W j h h' (ix3 b r q) = W (ix2 ⟨j, hj⟩ q) * earlier X (3 - j) b r q := by
  pointwise [ftap]
  rw [cat_at X j (by omega) b r _ rfl q, mul_comm]

/-- The four taps added up. -/
def taps : FVec Ideal S4x2048x3072 .f32 :=
  addf (addf (addf (ftap X W 0 slices_S4x2051x3072_S4x2048x3072_0_0_0 slices_S4x3072_S1x3072_0_0) (ftap X W 1 slices_S4x2051x3072_S4x2048x3072_0_1_0 slices_S4x3072_S1x3072_1_0))
    (ftap X W 2 slices_S4x2051x3072_S4x2048x3072_0_2_0 slices_S4x3072_S1x3072_2_0)) (ftap X W 3 slices_S4x2051x3072_S4x2048x3072_0_3_0 slices_S4x3072_S1x3072_3_0)

/-- An entry of the sum, as the kernel spells it. -/
def sumA (b : Fin 4) (r : Fin 2048) (q : Fin 3072) : EReal :=
  W (ix2 0 q) * earlier X 3 b r q + W (ix2 1 q) * earlier X 2 b r q + W (ix2 2 q) * earlier X 1 b r q + W (ix2 3 q) * earlier X 0 b r q

theorem taps_at (b : Fin 4) (r : Fin 2048) (q : Fin 3072) : taps X W (ix3 b r q) = sumA X W b r q :=
  congrArg₂ (· + ·) (congrArg₂ (· + ·) (congrArg₂ (· + ·) (ftap_at X W 0 (by omega) _ _ b r q) (ftap_at X W 1 (by omega) _ _ b r q))
    (ftap_at X W 2 (by omega) _ _ b r q)) (ftap_at X W 3 (by omega) _ _ b r q)

/-- The array of ones. -/
def one : FVec Ideal S4x2048x3072 .f32 := broadcastInDim S4x2048x3072 ![] bcast_S_S4x2048x3072 (constant S_ .f32 0x3F800000#32)

/-- An entry of the logistic function of an array. -/
theorem gate_at (Z : FVec Ideal S4x2048x3072 .f32) (b : Fin 4) (r : Fin 2048) (q : Fin 3072) :
    Host.divf one (addf one (Host.exp (Host.negf Z))) (ix3 b r q) = Ideal.logistic (Z (ix3 b r q)) := by
  pointwise [one]
  rfl

/-- The logistic function of the convolution's sum. -/
def gate : FVec Ideal S4x2048x3072 .f32 := Host.divf one (addf one (Host.exp (Host.negf (taps X W))))

/-- The gradient that arrives at the convolution's sum. -/
def dacc : FVec Ideal S4x2048x3072 .f32 :=
  addf (mulf Y (gate X W)) (mulf (mulf (taps X W) Y) (mulf (gate X W) (subf one (gate X W))))

/-- An entry of it, where the output's gradient is finite. -/
theorem dacc_at (b : Fin 4) (r : Fin 2048) (q : Fin 3072) (hY : Cert.Ffn.IsReal (Y (ix3 b r q))) :
    dacc X Y W (ix3 b r q) = Y (ix3 b r q) * (Ideal.logistic (sumA X W b r q) * (1 + sumA X W b r q * (1 - Ideal.logistic (sumA X W b r q)))) := by
  have e : dacc X Y W (ix3 b r q) = Y (ix3 b r q) * gate X W (ix3 b r q)
      + taps X W (ix3 b r q) * Y (ix3 b r q) * (gate X W (ix3 b r q) * (one (ix3 b r q) - gate X W (ix3 b r q))) := rfl
  have o : one (ix3 b r q) = 1 := by pointwise [one]
  rw [e, o, show gate X W (ix3 b r q) = _ from gate_at (taps X W) b r q, taps_at]
  exact Cert.Ffn.gate_eq _ _ hY

set_option maxHeartbeats 2000000 in
/-- The terms the reference's results are stated with are these. -/
theorem out0_eq (m : (ℓ : Loc nD τ sig) → Buf (Elt Ideal) ℓ) (c : Dev nD) : Value.res_out0 m c
    = dx (dacc (m ((c.tc : Thread nD τ).loc main_arg0)) (m ((c.tc : Thread nD τ).loc main_arg2)) (m ((c.tc : Thread nD τ).loc main_arg1)))
      (m ((c.tc : Thread nD τ).loc main_arg1)) := rfl

set_option maxHeartbeats 2000000 in
theorem out1_eq (m : (ℓ : Loc nD τ sig) → Buf (Elt Ideal) ℓ) (c : Dev nD) : Value.res_out1 m c
    = dw (m ((c.tc : Thread nD τ).loc main_arg0))
      (dacc (m ((c.tc : Thread nD τ).loc main_arg0)) (m ((c.tc : Thread nD τ).loc main_arg2)) (m ((c.tc : Thread nD τ).loc main_arg1))) := rfl

end Cert.Reference31Ideal.Conv
-- ==== Proof.Conv.GradSilu.lean ====
module

public import proofs.«01_k».proof.Proof.Gen.Kernel31Ideal.Frame
public import proofs.«01_k».proof.Proof.Conv.RefSilu
public import proofs.«01_k».proof.Proof.Gen.Pre_finite31
public import proofs.«01_k».proof.Proof.Ffn.Pre
public import Idealize.ShloMosaic.Lib.Pointwise
public import Idealize.ShloMosaic.Lib.IdealHost
public import Idealize.ShloMosaic.Lib.Pipeline.ValueKit
public import Idealize.ShloMosaic.Lib.Pipeline.ReadBack
public import Idealize.ShloMosaic.Lib.Claim
set_option maxRecDepth 16384

/-! The gradient of the convolution before the gated delta rule. A grid point takes one sequence of 2048 steps and 128
    channels. -/

@[expose] public noncomputable section
open Idealize.ShloMosaic Idealize.ShloMosaic.TcCoe Idealize.SL.Sem
open Idealize.ShloMosaic.Pipeline (Dat)

namespace Cert.Kernel31Ideal.Block
open Cert.Kernel31Ideal Cert.Kernel31Ideal.Gen
open Cert.Kernel4Ideal.Block (later earlier padAfter padBefore dxB dwB)
variable (m : (ℓ : Loc nD τ sig) → Buf (Elt Ideal) ℓ)

/-- What is read of the padded output gradient from step `k` on. -/
theorem readAfter (y : FVec Ideal S2048x128 .f32) (k : ℕ) (h1 h2 h3) (r : Fin 2048) (d : Fin 128) :
    (View.whole cc0_scratch1).readCov (Val := Elt Ideal)
      [⟨Rect.unit (s := S2056x128) ![2048, 0] S8x128.size h1, broadcast S8x128 (0 : EReal)⟩,
        ⟨Rect.unit (s := S2056x128) ![0, 0] S2048x128.size h2, y⟩]
      (Rect.unit (s := S2056x128) ![k, 0] S2048x128.size h3).toLoadRect (ix2 r d) = later y k r d := by
  rw [View.readCov_eq_canon']
  refine (View.canon_apply_of_pieces (padAfter y) _ ?_ _ (View.cover_of_tiledBy _ ![8, 128] (by sl_kernel_rfl) _)).trans ?_
  · intro p hp x
    rcases List.mem_cons.mp hp with rfl | hp
    · refine Eq.trans ?_ (dif_neg (show ¬ (2048 + 1 * (x 0).val < 2048) by omega)).symm
      rfl
    · obtain rfl := List.mem_singleton.mp hp
      have hx : (x 0).val < 2048 := (x 0).isLt
      refine Eq.trans ?_ (dif_pos (show 0 + 1 * (x 0).val < 2048 by omega)).symm
      refine congrArg y (funext fun a => ?_)
      fin_cases a
      · exact Fin.ext (by show (x 0).val = 0 + 1 * (x 0).val; omega)
      · exact Fin.ext (by show (x 1).val = 0 + 1 * (x 1).val; omega)
  · unfold padAfter later
    have e : ((Rect.unit (s := S2056x128) ![k, 0] S2048x128.size h3).toLoadRect.idx (ix2 r d) 0).val = r.val + k := by
      show k + 1 * r.val = _; omega
    have e1 : (Rect.unit (s := S2056x128) ![k, 0] S2048x128.size h3).toLoadRect.idx (ix2 r d) 1 = d :=
      Fin.ext (by show 0 + 1 * d.val = _; omega)
    by_cases h : r.val + k < 2048
    · rw [dif_pos (by rw [e]; exact h), dif_pos h]
      exact congrArg y (congrArg₂ ix2 (Fin.ext e) e1)
    · rw [dif_neg (by rw [e]; exact h), dif_neg h]

/-- What is read of the padded input from step `8 - k` on. -/
theorem readBefore (x : FVec Ideal S2048x128 .f32) (o k : ℕ) (ho : o + k = 8) (h1 h2 h3) (r : Fin 2048) (d : Fin 128) :
    (View.whole cc0_scratch0).readCov (Val := Elt Ideal)
      [⟨Rect.unit (s := S2056x128) ![8, 0] S2048x128.size h2, x⟩,
        ⟨Rect.unit (s := S2056x128) ![0, 0] S8x128.size h1, broadcast S8x128 (0 : EReal)⟩]
      (Rect.unit (s := S2056x128) ![o, 0] S2048x128.size h3).toLoadRect (ix2 r d) = earlier x k r d := by
  rw [View.readCov_eq_canon']
  refine (View.canon_apply_of_pieces (padBefore x) _ ?_ _ (View.cover_of_tiledBy _ ![8, 128] (by sl_kernel_rfl) _)).trans ?_
  · intro p hp z
    rcases List.mem_cons.mp hp with rfl | hp
    · have hx : (z 0).val < 2048 := (z 0).isLt
      refine Eq.trans ?_ (dif_pos (show 8 ≤ 8 + 1 * (z 0).val by omega)).symm
      refine congrArg x (funext fun a => ?_)
      fin_cases a
      · exact Fin.ext (by show (z 0).val = 8 + 1 * (z 0).val - 8; omega)
      · exact Fin.ext (by show (z 1).val = 0 + 1 * (z 1).val; omega)
    · obtain rfl := List.mem_singleton.mp hp
      have hx : (z 0).val < 8 := (z 0).isLt
      refine Eq.trans ?_ (dif_neg (show ¬ (8 ≤ 0 + 1 * (z 0).val) by omega)).symm
      rfl
  · unfold padBefore earlier
    have e : ((Rect.unit (s := S2056x128) ![o, 0] S2048x128.size h3).toLoadRect.idx (ix2 r d) 0).val = r.val + o := by
      show o + 1 * r.val = _; omega
    have e1 : (Rect.unit (s := S2056x128) ![o, 0] S2048x128.size h3).toLoadRect.idx (ix2 r d) 1 = d :=
      Fin.ext (by show 0 + 1 * d.val = _; omega)
    by_cases h : k ≤ r.val
    · rw [dif_pos (by rw [e]; omega), dif_pos h]
      exact congrArg x (congrArg₂ ix2 (Fin.ext (by show _ - 8 = r.val - k; rw [e]; omega)) e1)
    · rw [dif_neg (by rw [e]; omega), dif_neg h]

/-- The convolution's sum of a block. -/
def accB (x0 : FVec Ideal S2048x128 .f32) (x1 : FVec Ideal S4x128 .f32) (x2 : FVec Ideal S1x128 .f32) (r : Fin 2048) (d : Fin 128) : EReal :=
  x1 (ix2 0 d) * earlier x0 3 r d + x1 (ix2 1 d) * earlier x0 2 r d + x1 (ix2 2 d) * earlier x0 1 r d + x1 (ix2 3 d) * earlier x0 0 r d + x2 (ix2 0 d)

/-- The sum, from what is read of the padded input. -/
theorem acc_read (x0 : FVec Ideal S2048x128 .f32) (x1 : FVec Ideal S4x128 .f32) (x2 : FVec Ideal S1x128 .f32) (h1 h2 k5 k6 k7 k8) (r : Fin 2048) (d : Fin 128) :
    x1 (ix2 0 d) * (View.whole cc0_scratch0).readCov (Val := Elt Ideal)
      [⟨Rect.unit (s := S2056x128) ![8, 0] S2048x128.size h2, x0⟩,
        ⟨Rect.unit (s := S2056x128) ![0, 0] S8x128.size h1, broadcast S8x128 (0 : EReal)⟩]
      (Rect.unit (s := S2056x128) ![5, 0] S2048x128.size k5).toLoadRect (ix2 r d)
    + x1 (ix2 1 d) * (View.whole cc0_scratch0).readCov (Val := Elt Ideal)
      [⟨Rect.unit (s := S2056x128) ![8, 0] S2048x128.size h2, x0⟩,
        ⟨Rect.unit (s := S2056x128) ![0, 0] S8x128.size h1, broadcast S8x128 (0 : EReal)⟩]
      (Rect.unit (s := S2056x128) ![6, 0] S2048x128.size k6).toLoadRect (ix2 r d)
    + x1 (ix2 2 d) * (View.whole cc0_scratch0).readCov (Val := Elt Ideal)
      [⟨Rect.unit (s := S2056x128) ![8, 0] S2048x128.size h2, x0⟩,
        ⟨Rect.unit (s := S2056x128) ![0, 0] S8x128.size h1, broadcast S8x128 (0 : EReal)⟩]
      (Rect.unit (s := S2056x128) ![7, 0] S2048x128.size k7).toLoadRect (ix2 r d)
    + x1 (ix2 3 d) * (View.whole cc0_scratch0).readCov (Val := Elt Ideal)
      [⟨Rect.unit (s := S2056x128) ![8, 0] S2048x128.size h2, x0⟩,
        ⟨Rect.unit (s := S2056x128) ![0, 0] S8x128.size h1, broadcast S8x128 (0 : EReal)⟩]
      (Rect.unit (s := S2056x128) ![8, 0] S2048x128.size k8).toLoadRect (ix2 r d)
    + x2 (ix2 0 d) = accB x0 x1 x2 r d :=
  congrArg (· + x2 (ix2 0 d)) (congrArg₂ (· + ·) (congrArg₂ (· + ·) (congrArg₂ (· + ·) (congrArg _ (readBefore x0 5 3 rfl h1 h2 k5 r d)) (congrArg _ (readBefore x0 6 2 rfl h1 h2 k6 r d)))
    (congrArg _ (readBefore x0 7 1 rfl h1 h2 k7 r d))) (congrArg _ (readBefore x0 8 0 rfl h1 h2 k8 r d)))

/-- The gradient that arrives at the sum, of one entry. -/
def through (y a : EReal) : EReal := y * (Ideal.logistic a * (1 + a * (1 - Ideal.logistic a)))

/-- That gradient of a block. -/
def daccB (x0 : FVec Ideal S2048x128 .f32) (x1 : FVec Ideal S4x128 .f32) (x2 : FVec Ideal S1x128 .f32) (x3 : FVec Ideal S2048x128 .f32) : FVec Ideal S2048x128 .f32 :=
  fun i => through (x3 (ix2 (i 0) (i 1))) (accB x0 x1 x2 (i 0) (i 1))

/-- The input's gradient, at a first sequence. -/
theorem dx_A (c : Dev nD) (t : Fin cfg0.N) (ca : t.val % 4 = 0) (cb : ¬1 ≤ t.val % 4) (y : S2048x128.Idx) :
    (outsAt0 m c t.val t.isLt).1 y = dxB (iblk m c 1 t) (daccB (iblk m c 0 t) (iblk m c 1 t) (iblk m c 2 t) (iblk m c 3 t)) (y 0) (y 1) := by
  rw [outsAt0_A m c t ca cb ca cb ca cb ca cb ca cb]
  frame_out
  open_payloads
  idx_vars y
  pointwise [dxB, k0_pay14, k0_pay13]
  refine congrArg₂ (· + ·) (congrArg₂ (· + ·) (congrArg₂ (· + ·) (congrArg _ ((readAfter _ _ _ _ _ _ _).trans (congrArg (fun z => later z _ _ _) ?_))) (congrArg _ ((readAfter _ _ _ _ _ _ _).trans (congrArg (fun z => later z _ _ _) ?_))))
    (congrArg _ ((readAfter _ _ _ _ _ _ _).trans (congrArg (fun z => later z _ _ _) ?_)))) (congrArg _ ((readAfter _ _ _ _ _ _ _).trans (congrArg (fun z => later z _ _ _) ?_)))
  all_goals
    funext i
    idx_vars i
    pointwise [daccB, k0_pay11, k0_pay10, k0_pay9, k0_pay8]
    exact congrArg (through _) (acc_read _ _ _ _ _ _ _ _ _ _ _)

/-- The input's gradient, at a later sequence. -/
theorem dx_B (c : Dev nD) (t : Fin cfg0.N) (ca : ¬t.val % 4 = 0) (cb : 1 ≤ t.val % 4) (y : S2048x128.Idx) :
    (outsAt0 m c t.val t.isLt).1 y = dxB (iblk m c 1 t) (daccB (iblk m c 0 t) (iblk m c 1 t) (iblk m c 2 t) (iblk m c 3 t)) (y 0) (y 1) := by
  rw [outsAt0_B m c t ca cb ca cb ca cb ca cb ca cb]
  frame_out
  open_payloads
  idx_vars y
  pointwise [dxB, k0_pay14, k0_pay13]
  refine congrArg₂ (· + ·) (congrArg₂ (· + ·) (congrArg₂ (· + ·) (congrArg _ ((readAfter _ _ _ _ _ _ _).trans (congrArg (fun z => later z _ _ _) ?_))) (congrArg _ ((readAfter _ _ _ _ _ _ _).trans (congrArg (fun z => later z _ _ _) ?_))))
    (congrArg _ ((readAfter _ _ _ _ _ _ _).trans (congrArg (fun z => later z _ _ _) ?_)))) (congrArg _ ((readAfter _ _ _ _ _ _ _).trans (congrArg (fun z => later z _ _ _) ?_)))
  all_goals
    funext i
    idx_vars i
    pointwise [daccB, k0_pay11, k0_pay10, k0_pay9, k0_pay8]
    exact congrArg (through _) (acc_read _ _ _ _ _ _ _ _ _ _ _)

/-- A tap's gradient after the first sequence. -/
theorem dw_A (c : Dev nD) (t : Fin cfg0.N) (ca : t.val % 4 = 0) (cb : ¬1 ≤ t.val % 4) (y : S4x128.Idx) :
    (outsAt0 m c t.val t.isLt).2.1 y = dwB (iblk m c 0 t) (daccB (iblk m c 0 t) (iblk m c 1 t) (iblk m c 2 t) (iblk m c 3 t)) (y 0) (y 1) := by
  rw [outsAt0_A m c t ca cb ca cb ca cb ca cb ca cb]
  frame_out
  canon_tiles x h using View.cover_of_tiledBy _ ![1, 128] (by sl_kernel_rfl) _
  all_goals (open_payloads; idx_vars x; obtain rfl : x0 = 0 := Subsingleton.elim _ _; rw [show y 0 = ⟨_, _⟩ from Fin.ext h0, show y 1 = ⟨_, _⟩ from Fin.ext h1])
  all_goals pointwise [dwB]
  all_goals first
    | exact Finset.sum_congr rfl fun r _ => congrArg₂ (· * ·) (congrArg (through _) (acc_read _ _ _ _ _ _ _ _ _ _ _)) (readBefore _ _ _ rfl _ _ _ r _)
    | decide

/-- A tap's gradient after a later sequence. -/
theorem dw_B (c : Dev nD) (t : Fin cfg0.N) (ca : ¬t.val % 4 = 0) (cb : 1 ≤ t.val % 4) (y : S4x128.Idx) :
    (outsAt0 m c t.val t.isLt).2.1 y = (outsAt0 m c (t.val - 1) (by omega)).2.1 (ix2 (y 0) (y 1)) + dwB (iblk m c 0 t) (daccB (iblk m c 0 t) (iblk m c 1 t) (iblk m c 2 t) (iblk m c 3 t)) (y 0) (y 1) := by
  rw [outsAt0_B m c t ca cb ca cb ca cb ca cb ca cb]
  frame_out
  canon_tiles x h using View.cover_of_tiledBy _ ![1, 128] (by sl_kernel_rfl) _
  all_goals (open_payloads; idx_vars x; obtain rfl : x0 = 0 := Subsingleton.elim _ _; rw [show y 0 = ⟨_, _⟩ from Fin.ext h0, show y 1 = ⟨_, _⟩ from Fin.ext h1])
  all_goals pointwise [dwB, read_unread_whole]
  all_goals first
    | exact congrArg _ (Finset.sum_congr rfl fun r _ => congrArg₂ (· * ·) (congrArg (through _) (acc_read _ _ _ _ _ _ _ _ _ _ _)) (readBefore _ _ _ rfl _ _ _ r _))
    | decide

/-- Which blocks a grid point works on. -/
theorem idx : ∀ t : Fin cfg0.N, win0_0.index t = ![t.val % 4, t.val / 4] ∧ win0_1.index t = ![0, t.val / 4]
    ∧ win0_2.index t = ![0, t.val / 4] ∧ win0_3.index t = ![t.val % 4, t.val / 4] ∧ win0_4.index t = ![t.val % 4, t.val / 4]
    ∧ win0_5.index t = ![0, t.val / 4] ∧ win0_6.index t = ![0, t.val / 4] :=
  (by decide +kernel : ∀ t : Fin grid0.N, _)

/-- How many grid points there are. -/
theorem ltN (t : Fin cfg0.N) : t.val < 96 := lt_of_lt_of_eq t.isLt N_0

/-- The input, the taps and the output's gradient, as device `c` is given them. -/
abbrev aX (c : Dev nD) : FVec Ideal S4x2048x3072 .f32 := m ((c : Thread nD τ).loc main_arg0)
abbrev aW (c : Dev nD) : FVec Ideal S4x3072 .f32 := m ((c : Thread nD τ).loc main_arg1)
abbrev aY (c : Dev nD) : FVec Ideal S4x2048x3072 .f32 := m ((c : Thread nD τ).loc main_arg2)

/-- An entry of the input's block. -/
theorem x_at (c : Dev nD) (t : Fin cfg0.N) (r : Fin 2048) (d : Fin 128) (b : Fin 4) (q : Fin 3072)
    (hb : b.val = t.val % 4) (hq : q.val = t.val / 4 * 128 + d.val) : iblk m c 0 t (ix2 r d) = aX m c (ix3 b r q) := by
  blk_simp [iblk, V, idx t]; entry_read; pointwise; blk_ext [idx t]

/-- An entry of the taps' block. -/
theorem w_at (c : Dev nD) (t : Fin cfg0.N) (j : Fin 4) (d : Fin 128) (q : Fin 3072)
    (hq : q.val = t.val / 4 * 128 + d.val) : iblk m c 1 t (ix2 j d) = aW m c (ix2 j q) := by
  rw [← show V m c main_arg1 = aW m c from V_main_arg1 m c]
  blk_simp [iblk]
  blk_ext [idx t]

/-- The offset's block is empty. -/
theorem b_at (c : Dev nD) (t : Fin cfg0.N) (d : Fin 128) : @Eq EReal (iblk m c 2 t (ix2 0 d)) 0 := by
  blk_simp [iblk, V, idx t]; entry_read; pointwise
  first | done | rfl

/-- An entry of the output gradient's block. -/
theorem y_at (c : Dev nD) (t : Fin cfg0.N) (r : Fin 2048) (d : Fin 128) (b : Fin 4) (q : Fin 3072)
    (hb : b.val = t.val % 4) (hq : q.val = t.val / 4 * 128 + d.val) : iblk m c 3 t (ix2 r d) = aY m c (ix3 b r q) := by
  blk_simp [iblk, V, idx t]; entry_read; pointwise; blk_ext [idx t]

/-- Where a block of a result lies in its array. -/
theorem emb4 (t : Fin cfg0.N) (y : S2048x128.Idx) :
    (win0_4.blk t).view.emb y = ix2 (⟨t.val % 4 * 2048 + (y 0).val, by have := ltN t; have : (y 0).val < 2048 := (y 0).isLt; omega⟩ : Fin 8192)
      (⟨t.val / 4 * 128 + (y 1).val, by have := ltN t; have : (y 1).val < 128 := (y 1).isLt; omega⟩ : Fin 3072) := by
  idx_vars y
  blk_ext [idx t]
theorem emb5 (t : Fin cfg0.N) (y : S4x128.Idx) :
    (win0_5.blk t).view.emb y = ix2 (y 0) (⟨t.val / 4 * 128 + (y 1).val, by have := ltN t; have : (y 1).val < 128 := (y 1).isLt; omega⟩ : Fin 3072) := by
  idx_vars y
  blk_ext [idx t]
/-- The gradient that arrives at the sum, in the whole. -/
abbrev aD (c : Dev nD) : FVec Ideal S4x2048x3072 .f32 := Cert.Reference31Ideal.Conv.dacc (aX m c) (aY m c) (aW m c)

/-- A block's column of the input, moved. -/
theorem earlier_at (c : Dev nD) (t : Fin cfg0.N) (k : ℕ) (r : Fin 2048) (d : Fin 128) (b : Fin 4) (q : Fin 3072)
    (hb : b.val = t.val % 4) (hq : q.val = t.val / 4 * 128 + d.val) :
    earlier (iblk m c 0 t) k r d = Cert.Reference31Ideal.Conv.earlier (aX m c) k b r q := by
  unfold earlier Cert.Reference31Ideal.Conv.earlier
  by_cases h : k ≤ r.val
  · rw [dif_pos h, dif_pos h]; exact x_at m c t _ d b q hb hq
  · rw [dif_neg h, dif_neg h]

/-- A point's sum, in the whole. -/
theorem accB_at (c : Dev nD) (t : Fin cfg0.N) (r : Fin 2048) (d : Fin 128) (b : Fin 4) (q : Fin 3072)
    (hb : b.val = t.val % 4) (hq : q.val = t.val / 4 * 128 + d.val) :
    accB (iblk m c 0 t) (iblk m c 1 t) (iblk m c 2 t) r d = Cert.Reference31Ideal.Conv.sumA (aX m c) (aW m c) b r q := by
  unfold accB Cert.Reference31Ideal.Conv.sumA
  rw [earlier_at m c t 3 r d b q hb hq, earlier_at m c t 2 r d b q hb hq, earlier_at m c t 1 r d b q hb hq, earlier_at m c t 0 r d b q hb hq,
    w_at m c t 0 d q hq, w_at m c t 1 d q hq, w_at m c t 2 d q hq, w_at m c t 3 d q hq, b_at m c t d, add_zero]

/-- An entry of a block's gradient at the sum, in the whole, where the output's gradient is finite. -/
theorem dacc_at (c : Dev nD) (hY : ∀ i, Cert.Ffn.IsReal (aY m c i)) (t : Fin cfg0.N) (r : Fin 2048) (d : Fin 128) (b : Fin 4) (q : Fin 3072)
    (hb : b.val = t.val % 4) (hq : q.val = t.val / 4 * 128 + d.val) :
    daccB (iblk m c 0 t) (iblk m c 1 t) (iblk m c 2 t) (iblk m c 3 t) (ix2 r d) = aD m c (ix3 b r q) := by
  rw [aD, Cert.Reference31Ideal.Conv.dacc_at _ _ _ b r q (hY _)]
  show through (iblk m c 3 t (ix2 r d)) (accB (iblk m c 0 t) (iblk m c 1 t) (iblk m c 2 t) r d) = _
  rw [y_at m c t r d b q hb hq, accB_at m c t r d b q hb hq]
  rfl

/-- A block's column of it, moved. -/
theorem later_at (c : Dev nD) (hY : ∀ i, Cert.Ffn.IsReal (aY m c i)) (t : Fin cfg0.N) (k : ℕ) (r : Fin 2048) (d : Fin 128) (b : Fin 4) (q : Fin 3072)
    (hb : b.val = t.val % 4) (hq : q.val = t.val / 4 * 128 + d.val) :
    later (daccB (iblk m c 0 t) (iblk m c 1 t) (iblk m c 2 t) (iblk m c 3 t)) k r d = Cert.Reference31Ideal.Conv.later (aD m c) k b r q := by
  unfold later Cert.Reference31Ideal.Conv.later
  by_cases h : r.val + k < 2048
  · rw [dif_pos h, dif_pos h]; exact dacc_at m c hY t _ d b q hb hq
  · rw [dif_neg h, dif_neg h]

/-- The input's gradient in a block, in the whole. -/
theorem dx_at (c : Dev nD) (hY : ∀ i, Cert.Ffn.IsReal (aY m c i)) (t : Fin cfg0.N) (r : Fin 2048) (d : Fin 128) (n : Fin 8192) (q : Fin 3072)
    (hn : n.val = t.val % 4 * 2048 + r.val) (hq : q.val = t.val / 4 * 128 + d.val) :
    dxB (iblk m c 1 t) (daccB (iblk m c 0 t) (iblk m c 1 t) (iblk m c 2 t) (iblk m c 3 t)) r d = Cert.Reference31Ideal.Conv.dx (aD m c) (aW m c) (ix2 n q) := by
  have hb : t.val % 4 < 4 := Nat.mod_lt _ (by decide)
  rw [Cert.Reference31Ideal.Conv.dx_at (aD m c) (aW m c) n q ⟨t.val % 4, hb⟩ r hn, dxB]
  simp only [w_at m c t _ d q hq, later_at m c hY t _ r d ⟨t.val % 4, hb⟩ q rfl hq]

/-- The call's first result is the input's gradient. -/
theorem final4 (c : Dev nD) (hY : ∀ i, Cert.Ffn.IsReal (aY m c i)) : (dats m 0 c).arrAt 4 cfg0.N = Cert.Reference31Ideal.Conv.dx (aD m c) (aW m c) := by
  refine (dats m 0 c).arrAt_eq_of_covers 4 _ (by decide +kernel) fun t hf y => ?_
  blk_simp
  rw [after0_4]
  refine Eq.trans ?_ (congrArg _ (emb4 t y).symm)
  by_cases h : t.val % 4 = 0
  · exact (dx_A m c t h (by omega) y).trans (dx_at m c hY t _ _ _ _ rfl rfl)
  · exact (dx_B m c t h (by omega) y).trans (dx_at m c hY t _ _ _ _ rfl rfl)

/-- The taps' gradient after a channel group's last sequence. -/
theorem dw_acc (c : Dev nD) (hY : ∀ i, Cert.Ffn.IsReal (aY m c i)) (t : Fin cfg0.N) (ct : t.val % 4 = 3) (j : Fin 4) (d : Fin 128) (q : Fin 3072) (hq : q.val = t.val / 4 * 128 + d.val) :
    (outsAt0 m c t.val t.isLt).2.1 (ix2 j d) = Cert.Reference31Ideal.Conv.dw (aX m c) (aD m c) (ix2 j q) := by
  rw [Pipeline.eq_sum_fin_of_reset_step_apply_of_flush (fun n h => (outsAt0 m c n h).2.1) 4 (fun _ => 0)
      (fun p i => dwB (iblk m c 0 p) (daccB (iblk m c 0 p) (iblk m c 1 p) (iblk m c 2 p) (iblk m c 3 p)) (i 0) (i 1))
      (fun p h i => by rw [dw_A m c p h (by omega) i, zero_add])
      (fun p h i => by rw [dw_B m c p h (by omega) i, ix2_eta]) t ct _, zero_add, Cert.Reference31Ideal.Conv.dw_at]
  refine Finset.sum_congr rfl fun s _ => Finset.sum_congr rfl fun r _ => ?_
  have hp := Pipeline.run_point_lt_of_flush t ct s
  exact congrArg₂ (· * ·) (dacc_at m c hY ⟨4 * (t.val / 4) + s.val, hp⟩ r d s q (by dsimp only; omega) (by dsimp only; omega))
    (earlier_at m c ⟨4 * (t.val / 4) + s.val, hp⟩ _ r d s q (by dsimp only; omega) (by dsimp only; omega))

/-- The call's second result is the taps' gradient. -/
theorem final5 (c : Dev nD) (hY : ∀ i, Cert.Ffn.IsReal (aY m c i)) : (dats m 0 c).arrAt 5 cfg0.N = Cert.Reference31Ideal.Conv.dw (aX m c) (aD m c) := by
  refine (dats m 0 c).arrAt_eq_of_covers 5 _ (by decide +kernel) fun t hf y => ?_
  blk_simp
  have ct := (flush0_5 t).mp hf
  rw [after0_5]
  refine Eq.trans ?_ (congrArg _ (emb5 t y).symm)
  exact (congrArg _ (ix2_eta y).symm).trans (dw_acc m c hY t ct _ _ _ rfl)

/-- Under `finite31` the output's gradient is real. -/
theorem real_of_pre (h : Cert.Pre_Kernel31Ideal_finite31 m) (c : Dev nD) : ∀ i, Cert.Ffn.IsReal (aY m c i) := by
  have e := congrFun (h c) (fun k => k.elim0)
  dsimp only [Cert.Pre_finite31.fn] at e
  exact Cert.Ffn.real_of_all (aY m c) _ _ _ _ e

end Cert.Kernel31Ideal.Block
-- ==== Proof.Loss.Grad.lean ====
module

public import proofs.«01_k».proof.Proof.Gen.Kernel30Ideal.Frame
public import proofs.«01_k».proof.Proof.Gen.Reference30Ideal.Run
public import Idealize.ShloMosaic.Lib.Pointwise
public import Idealize.ShloMosaic.Lib.IdealHost
public import Idealize.ShloMosaic.Lib.Pipeline.ValueKit
public import Idealize.ShloMosaic.Lib.Pipeline.ReadBack
public import Idealize.ShloMosaic.Lib.Claim
set_option maxRecDepth 16384

/-! The loss's gradient and the sum of squares it is formed from. Each grid point takes 512 rows. -/

@[expose] public noncomputable section
open Idealize.ShloMosaic Idealize.ShloMosaic.TcCoe Idealize.SL.Sem
open Idealize.ShloMosaic.Pipeline (Dat)

namespace Cert.Reference30Ideal.Loss
open Cert.Reference30Ideal Cert.Reference30Ideal.Gen
variable (Y L : FVec Ideal S8192x1024 .f32)

/-- The loss's gradient, as the reference forms it. -/
def dyA : FVec Ideal S8192x1024 .f32 :=
  mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32))))
    (mulf (broadcastInDim S8192x1024 ![] bcast_S_S8192x1024 (constant S_ .f32 0x40000000#32)) (subf Y L))

/-- The sum of squares of every column, as a row. -/
def sqA : FVec Ideal S1x1024 .f32 :=
  broadcastInDim S1x1024 ![1] bcast_S1024_S1x1024_1 (Host.reduceAdd (mulf (subf Y L) (subf Y L)) (constant S_ .f32 0x00000000#32) reducesTo_S8192x1024_S1024_d0 h_S_)

/-- The factor of the gradient, as a kernel's word and as the reference forms it. -/
theorem factor : Ideal.div (Ideal.ofBits .f32 0x3F000000#32 * Ideal.ofBits .f32 0x3F800000#32) (Ideal.ofBits .f32 0x44800000#32) * Ideal.ofBits .f32 0x40000000#32
    = Ideal.ofBits .f32 0x3A800000#32 := by
  have h1 : Ideal.ofBits .f32 0x3F000000#32 = ((1 / 2 : ℝ) : EReal) := by
    simp [Ideal.ofBits, Ideal.ieee, -EReal.coe_mul]; norm_num
  have h2 : Ideal.ofBits .f32 0x44800000#32 = ((1024 : ℝ) : EReal) := by
    simp [Ideal.ofBits, Ideal.ieee, -EReal.coe_mul]; norm_num
  have h3 : Ideal.ofBits .f32 0x40000000#32 = ((2 : ℝ) : EReal) := by
    simp [Ideal.ofBits, Ideal.ieee, -EReal.coe_mul]; norm_num
  have h4 : Ideal.ofBits .f32 0x3A800000#32 = ((1 / 1024 : ℝ) : EReal) := by
    simp [Ideal.ofBits, Ideal.ieee, -EReal.coe_mul]; norm_num
  rw [h1, h2, h3, h4, Ideal.ofBits_one_f32, mul_one]
  rw [show Ideal.div ((1 / 2 : ℝ) : EReal) ((1024 : ℝ) : EReal) = ((1 / 2 / 1024 : ℝ) : EReal) from by
    rw [div_eq_mul_inv (1 / 2 : ℝ) 1024, EReal.coe_mul, EReal.coe_inv]; simp [Ideal.div]]
  rw [← EReal.coe_mul]
  norm_num

/-- An entry of the gradient. -/
theorem dyA_at (n : Fin 8192) (d : Fin 1024) : dyA Y L (ix2 n d) = (Y (ix2 n d) - L (ix2 n d)) * Ideal.ofBits .f32 0x3A800000#32 := by
  rw [← factor, mul_comm, mul_assoc]
  pointwise [dyA]

/-- An entry of the sum of squares. -/
theorem sqA_at (z : Fin 1) (d : Fin 1024) : sqA Y L (ix2 z d)
    = ∑ n : Fin 8192, (Y (ix2 n d) - L (ix2 n d)) * (Y (ix2 n d) - L (ix2 n d)) := by
  pointwise [sqA]

end Cert.Reference30Ideal.Loss

namespace Cert.Kernel30Ideal.Block
open Cert.Kernel30Ideal Cert.Kernel30Ideal.Gen
open Cert.Reference30Ideal.Loss (dyA dyA_at sqA sqA_at)
variable (m : (ℓ : Loc nD τ sig) → Buf (Elt Ideal) ℓ)

/-- Which blocks a grid point works on. -/
theorem idx : ∀ t : Fin cfg0.N, win0_0.index t = ![t.val, 0] ∧ win0_1.index t = ![t.val, 0] ∧ win0_2.index t = ![t.val, 0] ∧ win0_3.index t = ![0, 0] :=
  (by decide +kernel : ∀ t : Fin grid0.N, _)

/-- There are sixteen grid points. -/
theorem lt16 (t : Fin cfg0.N) : t.val < 16 := lt_of_lt_of_eq t.isLt N_0

/-- A point's gradient. -/
def dyB (x0 x1 : FVec Ideal S512x1024 .f32) (r : Fin 512) (d : Fin 1024) : EReal :=
  (x0 (ix2 r d) - x1 (ix2 r d)) * Ideal.ofBits .f32 0x3A800000#32

/-- The square of an entry's difference. -/
def sqT (x0 x1 : FVec Ideal S512x1024 .f32) (r : Fin 512) (d : Fin 1024) : EReal :=
  (x0 (ix2 r d) - x1 (ix2 r d)) * (x0 (ix2 r d) - x1 (ix2 r d))

/-- What a point adds to a column's sum of squares. -/
def sqB (x0 x1 : FVec Ideal S512x1024 .f32) (d : Fin 1024) : EReal :=
  ∑ r : Fin 512, sqT x0 x1 r d

theorem dy_A (c : Dev nD) (t : Fin cfg0.N) (h0 : t.val % 16 = 0) (h1 : ¬1 ≤ t.val) (y : S512x1024.Idx) :
    (outsAt0 m c t.val t.isLt).1 y = dyB (iblk m c 0 t) (iblk m c 1 t) (y 0) (y 1) := by
  rw [outsAt0_A m c t h0 h1]
  frame_out
  idx_vars y
  pointwise [k0_pay1, k0_pay2, dyB]
theorem dy_B (c : Dev nD) (t : Fin cfg0.N) (h0 : ¬t.val % 16 = 0) (h1 : 1 ≤ t.val) (y : S512x1024.Idx) :
    (outsAt0 m c t.val t.isLt).1 y = dyB (iblk m c 0 t) (iblk m c 1 t) (y 0) (y 1) := by
  rw [outsAt0_B m c t h0 h1]
  frame_out
  idx_vars y
  pointwise [k0_pay1, k0_pay2, dyB]
theorem sq_A (c : Dev nD) (t : Fin cfg0.N) (h0 : t.val % 16 = 0) (h1 : ¬1 ≤ t.val) (y : S1x1024.Idx) :
    (outsAt0 m c t.val t.isLt).2 y = sqB (iblk m c 0 t) (iblk m c 1 t) (y 1) := by
  rw [outsAt0_A m c t h0 h1]
  frame_out
  idx_vars y
  pointwise [k0_pay1, k0_pay3, sqB, sqT]
theorem sq_B (c : Dev nD) (t : Fin cfg0.N) (h0 : ¬t.val % 16 = 0) (h1 : 1 ≤ t.val) (y : S1x1024.Idx) :
    (outsAt0 m c t.val t.isLt).2 y = (outsAt0 m c (t.val - 1) (by omega)).2 (ix2 (y 0) (y 1)) + sqB (iblk m c 0 t) (iblk m c 1 t) (y 1) := by
  rw [outsAt0_B m c t h0 h1]
  frame_out
  idx_vars y
  pointwise [k0_pay1, k0_pay3, k0_pay4, sqB, sqT, read_unread_whole]

/-- The forward's result and the target, as device `c` is given them. -/
abbrev aY (c : Dev nD) : FVec Ideal S8192x1024 .f32 := m ((c : Thread nD τ).loc main_arg0)
abbrev aL (c : Dev nD) : FVec Ideal S8192x1024 .f32 := m ((c : Thread nD τ).loc main_arg1)

/-- The blocks, read in the whole arrays. -/
theorem y_at (c : Dev nD) (t : Fin cfg0.N) (r : Fin 512) (d : Fin 1024) (n : Fin 8192) (hn : n.val = t.val * 512 + r.val) :
    iblk m c 0 t (ix2 r d) = aY m c (ix2 n d) := by
  rw [← show V m c main_arg0 = aY m c from V_main_arg0 m c]
  blk_simp [iblk]
  blk_ext [idx t]
theorem l_at (c : Dev nD) (t : Fin cfg0.N) (r : Fin 512) (d : Fin 1024) (n : Fin 8192) (hn : n.val = t.val * 512 + r.val) :
    iblk m c 1 t (ix2 r d) = aL m c (ix2 n d) := by
  rw [← show V m c main_arg1 = aL m c from V_main_arg1 m c]
  blk_simp [iblk]
  blk_ext [idx t]

/-- A point's gradient, in the whole. -/
theorem dyB_at (c : Dev nD) (t : Fin cfg0.N) (r : Fin 512) (d : Fin 1024) (n : Fin 8192) (hn : n.val = t.val * 512 + r.val) :
    dyB (iblk m c 0 t) (iblk m c 1 t) r d = dyA (aY m c) (aL m c) (ix2 n d) := by
  rw [dyA_at, dyB, y_at m c t r d n hn, l_at m c t r d n hn]

/-- A square, in the whole. -/
theorem sqT_at (c : Dev nD) (t : Fin cfg0.N) (r : Fin 512) (d : Fin 1024) (n : Fin 8192) (hn : n.val = t.val * 512 + r.val) :
    sqT (iblk m c 0 t) (iblk m c 1 t) r d = (aY m c (ix2 n d) - aL m c (ix2 n d)) * (aY m c (ix2 n d) - aL m c (ix2 n d)) := by
  rw [sqT, y_at m c t r d n hn, l_at m c t r d n hn]

/-- A column's sum of squares after the last point. -/
theorem sq_acc (c : Dev nD) (t : Fin cfg0.N) (ct : t.val % 16 = 15) (d : Fin 1024) :
    (outsAt0 m c t.val t.isLt).2 (ix2 0 d) = sqA (aY m c) (aL m c) (ix2 0 d) := by
  rw [Pipeline.eq_sum_fin_of_reset_step_apply_of_flush (fun n h => (outsAt0 m c n h).2) 16 (fun _ => 0)
      (fun p i => sqB (iblk m c 0 p) (iblk m c 1 p) (i 1))
      (fun p h i => by have := lt16 p; rw [sq_A m c p h (by omega) i, zero_add])
      (fun p h i => by rw [sq_B m c p h (by omega) i, ix2_eta]) t ct _, zero_add, sqA_at]
  refine Fin.sum_mul_add_congr fun s r hr => ?_
  have hp := Pipeline.run_point_lt_of_flush t ct s
  have := lt16 t
  exact sqT_at m c ⟨16 * (t.val / 16) + s.val, hp⟩ r d _ (by dsimp only; omega)

/-- Where a block of a result lies in its array. -/
theorem emb2 (t : Fin cfg0.N) (y : S512x1024.Idx) :
    (win0_2.blk t).view.emb y = ix2 (⟨t.val * 512 + (y 0).val, by have := lt16 t; have : (y 0).val < 512 := (y 0).isLt; omega⟩ : Fin 8192) (y 1) := by
  idx_vars y
  blk_ext [idx t]
theorem emb3 (t : Fin cfg0.N) (y : S1x1024.Idx) : (win0_3.blk t).view.emb y = ix2 0 (y 1) := by
  idx_vars y
  blk_ext [idx t]

/-- The call's first result is the loss's gradient. -/
theorem final2 (c : Dev nD) : (dats m 0 c).arrAt 2 cfg0.N = dyA (aY m c) (aL m c) := by
  refine (dats m 0 c).arrAt_eq_of_covers 2 _ (by decide +kernel) fun t hf y => ?_
  blk_simp
  rw [after0_2]
  refine Eq.trans ?_ (congrArg _ (emb2 t y).symm)
  have := lt16 t
  by_cases h : t.val % 16 = 0
  · exact (dy_A m c t h (by omega) y).trans (dyB_at m c t _ _ _ rfl)
  · exact (dy_B m c t h (by omega) y).trans (dyB_at m c t _ _ _ rfl)

/-- The second is the sum of squares. -/
theorem final3 (c : Dev nD) : (dats m 0 c).arrAt 3 cfg0.N = sqA (aY m c) (aL m c) := by
  refine (dats m 0 c).arrAt_eq_of_covers 3 _ (by decide +kernel) fun t hf y => ?_
  blk_simp
  have ct := (flush0_3 t).mp hf
  rw [after0_3]
  refine Eq.trans ?_ (congrArg _ (emb3 t y).symm)
  have ey : ∀ z : (⟨2, ![1, 1024]⟩ : Shape).Idx, z = ix2 0 (z 1) := fun z =>
    (ix2_eta z).symm.trans (congrArg (fun q => ix2 q (z 1)) (Subsingleton.elim (α := Fin 1) (z 0) 0))
  exact (congrArg _ (ey y)).trans (sq_acc m c t ct (y 1))

end Cert.Kernel30Ideal.Block
-- ==== Proof.Conv.ForwardSilu.lean ====
module

public import proofs.«01_k».proof.Proof.Gen.Kernel29Ideal.Frame
public import proofs.«01_k».proof.Proof.Gen.Reference29Ideal.Run
public import proofs.«01_k».proof.Proof.Conv.Block
public import Idealize.ShloMosaic.Lib.KernelVsHost
set_option maxRecDepth 16384

/-! The convolution before the gated delta rule. A grid point takes one sequence of 2048 steps and 128 channels. -/

@[expose] public noncomputable section
open Idealize.ShloMosaic Idealize.ShloMosaic.TcCoe Idealize.SL.Sem
open Idealize.ShloMosaic.Pipeline (Dat)

namespace Cert.Reference29Ideal.Conv
open Cert.Reference29Ideal Cert.Reference29Ideal.Gen
variable (X : FVec Ideal S4x2048x3072 .f32) (W : FVec Ideal S4x3072 .f32)

/-- A sequence's entry `k` steps earlier, nothing before the start. -/
def earlier (k : ℕ) (b : Fin 4) (r : Fin 2048) (q : Fin 3072) : EReal :=
  if h : k ≤ r.val then X (ix3 b ⟨r.val - k, by omega⟩ q) else 0

/-- The input with three empty steps before it. -/
def cat : FVec Ideal S4x2051x3072 .f32 :=
  concatenate S4x2051x3072 1 [⟨S4x3x3072, (broadcastInDim S4x3x3072 ![] bcast_S_S4x3x3072 (constant S_ .f32 0x00000000#32))⟩, ⟨S4x2048x3072, X⟩] concatenates_S4x3x3072_S4x2048x3072_S4x2051x3072_d1

/-- An entry of it. -/
theorem cat_at (j : ℕ) (hj : j ≤ 3) (b : Fin 4) (r : Fin 2048) (p : Fin 2051) (hp : p.val = j + r.val) (q : Fin 3072) :
    cat X (ix3 b p q) = earlier X (3 - j) b r q := by
  pointwise [cat]
  unfold earlier
  by_cases c : 3 - j ≤ r.val
  · rw [dif_neg (by omega), dif_pos c]
    exact congrArg (fun k => X (ix3 b k q)) (Fin.ext (by show p.val - 3 = r.val - (3 - j); omega))
  · rw [dif_pos (by omega), dif_neg c]

/-- The moved input times one tap. -/
def tap (j : ℕ) (h : S4x2051x3072.Slices ![0, j, 0] S4x2048x3072) (h' : S4x3072.Slices ![j, 0] S1x3072) : FVec Ideal S4x2048x3072 .f32 :=
  mulf (extractStridedSlice S4x2048x3072 ![0, j, 0] (cat X) h) (broadcastInDim S4x2048x3072 ![0, 1, 2] bcast_S1x1x3072_S4x2048x3072_0_1_2
    (broadcastInDim S1x1x3072 ![2] bcast_S3072_S1x1x3072_2 (shapeCast _ (extractStridedSlice S1x3072 ![j, 0] W h') shapeCasts_S1x3072_S3072)))

/-- An entry of it. -/
theorem tap_at (j : ℕ) (hj : j < 4) (h h') (b : Fin 4) (r : Fin 2048) (q : Fin 3072) : tap X W j h h' (ix3 b r q) = W (ix2 ⟨j, hj⟩ q) * earlier X (3 - j) b r q := by
  pointwise [tap]
  rw [cat_at X j (by omega) b r _ rfl q, mul_comm]

/-- The four taps added up. -/
def taps : FVec Ideal S4x2048x3072 .f32 :=
  addf (addf (addf (tap X W 0 slices_S4x2051x3072_S4x2048x3072_0_0_0 slices_S4x3072_S1x3072_0_0) (tap X W 1 slices_S4x2051x3072_S4x2048x3072_0_1_0 slices_S4x3072_S1x3072_1_0))
    (tap X W 2 slices_S4x2051x3072_S4x2048x3072_0_2_0 slices_S4x3072_S1x3072_2_0)) (tap X W 3 slices_S4x2051x3072_S4x2048x3072_0_3_0 slices_S4x3072_S1x3072_3_0)

/-- An entry of the sum, as the kernel spells it. -/
def sumA (b : Fin 4) (r : Fin 2048) (q : Fin 3072) : EReal :=
  W (ix2 0 q) * earlier X 3 b r q + W (ix2 1 q) * earlier X 2 b r q + W (ix2 2 q) * earlier X 1 b r q + W (ix2 3 q) * earlier X 0 b r q

theorem taps_at (b : Fin 4) (r : Fin 2048) (q : Fin 3072) : taps X W (ix3 b r q) = sumA X W b r q :=
  congrArg₂ (· + ·) (congrArg₂ (· + ·) (congrArg₂ (· + ·) (tap_at X W 0 (by omega) _ _ b r q) (tap_at X W 1 (by omega) _ _ b r q))
    (tap_at X W 2 (by omega) _ _ b r q)) (tap_at X W 3 (by omega) _ _ b r q)

/-- The array of ones. -/
def one : FVec Ideal S4x2048x3072 .f32 := broadcastInDim S4x2048x3072 ![] bcast_S_S4x2048x3072 (constant S_ .f32 0x3F800000#32)

/-- The convolution's result: the sum times its logistic function. -/
def outA : FVec Ideal S8192x3072 .f32 :=
  shapeCast _ (mulf (taps X W) (Host.divf one (addf one (Host.exp (Host.negf (taps X W)))))) shapeCasts_S4x2048x3072_S8192x3072

theorem gate_at (Z : FVec Ideal S4x2048x3072 .f32) (b : Fin 4) (r : Fin 2048) (q : Fin 3072) :
    Host.divf one (addf one (Host.exp (Host.negf Z))) (ix3 b r q) = Ideal.logistic (Z (ix3 b r q)) := by
  pointwise [one]
  rfl

/-- An entry of it. -/
theorem outA_at (n : Fin 8192) (q : Fin 3072) (b : Fin 4) (r : Fin 2048) (hn : n.val = b.val * 2048 + r.val) :
    outA X W (ix2 n q) = sumA X W b r q * Ideal.logistic (sumA X W b r q) := by
  have hb : (⟨n.val / 2048, by omega⟩ : Fin 4) = b := Fin.ext (by show n.val / 2048 = b.val; omega)
  have hr : (⟨n.val % 2048, by omega⟩ : Fin 2048) = r := Fin.ext (by show n.val % 2048 = r.val; omega)
  unfold outA
  generalize hZ : Host.divf one (addf one (Host.exp (Host.negf (taps X W)))) = Z
  pointwise
  rw [hb, hr, ← hZ, gate_at, taps_at]

/-- The term the reference's result is stated with is this. -/
theorem out0_eq (m : (ℓ : Loc nD τ sig) → Buf (Elt Ideal) ℓ) (c : Dev nD) : Value.res_out0 m c
    = outA (m ((c.tc : Thread nD τ).loc main_arg0)) (m ((c.tc : Thread nD τ).loc main_arg1)) := rfl

end Cert.Reference29Ideal.Conv

namespace Cert.Kernel29Ideal.Block
open Cert.Kernel29Ideal Cert.Kernel29Ideal.Gen
open Cert.Kernel4Ideal.Block (earlier padBefore)
open Cert.Reference29Ideal.Conv (outA outA_at sumA)
variable (m : (ℓ : Loc nD τ sig) → Buf (Elt Ideal) ℓ)

/-- What is read of the padded input from step `8 - k` on. -/
theorem readBefore (x : FVec Ideal S2048x128 .f32) (o k : ℕ) (ho : o + k = 8) (h1 h2 h3) (r : Fin 2048) (d : Fin 128) :
    (View.whole cc0_scratch0).readCov (Val := Elt Ideal)
      [⟨Rect.unit (s := S2056x128) ![8, 0] S2048x128.size h2, x⟩,
        ⟨Rect.unit (s := S2056x128) ![0, 0] S8x128.size h1, broadcast S8x128 (0 : EReal)⟩]
      (Rect.unit (s := S2056x128) ![o, 0] S2048x128.size h3).toLoadRect (ix2 r d) = earlier x k r d := by
  rw [View.readCov_eq_canon']
  refine (View.canon_apply_of_pieces (padBefore x) _ ?_ _ (View.cover_of_tiledBy _ ![8, 128] (by sl_kernel_rfl) _)).trans ?_
  · intro p hp z
    rcases List.mem_cons.mp hp with rfl | hp
    · have hx : (z 0).val < 2048 := (z 0).isLt
      refine Eq.trans ?_ (dif_pos (show 8 ≤ 8 + 1 * (z 0).val by omega)).symm
      refine congrArg x (funext fun a => ?_)
      fin_cases a
      · exact Fin.ext (by show (z 0).val = 8 + 1 * (z 0).val - 8; omega)
      · exact Fin.ext (by show (z 1).val = 0 + 1 * (z 1).val; omega)
    · obtain rfl := List.mem_singleton.mp hp
      have hx : (z 0).val < 8 := (z 0).isLt
      refine Eq.trans ?_ (dif_neg (show ¬ (8 ≤ 0 + 1 * (z 0).val) by omega)).symm
      rfl
  · unfold padBefore earlier
    have e : ((Rect.unit (s := S2056x128) ![o, 0] S2048x128.size h3).toLoadRect.idx (ix2 r d) 0).val = r.val + o := by
      show o + 1 * r.val = _; omega
    have e1 : (Rect.unit (s := S2056x128) ![o, 0] S2048x128.size h3).toLoadRect.idx (ix2 r d) 1 = d :=
      Fin.ext (by show 0 + 1 * d.val = _; omega)
    by_cases h : k ≤ r.val
    · rw [dif_pos (by rw [e]; omega), dif_pos h]
      exact congrArg x (congrArg₂ ix2 (Fin.ext (by show _ - 8 = r.val - k; rw [e]; omega)) e1)
    · rw [dif_neg (by rw [e]; omega), dif_neg h]

/-- The convolution's sum of a block. -/
def accB (x0 : FVec Ideal S2048x128 .f32) (x1 : FVec Ideal S4x128 .f32) (x2 : FVec Ideal S1x128 .f32) (r : Fin 2048) (d : Fin 128) : EReal :=
  x1 (ix2 0 d) * earlier x0 3 r d + x1 (ix2 1 d) * earlier x0 2 r d + x1 (ix2 2 d) * earlier x0 1 r d + x1 (ix2 3 d) * earlier x0 0 r d + x2 (ix2 0 d)

/-- What a grid point stores. -/
def outB (x0 : FVec Ideal S2048x128 .f32) (x1 : FVec Ideal S4x128 .f32) (x2 : FVec Ideal S1x128 .f32) (r : Fin 2048) (d : Fin 128) : EReal :=
  accB x0 x1 x2 r d * Ideal.logistic (accB x0 x1 x2 r d)

theorem point (c : Dev nD) (t : Fin cfg0.N) (y : S2048x128.Idx) :
    outsAt0 m c t y = outB (iblk m c 0 t) (iblk m c 1 t) (iblk m c 2 t) (y 0) (y 1) := by
  unfold outsAt0
  frame_out
  open_payloads
  idx_vars y
  pointwise [outB, accB, k0_pay1, k0_pay4, k0_pay5]
  exact congrArg (fun z => z * Ideal.logistic z) (congrArg (· + _) (congrArg₂ (· + ·) (congrArg₂ (· + ·) (congrArg₂ (· + ·) (congrArg _ (readBefore _ _ _ rfl _ _ _ _ _)) (congrArg _ (readBefore _ _ _ rfl _ _ _ _ _)))
    (congrArg _ (readBefore _ _ _ rfl _ _ _ _ _))) (congrArg _ (readBefore _ _ _ rfl _ _ _ _ _))))

/-- Which blocks a grid point works on. -/
theorem idx : ∀ t : Fin cfg0.N, win0_0.index t = ![t.val / 24, t.val % 24] ∧ win0_1.index t = ![0, t.val % 24]
    ∧ win0_2.index t = ![0, t.val % 24] ∧ win0_3.index t = ![t.val / 24, t.val % 24] :=
  (by decide +kernel : ∀ t : Fin grid0.N, _)

/-- How many grid points there are. -/
theorem ltN (t : Fin cfg0.N) : t.val < 96 := lt_of_lt_of_eq t.isLt N_0

/-- The input and the taps, as device `c` is given them. -/
abbrev aX (c : Dev nD) : FVec Ideal S4x2048x3072 .f32 := m ((c : Thread nD τ).loc main_arg0)
abbrev aW (c : Dev nD) : FVec Ideal S4x3072 .f32 := m ((c : Thread nD τ).loc main_arg1)

/-- The blocks, read in the whole arrays. -/
theorem x_at (c : Dev nD) (t : Fin cfg0.N) (r : Fin 2048) (d : Fin 128) (b : Fin 4) (q : Fin 3072)
    (hb : b.val = t.val / 24) (hq : q.val = t.val % 24 * 128 + d.val) : iblk m c 0 t (ix2 r d) = aX m c (ix3 b r q) := by
  blk_simp [iblk, V, idx t]; entry_read; pointwise; blk_ext [idx t]
theorem w_at (c : Dev nD) (t : Fin cfg0.N) (j : Fin 4) (d : Fin 128) (q : Fin 3072)
    (hq : q.val = t.val % 24 * 128 + d.val) : iblk m c 1 t (ix2 j d) = aW m c (ix2 j q) := by
  rw [← show V m c main_arg1 = aW m c from V_main_arg1 m c]
  blk_simp [iblk]
  blk_ext [idx t]
theorem b_at (c : Dev nD) (t : Fin cfg0.N) (d : Fin 128) (q : Fin 3072) (hq : q.val = t.val % 24 * 128 + d.val) :
    @Eq EReal (iblk m c 2 t (ix2 0 d)) 0 := by
  blk_simp [iblk, V, idx t]; entry_read; pointwise
  first | done | rfl
theorem e_at (c : Dev nD) (t : Fin cfg0.N) (k : ℕ) (r : Fin 2048) (d : Fin 128) (b : Fin 4) (q : Fin 3072)
    (hb : b.val = t.val / 24) (hq : q.val = t.val % 24 * 128 + d.val) : earlier (iblk m c 0 t) k r d = Cert.Reference29Ideal.Conv.earlier (aX m c) k b r q := by
  unfold earlier Cert.Reference29Ideal.Conv.earlier
  by_cases h : k ≤ r.val
  · rw [dif_pos h, dif_pos h, x_at m c t _ d b q hb hq]
  · rw [dif_neg h, dif_neg h]

/-- A point's sum, in the whole. -/
theorem accB_at (c : Dev nD) (t : Fin cfg0.N) (r : Fin 2048) (d : Fin 128) (b : Fin 4) (q : Fin 3072)
    (hb : b.val = t.val / 24) (hq : q.val = t.val % 24 * 128 + d.val) :
    accB (iblk m c 0 t) (iblk m c 1 t) (iblk m c 2 t) r d = sumA (aX m c) (aW m c) b r q + 0 := by
  unfold accB sumA
  rw [e_at m c t 3 r d b q hb hq, e_at m c t 2 r d b q hb hq, e_at m c t 1 r d b q hb hq, e_at m c t 0 r d b q hb hq,
    w_at m c t 0 d q hq, w_at m c t 1 d q hq, w_at m c t 2 d q hq, w_at m c t 3 d q hq, b_at m c t d q hq]

/-- Where a block of the result lies in its array. -/
theorem emb3 (t : Fin cfg0.N) (y : S2048x128.Idx) :
    (win0_3.blk t).view.emb y = ix2 (⟨t.val / 24 * 2048 + (y 0).val, by have := ltN t; have : (y 0).val < 2048 := (y 0).isLt; omega⟩ : Fin 8192)
      (⟨t.val % 24 * 128 + (y 1).val, by have := ltN t; have : (y 1).val < 128 := (y 1).isLt; omega⟩ : Fin 3072) := by
  idx_vars y
  blk_ext [idx t]

/-- The call's result is the convolution's. -/
theorem final3 (c : Dev nD) : (dats m 0 c).arrAt 3 cfg0.N = outA (aX m c) (aW m c) := by
  refine (dats m 0 c).arrAt_eq_of_covers 3 _ (by decide +kernel) fun t hf y => ?_
  blk_simp
  rw [after0_3, point]
  refine Eq.trans ?_ (congrArg _ (emb3 t y).symm)
  have := ltN t
  have h1 : (y 1).val < 128 := (y 1).isLt
  rw [outA_at _ _ _ _ ⟨t.val / 24, by omega⟩ (y 0) rfl]
  unfold outB
  rw [accB_at m c t (y 0) (y 1) ⟨t.val / 24, by omega⟩ ⟨t.val % 24 * 128 + (y 1).val, by omega⟩ rfl rfl, add_zero]

end Cert.Kernel29Ideal.Block
-- ==== Proof.Conv.Forward.lean ====
module

public import proofs.«01_k».proof.Proof.Gen.Kernel28Ideal.Frame
public import proofs.«01_k».proof.Proof.Gen.Reference28Ideal.Run
public import proofs.«01_k».proof.Proof.Conv.Block
public import Idealize.ShloMosaic.Lib.KernelVsHost
set_option maxRecDepth 16384

/-! The short convolution's forward call. A grid point takes one sequence of 2048 steps and 128 channels. -/

@[expose] public noncomputable section
open Idealize.ShloMosaic Idealize.ShloMosaic.TcCoe Idealize.SL.Sem
open Idealize.ShloMosaic.Pipeline (Dat)

namespace Cert.Reference28Ideal.Conv
open Cert.Reference28Ideal Cert.Reference28Ideal.Gen
variable (X : FVec Ideal S4x2048x512 .f32) (W : FVec Ideal S4x512 .f32) (B : FVec Ideal S512 .f32)

/-- A sequence's entry `k` steps earlier, nothing before the start. -/
def earlier (k : ℕ) (b : Fin 4) (r : Fin 2048) (q : Fin 512) : EReal :=
  if h : k ≤ r.val then X (ix3 b ⟨r.val - k, by omega⟩ q) else 0

/-- The input with three empty steps before it. -/
def cat : FVec Ideal S4x2051x512 .f32 :=
  concatenate S4x2051x512 1 [⟨S4x3x512, (broadcastInDim S4x3x512 ![] bcast_S_S4x3x512 (constant S_ .f32 0x00000000#32))⟩, ⟨S4x2048x512, X⟩] concatenates_S4x3x512_S4x2048x512_S4x2051x512_d1

/-- An entry of it. -/
theorem cat_at (j : ℕ) (hj : j ≤ 3) (b : Fin 4) (r : Fin 2048) (p : Fin 2051) (hp : p.val = j + r.val) (q : Fin 512) :
    cat X (ix3 b p q) = earlier X (3 - j) b r q := by
  pointwise [cat]
  unfold earlier
  by_cases c : 3 - j ≤ r.val
  · rw [dif_neg (by omega), dif_pos c]
    exact congrArg (fun k => X (ix3 b k q)) (Fin.ext (by show p.val - 3 = r.val - (3 - j); omega))
  · rw [dif_pos (by omega), dif_neg c]

/-- The moved input times one tap. -/
def tap (j : ℕ) (h : S4x2051x512.Slices ![0, j, 0] S4x2048x512) (h' : S4x512.Slices ![j, 0] S1x512) : FVec Ideal S4x2048x512 .f32 :=
  mulf (extractStridedSlice S4x2048x512 ![0, j, 0] (cat X) h) (broadcastInDim S4x2048x512 ![0, 1, 2] bcast_S1x1x512_S4x2048x512_0_1_2
    (broadcastInDim S1x1x512 ![2] bcast_S512_S1x1x512_2 (shapeCast _ (extractStridedSlice S1x512 ![j, 0] W h') shapeCasts_S1x512_S512)))

/-- An entry of it. -/
theorem tap_at (j : ℕ) (hj : j < 4) (h h') (b : Fin 4) (r : Fin 2048) (q : Fin 512) : tap X W j h h' (ix3 b r q) = W (ix2 ⟨j, hj⟩ q) * earlier X (3 - j) b r q := by
  pointwise [tap]
  rw [cat_at X j (by omega) b r _ rfl q, mul_comm]

/-- The four taps added up. -/
def taps : FVec Ideal S4x2048x512 .f32 :=
  addf (addf (addf (tap X W 0 slices_S4x2051x512_S4x2048x512_0_0_0 slices_S4x512_S1x512_0_0) (tap X W 1 slices_S4x2051x512_S4x2048x512_0_1_0 slices_S4x512_S1x512_1_0))
    (tap X W 2 slices_S4x2051x512_S4x2048x512_0_2_0 slices_S4x512_S1x512_2_0)) (tap X W 3 slices_S4x2051x512_S4x2048x512_0_3_0 slices_S4x512_S1x512_3_0)

/-- An entry of the sum, as the kernel spells it. -/
def sumA (b : Fin 4) (r : Fin 2048) (q : Fin 512) : EReal :=
  W (ix2 0 q) * earlier X 3 b r q + W (ix2 1 q) * earlier X 2 b r q + W (ix2 2 q) * earlier X 1 b r q + W (ix2 3 q) * earlier X 0 b r q

theorem taps_at (b : Fin 4) (r : Fin 2048) (q : Fin 512) : taps X W (ix3 b r q) = sumA X W b r q :=
  congrArg₂ (· + ·) (congrArg₂ (· + ·) (congrArg₂ (· + ·) (tap_at X W 0 (by omega) _ _ b r q) (tap_at X W 1 (by omega) _ _ b r q))
    (tap_at X W 2 (by omega) _ _ b r q)) (tap_at X W 3 (by omega) _ _ b r q)

/-- The convolution's result. -/
def outA : FVec Ideal S8192x512 .f32 :=
  shapeCast _ (addf (taps X W) (broadcastInDim S4x2048x512 ![0, 1, 2] bcast_S1x1x512_S4x2048x512_0_1_2 (broadcastInDim S1x1x512 ![2] bcast_S512_S1x1x512_2 B))) shapeCasts_S4x2048x512_S8192x512

/-- An entry of it. -/
theorem outA_at (n : Fin 8192) (q : Fin 512) (b : Fin 4) (r : Fin 2048) (hn : n.val = b.val * 2048 + r.val) :
    outA X W B (ix2 n q) = sumA X W b r q + B (ix1 q) := by
  pointwise [outA]
  have hb : (⟨n.val / 2048, by omega⟩ : Fin 4) = b := Fin.ext (by show n.val / 2048 = b.val; omega)
  have hr : (⟨n.val % 2048, by omega⟩ : Fin 2048) = r := Fin.ext (by show n.val % 2048 = r.val; omega)
  rw [hb, hr, taps_at]

end Cert.Reference28Ideal.Conv

namespace Cert.Kernel28Ideal.Block
open Cert.Kernel28Ideal Cert.Kernel28Ideal.Gen
open Cert.Kernel4Ideal.Block (earlier padBefore)
open Cert.Reference28Ideal.Conv (outA outA_at sumA)
variable (m : (ℓ : Loc nD τ sig) → Buf (Elt Ideal) ℓ)

/-- What is read of the padded input from step `8 - k` on. -/
theorem readBefore (x : FVec Ideal S2048x128 .f32) (o k : ℕ) (ho : o + k = 8) (h1 h2 h3) (r : Fin 2048) (d : Fin 128) :
    (View.whole cc0_scratch0).readCov (Val := Elt Ideal)
      [⟨Rect.unit (s := S2056x128) ![8, 0] S2048x128.size h2, x⟩,
        ⟨Rect.unit (s := S2056x128) ![0, 0] S8x128.size h1, broadcast S8x128 (0 : EReal)⟩]
      (Rect.unit (s := S2056x128) ![o, 0] S2048x128.size h3).toLoadRect (ix2 r d) = earlier x k r d := by
  rw [View.readCov_eq_canon']
  refine (View.canon_apply_of_pieces (padBefore x) _ ?_ _ (View.cover_of_tiledBy _ ![8, 128] (by sl_kernel_rfl) _)).trans ?_
  · intro p hp z
    rcases List.mem_cons.mp hp with rfl | hp
    · have hx : (z 0).val < 2048 := (z 0).isLt
      refine Eq.trans ?_ (dif_pos (show 8 ≤ 8 + 1 * (z 0).val by omega)).symm
      refine congrArg x (funext fun a => ?_)
      fin_cases a
      · exact Fin.ext (by show (z 0).val = 8 + 1 * (z 0).val - 8; omega)
      · exact Fin.ext (by show (z 1).val = 0 + 1 * (z 1).val; omega)
    · obtain rfl := List.mem_singleton.mp hp
      have hx : (z 0).val < 8 := (z 0).isLt
      refine Eq.trans ?_ (dif_neg (show ¬ (8 ≤ 0 + 1 * (z 0).val) by omega)).symm
      rfl
  · unfold padBefore earlier
    have e : ((Rect.unit (s := S2056x128) ![o, 0] S2048x128.size h3).toLoadRect.idx (ix2 r d) 0).val = r.val + o := by
      show o + 1 * r.val = _; omega
    have e1 : (Rect.unit (s := S2056x128) ![o, 0] S2048x128.size h3).toLoadRect.idx (ix2 r d) 1 = d :=
      Fin.ext (by show 0 + 1 * d.val = _; omega)
    by_cases h : k ≤ r.val
    · rw [dif_pos (by rw [e]; omega), dif_pos h]
      exact congrArg x (congrArg₂ ix2 (Fin.ext (by show _ - 8 = r.val - k; rw [e]; omega)) e1)
    · rw [dif_neg (by rw [e]; omega), dif_neg h]

/-- The convolution's sum of a block. -/
def accB (x0 : FVec Ideal S2048x128 .f32) (x1 : FVec Ideal S4x128 .f32) (x2 : FVec Ideal S1x128 .f32) (r : Fin 2048) (d : Fin 128) : EReal :=
  x1 (ix2 0 d) * earlier x0 3 r d + x1 (ix2 1 d) * earlier x0 2 r d + x1 (ix2 2 d) * earlier x0 1 r d + x1 (ix2 3 d) * earlier x0 0 r d + x2 (ix2 0 d)

/-- What a grid point stores. -/
def outB (x0 : FVec Ideal S2048x128 .f32) (x1 : FVec Ideal S4x128 .f32) (x2 : FVec Ideal S1x128 .f32) (r : Fin 2048) (d : Fin 128) : EReal :=
  accB x0 x1 x2 r d

theorem point (c : Dev nD) (t : Fin cfg0.N) (y : S2048x128.Idx) :
    outsAt0 m c t y = outB (iblk m c 0 t) (iblk m c 1 t) (iblk m c 2 t) (y 0) (y 1) := by
  unfold outsAt0
  frame_out
  open_payloads
  idx_vars y
  pointwise [outB, accB, k0_pay1, k0_pay4, k0_pay5]
  exact congrArg (· + _) (congrArg₂ (· + ·) (congrArg₂ (· + ·) (congrArg₂ (· + ·) (congrArg _ (readBefore _ _ _ rfl _ _ _ _ _)) (congrArg _ (readBefore _ _ _ rfl _ _ _ _ _)))
    (congrArg _ (readBefore _ _ _ rfl _ _ _ _ _))) (congrArg _ (readBefore _ _ _ rfl _ _ _ _ _)))

/-- Which blocks a grid point works on. -/
theorem idx : ∀ t : Fin cfg0.N, win0_0.index t = ![t.val / 4, t.val % 4] ∧ win0_1.index t = ![0, t.val % 4]
    ∧ win0_2.index t = ![0, t.val % 4] ∧ win0_3.index t = ![t.val / 4, t.val % 4] :=
  (by decide +kernel : ∀ t : Fin grid0.N, _)

/-- How many grid points there are. -/
theorem ltN (t : Fin cfg0.N) : t.val < 16 := lt_of_lt_of_eq t.isLt N_0

/-- The input, the taps and the offset, as device `c` is given them. -/
abbrev aX (c : Dev nD) : FVec Ideal S4x2048x512 .f32 := m ((c : Thread nD τ).loc main_arg0)
abbrev aW (c : Dev nD) : FVec Ideal S4x512 .f32 := m ((c : Thread nD τ).loc main_arg1)
abbrev aB (c : Dev nD) : FVec Ideal S512 .f32 := m ((c : Thread nD τ).loc main_arg2)

/-- The blocks, read in the whole arrays. -/
theorem x_at (c : Dev nD) (t : Fin cfg0.N) (r : Fin 2048) (d : Fin 128) (b : Fin 4) (q : Fin 512)
    (hb : b.val = t.val / 4) (hq : q.val = t.val % 4 * 128 + d.val) : iblk m c 0 t (ix2 r d) = aX m c (ix3 b r q) := by
  blk_simp [iblk, V, idx t]; entry_read; pointwise; blk_ext [idx t]
theorem w_at (c : Dev nD) (t : Fin cfg0.N) (j : Fin 4) (d : Fin 128) (q : Fin 512)
    (hq : q.val = t.val % 4 * 128 + d.val) : iblk m c 1 t (ix2 j d) = aW m c (ix2 j q) := by
  rw [← show V m c main_arg1 = aW m c from V_main_arg1 m c]
  blk_simp [iblk]
  blk_ext [idx t]
theorem b_at (c : Dev nD) (t : Fin cfg0.N) (d : Fin 128) (q : Fin 512) (hq : q.val = t.val % 4 * 128 + d.val) :
    iblk m c 2 t (ix2 0 d) = aB m c (ix1 q) := by
  blk_simp [iblk, V, idx t]; entry_read; pointwise; blk_ext [idx t]
theorem e_at (c : Dev nD) (t : Fin cfg0.N) (k : ℕ) (r : Fin 2048) (d : Fin 128) (b : Fin 4) (q : Fin 512)
    (hb : b.val = t.val / 4) (hq : q.val = t.val % 4 * 128 + d.val) : earlier (iblk m c 0 t) k r d = Cert.Reference28Ideal.Conv.earlier (aX m c) k b r q := by
  unfold earlier Cert.Reference28Ideal.Conv.earlier
  by_cases h : k ≤ r.val
  · rw [dif_pos h, dif_pos h, x_at m c t _ d b q hb hq]
  · rw [dif_neg h, dif_neg h]

/-- A point's sum, in the whole. -/
theorem accB_at (c : Dev nD) (t : Fin cfg0.N) (r : Fin 2048) (d : Fin 128) (b : Fin 4) (q : Fin 512)
    (hb : b.val = t.val / 4) (hq : q.val = t.val % 4 * 128 + d.val) :
    accB (iblk m c 0 t) (iblk m c 1 t) (iblk m c 2 t) r d = sumA (aX m c) (aW m c) b r q + aB m c (ix1 q) := by
  unfold accB sumA
  rw [e_at m c t 3 r d b q hb hq, e_at m c t 2 r d b q hb hq, e_at m c t 1 r d b q hb hq, e_at m c t 0 r d b q hb hq,
    w_at m c t 0 d q hq, w_at m c t 1 d q hq, w_at m c t 2 d q hq, w_at m c t 3 d q hq, b_at m c t d q hq]

/-- Where a block of the result lies in its array. -/
theorem emb3 (t : Fin cfg0.N) (y : S2048x128.Idx) :
    (win0_3.blk t).view.emb y = ix2 (⟨t.val / 4 * 2048 + (y 0).val, by have := ltN t; have : (y 0).val < 2048 := (y 0).isLt; omega⟩ : Fin 8192)
      (⟨t.val % 4 * 128 + (y 1).val, by have := ltN t; have : (y 1).val < 128 := (y 1).isLt; omega⟩ : Fin 512) := by
  idx_vars y
  blk_ext [idx t]

/-- The call's result is the convolution's. -/
theorem final3 (c : Dev nD) : (dats m 0 c).arrAt 3 cfg0.N = outA (aX m c) (aW m c) (aB m c) := by
  refine (dats m 0 c).arrAt_eq_of_covers 3 _ (by decide +kernel) fun t hf y => ?_
  blk_simp
  rw [after0_3, point]
  refine Eq.trans ?_ (congrArg _ (emb3 t y).symm)
  have := ltN t
  have h1 : (y 1).val < 128 := (y 1).isLt
  rw [outA_at _ _ _ _ _ ⟨t.val / 4, by omega⟩ (y 0) rfl]
  unfold outB
  rw [accB_at m c t (y 0) (y 1) ⟨t.val / 4, by omega⟩ ⟨t.val % 4 * 128 + (y 1).val, by omega⟩ rfl rfl]

end Cert.Kernel28Ideal.Block
-- ==== Proof.Mix.Project.lean ====
module

public import proofs.«01_k».proof.Proof.Gen.Kernel26Ideal.Frame
public import proofs.«01_k».proof.Proof.Gen.Reference26Ideal.Run
public import proofs.«01_k».proof.Proof.Ffn.Forward
public import Idealize.ShloMosaic.Lib.Pointwise
public import Idealize.ShloMosaic.Lib.IdealHost
public import Idealize.ShloMosaic.Lib.Pipeline.ValueKit
public import Idealize.ShloMosaic.Lib.Pipeline.ReadBack
public import Idealize.ShloMosaic.Lib.Claim
set_option maxRecDepth 16384

/-! A mixer's output projection, the residual sum with it and that sum's layer norm. Each grid point forms 256 rows. -/

@[expose] public noncomputable section
open Idealize.ShloMosaic Idealize.ShloMosaic.TcCoe Idealize.SL.Sem
open Idealize.ShloMosaic.Pipeline (Dat)

namespace Cert.Reference26Ideal.Mix
open Cert.Reference26Ideal Cert.Reference26Ideal.Gen
open Cert.Kernel3Ideal.Block (cα)

/-- The residual sum, as the reference forms it. -/
def res (Y : FVec Ideal S8192x1024 .f32) (W : FVec Ideal S1024x1024 .f32) (X : FVec Ideal S8192x1024 .f32) : FVec Ideal S8192x1024 .f32 :=
  addf (mulf (broadcastInDim S8192x1024 ![] bcast_S_S8192x1024 (constant S_ .f32 0x3FB504F3#32)) X)
    (Host.dotGeneral dot_S8192x1024_S1024x1024_S8192x1024_1_0_0_1_n_n none Y W)

/-- An entry of it. -/
theorem res_at (Y : FVec Ideal S8192x1024 .f32) (W : FVec Ideal S1024x1024 .f32) (X : FVec Ideal S8192x1024 .f32) (n : Fin 8192) (d : Fin 1024) :
    res Y W X (ix2 n d) = cα * X (ix2 n d) + ∑ k : Fin 1024, Y (ix2 n k) * W (ix2 k d) := by
  pointwise [res, cα]

end Cert.Reference26Ideal.Mix

namespace Cert.Kernel26Ideal.Block
open Cert.Kernel26Ideal Cert.Kernel26Ideal.Gen
open Cert.Kernel3Ideal.Block (cα cn cε mean ln)
open Cert.Reference3Ideal.Ffn (lnA lnA_at)
open Cert.Reference26Ideal.Mix (res res_at)
variable (m : (ℓ : Loc nD τ sig) → Buf (Elt Ideal) ℓ)

/-- Which blocks a grid point works on: its own 256 rows, and the whole weight, gain and offset. -/
theorem idx : ∀ t : Fin cfg0.N, win0_0.index t = ![t.val, 0] ∧ win0_1.index t = ![0, 0] ∧ win0_2.index t = ![t.val, 0] ∧ win0_3.index t = ![0, 0] ∧ win0_4.index t = ![0, 0] ∧ win0_5.index t = ![t.val, 0] ∧ win0_6.index t = ![t.val, 0] ∧ win0_7.index t = ![t.val, 0] :=
  (by decide +kernel : ∀ t : Fin grid0.N, _)

/-- There are thirty-two grid points. -/
theorem lt32 (t : Fin cfg0.N) : t.val < 32 := lt_of_lt_of_eq t.isLt N_0

/-- The residual sum a grid point forms. -/
def resB (x0 : FVec Ideal S256x1024 .f32) (x1 : FVec Ideal S1024x1024 .bf16) (x2 : FVec Ideal S256x1024 .f32) (r : Fin 256) (d : Fin 1024) : EReal :=
  cα * x2 (ix2 r d) + ∑ k : Fin 1024, x0 (ix2 r k) * x1 (ix2 k d)

/-- The residual sum is what is stored. -/
theorem point6 (x0 : FVec Ideal S256x1024 .f32) (x1 : FVec Ideal S1024x1024 .bf16) (x2 : FVec Ideal S256x1024 .f32) (x3 : FVec Ideal S1x1024 .f32) (x4 : FVec Ideal S1x1024 .f32) (y : S256x1024.Idx) :
    out0_6 (F := Ideal) x0 x1 x2 x3 x4 y = resB x0 x1 x2 (y 0) (y 1) := by
  unfold out0_6
  frame_out
  idx_vars y
  pointwise [k0_pay1, resB, cα]

/-- So is its layer norm. -/
theorem point5 (x0 : FVec Ideal S256x1024 .f32) (x1 : FVec Ideal S1024x1024 .bf16) (x2 : FVec Ideal S256x1024 .f32) (x3 : FVec Ideal S1x1024 .f32) (x4 : FVec Ideal S1x1024 .f32) (y : S256x1024.Idx) :
    out0_5 (F := Ideal) x0 x1 x2 x3 x4 y = ln (resB x0 x1 x2 (y 0)) (x3 (ix2 0 (y 1))) (x4 (ix2 0 (y 1))) (y 1) := by
  unfold out0_5
  frame_out
  idx_vars y
  pointwise [k0_pay1, k0_pay2, ln, mean, resB, cα, cn, cε]

/-- And the layer norm, rounded. -/
theorem point7 (x0 : FVec Ideal S256x1024 .f32) (x1 : FVec Ideal S1024x1024 .bf16) (x2 : FVec Ideal S256x1024 .f32) (x3 : FVec Ideal S1x1024 .f32) (x4 : FVec Ideal S1x1024 .f32) (y : S256x1024.Idx) :
    out0_7 (F := Ideal) x0 x1 x2 x3 x4 y = ln (resB x0 x1 x2 (y 0)) (x3 (ix2 0 (y 1))) (x4 (ix2 0 (y 1))) (y 1) := by
  unfold out0_7
  frame_out
  idx_vars y
  pointwise [k0_pay1, k0_pay2, k0_pay3, ln, mean, resB, cα, cn, cε]

/-- The mixer's result, the weight, the residual and the layer norm's gain and offset, as device `c` is given them. -/
abbrev aY (c : Dev nD) : FVec Ideal S8192x1024 .f32 := m ((c : Thread nD τ).loc main_arg0)
abbrev aW (c : Dev nD) : FVec Ideal S1024x1024 .f32 := m ((c : Thread nD τ).loc main_arg1)
abbrev aX (c : Dev nD) : FVec Ideal S8192x1024 .f32 := m ((c : Thread nD τ).loc main_arg2)
abbrev aγ (c : Dev nD) : FVec Ideal S1024 .f32 := m ((c : Thread nD τ).loc main_arg3)
abbrev aβ (c : Dev nD) : FVec Ideal S1024 .f32 := m ((c : Thread nD τ).loc main_arg4)

/-- The call's other arguments: the weight, rounded, and the gain and offset, as rows. -/
theorem V0 (c : Dev nD) : V m c main_v0 = truncf .bf16 (aW m c) bitsLt_bf16_f32 := by
  unfold V
  simp only [hostOps0,
    StableHlo.TRef.binary, StableHlo.TRef.nullary, StableHlo.TRef.unary, StableHlo.TRef.toBuf, StableHlo.TRef.ofBuf, cast_eq]
  after_results_simp <;> rfl
theorem V1 (c : Dev nD) : V m c main_v1 = broadcastInDim S1x1024 ![1] bcast_S1024_S1x1024_1 (aγ m c) := by
  unfold V
  simp only [hostOps0,
    StableHlo.TRef.binary, StableHlo.TRef.nullary, StableHlo.TRef.unary, StableHlo.TRef.toBuf, StableHlo.TRef.ofBuf, cast_eq]
  after_results_simp <;> rfl
theorem V2 (c : Dev nD) : V m c main_v2 = broadcastInDim S1x1024 ![1] bcast_S1024_S1x1024_1 (aβ m c) := by
  unfold V
  simp only [hostOps0,
    StableHlo.TRef.binary, StableHlo.TRef.nullary, StableHlo.TRef.unary, StableHlo.TRef.toBuf, StableHlo.TRef.ofBuf, cast_eq]
  after_results_simp <;> rfl

/-- The blocks, read in the whole arrays. -/
theorem y_at (c : Dev nD) (t : Fin cfg0.N) (r : Fin 256) (d : Fin 1024) (n : Fin 8192) (hn : n.val = t.val * 256 + r.val) :
    iblk m c 0 t (ix2 r d) = aY m c (ix2 n d) := by
  rw [← show V m c main_arg0 = aY m c from V_main_arg0 m c]
  blk_simp [iblk]
  blk_ext [idx t]
theorem x_at (c : Dev nD) (t : Fin cfg0.N) (r : Fin 256) (d : Fin 1024) (n : Fin 8192) (hn : n.val = t.val * 256 + r.val) :
    iblk m c 2 t (ix2 r d) = aX m c (ix2 n d) := by
  rw [← show V m c main_arg2 = aX m c from V_main_arg2 m c]
  blk_simp [iblk]
  blk_ext [idx t]
theorem w_at (c : Dev nD) (t : Fin cfg0.N) (k : Fin 1024) (d : Fin 1024) : iblk m c 1 t (ix2 k d) = aW m c (ix2 k d) := by
  refine Eq.trans ?_ ((congrFun (V0 m c) (ix2 k d)).trans (by pointwise))
  blk_simp [iblk]
  blk_ext [idx t]
theorem γ_at (c : Dev nD) (t : Fin cfg0.N) (d : Fin 1024) : iblk m c 3 t (ix2 0 d) = aγ m c (ix1 d) := by
  refine Eq.trans ?_ ((congrFun (V1 m c) (ix2 0 d)).trans (by pointwise))
  blk_simp [iblk]
  blk_ext [idx t]
theorem β_at (c : Dev nD) (t : Fin cfg0.N) (d : Fin 1024) : iblk m c 4 t (ix2 0 d) = aβ m c (ix1 d) := by
  refine Eq.trans ?_ ((congrFun (V2 m c) (ix2 0 d)).trans (by pointwise))
  blk_simp [iblk]
  blk_ext [idx t]

/-- A point's residual sum, in the whole. -/
theorem resB_at (c : Dev nD) (t : Fin cfg0.N) (r : Fin 256) (d : Fin 1024) (n : Fin 8192) (hn : n.val = t.val * 256 + r.val) :
    resB (iblk m c 0 t) (iblk m c 1 t) (iblk m c 2 t) r d = res (aY m c) (aW m c) (aX m c) (ix2 n d) := by
  rw [res_at]
  exact congrArg₂ (· + ·) (congrArg (cα * ·) (x_at m c t r d n hn))
    (Finset.sum_congr rfl fun k _ => congrArg₂ (· * ·) (y_at m c t r k n hn) (w_at m c t k d))

/-- A point's layer norm, in the whole. -/
theorem lnB_at (c : Dev nD) (t : Fin cfg0.N) (r : Fin 256) (d : Fin 1024) (n : Fin 8192) (hn : n.val = t.val * 256 + r.val) :
    ln (resB (iblk m c 0 t) (iblk m c 1 t) (iblk m c 2 t) r) (iblk m c 3 t (ix2 0 d)) (iblk m c 4 t (ix2 0 d)) d
      = lnA (aγ m c) (aβ m c) (res (aY m c) (aW m c) (aX m c)) (ix2 n d) := by
  rw [lnA_at, γ_at, β_at, show resB (iblk m c 0 t) (iblk m c 1 t) (iblk m c 2 t) r = fun k => res (aY m c) (aW m c) (aX m c) (ix2 n k) from
    funext fun k => resB_at m c t r k n hn]

/-- Where a block of a result lies in its array. -/
theorem emb5 (t : Fin cfg0.N) (y : S256x1024.Idx) :
    (win0_5.blk t).view.emb y = ix2 (⟨t.val * 256 + (y 0).val, by have := lt32 t; have : (y 0).val < 256 := (y 0).isLt; omega⟩ : Fin 8192) (y 1) := by
  idx_vars y
  blk_ext [idx t]
theorem emb6 (t : Fin cfg0.N) (y : S256x1024.Idx) :
    (win0_6.blk t).view.emb y = ix2 (⟨t.val * 256 + (y 0).val, by have := lt32 t; have : (y 0).val < 256 := (y 0).isLt; omega⟩ : Fin 8192) (y 1) := by
  idx_vars y
  blk_ext [idx t]
theorem emb7 (t : Fin cfg0.N) (y : S256x1024.Idx) :
    (win0_7.blk t).view.emb y = ix2 (⟨t.val * 256 + (y 0).val, by have := lt32 t; have : (y 0).val < 256 := (y 0).isLt; omega⟩ : Fin 8192) (y 1) := by
  idx_vars y
  blk_ext [idx t]

/-- The call's first result is the layer norm of the residual sum. -/
theorem final5 (c : Dev nD) : (dats m 0 c).arrAt 5 cfg0.N = lnA (aγ m c) (aβ m c) (res (aY m c) (aW m c) (aX m c)) := by
  refine (dats m 0 c).arrAt_eq_of_covers 5 _ (by decide +kernel) fun t hf y => ?_
  blk_simp
  rw [after0_5, point5]
  refine Eq.trans ?_ (congrArg _ (emb5 t y).symm)
  exact lnB_at m c t _ _ _ rfl

/-- The second is the residual sum. -/
theorem final6 (c : Dev nD) : (dats m 0 c).arrAt 6 cfg0.N = res (aY m c) (aW m c) (aX m c) := by
  refine (dats m 0 c).arrAt_eq_of_covers 6 _ (by decide +kernel) fun t hf y => ?_
  blk_simp
  rw [after0_6, point6]
  refine Eq.trans ?_ (congrArg _ (emb6 t y).symm)
  exact resB_at m c t _ _ _ rfl

/-- The third is the layer norm, rounded. -/
theorem final7 (c : Dev nD) : (dats m 0 c).arrAt 7 cfg0.N = truncf .bf16 (lnA (aγ m c) (aβ m c) (res (aY m c) (aW m c) (aX m c))) bitsLt_bf16_f32 := by
  refine (dats m 0 c).arrAt_eq_of_covers 7 _ (by decide +kernel) fun t hf y => ?_
  blk_simp
  rw [after0_7, point7]
  refine Eq.trans ?_ (congrArg _ (emb7 t y).symm)
  exact lnB_at m c t _ _ _ rfl

end Cert.Kernel26Ideal.Block
-- ==== Proof.Mix.Halves.lean ====
module

public import proofs.«01_k».proof.Proof.Gen.Kernel27Ideal.Frame
public import proofs.«01_k».proof.Proof.Gen.Reference27Ideal.Run
public import proofs.«01_k».proof.Proof.Mix.Project
public import Idealize.ShloMosaic.Lib.Pointwise
public import Idealize.ShloMosaic.Lib.IdealHost
public import Idealize.ShloMosaic.Lib.Pipeline.ValueKit
public import Idealize.ShloMosaic.Lib.Pipeline.ReadBack
public import Idealize.ShloMosaic.Lib.Claim
set_option maxRecDepth 16384

/-! An output projection of two halves of a mixer's heads, the residual sum with it and that sum's layer norm. Each grid
    point forms 256 rows. -/

@[expose] public noncomputable section
open Idealize.ShloMosaic Idealize.ShloMosaic.TcCoe Idealize.SL.Sem
open Idealize.ShloMosaic.Pipeline (Dat)

namespace Cert.Reference27Ideal.Mix
open Cert.Reference27Ideal Cert.Reference27Ideal.Gen Cert.Reference27Ideal.Value
open Cert.Reference26Ideal.Mix (res res_at)
open Cert.Reference3Ideal.Ffn (lnA)
open Cert.Kernel3Ideal.Block (cα)
variable (P Q : FVec Ideal S8192x512 .f32)

/-- The two halves of the heads, side by side. -/
def both : FVec Ideal S8192x1024 .f32 :=
  concatenate S8192x1024 1 [⟨S8192x512, P⟩, ⟨S8192x512, Q⟩] concatenates_S8192x512_S8192x512_S8192x1024_d1

theorem both_l (n : Fin 8192) (k : Fin 512) : both P Q (ix2 n ⟨k.val, by omega⟩) = P (ix2 n k) := by
  pointwise [both]
theorem both_r (n : Fin 8192) (k : Fin 512) : both P Q (ix2 n ⟨512 + k.val, by omega⟩) = Q (ix2 n k) := by
  pointwise [both]

/-- A product over the columns, taken half by half. -/
theorem sum1024 (F : Fin 1024 → EReal) : ∑ k : Fin 1024, F k = ∑ k : Fin 512, F ⟨k.val, by omega⟩ + ∑ k : Fin 512, F ⟨512 + k.val, by omega⟩ :=
  Fin.sum_univ_add (a := 512) (b := 512) F

/-- An entry of the residual sum. -/
theorem res_two (W : FVec Ideal S1024x1024 .f32) (X : FVec Ideal S8192x1024 .f32) (n : Fin 8192) (d : Fin 1024) :
    res (both P Q) W X (ix2 n d) = cα * X (ix2 n d) + ∑ k : Fin 512, P (ix2 n k) * W (ix2 ⟨k.val, by omega⟩ d)
      + ∑ k : Fin 512, Q (ix2 n k) * W (ix2 ⟨512 + k.val, by omega⟩ d) := by
  rw [res_at, sum1024, ← add_assoc]
  simp only [both_l, both_r]

/-- The terms the reference's results are stated with are these. -/
theorem out0_eq (m : (ℓ : Loc nD τ sig) → Buf (Elt Ideal) ℓ) (c : Dev nD) : res_out0 m c
    = lnA (m ((c.tc : Thread nD τ).loc main_arg4)) (m ((c.tc : Thread nD τ).loc main_arg5)) (res (both (m ((c.tc : Thread nD τ).loc main_arg0)) (m ((c.tc : Thread nD τ).loc main_arg1))) (m ((c.tc : Thread nD τ).loc main_arg2)) (m ((c.tc : Thread nD τ).loc main_arg3))) := rfl
theorem out2_eq (m : (ℓ : Loc nD τ sig) → Buf (Elt Ideal) ℓ) (c : Dev nD) : res_out2 m c
    = truncf .bf16 (lnA (m ((c.tc : Thread nD τ).loc main_arg4)) (m ((c.tc : Thread nD τ).loc main_arg5)) (res (both (m ((c.tc : Thread nD τ).loc main_arg0)) (m ((c.tc : Thread nD τ).loc main_arg1))) (m ((c.tc : Thread nD τ).loc main_arg2)) (m ((c.tc : Thread nD τ).loc main_arg3)))) bitsLt_bf16_f32 := rfl

end Cert.Reference27Ideal.Mix

namespace Cert.Kernel27Ideal.Block
open Cert.Kernel27Ideal Cert.Kernel27Ideal.Gen
open Cert.Kernel3Ideal.Block (cα cn cε mean ln)
open Cert.Reference3Ideal.Ffn (lnA lnA_at)
open Cert.Reference26Ideal.Mix (res)
open Cert.Reference27Ideal.Mix (both res_two)
variable (m : (ℓ : Loc nD τ sig) → Buf (Elt Ideal) ℓ)

/-- Which blocks a grid point works on: its own 256 rows, and the whole weight, gain and offset. -/
theorem idx : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![0, 0] ∧ win0_6.index t = ![0, 0] ∧ win0_7.index t = ![t.val, 0] ∧ win0_8.index t = ![t.val, 0] ∧ win0_9.index t = ![t.val, 0] :=
  (by decide +kernel : ∀ t : Fin grid0.N, _)

/-- There are thirty-two grid points. -/
theorem lt32 (t : Fin cfg0.N) : t.val < 32 := lt_of_lt_of_eq t.isLt N_0

/-- The residual sum a grid point forms. -/
def resB (x0 : FVec Ideal S256x512 .f32) (x1 : FVec Ideal S256x512 .f32) (x2 : FVec Ideal S512x1024 .bf16) (x3 : FVec Ideal S512x1024 .bf16) (x4 : FVec Ideal S256x1024 .f32) (r : Fin 256) (d : Fin 1024) : EReal :=
  cα * x4 (ix2 r d) + ∑ k : Fin 512, x0 (ix2 r k) * x2 (ix2 k d) + ∑ k : Fin 512, x1 (ix2 r k) * x3 (ix2 k d)

/-- The residual sum is what is stored. -/
theorem point8 (x0 : FVec Ideal S256x512 .f32) (x1 : FVec Ideal S256x512 .f32) (x2 : FVec Ideal S512x1024 .bf16) (x3 : FVec Ideal S512x1024 .bf16) (x4 : FVec Ideal S256x1024 .f32) (x5 : FVec Ideal S1x1024 .f32) (x6 : FVec Ideal S1x1024 .f32) (y : S256x1024.Idx) :
    out0_8 (F := Ideal) x0 x1 x2 x3 x4 x5 x6 y = resB x0 x1 x2 x3 x4 (y 0) (y 1) := by
  unfold_out out0_8
  frame_out
  idx_vars y
  pointwise [k0_pay3, resB, cα]

/-- So is its layer norm. -/
theorem point7 (x0 : FVec Ideal S256x512 .f32) (x1 : FVec Ideal S256x512 .f32) (x2 : FVec Ideal S512x1024 .bf16) (x3 : FVec Ideal S512x1024 .bf16) (x4 : FVec Ideal S256x1024 .f32) (x5 : FVec Ideal S1x1024 .f32) (x6 : FVec Ideal S1x1024 .f32) (y : S256x1024.Idx) :
    out0_7 (F := Ideal) x0 x1 x2 x3 x4 x5 x6 y = ln (resB x0 x1 x2 x3 x4 (y 0)) (x5 (ix2 0 (y 1))) (x6 (ix2 0 (y 1))) (y 1) := by
  unfold_out out0_7
  frame_out
  idx_vars y
  pointwise [k0_pay1, k0_pay3, k0_pay4, k0_pay5, k0_pay6, k0_pay7, ln, mean, resB, cα, cn, cε]

/-- And the layer norm, rounded. -/
theorem point9 (x0 : FVec Ideal S256x512 .f32) (x1 : FVec Ideal S256x512 .f32) (x2 : FVec Ideal S512x1024 .bf16) (x3 : FVec Ideal S512x1024 .bf16) (x4 : FVec Ideal S256x1024 .f32) (x5 : FVec Ideal S1x1024 .f32) (x6 : FVec Ideal S1x1024 .f32) (y : S256x1024.Idx) :
    out0_9 (F := Ideal) x0 x1 x2 x3 x4 x5 x6 y = ln (resB x0 x1 x2 x3 x4 (y 0)) (x5 (ix2 0 (y 1))) (x6 (ix2 0 (y 1))) (y 1) := by
  unfold_out out0_9
  frame_out
  idx_vars y
  pointwise [k0_pay1, k0_pay2, k0_pay3, k0_pay4, k0_pay5, k0_pay6, k0_pay7, ln, mean, resB, cα, cn, cε]

/-- The two halves of the mixer's result, the weight, the residual and the layer norm's gain and offset, as device `c` is
    given them. -/
abbrev aP (c : Dev nD) : FVec Ideal S8192x512 .f32 := m ((c : Thread nD τ).loc main_arg0)
abbrev aQ (c : Dev nD) : FVec Ideal S8192x512 .f32 := m ((c : Thread nD τ).loc main_arg1)
abbrev aW (c : Dev nD) : FVec Ideal S1024x1024 .f32 := m ((c : Thread nD τ).loc main_arg2)
abbrev aX (c : Dev nD) : FVec Ideal S8192x1024 .f32 := m ((c : Thread nD τ).loc main_arg3)
abbrev aγ (c : Dev nD) : FVec Ideal S1024 .f32 := m ((c : Thread nD τ).loc main_arg4)
abbrev aβ (c : Dev nD) : FVec Ideal S1024 .f32 := m ((c : Thread nD τ).loc main_arg5)

/-- The call's other arguments: the halves of the weight, rounded, and the gain and offset, as rows. -/
theorem V1 (c : Dev nD) : V m c main_v1 = extractStridedSlice S512x1024 ![0, 0] (truncf .bf16 (aW m c) bitsLt_bf16_f32) slices_S1024x1024_S512x1024_0_0 := by
  unfold V
  simp only [hostOps0,
    StableHlo.TRef.binary, StableHlo.TRef.nullary, StableHlo.TRef.unary, StableHlo.TRef.toBuf, StableHlo.TRef.ofBuf, cast_eq]
  after_results_simp <;> rfl
theorem V2 (c : Dev nD) : V m c main_v2 = extractStridedSlice S512x1024 ![512, 0] (truncf .bf16 (aW m c) bitsLt_bf16_f32) slices_S1024x1024_S512x1024_512_0 := by
  unfold V
  simp only [hostOps0,
    StableHlo.TRef.binary, StableHlo.TRef.nullary, StableHlo.TRef.unary, StableHlo.TRef.toBuf, StableHlo.TRef.ofBuf, cast_eq]
  after_results_simp <;> rfl
theorem V3 (c : Dev nD) : V m c main_v3 = broadcastInDim S1x1024 ![1] bcast_S1024_S1x1024_1 (aγ m c) := by
  unfold V
  simp only [hostOps0,
    StableHlo.TRef.binary, StableHlo.TRef.nullary, StableHlo.TRef.unary, StableHlo.TRef.toBuf, StableHlo.TRef.ofBuf, cast_eq]
  after_results_simp <;> rfl
theorem V4 (c : Dev nD) : V m c main_v4 = broadcastInDim S1x1024 ![1] bcast_S1024_S1x1024_1 (aβ m c) := by
  unfold V
  simp only [hostOps0,
    StableHlo.TRef.binary, StableHlo.TRef.nullary, StableHlo.TRef.unary, StableHlo.TRef.toBuf, StableHlo.TRef.ofBuf, cast_eq]
  after_results_simp <;> rfl

/-- The blocks, read in the whole arrays. -/
theorem p_at (c : Dev nD) (t : Fin cfg0.N) (r : Fin 256) (d : Fin 512) (n : Fin 8192) (hn : n.val = t.val * 256 + r.val) :
    iblk m c 0 t (ix2 r d) = aP m c (ix2 n d) := by
  rw [← show V m c main_arg0 = aP m c from V_main_arg0 m c]
  blk_simp [iblk]
  blk_ext [idx t]
theorem q_at (c : Dev nD) (t : Fin cfg0.N) (r : Fin 256) (d : Fin 512) (n : Fin 8192) (hn : n.val = t.val * 256 + r.val) :
    iblk m c 1 t (ix2 r d) = aQ m c (ix2 n d) := by
  rw [← show V m c main_arg1 = aQ m c from V_main_arg1 m c]
  blk_simp [iblk]
  blk_ext [idx t]
theorem x_at (c : Dev nD) (t : Fin cfg0.N) (r : Fin 256) (d : Fin 1024) (n : Fin 8192) (hn : n.val = t.val * 256 + r.val) :
    iblk m c 4 t (ix2 r d) = aX m c (ix2 n d) := by
  rw [← show V m c main_arg3 = aX m c from V_main_arg3 m c]
  blk_simp [iblk]
  blk_ext [idx t]
theorem w_at (c : Dev nD) (t : Fin cfg0.N) (k : Fin 512) (d : Fin 1024) : iblk m c 2 t (ix2 k d) = aW m c (ix2 ⟨k.val, by omega⟩ d) := by
  refine Eq.trans ?_ ((congrFun (V1 m c) (ix2 k d)).trans (by pointwise; blk_ext))
  blk_simp [iblk]
  blk_ext [idx t]
theorem u_at (c : Dev nD) (t : Fin cfg0.N) (k : Fin 512) (d : Fin 1024) : iblk m c 3 t (ix2 k d) = aW m c (ix2 ⟨512 + k.val, by omega⟩ d) := by
  refine Eq.trans ?_ ((congrFun (V2 m c) (ix2 k d)).trans (by pointwise; blk_ext))
  blk_simp [iblk]
  blk_ext [idx t]
theorem γ_at (c : Dev nD) (t : Fin cfg0.N) (d : Fin 1024) : iblk m c 5 t (ix2 0 d) = aγ m c (ix1 d) := by
  refine Eq.trans ?_ ((congrFun (V3 m c) (ix2 0 d)).trans (by pointwise))
  blk_simp [iblk]
  blk_ext [idx t]
theorem β_at (c : Dev nD) (t : Fin cfg0.N) (d : Fin 1024) : iblk m c 6 t (ix2 0 d) = aβ m c (ix1 d) := by
  refine Eq.trans ?_ ((congrFun (V4 m c) (ix2 0 d)).trans (by pointwise))
  blk_simp [iblk]
  blk_ext [idx t]

/-- A point's residual sum, in the whole. -/
theorem resB_at (c : Dev nD) (t : Fin cfg0.N) (r : Fin 256) (d : Fin 1024) (n : Fin 8192) (hn : n.val = t.val * 256 + r.val) :
    resB (iblk m c 0 t) (iblk m c 1 t) (iblk m c 2 t) (iblk m c 3 t) (iblk m c 4 t) r d = res (both (aP m c) (aQ m c)) (aW m c) (aX m c) (ix2 n d) := by
  rw [res_two]
  exact congrArg₂ (· + ·) (congrArg₂ (· + ·) (congrArg (cα * ·) (x_at m c t r d n hn))
    (Finset.sum_congr rfl fun k _ => congrArg₂ (· * ·) (p_at m c t r k n hn) (w_at m c t k d)))
    (Finset.sum_congr rfl fun k _ => congrArg₂ (· * ·) (q_at m c t r k n hn) (u_at m c t k d))

/-- A point's layer norm, in the whole. -/
theorem lnB_at (c : Dev nD) (t : Fin cfg0.N) (r : Fin 256) (d : Fin 1024) (n : Fin 8192) (hn : n.val = t.val * 256 + r.val) :
    ln (resB (iblk m c 0 t) (iblk m c 1 t) (iblk m c 2 t) (iblk m c 3 t) (iblk m c 4 t) r) (iblk m c 5 t (ix2 0 d)) (iblk m c 6 t (ix2 0 d)) d
      = lnA (aγ m c) (aβ m c) (res (both (aP m c) (aQ m c)) (aW m c) (aX m c)) (ix2 n d) := by
  rw [lnA_at, γ_at, β_at, show resB (iblk m c 0 t) (iblk m c 1 t) (iblk m c 2 t) (iblk m c 3 t) (iblk m c 4 t) r = fun k => res (both (aP m c) (aQ m c)) (aW m c) (aX m c) (ix2 n k) from
    funext fun k => resB_at m c t r k n hn]

/-- Where a block of a result lies in its array. -/
theorem emb7 (t : Fin cfg0.N) (y : S256x1024.Idx) :
    (win0_7.blk t).view.emb y = ix2 (⟨t.val * 256 + (y 0).val, by have := lt32 t; have : (y 0).val < 256 := (y 0).isLt; omega⟩ : Fin 8192) (y 1) := by
  idx_vars y
  blk_ext [idx t]
theorem emb8 (t : Fin cfg0.N) (y : S256x1024.Idx) :
    (win0_8.blk t).view.emb y = ix2 (⟨t.val * 256 + (y 0).val, by have := lt32 t; have : (y 0).val < 256 := (y 0).isLt; omega⟩ : Fin 8192) (y 1) := by
  idx_vars y
  blk_ext [idx t]
theorem emb9 (t : Fin cfg0.N) (y : S256x1024.Idx) :
    (win0_9.blk t).view.emb y = ix2 (⟨t.val * 256 + (y 0).val, by have := lt32 t; have : (y 0).val < 256 := (y 0).isLt; omega⟩ : Fin 8192) (y 1) := by
  idx_vars y
  blk_ext [idx t]

/-- The call's first result is the layer norm of the residual sum. -/
theorem final7 (c : Dev nD) : (dats m 0 c).arrAt 7 cfg0.N = lnA (aγ m c) (aβ m c) (res (both (aP m c) (aQ m c)) (aW m c) (aX m c)) := by
  refine (dats m 0 c).arrAt_eq_of_covers 7 _ (by decide +kernel) fun t hf y => ?_
  blk_simp
  rw [after0_7, point7]
  refine Eq.trans ?_ (congrArg _ (emb7 t y).symm)
  exact lnB_at m c t _ _ _ rfl

/-- The second is the residual sum. -/
theorem final8 (c : Dev nD) : (dats m 0 c).arrAt 8 cfg0.N = res (both (aP m c) (aQ m c)) (aW m c) (aX m c) := by
  refine (dats m 0 c).arrAt_eq_of_covers 8 _ (by decide +kernel) fun t hf y => ?_
  blk_simp
  rw [after0_8, point8]
  refine Eq.trans ?_ (congrArg _ (emb8 t y).symm)
  exact resB_at m c t _ _ _ rfl

/-- The third is the layer norm, rounded. -/
theorem final9 (c : Dev nD) : (dats m 0 c).arrAt 9 cfg0.N = truncf .bf16 (lnA (aγ m c) (aβ m c) (res (both (aP m c) (aQ m c)) (aW m c) (aX m c))) bitsLt_bf16_f32 := by
  refine (dats m 0 c).arrAt_eq_of_covers 9 _ (by decide +kernel) fun t hf y => ?_
  blk_simp
  rw [after0_9, point9]
  refine Eq.trans ?_ (congrArg _ (emb9 t y).symm)
  exact lnB_at m c t _ _ _ rfl

end Cert.Kernel27Ideal.Block
-- ==== Proof.Proj.ForwardB.lean ====
module

public import proofs.«01_k».proof.Proof.Gen.Kernel25Ideal.Frame
public import proofs.«01_k».proof.Proof.Gen.Reference25Ideal
public import Idealize.ShloMosaic.Lib.Pointwise
public import Idealize.ShloMosaic.Lib.IdealHost
public import Idealize.ShloMosaic.Lib.Pipeline.ValueKit
public import Idealize.ShloMosaic.Lib.Pipeline.ReadBack
public import Idealize.ShloMosaic.Lib.Claim
set_option maxRecDepth 16384

/-! A projection: the rows against the weight. Each grid point forms 1024 rows. -/

@[expose] public noncomputable section
open Idealize.ShloMosaic Idealize.ShloMosaic.TcCoe Idealize.SL.Sem
open Idealize.ShloMosaic.Pipeline (Dat)

namespace Cert.Reference25Ideal.Proj
open Cert.Reference25Ideal Cert.Reference25Ideal.Gen

/-- The projection, as the reference forms it. -/
def pA (W : FVec Ideal S1024x512 .f32) (P : FVec Ideal S8192x1024 .f32) : FVec Ideal S8192x512 .f32 :=
  Host.dotGeneral dot_S8192x1024_S1024x512_S8192x512_1_0_0_1_n_n none P W

theorem pA_at (W : FVec Ideal S1024x512 .f32) (P : FVec Ideal S8192x1024 .f32) (r : Fin 8192) (k : Fin 512) :
    pA W P (ix2 r k) = ∑ q : Fin 1024, P (ix2 r q) * W (ix2 q k) := by
  pointwise [pA]

end Cert.Reference25Ideal.Proj

namespace Cert.Kernel25Ideal.Block
open Cert.Kernel25Ideal Cert.Kernel25Ideal.Gen
open Cert.Reference25Ideal.Proj (pA pA_at)
variable (m : (ℓ : Loc nD τ sig) → Buf (Elt Ideal) ℓ)

/-- Which blocks a grid point works on: its own 1024 rows, and the whole weight. -/
theorem idx : ∀ t : Fin cfg0.N, win0_0.index t = ![t.val, 0] ∧ win0_1.index t = ![0, 0]
    ∧ win0_2.index t = ![t.val, 0] :=
  (by decide +kernel : ∀ t : Fin grid0.N, _)

theorem ltN (t : Fin cfg0.N) : t.val < 8 := by
  have h := t.isLt
  have e : cfg0.N = 8 := by decide +kernel
  omega

/-- What a grid point stores. -/
def part (x0 : FVec Ideal S1024x1024 .bf16) (x1 : FVec Ideal S1024x512 .bf16) (r : Fin 1024) (k : Fin 512) : EReal :=
  ∑ q : Fin 1024, x0 (ix2 r q) * x1 (ix2 q k)

theorem point (x0 : FVec Ideal S1024x1024 .bf16) (x1 : FVec Ideal S1024x512 .bf16)
    (y : S1024x512.Idx) : out0_2 (F := Ideal) x0 x1 y = part x0 x1 (y 0) (y 1) := by
  unfold out0_2
  frame_out
  idx_vars y
  pointwise [part, k0_pay1]

/-- The weight and the rows, as device `c` is given them. -/
abbrev aW (c : Dev nD) : FVec Ideal S1024x512 .f32 := m ((c : Thread nD τ).loc main_arg1)
abbrev aP (c : Dev nD) : FVec Ideal S8192x1024 .f32 := m ((c : Thread nD τ).loc main_arg0)

/-- The call's first argument is the rows, rounded. -/
theorem V0 (c : Dev nD) : V m c main_v0 = truncf .bf16 (aP m c) bitsLt_bf16_f32 := by
  unfold V
  simp only [hostOps0,
    StableHlo.TRef.binary, StableHlo.TRef.nullary, StableHlo.TRef.unary, StableHlo.TRef.toBuf, StableHlo.TRef.ofBuf, cast_eq]
  after_results_simp <;> rfl

/-- The call's second argument is the weight, rounded. -/
theorem V1 (c : Dev nD) : V m c main_v1 = truncf .bf16 (aW m c) bitsLt_bf16_f32 := by
  unfold V
  simp only [hostOps0,
    StableHlo.TRef.binary, StableHlo.TRef.nullary, StableHlo.TRef.unary, StableHlo.TRef.toBuf, StableHlo.TRef.ofBuf, cast_eq]
  after_results_simp <;> rfl

/-- A block of the rows, read in the whole array. -/
theorem p_at (c : Dev nD) (t : Fin cfg0.N) (r : Fin 1024) (q : Fin 1024) (n : Fin 8192) (hn : n.val = t.val * 1024 + r.val) :
    iblk m c 0 t (ix2 r q) = aP m c (ix2 n q) := by
  refine Eq.trans ?_ ((congrFun (V0 m c) (ix2 n q)).trans (by pointwise))
  blk_simp [iblk]
  blk_ext [idx t]

/-- An entry of the weight. -/
theorem w_at (c : Dev nD) (t : Fin cfg0.N) (q : Fin 1024) (k : Fin 512) : iblk m c 1 t (ix2 q k) = aW m c (ix2 q k) := by
  refine Eq.trans ?_ ((congrFun (V1 m c) (ix2 q k)).trans (by pointwise))
  blk_simp [iblk]
  blk_ext [idx t]

/-- A point's block of the projection, in the whole. -/
theorem part_at (c : Dev nD) (t : Fin cfg0.N) (r : Fin 1024) (k : Fin 512) (n : Fin 8192) (hn : n.val = t.val * 1024 + r.val) :
    part (iblk m c 0 t) (iblk m c 1 t) r k = pA (aW m c) (aP m c) (ix2 n k) := by
  rw [pA_at]
  exact (Finset.sum_congr rfl fun q _ => congrArg₂ (· * ·) (p_at m c t r q n hn) (w_at m c t q k))

/-- Where a block of the result lies in its array. -/
theorem emb2 (t : Fin cfg0.N) (y : S1024x512.Idx) :
    (win0_2.blk t).view.emb y = ix2 (⟨t.val * 1024 + (y 0).val, by have := ltN t; have : (y 0).val < 1024 := (y 0).isLt; omega⟩ : Fin 8192) (y 1) := by
  idx_vars y
  blk_ext [idx t]

/-- The result is the projection. -/
theorem final2 (c : Dev nD) : (dats m 0 c).arrAt 2 cfg0.N = pA (aW m c) (aP m c) := by
  refine (dats m 0 c).arrAt_eq_of_covers 2 _ (by decide +kernel) fun t hf y => ?_
  blk_simp
  rw [after0_2, point]
  refine Eq.trans ?_ (congrArg _ (emb2 t y).symm)
  exact part_at m c t _ _ _ rfl

end Cert.Kernel25Ideal.Block
-- ==== Proof.Proj.ForwardA.lean ====
module

public import proofs.«01_k».proof.Proof.Gen.Kernel24Ideal.Frame
public import proofs.«01_k».proof.Proof.Gen.Reference24Ideal
public import Idealize.ShloMosaic.Lib.Pointwise
public import Idealize.ShloMosaic.Lib.IdealHost
public import Idealize.ShloMosaic.Lib.Pipeline.ValueKit
public import Idealize.ShloMosaic.Lib.Pipeline.ReadBack
public import Idealize.ShloMosaic.Lib.Claim
set_option maxRecDepth 16384

/-! A projection: the rows against the weight. Each grid point forms 1024 rows. -/

@[expose] public noncomputable section
open Idealize.ShloMosaic Idealize.ShloMosaic.TcCoe Idealize.SL.Sem
open Idealize.ShloMosaic.Pipeline (Dat)

namespace Cert.Reference24Ideal.Proj
open Cert.Reference24Ideal Cert.Reference24Ideal.Gen

/-- The projection, as the reference forms it. -/
def pA (W : FVec Ideal S1024x768 .f32) (P : FVec Ideal S8192x1024 .f32) : FVec Ideal S8192x768 .f32 :=
  Host.dotGeneral dot_S8192x1024_S1024x768_S8192x768_1_0_0_1_n_n none P W

theorem pA_at (W : FVec Ideal S1024x768 .f32) (P : FVec Ideal S8192x1024 .f32) (r : Fin 8192) (k : Fin 768) :
    pA W P (ix2 r k) = ∑ q : Fin 1024, P (ix2 r q) * W (ix2 q k) := by
  pointwise [pA]

end Cert.Reference24Ideal.Proj

namespace Cert.Kernel24Ideal.Block
open Cert.Kernel24Ideal Cert.Kernel24Ideal.Gen
open Cert.Reference24Ideal.Proj (pA pA_at)
variable (m : (ℓ : Loc nD τ sig) → Buf (Elt Ideal) ℓ)

/-- Which blocks a grid point works on: its own 1024 rows, and the whole weight. -/
theorem idx : ∀ t : Fin cfg0.N, win0_0.index t = ![t.val, 0] ∧ win0_1.index t = ![0, 0]
    ∧ win0_2.index t = ![t.val, 0] :=
  (by decide +kernel : ∀ t : Fin grid0.N, _)

theorem ltN (t : Fin cfg0.N) : t.val < 8 := by
  have h := t.isLt
  have e : cfg0.N = 8 := by decide +kernel
  omega

/-- What a grid point stores. -/
def part (x0 : FVec Ideal S1024x1024 .bf16) (x1 : FVec Ideal S1024x768 .bf16) (r : Fin 1024) (k : Fin 768) : EReal :=
  ∑ q : Fin 1024, x0 (ix2 r q) * x1 (ix2 q k)

theorem point (x0 : FVec Ideal S1024x1024 .bf16) (x1 : FVec Ideal S1024x768 .bf16)
    (y : S1024x768.Idx) : out0_2 (F := Ideal) x0 x1 y = part x0 x1 (y 0) (y 1) := by
  unfold out0_2
  frame_out
  idx_vars y
  pointwise [part, k0_pay1]

/-- The weight and the rows, as device `c` is given them. -/
abbrev aW (c : Dev nD) : FVec Ideal S1024x768 .f32 := m ((c : Thread nD τ).loc main_arg1)
abbrev aP (c : Dev nD) : FVec Ideal S8192x1024 .f32 := m ((c : Thread nD τ).loc main_arg0)

/-- The call's first argument is the rows, rounded. -/
theorem V0 (c : Dev nD) : V m c main_v0 = truncf .bf16 (aP m c) bitsLt_bf16_f32 := by
  unfold V
  simp only [hostOps0,
    StableHlo.TRef.binary, StableHlo.TRef.nullary, StableHlo.TRef.unary, StableHlo.TRef.toBuf, StableHlo.TRef.ofBuf, cast_eq]
  after_results_simp <;> rfl

/-- The call's second argument is the weight, rounded. -/
theorem V1 (c : Dev nD) : V m c main_v1 = truncf .bf16 (aW m c) bitsLt_bf16_f32 := by
  unfold V
  simp only [hostOps0,
    StableHlo.TRef.binary, StableHlo.TRef.nullary, StableHlo.TRef.unary, StableHlo.TRef.toBuf, StableHlo.TRef.ofBuf, cast_eq]
  after_results_simp <;> rfl

/-- A block of the rows, read in the whole array. -/
theorem p_at (c : Dev nD) (t : Fin cfg0.N) (r : Fin 1024) (q : Fin 1024) (n : Fin 8192) (hn : n.val = t.val * 1024 + r.val) :
    iblk m c 0 t (ix2 r q) = aP m c (ix2 n q) := by
  refine Eq.trans ?_ ((congrFun (V0 m c) (ix2 n q)).trans (by pointwise))
  blk_simp [iblk]
  blk_ext [idx t]

/-- An entry of the weight. -/
theorem w_at (c : Dev nD) (t : Fin cfg0.N) (q : Fin 1024) (k : Fin 768) : iblk m c 1 t (ix2 q k) = aW m c (ix2 q k) := by
  refine Eq.trans ?_ ((congrFun (V1 m c) (ix2 q k)).trans (by pointwise))
  blk_simp [iblk]
  blk_ext [idx t]

/-- A point's block of the projection, in the whole. -/
theorem part_at (c : Dev nD) (t : Fin cfg0.N) (r : Fin 1024) (k : Fin 768) (n : Fin 8192) (hn : n.val = t.val * 1024 + r.val) :
    part (iblk m c 0 t) (iblk m c 1 t) r k = pA (aW m c) (aP m c) (ix2 n k) := by
  rw [pA_at]
  exact (Finset.sum_congr rfl fun q _ => congrArg₂ (· * ·) (p_at m c t r q n hn) (w_at m c t q k))

/-- Where a block of the result lies in its array. -/
theorem emb2 (t : Fin cfg0.N) (y : S1024x768.Idx) :
    (win0_2.blk t).view.emb y = ix2 (⟨t.val * 1024 + (y 0).val, by have := ltN t; have : (y 0).val < 1024 := (y 0).isLt; omega⟩ : Fin 8192) (y 1) := by
  idx_vars y
  blk_ext [idx t]

/-- The result is the projection. -/
theorem final2 (c : Dev nD) : (dats m 0 c).arrAt 2 cfg0.N = pA (aW m c) (aP m c) := by
  refine (dats m 0 c).arrAt_eq_of_covers 2 _ (by decide +kernel) fun t hf y => ?_
  blk_simp
  rw [after0_2, point]
  refine Eq.trans ?_ (congrArg _ (emb2 t y).symm)
  exact part_at m c t _ _ _ rfl

end Cert.Kernel24Ideal.Block
-- ==== Proof.Proj.ForwardZ.lean ====
module

public import proofs.«01_k».proof.Proof.Gen.Kernel23Ideal.Frame
public import proofs.«01_k».proof.Proof.Gen.Reference23Ideal
public import Idealize.ShloMosaic.Lib.Pointwise
public import Idealize.ShloMosaic.Lib.IdealHost
public import Idealize.ShloMosaic.Lib.Pipeline.ValueKit
public import Idealize.ShloMosaic.Lib.Pipeline.ReadBack
public import Idealize.ShloMosaic.Lib.Claim
set_option maxRecDepth 16384

/-! A projection: the rows against the weight. Each grid point forms 1024 rows. -/

@[expose] public noncomputable section
open Idealize.ShloMosaic Idealize.ShloMosaic.TcCoe Idealize.SL.Sem
open Idealize.ShloMosaic.Pipeline (Dat)

namespace Cert.Reference23Ideal.Proj
open Cert.Reference23Ideal Cert.Reference23Ideal.Gen

/-- The projection, as the reference forms it. -/
def pA (W : FVec Ideal S1024x1024 .f32) (P : FVec Ideal S8192x1024 .f32) : FVec Ideal S8192x1024 .f32 :=
  Host.dotGeneral dot_S8192x1024_S1024x1024_S8192x1024_1_0_0_1_n_n none P W

theorem pA_at (W : FVec Ideal S1024x1024 .f32) (P : FVec Ideal S8192x1024 .f32) (r : Fin 8192) (k : Fin 1024) :
    pA W P (ix2 r k) = ∑ q : Fin 1024, P (ix2 r q) * W (ix2 q k) := by
  pointwise [pA]

end Cert.Reference23Ideal.Proj

namespace Cert.Kernel23Ideal.Block
open Cert.Kernel23Ideal Cert.Kernel23Ideal.Gen
open Cert.Reference23Ideal.Proj (pA pA_at)
variable (m : (ℓ : Loc nD τ sig) → Buf (Elt Ideal) ℓ)

/-- Which blocks a grid point works on: its own 1024 rows, and the whole weight. -/
theorem idx : ∀ t : Fin cfg0.N, win0_0.index t = ![t.val, 0] ∧ win0_1.index t = ![0, 0]
    ∧ win0_2.index t = ![t.val, 0] :=
  (by decide +kernel : ∀ t : Fin grid0.N, _)

theorem ltN (t : Fin cfg0.N) : t.val < 8 := by
  have h := t.isLt
  have e : cfg0.N = 8 := by decide +kernel
  omega

/-- What a grid point stores. -/
def part (x0 : FVec Ideal S1024x1024 .bf16) (x1 : FVec Ideal S1024x1024 .bf16) (r : Fin 1024) (k : Fin 1024) : EReal :=
  ∑ q : Fin 1024, x0 (ix2 r q) * x1 (ix2 q k)

theorem point (x0 : FVec Ideal S1024x1024 .bf16) (x1 : FVec Ideal S1024x1024 .bf16)
    (y : S1024x1024.Idx) : out0_2 (F := Ideal) x0 x1 y = part x0 x1 (y 0) (y 1) := by
  unfold out0_2
  frame_out
  idx_vars y
  pointwise [part, k0_pay1]

/-- The weight and the rows, as device `c` is given them. -/
abbrev aW (c : Dev nD) : FVec Ideal S1024x1024 .f32 := m ((c : Thread nD τ).loc main_arg1)
abbrev aP (c : Dev nD) : FVec Ideal S8192x1024 .f32 := m ((c : Thread nD τ).loc main_arg0)

/-- The call's first argument is the rows, rounded. -/
theorem V0 (c : Dev nD) : V m c main_v0 = truncf .bf16 (aP m c) bitsLt_bf16_f32 := by
  unfold V
  simp only [hostOps0,
    StableHlo.TRef.binary, StableHlo.TRef.nullary, StableHlo.TRef.unary, StableHlo.TRef.toBuf, StableHlo.TRef.ofBuf, cast_eq]
  after_results_simp <;> rfl

/-- The call's second argument is the weight, rounded. -/
theorem V1 (c : Dev nD) : V m c main_v1 = truncf .bf16 (aW m c) bitsLt_bf16_f32 := by
  unfold V
  simp only [hostOps0,
    StableHlo.TRef.binary, StableHlo.TRef.nullary, StableHlo.TRef.unary, StableHlo.TRef.toBuf, StableHlo.TRef.ofBuf, cast_eq]
  after_results_simp <;> rfl

/-- A block of the rows, read in the whole array. -/
theorem p_at (c : Dev nD) (t : Fin cfg0.N) (r : Fin 1024) (q : Fin 1024) (n : Fin 8192) (hn : n.val = t.val * 1024 + r.val) :
    iblk m c 0 t (ix2 r q) = aP m c (ix2 n q) := by
  refine Eq.trans ?_ ((congrFun (V0 m c) (ix2 n q)).trans (by pointwise))
  blk_simp [iblk]
  blk_ext [idx t]

/-- An entry of the weight. -/
theorem w_at (c : Dev nD) (t : Fin cfg0.N) (q : Fin 1024) (k : Fin 1024) : iblk m c 1 t (ix2 q k) = aW m c (ix2 q k) := by
  refine Eq.trans ?_ ((congrFun (V1 m c) (ix2 q k)).trans (by pointwise))
  blk_simp [iblk]
  blk_ext [idx t]

/-- A point's block of the projection, in the whole. -/
theorem part_at (c : Dev nD) (t : Fin cfg0.N) (r : Fin 1024) (k : Fin 1024) (n : Fin 8192) (hn : n.val = t.val * 1024 + r.val) :
    part (iblk m c 0 t) (iblk m c 1 t) r k = pA (aW m c) (aP m c) (ix2 n k) := by
  rw [pA_at]
  exact (Finset.sum_congr rfl fun q _ => congrArg₂ (· * ·) (p_at m c t r q n hn) (w_at m c t q k))

/-- Where a block of the result lies in its array. -/
theorem emb2 (t : Fin cfg0.N) (y : S1024x1024.Idx) :
    (win0_2.blk t).view.emb y = ix2 (⟨t.val * 1024 + (y 0).val, by have := ltN t; have : (y 0).val < 1024 := (y 0).isLt; omega⟩ : Fin 8192) (y 1) := by
  idx_vars y
  blk_ext [idx t]

/-- The result is the projection. -/
theorem final2 (c : Dev nD) : (dats m 0 c).arrAt 2 cfg0.N = pA (aW m c) (aP m c) := by
  refine (dats m 0 c).arrAt_eq_of_covers 2 _ (by decide +kernel) fun t hf y => ?_
  blk_simp
  rw [after0_2, point]
  refine Eq.trans ?_ (congrArg _ (emb2 t y).symm)
  exact part_at m c t _ _ _ rfl

end Cert.Kernel23Ideal.Block
-- ==== Proof.Proj.InputA.lean ====
module

public import proofs.«01_k».proof.Proof.Gen.Kernel22Ideal.Frame
public import proofs.«01_k».proof.Proof.Gen.Reference22Ideal
public import Idealize.ShloMosaic.Lib.Pointwise
public import Idealize.ShloMosaic.Lib.IdealHost
public import Idealize.ShloMosaic.Lib.Pipeline.ValueKit
public import Idealize.ShloMosaic.Lib.Pipeline.ReadBack
public import Idealize.ShloMosaic.Lib.Claim
set_option maxRecDepth 16384

/-! The gradient of a projection's input: the gradient that arrives against the weight's rows, plus the residual branch's
    scaled gradient. Each grid point forms 1024 rows. -/

@[expose] public noncomputable section
open Idealize.ShloMosaic Idealize.ShloMosaic.TcCoe Idealize.SL.Sem
open Idealize.ShloMosaic.Pipeline (Dat)

namespace Cert.Reference22Ideal.Proj
open Cert.Reference22Ideal Cert.Reference22Ideal.Gen

/-- The input's gradient, as the reference forms it. -/
def dxA (W : FVec Ideal S1024x768 .f32) (Z : FVec Ideal S8192x1024 .f32) (P : FVec Ideal S8192x768 .f32) : FVec Ideal S8192x1024 .f32 :=
  addf (Host.dotGeneral dot_S8192x768_S1024x768_S8192x1024_1_1_0_0_n_n none P W) (mulf (broadcastInDim S8192x1024 ![] bcast_S_S8192x1024 (constant S_ .f32 0x3FB504F3#32)) Z)

theorem dxA_at (W : FVec Ideal S1024x768 .f32) (Z : FVec Ideal S8192x1024 .f32) (P : FVec Ideal S8192x768 .f32) (r : Fin 8192) (k : Fin 1024) :
    dxA W Z P (ix2 r k) = ∑ q : Fin 768, P (ix2 r q) * W (ix2 k q) + Ideal.ofBits .f32 0x3FB504F3#32 * Z (ix2 r k) := by
  pointwise [dxA]

end Cert.Reference22Ideal.Proj

namespace Cert.Kernel22Ideal.Block
open Cert.Kernel22Ideal Cert.Kernel22Ideal.Gen
open Cert.Reference22Ideal.Proj (dxA dxA_at)
variable (m : (ℓ : Loc nD τ sig) → Buf (Elt Ideal) ℓ)

/-- Which blocks a grid point works on: its own 1024 rows, and the whole weight. -/
theorem idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

theorem ltN (t : Fin cfg0.N) : t.val < 8 := by
  have h := t.isLt
  have e : cfg0.N = 8 := by decide +kernel
  omega

/-- What a grid point stores. -/
def part (x0 : FVec Ideal S1024x768 .f32) (x1 : FVec Ideal S768x1024 .bf16) (x2 : FVec Ideal S1024x1024 .f32) (r : Fin 1024) (k : Fin 1024) : EReal :=
  ∑ q : Fin 768, x0 (ix2 r q) * x1 (ix2 q k) + Ideal.ofBits .f32 0x3FB504F3#32 * x2 (ix2 r k)

theorem point (x0 : FVec Ideal S1024x768 .f32) (x1 : FVec Ideal S768x1024 .bf16) (x2 : FVec Ideal S1024x1024 .f32)
    (y : S1024x1024.Idx) : out0_3 (F := Ideal) x0 x1 x2 y = part x0 x1 x2 (y 0) (y 1) := by
  unfold out0_3
  frame_out
  idx_vars y
  pointwise [part, k0_pay1]

/-- The weight, the residual branch's gradient and the gradient that arrives, as device `c` is given them. -/
abbrev aW (c : Dev nD) : FVec Ideal S1024x768 .f32 := m ((c : Thread nD τ).loc main_arg1)
abbrev aZ (c : Dev nD) : FVec Ideal S8192x1024 .f32 := m ((c : Thread nD τ).loc main_arg2)
abbrev aP (c : Dev nD) : FVec Ideal S8192x768 .f32 := m ((c : Thread nD τ).loc main_arg3)

/-- The call's second argument is the weight, rounded and transposed. -/
theorem V1 (c : Dev nD) : V m c main_v1 = transpose S768x1024 [1, 0] (truncf .bf16 (aW m c) bitsLt_bf16_f32) transposes_S1024x768_S768x1024_1_0 := by
  unfold V
  simp only [hostOps0,
    StableHlo.TRef.binary, StableHlo.TRef.nullary, StableHlo.TRef.unary, StableHlo.TRef.toBuf, StableHlo.TRef.ofBuf, cast_eq]
  after_results_simp <;> rfl

/-- A block of the gradient that arrives, read in the whole array. -/
theorem p_at (c : Dev nD) (t : Fin cfg0.N) (r : Fin 1024) (q : Fin 768) (n : Fin 8192) (hn : n.val = t.val * 1024 + r.val) :
    iblk m c 0 t (ix2 r q) = aP m c (ix2 n q) := by
  rw [← show V m c main_arg3 = aP m c from V_main_arg3 m c]
  blk_simp [iblk]
  blk_ext [idx t]

/-- An entry of the weight, transposed. -/
theorem w_at (c : Dev nD) (t : Fin cfg0.N) (q : Fin 768) (k : Fin 1024) : iblk m c 1 t (ix2 q k) = aW m c (ix2 k q) := by
  refine Eq.trans ?_ ((congrFun (V1 m c) (ix2 q k)).trans (by pointwise))
  blk_simp [iblk]
  blk_ext [idx t]

/-- A block of the residual branch's gradient. -/
theorem z_at (c : Dev nD) (t : Fin cfg0.N) (r : Fin 1024) (k : Fin 1024) (n : Fin 8192) (hn : n.val = t.val * 1024 + r.val) :
    iblk m c 2 t (ix2 r k) = aZ m c (ix2 n k) := by
  rw [← show V m c main_arg2 = aZ m c from V_main_arg2 m c]
  blk_simp [iblk]
  blk_ext [idx t]

/-- A point's rows of the gradient, in the whole. -/
theorem part_at (c : Dev nD) (t : Fin cfg0.N) (r : Fin 1024) (k : Fin 1024) (n : Fin 8192) (hn : n.val = t.val * 1024 + r.val) :
    part (iblk m c 0 t) (iblk m c 1 t) (iblk m c 2 t) r k = dxA (aW m c) (aZ m c) (aP m c) (ix2 n k) := by
  rw [dxA_at, ← z_at m c t r k n hn]
  exact congrArg (· + _) (Finset.sum_congr rfl fun q _ => congrArg₂ (· * ·) (p_at m c t r q n hn) (w_at m c t q k))

/-- Where a block of the result lies in its array. -/
theorem emb3 (t : Fin cfg0.N) (y : S1024x1024.Idx) :
    (win0_3.blk t).view.emb y = ix2 (⟨t.val * 1024 + (y 0).val, by have := ltN t; have : (y 0).val < 1024 := (y 0).isLt; omega⟩ : Fin 8192) (y 1) := by
  idx_vars y
  blk_ext [idx t]

/-- The result is the input's gradient. -/
theorem final3 (c : Dev nD) : (dats m 0 c).arrAt 3 cfg0.N = dxA (aW m c) (aZ m c) (aP m c) := by
  refine (dats m 0 c).arrAt_eq_of_covers 3 _ (by decide +kernel) fun t hf y => ?_
  blk_simp
  rw [after0_3, point]
  refine Eq.trans ?_ (congrArg _ (emb3 t y).symm)
  exact part_at m c t _ _ _ rfl

end Cert.Kernel22Ideal.Block
-- ==== Proof.Proj.WeightA.lean ====
module

public import proofs.«01_k».proof.Proof.Gen.Kernel21Ideal.Frame
public import proofs.«01_k».proof.Proof.Gen.Reference21Ideal
public import Idealize.ShloMosaic.Lib.Pointwise
public import Idealize.ShloMosaic.Lib.IdealHost
public import Idealize.ShloMosaic.Lib.Pipeline.ValueKit
public import Idealize.ShloMosaic.Lib.Pipeline.ReadBack
public import Idealize.ShloMosaic.Lib.Claim
set_option maxRecDepth 16384

/-! The gradient of a projection's weight: the input's columns against the columns of the gradient that arrives. Each
    grid point takes 1024 rows and 768 of the gradient's columns, and adds the rows' share to what the points of the
    same columns before it left. -/

@[expose] public noncomputable section
open Idealize.ShloMosaic Idealize.ShloMosaic.TcCoe Idealize.SL.Sem
open Idealize.ShloMosaic.Pipeline (Dat)

namespace Cert.Reference21Ideal.Proj
open Cert.Reference21Ideal Cert.Reference21Ideal.Gen

/-- The weight's gradient, as the reference forms it. -/
def dwA (X : FVec Ideal S8192x1024 .f32) (P : FVec Ideal S8192x768 .f32) : FVec Ideal S1024x768 .f32 :=
  transpose S1024x768 [1, 0] (Host.dotGeneral dot_S8192x768_S8192x1024_S768x1024_0_0_1_1_n_n none P X) transposes_S768x1024_S1024x768_1_0

theorem dwA_at (X : FVec Ideal S8192x1024 .f32) (P : FVec Ideal S8192x768 .f32) (k : Fin 1024) (q : Fin 768) :
    dwA X P (ix2 k q) = ∑ r : Fin 8192, P (ix2 r q) * X (ix2 r k) := by
  pointwise [dwA]

end Cert.Reference21Ideal.Proj

namespace Cert.Kernel21Ideal.Block
open Cert.Kernel21Ideal Cert.Kernel21Ideal.Gen
open Cert.Reference21Ideal.Proj (dwA dwA_at)
variable (m : (ℓ : Loc nD τ sig) → Buf (Elt Ideal) ℓ)

/-- Which blocks a grid point works on: 8 row blocks of each column block in turn. -/
theorem idx : ∀ t : Fin cfg0.N, win0_0.index t = ![t.val % 8, 0] ∧ win0_1.index t = ![t.val % 8, t.val / 8]
    ∧ win0_2.index t = ![0, t.val / 8] :=
  (by decide +kernel : ∀ t : Fin grid0.N, _)

theorem ltN (t : Fin cfg0.N) : t.val < 8 := by
  have h := t.isLt
  have e : cfg0.N = 8 := by decide +kernel
  omega

/-- A point's share of the gradient. -/
def part (x0 : FVec Ideal S1024x1024 .bf16) (x1 : FVec Ideal S1024x768 .f32) (k : Fin 1024) (d : Fin 768) : EReal :=
  ∑ r : Fin 1024, x0 (ix2 r k) * x1 (ix2 r d)

theorem dw_A (c : Dev nD) (t : Fin cfg0.N) (h0 : t.val % 8 = 0) (h1 : ¬1 ≤ t.val) (y : S1024x768.Idx) :
    (outsAt0 m c t.val t.isLt) y = part (iblk m c 0 t) (iblk m c 1 t) (y 0) (y 1) := by
  rw [outsAt0_A m c t h0 h1]
  frame_out
  idx_vars y
  pointwise [k0_pay1, part]

theorem dw_B (c : Dev nD) (t : Fin cfg0.N) (h0 : ¬t.val % 8 = 0) (h1 : 1 ≤ t.val) (y : S1024x768.Idx) :
    (outsAt0 m c t.val t.isLt) y = (outsAt0 m c (t.val - 1) (by omega)) (ix2 (y 0) (y 1)) + part (iblk m c 0 t) (iblk m c 1 t) (y 0) (y 1) := by
  rw [outsAt0_B m c t h0 h1]
  frame_out
  idx_vars y
  pointwise [k0_pay2, k0_pay1, part, read_unread_whole]

/-- The input and the gradient that arrives, as device `c` is given them. -/
abbrev aX (c : Dev nD) : FVec Ideal S8192x1024 .f32 := m ((c : Thread nD τ).loc main_arg0)
abbrev aP (c : Dev nD) : FVec Ideal S8192x768 .f32 := m ((c : Thread nD τ).loc main_arg2)

/-- The call's first argument is the input, rounded. -/
theorem V0 (c : Dev nD) : V m c main_v0 = truncf .bf16 (aX m c) bitsLt_bf16_f32 := by
  unfold V
  simp only [hostOps0,
    StableHlo.TRef.binary, StableHlo.TRef.nullary, StableHlo.TRef.unary, StableHlo.TRef.toBuf, StableHlo.TRef.ofBuf, cast_eq]
  after_results_simp <;> rfl

/-- A block of the input, read in the whole array. -/
theorem x_at (c : Dev nD) (t : Fin cfg0.N) (r : Fin 1024) (k : Fin 1024) (n : Fin 8192) (hn : n.val = t.val % 8 * 1024 + r.val) :
    iblk m c 0 t (ix2 r k) = aX m c (ix2 n k) := by
  refine Eq.trans ?_ ((congrFun (V0 m c) (ix2 n k)).trans (by pointwise))
  blk_simp [iblk]
  blk_ext [idx t]

/-- A block of the gradient that arrives. -/
theorem p_at (c : Dev nD) (t : Fin cfg0.N) (r : Fin 1024) (d : Fin 768) (n : Fin 8192) (q : Fin 768) (hn : n.val = t.val % 8 * 1024 + r.val)
    (hq : q.val = t.val / 8 * 768 + d.val) : iblk m c 1 t (ix2 r d) = aP m c (ix2 n q) := by
  rw [← show V m c main_arg2 = aP m c from V_main_arg2 m c]
  blk_simp [iblk]
  blk_ext [idx t]

/-- The gradient of a column block after its last point. -/
theorem dw_acc (c : Dev nD) (t : Fin cfg0.N) (ct : t.val % 8 = 7) (k : Fin 1024) (d : Fin 768) (q : Fin 768) (hq : q.val = t.val / 8 * 768 + d.val) :
    (outsAt0 m c t.val t.isLt) (ix2 k d) = ∑ n : Fin 8192, aP m c (ix2 n q) * aX m c (ix2 n k) := by
  rw [Pipeline.eq_sum_fin_of_reset_step_apply_of_flush (fun n h => (outsAt0 m c n h)) 8 (fun _ => 0)
      (fun p i => part (iblk m c 0 p) (iblk m c 1 p) (i 0) (i 1))
      (fun p h i => by rw [dw_A m c p h (by have := ltN p; omega) i, zero_add])
      (fun p h i => by rw [dw_B m c p h (by have := ltN p; omega) i, ix2_eta]) t ct _, zero_add]
  refine Fin.sum_mul_add_congr fun s r hr => ?_
  have hp := Pipeline.run_point_lt_of_flush t ct s
  have e8 : (8 * (t.val / 8) + s.val) % 8 = s.val := by omega
  have ed : (8 * (t.val / 8) + s.val) / 8 = t.val / 8 := by omega
  exact (mul_comm _ _).trans (congrArg₂ (· * ·) (p_at m c ⟨8 * (t.val / 8) + s.val, hp⟩ r d _ _ (by dsimp only; omega) (hq.trans (congrArg (fun a => a * 768 + d.val) ed.symm)))
    (x_at m c ⟨8 * (t.val / 8) + s.val, hp⟩ r k _ (by dsimp only; omega)))

/-- Where a block of the result lies in its array. -/
theorem emb2 (t : Fin cfg0.N) (y : S1024x768.Idx) :
    (win0_2.blk t).view.emb y = ix2 (y 0) (⟨t.val / 8 * 768 + (y 1).val, by have := ltN t; have : (y 1).val < 768 := (y 1).isLt; omega⟩ : Fin 768) := by
  idx_vars y
  blk_ext [idx t]

/-- The result is the weight's gradient. -/
theorem final2 (c : Dev nD) : (dats m 0 c).arrAt 2 cfg0.N = dwA (aX m c) (aP m c) := by
  refine (dats m 0 c).arrAt_eq_of_covers 2 _ (by decide +kernel) fun t hf y => ?_
  blk_simp
  have ct := (flush0_2 t).mp hf
  rw [after0_2]
  refine Eq.trans ?_ (congrArg _ (emb2 t y).symm)
  idx_vars y
  exact (dw_acc m c t ct _ _ _ rfl).trans (dwA_at _ _ _ _).symm

end Cert.Kernel21Ideal.Block
-- ==== Proof.Proj.InputB.lean ====
module

public import proofs.«01_k».proof.Proof.Gen.Kernel20Ideal.Frame
public import proofs.«01_k».proof.Proof.Gen.Reference20Ideal
public import Idealize.ShloMosaic.Lib.Pointwise
public import Idealize.ShloMosaic.Lib.IdealHost
public import Idealize.ShloMosaic.Lib.Pipeline.ValueKit
public import Idealize.ShloMosaic.Lib.Pipeline.ReadBack
public import Idealize.ShloMosaic.Lib.Claim
set_option maxRecDepth 16384

/-! The gradient of a projection's input: the gradient that arrives against the weight's rows, added to the
    gradient that the branch beside it left. Each grid point forms 1024 rows. -/

@[expose] public noncomputable section
open Idealize.ShloMosaic Idealize.ShloMosaic.TcCoe Idealize.SL.Sem
open Idealize.ShloMosaic.Pipeline (Dat)

namespace Cert.Reference20Ideal.Proj
open Cert.Reference20Ideal Cert.Reference20Ideal.Gen

/-- The input's gradient, as the reference forms it. -/
def dxA (W : FVec Ideal S1024x512 .f32) (Z : FVec Ideal S8192x1024 .f32) (P : FVec Ideal S8192x512 .f32) : FVec Ideal S8192x1024 .f32 :=
  addf Z (Host.dotGeneral dot_S8192x512_S1024x512_S8192x1024_1_1_0_0_n_n none P W)

theorem dxA_at (W : FVec Ideal S1024x512 .f32) (Z : FVec Ideal S8192x1024 .f32) (P : FVec Ideal S8192x512 .f32) (r : Fin 8192) (k : Fin 1024) :
    dxA W Z P (ix2 r k) = ∑ q : Fin 512, P (ix2 r q) * W (ix2 k q) + Z (ix2 r k) := by
  pointwise [dxA, add_comm]

end Cert.Reference20Ideal.Proj

namespace Cert.Kernel20Ideal.Block
open Cert.Kernel20Ideal Cert.Kernel20Ideal.Gen
open Cert.Reference20Ideal.Proj (dxA dxA_at)
variable (m : (ℓ : Loc nD τ sig) → Buf (Elt Ideal) ℓ)

/-- Which blocks a grid point works on: its own 1024 rows, and the whole weight. -/
theorem idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

theorem ltN (t : Fin cfg0.N) : t.val < 8 := by
  have h := t.isLt
  have e : cfg0.N = 8 := by decide +kernel
  omega

/-- What a grid point stores. -/
def part (x0 : FVec Ideal S1024x512 .f32) (x1 : FVec Ideal S512x1024 .bf16) (x2 : FVec Ideal S1024x1024 .f32) (r : Fin 1024) (k : Fin 1024) : EReal :=
  ∑ q : Fin 512, x0 (ix2 r q) * x1 (ix2 q k) + x2 (ix2 r k)

theorem point (x0 : FVec Ideal S1024x512 .f32) (x1 : FVec Ideal S512x1024 .bf16) (x2 : FVec Ideal S1024x1024 .f32)
    (y : S1024x1024.Idx) : out0_3 (F := Ideal) x0 x1 x2 y = part x0 x1 x2 (y 0) (y 1) := by
  unfold out0_3
  frame_out
  idx_vars y
  pointwise [part, k0_pay1, one_mul]

/-- The weight, the other branch's gradient and the gradient that arrives, as device `c` is given them. -/
abbrev aW (c : Dev nD) : FVec Ideal S1024x512 .f32 := m ((c : Thread nD τ).loc main_arg1)
abbrev aZ (c : Dev nD) : FVec Ideal S8192x1024 .f32 := m ((c : Thread nD τ).loc main_arg2)
abbrev aP (c : Dev nD) : FVec Ideal S8192x512 .f32 := m ((c : Thread nD τ).loc main_arg3)

/-- The call's second argument is the weight, rounded and transposed. -/
theorem V1 (c : Dev nD) : V m c main_v1 = transpose S512x1024 [1, 0] (truncf .bf16 (aW m c) bitsLt_bf16_f32) transposes_S1024x512_S512x1024_1_0 := by
  unfold V
  simp only [hostOps0,
    StableHlo.TRef.binary, StableHlo.TRef.nullary, StableHlo.TRef.unary, StableHlo.TRef.toBuf, StableHlo.TRef.ofBuf, cast_eq]
  after_results_simp <;> rfl

/-- A block of the gradient that arrives, read in the whole array. -/
theorem p_at (c : Dev nD) (t : Fin cfg0.N) (r : Fin 1024) (q : Fin 512) (n : Fin 8192) (hn : n.val = t.val * 1024 + r.val) :
    iblk m c 0 t (ix2 r q) = aP m c (ix2 n q) := by
  rw [← show V m c main_arg3 = aP m c from V_main_arg3 m c]
  blk_simp [iblk]
  blk_ext [idx t]

/-- An entry of the weight, transposed. -/
theorem w_at (c : Dev nD) (t : Fin cfg0.N) (q : Fin 512) (k : Fin 1024) : iblk m c 1 t (ix2 q k) = aW m c (ix2 k q) := by
  refine Eq.trans ?_ ((congrFun (V1 m c) (ix2 q k)).trans (by pointwise))
  blk_simp [iblk]
  blk_ext [idx t]

/-- A block of the other branch's gradient. -/
theorem z_at (c : Dev nD) (t : Fin cfg0.N) (r : Fin 1024) (k : Fin 1024) (n : Fin 8192) (hn : n.val = t.val * 1024 + r.val) :
    iblk m c 2 t (ix2 r k) = aZ m c (ix2 n k) := by
  rw [← show V m c main_arg2 = aZ m c from V_main_arg2 m c]
  blk_simp [iblk]
  blk_ext [idx t]

/-- A point's rows of the gradient, in the whole. -/
theorem part_at (c : Dev nD) (t : Fin cfg0.N) (r : Fin 1024) (k : Fin 1024) (n : Fin 8192) (hn : n.val = t.val * 1024 + r.val) :
    part (iblk m c 0 t) (iblk m c 1 t) (iblk m c 2 t) r k = dxA (aW m c) (aZ m c) (aP m c) (ix2 n k) := by
  rw [dxA_at, ← z_at m c t r k n hn]
  exact congrArg (· + _) (Finset.sum_congr rfl fun q _ => congrArg₂ (· * ·) (p_at m c t r q n hn) (w_at m c t q k))

/-- Where a block of the result lies in its array. -/
theorem emb3 (t : Fin cfg0.N) (y : S1024x1024.Idx) :
    (win0_3.blk t).view.emb y = ix2 (⟨t.val * 1024 + (y 0).val, by have := ltN t; have : (y 0).val < 1024 := (y 0).isLt; omega⟩ : Fin 8192) (y 1) := by
  idx_vars y
  blk_ext [idx t]

/-- The result is the input's gradient. -/
theorem final3 (c : Dev nD) : (dats m 0 c).arrAt 3 cfg0.N = dxA (aW m c) (aZ m c) (aP m c) := by
  refine (dats m 0 c).arrAt_eq_of_covers 3 _ (by decide +kernel) fun t hf y => ?_
  blk_simp
  rw [after0_3, point]
  refine Eq.trans ?_ (congrArg _ (emb3 t y).symm)
  exact part_at m c t _ _ _ rfl

end Cert.Kernel20Ideal.Block
-- ==== Proof.Proj.WeightB.lean ====
module

public import proofs.«01_k».proof.Proof.Gen.Kernel19Ideal.Frame
public import proofs.«01_k».proof.Proof.Gen.Reference19Ideal
public import Idealize.ShloMosaic.Lib.Pointwise
public import Idealize.ShloMosaic.Lib.IdealHost
public import Idealize.ShloMosaic.Lib.Pipeline.ValueKit
public import Idealize.ShloMosaic.Lib.Pipeline.ReadBack
public import Idealize.ShloMosaic.Lib.Claim
set_option maxRecDepth 16384

/-! The gradient of a projection's weight: the input's columns against the columns of the gradient that arrives. Each
    grid point takes 1024 rows and 512 of the gradient's columns, and adds the rows' share to what the points of the
    same columns before it left. -/

@[expose] public noncomputable section
open Idealize.ShloMosaic Idealize.ShloMosaic.TcCoe Idealize.SL.Sem
open Idealize.ShloMosaic.Pipeline (Dat)

namespace Cert.Reference19Ideal.Proj
open Cert.Reference19Ideal Cert.Reference19Ideal.Gen

/-- The weight's gradient, as the reference forms it. -/
def dwA (X : FVec Ideal S8192x1024 .f32) (P : FVec Ideal S8192x512 .f32) : FVec Ideal S1024x512 .f32 :=
  transpose S1024x512 [1, 0] (Host.dotGeneral dot_S8192x512_S8192x1024_S512x1024_0_0_1_1_n_n none P X) transposes_S512x1024_S1024x512_1_0

theorem dwA_at (X : FVec Ideal S8192x1024 .f32) (P : FVec Ideal S8192x512 .f32) (k : Fin 1024) (q : Fin 512) :
    dwA X P (ix2 k q) = ∑ r : Fin 8192, P (ix2 r q) * X (ix2 r k) := by
  pointwise [dwA]

end Cert.Reference19Ideal.Proj

namespace Cert.Kernel19Ideal.Block
open Cert.Kernel19Ideal Cert.Kernel19Ideal.Gen
open Cert.Reference19Ideal.Proj (dwA dwA_at)
variable (m : (ℓ : Loc nD τ sig) → Buf (Elt Ideal) ℓ)

/-- Which blocks a grid point works on: 8 row blocks of each column block in turn. -/
theorem idx : ∀ t : Fin cfg0.N, win0_0.index t = ![t.val % 8, 0] ∧ win0_1.index t = ![t.val % 8, t.val / 8]
    ∧ win0_2.index t = ![0, t.val / 8] :=
  (by decide +kernel : ∀ t : Fin grid0.N, _)

theorem ltN (t : Fin cfg0.N) : t.val < 8 := by
  have h := t.isLt
  have e : cfg0.N = 8 := by decide +kernel
  omega

/-- A point's share of the gradient. -/
def part (x0 : FVec Ideal S1024x1024 .bf16) (x1 : FVec Ideal S1024x512 .f32) (k : Fin 1024) (d : Fin 512) : EReal :=
  ∑ r : Fin 1024, x0 (ix2 r k) * x1 (ix2 r d)

theorem dw_A (c : Dev nD) (t : Fin cfg0.N) (h0 : t.val % 8 = 0) (h1 : ¬1 ≤ t.val) (y : S1024x512.Idx) :
    (outsAt0 m c t.val t.isLt) y = part (iblk m c 0 t) (iblk m c 1 t) (y 0) (y 1) := by
  rw [outsAt0_A m c t h0 h1]
  frame_out
  idx_vars y
  pointwise [k0_pay1, part]

theorem dw_B (c : Dev nD) (t : Fin cfg0.N) (h0 : ¬t.val % 8 = 0) (h1 : 1 ≤ t.val) (y : S1024x512.Idx) :
    (outsAt0 m c t.val t.isLt) y = (outsAt0 m c (t.val - 1) (by omega)) (ix2 (y 0) (y 1)) + part (iblk m c 0 t) (iblk m c 1 t) (y 0) (y 1) := by
  rw [outsAt0_B m c t h0 h1]
  frame_out
  idx_vars y
  pointwise [k0_pay2, k0_pay1, part, read_unread_whole]

/-- The input and the gradient that arrives, as device `c` is given them. -/
abbrev aX (c : Dev nD) : FVec Ideal S8192x1024 .f32 := m ((c : Thread nD τ).loc main_arg0)
abbrev aP (c : Dev nD) : FVec Ideal S8192x512 .f32 := m ((c : Thread nD τ).loc main_arg2)

/-- The call's first argument is the input, rounded. -/
theorem V0 (c : Dev nD) : V m c main_v0 = truncf .bf16 (aX m c) bitsLt_bf16_f32 := by
  unfold V
  simp only [hostOps0,
    StableHlo.TRef.binary, StableHlo.TRef.nullary, StableHlo.TRef.unary, StableHlo.TRef.toBuf, StableHlo.TRef.ofBuf, cast_eq]
  after_results_simp <;> rfl

/-- A block of the input, read in the whole array. -/
theorem x_at (c : Dev nD) (t : Fin cfg0.N) (r : Fin 1024) (k : Fin 1024) (n : Fin 8192) (hn : n.val = t.val % 8 * 1024 + r.val) :
    iblk m c 0 t (ix2 r k) = aX m c (ix2 n k) := by
  refine Eq.trans ?_ ((congrFun (V0 m c) (ix2 n k)).trans (by pointwise))
  blk_simp [iblk]
  blk_ext [idx t]

/-- A block of the gradient that arrives. -/
theorem p_at (c : Dev nD) (t : Fin cfg0.N) (r : Fin 1024) (d : Fin 512) (n : Fin 8192) (q : Fin 512) (hn : n.val = t.val % 8 * 1024 + r.val)
    (hq : q.val = t.val / 8 * 512 + d.val) : iblk m c 1 t (ix2 r d) = aP m c (ix2 n q) := by
  rw [← show V m c main_arg2 = aP m c from V_main_arg2 m c]
  blk_simp [iblk]
  blk_ext [idx t]

/-- The gradient of a column block after its last point. -/
theorem dw_acc (c : Dev nD) (t : Fin cfg0.N) (ct : t.val % 8 = 7) (k : Fin 1024) (d : Fin 512) (q : Fin 512) (hq : q.val = t.val / 8 * 512 + d.val) :
    (outsAt0 m c t.val t.isLt) (ix2 k d) = ∑ n : Fin 8192, aP m c (ix2 n q) * aX m c (ix2 n k) := by
  rw [Pipeline.eq_sum_fin_of_reset_step_apply_of_flush (fun n h => (outsAt0 m c n h)) 8 (fun _ => 0)
      (fun p i => part (iblk m c 0 p) (iblk m c 1 p) (i 0) (i 1))
      (fun p h i => by rw [dw_A m c p h (by have := ltN p; omega) i, zero_add])
      (fun p h i => by rw [dw_B m c p h (by have := ltN p; omega) i, ix2_eta]) t ct _, zero_add]
  refine Fin.sum_mul_add_congr fun s r hr => ?_
  have hp := Pipeline.run_point_lt_of_flush t ct s
  have e8 : (8 * (t.val / 8) + s.val) % 8 = s.val := by omega
  have ed : (8 * (t.val / 8) + s.val) / 8 = t.val / 8 := by omega
  exact (mul_comm _ _).trans (congrArg₂ (· * ·) (p_at m c ⟨8 * (t.val / 8) + s.val, hp⟩ r d _ _ (by dsimp only; omega) (hq.trans (congrArg (fun a => a * 512 + d.val) ed.symm)))
    (x_at m c ⟨8 * (t.val / 8) + s.val, hp⟩ r k _ (by dsimp only; omega)))

/-- Where a block of the result lies in its array. -/
theorem emb2 (t : Fin cfg0.N) (y : S1024x512.Idx) :
    (win0_2.blk t).view.emb y = ix2 (y 0) (⟨t.val / 8 * 512 + (y 1).val, by have := ltN t; have : (y 1).val < 512 := (y 1).isLt; omega⟩ : Fin 512) := by
  idx_vars y
  blk_ext [idx t]

/-- The result is the weight's gradient. -/
theorem final2 (c : Dev nD) : (dats m 0 c).arrAt 2 cfg0.N = dwA (aX m c) (aP m c) := by
  refine (dats m 0 c).arrAt_eq_of_covers 2 _ (by decide +kernel) fun t hf y => ?_
  blk_simp
  have ct := (flush0_2 t).mp hf
  rw [after0_2]
  refine Eq.trans ?_ (congrArg _ (emb2 t y).symm)
  idx_vars y
  exact (dw_acc m c t ct _ _ _ rfl).trans (dwA_at _ _ _ _).symm

end Cert.Kernel19Ideal.Block
-- ==== Proof.Proj.WeightHalf.lean ====
module

public import proofs.«01_k».proof.Proof.Gen.Kernel18Ideal.Frame
public import proofs.«01_k».proof.Proof.Gen.Reference18Ideal
public import Idealize.ShloMosaic.Lib.Pointwise
public import Idealize.ShloMosaic.Lib.IdealHost
public import Idealize.ShloMosaic.Lib.Pipeline.ValueKit
public import Idealize.ShloMosaic.Lib.Pipeline.ReadBack
public import Idealize.ShloMosaic.Lib.Claim
set_option maxRecDepth 16384

/-! The gradient of a projection's weight: the input's columns against the columns of the gradient that arrives. Each
    grid point takes 1024 rows and 1024 of the gradient's columns, and adds the rows' share to what the points of the
    same columns before it left. -/

@[expose] public noncomputable section
open Idealize.ShloMosaic Idealize.ShloMosaic.TcCoe Idealize.SL.Sem
open Idealize.ShloMosaic.Pipeline (Dat)

namespace Cert.Reference18Ideal.Proj
open Cert.Reference18Ideal Cert.Reference18Ideal.Gen

/-- The weight's gradient, as the reference forms it. -/
def dwA (X : FVec Ideal S8192x512 .f32) (P : FVec Ideal S8192x1024 .f32) : FVec Ideal S512x1024 .f32 :=
  transpose S512x1024 [1, 0] (Host.dotGeneral dot_S8192x1024_S8192x512_S1024x512_0_0_1_1_n_n none P X) transposes_S1024x512_S512x1024_1_0

theorem dwA_at (X : FVec Ideal S8192x512 .f32) (P : FVec Ideal S8192x1024 .f32) (k : Fin 512) (q : Fin 1024) :
    dwA X P (ix2 k q) = ∑ r : Fin 8192, P (ix2 r q) * X (ix2 r k) := by
  pointwise [dwA]

end Cert.Reference18Ideal.Proj

namespace Cert.Kernel18Ideal.Block
open Cert.Kernel18Ideal Cert.Kernel18Ideal.Gen
open Cert.Reference18Ideal.Proj (dwA dwA_at)
variable (m : (ℓ : Loc nD τ sig) → Buf (Elt Ideal) ℓ)

/-- Which blocks a grid point works on: 8 row blocks of each column block in turn. -/
theorem idx : ∀ t : Fin cfg0.N, win0_0.index t = ![t.val % 8, 0] ∧ win0_1.index t = ![t.val % 8, t.val / 8]
    ∧ win0_2.index t = ![0, t.val / 8] :=
  (by decide +kernel : ∀ t : Fin grid0.N, _)

theorem ltN (t : Fin cfg0.N) : t.val < 8 := by
  have h := t.isLt
  have e : cfg0.N = 8 := by decide +kernel
  omega

/-- A point's share of the gradient. -/
def part (x0 : FVec Ideal S1024x512 .f32) (x1 : FVec Ideal S1024x1024 .bf16) (k : Fin 512) (d : Fin 1024) : EReal :=
  ∑ r : Fin 1024, x0 (ix2 r k) * x1 (ix2 r d)

theorem dw_A (c : Dev nD) (t : Fin cfg0.N) (h0 : t.val % 8 = 0) (h1 : ¬1 ≤ t.val) (y : S512x1024.Idx) :
    (outsAt0 m c t.val t.isLt) y = part (iblk m c 0 t) (iblk m c 1 t) (y 0) (y 1) := by
  rw [outsAt0_A m c t h0 h1]
  frame_out
  idx_vars y
  pointwise [k0_pay1, part]

theorem dw_B (c : Dev nD) (t : Fin cfg0.N) (h0 : ¬t.val % 8 = 0) (h1 : 1 ≤ t.val) (y : S512x1024.Idx) :
    (outsAt0 m c t.val t.isLt) y = (outsAt0 m c (t.val - 1) (by omega)) (ix2 (y 0) (y 1)) + part (iblk m c 0 t) (iblk m c 1 t) (y 0) (y 1) := by
  rw [outsAt0_B m c t h0 h1]
  frame_out
  idx_vars y
  pointwise [k0_pay2, k0_pay1, part, read_unread_whole]

/-- The input and the gradient that arrives, as device `c` is given them. -/
abbrev aX (c : Dev nD) : FVec Ideal S8192x512 .f32 := m ((c : Thread nD τ).loc main_arg0)
abbrev aP (c : Dev nD) : FVec Ideal S8192x1024 .f32 := m ((c : Thread nD τ).loc main_arg2)

/-- The call's second argument is the gradient that arrives, rounded. -/
theorem V0 (c : Dev nD) : V m c main_v0 = truncf .bf16 (aP m c) bitsLt_bf16_f32 := by
  unfold V
  simp only [hostOps0,
    StableHlo.TRef.binary, StableHlo.TRef.nullary, StableHlo.TRef.unary, StableHlo.TRef.toBuf, StableHlo.TRef.ofBuf, cast_eq]
  after_results_simp <;> rfl

/-- A block of the input, read in the whole array. -/
theorem x_at (c : Dev nD) (t : Fin cfg0.N) (r : Fin 1024) (k : Fin 512) (n : Fin 8192) (hn : n.val = t.val % 8 * 1024 + r.val) :
    iblk m c 0 t (ix2 r k) = aX m c (ix2 n k) := by
  rw [← show V m c main_arg0 = aX m c from V_main_arg0 m c]
  blk_simp [iblk]
  blk_ext [idx t]

/-- A block of the gradient that arrives. -/
theorem p_at (c : Dev nD) (t : Fin cfg0.N) (r : Fin 1024) (d : Fin 1024) (n : Fin 8192) (q : Fin 1024) (hn : n.val = t.val % 8 * 1024 + r.val)
    (hq : q.val = t.val / 8 * 1024 + d.val) : iblk m c 1 t (ix2 r d) = aP m c (ix2 n q) := by
  refine Eq.trans ?_ ((congrFun (V0 m c) (ix2 n q)).trans (by pointwise))
  blk_simp [iblk]
  blk_ext [idx t]

/-- The gradient of a column block after its last point. -/
theorem dw_acc (c : Dev nD) (t : Fin cfg0.N) (ct : t.val % 8 = 7) (k : Fin 512) (d : Fin 1024) (q : Fin 1024) (hq : q.val = t.val / 8 * 1024 + d.val) :
    (outsAt0 m c t.val t.isLt) (ix2 k d) = ∑ n : Fin 8192, aP m c (ix2 n q) * aX m c (ix2 n k) := by
  rw [Pipeline.eq_sum_fin_of_reset_step_apply_of_flush (fun n h => (outsAt0 m c n h)) 8 (fun _ => 0)
      (fun p i => part (iblk m c 0 p) (iblk m c 1 p) (i 0) (i 1))
      (fun p h i => by rw [dw_A m c p h (by have := ltN p; omega) i, zero_add])
      (fun p h i => by rw [dw_B m c p h (by have := ltN p; omega) i, ix2_eta]) t ct _, zero_add]
  refine Fin.sum_mul_add_congr fun s r hr => ?_
  have hp := Pipeline.run_point_lt_of_flush t ct s
  have e8 : (8 * (t.val / 8) + s.val) % 8 = s.val := by omega
  have ed : (8 * (t.val / 8) + s.val) / 8 = t.val / 8 := by omega
  exact (mul_comm _ _).trans (congrArg₂ (· * ·) (p_at m c ⟨8 * (t.val / 8) + s.val, hp⟩ r d _ _ (by dsimp only; omega) (hq.trans (congrArg (fun a => a * 1024 + d.val) ed.symm)))
    (x_at m c ⟨8 * (t.val / 8) + s.val, hp⟩ r k _ (by dsimp only; omega)))

/-- Where a block of the result lies in its array. -/
theorem emb2 (t : Fin cfg0.N) (y : S512x1024.Idx) :
    (win0_2.blk t).view.emb y = ix2 (y 0) (⟨t.val / 8 * 1024 + (y 1).val, by have := ltN t; have : (y 1).val < 1024 := (y 1).isLt; omega⟩ : Fin 1024) := by
  idx_vars y
  blk_ext [idx t]

/-- The result is the weight's gradient. -/
theorem final2 (c : Dev nD) : (dats m 0 c).arrAt 2 cfg0.N = dwA (aX m c) (aP m c) := by
  refine (dats m 0 c).arrAt_eq_of_covers 2 _ (by decide +kernel) fun t hf y => ?_
  blk_simp
  have ct := (flush0_2 t).mp hf
  rw [after0_2]
  refine Eq.trans ?_ (congrArg _ (emb2 t y).symm)
  idx_vars y
  exact (dw_acc m c t ct _ _ _ rfl).trans (dwA_at _ _ _ _).symm

end Cert.Kernel18Ideal.Block
-- ==== Proof.Proj.InputHalf.lean ====
module

public import proofs.«01_k».proof.Proof.Gen.Kernel17Ideal.Frame
public import proofs.«01_k».proof.Proof.Gen.Reference17Ideal
public import Idealize.ShloMosaic.Lib.Pointwise
public import Idealize.ShloMosaic.Lib.IdealHost
public import Idealize.ShloMosaic.Lib.Pipeline.ValueKit
public import Idealize.ShloMosaic.Lib.Pipeline.ReadBack
public import Idealize.ShloMosaic.Lib.Claim
set_option maxRecDepth 16384

/-! The gradient of a projection's input: the gradient that arrives against the weight's rows. Each grid point forms 1024 rows. -/

@[expose] public noncomputable section
open Idealize.ShloMosaic Idealize.ShloMosaic.TcCoe Idealize.SL.Sem
open Idealize.ShloMosaic.Pipeline (Dat)

namespace Cert.Reference17Ideal.Proj
open Cert.Reference17Ideal Cert.Reference17Ideal.Gen

/-- The input's gradient, as the reference forms it. -/
def dxA (W : FVec Ideal S512x1024 .f32) (P : FVec Ideal S8192x1024 .f32) : FVec Ideal S8192x512 .f32 :=
  Host.dotGeneral dot_S8192x1024_S512x1024_S8192x512_1_1_0_0_n_n none P W

theorem dxA_at (W : FVec Ideal S512x1024 .f32) (P : FVec Ideal S8192x1024 .f32) (r : Fin 8192) (k : Fin 512) :
    dxA W P (ix2 r k) = ∑ q : Fin 1024, P (ix2 r q) * W (ix2 k q) := by
  pointwise [dxA]

end Cert.Reference17Ideal.Proj

namespace Cert.Kernel17Ideal.Block
open Cert.Kernel17Ideal Cert.Kernel17Ideal.Gen
open Cert.Reference17Ideal.Proj (dxA dxA_at)
variable (m : (ℓ : Loc nD τ sig) → Buf (Elt Ideal) ℓ)

/-- Which blocks a grid point works on: its own 1024 rows, and the whole weight. -/
theorem idx : ∀ t : Fin cfg0.N, win0_0.index t = ![t.val, 0] ∧ win0_1.index t = ![0, 0]
    ∧ win0_2.index t = ![t.val, 0] :=
  (by decide +kernel : ∀ t : Fin grid0.N, _)

theorem ltN (t : Fin cfg0.N) : t.val < 8 := by
  have h := t.isLt
  have e : cfg0.N = 8 := by decide +kernel
  omega

/-- What a grid point stores. -/
def part (x0 : FVec Ideal S1024x1024 .bf16) (x1 : FVec Ideal S1024x512 .bf16) (r : Fin 1024) (k : Fin 512) : EReal :=
  ∑ q : Fin 1024, x0 (ix2 r q) * x1 (ix2 q k)

theorem point (x0 : FVec Ideal S1024x1024 .bf16) (x1 : FVec Ideal S1024x512 .bf16)
    (y : S1024x512.Idx) : out0_2 (F := Ideal) x0 x1 y = part x0 x1 (y 0) (y 1) := by
  unfold out0_2
  frame_out
  idx_vars y
  pointwise [part, k0_pay1]

/-- The weight and the gradient that arrives, as device `c` is given them. -/
abbrev aW (c : Dev nD) : FVec Ideal S512x1024 .f32 := m ((c : Thread nD τ).loc main_arg1)
abbrev aP (c : Dev nD) : FVec Ideal S8192x1024 .f32 := m ((c : Thread nD τ).loc main_arg2)

/-- The call's first argument is the gradient that arrives, rounded. -/
theorem V0 (c : Dev nD) : V m c main_v0 = truncf .bf16 (aP m c) bitsLt_bf16_f32 := by
  unfold V
  simp only [hostOps0,
    StableHlo.TRef.binary, StableHlo.TRef.nullary, StableHlo.TRef.unary, StableHlo.TRef.toBuf, StableHlo.TRef.ofBuf, cast_eq]
  after_results_simp <;> rfl

/-- The call's second argument is the weight, rounded and transposed. -/
theorem V1 (c : Dev nD) : V m c main_v2 = transpose S1024x512 [1, 0] (truncf .bf16 (aW m c) bitsLt_bf16_f32) transposes_S512x1024_S1024x512_1_0 := by
  unfold V
  simp only [hostOps0,
    StableHlo.TRef.binary, StableHlo.TRef.nullary, StableHlo.TRef.unary, StableHlo.TRef.toBuf, StableHlo.TRef.ofBuf, cast_eq]
  after_results_simp <;> rfl

/-- A block of the gradient that arrives, read in the whole array. -/
theorem p_at (c : Dev nD) (t : Fin cfg0.N) (r : Fin 1024) (q : Fin 1024) (n : Fin 8192) (hn : n.val = t.val * 1024 + r.val) :
    iblk m c 0 t (ix2 r q) = aP m c (ix2 n q) := by
  refine Eq.trans ?_ ((congrFun (V0 m c) (ix2 n q)).trans (by pointwise))
  blk_simp [iblk]
  blk_ext [idx t]

/-- An entry of the weight, transposed. -/
theorem w_at (c : Dev nD) (t : Fin cfg0.N) (q : Fin 1024) (k : Fin 512) : iblk m c 1 t (ix2 q k) = aW m c (ix2 k q) := by
  refine Eq.trans ?_ ((congrFun (V1 m c) (ix2 q k)).trans (by pointwise))
  blk_simp [iblk]
  blk_ext [idx t]

/-- A point's rows of the gradient, in the whole. -/
theorem part_at (c : Dev nD) (t : Fin cfg0.N) (r : Fin 1024) (k : Fin 512) (n : Fin 8192) (hn : n.val = t.val * 1024 + r.val) :
    part (iblk m c 0 t) (iblk m c 1 t) r k = dxA (aW m c) (aP m c) (ix2 n k) := by
  rw [dxA_at]
  exact (Finset.sum_congr rfl fun q _ => congrArg₂ (· * ·) (p_at m c t r q n hn) (w_at m c t q k))

/-- Where a block of the result lies in its array. -/
theorem emb2 (t : Fin cfg0.N) (y : S1024x512.Idx) :
    (win0_2.blk t).view.emb y = ix2 (⟨t.val * 1024 + (y 0).val, by have := ltN t; have : (y 0).val < 1024 := (y 0).isLt; omega⟩ : Fin 8192) (y 1) := by
  idx_vars y
  blk_ext [idx t]

/-- The result is the input's gradient. -/
theorem final2 (c : Dev nD) : (dats m 0 c).arrAt 2 cfg0.N = dxA (aW m c) (aP m c) := by
  refine (dats m 0 c).arrAt_eq_of_covers 2 _ (by decide +kernel) fun t hf y => ?_
  blk_simp
  rw [after0_2, point]
  refine Eq.trans ?_ (congrArg _ (emb2 t y).symm)
  exact part_at m c t _ _ _ rfl

end Cert.Kernel17Ideal.Block
-- ==== Proof.Proj.Forward.lean ====
module

public import proofs.«01_k».proof.Proof.Gen.Kernel16Ideal.Frame
public import proofs.«01_k».proof.Proof.Gen.Reference16Ideal
public import Idealize.ShloMosaic.Lib.Pointwise
public import Idealize.ShloMosaic.Lib.IdealHost
public import Idealize.ShloMosaic.Lib.Pipeline.ValueKit
public import Idealize.ShloMosaic.Lib.Pipeline.ReadBack
public import Idealize.ShloMosaic.Lib.Claim
set_option maxRecDepth 16384

/-! A projection: the rows against the weight. Each grid point forms 1024 rows of 1024 of the result's columns. -/

@[expose] public noncomputable section
open Idealize.ShloMosaic Idealize.ShloMosaic.TcCoe Idealize.SL.Sem
open Idealize.ShloMosaic.Pipeline (Dat)

namespace Cert.Reference16Ideal.Proj
open Cert.Reference16Ideal Cert.Reference16Ideal.Gen

/-- The projection, as the reference forms it. -/
def pA (W : FVec Ideal S1024x3072 .f32) (P : FVec Ideal S8192x1024 .f32) : FVec Ideal S8192x3072 .f32 :=
  Host.dotGeneral dot_S8192x1024_S1024x3072_S8192x3072_1_0_0_1_n_n none P W

theorem pA_at (W : FVec Ideal S1024x3072 .f32) (P : FVec Ideal S8192x1024 .f32) (r : Fin 8192) (k : Fin 3072) :
    pA W P (ix2 r k) = ∑ q : Fin 1024, P (ix2 r q) * W (ix2 q k) := by
  pointwise [pA]

end Cert.Reference16Ideal.Proj

namespace Cert.Kernel16Ideal.Block
open Cert.Kernel16Ideal Cert.Kernel16Ideal.Gen
open Cert.Reference16Ideal.Proj (pA pA_at)
variable (m : (ℓ : Loc nD τ sig) → Buf (Elt Ideal) ℓ)

/-- Which blocks a grid point works on: 1024 rows, and three column blocks of the weight in turn. -/
theorem idx : ∀ t : Fin cfg0.N, win0_0.index t = ![t.val / 3, 0] ∧ win0_1.index t = ![0, t.val % 3]
    ∧ win0_2.index t = ![t.val / 3, t.val % 3] :=
  (by decide +kernel : ∀ t : Fin grid0.N, _)

theorem ltN (t : Fin cfg0.N) : t.val < 24 := by
  have h := t.isLt
  have e : cfg0.N = 24 := by decide +kernel
  omega

/-- What a grid point stores. -/
def part (x0 x1 : FVec Ideal S1024x1024 .bf16) (r : Fin 1024) (k : Fin 1024) : EReal :=
  ∑ q : Fin 1024, x0 (ix2 r q) * x1 (ix2 q k)

theorem point (x0 x1 : FVec Ideal S1024x1024 .bf16)
    (y : S1024x1024.Idx) : out0_2 (F := Ideal) x0 x1 y = part x0 x1 (y 0) (y 1) := by
  unfold out0_2
  frame_out
  idx_vars y
  pointwise [part, k0_pay1]

/-- The weight and the rows, as device `c` is given them. -/
abbrev aW (c : Dev nD) : FVec Ideal S1024x3072 .f32 := m ((c : Thread nD τ).loc main_arg1)
abbrev aP (c : Dev nD) : FVec Ideal S8192x1024 .f32 := m ((c : Thread nD τ).loc main_arg0)

/-- The call's first argument is the rows, rounded. -/
theorem V0 (c : Dev nD) : V m c main_v0 = truncf .bf16 (aP m c) bitsLt_bf16_f32 := by
  unfold V
  simp only [hostOps0,
    StableHlo.TRef.binary, StableHlo.TRef.nullary, StableHlo.TRef.unary, StableHlo.TRef.toBuf, StableHlo.TRef.ofBuf, cast_eq]
  after_results_simp <;> rfl

/-- The call's second argument is the weight, rounded. -/
theorem V1 (c : Dev nD) : V m c main_v1 = truncf .bf16 (aW m c) bitsLt_bf16_f32 := by
  unfold V
  simp only [hostOps0,
    StableHlo.TRef.binary, StableHlo.TRef.nullary, StableHlo.TRef.unary, StableHlo.TRef.toBuf, StableHlo.TRef.ofBuf, cast_eq]
  after_results_simp <;> rfl

/-- A block of the rows, read in the whole array. -/
theorem p_at (c : Dev nD) (t : Fin cfg0.N) (r : Fin 1024) (q : Fin 1024) (n : Fin 8192) (hn : n.val = t.val / 3 * 1024 + r.val) :
    iblk m c 0 t (ix2 r q) = aP m c (ix2 n q) := by
  refine Eq.trans ?_ ((congrFun (V0 m c) (ix2 n q)).trans (by pointwise))
  blk_simp [iblk]
  blk_ext [idx t]

/-- A block of the weight. -/
theorem w_at (c : Dev nD) (t : Fin cfg0.N) (q k : Fin 1024) (d : Fin 3072) (hd : d.val = t.val % 3 * 1024 + k.val) : iblk m c 1 t (ix2 q k) = aW m c (ix2 q d) := by
  refine Eq.trans ?_ ((congrFun (V1 m c) (ix2 q d)).trans (by pointwise))
  blk_simp [iblk]
  blk_ext [idx t]

/-- A point's block of the projection, in the whole. -/
theorem part_at (c : Dev nD) (t : Fin cfg0.N) (r : Fin 1024) (k : Fin 1024) (n : Fin 8192) (hn : n.val = t.val / 3 * 1024 + r.val)
    (d : Fin 3072) (hd : d.val = t.val % 3 * 1024 + k.val) :
    part (iblk m c 0 t) (iblk m c 1 t) r k = pA (aW m c) (aP m c) (ix2 n d) := by
  rw [pA_at]
  exact (Finset.sum_congr rfl fun q _ => congrArg₂ (· * ·) (p_at m c t r q n hn) (w_at m c t q k d hd))

/-- Where a block of the result lies in its array. -/
theorem emb2 (t : Fin cfg0.N) (y : S1024x1024.Idx) :
    (win0_2.blk t).view.emb y = ix2 (⟨t.val / 3 * 1024 + (y 0).val, by have := ltN t; have : (y 0).val < 1024 := (y 0).isLt; omega⟩ : Fin 8192)
      (⟨t.val % 3 * 1024 + (y 1).val, by have : (y 1).val < 1024 := (y 1).isLt; omega⟩ : Fin 3072) := by
  idx_vars y
  blk_ext [idx t]

/-- The result is the projection. -/
theorem final2 (c : Dev nD) : (dats m 0 c).arrAt 2 cfg0.N = pA (aW m c) (aP m c) := by
  refine (dats m 0 c).arrAt_eq_of_covers 2 _ (by decide +kernel) fun t hf y => ?_
  blk_simp
  rw [after0_2, point]
  refine Eq.trans ?_ (congrArg _ (emb2 t y).symm)
  exact part_at m c t _ _ _ rfl _ rfl

end Cert.Kernel16Ideal.Block
-- ==== Proof.Proj.WeightOut.lean ====
module

public import proofs.«01_k».proof.Proof.Gen.Kernel14Ideal.Frame
public import proofs.«01_k».proof.Proof.Gen.Reference14Ideal
public import Idealize.ShloMosaic.Lib.Pointwise
public import Idealize.ShloMosaic.Lib.IdealHost
public import Idealize.ShloMosaic.Lib.Pipeline.ValueKit
public import Idealize.ShloMosaic.Lib.Pipeline.ReadBack
public import Idealize.ShloMosaic.Lib.Claim
set_option maxRecDepth 16384

/-! The gradient of a projection's weight: the input's columns against the columns of the gradient that arrives. Each
    grid point takes 1024 rows and 1024 of the gradient's columns, and adds the rows' share to what the points of the
    same columns before it left. -/

@[expose] public noncomputable section
open Idealize.ShloMosaic Idealize.ShloMosaic.TcCoe Idealize.SL.Sem
open Idealize.ShloMosaic.Pipeline (Dat)

namespace Cert.Reference14Ideal.Proj
open Cert.Reference14Ideal Cert.Reference14Ideal.Gen

/-- The weight's gradient, as the reference forms it. -/
def dwA (X : FVec Ideal S8192x1024 .f32) (P : FVec Ideal S8192x1024 .f32) : FVec Ideal S1024x1024 .f32 :=
  transpose S1024x1024 [1, 0] (Host.dotGeneral dot_S8192x1024_S8192x1024_S1024x1024_0_0_1_1_n_n none P X) transposes_S1024x1024_S1024x1024_1_0

theorem dwA_at (X : FVec Ideal S8192x1024 .f32) (P : FVec Ideal S8192x1024 .f32) (k : Fin 1024) (q : Fin 1024) :
    dwA X P (ix2 k q) = ∑ r : Fin 8192, P (ix2 r q) * X (ix2 r k) := by
  pointwise [dwA]

end Cert.Reference14Ideal.Proj

namespace Cert.Kernel14Ideal.Block
open Cert.Kernel14Ideal Cert.Kernel14Ideal.Gen
open Cert.Reference14Ideal.Proj (dwA dwA_at)
variable (m : (ℓ : Loc nD τ sig) → Buf (Elt Ideal) ℓ)

/-- Which blocks a grid point works on: 8 row blocks of each column block in turn. -/
theorem idx : ∀ t : Fin cfg0.N, win0_0.index t = ![t.val % 8, 0] ∧ win0_1.index t = ![t.val % 8, t.val / 8]
    ∧ win0_2.index t = ![0, t.val / 8] :=
  (by decide +kernel : ∀ t : Fin grid0.N, _)

theorem ltN (t : Fin cfg0.N) : t.val < 8 := by
  have h := t.isLt
  have e : cfg0.N = 8 := by decide +kernel
  omega

/-- A point's share of the gradient. -/
def part (x0 : FVec Ideal S1024x1024 .f32) (x1 : FVec Ideal S1024x1024 .bf16) (k : Fin 1024) (d : Fin 1024) : EReal :=
  ∑ r : Fin 1024, x0 (ix2 r k) * x1 (ix2 r d)

theorem dw_A (c : Dev nD) (t : Fin cfg0.N) (h0 : t.val % 8 = 0) (h1 : ¬1 ≤ t.val) (y : S1024x1024.Idx) :
    (outsAt0 m c t.val t.isLt) y = part (iblk m c 0 t) (iblk m c 1 t) (y 0) (y 1) := by
  rw [outsAt0_A m c t h0 h1]
  frame_out
  idx_vars y
  pointwise [k0_pay1, part]

theorem dw_B (c : Dev nD) (t : Fin cfg0.N) (h0 : ¬t.val % 8 = 0) (h1 : 1 ≤ t.val) (y : S1024x1024.Idx) :
    (outsAt0 m c t.val t.isLt) y = (outsAt0 m c (t.val - 1) (by omega)) (ix2 (y 0) (y 1)) + part (iblk m c 0 t) (iblk m c 1 t) (y 0) (y 1) := by
  rw [outsAt0_B m c t h0 h1]
  frame_out
  idx_vars y
  pointwise [k0_pay2, k0_pay1, part, read_unread_whole]

/-- The input and the gradient that arrives, as device `c` is given them. -/
abbrev aX (c : Dev nD) : FVec Ideal S8192x1024 .f32 := m ((c : Thread nD τ).loc main_arg0)
abbrev aP (c : Dev nD) : FVec Ideal S8192x1024 .f32 := m ((c : Thread nD τ).loc main_arg2)

/-- The call's second argument is the gradient that arrives, rounded. -/
theorem V0 (c : Dev nD) : V m c main_v0 = truncf .bf16 (aP m c) bitsLt_bf16_f32 := by
  unfold V
  simp only [hostOps0,
    StableHlo.TRef.binary, StableHlo.TRef.nullary, StableHlo.TRef.unary, StableHlo.TRef.toBuf, StableHlo.TRef.ofBuf, cast_eq]
  after_results_simp <;> rfl

/-- A block of the input, read in the whole array. -/
theorem x_at (c : Dev nD) (t : Fin cfg0.N) (r : Fin 1024) (k : Fin 1024) (n : Fin 8192) (hn : n.val = t.val % 8 * 1024 + r.val) :
    iblk m c 0 t (ix2 r k) = aX m c (ix2 n k) := by
  rw [← show V m c main_arg0 = aX m c from V_main_arg0 m c]
  blk_simp [iblk]
  blk_ext [idx t]

/-- A block of the gradient that arrives. -/
theorem p_at (c : Dev nD) (t : Fin cfg0.N) (r : Fin 1024) (d : Fin 1024) (n : Fin 8192) (q : Fin 1024) (hn : n.val = t.val % 8 * 1024 + r.val)
    (hq : q.val = t.val / 8 * 1024 + d.val) : iblk m c 1 t (ix2 r d) = aP m c (ix2 n q) := by
  refine Eq.trans ?_ ((congrFun (V0 m c) (ix2 n q)).trans (by pointwise))
  blk_simp [iblk]
  blk_ext [idx t]

/-- The gradient of a column block after its last point. -/
theorem dw_acc (c : Dev nD) (t : Fin cfg0.N) (ct : t.val % 8 = 7) (k : Fin 1024) (d : Fin 1024) (q : Fin 1024) (hq : q.val = t.val / 8 * 1024 + d.val) :
    (outsAt0 m c t.val t.isLt) (ix2 k d) = ∑ n : Fin 8192, aP m c (ix2 n q) * aX m c (ix2 n k) := by
  rw [Pipeline.eq_sum_fin_of_reset_step_apply_of_flush (fun n h => (outsAt0 m c n h)) 8 (fun _ => 0)
      (fun p i => part (iblk m c 0 p) (iblk m c 1 p) (i 0) (i 1))
      (fun p h i => by rw [dw_A m c p h (by have := ltN p; omega) i, zero_add])
      (fun p h i => by rw [dw_B m c p h (by have := ltN p; omega) i, ix2_eta]) t ct _, zero_add]
  refine Fin.sum_mul_add_congr fun s r hr => ?_
  have hp := Pipeline.run_point_lt_of_flush t ct s
  have e8 : (8 * (t.val / 8) + s.val) % 8 = s.val := by omega
  have ed : (8 * (t.val / 8) + s.val) / 8 = t.val / 8 := by omega
  exact (mul_comm _ _).trans (congrArg₂ (· * ·) (p_at m c ⟨8 * (t.val / 8) + s.val, hp⟩ r d _ _ (by dsimp only; omega) (hq.trans (congrArg (fun a => a * 1024 + d.val) ed.symm)))
    (x_at m c ⟨8 * (t.val / 8) + s.val, hp⟩ r k _ (by dsimp only; omega)))

/-- Where a block of the result lies in its array. -/
theorem emb2 (t : Fin cfg0.N) (y : S1024x1024.Idx) :
    (win0_2.blk t).view.emb y = ix2 (y 0) (⟨t.val / 8 * 1024 + (y 1).val, by have := ltN t; have : (y 1).val < 1024 := (y 1).isLt; omega⟩ : Fin 1024) := by
  idx_vars y
  blk_ext [idx t]

/-- The result is the weight's gradient. -/
theorem final2 (c : Dev nD) : (dats m 0 c).arrAt 2 cfg0.N = dwA (aX m c) (aP m c) := by
  refine (dats m 0 c).arrAt_eq_of_covers 2 _ (by decide +kernel) fun t hf y => ?_
  blk_simp
  have ct := (flush0_2 t).mp hf
  rw [after0_2]
  refine Eq.trans ?_ (congrArg _ (emb2 t y).symm)
  idx_vars y
  exact (dw_acc m c t ct _ _ _ rfl).trans (dwA_at _ _ _ _).symm

end Cert.Kernel14Ideal.Block
-- ==== Proof.Proj.InputOut.lean ====
module

public import proofs.«01_k».proof.Proof.Gen.Kernel13Ideal.Frame
public import proofs.«01_k».proof.Proof.Gen.Reference13Ideal
public import Idealize.ShloMosaic.Lib.Pointwise
public import Idealize.ShloMosaic.Lib.IdealHost
public import Idealize.ShloMosaic.Lib.Pipeline.ValueKit
public import Idealize.ShloMosaic.Lib.Pipeline.ReadBack
public import Idealize.ShloMosaic.Lib.Claim
set_option maxRecDepth 16384

/-! The gradient of a projection's input: the gradient that arrives against the weight's rows. Each grid point forms 1024 rows. -/

@[expose] public noncomputable section
open Idealize.ShloMosaic Idealize.ShloMosaic.TcCoe Idealize.SL.Sem
open Idealize.ShloMosaic.Pipeline (Dat)

namespace Cert.Reference13Ideal.Proj
open Cert.Reference13Ideal Cert.Reference13Ideal.Gen

/-- The input's gradient, as the reference forms it. -/
def dxA (W : FVec Ideal S1024x1024 .f32) (P : FVec Ideal S8192x1024 .f32) : FVec Ideal S8192x1024 .f32 :=
  Host.dotGeneral dot_S8192x1024_S1024x1024_S8192x1024_1_1_0_0_n_n none P W

theorem dxA_at (W : FVec Ideal S1024x1024 .f32) (P : FVec Ideal S8192x1024 .f32) (r : Fin 8192) (k : Fin 1024) :
    dxA W P (ix2 r k) = ∑ q : Fin 1024, P (ix2 r q) * W (ix2 k q) := by
  pointwise [dxA]

end Cert.Reference13Ideal.Proj

namespace Cert.Kernel13Ideal.Block
open Cert.Kernel13Ideal Cert.Kernel13Ideal.Gen
open Cert.Reference13Ideal.Proj (dxA dxA_at)
variable (m : (ℓ : Loc nD τ sig) → Buf (Elt Ideal) ℓ)

/-- Which blocks a grid point works on: its own 1024 rows, and the whole weight. -/
theorem idx : ∀ t : Fin cfg0.N, win0_0.index t = ![t.val, 0] ∧ win0_1.index t = ![0, 0]
    ∧ win0_2.index t = ![t.val, 0] :=
  (by decide +kernel : ∀ t : Fin grid0.N, _)

theorem ltN (t : Fin cfg0.N) : t.val < 8 := by
  have h := t.isLt
  have e : cfg0.N = 8 := by decide +kernel
  omega

/-- What a grid point stores. -/
def part (x0 x1 : FVec Ideal S1024x1024 .bf16) (r : Fin 1024) (k : Fin 1024) : EReal :=
  ∑ q : Fin 1024, x0 (ix2 r q) * x1 (ix2 q k)

theorem point (x0 x1 : FVec Ideal S1024x1024 .bf16)
    (y : S1024x1024.Idx) : out0_2 (F := Ideal) x0 x1 y = part x0 x1 (y 0) (y 1) := by
  unfold out0_2
  frame_out
  idx_vars y
  pointwise [part, k0_pay1]

/-- The weight and the gradient that arrives, as device `c` is given them. -/
abbrev aW (c : Dev nD) : FVec Ideal S1024x1024 .f32 := m ((c : Thread nD τ).loc main_arg1)
abbrev aP (c : Dev nD) : FVec Ideal S8192x1024 .f32 := m ((c : Thread nD τ).loc main_arg2)

/-- The call's first argument is the gradient that arrives, rounded. -/
theorem V0 (c : Dev nD) : V m c main_v0 = truncf .bf16 (aP m c) bitsLt_bf16_f32 := by
  unfold V
  simp only [hostOps0,
    StableHlo.TRef.binary, StableHlo.TRef.nullary, StableHlo.TRef.unary, StableHlo.TRef.toBuf, StableHlo.TRef.ofBuf, cast_eq]
  after_results_simp <;> rfl

/-- The call's second argument is the weight, rounded and transposed. -/
theorem V1 (c : Dev nD) : V m c main_v2 = transpose S1024x1024 [1, 0] (truncf .bf16 (aW m c) bitsLt_bf16_f32) transposes_S1024x1024_S1024x1024_1_0 := by
  unfold V
  simp only [hostOps0,
    StableHlo.TRef.binary, StableHlo.TRef.nullary, StableHlo.TRef.unary, StableHlo.TRef.toBuf, StableHlo.TRef.ofBuf, cast_eq]
  after_results_simp <;> rfl

/-- A block of the gradient that arrives, read in the whole array. -/
theorem p_at (c : Dev nD) (t : Fin cfg0.N) (r : Fin 1024) (q : Fin 1024) (n : Fin 8192) (hn : n.val = t.val * 1024 + r.val) :
    iblk m c 0 t (ix2 r q) = aP m c (ix2 n q) := by
  refine Eq.trans ?_ ((congrFun (V0 m c) (ix2 n q)).trans (by pointwise))
  blk_simp [iblk]
  blk_ext [idx t]

/-- An entry of the weight, transposed. -/
theorem w_at (c : Dev nD) (t : Fin cfg0.N) (q : Fin 1024) (k : Fin 1024) : iblk m c 1 t (ix2 q k) = aW m c (ix2 k q) := by
  refine Eq.trans ?_ ((congrFun (V1 m c) (ix2 q k)).trans (by pointwise))
  blk_simp [iblk]
  blk_ext [idx t]

/-- A point's rows of the gradient, in the whole. -/
theorem part_at (c : Dev nD) (t : Fin cfg0.N) (r : Fin 1024) (k : Fin 1024) (n : Fin 8192) (hn : n.val = t.val * 1024 + r.val) :
    part (iblk m c 0 t) (iblk m c 1 t) r k = dxA (aW m c) (aP m c) (ix2 n k) := by
  rw [dxA_at]
  exact (Finset.sum_congr rfl fun q _ => congrArg₂ (· * ·) (p_at m c t r q n hn) (w_at m c t q k))

/-- Where a block of the result lies in its array. -/
theorem emb2 (t : Fin cfg0.N) (y : S1024x1024.Idx) :
    (win0_2.blk t).view.emb y = ix2 (⟨t.val * 1024 + (y 0).val, by have := ltN t; have : (y 0).val < 1024 := (y 0).isLt; omega⟩ : Fin 8192) (y 1) := by
  idx_vars y
  blk_ext [idx t]

/-- The result is the input's gradient. -/
theorem final2 (c : Dev nD) : (dats m 0 c).arrAt 2 cfg0.N = dxA (aW m c) (aP m c) := by
  refine (dats m 0 c).arrAt_eq_of_covers 2 _ (by decide +kernel) fun t hf y => ?_
  blk_simp
  rw [after0_2, point]
  refine Eq.trans ?_ (congrArg _ (emb2 t y).symm)
  exact part_at m c t _ _ _ rfl

end Cert.Kernel13Ideal.Block
-- ==== Proof.Proj.InputZ.lean ====
module

public import proofs.«01_k».proof.Proof.Gen.Kernel12Ideal.Frame
public import proofs.«01_k».proof.Proof.Gen.Reference12Ideal
public import Idealize.ShloMosaic.Lib.Pointwise
public import Idealize.ShloMosaic.Lib.IdealHost
public import Idealize.ShloMosaic.Lib.Pipeline.ValueKit
public import Idealize.ShloMosaic.Lib.Pipeline.ReadBack
public import Idealize.ShloMosaic.Lib.Claim
set_option maxRecDepth 16384

/-! The gradient of a projection's input: the gradient that arrives against the weight's rows, added to the
    gradient that the branch beside it left. Each grid point forms 1024 rows. -/

@[expose] public noncomputable section
open Idealize.ShloMosaic Idealize.ShloMosaic.TcCoe Idealize.SL.Sem
open Idealize.ShloMosaic.Pipeline (Dat)

namespace Cert.Reference12Ideal.Proj
open Cert.Reference12Ideal Cert.Reference12Ideal.Gen

/-- The input's gradient, as the reference forms it. -/
def dxA (W : FVec Ideal S1024x1024 .f32) (Z : FVec Ideal S8192x1024 .f32) (P : FVec Ideal S8192x1024 .f32) : FVec Ideal S8192x1024 .f32 :=
  addf Z (Host.dotGeneral dot_S8192x1024_S1024x1024_S8192x1024_1_1_0_0_n_n none P W)

theorem dxA_at (W : FVec Ideal S1024x1024 .f32) (Z : FVec Ideal S8192x1024 .f32) (P : FVec Ideal S8192x1024 .f32) (r : Fin 8192) (k : Fin 1024) :
    dxA W Z P (ix2 r k) = ∑ q : Fin 1024, P (ix2 r q) * W (ix2 k q) + Z (ix2 r k) := by
  pointwise [dxA, add_comm]

end Cert.Reference12Ideal.Proj

namespace Cert.Kernel12Ideal.Block
open Cert.Kernel12Ideal Cert.Kernel12Ideal.Gen
open Cert.Reference12Ideal.Proj (dxA dxA_at)
variable (m : (ℓ : Loc nD τ sig) → Buf (Elt Ideal) ℓ)

/-- Which blocks a grid point works on: its own 1024 rows, and the whole weight. -/
theorem idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

theorem ltN (t : Fin cfg0.N) : t.val < 8 := by
  have h := t.isLt
  have e : cfg0.N = 8 := by decide +kernel
  omega

/-- What a grid point stores. -/
def part (x0 : FVec Ideal S1024x1024 .f32) (x1 : FVec Ideal S1024x1024 .bf16) (x2 : FVec Ideal S1024x1024 .f32) (r : Fin 1024) (k : Fin 1024) : EReal :=
  ∑ q : Fin 1024, x0 (ix2 r q) * x1 (ix2 q k) + x2 (ix2 r k)

theorem point (x0 : FVec Ideal S1024x1024 .f32) (x1 : FVec Ideal S1024x1024 .bf16) (x2 : FVec Ideal S1024x1024 .f32)
    (y : S1024x1024.Idx) : out0_3 (F := Ideal) x0 x1 x2 y = part x0 x1 x2 (y 0) (y 1) := by
  unfold out0_3
  frame_out
  idx_vars y
  pointwise [part, k0_pay1, one_mul]

/-- The weight, the other branch's gradient and the gradient that arrives, as device `c` is given them. -/
abbrev aW (c : Dev nD) : FVec Ideal S1024x1024 .f32 := m ((c : Thread nD τ).loc main_arg1)
abbrev aZ (c : Dev nD) : FVec Ideal S8192x1024 .f32 := m ((c : Thread nD τ).loc main_arg2)
abbrev aP (c : Dev nD) : FVec Ideal S8192x1024 .f32 := m ((c : Thread nD τ).loc main_arg3)

/-- The call's second argument is the weight, rounded and transposed. -/
theorem V1 (c : Dev nD) : V m c main_v1 = transpose S1024x1024 [1, 0] (truncf .bf16 (aW m c) bitsLt_bf16_f32) transposes_S1024x1024_S1024x1024_1_0 := by
  unfold V
  simp only [hostOps0,
    StableHlo.TRef.binary, StableHlo.TRef.nullary, StableHlo.TRef.unary, StableHlo.TRef.toBuf, StableHlo.TRef.ofBuf, cast_eq]
  after_results_simp <;> rfl

/-- A block of the gradient that arrives, read in the whole array. -/
theorem p_at (c : Dev nD) (t : Fin cfg0.N) (r : Fin 1024) (q : Fin 1024) (n : Fin 8192) (hn : n.val = t.val * 1024 + r.val) :
    iblk m c 0 t (ix2 r q) = aP m c (ix2 n q) := by
  rw [← show V m c main_arg3 = aP m c from V_main_arg3 m c]
  blk_simp [iblk]
  blk_ext [idx t]

/-- An entry of the weight, transposed. -/
theorem w_at (c : Dev nD) (t : Fin cfg0.N) (q : Fin 1024) (k : Fin 1024) : iblk m c 1 t (ix2 q k) = aW m c (ix2 k q) := by
  refine Eq.trans ?_ ((congrFun (V1 m c) (ix2 q k)).trans (by pointwise))
  blk_simp [iblk]
  blk_ext [idx t]

/-- A block of the other branch's gradient. -/
theorem z_at (c : Dev nD) (t : Fin cfg0.N) (r : Fin 1024) (k : Fin 1024) (n : Fin 8192) (hn : n.val = t.val * 1024 + r.val) :
    iblk m c 2 t (ix2 r k) = aZ m c (ix2 n k) := by
  rw [← show V m c main_arg2 = aZ m c from V_main_arg2 m c]
  blk_simp [iblk]
  blk_ext [idx t]

/-- A point's rows of the gradient, in the whole. -/
theorem part_at (c : Dev nD) (t : Fin cfg0.N) (r : Fin 1024) (k : Fin 1024) (n : Fin 8192) (hn : n.val = t.val * 1024 + r.val) :
    part (iblk m c 0 t) (iblk m c 1 t) (iblk m c 2 t) r k = dxA (aW m c) (aZ m c) (aP m c) (ix2 n k) := by
  rw [dxA_at, ← z_at m c t r k n hn]
  exact congrArg (· + _) (Finset.sum_congr rfl fun q _ => congrArg₂ (· * ·) (p_at m c t r q n hn) (w_at m c t q k))

/-- Where a block of the result lies in its array. -/
theorem emb3 (t : Fin cfg0.N) (y : S1024x1024.Idx) :
    (win0_3.blk t).view.emb y = ix2 (⟨t.val * 1024 + (y 0).val, by have := ltN t; have : (y 0).val < 1024 := (y 0).isLt; omega⟩ : Fin 8192) (y 1) := by
  idx_vars y
  blk_ext [idx t]

/-- The result is the input's gradient. -/
theorem final3 (c : Dev nD) : (dats m 0 c).arrAt 3 cfg0.N = dxA (aW m c) (aZ m c) (aP m c) := by
  refine (dats m 0 c).arrAt_eq_of_covers 3 _ (by decide +kernel) fun t hf y => ?_
  blk_simp
  rw [after0_3, point]
  refine Eq.trans ?_ (congrArg _ (emb3 t y).symm)
  exact part_at m c t _ _ _ rfl

end Cert.Kernel12Ideal.Block
-- ==== Proof.Proj.WeightZ.lean ====
module

public import proofs.«01_k».proof.Proof.Gen.Kernel11Ideal.Frame
public import proofs.«01_k».proof.Proof.Gen.Reference11Ideal
public import Idealize.ShloMosaic.Lib.Pointwise
public import Idealize.ShloMosaic.Lib.IdealHost
public import Idealize.ShloMosaic.Lib.Pipeline.ValueKit
public import Idealize.ShloMosaic.Lib.Pipeline.ReadBack
public import Idealize.ShloMosaic.Lib.Claim
set_option maxRecDepth 16384

/-! The gradient of a projection's weight: the input's columns against the columns of the gradient that arrives. Each
    grid point takes 1024 rows and 1024 of the gradient's columns, and adds the rows' share to what the points of the
    same columns before it left. -/

@[expose] public noncomputable section
open Idealize.ShloMosaic Idealize.ShloMosaic.TcCoe Idealize.SL.Sem
open Idealize.ShloMosaic.Pipeline (Dat)

namespace Cert.Reference11Ideal.Proj
open Cert.Reference11Ideal Cert.Reference11Ideal.Gen

/-- The weight's gradient, as the reference forms it. -/
def dwA (X : FVec Ideal S8192x1024 .f32) (P : FVec Ideal S8192x1024 .f32) : FVec Ideal S1024x1024 .f32 :=
  transpose S1024x1024 [1, 0] (Host.dotGeneral dot_S8192x1024_S8192x1024_S1024x1024_0_0_1_1_n_n none P X) transposes_S1024x1024_S1024x1024_1_0

theorem dwA_at (X : FVec Ideal S8192x1024 .f32) (P : FVec Ideal S8192x1024 .f32) (k : Fin 1024) (q : Fin 1024) :
    dwA X P (ix2 k q) = ∑ r : Fin 8192, P (ix2 r q) * X (ix2 r k) := by
  pointwise [dwA]

end Cert.Reference11Ideal.Proj

namespace Cert.Kernel11Ideal.Block
open Cert.Kernel11Ideal Cert.Kernel11Ideal.Gen
open Cert.Reference11Ideal.Proj (dwA dwA_at)
variable (m : (ℓ : Loc nD τ sig) → Buf (Elt Ideal) ℓ)

/-- Which blocks a grid point works on: 8 row blocks of each column block in turn. -/
theorem idx : ∀ t : Fin cfg0.N, win0_0.index t = ![t.val % 8, 0] ∧ win0_1.index t = ![t.val % 8, t.val / 8]
    ∧ win0_2.index t = ![0, t.val / 8] :=
  (by decide +kernel : ∀ t : Fin grid0.N, _)

theorem ltN (t : Fin cfg0.N) : t.val < 8 := by
  have h := t.isLt
  have e : cfg0.N = 8 := by decide +kernel
  omega

/-- A point's share of the gradient. -/
def part (x0 : FVec Ideal S1024x1024 .bf16) (x1 : FVec Ideal S1024x1024 .f32) (k : Fin 1024) (d : Fin 1024) : EReal :=
  ∑ r : Fin 1024, x0 (ix2 r k) * x1 (ix2 r d)

theorem dw_A (c : Dev nD) (t : Fin cfg0.N) (h0 : t.val % 8 = 0) (h1 : ¬1 ≤ t.val) (y : S1024x1024.Idx) :
    (outsAt0 m c t.val t.isLt) y = part (iblk m c 0 t) (iblk m c 1 t) (y 0) (y 1) := by
  rw [outsAt0_A m c t h0 h1]
  frame_out
  idx_vars y
  pointwise [k0_pay1, part]

theorem dw_B (c : Dev nD) (t : Fin cfg0.N) (h0 : ¬t.val % 8 = 0) (h1 : 1 ≤ t.val) (y : S1024x1024.Idx) :
    (outsAt0 m c t.val t.isLt) y = (outsAt0 m c (t.val - 1) (by omega)) (ix2 (y 0) (y 1)) + part (iblk m c 0 t) (iblk m c 1 t) (y 0) (y 1) := by
  rw [outsAt0_B m c t h0 h1]
  frame_out
  idx_vars y
  pointwise [k0_pay2, k0_pay1, part, read_unread_whole]

/-- The input and the gradient that arrives, as device `c` is given them. -/
abbrev aX (c : Dev nD) : FVec Ideal S8192x1024 .f32 := m ((c : Thread nD τ).loc main_arg0)
abbrev aP (c : Dev nD) : FVec Ideal S8192x1024 .f32 := m ((c : Thread nD τ).loc main_arg2)

/-- The call's first argument is the input, rounded. -/
theorem V0 (c : Dev nD) : V m c main_v0 = truncf .bf16 (aX m c) bitsLt_bf16_f32 := by
  unfold V
  simp only [hostOps0,
    StableHlo.TRef.binary, StableHlo.TRef.nullary, StableHlo.TRef.unary, StableHlo.TRef.toBuf, StableHlo.TRef.ofBuf, cast_eq]
  after_results_simp <;> rfl

/-- A block of the input, read in the whole array. -/
theorem x_at (c : Dev nD) (t : Fin cfg0.N) (r : Fin 1024) (k : Fin 1024) (n : Fin 8192) (hn : n.val = t.val % 8 * 1024 + r.val) :
    iblk m c 0 t (ix2 r k) = aX m c (ix2 n k) := by
  refine Eq.trans ?_ ((congrFun (V0 m c) (ix2 n k)).trans (by pointwise))
  blk_simp [iblk]
  blk_ext [idx t]

/-- A block of the gradient that arrives. -/
theorem p_at (c : Dev nD) (t : Fin cfg0.N) (r : Fin 1024) (d : Fin 1024) (n : Fin 8192) (q : Fin 1024) (hn : n.val = t.val % 8 * 1024 + r.val)
    (hq : q.val = t.val / 8 * 1024 + d.val) : iblk m c 1 t (ix2 r d) = aP m c (ix2 n q) := by
  rw [← show V m c main_arg2 = aP m c from V_main_arg2 m c]
  blk_simp [iblk]
  blk_ext [idx t]

/-- The gradient of a column block after its last point. -/
theorem dw_acc (c : Dev nD) (t : Fin cfg0.N) (ct : t.val % 8 = 7) (k : Fin 1024) (d : Fin 1024) (q : Fin 1024) (hq : q.val = t.val / 8 * 1024 + d.val) :
    (outsAt0 m c t.val t.isLt) (ix2 k d) = ∑ n : Fin 8192, aP m c (ix2 n q) * aX m c (ix2 n k) := by
  rw [Pipeline.eq_sum_fin_of_reset_step_apply_of_flush (fun n h => (outsAt0 m c n h)) 8 (fun _ => 0)
      (fun p i => part (iblk m c 0 p) (iblk m c 1 p) (i 0) (i 1))
      (fun p h i => by rw [dw_A m c p h (by have := ltN p; omega) i, zero_add])
      (fun p h i => by rw [dw_B m c p h (by have := ltN p; omega) i, ix2_eta]) t ct _, zero_add]
  refine Fin.sum_mul_add_congr fun s r hr => ?_
  have hp := Pipeline.run_point_lt_of_flush t ct s
  have e8 : (8 * (t.val / 8) + s.val) % 8 = s.val := by omega
  have ed : (8 * (t.val / 8) + s.val) / 8 = t.val / 8 := by omega
  exact (mul_comm _ _).trans (congrArg₂ (· * ·) (p_at m c ⟨8 * (t.val / 8) + s.val, hp⟩ r d _ _ (by dsimp only; omega) (hq.trans (congrArg (fun a => a * 1024 + d.val) ed.symm)))
    (x_at m c ⟨8 * (t.val / 8) + s.val, hp⟩ r k _ (by dsimp only; omega)))

/-- Where a block of the result lies in its array. -/
theorem emb2 (t : Fin cfg0.N) (y : S1024x1024.Idx) :
    (win0_2.blk t).view.emb y = ix2 (y 0) (⟨t.val / 8 * 1024 + (y 1).val, by have := ltN t; have : (y 1).val < 1024 := (y 1).isLt; omega⟩ : Fin 1024) := by
  idx_vars y
  blk_ext [idx t]

/-- The result is the weight's gradient. -/
theorem final2 (c : Dev nD) : (dats m 0 c).arrAt 2 cfg0.N = dwA (aX m c) (aP m c) := by
  refine (dats m 0 c).arrAt_eq_of_covers 2 _ (by decide +kernel) fun t hf y => ?_
  blk_simp
  have ct := (flush0_2 t).mp hf
  rw [after0_2]
  refine Eq.trans ?_ (congrArg _ (emb2 t y).symm)
  idx_vars y
  exact (dw_acc m c t ct _ _ _ rfl).trans (dwA_at _ _ _ _).symm

end Cert.Kernel11Ideal.Block
-- ==== Proof.Ple.Ref.lean ====
module

public import proofs.«01_k».proof.Proof.Gen.Reference7Ideal.Run
public import proofs.«01_k».proof.Proof.Norm.Ref
set_option maxRecDepth 16384

/-! The reference's gradients of a layer norm followed by the per-layer embedding, read entry by entry. -/

@[expose] public noncomputable section
open Idealize.ShloMosaic Idealize.ShloMosaic.TcCoe Idealize.SL.Sem

namespace Cert.Reference7Ideal.Ple
open Cert.Reference7Ideal Cert.Reference7Ideal.Gen Cert.Reference7Ideal.Value Cert.Norm
open Cert.Reference3Ideal.Ffn (lnA)
open Cert.Reference5Ideal.Ln (xhatA uA dzA colSum)

variable (X Y A : FVec Ideal S8192x1024 .f32) (P : FVec Ideal S8192x256 .f32) (WG : FVec Ideal S1024x1024 .f32) (BG : FVec Ideal S1024 .f32)
  (WP : FVec Ideal S256x1024 .f32)

/-- The constant 1, as an array. -/
def one : FVec Ideal S8192x1024 .f32 := broadcastInDim S8192x1024 ![] bcast_S_S8192x1024 (constant S_ .f32 0x3F800000#32)
/-- What the gate is taken of, and the gate. -/
def preA : FVec Ideal S8192x1024 .f32 :=
  addf (Host.dotGeneral dot_S8192x1024_S1024x1024_S8192x1024_1_0_0_1_n_n none X WG)
    (broadcastInDim S8192x1024 ![0, 1] bcast_S1x1024_S8192x1024_0_1 (broadcastInDim S1x1024 ![1] bcast_S1024_S1x1024_1 BG))
def sgA : FVec Ideal S8192x1024 .f32 := Host.divf one (addf one (Host.exp (Host.negf A)))
/-- The embedding. -/
def eA : FVec Ideal S8192x1024 .f32 := Host.dotGeneral dot_S8192x256_S256x1024_S8192x1024_1_0_0_1_n_n none P WP
/-- The incoming gradient. -/
def yA : FVec Ideal S8192x1024 .f32 := shapeCast _ Y shapeCasts_S8192x1024_S8192x1024
/-- The gradient of what the gate is taken of. -/
def daA : FVec Ideal S8192x1024 .f32 :=
  mulf (mulf (yA Y) (eA P WP)) (mulf (sgA (preA X WG BG)) (subf one (sgA (preA X WG BG))))
/-- The gradient of the embedding. -/
def deA : FVec Ideal S8192x1024 .f32 := mulf (sgA (preA X WG BG)) (yA Y)
/-- The gradient of the rows that the gate and the sum take. -/
def dxA : FVec Ideal S8192x1024 .f32 :=
  addf (yA Y) (Host.dotGeneral dot_S8192x1024_S1024x1024_S8192x1024_1_1_0_0_n_n none (daA X Y P WG BG WP) WG)
/-- The gradients of the gate's weight and of the embedding's. -/
def dwgA : FVec Ideal S1024x1024 .f32 :=
  transpose S1024x1024 [1, 0] (Host.dotGeneral dot_S8192x1024_S8192x1024_S1024x1024_0_0_1_1_n_n none (daA X Y P WG BG WP) X) transposes_S1024x1024_S1024x1024_1_0
def dwpA : FVec Ideal S256x1024 .f32 :=
  transpose S256x1024 [1, 0] (Host.dotGeneral dot_S8192x1024_S8192x256_S1024x256_0_0_1_1_n_n none (deA X Y WG BG) P) transposes_S1024x256_S256x1024_1_0

theorem one_at (n : Fin 8192) (d : Fin 1024) : one (ix2 n d) = Ideal.ofBits .f32 0x3F800000#32 := by pointwise [one]
theorem preA_at (n : Fin 8192) (d : Fin 1024) : preA X WG BG (ix2 n d) = ∑ k : Fin 1024, X (ix2 n k) * WG (ix2 k d) + BG (ix1 d) := by pointwise [preA]
theorem sgA_at (n : Fin 8192) (d : Fin 1024) : sgA A (ix2 n d) = Ideal.logistic (A (ix2 n d)) := by
  pointwise [sgA, one]
  rfl
theorem eA_at (n : Fin 8192) (d : Fin 1024) : eA P WP (ix2 n d) = ∑ k : Fin 256, P (ix2 n k) * WP (ix2 k d) := by pointwise [eA]
theorem yA_at (n : Fin 8192) (d : Fin 1024) : yA Y (ix2 n d) = Y (ix2 n d) := by pointwise [yA]
theorem daA_at (n : Fin 8192) (d : Fin 1024) : daA X Y P WG BG WP (ix2 n d)
    = Y (ix2 n d) * eA P WP (ix2 n d) * (Ideal.logistic (preA X WG BG (ix2 n d)) * (1 - Ideal.logistic (preA X WG BG (ix2 n d)))) := by
  pointwise [daA, yA_at, sgA_at, one]
theorem deA_at (n : Fin 8192) (d : Fin 1024) : deA X Y WG BG (ix2 n d) = Ideal.logistic (preA X WG BG (ix2 n d)) * Y (ix2 n d) := by
  pointwise [deA, yA_at, sgA_at]
theorem dxA_at (n : Fin 8192) (d : Fin 1024) : dxA X Y P WG BG WP (ix2 n d)
    = Y (ix2 n d) + ∑ k : Fin 1024, daA X Y P WG BG WP (ix2 n k) * WG (ix2 d k) := by
  pointwise [dxA, yA_at]
theorem dwgA_at (k d : Fin 1024) : dwgA X Y P WG BG WP (ix2 k d) = ∑ n : Fin 8192, daA X Y P WG BG WP (ix2 n d) * X (ix2 n k) := by
  pointwise [dwgA]
theorem dwpA_at (q : Fin 256) (d : Fin 1024) : dwpA X Y P WG BG (ix2 q d) = ∑ n : Fin 8192, deA X Y WG BG (ix2 n d) * P (ix2 n q) := by
  pointwise [dwpA]

section
variable (m : (ℓ : Loc nD τ sig) → Buf (Elt Ideal) ℓ) (c : Dev nD)
/-- The reference's arguments. -/
abbrev rZ : FVec Ideal S8192x1024 .f32 := m ((c.tc : Thread nD τ).loc main_arg0)
abbrev rX : FVec Ideal S8192x1024 .f32 := lnA (m ((c.tc : Thread nD τ).loc main_arg1)) (m ((c.tc : Thread nD τ).loc main_arg2)) (m ((c.tc : Thread nD τ).loc main_arg0))
abbrev rDx : FVec Ideal S8192x1024 .f32 :=
  dxA (rX m c) (m ((c.tc : Thread nD τ).loc main_arg7)) (m ((c.tc : Thread nD τ).loc main_arg3)) (m ((c.tc : Thread nD τ).loc main_arg4)) (m ((c.tc : Thread nD τ).loc main_arg5)) (m ((c.tc : Thread nD τ).loc main_arg6))
abbrev rDz : FVec Ideal S8192x1024 .f32 := dzA (rZ m c) (uA (m ((c.tc : Thread nD τ).loc main_arg1)) (rDx m c))

/-- The terms the reference's results are stated with are these. -/
theorem out0_eq : res_out0 m c = rDz m c := rfl
theorem out1_eq : res_out1 m c = truncf .bf16 (rDz m c) bitsLt_bf16_f32 := rfl
theorem out2_eq : res_out2 m c = dwgA (rX m c) (m ((c.tc : Thread nD τ).loc main_arg7)) (m ((c.tc : Thread nD τ).loc main_arg3)) (m ((c.tc : Thread nD τ).loc main_arg4)) (m ((c.tc : Thread nD τ).loc main_arg5)) (m ((c.tc : Thread nD τ).loc main_arg6)) := rfl
theorem out3_eq : res_out3 m c = colSum (daA (rX m c) (m ((c.tc : Thread nD τ).loc main_arg7)) (m ((c.tc : Thread nD τ).loc main_arg3)) (m ((c.tc : Thread nD τ).loc main_arg4)) (m ((c.tc : Thread nD τ).loc main_arg5)) (m ((c.tc : Thread nD τ).loc main_arg6))) := rfl
theorem out5_eq : res_out5 m c = colSum (mulf (xhatA (rZ m c)) (rDx m c)) := rfl
theorem out6_eq : res_out6 m c = colSum (rDx m c) := rfl
end

end Cert.Reference7Ideal.Ple
-- ==== Proof.Ple.Forward.lean ====
module

public import proofs.«01_k».proof.Proof.Gen.Kernel15Ideal.Frame
public import proofs.«01_k».proof.Proof.Gen.Reference15Ideal
public import proofs.«01_k».proof.Proof.Ple.Ref
public import Idealize.ShloMosaic.Lib.Pointwise
public import Idealize.ShloMosaic.Lib.IdealHost
public import Idealize.ShloMosaic.Lib.Pipeline.ValueKit
public import Idealize.ShloMosaic.Lib.Pipeline.ReadBack
public import Idealize.ShloMosaic.Lib.Claim
set_option maxRecDepth 16384

/-! The per-layer embedding: the rows, with the embedding's projection added through a gate of the rows. Each grid point
    forms 512 rows. -/

@[expose] public noncomputable section
open Idealize.ShloMosaic Idealize.ShloMosaic.TcCoe Idealize.SL.Sem
open Idealize.ShloMosaic.Pipeline (Dat)

namespace Cert.Reference15Ideal.Ple
open Cert.Reference15Ideal Cert.Reference15Ideal.Gen
open Cert.Reference7Ideal.Ple (sgA sgA_at preA preA_at eA eA_at)

/-- The rows with the gated embedding added, as the reference forms them. -/
def outA (X : FVec Ideal S8192x1024 .f32) (P : FVec Ideal S8192x256 .f32) (WG : FVec Ideal S1024x1024 .f32) (BG : FVec Ideal S1024 .f32)
    (WP : FVec Ideal S256x1024 .f32) : FVec Ideal S8192x1024 .f32 :=
  addf X (mulf (sgA (preA X WG BG)) (eA P WP))

theorem outA_at (X : FVec Ideal S8192x1024 .f32) (P : FVec Ideal S8192x256 .f32) (WG : FVec Ideal S1024x1024 .f32) (BG : FVec Ideal S1024 .f32)
    (WP : FVec Ideal S256x1024 .f32) (n : Fin 8192) (d : Fin 1024) : outA X P WG BG WP (ix2 n d)
      = X (ix2 n d) + Ideal.logistic (∑ k : Fin 1024, X (ix2 n k) * WG (ix2 k d) + BG (ix1 d)) * ∑ k : Fin 256, P (ix2 n k) * WP (ix2 k d) := by
  rw [← preA_at, ← sgA_at, ← eA_at]
  rfl

end Cert.Reference15Ideal.Ple

namespace Cert.Kernel15Ideal.Block
open Cert.Kernel15Ideal Cert.Kernel15Ideal.Gen
open Cert.Reference15Ideal.Ple (outA outA_at)
variable (m : (ℓ : Loc nD τ sig) → Buf (Elt Ideal) ℓ)

/-- Which blocks a grid point works on: its own 512 rows, and the whole weights and bias. -/
theorem idx : ∀ t : Fin cfg0.N, win0_0.index t = ![t.val, 0] ∧ win0_1.index t = ![t.val, 0]
    ∧ win0_2.index t = ![0, 0] ∧ win0_3.index t = ![0, 0] ∧ win0_4.index t = ![0, 0] ∧ win0_5.index t = ![t.val, 0] ∧ win0_6.index t = ![t.val, 0] :=
  (by decide +kernel : ∀ t : Fin grid0.N, _)

/-- There are sixteen grid points. -/
theorem lt16 (t : Fin cfg0.N) : t.val < 16 := lt_of_lt_of_eq t.isLt N_0

/-- What a grid point stores. -/
def part (x0 : FVec Ideal S512x1024 .f32) (x1 : FVec Ideal S512x256 .f32) (x2 : FVec Ideal S1024x1024 .bf16) (x3 : FVec Ideal S1x1024 .f32)
    (x4 : FVec Ideal S256x1024 .bf16) (r : Fin 512) (d : Fin 1024) : EReal :=
  x0 (ix2 r d) + Ideal.logistic (∑ k : Fin 1024, x0 (ix2 r k) * x2 (ix2 k d) + x3 (ix2 0 d)) * ∑ k : Fin 256, x1 (ix2 r k) * x4 (ix2 k d)

theorem point5 (x0 : FVec Ideal S512x1024 .f32) (x1 : FVec Ideal S512x256 .f32) (x2 : FVec Ideal S1024x1024 .bf16) (x3 : FVec Ideal S1x1024 .f32)
    (x4 : FVec Ideal S256x1024 .bf16) (y : S512x1024.Idx) :
    out0_5 (F := Ideal) x0 x1 x2 x3 x4 y = part x0 x1 x2 x3 x4 (y 0) (y 1) := by
  unfold out0_5
  frame_out
  idx_vars y
  pointwise [part, k0_pay1]

theorem point6 (x0 : FVec Ideal S512x1024 .f32) (x1 : FVec Ideal S512x256 .f32) (x2 : FVec Ideal S1024x1024 .bf16) (x3 : FVec Ideal S1x1024 .f32)
    (x4 : FVec Ideal S256x1024 .bf16) (y : S512x1024.Idx) :
    out0_6 (F := Ideal) x0 x1 x2 x3 x4 y = part x0 x1 x2 x3 x4 (y 0) (y 1) := by
  unfold out0_6
  frame_out
  idx_vars y
  pointwise [part, k0_pay2, k0_pay1]

/-- The rows, the embedding's input, the gate's weight and bias and the embedding's weight, as device `c` is given them. -/
abbrev aX (c : Dev nD) : FVec Ideal S8192x1024 .f32 := m ((c : Thread nD τ).loc main_arg0)
abbrev aP (c : Dev nD) : FVec Ideal S8192x256 .f32 := m ((c : Thread nD τ).loc main_arg1)
abbrev aG (c : Dev nD) : FVec Ideal S1024x1024 .f32 := m ((c : Thread nD τ).loc main_arg2)
abbrev aB (c : Dev nD) : FVec Ideal S1024 .f32 := m ((c : Thread nD τ).loc main_arg3)
abbrev aW (c : Dev nD) : FVec Ideal S256x1024 .f32 := m ((c : Thread nD τ).loc main_arg4)

/-- The call's other arguments: the gate's weight, rounded, its bias, as a row, and the embedding's weight, rounded. -/
theorem V0 (c : Dev nD) : V m c main_v0 = truncf .bf16 (aG m c) bitsLt_bf16_f32 := by
  unfold V
  simp only [hostOps0,
    StableHlo.TRef.binary, StableHlo.TRef.nullary, StableHlo.TRef.unary, StableHlo.TRef.toBuf, StableHlo.TRef.ofBuf, cast_eq]
  after_results_simp <;> rfl
theorem V1 (c : Dev nD) : V m c main_v1 = broadcastInDim S1x1024 ![1] bcast_S1024_S1x1024_1 (aB m c) := by
  unfold V
  simp only [hostOps0,
    StableHlo.TRef.binary, StableHlo.TRef.nullary, StableHlo.TRef.unary, StableHlo.TRef.toBuf, StableHlo.TRef.ofBuf, cast_eq]
  after_results_simp <;> rfl
theorem V2 (c : Dev nD) : V m c main_v2 = truncf .bf16 (aW m c) bitsLt_bf16_f32 := by
  unfold V
  simp only [hostOps0,
    StableHlo.TRef.binary, StableHlo.TRef.nullary, StableHlo.TRef.unary, StableHlo.TRef.toBuf, StableHlo.TRef.ofBuf, cast_eq]
  after_results_simp <;> rfl

/-- The blocks, read in the whole arrays. -/
theorem x_at (c : Dev nD) (t : Fin cfg0.N) (r : Fin 512) (d : Fin 1024) (n : Fin 8192) (hn : n.val = t.val * 512 + r.val) :
    iblk m c 0 t (ix2 r d) = aX m c (ix2 n d) := by
  rw [← show V m c main_arg0 = aX m c from V_main_arg0 m c]
  blk_simp [iblk]
  blk_ext [idx t]
theorem p_at (c : Dev nD) (t : Fin cfg0.N) (r : Fin 512) (d : Fin 256) (n : Fin 8192) (hn : n.val = t.val * 512 + r.val) :
    iblk m c 1 t (ix2 r d) = aP m c (ix2 n d) := by
  rw [← show V m c main_arg1 = aP m c from V_main_arg1 m c]
  blk_simp [iblk]
  blk_ext [idx t]
theorem g_at (c : Dev nD) (t : Fin cfg0.N) (k d : Fin 1024) : iblk m c 2 t (ix2 k d) = aG m c (ix2 k d) := by
  refine Eq.trans ?_ ((congrFun (V0 m c) (ix2 k d)).trans (by pointwise))
  blk_simp [iblk]
  blk_ext [idx t]
theorem b_at (c : Dev nD) (t : Fin cfg0.N) (d : Fin 1024) : iblk m c 3 t (ix2 0 d) = aB m c (ix1 d) := by
  refine Eq.trans ?_ ((congrFun (V1 m c) (ix2 0 d)).trans (by pointwise))
  blk_simp [iblk]
  blk_ext [idx t]
theorem w_at (c : Dev nD) (t : Fin cfg0.N) (k : Fin 256) (d : Fin 1024) : iblk m c 4 t (ix2 k d) = aW m c (ix2 k d) := by
  refine Eq.trans ?_ ((congrFun (V2 m c) (ix2 k d)).trans (by pointwise))
  blk_simp [iblk]
  blk_ext [idx t]

/-- A point's rows, in the whole. -/
theorem part_at (c : Dev nD) (t : Fin cfg0.N) (r : Fin 512) (d : Fin 1024) (n : Fin 8192) (hn : n.val = t.val * 512 + r.val) :
    part (iblk m c 0 t) (iblk m c 1 t) (iblk m c 2 t) (iblk m c 3 t) (iblk m c 4 t) r d = outA (aX m c) (aP m c) (aG m c) (aB m c) (aW m c) (ix2 n d) := by
  rw [outA_at]
  exact congrArg₂ (· + ·) (x_at m c t r d n hn) (congrArg₂ (· * ·)
    (congrArg Ideal.logistic (congrArg₂ (· + ·) (Finset.sum_congr rfl fun k _ => congrArg₂ (· * ·) (x_at m c t r k n hn) (g_at m c t k d)) (b_at m c t d)))
    (Finset.sum_congr rfl fun k _ => congrArg₂ (· * ·) (p_at m c t r k n hn) (w_at m c t k d)))

/-- Where a block of a result lies in its array. -/
theorem emb5 (t : Fin cfg0.N) (y : S512x1024.Idx) :
    (win0_5.blk t).view.emb y = ix2 (⟨t.val * 512 + (y 0).val, by have := lt16 t; have : (y 0).val < 512 := (y 0).isLt; omega⟩ : Fin 8192) (y 1) := by
  idx_vars y
  blk_ext [idx t]
theorem emb6 (t : Fin cfg0.N) (y : S512x1024.Idx) :
    (win0_6.blk t).view.emb y = ix2 (⟨t.val * 512 + (y 0).val, by have := lt16 t; have : (y 0).val < 512 := (y 0).isLt; omega⟩ : Fin 8192) (y 1) := by
  idx_vars y
  blk_ext [idx t]

/-- The first result is the rows with the gated embedding added. -/
theorem final5 (c : Dev nD) : (dats m 0 c).arrAt 5 cfg0.N = outA (aX m c) (aP m c) (aG m c) (aB m c) (aW m c) := by
  refine (dats m 0 c).arrAt_eq_of_covers 5 _ (by decide +kernel) fun t hf y => ?_
  blk_simp
  rw [after0_5, point5]
  refine Eq.trans ?_ (congrArg _ (emb5 t y).symm)
  exact part_at m c t _ _ _ rfl

/-- The second is the same, rounded. -/
theorem final6 (c : Dev nD) : (dats m 0 c).arrAt 6 cfg0.N = truncf .bf16 (outA (aX m c) (aP m c) (aG m c) (aB m c) (aW m c)) bitsLt_bf16_f32 := by
  refine (dats m 0 c).arrAt_eq_of_covers 6 _ (by decide +kernel) fun t hf y => ?_
  blk_simp
  rw [after0_6, point6]
  refine Eq.trans ?_ (congrArg _ (emb6 t y).symm)
  exact part_at m c t _ _ _ rfl

end Cert.Kernel15Ideal.Block
-- ==== Proof.Ln.Block.lean ====
module

public import proofs.«01_k».proof.Proof.Gen.Kernel10Ideal.Frame
public import proofs.«01_k».proof.Proof.Gen.Reference10Ideal.Run
public import proofs.«01_k».proof.Proof.Norm.Ref
public import Idealize.ShloMosaic.Lib.Pointwise
public import Idealize.ShloMosaic.Lib.IdealHost
public import Idealize.ShloMosaic.Lib.Pipeline.ValueKit
public import Idealize.ShloMosaic.Lib.Pipeline.ReadBack
public import Idealize.ShloMosaic.Lib.Claim
set_option maxRecDepth 16384

/-! The gradients of a layer norm on its own. Each grid point takes 512 rows back through the norm, and adds the rows'
    shares of the gain's and the offset's gradients to what the points before it left. -/

@[expose] public noncomputable section
open Idealize.ShloMosaic Idealize.ShloMosaic.TcCoe Idealize.SL.Sem
open Idealize.ShloMosaic.Pipeline (Dat)

namespace Cert.Reference10Ideal.Ln
open Cert.Reference10Ideal Cert.Reference10Ideal.Gen Cert.Reference10Ideal.Value Cert.Norm
open Cert.Reference5Ideal.Ln (xhatA uA dzA colSum)

/-- The incoming gradient. -/
def yA (Y : FVec Ideal S8192x1024 .f32) : FVec Ideal S8192x1024 .f32 := shapeCast _ Y shapeCasts_S8192x1024_S8192x1024

theorem yA_eq (Y : FVec Ideal S8192x1024 .f32) : yA Y = Y := by
  funext y
  idx_vars y
  pointwise [yA]

variable (m : (ℓ : Loc nD τ sig) → Buf (Elt Ideal) ℓ) (c : Dev nD)
/-- The reference's arguments. -/
abbrev rZ : FVec Ideal S8192x1024 .f32 := m ((c.tc : Thread nD τ).loc main_arg0)
abbrev rγ : FVec Ideal S1024 .f32 := m ((c.tc : Thread nD τ).loc main_arg1)
abbrev rY : FVec Ideal S8192x1024 .f32 := m ((c.tc : Thread nD τ).loc main_arg3)

/-- The terms the reference's results are stated with are these. -/
theorem out0_eq : res_out0 m c = dzA (rZ m c) (uA (rγ m c) (rY m c)) :=
  (show _ = dzA (rZ m c) (uA (rγ m c) (yA (rY m c))) from rfl).trans (by rw [yA_eq])
theorem out1_eq : res_out1 m c = truncf .bf16 (dzA (rZ m c) (uA (rγ m c) (rY m c))) bitsLt_bf16_f32 :=
  (show _ = truncf .bf16 (dzA (rZ m c) (uA (rγ m c) (yA (rY m c)))) bitsLt_bf16_f32 from rfl).trans (by rw [yA_eq])

end Cert.Reference10Ideal.Ln

namespace Cert.Kernel10Ideal.Block
open Cert.Kernel10Ideal Cert.Kernel10Ideal.Gen Cert.Norm
open Cert.Reference5Ideal.Ln (uA uA_at dzA dzA_at xhatA xhatA_at colSum colSum_at)
variable (m : (ℓ : Loc nD τ sig) → Buf (Elt Ideal) ℓ)

/-- Which blocks a grid point works on: its own 512 rows, and the whole gain and gradients of the gain and the offset. -/
theorem idx : ∀ t : Fin cfg0.N, win0_0.index t = ![t.val, 0] ∧ win0_1.index t = ![t.val, 0]
    ∧ win0_2.index t = ![0, 0] ∧ win0_3.index t = ![t.val, 0] ∧ win0_4.index t = ![t.val, 0] ∧ win0_5.index t = ![0, 0]
    ∧ win0_6.index t = ![0, 0] :=
  (by decide +kernel : ∀ t : Fin grid0.N, _)

/-- There are sixteen grid points. -/
theorem lt16 (t : Fin cfg0.N) : t.val < 16 := lt_of_lt_of_eq t.isLt N_0

/-- A row of the incoming gradient times the gain. -/
def uB (x1 : FVec Ideal S512x1024 .f32) (x2 : FVec Ideal S1x1024 .f32) (r : Fin 512) (k : Fin 1024) : EReal :=
  x1 (ix2 r k) * x2 (ix2 0 k)
/-- A point's share of the gain's gradient. -/
def dgB (x0 x1 : FVec Ideal S512x1024 .f32) (d : Fin 1024) : EReal := ∑ r : Fin 512, x1 (ix2 r d) * xhat (fun k => x0 (ix2 r k)) d
/-- A point's share of the offset's gradient. -/
def dbB (x1 : FVec Ideal S512x1024 .f32) (d : Fin 1024) : EReal := ∑ r : Fin 512, x1 (ix2 r d)

/-- The rows' gradients after the first point. -/
theorem dz_A (c : Dev nD) (t : Fin cfg0.N) (h0 : t.val % 16 = 0) (h1 : ¬1 ≤ t.val) (y : S512x1024.Idx) :
    (outsAt0 m c t.val t.isLt).1 y = bwdK (fun k => iblk m c 0 t (ix2 (y 0) k)) (uB (iblk m c 1 t) (iblk m c 2 t) (y 0)) (y 1) := by
  rw [outsAt0_A m c t h0 h1]
  frame_out
  idx_vars y
  pointwise [k0_pay8, bwdK, uB, k0_pay5, k0_pay6, k0_pay7, rstd, var, mean, cen, xhat, cn, cε]

/-- The rounded copy of the rows' gradients after the first point. -/
theorem dzb_A (c : Dev nD) (t : Fin cfg0.N) (h0 : t.val % 16 = 0) (h1 : ¬1 ≤ t.val) (y : S512x1024.Idx) :
    (outsAt0 m c t.val t.isLt).2.1 y = bwdK (fun k => iblk m c 0 t (ix2 (y 0) k)) (uB (iblk m c 1 t) (iblk m c 2 t) (y 0)) (y 1) := by
  rw [outsAt0_A m c t h0 h1]
  frame_out
  idx_vars y
  pointwise [k0_pay2, k0_pay8, bwdK, uB, k0_pay5, k0_pay6, k0_pay7, rstd, var, mean, cen, xhat, cn, cε]

/-- The gain's gradient after the first point. -/
theorem dg_A (c : Dev nD) (t : Fin cfg0.N) (h0 : t.val % 16 = 0) (h1 : ¬1 ≤ t.val) (y : S1x1024.Idx) :
    (outsAt0 m c t.val t.isLt).2.2.1 y = dgB (iblk m c 0 t) (iblk m c 1 t) (y 1) := by
  rw [outsAt0_A m c t h0 h1]
  frame_out
  idx_vars y
  pointwise [k0_pay3, k0_pay9, dgB, k0_pay5, k0_pay6, k0_pay7, rstd, var, mean, cen, xhat, cn, cε]

/-- The offset's gradient after the first point. -/
theorem db_A (c : Dev nD) (t : Fin cfg0.N) (h0 : t.val % 16 = 0) (h1 : ¬1 ≤ t.val) (y : S1x1024.Idx) :
    (outsAt0 m c t.val t.isLt).2.2.2 y = dbB (iblk m c 1 t) (y 1) := by
  rw [outsAt0_A m c t h0 h1]
  frame_out
  idx_vars y
  pointwise [k0_pay4, k0_pay1, k0_pay10, dbB]

/-- The rows' gradients after a later point. -/
theorem dz_B (c : Dev nD) (t : Fin cfg0.N) (h0 : ¬t.val % 16 = 0) (h1 : 1 ≤ t.val) (y : S512x1024.Idx) :
    (outsAt0 m c t.val t.isLt).1 y = bwdK (fun k => iblk m c 0 t (ix2 (y 0) k)) (uB (iblk m c 1 t) (iblk m c 2 t) (y 0)) (y 1) := by
  rw [outsAt0_B m c t h0 h1]
  frame_out
  idx_vars y
  pointwise [k0_pay8, bwdK, uB, k0_pay5, k0_pay6, k0_pay7, rstd, var, mean, cen, xhat, cn, cε]

/-- The rounded copy of the rows' gradients after a later point. -/
theorem dzb_B (c : Dev nD) (t : Fin cfg0.N) (h0 : ¬t.val % 16 = 0) (h1 : 1 ≤ t.val) (y : S512x1024.Idx) :
    (outsAt0 m c t.val t.isLt).2.1 y = bwdK (fun k => iblk m c 0 t (ix2 (y 0) k)) (uB (iblk m c 1 t) (iblk m c 2 t) (y 0)) (y 1) := by
  rw [outsAt0_B m c t h0 h1]
  frame_out
  idx_vars y
  pointwise [k0_pay2, k0_pay8, bwdK, uB, k0_pay5, k0_pay6, k0_pay7, rstd, var, mean, cen, xhat, cn, cε]

/-- The gain's gradient after a later point. -/
theorem dg_B (c : Dev nD) (t : Fin cfg0.N) (h0 : ¬t.val % 16 = 0) (h1 : 1 ≤ t.val) (y : S1x1024.Idx) :
    (outsAt0 m c t.val t.isLt).2.2.1 y = (outsAt0 m c (t.val - 1) (by omega)).2.2.1 (ix2 (y 0) (y 1)) + dgB (iblk m c 0 t) (iblk m c 1 t) (y 1) := by
  rw [outsAt0_B m c t h0 h1]
  frame_out
  idx_vars y
  pointwise [k0_pay3, k0_pay9, dgB, k0_pay5, k0_pay6, k0_pay7, rstd, var, mean, cen, xhat, cn, cε, read_unread_whole]

/-- The offset's gradient after a later point. -/
theorem db_B (c : Dev nD) (t : Fin cfg0.N) (h0 : ¬t.val % 16 = 0) (h1 : 1 ≤ t.val) (y : S1x1024.Idx) :
    (outsAt0 m c t.val t.isLt).2.2.2 y = (outsAt0 m c (t.val - 1) (by omega)).2.2.2 (ix2 (y 0) (y 1)) + dbB (iblk m c 1 t) (y 1) := by
  rw [outsAt0_B m c t h0 h1]
  frame_out
  idx_vars y
  pointwise [k0_pay4, k0_pay1, k0_pay10, dbB, read_unread_whole]

end Cert.Kernel10Ideal.Block
-- ==== Proof.Ln.Grad.lean ====
module

public import proofs.«01_k».proof.Proof.Ln.Block
public import proofs.«01_k».proof.Proof.Ffn.Pre
public import proofs.«01_k».proof.Proof.Norm.Pre
public import proofs.«01_k».proof.Proof.Gen.Pre_finite10
public import proofs.«01_k».proof.Defs
public import Idealize.ShloMosaic.Lib.Pointwise
public import Idealize.ShloMosaic.Lib.IdealHost
public import Idealize.ShloMosaic.Lib.Pipeline.ValueKit
public import Idealize.ShloMosaic.Lib.Pipeline.ReadBack
public import Idealize.ShloMosaic.Lib.Claim
set_option maxRecDepth 16384

/-! The layer norm's gradients, read in the whole arrays, and its precondition `finite10`, read entry by entry. -/

@[expose] public noncomputable section
open Idealize.ShloMosaic Idealize.ShloMosaic.TcCoe Idealize.SL.Sem
open Idealize.ShloMosaic.Pipeline (Dat)

namespace Cert.Kernel10Ideal.Block
open Cert.Kernel10Ideal Cert.Kernel10Ideal.Gen Cert.Norm
open Cert.Ffn (IsReal real_of_all)
open Cert.Reference5Ideal.Ln (uA uA_at dzA dzA_at xhatA xhatA_at colSum colSum_at)
variable (m : (ℓ : Loc nD τ sig) → Buf (Elt Ideal) ℓ)

/-- The rows the layer norm takes, its gain and the incoming gradient, as device `c` is given them. -/
abbrev aZ (c : Dev nD) : FVec Ideal S8192x1024 .f32 := m ((c : Thread nD τ).loc main_arg0)
abbrev aγ (c : Dev nD) : FVec Ideal S1024 .f32 := m ((c : Thread nD τ).loc main_arg1)
abbrev aY (c : Dev nD) : FVec Ideal S8192x1024 .f32 := m ((c : Thread nD τ).loc main_arg3)

/-- The call's third argument is the gain, as a row. -/
theorem V0 (c : Dev nD) : V m c main_v0 = broadcastInDim S1x1024 ![1] bcast_S1024_S1x1024_1 (aγ m c) := by
  unfold V
  simp only [hostOps0,
    StableHlo.TRef.binary, StableHlo.TRef.nullary, StableHlo.TRef.unary, StableHlo.TRef.toBuf, StableHlo.TRef.ofBuf, cast_eq]
  after_results_simp <;> rfl

/-- A block of the rows. -/
theorem z_at (c : Dev nD) (t : Fin cfg0.N) (r : Fin 512) (d : Fin 1024) (n : Fin 8192) (hn : n.val = t.val * 512 + r.val) :
    iblk m c 0 t (ix2 r d) = aZ m c (ix2 n d) := by
  rw [← show V m c main_arg0 = aZ m c from V_main_arg0 m c]
  blk_simp [iblk]
  blk_ext [idx t]

/-- A block of the incoming gradient. -/
theorem y_at (c : Dev nD) (t : Fin cfg0.N) (r : Fin 512) (d : Fin 1024) (n : Fin 8192) (hn : n.val = t.val * 512 + r.val) :
    iblk m c 1 t (ix2 r d) = aY m c (ix2 n d) := by
  rw [← show V m c main_arg3 = aY m c from V_main_arg3 m c]
  blk_simp [iblk]
  blk_ext [idx t]

/-- An entry of the gain. -/
theorem γ_at (c : Dev nD) (t : Fin cfg0.N) (d : Fin 1024) : iblk m c 2 t (ix2 0 d) = aγ m c (ix1 d) := by
  refine Eq.trans ?_ ((congrFun (V0 m c) (ix2 0 d)).trans (by pointwise))
  blk_simp [iblk]
  blk_ext [idx t]

/-- An entry's share of the gain's gradient, and its place in the whole. -/
def dgT (x0 x1 : FVec Ideal S512x1024 .f32) (r : Fin 512) (d : Fin 1024) : EReal := x1 (ix2 r d) * xhat (fun k => x0 (ix2 r k)) d
theorem dgB_at (c : Dev nD) (t : Fin cfg0.N) (d : Fin 1024) (r : Fin 512) (n : Fin 8192) (hn : n.val = t.val * 512 + r.val) :
    dgT (iblk m c 0 t) (iblk m c 1 t) r d = mulf (xhatA (aZ m c)) (aY m c) (ix2 n d) := by
  rw [dgT, y_at m c t r d n hn, show (fun k => iblk m c 0 t (ix2 r k)) = fun k => aZ m c (ix2 n k) from funext fun k => z_at m c t r k n hn,
    ← xhatA_at, mul_comm]
  rfl

/-- The gain's gradient after the last point. -/
theorem dg_acc (c : Dev nD) (t : Fin cfg0.N) (ct : t.val % 16 = 15) (d : Fin 1024) :
    (outsAt0 m c t.val t.isLt).2.2.1 (ix2 0 d) = ∑ n : Fin 8192, mulf (xhatA (aZ m c)) (aY m c) (ix2 n d) := by
  rw [Pipeline.eq_sum_fin_of_reset_step_apply_of_flush (fun n h => (outsAt0 m c n h).2.2.1) 16 (fun _ => 0)
      (fun p i => dgB (iblk m c 0 p) (iblk m c 1 p) (i 1))
      (fun p h i => by have := lt16 p; rw [dg_A m c p h (by omega) i, zero_add])
      (fun p h i => by rw [dg_B m c p h (by omega) i, ix2_eta]) t ct _, zero_add]
  refine Fin.sum_mul_add_congr fun s r hr => ?_
  have hp := Pipeline.run_point_lt_of_flush t ct s
  have := lt16 t
  exact dgB_at m c ⟨16 * (t.val / 16) + s.val, hp⟩ d r _ (by dsimp only; omega)

/-- The offset's gradient after the last point. -/
theorem db_acc (c : Dev nD) (t : Fin cfg0.N) (ct : t.val % 16 = 15) (d : Fin 1024) :
    (outsAt0 m c t.val t.isLt).2.2.2 (ix2 0 d) = ∑ n : Fin 8192, aY m c (ix2 n d) := by
  rw [Pipeline.eq_sum_fin_of_reset_step_apply_of_flush (fun n h => (outsAt0 m c n h).2.2.2) 16 (fun _ => 0)
      (fun p i => dbB (iblk m c 1 p) (i 1))
      (fun p h i => by have := lt16 p; rw [db_A m c p h (by omega) i, zero_add])
      (fun p h i => by rw [db_B m c p h (by omega) i, ix2_eta]) t ct _, zero_add]
  refine Fin.sum_mul_add_congr fun s r hr => ?_
  have hp := Pipeline.run_point_lt_of_flush t ct s
  have := lt16 t
  exact y_at m c ⟨16 * (t.val / 16) + s.val, hp⟩ r d _ (by dsimp only; omega)

/-- Where a block of a result lies in its array. -/
theorem emb3 (t : Fin cfg0.N) (y : S512x1024.Idx) :
    (win0_3.blk t).view.emb y = ix2 (⟨t.val * 512 + (y 0).val, by have := lt16 t; have : (y 0).val < 512 := (y 0).isLt; omega⟩ : Fin 8192) (y 1) := by
  idx_vars y
  blk_ext [idx t]
theorem emb4 (t : Fin cfg0.N) (y : S512x1024.Idx) :
    (win0_4.blk t).view.emb y = ix2 (⟨t.val * 512 + (y 0).val, by have := lt16 t; have : (y 0).val < 512 := (y 0).isLt; omega⟩ : Fin 8192) (y 1) := by
  idx_vars y
  blk_ext [idx t]
theorem emb5 (t : Fin cfg0.N) (y : S1x1024.Idx) : (win0_5.blk t).view.emb y = ix2 (0 : Fin 1) (y 1) := by
  idx_vars y
  blk_ext [idx t]
theorem emb6 (t : Fin cfg0.N) (y : S1x1024.Idx) : (win0_6.blk t).view.emb y = ix2 (0 : Fin 1) (y 1) := by
  idx_vars y
  blk_ext [idx t]

/-- The third result is the gain's gradient. -/
theorem final5 (c : Dev nD) : (dats m 0 c).arrAt 5 cfg0.N = colSum (mulf (xhatA (aZ m c)) (aY m c)) := by
  refine (dats m 0 c).arrAt_eq_of_covers 5 _ (by decide +kernel) fun t hf y => ?_
  blk_simp
  have ct := (flush0_5 t).mp hf
  rw [after0_5]
  refine Eq.trans ?_ (congrArg _ (emb5 t y).symm)
  idx_vars y
  rw [Subsingleton.elim y0 0]
  exact (dg_acc m c t ct _).trans (colSum_at _ _).symm

/-- The fourth is the offset's. -/
theorem final6 (c : Dev nD) : (dats m 0 c).arrAt 6 cfg0.N = colSum (aY m c) := by
  refine (dats m 0 c).arrAt_eq_of_covers 6 _ (by decide +kernel) fun t hf y => ?_
  blk_simp
  have ct := (flush0_6 t).mp hf
  rw [after0_6]
  refine Eq.trans ?_ (congrArg _ (emb6 t y).symm)
  idx_vars y
  rw [Subsingleton.elim y0 0]
  exact (db_acc m c t ct _).trans (colSum_at _ _).symm

/-- A block's rows' gradients, in the whole, where the rows and what arrives at them are real. -/
theorem dzB_at (c : Dev nD) (hz : ∀ i, IsReal (aZ m c i)) (hu : ∀ n k, IsReal (aY m c (ix2 n k) * aγ m c (ix1 k)))
    (t : Fin cfg0.N) (r : Fin 512) (d : Fin 1024) (n : Fin 8192) (hn : n.val = t.val * 512 + r.val) :
    bwdK (fun k => iblk m c 0 t (ix2 r k)) (uB (iblk m c 1 t) (iblk m c 2 t) r) d
      = dzA (aZ m c) (uA (aγ m c) (aY m c)) (ix2 n d) := by
  rw [dzA_at, show (fun k => iblk m c 0 t (ix2 r k)) = fun k => aZ m c (ix2 n k) from funext fun k => z_at m c t r k n hn,
    show uB (iblk m c 1 t) (iblk m c 2 t) r = fun k => uA (aγ m c) (aY m c) (ix2 n k) from
      funext fun k => by rw [uA_at, uB, y_at m c t r k n hn, γ_at]]
  exact bwd_eq _ _ (fun k => hz _) (fun k => by rw [uA_at]; exact hu n k) d

/-- The first result is the rows' gradient. -/
theorem final3 (c : Dev nD) (hz : ∀ i, IsReal (aZ m c i)) (hu : ∀ n k, IsReal (aY m c (ix2 n k) * aγ m c (ix1 k))) :
    (dats m 0 c).arrAt 3 cfg0.N = dzA (aZ m c) (uA (aγ m c) (aY m c)) := by
  refine (dats m 0 c).arrAt_eq_of_covers 3 _ (by decide +kernel) fun t hf y => ?_
  blk_simp
  rw [after0_3]
  refine Eq.trans ?_ (congrArg _ (emb3 t y).symm)
  have := lt16 t
  by_cases h : t.val % 16 = 0
  · exact (dz_A m c t h (by omega) y).trans (dzB_at m c hz hu t _ _ _ rfl)
  · exact (dz_B m c t h (by omega) y).trans (dzB_at m c hz hu t _ _ _ rfl)

/-- The second is the same, rounded. -/
theorem final4 (c : Dev nD) (hz : ∀ i, IsReal (aZ m c i)) (hu : ∀ n k, IsReal (aY m c (ix2 n k) * aγ m c (ix1 k))) :
    (dats m 0 c).arrAt 4 cfg0.N = truncf .bf16 (dzA (aZ m c) (uA (aγ m c) (aY m c))) bitsLt_bf16_f32 := by
  refine (dats m 0 c).arrAt_eq_of_covers 4 _ (by decide +kernel) fun t hf y => ?_
  blk_simp
  rw [after0_4]
  refine Eq.trans ?_ (congrArg _ (emb4 t y).symm)
  have := lt16 t
  by_cases h : t.val % 16 = 0
  · exact (dzb_A m c t h (by omega) y).trans (dzB_at m c hz hu t _ _ _ rfl)
  · exact (dzb_B m c t h (by omega) y).trans (dzB_at m c hz hu t _ _ _ rfl)

/-- Under `finite10` the rows are real, and so is what arrives at the layer norm. -/
theorem real_of_pre (h : Cert.Pre_Kernel10Ideal_finite10 m) (c : Dev nD) :
    (∀ i, IsReal (aZ m c i)) ∧ ∀ n k, IsReal (aY m c (ix2 n k) * aγ m c (ix1 k)) := by
  have e := congrFun (h c) (fun k => k.elim0)
  obtain ⟨e, e2⟩ := IntOp.andi_eq_one.1 e
  obtain ⟨e0, e1⟩ := IntOp.andi_eq_one.1 e
  have r0 : ∀ i, IsReal (aZ m c i) := real_of_all _ _ _ _ _ e0
  have r1 : ∀ i, IsReal (aγ m c i) := real_of_all _ _ _ _ _ e1
  have r2 : ∀ i, IsReal (aY m c i) := real_of_all _ _ _ _ _ e2
  exact ⟨r0, fun n k => (r2 _).mul (r1 _)⟩

end Cert.Kernel10Ideal.Block
-- ==== Proof.Proj.Input.lean ====
module

public import proofs.«01_k».proof.Proof.Gen.Kernel9Ideal.Frame
public import proofs.«01_k».proof.Proof.Gen.Reference9Ideal
public import Idealize.ShloMosaic.Lib.Pointwise
public import Idealize.ShloMosaic.Lib.IdealHost
public import Idealize.ShloMosaic.Lib.Pipeline.ValueKit
public import Idealize.ShloMosaic.Lib.Pipeline.ReadBack
public import Idealize.ShloMosaic.Lib.Claim
set_option maxRecDepth 16384

/-! The gradient of a projection's input: the gradient that arrives against the weight's rows, plus the residual branch's
    scaled gradient. Each grid point forms 1024 rows. -/

@[expose] public noncomputable section
open Idealize.ShloMosaic Idealize.ShloMosaic.TcCoe Idealize.SL.Sem
open Idealize.ShloMosaic.Pipeline (Dat)

namespace Cert.Reference9Ideal.Proj
open Cert.Reference9Ideal Cert.Reference9Ideal.Gen

/-- The input's gradient, as the reference forms it. -/
def dxA (W : FVec Ideal S1024x3072 .f32) (Z : FVec Ideal S8192x1024 .f32) (P : FVec Ideal S8192x3072 .f32) : FVec Ideal S8192x1024 .f32 :=
  addf (Host.dotGeneral dot_S8192x3072_S1024x3072_S8192x1024_1_1_0_0_n_n none P W) (mulf (broadcastInDim S8192x1024 ![] bcast_S_S8192x1024 (constant S_ .f32 0x3FB504F3#32)) Z)

theorem dxA_at (W : FVec Ideal S1024x3072 .f32) (Z : FVec Ideal S8192x1024 .f32) (P : FVec Ideal S8192x3072 .f32) (r : Fin 8192) (k : Fin 1024) :
    dxA W Z P (ix2 r k) = ∑ q : Fin 3072, P (ix2 r q) * W (ix2 k q) + Ideal.ofBits .f32 0x3FB504F3#32 * Z (ix2 r k) := by
  pointwise [dxA]

end Cert.Reference9Ideal.Proj

namespace Cert.Kernel9Ideal.Block
open Cert.Kernel9Ideal Cert.Kernel9Ideal.Gen
open Cert.Reference9Ideal.Proj (dxA dxA_at)
variable (m : (ℓ : Loc nD τ sig) → Buf (Elt Ideal) ℓ)

/-- Which blocks a grid point works on: its own 1024 rows, and the whole weight. -/
theorem idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

theorem ltN (t : Fin cfg0.N) : t.val < 8 := by
  have h := t.isLt
  have e : cfg0.N = 8 := by decide +kernel
  omega

/-- What a grid point stores. -/
def part (x0 : FVec Ideal S1024x3072 .f32) (x1 : FVec Ideal S3072x1024 .bf16) (x2 : FVec Ideal S1024x1024 .f32) (r : Fin 1024) (k : Fin 1024) : EReal :=
  ∑ q : Fin 3072, x0 (ix2 r q) * x1 (ix2 q k) + Ideal.ofBits .f32 0x3FB504F3#32 * x2 (ix2 r k)

theorem point (x0 : FVec Ideal S1024x3072 .f32) (x1 : FVec Ideal S3072x1024 .bf16) (x2 : FVec Ideal S1024x1024 .f32)
    (y : S1024x1024.Idx) : out0_3 (F := Ideal) x0 x1 x2 y = part x0 x1 x2 (y 0) (y 1) := by
  unfold out0_3
  frame_out
  idx_vars y
  pointwise [part, k0_pay1]

/-- The weight, the residual branch's gradient and the gradient that arrives, as device `c` is given them. -/
abbrev aW (c : Dev nD) : FVec Ideal S1024x3072 .f32 := m ((c : Thread nD τ).loc main_arg1)
abbrev aZ (c : Dev nD) : FVec Ideal S8192x1024 .f32 := m ((c : Thread nD τ).loc main_arg2)
abbrev aP (c : Dev nD) : FVec Ideal S8192x3072 .f32 := m ((c : Thread nD τ).loc main_arg3)

/-- The call's second argument is the weight, rounded and transposed. -/
theorem V1 (c : Dev nD) : V m c main_v1 = transpose S3072x1024 [1, 0] (truncf .bf16 (aW m c) bitsLt_bf16_f32) transposes_S1024x3072_S3072x1024_1_0 := by
  unfold V
  simp only [hostOps0,
    StableHlo.TRef.binary, StableHlo.TRef.nullary, StableHlo.TRef.unary, StableHlo.TRef.toBuf, StableHlo.TRef.ofBuf, cast_eq]
  after_results_simp <;> rfl

/-- A block of the gradient that arrives, read in the whole array. -/
theorem p_at (c : Dev nD) (t : Fin cfg0.N) (r : Fin 1024) (q : Fin 3072) (n : Fin 8192) (hn : n.val = t.val * 1024 + r.val) :
    iblk m c 0 t (ix2 r q) = aP m c (ix2 n q) := by
  rw [← show V m c main_arg3 = aP m c from V_main_arg3 m c]
  blk_simp [iblk]
  blk_ext [idx t]

/-- An entry of the weight, transposed. -/
theorem w_at (c : Dev nD) (t : Fin cfg0.N) (q : Fin 3072) (k : Fin 1024) : iblk m c 1 t (ix2 q k) = aW m c (ix2 k q) := by
  refine Eq.trans ?_ ((congrFun (V1 m c) (ix2 q k)).trans (by pointwise))
  blk_simp [iblk]
  blk_ext [idx t]

/-- A block of the residual branch's gradient. -/
theorem z_at (c : Dev nD) (t : Fin cfg0.N) (r : Fin 1024) (k : Fin 1024) (n : Fin 8192) (hn : n.val = t.val * 1024 + r.val) :
    iblk m c 2 t (ix2 r k) = aZ m c (ix2 n k) := by
  rw [← show V m c main_arg2 = aZ m c from V_main_arg2 m c]
  blk_simp [iblk]
  blk_ext [idx t]

/-- A point's rows of the gradient, in the whole. -/
theorem part_at (c : Dev nD) (t : Fin cfg0.N) (r : Fin 1024) (k : Fin 1024) (n : Fin 8192) (hn : n.val = t.val * 1024 + r.val) :
    part (iblk m c 0 t) (iblk m c 1 t) (iblk m c 2 t) r k = dxA (aW m c) (aZ m c) (aP m c) (ix2 n k) := by
  rw [dxA_at, ← z_at m c t r k n hn]
  exact congrArg (· + _) (Finset.sum_congr rfl fun q _ => congrArg₂ (· * ·) (p_at m c t r q n hn) (w_at m c t q k))

/-- Where a block of the result lies in its array. -/
theorem emb3 (t : Fin cfg0.N) (y : S1024x1024.Idx) :
    (win0_3.blk t).view.emb y = ix2 (⟨t.val * 1024 + (y 0).val, by have := ltN t; have : (y 0).val < 1024 := (y 0).isLt; omega⟩ : Fin 8192) (y 1) := by
  idx_vars y
  blk_ext [idx t]

/-- The result is the input's gradient. -/
theorem final3 (c : Dev nD) : (dats m 0 c).arrAt 3 cfg0.N = dxA (aW m c) (aZ m c) (aP m c) := by
  refine (dats m 0 c).arrAt_eq_of_covers 3 _ (by decide +kernel) fun t hf y => ?_
  blk_simp
  rw [after0_3, point]
  refine Eq.trans ?_ (congrArg _ (emb3 t y).symm)
  exact part_at m c t _ _ _ rfl

end Cert.Kernel9Ideal.Block
-- ==== Proof.Proj.Weight.lean ====
module

public import proofs.«01_k».proof.Proof.Gen.Kernel8Ideal.Frame
public import proofs.«01_k».proof.Proof.Gen.Reference8Ideal
public import Idealize.ShloMosaic.Lib.Pointwise
public import Idealize.ShloMosaic.Lib.IdealHost
public import Idealize.ShloMosaic.Lib.Pipeline.ValueKit
public import Idealize.ShloMosaic.Lib.Pipeline.ReadBack
public import Idealize.ShloMosaic.Lib.Claim
set_option maxRecDepth 16384

/-! The gradient of a projection's weight: the input's columns against the columns of the gradient that arrives. Each
    grid point takes 1024 rows and 1024 of the gradient's columns, and adds the rows' share to what the points of the
    same columns before it left. -/

@[expose] public noncomputable section
open Idealize.ShloMosaic Idealize.ShloMosaic.TcCoe Idealize.SL.Sem
open Idealize.ShloMosaic.Pipeline (Dat)

namespace Cert.Reference8Ideal.Proj
open Cert.Reference8Ideal Cert.Reference8Ideal.Gen

/-- The weight's gradient, as the reference forms it. -/
def dwA (X : FVec Ideal S8192x1024 .f32) (P : FVec Ideal S8192x3072 .f32) : FVec Ideal S1024x3072 .f32 :=
  transpose S1024x3072 [1, 0] (Host.dotGeneral dot_S8192x3072_S8192x1024_S3072x1024_0_0_1_1_n_n none P X) transposes_S3072x1024_S1024x3072_1_0

theorem dwA_at (X : FVec Ideal S8192x1024 .f32) (P : FVec Ideal S8192x3072 .f32) (k : Fin 1024) (q : Fin 3072) :
    dwA X P (ix2 k q) = ∑ r : Fin 8192, P (ix2 r q) * X (ix2 r k) := by
  pointwise [dwA]

end Cert.Reference8Ideal.Proj

namespace Cert.Kernel8Ideal.Block
open Cert.Kernel8Ideal Cert.Kernel8Ideal.Gen
open Cert.Reference8Ideal.Proj (dwA dwA_at)
variable (m : (ℓ : Loc nD τ sig) → Buf (Elt Ideal) ℓ)

/-- Which blocks a grid point works on: 8 row blocks of each column block in turn. -/
theorem idx : ∀ t : Fin cfg0.N, win0_0.index t = ![t.val % 8, 0] ∧ win0_1.index t = ![t.val % 8, t.val / 8]
    ∧ win0_2.index t = ![0, t.val / 8] :=
  (by decide +kernel : ∀ t : Fin grid0.N, _)

theorem ltN (t : Fin cfg0.N) : t.val < 24 := by
  have h := t.isLt
  have e : cfg0.N = 24 := by decide +kernel
  omega

/-- A point's share of the gradient. -/
def part (x0 : FVec Ideal S1024x1024 .bf16) (x1 : FVec Ideal S1024x1024 .f32) (k : Fin 1024) (d : Fin 1024) : EReal :=
  ∑ r : Fin 1024, x0 (ix2 r k) * x1 (ix2 r d)

theorem dw_A (c : Dev nD) (t : Fin cfg0.N) (h0 : t.val % 8 = 0) (h1 : ¬1 ≤ t.val % 8) (y : S1024x1024.Idx) :
    (outsAt0 m c t.val t.isLt) y = part (iblk m c 0 t) (iblk m c 1 t) (y 0) (y 1) := by
  rw [outsAt0_A m c t h0 h1]
  frame_out
  idx_vars y
  pointwise [k0_pay1, part]

theorem dw_B (c : Dev nD) (t : Fin cfg0.N) (h0 : ¬t.val % 8 = 0) (h1 : 1 ≤ t.val % 8) (y : S1024x1024.Idx) :
    (outsAt0 m c t.val t.isLt) y = (outsAt0 m c (t.val - 1) (by omega)) (ix2 (y 0) (y 1)) + part (iblk m c 0 t) (iblk m c 1 t) (y 0) (y 1) := by
  rw [outsAt0_B m c t h0 h1]
  frame_out
  idx_vars y
  pointwise [k0_pay2, k0_pay1, part, read_unread_whole]

/-- The input and the gradient that arrives, as device `c` is given them. -/
abbrev aX (c : Dev nD) : FVec Ideal S8192x1024 .f32 := m ((c : Thread nD τ).loc main_arg0)
abbrev aP (c : Dev nD) : FVec Ideal S8192x3072 .f32 := m ((c : Thread nD τ).loc main_arg2)

/-- The call's first argument is the input, rounded. -/
theorem V0 (c : Dev nD) : V m c main_v0 = truncf .bf16 (aX m c) bitsLt_bf16_f32 := by
  unfold V
  simp only [hostOps0,
    StableHlo.TRef.binary, StableHlo.TRef.nullary, StableHlo.TRef.unary, StableHlo.TRef.toBuf, StableHlo.TRef.ofBuf, cast_eq]
  after_results_simp <;> rfl

/-- A block of the input, read in the whole array. -/
theorem x_at (c : Dev nD) (t : Fin cfg0.N) (r : Fin 1024) (k : Fin 1024) (n : Fin 8192) (hn : n.val = t.val % 8 * 1024 + r.val) :
    iblk m c 0 t (ix2 r k) = aX m c (ix2 n k) := by
  refine Eq.trans ?_ ((congrFun (V0 m c) (ix2 n k)).trans (by pointwise))
  blk_simp [iblk]
  blk_ext [idx t]

/-- A block of the gradient that arrives. -/
theorem p_at (c : Dev nD) (t : Fin cfg0.N) (r : Fin 1024) (d : Fin 1024) (n : Fin 8192) (q : Fin 3072) (hn : n.val = t.val % 8 * 1024 + r.val)
    (hq : q.val = t.val / 8 * 1024 + d.val) : iblk m c 1 t (ix2 r d) = aP m c (ix2 n q) := by
  rw [← show V m c main_arg2 = aP m c from V_main_arg2 m c]
  blk_simp [iblk]
  blk_ext [idx t]

/-- The gradient of a column block after its last point. -/
theorem dw_acc (c : Dev nD) (t : Fin cfg0.N) (ct : t.val % 8 = 7) (k : Fin 1024) (d : Fin 1024) (q : Fin 3072) (hq : q.val = t.val / 8 * 1024 + d.val) :
    (outsAt0 m c t.val t.isLt) (ix2 k d) = ∑ n : Fin 8192, aP m c (ix2 n q) * aX m c (ix2 n k) := by
  rw [Pipeline.eq_sum_fin_of_reset_step_apply_of_flush (fun n h => (outsAt0 m c n h)) 8 (fun _ => 0)
      (fun p i => part (iblk m c 0 p) (iblk m c 1 p) (i 0) (i 1))
      (fun p h i => by rw [dw_A m c p h (by omega) i, zero_add])
      (fun p h i => by rw [dw_B m c p h (by omega) i, ix2_eta]) t ct _, zero_add]
  refine Fin.sum_mul_add_congr fun s r hr => ?_
  have hp := Pipeline.run_point_lt_of_flush t ct s
  have e8 : (8 * (t.val / 8) + s.val) % 8 = s.val := by omega
  have ed : (8 * (t.val / 8) + s.val) / 8 = t.val / 8 := by omega
  exact (mul_comm _ _).trans (congrArg₂ (· * ·) (p_at m c ⟨8 * (t.val / 8) + s.val, hp⟩ r d _ _ (by dsimp only; omega) (hq.trans (congrArg (fun a => a * 1024 + d.val) ed.symm)))
    (x_at m c ⟨8 * (t.val / 8) + s.val, hp⟩ r k _ (by dsimp only; omega)))

/-- Where a block of the result lies in its array. -/
theorem emb2 (t : Fin cfg0.N) (y : S1024x1024.Idx) :
    (win0_2.blk t).view.emb y = ix2 (y 0) (⟨t.val / 8 * 1024 + (y 1).val, by have := ltN t; have : (y 1).val < 1024 := (y 1).isLt; omega⟩ : Fin 3072) := by
  idx_vars y
  blk_ext [idx t]

/-- The result is the weight's gradient. -/
theorem final2 (c : Dev nD) : (dats m 0 c).arrAt 2 cfg0.N = dwA (aX m c) (aP m c) := by
  refine (dats m 0 c).arrAt_eq_of_covers 2 _ (by decide +kernel) fun t hf y => ?_
  blk_simp
  have ct := (flush0_2 t).mp hf
  rw [after0_2]
  refine Eq.trans ?_ (congrArg _ (emb2 t y).symm)
  idx_vars y
  exact (dw_acc m c t ct _ _ _ rfl).trans (dwA_at _ _ _ _).symm

end Cert.Kernel8Ideal.Block
-- ==== Proof.Ple.Block.lean ====
module

public import proofs.«01_k».proof.Proof.Gen.Kernel7Ideal.Frame
public import proofs.«01_k».proof.Proof.Norm.Row
public import Idealize.ShloMosaic.Lib.Pointwise
public import Idealize.ShloMosaic.Lib.IdealHost
public import Idealize.ShloMosaic.Lib.Pipeline.ValueKit
public import Idealize.ShloMosaic.Lib.Pipeline.ReadBack
public import Idealize.ShloMosaic.Lib.Claim
set_option maxRecDepth 16384

/-! The gradients of the per-layer embedding's gate and of the layer norm before it, in one call. Each grid point takes
    512 rows back through the gate and the layer norm, and adds the rows' shares of the weights', the biases', the
    gain's and the offset's gradients to what the points before it left. -/

@[expose] public noncomputable section
open Idealize.ShloMosaic Idealize.ShloMosaic.TcCoe Idealize.SL.Sem
open Idealize.ShloMosaic.Pipeline (Dat)

namespace Cert.Kernel7Ideal.Block
open Cert.Kernel7Ideal Cert.Kernel7Ideal.Gen Cert.Norm
variable (m : (ℓ : Loc nD τ sig) → Buf (Elt Ideal) ℓ)

/-- Which blocks a grid point works on: its own 512 rows, and the whole weights, biases, gain and gradients of these. -/
theorem idx : ∀ t : Fin cfg0.N, win0_0.index t = ![t.val, 0] ∧ win0_1.index t = ![t.val, 0]
    ∧ win0_2.index t = ![t.val, 0] ∧ win0_3.index t = ![0, 0] ∧ win0_4.index t = ![0, 0] ∧ win0_5.index t = ![0, 0]
    ∧ win0_6.index t = ![0, 0] ∧ win0_7.index t = ![t.val, 0] ∧ win0_8.index t = ![0, 0] ∧ win0_9.index t = ![t.val, 0] ∧ win0_10.index t = ![t.val, 0]
    ∧ win0_11.index t = ![0, 0] ∧ win0_12.index t = ![0, 0] ∧ win0_13.index t = ![0, 0] ∧ win0_14.index t = ![0, 0] ∧ win0_15.index t = ![0, 0] :=
  (by decide +kernel : ∀ t : Fin grid0.N, _)

/-- The gate of a block of rows. -/
def sB (x0 : FVec Ideal S512x1024 .f32) (x3 : FVec Ideal S1024x1024 .bf16) (x5 : FVec Ideal S1x1024 .f32) (r : Fin 512) (d : Fin 1024) : EReal :=
  Ideal.logistic (∑ k : Fin 1024, x0 (ix2 r k) * x3 (ix2 k d) + x5 (ix2 0 d))

/-- The embedding that the gate scales. -/
def eB (x1 : FVec Ideal S512x256 .f32) (x6 : FVec Ideal S256x1024 .bf16) (r : Fin 512) (d : Fin 1024) : EReal :=
  ∑ k : Fin 256, x1 (ix2 r k) * x6 (ix2 k d)

/-- The gradient of what the gate is taken of. -/
def daB (x0 x2 : FVec Ideal S512x1024 .f32) (x3 : FVec Ideal S1024x1024 .bf16) (x5 : FVec Ideal S1x1024 .f32) (x1 : FVec Ideal S512x256 .f32) (x6 : FVec Ideal S256x1024 .bf16)
    (r : Fin 512) (d : Fin 1024) : EReal :=
  x2 (ix2 r d) * eB x1 x6 r d * sB x0 x3 x5 r d * (1 - sB x0 x3 x5 r d)

/-- The gradient of the embedding. -/
def deB (x0 x2 : FVec Ideal S512x1024 .f32) (x3 : FVec Ideal S1024x1024 .bf16) (x5 : FVec Ideal S1x1024 .f32) (r : Fin 512) (d : Fin 1024) : EReal :=
  x2 (ix2 r d) * sB x0 x3 x5 r d

/-- The gradient of the rows that the gate and the sum take. -/
def dxB (x0 x2 : FVec Ideal S512x1024 .f32) (x3 : FVec Ideal S1024x1024 .bf16) (x5 : FVec Ideal S1x1024 .f32) (x1 : FVec Ideal S512x256 .f32) (x6 : FVec Ideal S256x1024 .bf16)
    (x4 : FVec Ideal S1024x1024 .bf16) (r : Fin 512) (d : Fin 1024) : EReal :=
  x2 (ix2 r d) + ∑ k : Fin 1024, daB x0 x2 x3 x5 x1 x6 r k * x4 (ix2 k d)

/-- A row of the incoming gradient as the layer norm meets it. -/
def uB (x0 x2 : FVec Ideal S512x1024 .f32) (x3 : FVec Ideal S1024x1024 .bf16) (x5 : FVec Ideal S1x1024 .f32) (x1 : FVec Ideal S512x256 .f32) (x6 : FVec Ideal S256x1024 .bf16)
    (x4 : FVec Ideal S1024x1024 .bf16) (x8 : FVec Ideal S1x1024 .f32) (r : Fin 512) (k : Fin 1024) : EReal :=
  dxB x0 x2 x3 x5 x1 x6 x4 r k * x8 (ix2 0 k)

section
variable (x0 x2 : FVec Ideal S512x1024 .f32) (x3 : FVec Ideal S1024x1024 .bf16) (x5 : FVec Ideal S1x1024 .f32) (x1 : FVec Ideal S512x256 .f32) (x6 : FVec Ideal S256x1024 .bf16)
    (x4 : FVec Ideal S1024x1024 .bf16)

theorem pay8_at (r : Fin 512) (d : Fin 1024) : k0_pay8 (F := Ideal) x0 x3 x5 (ix2 r d) = sB x0 x3 x5 r d := by
  pointwise [k0_pay8, k0_pay7, sB]
theorem pay10_at (r : Fin 512) (d : Fin 1024) : k0_pay10 (F := Ideal) x0 x2 x3 x5 (ix2 r d) = deB x0 x2 x3 x5 r d := by
  pointwise [k0_pay10, pay8_at, deB]
theorem pay9_at (r : Fin 512) (d : Fin 1024) : k0_pay9 (F := Ideal) x0 x2 x3 x5 x1 x6 (ix2 r d) = daB x0 x2 x3 x5 x1 x6 r d := by
  pointwise [k0_pay9, pay8_at, daB, eB]
theorem pay11_at (r : Fin 512) (d : Fin 1024) : k0_pay11 (F := Ideal) x0 x2 x3 x5 x1 x6 x4 (ix2 r d) = dxB x0 x2 x3 x5 x1 x6 x4 r d := by
  pointwise [k0_pay11, pay9_at, dxB]
end

/-- A point's share of the gate weight's gradient. -/
def dwgB (x0 x2 : FVec Ideal S512x1024 .f32) (x3 : FVec Ideal S1024x1024 .bf16) (x5 : FVec Ideal S1x1024 .f32) (x1 : FVec Ideal S512x256 .f32) (x6 : FVec Ideal S256x1024 .bf16)
    (k d : Fin 1024) : EReal :=
  ∑ r : Fin 512, x0 (ix2 r k) * daB x0 x2 x3 x5 x1 x6 r d

/-- A point's share of the gate bias's gradient. -/
def dbgB (x0 x2 : FVec Ideal S512x1024 .f32) (x3 : FVec Ideal S1024x1024 .bf16) (x5 : FVec Ideal S1x1024 .f32) (x1 : FVec Ideal S512x256 .f32) (x6 : FVec Ideal S256x1024 .bf16)
    (d : Fin 1024) : EReal :=
  ∑ r : Fin 512, daB x0 x2 x3 x5 x1 x6 r d

/-- A point's share of the embedding projection's gradient. -/
def dwpB (x0 x2 : FVec Ideal S512x1024 .f32) (x3 : FVec Ideal S1024x1024 .bf16) (x5 : FVec Ideal S1x1024 .f32) (x1 : FVec Ideal S512x256 .f32)
    (q : Fin 256) (d : Fin 1024) : EReal :=
  ∑ r : Fin 512, x1 (ix2 r q) * deB x0 x2 x3 x5 r d

/-- A point's share of the gain's gradient. -/
def dgB (x0 x2 : FVec Ideal S512x1024 .f32) (x3 : FVec Ideal S1024x1024 .bf16) (x5 : FVec Ideal S1x1024 .f32) (x1 : FVec Ideal S512x256 .f32) (x6 : FVec Ideal S256x1024 .bf16)
    (x4 : FVec Ideal S1024x1024 .bf16) (x7 : FVec Ideal S512x1024 .f32) (d : Fin 1024) : EReal :=
  ∑ r : Fin 512, dxB x0 x2 x3 x5 x1 x6 x4 r d * xhat (fun k => x7 (ix2 r k)) d

/-- A point's share of the offset's gradient. -/
def dbB (x0 x2 : FVec Ideal S512x1024 .f32) (x3 : FVec Ideal S1024x1024 .bf16) (x5 : FVec Ideal S1x1024 .f32) (x1 : FVec Ideal S512x256 .f32) (x6 : FVec Ideal S256x1024 .bf16)
    (x4 : FVec Ideal S1024x1024 .bf16) (d : Fin 1024) : EReal :=
  ∑ r : Fin 512, dxB x0 x2 x3 x5 x1 x6 x4 r d

/-- The rows' gradients after the first point. -/
theorem dz_A (c : Dev nD) (t : Fin cfg0.N) (h0 : t.val % 16 = 0) (h1 : ¬1 ≤ t.val) (y : S512x1024.Idx) :
    (outsAt0 m c t.val t.isLt).1 y = bwdK (fun k => iblk m c 7 t (ix2 (y 0) k)) (uB (iblk m c 0 t) (iblk m c 2 t) (iblk m c 3 t) (iblk m c 5 t) (iblk m c 1 t) (iblk m c 6 t) (iblk m c 4 t) (iblk m c 8 t) (y 0)) (y 1) := by
  rw [outsAt0_A m c t h0 h1]
  frame_out
  generalize hZ : k0_pay11 (F := Ideal) _ _ _ _ _ _ _ = Z
  have hz : ∀ r d, Z (ix2 r d) = dxB (iblk m c 0 t) (iblk m c 2 t) (iblk m c 3 t) (iblk m c 5 t) (iblk m c 1 t) (iblk m c 6 t) (iblk m c 4 t) r d := fun r d => by subst hZ; exact pay11_at _ _ _ _ _ _ _ r d
  clear hZ
  idx_vars y
  pointwise [k0_pay17, bwdK, uB, k0_pay12, k0_pay13, k0_pay14, k0_pay15, k0_pay16, rstd, var, mean, cen, xhat, cn, cε, hz]

/-- The rounded copy of the rows' gradients after the first point. -/
theorem dzb_A (c : Dev nD) (t : Fin cfg0.N) (h0 : t.val % 16 = 0) (h1 : ¬1 ≤ t.val) (y : S512x1024.Idx) :
    (outsAt0 m c t.val t.isLt).2.1 y = bwdK (fun k => iblk m c 7 t (ix2 (y 0) k)) (uB (iblk m c 0 t) (iblk m c 2 t) (iblk m c 3 t) (iblk m c 5 t) (iblk m c 1 t) (iblk m c 6 t) (iblk m c 4 t) (iblk m c 8 t) (y 0)) (y 1) := by
  rw [outsAt0_A m c t h0 h1]
  frame_out
  generalize hZ : k0_pay11 (F := Ideal) _ _ _ _ _ _ _ = Z
  have hz : ∀ r d, Z (ix2 r d) = dxB (iblk m c 0 t) (iblk m c 2 t) (iblk m c 3 t) (iblk m c 5 t) (iblk m c 1 t) (iblk m c 6 t) (iblk m c 4 t) r d := fun r d => by subst hZ; exact pay11_at _ _ _ _ _ _ _ r d
  clear hZ
  idx_vars y
  pointwise [k0_pay20, k0_pay17, bwdK, uB, k0_pay12, k0_pay13, k0_pay14, k0_pay15, k0_pay16, rstd, var, mean, cen, xhat, cn, cε, hz]

/-- The gate weight's gradient after the first point. -/
theorem dwg_A (c : Dev nD) (t : Fin cfg0.N) (h0 : t.val % 16 = 0) (h1 : ¬1 ≤ t.val) (y : S1024x1024.Idx) :
    (outsAt0 m c t.val t.isLt).2.2.1 y = dwgB (iblk m c 0 t) (iblk m c 2 t) (iblk m c 3 t) (iblk m c 5 t) (iblk m c 1 t) (iblk m c 6 t) (y 0) (y 1) := by
  rw [outsAt0_A m c t h0 h1]
  frame_out
  generalize hZ : k0_pay9 (F := Ideal) _ _ _ _ _ _ = Z
  have hz : ∀ r d, Z (ix2 r d) = daB (iblk m c 0 t) (iblk m c 2 t) (iblk m c 3 t) (iblk m c 5 t) (iblk m c 1 t) (iblk m c 6 t) r d := fun r d => by subst hZ; exact pay9_at _ _ _ _ _ _ r d
  clear hZ
  idx_vars y
  pointwise [k0_pay2, k0_pay21, k0_pay7, dwgB, hz]

/-- The gate bias's gradient after the first point. -/
theorem dbg_A (c : Dev nD) (t : Fin cfg0.N) (h0 : t.val % 16 = 0) (h1 : ¬1 ≤ t.val) (y : S1x1024.Idx) :
    (outsAt0 m c t.val t.isLt).2.2.2.1 y = dbgB (iblk m c 0 t) (iblk m c 2 t) (iblk m c 3 t) (iblk m c 5 t) (iblk m c 1 t) (iblk m c 6 t) (y 1) := by
  rw [outsAt0_A m c t h0 h1]
  frame_out
  generalize hZ : k0_pay9 (F := Ideal) _ _ _ _ _ _ = Z
  have hz : ∀ r d, Z (ix2 r d) = daB (iblk m c 0 t) (iblk m c 2 t) (iblk m c 3 t) (iblk m c 5 t) (iblk m c 1 t) (iblk m c 6 t) r d := fun r d => by subst hZ; exact pay9_at _ _ _ _ _ _ r d
  clear hZ
  idx_vars y
  pointwise [k0_pay3, k0_pay22, dbgB, hz]

/-- The embedding projection's gradient after the first point. -/
theorem dwp_A (c : Dev nD) (t : Fin cfg0.N) (h0 : t.val % 16 = 0) (h1 : ¬1 ≤ t.val) (y : S256x1024.Idx) :
    (outsAt0 m c t.val t.isLt).2.2.2.2.1 y = dwpB (iblk m c 0 t) (iblk m c 2 t) (iblk m c 3 t) (iblk m c 5 t) (iblk m c 1 t) (y 0) (y 1) := by
  rw [outsAt0_A m c t h0 h1]
  frame_out
  generalize hZ : k0_pay10 (F := Ideal) _ _ _ _ = Z
  have hz : ∀ r d, Z (ix2 r d) = deB (iblk m c 0 t) (iblk m c 2 t) (iblk m c 3 t) (iblk m c 5 t) r d := fun r d => by subst hZ; exact pay10_at _ _ _ _ r d
  clear hZ
  idx_vars y
  pointwise [k0_pay4, k0_pay1, dwpB, hz]

/-- The gain's gradient after the first point. -/
theorem dg_A (c : Dev nD) (t : Fin cfg0.N) (h0 : t.val % 16 = 0) (h1 : ¬1 ≤ t.val) (y : S1x1024.Idx) :
    (outsAt0 m c t.val t.isLt).2.2.2.2.2.1 y = dgB (iblk m c 0 t) (iblk m c 2 t) (iblk m c 3 t) (iblk m c 5 t) (iblk m c 1 t) (iblk m c 6 t) (iblk m c 4 t) (iblk m c 7 t) (y 1) := by
  rw [outsAt0_A m c t h0 h1]
  frame_out
  generalize hZ : k0_pay11 (F := Ideal) _ _ _ _ _ _ _ = Z
  have hz : ∀ r d, Z (ix2 r d) = dxB (iblk m c 0 t) (iblk m c 2 t) (iblk m c 3 t) (iblk m c 5 t) (iblk m c 1 t) (iblk m c 6 t) (iblk m c 4 t) r d := fun r d => by subst hZ; exact pay11_at _ _ _ _ _ _ _ r d
  clear hZ
  idx_vars y
  pointwise [k0_pay5, k0_pay18, dgB, k0_pay12, k0_pay13, k0_pay14, k0_pay15, k0_pay16, rstd, var, mean, cen, xhat, cn, cε, hz]

/-- The offset's gradient after the first point. -/
theorem db_A (c : Dev nD) (t : Fin cfg0.N) (h0 : t.val % 16 = 0) (h1 : ¬1 ≤ t.val) (y : S1x1024.Idx) :
    (outsAt0 m c t.val t.isLt).2.2.2.2.2.2 y = dbB (iblk m c 0 t) (iblk m c 2 t) (iblk m c 3 t) (iblk m c 5 t) (iblk m c 1 t) (iblk m c 6 t) (iblk m c 4 t) (y 1) := by
  rw [outsAt0_A m c t h0 h1]
  frame_out
  generalize hZ : k0_pay11 (F := Ideal) _ _ _ _ _ _ _ = Z
  have hz : ∀ r d, Z (ix2 r d) = dxB (iblk m c 0 t) (iblk m c 2 t) (iblk m c 3 t) (iblk m c 5 t) (iblk m c 1 t) (iblk m c 6 t) (iblk m c 4 t) r d := fun r d => by subst hZ; exact pay11_at _ _ _ _ _ _ _ r d
  clear hZ
  idx_vars y
  pointwise [k0_pay6, k0_pay19, dbB, hz]

/-- The rows' gradients after a later point. -/
theorem dz_B (c : Dev nD) (t : Fin cfg0.N) (h0 : ¬t.val % 16 = 0) (h1 : 1 ≤ t.val) (y : S512x1024.Idx) :
    (outsAt0 m c t.val t.isLt).1 y = bwdK (fun k => iblk m c 7 t (ix2 (y 0) k)) (uB (iblk m c 0 t) (iblk m c 2 t) (iblk m c 3 t) (iblk m c 5 t) (iblk m c 1 t) (iblk m c 6 t) (iblk m c 4 t) (iblk m c 8 t) (y 0)) (y 1) := by
  rw [outsAt0_B m c t h0 h1]
  frame_out
  generalize hZ : k0_pay11 (F := Ideal) _ _ _ _ _ _ _ = Z
  have hz : ∀ r d, Z (ix2 r d) = dxB (iblk m c 0 t) (iblk m c 2 t) (iblk m c 3 t) (iblk m c 5 t) (iblk m c 1 t) (iblk m c 6 t) (iblk m c 4 t) r d := fun r d => by subst hZ; exact pay11_at _ _ _ _ _ _ _ r d
  clear hZ
  idx_vars y
  pointwise [k0_pay17, bwdK, uB, k0_pay12, k0_pay13, k0_pay14, k0_pay15, k0_pay16, rstd, var, mean, cen, xhat, cn, cε, hz]

/-- The rounded copy of the rows' gradients after a later point. -/
theorem dzb_B (c : Dev nD) (t : Fin cfg0.N) (h0 : ¬t.val % 16 = 0) (h1 : 1 ≤ t.val) (y : S512x1024.Idx) :
    (outsAt0 m c t.val t.isLt).2.1 y = bwdK (fun k => iblk m c 7 t (ix2 (y 0) k)) (uB (iblk m c 0 t) (iblk m c 2 t) (iblk m c 3 t) (iblk m c 5 t) (iblk m c 1 t) (iblk m c 6 t) (iblk m c 4 t) (iblk m c 8 t) (y 0)) (y 1) := by
  rw [outsAt0_B m c t h0 h1]
  frame_out
  generalize hZ : k0_pay11 (F := Ideal) _ _ _ _ _ _ _ = Z
  have hz : ∀ r d, Z (ix2 r d) = dxB (iblk m c 0 t) (iblk m c 2 t) (iblk m c 3 t) (iblk m c 5 t) (iblk m c 1 t) (iblk m c 6 t) (iblk m c 4 t) r d := fun r d => by subst hZ; exact pay11_at _ _ _ _ _ _ _ r d
  clear hZ
  idx_vars y
  pointwise [k0_pay20, k0_pay17, bwdK, uB, k0_pay12, k0_pay13, k0_pay14, k0_pay15, k0_pay16, rstd, var, mean, cen, xhat, cn, cε, hz]

/-- The gate weight's gradient after a later point. -/
theorem dwg_B (c : Dev nD) (t : Fin cfg0.N) (h0 : ¬t.val % 16 = 0) (h1 : 1 ≤ t.val) (y : S1024x1024.Idx) :
    (outsAt0 m c t.val t.isLt).2.2.1 y = (outsAt0 m c (t.val - 1) (by omega)).2.2.1 (ix2 (y 0) (y 1)) + dwgB (iblk m c 0 t) (iblk m c 2 t) (iblk m c 3 t) (iblk m c 5 t) (iblk m c 1 t) (iblk m c 6 t) (y 0) (y 1) := by
  rw [outsAt0_B m c t h0 h1]
  frame_out
  generalize hZ : k0_pay9 (F := Ideal) _ _ _ _ _ _ = Z
  have hz : ∀ r d, Z (ix2 r d) = daB (iblk m c 0 t) (iblk m c 2 t) (iblk m c 3 t) (iblk m c 5 t) (iblk m c 1 t) (iblk m c 6 t) r d := fun r d => by subst hZ; exact pay9_at _ _ _ _ _ _ r d
  clear hZ
  idx_vars y
  pointwise [k0_pay2, k0_pay21, k0_pay7, dwgB, hz, read_unread_whole]

/-- The gate bias's gradient after a later point. -/
theorem dbg_B (c : Dev nD) (t : Fin cfg0.N) (h0 : ¬t.val % 16 = 0) (h1 : 1 ≤ t.val) (y : S1x1024.Idx) :
    (outsAt0 m c t.val t.isLt).2.2.2.1 y = (outsAt0 m c (t.val - 1) (by omega)).2.2.2.1 (ix2 (y 0) (y 1)) + dbgB (iblk m c 0 t) (iblk m c 2 t) (iblk m c 3 t) (iblk m c 5 t) (iblk m c 1 t) (iblk m c 6 t) (y 1) := by
  rw [outsAt0_B m c t h0 h1]
  frame_out
  generalize hZ : k0_pay9 (F := Ideal) _ _ _ _ _ _ = Z
  have hz : ∀ r d, Z (ix2 r d) = daB (iblk m c 0 t) (iblk m c 2 t) (iblk m c 3 t) (iblk m c 5 t) (iblk m c 1 t) (iblk m c 6 t) r d := fun r d => by subst hZ; exact pay9_at _ _ _ _ _ _ r d
  clear hZ
  idx_vars y
  pointwise [k0_pay3, k0_pay22, dbgB, hz, read_unread_whole]

/-- The embedding projection's gradient after a later point. -/
theorem dwp_B (c : Dev nD) (t : Fin cfg0.N) (h0 : ¬t.val % 16 = 0) (h1 : 1 ≤ t.val) (y : S256x1024.Idx) :
    (outsAt0 m c t.val t.isLt).2.2.2.2.1 y = (outsAt0 m c (t.val - 1) (by omega)).2.2.2.2.1 (ix2 (y 0) (y 1)) + dwpB (iblk m c 0 t) (iblk m c 2 t) (iblk m c 3 t) (iblk m c 5 t) (iblk m c 1 t) (y 0) (y 1) := by
  rw [outsAt0_B m c t h0 h1]
  frame_out
  generalize hZ : k0_pay10 (F := Ideal) _ _ _ _ = Z
  have hz : ∀ r d, Z (ix2 r d) = deB (iblk m c 0 t) (iblk m c 2 t) (iblk m c 3 t) (iblk m c 5 t) r d := fun r d => by subst hZ; exact pay10_at _ _ _ _ r d
  clear hZ
  idx_vars y
  pointwise [k0_pay4, k0_pay1, dwpB, hz, read_unread_whole]

/-- The gain's gradient after a later point. -/
theorem dg_B (c : Dev nD) (t : Fin cfg0.N) (h0 : ¬t.val % 16 = 0) (h1 : 1 ≤ t.val) (y : S1x1024.Idx) :
    (outsAt0 m c t.val t.isLt).2.2.2.2.2.1 y = (outsAt0 m c (t.val - 1) (by omega)).2.2.2.2.2.1 (ix2 (y 0) (y 1)) + dgB (iblk m c 0 t) (iblk m c 2 t) (iblk m c 3 t) (iblk m c 5 t) (iblk m c 1 t) (iblk m c 6 t) (iblk m c 4 t) (iblk m c 7 t) (y 1) := by
  rw [outsAt0_B m c t h0 h1]
  frame_out
  generalize hZ : k0_pay11 (F := Ideal) _ _ _ _ _ _ _ = Z
  have hz : ∀ r d, Z (ix2 r d) = dxB (iblk m c 0 t) (iblk m c 2 t) (iblk m c 3 t) (iblk m c 5 t) (iblk m c 1 t) (iblk m c 6 t) (iblk m c 4 t) r d := fun r d => by subst hZ; exact pay11_at _ _ _ _ _ _ _ r d
  clear hZ
  idx_vars y
  pointwise [k0_pay5, k0_pay18, dgB, k0_pay12, k0_pay13, k0_pay14, k0_pay15, k0_pay16, rstd, var, mean, cen, xhat, cn, cε, hz, read_unread_whole]

/-- The offset's gradient after a later point. -/
theorem db_B (c : Dev nD) (t : Fin cfg0.N) (h0 : ¬t.val % 16 = 0) (h1 : 1 ≤ t.val) (y : S1x1024.Idx) :
    (outsAt0 m c t.val t.isLt).2.2.2.2.2.2 y = (outsAt0 m c (t.val - 1) (by omega)).2.2.2.2.2.2 (ix2 (y 0) (y 1)) + dbB (iblk m c 0 t) (iblk m c 2 t) (iblk m c 3 t) (iblk m c 5 t) (iblk m c 1 t) (iblk m c 6 t) (iblk m c 4 t) (y 1) := by
  rw [outsAt0_B m c t h0 h1]
  frame_out
  generalize hZ : k0_pay11 (F := Ideal) _ _ _ _ _ _ _ = Z
  have hz : ∀ r d, Z (ix2 r d) = dxB (iblk m c 0 t) (iblk m c 2 t) (iblk m c 3 t) (iblk m c 5 t) (iblk m c 1 t) (iblk m c 6 t) (iblk m c 4 t) r d := fun r d => by subst hZ; exact pay11_at _ _ _ _ _ _ _ r d
  clear hZ
  idx_vars y
  pointwise [k0_pay6, k0_pay19, dbB, hz, read_unread_whole]

end Cert.Kernel7Ideal.Block
-- ==== Proof.Ple.Grad.lean ====
module

public import proofs.«01_k».proof.Proof.Ple.Block
public import proofs.«01_k».proof.Proof.Ple.Ref
set_option maxRecDepth 16384

/-! The arrays the call of the per-layer embedding's gradients is given, and its blocks and results read in the whole
    arrays. -/

@[expose] public noncomputable section
open Idealize.ShloMosaic Idealize.ShloMosaic.TcCoe Idealize.SL.Sem
open Idealize.ShloMosaic.Pipeline (Dat)

namespace Cert.Kernel7Ideal.Block
open Cert.Kernel7Ideal Cert.Kernel7Ideal.Gen Cert.Norm
open Cert.Reference3Ideal.Ffn (lnA)
open Cert.Reference5Ideal.Ln (uA uA_at dzA dzA_at xhatA xhatA_at colSum colSum_at)
open Cert.Reference7Ideal.Ple (preA preA_at eA eA_at daA daA_at deA deA_at dxA dxA_at dwgA dwgA_at dwpA dwpA_at)
variable (m : (ℓ : Loc nD τ sig) → Buf (Elt Ideal) ℓ)

/-- The rows the layer norm takes, its gain and offset, the per-layer input, the gate's weight and bias, the embedding's
    weight and the incoming gradient, as device `c` is given them. -/
abbrev aZ (c : Dev nD) : FVec Ideal S8192x1024 .f32 := m ((c : Thread nD τ).loc main_arg0)
abbrev aγ (c : Dev nD) : FVec Ideal S1024 .f32 := m ((c : Thread nD τ).loc main_arg1)
abbrev aβ (c : Dev nD) : FVec Ideal S1024 .f32 := m ((c : Thread nD τ).loc main_arg2)
abbrev aP (c : Dev nD) : FVec Ideal S8192x256 .f32 := m ((c : Thread nD τ).loc main_arg3)
abbrev aG (c : Dev nD) : FVec Ideal S1024x1024 .f32 := m ((c : Thread nD τ).loc main_arg4)
abbrev aB (c : Dev nD) : FVec Ideal S1024 .f32 := m ((c : Thread nD τ).loc main_arg5)
abbrev aW (c : Dev nD) : FVec Ideal S256x1024 .f32 := m ((c : Thread nD τ).loc main_arg6)
abbrev aY (c : Dev nD) : FVec Ideal S8192x1024 .f32 := m ((c : Thread nD τ).loc main_arg7)

/-- The rows that the gate takes: the layer norm's. -/
abbrev aX (c : Dev nD) : FVec Ideal S8192x1024 .f32 := lnA (aγ m c) (aβ m c) (aZ m c)

/-- The call's first argument is the layer norm of the rows. -/
theorem V23 (c : Dev nD) : V m c main_v23 = aX m c := by
  unfold V
  simp only [hostOps0,
    StableHlo.TRef.binary, StableHlo.TRef.nullary, StableHlo.TRef.unary, StableHlo.TRef.toBuf, StableHlo.TRef.ofBuf, cast_eq]
  after_results_simp <;> rfl

/-- The fourth is the gate's weight, rounded. -/
theorem V24 (c : Dev nD) : V m c main_v24 = truncf .bf16 (aG m c) bitsLt_bf16_f32 := by
  unfold V
  simp only [hostOps0,
    StableHlo.TRef.binary, StableHlo.TRef.nullary, StableHlo.TRef.unary, StableHlo.TRef.toBuf, StableHlo.TRef.ofBuf, cast_eq]
  after_results_simp <;> rfl

/-- The fifth is the same, transposed. -/
theorem V25 (c : Dev nD) : V m c main_v25 = transpose S1024x1024 [1, 0] (truncf .bf16 (aG m c) bitsLt_bf16_f32) transposes_S1024x1024_S1024x1024_1_0 := by
  unfold V
  simp only [hostOps0,
    StableHlo.TRef.binary, StableHlo.TRef.nullary, StableHlo.TRef.unary, StableHlo.TRef.toBuf, StableHlo.TRef.ofBuf, cast_eq]
  after_results_simp <;> rfl

/-- The sixth is the gate's bias, as a row. -/
theorem V26 (c : Dev nD) : V m c main_v26 = broadcastInDim S1x1024 ![1] bcast_S1024_S1x1024_1 (aB m c) := by
  unfold V
  simp only [hostOps0,
    StableHlo.TRef.binary, StableHlo.TRef.nullary, StableHlo.TRef.unary, StableHlo.TRef.toBuf, StableHlo.TRef.ofBuf, cast_eq]
  after_results_simp <;> rfl

/-- The seventh is the embedding's weight, rounded. -/
theorem V27 (c : Dev nD) : V m c main_v27 = truncf .bf16 (aW m c) bitsLt_bf16_f32 := by
  unfold V
  simp only [hostOps0,
    StableHlo.TRef.binary, StableHlo.TRef.nullary, StableHlo.TRef.unary, StableHlo.TRef.toBuf, StableHlo.TRef.ofBuf, cast_eq]
  after_results_simp <;> rfl

/-- The last is the gain, as a row. -/
theorem V28 (c : Dev nD) : V m c main_v28 = broadcastInDim S1x1024 ![1] bcast_S1024_S1x1024_1 (aγ m c) := by
  unfold V
  simp only [hostOps0,
    StableHlo.TRef.binary, StableHlo.TRef.nullary, StableHlo.TRef.unary, StableHlo.TRef.toBuf, StableHlo.TRef.ofBuf, cast_eq]
  after_results_simp <;> rfl

/-- A block of the rows that the gate takes, read in the whole array. -/
theorem x_at (c : Dev nD) (t : Fin cfg0.N) (r : Fin 512) (d : Fin 1024) (n : Fin 8192) (hn : n.val = t.val * 512 + r.val) :
    iblk m c 0 t (ix2 r d) = aX m c (ix2 n d) := by
  rw [← V23 m c]
  blk_simp [iblk]
  blk_ext [idx t]

/-- A block of the per-layer input. -/
theorem p_at (c : Dev nD) (t : Fin cfg0.N) (r : Fin 512) (d : Fin 256) (n : Fin 8192) (hn : n.val = t.val * 512 + r.val) :
    iblk m c 1 t (ix2 r d) = aP m c (ix2 n d) := by
  rw [← show V m c main_arg3 = aP m c from V_main_arg3 m c]
  blk_simp [iblk]
  blk_ext [idx t]

/-- A block of the incoming gradient. -/
theorem y_at (c : Dev nD) (t : Fin cfg0.N) (r : Fin 512) (d : Fin 1024) (n : Fin 8192) (hn : n.val = t.val * 512 + r.val) :
    iblk m c 2 t (ix2 r d) = aY m c (ix2 n d) := by
  rw [← show V m c main_arg7 = aY m c from V_main_arg7 m c]
  blk_simp [iblk]
  blk_ext [idx t]

/-- A block of the layer norm's rows. -/
theorem z_at (c : Dev nD) (t : Fin cfg0.N) (r : Fin 512) (d : Fin 1024) (n : Fin 8192) (hn : n.val = t.val * 512 + r.val) :
    iblk m c 7 t (ix2 r d) = aZ m c (ix2 n d) := by
  rw [← show V m c main_arg0 = aZ m c from V_main_arg0 m c]
  blk_simp [iblk]
  blk_ext [idx t]

/-- An entry of the gate's weight. -/
theorem g_at (c : Dev nD) (t : Fin cfg0.N) (k d : Fin 1024) : iblk m c 3 t (ix2 k d) = aG m c (ix2 k d) := by
  refine Eq.trans ?_ ((congrFun (V24 m c) (ix2 k d)).trans (by pointwise))
  blk_simp [iblk]
  blk_ext [idx t]

/-- An entry of the gate's weight, transposed. -/
theorem gt_at (c : Dev nD) (t : Fin cfg0.N) (k d : Fin 1024) : iblk m c 4 t (ix2 k d) = aG m c (ix2 d k) := by
  refine Eq.trans ?_ ((congrFun (V25 m c) (ix2 k d)).trans (by pointwise))
  blk_simp [iblk]
  blk_ext [idx t]

/-- An entry of the gate's bias. -/
theorem b_at (c : Dev nD) (t : Fin cfg0.N) (d : Fin 1024) : iblk m c 5 t (ix2 0 d) = aB m c (ix1 d) := by
  refine Eq.trans ?_ ((congrFun (V26 m c) (ix2 0 d)).trans (by pointwise))
  blk_simp [iblk]
  blk_ext [idx t]

/-- An entry of the embedding's weight. -/
theorem w_at (c : Dev nD) (t : Fin cfg0.N) (k : Fin 256) (d : Fin 1024) : iblk m c 6 t (ix2 k d) = aW m c (ix2 k d) := by
  refine Eq.trans ?_ ((congrFun (V27 m c) (ix2 k d)).trans (by pointwise))
  blk_simp [iblk]
  blk_ext [idx t]

/-- An entry of the gain. -/
theorem γ_at (c : Dev nD) (t : Fin cfg0.N) (d : Fin 1024) : iblk m c 8 t (ix2 0 d) = aγ m c (ix1 d) := by
  refine Eq.trans ?_ ((congrFun (V28 m c) (ix2 0 d)).trans (by pointwise))
  blk_simp [iblk]
  blk_ext [idx t]

/-- The reference's gradients of what the gate is taken of, of the embedding, and of the rows, as device `c` is given its arrays. -/
abbrev aDa (c : Dev nD) : FVec Ideal S8192x1024 .f32 := daA (aX m c) (aY m c) (aP m c) (aG m c) (aB m c) (aW m c)
abbrev aDe (c : Dev nD) : FVec Ideal S8192x1024 .f32 := deA (aX m c) (aY m c) (aG m c) (aB m c)
abbrev aDx (c : Dev nD) : FVec Ideal S8192x1024 .f32 := dxA (aX m c) (aY m c) (aP m c) (aG m c) (aB m c) (aW m c)

/-- A block of the gate, in the whole. -/
theorem sB_at (c : Dev nD) (t : Fin cfg0.N) (r : Fin 512) (d : Fin 1024) (n : Fin 8192) (hn : n.val = t.val * 512 + r.val) :
    sB (iblk m c 0 t) (iblk m c 3 t) (iblk m c 5 t) r d = Ideal.logistic (preA (aX m c) (aG m c) (aB m c) (ix2 n d)) := by
  rw [sB, preA_at]
  exact congrArg Ideal.logistic (congrArg₂ (· + ·) (Finset.sum_congr rfl fun k _ => congrArg₂ (· * ·) (x_at m c t r k n hn) (g_at m c t k d)) (b_at m c t d))

/-- A block of the embedding, in the whole. -/
theorem eB_at (c : Dev nD) (t : Fin cfg0.N) (r : Fin 512) (d : Fin 1024) (n : Fin 8192) (hn : n.val = t.val * 512 + r.val) :
    eB (iblk m c 1 t) (iblk m c 6 t) r d = eA (aP m c) (aW m c) (ix2 n d) := by
  rw [eB, eA_at]
  exact Finset.sum_congr rfl fun k _ => congrArg₂ (· * ·) (p_at m c t r k n hn) (w_at m c t k d)

/-- A block of the gradient of what the gate is taken of, in the whole. -/
theorem daB_at (c : Dev nD) (t : Fin cfg0.N) (r : Fin 512) (d : Fin 1024) (n : Fin 8192) (hn : n.val = t.val * 512 + r.val) :
    daB (iblk m c 0 t) (iblk m c 2 t) (iblk m c 3 t) (iblk m c 5 t) (iblk m c 1 t) (iblk m c 6 t) r d = aDa m c (ix2 n d) := by
  rw [daB, aDa, daA_at, sB_at m c t r d n hn, eB_at m c t r d n hn, y_at m c t r d n hn, mul_assoc]

/-- A block of the embedding's gradient, in the whole. -/
theorem deB_at (c : Dev nD) (t : Fin cfg0.N) (r : Fin 512) (d : Fin 1024) (n : Fin 8192) (hn : n.val = t.val * 512 + r.val) :
    deB (iblk m c 0 t) (iblk m c 2 t) (iblk m c 3 t) (iblk m c 5 t) r d = aDe m c (ix2 n d) := by
  rw [deB, aDe, deA_at, sB_at m c t r d n hn, y_at m c t r d n hn, mul_comm]

/-- A block of the rows' gradient, in the whole. -/
theorem dxB_at (c : Dev nD) (t : Fin cfg0.N) (r : Fin 512) (d : Fin 1024) (n : Fin 8192) (hn : n.val = t.val * 512 + r.val) :
    dxB (iblk m c 0 t) (iblk m c 2 t) (iblk m c 3 t) (iblk m c 5 t) (iblk m c 1 t) (iblk m c 6 t) (iblk m c 4 t) r d = aDx m c (ix2 n d) := by
  rw [dxB, aDx, dxA_at, y_at m c t r d n hn]
  exact congrArg (aY m c (ix2 n d) + ·) (Finset.sum_congr rfl fun k _ => congrArg₂ (· * ·) (daB_at m c t r k n hn) (gt_at m c t k d))

/-- There are sixteen grid points. -/
theorem lt16 (t : Fin cfg0.N) : t.val < 16 := lt_of_lt_of_eq t.isLt N_0

/-- A row's share of the gain's gradient, in the whole. -/
theorem dgB_at (c : Dev nD) (t : Fin cfg0.N) (d : Fin 1024) (r : Fin 512) (n : Fin 8192) (hn : n.val = t.val * 512 + r.val) :
    dxB (iblk m c 0 t) (iblk m c 2 t) (iblk m c 3 t) (iblk m c 5 t) (iblk m c 1 t) (iblk m c 6 t) (iblk m c 4 t) r d * xhat (fun k => iblk m c 7 t (ix2 r k)) d
      = mulf (xhatA (aZ m c)) (aDx m c) (ix2 n d) := by
  rw [dxB_at m c t r d n hn, show (fun k => iblk m c 7 t (ix2 r k)) = fun k => aZ m c (ix2 n k) from funext fun k => z_at m c t r k n hn,
    ← xhatA_at, mul_comm]
  rfl

/-- The gate weight's gradient after the last point. -/
theorem dwg_acc (c : Dev nD) (t : Fin cfg0.N) (ct : t.val % 16 = 15) (k d : Fin 1024) :
    (outsAt0 m c t.val t.isLt).2.2.1 (ix2 k d) = ∑ n : Fin 8192, aDa m c (ix2 n d) * aX m c (ix2 n k) := by
  rw [Pipeline.eq_sum_fin_of_reset_step_apply_of_flush (fun n h => (outsAt0 m c n h).2.2.1) 16 (fun _ => 0)
      (fun p i => dwgB (iblk m c 0 p) (iblk m c 2 p) (iblk m c 3 p) (iblk m c 5 p) (iblk m c 1 p) (iblk m c 6 p) (i 0) (i 1))
      (fun p h i => by have := lt16 p; rw [dwg_A m c p h (by omega) i, zero_add])
      (fun p h i => by rw [dwg_B m c p h (by omega) i, ix2_eta]) t ct _, zero_add]
  refine Fin.sum_mul_add_congr fun s r hr => ?_
  have hp := Pipeline.run_point_lt_of_flush t ct s
  have := lt16 t
  exact (mul_comm _ _).trans (congrArg₂ (· * ·) (daB_at m c ⟨16 * (t.val / 16) + s.val, hp⟩ r d _ (by dsimp only; omega)) (x_at m c ⟨16 * (t.val / 16) + s.val, hp⟩ r k _ (by dsimp only; omega)))

/-- The gate bias's gradient after the last point. -/
theorem dbg_acc (c : Dev nD) (t : Fin cfg0.N) (ct : t.val % 16 = 15) (d : Fin 1024) :
    (outsAt0 m c t.val t.isLt).2.2.2.1 (ix2 0 d) = ∑ n : Fin 8192, aDa m c (ix2 n d) := by
  rw [Pipeline.eq_sum_fin_of_reset_step_apply_of_flush (fun n h => (outsAt0 m c n h).2.2.2.1) 16 (fun _ => 0)
      (fun p i => dbgB (iblk m c 0 p) (iblk m c 2 p) (iblk m c 3 p) (iblk m c 5 p) (iblk m c 1 p) (iblk m c 6 p) (i 1))
      (fun p h i => by have := lt16 p; rw [dbg_A m c p h (by omega) i, zero_add])
      (fun p h i => by rw [dbg_B m c p h (by omega) i, ix2_eta]) t ct _, zero_add]
  refine Fin.sum_mul_add_congr fun s r hr => ?_
  have hp := Pipeline.run_point_lt_of_flush t ct s
  have := lt16 t
  exact daB_at m c ⟨16 * (t.val / 16) + s.val, hp⟩ r d _ (by dsimp only; omega)

/-- The embedding weight's gradient after the last point. -/
theorem dwp_acc (c : Dev nD) (t : Fin cfg0.N) (ct : t.val % 16 = 15) (k : Fin 256) (d : Fin 1024) :
    (outsAt0 m c t.val t.isLt).2.2.2.2.1 (ix2 k d) = ∑ n : Fin 8192, aDe m c (ix2 n d) * aP m c (ix2 n k) := by
  rw [Pipeline.eq_sum_fin_of_reset_step_apply_of_flush (fun n h => (outsAt0 m c n h).2.2.2.2.1) 16 (fun _ => 0)
      (fun p i => dwpB (iblk m c 0 p) (iblk m c 2 p) (iblk m c 3 p) (iblk m c 5 p) (iblk m c 1 p) (i 0) (i 1))
      (fun p h i => by have := lt16 p; rw [dwp_A m c p h (by omega) i, zero_add])
      (fun p h i => by rw [dwp_B m c p h (by omega) i, ix2_eta]) t ct _, zero_add]
  refine Fin.sum_mul_add_congr fun s r hr => ?_
  have hp := Pipeline.run_point_lt_of_flush t ct s
  have := lt16 t
  exact (mul_comm _ _).trans (congrArg₂ (· * ·) (deB_at m c ⟨16 * (t.val / 16) + s.val, hp⟩ r d _ (by dsimp only; omega)) (p_at m c ⟨16 * (t.val / 16) + s.val, hp⟩ r k _ (by dsimp only; omega)))

/-- The gain's gradient after the last point. -/
theorem dg_acc (c : Dev nD) (t : Fin cfg0.N) (ct : t.val % 16 = 15) (d : Fin 1024) :
    (outsAt0 m c t.val t.isLt).2.2.2.2.2.1 (ix2 0 d) = ∑ n : Fin 8192, mulf (xhatA (aZ m c)) (aDx m c) (ix2 n d) := by
  rw [Pipeline.eq_sum_fin_of_reset_step_apply_of_flush (fun n h => (outsAt0 m c n h).2.2.2.2.2.1) 16 (fun _ => 0)
      (fun p i => dgB (iblk m c 0 p) (iblk m c 2 p) (iblk m c 3 p) (iblk m c 5 p) (iblk m c 1 p) (iblk m c 6 p) (iblk m c 4 p) (iblk m c 7 p) (i 1))
      (fun p h i => by have := lt16 p; rw [dg_A m c p h (by omega) i, zero_add])
      (fun p h i => by rw [dg_B m c p h (by omega) i, ix2_eta]) t ct _, zero_add]
  refine Fin.sum_mul_add_congr fun s r hr => ?_
  have hp := Pipeline.run_point_lt_of_flush t ct s
  have := lt16 t
  exact dgB_at m c ⟨16 * (t.val / 16) + s.val, hp⟩ d r _ (by dsimp only; omega)

/-- The offset's gradient after the last point. -/
theorem db_acc (c : Dev nD) (t : Fin cfg0.N) (ct : t.val % 16 = 15) (d : Fin 1024) :
    (outsAt0 m c t.val t.isLt).2.2.2.2.2.2 (ix2 0 d) = ∑ n : Fin 8192, aDx m c (ix2 n d) := by
  rw [Pipeline.eq_sum_fin_of_reset_step_apply_of_flush (fun n h => (outsAt0 m c n h).2.2.2.2.2.2) 16 (fun _ => 0)
      (fun p i => dbB (iblk m c 0 p) (iblk m c 2 p) (iblk m c 3 p) (iblk m c 5 p) (iblk m c 1 p) (iblk m c 6 p) (iblk m c 4 p) (i 1))
      (fun p h i => by have := lt16 p; rw [db_A m c p h (by omega) i, zero_add])
      (fun p h i => by rw [db_B m c p h (by omega) i, ix2_eta]) t ct _, zero_add]
  refine Fin.sum_mul_add_congr fun s r hr => ?_
  have hp := Pipeline.run_point_lt_of_flush t ct s
  have := lt16 t
  exact dxB_at m c ⟨16 * (t.val / 16) + s.val, hp⟩ r d _ (by dsimp only; omega)

/-- Where a block of a result lies in its array. -/
theorem emb9 (t : Fin cfg0.N) (y : S512x1024.Idx) :
    (win0_9.blk t).view.emb y = ix2 (⟨t.val * 512 + (y 0).val, by have := lt16 t; have : (y 0).val < 512 := (y 0).isLt; omega⟩ : Fin 8192) (y 1) := by
  idx_vars y
  blk_ext [idx t]

theorem emb10 (t : Fin cfg0.N) (y : S512x1024.Idx) :
    (win0_10.blk t).view.emb y = ix2 (⟨t.val * 512 + (y 0).val, by have := lt16 t; have : (y 0).val < 512 := (y 0).isLt; omega⟩ : Fin 8192) (y 1) := by
  idx_vars y
  blk_ext [idx t]

theorem emb11 (t : Fin cfg0.N) (y : S1024x1024.Idx) :
    (win0_11.blk t).view.emb y = ix2 (y 0) (y 1) := by
  idx_vars y
  blk_ext [idx t]

theorem emb12 (t : Fin cfg0.N) (y : S1x1024.Idx) :
    (win0_12.blk t).view.emb y = ix2 (0 : Fin 1) (y 1) := by
  idx_vars y
  blk_ext [idx t]

theorem emb13 (t : Fin cfg0.N) (y : S256x1024.Idx) :
    (win0_13.blk t).view.emb y = ix2 (y 0) (y 1) := by
  idx_vars y
  blk_ext [idx t]

theorem emb14 (t : Fin cfg0.N) (y : S1x1024.Idx) :
    (win0_14.blk t).view.emb y = ix2 (0 : Fin 1) (y 1) := by
  idx_vars y
  blk_ext [idx t]

theorem emb15 (t : Fin cfg0.N) (y : S1x1024.Idx) :
    (win0_15.blk t).view.emb y = ix2 (0 : Fin 1) (y 1) := by
  idx_vars y
  blk_ext [idx t]

/-- The third result is the gate weight's gradient. -/
theorem final11 (c : Dev nD) : (dats m 0 c).arrAt 11 cfg0.N = dwgA (aX m c) (aY m c) (aP m c) (aG m c) (aB m c) (aW m c) := by
  refine (dats m 0 c).arrAt_eq_of_covers 11 _ (by decide +kernel) fun t hf y => ?_
  blk_simp
  have ct := (flush0_11 t).mp hf
  rw [after0_11]
  refine Eq.trans ?_ (congrArg _ (emb11 t y).symm)
  idx_vars y
  exact (dwg_acc m c t ct _ _).trans (dwgA_at _ _ _ _ _ _ _ _).symm

/-- The fourth is the gate bias's. -/
theorem final12 (c : Dev nD) : (dats m 0 c).arrAt 12 cfg0.N = colSum (aDa m c) := by
  refine (dats m 0 c).arrAt_eq_of_covers 12 _ (by decide +kernel) fun t hf y => ?_
  blk_simp
  have ct := (flush0_12 t).mp hf
  rw [after0_12]
  refine Eq.trans ?_ (congrArg _ (emb12 t y).symm)
  idx_vars y
  rw [Subsingleton.elim y0 0]
  exact (dbg_acc m c t ct _).trans (colSum_at _ _).symm

/-- The fifth is the embedding weight's. -/
theorem final13 (c : Dev nD) : (dats m 0 c).arrAt 13 cfg0.N = dwpA (aX m c) (aY m c) (aP m c) (aG m c) (aB m c) := by
  refine (dats m 0 c).arrAt_eq_of_covers 13 _ (by decide +kernel) fun t hf y => ?_
  blk_simp
  have ct := (flush0_13 t).mp hf
  rw [after0_13]
  refine Eq.trans ?_ (congrArg _ (emb13 t y).symm)
  idx_vars y
  exact (dwp_acc m c t ct _ _).trans (dwpA_at _ _ _ _ _ _ _).symm

/-- The sixth is the gain's. -/
theorem final14 (c : Dev nD) : (dats m 0 c).arrAt 14 cfg0.N = colSum (mulf (xhatA (aZ m c)) (aDx m c)) := by
  refine (dats m 0 c).arrAt_eq_of_covers 14 _ (by decide +kernel) fun t hf y => ?_
  blk_simp
  have ct := (flush0_14 t).mp hf
  rw [after0_14]
  refine Eq.trans ?_ (congrArg _ (emb14 t y).symm)
  idx_vars y
  rw [Subsingleton.elim y0 0]
  exact (dg_acc m c t ct _).trans (colSum_at _ _).symm

/-- The seventh is the offset's. -/
theorem final15 (c : Dev nD) : (dats m 0 c).arrAt 15 cfg0.N = colSum (aDx m c) := by
  refine (dats m 0 c).arrAt_eq_of_covers 15 _ (by decide +kernel) fun t hf y => ?_
  blk_simp
  have ct := (flush0_15 t).mp hf
  rw [after0_15]
  refine Eq.trans ?_ (congrArg _ (emb15 t y).symm)
  idx_vars y
  rw [Subsingleton.elim y0 0]
  exact (db_acc m c t ct _).trans (colSum_at _ _).symm

/-- A block's rows' gradients, in the whole, where the rows and what arrives at them are real. -/
theorem dzB_at (c : Dev nD) (hz : ∀ i, Cert.Ffn.IsReal (aZ m c i)) (hu : ∀ n k, Cert.Ffn.IsReal (aDx m c (ix2 n k) * aγ m c (ix1 k)))
    (t : Fin cfg0.N) (r : Fin 512) (d : Fin 1024) (n : Fin 8192) (hn : n.val = t.val * 512 + r.val) :
    bwdK (fun k => iblk m c 7 t (ix2 r k)) (uB (iblk m c 0 t) (iblk m c 2 t) (iblk m c 3 t) (iblk m c 5 t) (iblk m c 1 t) (iblk m c 6 t) (iblk m c 4 t) (iblk m c 8 t) r) d
      = dzA (aZ m c) (uA (aγ m c) (aDx m c)) (ix2 n d) := by
  rw [dzA_at, show (fun k => iblk m c 7 t (ix2 r k)) = fun k => aZ m c (ix2 n k) from funext fun k => z_at m c t r k n hn,
    show uB (iblk m c 0 t) (iblk m c 2 t) (iblk m c 3 t) (iblk m c 5 t) (iblk m c 1 t) (iblk m c 6 t) (iblk m c 4 t) (iblk m c 8 t) r = fun k => uA (aγ m c) (aDx m c) (ix2 n k) from
      funext fun k => by rw [uA_at, uB, dxB_at m c t r k n hn, γ_at]]
  exact bwd_eq _ _ (fun k => hz _) (fun k => by rw [uA_at]; exact hu n k) d

/-- The first result is the rows' gradient. -/
theorem final9 (c : Dev nD) (hz : ∀ i, Cert.Ffn.IsReal (aZ m c i)) (hu : ∀ n k, Cert.Ffn.IsReal (aDx m c (ix2 n k) * aγ m c (ix1 k))) :
    (dats m 0 c).arrAt 9 cfg0.N = dzA (aZ m c) (uA (aγ m c) (aDx m c)) := by
  refine (dats m 0 c).arrAt_eq_of_covers 9 _ (by decide +kernel) fun t hf y => ?_
  blk_simp
  rw [after0_9]
  refine Eq.trans ?_ (congrArg _ (emb9 t y).symm)
  have := lt16 t
  by_cases h : t.val % 16 = 0
  · exact (dz_A m c t h (by omega) y).trans (dzB_at m c hz hu t _ _ _ rfl)
  · exact (dz_B m c t h (by omega) y).trans (dzB_at m c hz hu t _ _ _ rfl)

/-- The second is the same, rounded. -/
theorem final10 (c : Dev nD) (hz : ∀ i, Cert.Ffn.IsReal (aZ m c i)) (hu : ∀ n k, Cert.Ffn.IsReal (aDx m c (ix2 n k) * aγ m c (ix1 k))) :
    (dats m 0 c).arrAt 10 cfg0.N = truncf .bf16 (dzA (aZ m c) (uA (aγ m c) (aDx m c))) bitsLt_bf16_f32 := by
  refine (dats m 0 c).arrAt_eq_of_covers 10 _ (by decide +kernel) fun t hf y => ?_
  blk_simp
  rw [after0_10]
  refine Eq.trans ?_ (congrArg _ (emb10 t y).symm)
  have := lt16 t
  by_cases h : t.val % 16 = 0
  · exact (dzb_A m c t h (by omega) y).trans (dzB_at m c hz hu t _ _ _ rfl)
  · exact (dzb_B m c t h (by omega) y).trans (dzB_at m c hz hu t _ _ _ rfl)

end Cert.Kernel7Ideal.Block
-- ==== Proof.Ple.Pre.lean ====
module

public import proofs.«01_k».proof.Proof.Gen.Pre_finite7
public import proofs.«01_k».proof.Proof.Norm.Pre
public import proofs.«01_k».proof.Proof.Ple.Grad
set_option maxRecDepth 16384

/-! The precondition `finite7`, read entry by entry: the eight arrays hold real numbers, and so does all that arrives at
    the layer norm. -/

@[expose] public noncomputable section
open Idealize.ShloMosaic Idealize.ShloMosaic.TcCoe Idealize.SL.Sem

namespace Cert.Kernel7Ideal.Block
open Cert.Kernel7Ideal Cert.Kernel7Ideal.Gen Cert.Ffn Cert.Norm
open Cert.Reference7Ideal.Ple (preA preA_at eA eA_at daA daA_at dxA dxA_at)

section
variable (X Y : FVec Ideal S8192x1024 .f32) (P : FVec Ideal S8192x256 .f32) (WG : FVec Ideal S1024x1024 .f32) (BG : FVec Ideal S1024 .f32)
  (WP : FVec Ideal S256x1024 .f32)

/-- What arrives at the layer norm, of arrays of real numbers, is real. -/
theorem isReal_dxA (hX : ∀ n d, IsReal (X (ix2 n d))) (hY : ∀ i, IsReal (Y i)) (hP : ∀ i, IsReal (P i)) (hG : ∀ i, IsReal (WG i)) (hB : ∀ i, IsReal (BG i))
    (hW : ∀ i, IsReal (WP i)) (n : Fin 8192) (d : Fin 1024) : IsReal (dxA X Y P WG BG WP (ix2 n d)) := by
  rw [dxA_at]
  refine (hY _).add (IsReal.sum _ _ fun k => IsReal.mul ?_ (hG _))
  have hs : IsReal (Ideal.logistic (preA X WG BG (ix2 n k))) := by
    rw [preA_at]
    exact isReal_logistic ((IsReal.sum _ _ fun k => (hX _ _).mul (hG _)).add (hB _))
  have he : IsReal (eA P WP (ix2 n k)) := by
    rw [eA_at]
    exact IsReal.sum _ _ fun k => (hP _).mul (hW _)
  rw [daA_at]
  exact ((hY _).mul he).mul (hs.mul (isReal_one_sub hs))

end

variable (m : (ℓ : Loc nD τ sig) → Buf (Elt Ideal) ℓ)

/-- Under `finite7` the rows are real, and so is what arrives at the layer norm. -/
theorem real_of_pre (h : Cert.Pre_Kernel7Ideal_finite7 m) (c : Dev nD) :
    (∀ i, IsReal (aZ m c i)) ∧ ∀ n k, IsReal (aDx m c (ix2 n k) * aγ m c (ix1 k)) := by
  have e := congrFun (h c) (fun k => k.elim0)
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  have r0 : ∀ i, IsReal (aZ m c i) := real_of_all _ _ _ _ _ e0
  have r1 : ∀ i, IsReal (aγ m c i) := real_of_all _ _ _ _ _ e1
  have r2 : ∀ i, IsReal (aβ m c i) := real_of_all _ _ _ _ _ e2
  have r3 : ∀ i, IsReal (aP m c i) := real_of_all _ _ _ _ _ e3
  have r4 : ∀ i, IsReal (aG m c i) := real_of_all _ _ _ _ _ e4
  have r5 : ∀ i, IsReal (aB m c i) := real_of_all _ _ _ _ _ e5
  have r6 : ∀ i, IsReal (aW m c i) := real_of_all _ _ _ _ _ e6
  have r7 : ∀ i, IsReal (aY m c i) := real_of_all _ _ _ _ _ e7
  refine ⟨r0, fun n k => IsReal.mul ?_ (r1 _)⟩
  exact isReal_dxA _ _ _ _ _ _ (fun n d => isReal_lnA _ _ _ r0 r1 r2 n d) r7 r3 r4 r5 r6 n k

end Cert.Kernel7Ideal.Block
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel3.Frame
public import proofs.«01_k».proof.Proof.Gen.Reference3Ideal.Run
public import proofs.«01_k».proof.Proof.Gen.Kernel3Ideal.Value
public import proofs.«01_k».proof.Proof.Gen.Kernel3Ideal.Frame
public import proofs.«01_k».proof.Proof.Gen.Kernel2.Frame
public import proofs.«01_k».proof.Proof.Gen.Reference2Ideal.Run
public import proofs.«01_k».proof.Proof.Gen.Kernel2Ideal.Value
public import proofs.«01_k».proof.Proof.Gen.Kernel2Ideal.Frame
public import proofs.«01_k».proof.Proof.Gen.ReferenceIdeal.Run
public import proofs.«01_k».proof.Proof.Gen.ReferenceIdeal
public import proofs.«01_k».proof.Proof.Gen.Pre_finite
public import proofs.«01_k».proof.Proof.Ffn.Arrays
public import proofs.«01_k».proof.Proof.Ffn.Pre
public import proofs.«01_k».proof.Proof.Ffn.Input
public import proofs.«01_k».proof.Proof.Ffn.Forward
public import proofs.«01_k».proof.Proof.Gen.Pre_finite5
public import proofs.«01_k».proof.Proof.Conv.Grad
public import proofs.«01_k».proof.Proof.Norm.Pre
public import proofs.«01_k».proof.Proof.Gen.Pre_finite6
public import proofs.«01_k».proof.Proof.Rg.Pre
public import proofs.«01_k».proof.Proof.Gen.Kernel7.Frame
public import proofs.«01_k».proof.Proof.Conv.GradSilu
public import proofs.«01_k».proof.Proof.Loss.Grad
public import proofs.«01_k».proof.Proof.Conv.ForwardSilu
public import proofs.«01_k».proof.Proof.Conv.Forward
public import proofs.«01_k».proof.Proof.Mix.Halves
public import proofs.«01_k».proof.Proof.Mix.Project
public import proofs.«01_k».proof.Proof.Proj.ForwardB
public import proofs.«01_k».proof.Proof.Proj.ForwardA
public import proofs.«01_k».proof.Proof.Proj.ForwardZ
public import proofs.«01_k».proof.Proof.Proj.InputA
public import proofs.«01_k».proof.Proof.Proj.WeightA
public import proofs.«01_k».proof.Proof.Proj.InputB
public import proofs.«01_k».proof.Proof.Proj.WeightB
public import proofs.«01_k».proof.Proof.Proj.WeightHalf
public import proofs.«01_k».proof.Proof.Proj.InputHalf
public import proofs.«01_k».proof.Proof.Proj.Forward
public import proofs.«01_k».proof.Proof.Proj.WeightOut
public import proofs.«01_k».proof.Proof.Proj.InputOut
public import proofs.«01_k».proof.Proof.Proj.InputZ
public import proofs.«01_k».proof.Proof.Proj.WeightZ
public import proofs.«01_k».proof.Proof.Ple.Forward
public import proofs.«01_k».proof.Proof.Ln.Grad
public import proofs.«01_k».proof.Proof.Proj.Input
public import proofs.«01_k».proof.Proof.Proj.Weight
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel26.Frame
public import proofs.«01_k».proof.Proof.Gen.Kernel26Ideal.Frame
public import proofs.«01_k».proof.Proof.Gen.Kernel26Ideal.Value
public import proofs.«01_k».proof.Proof.Gen.Reference26Ideal.Run
public import proofs.«01_k».proof.Proof.Gen.Kernel27.Frame
public import proofs.«01_k».proof.Proof.Gen.Kernel27Ideal.Frame
public import proofs.«01_k».proof.Proof.Gen.Kernel27Ideal.Value
public import proofs.«01_k».proof.Proof.Gen.Reference27Ideal.Run
public import proofs.«01_k».proof.Proof.Gen.Kernel28.Frame
public import proofs.«01_k».proof.Proof.Gen.Kernel28Ideal.Frame
public import proofs.«01_k».proof.Proof.Gen.Kernel28Ideal.Value
public import proofs.«01_k».proof.Proof.Gen.Reference28Ideal.Run
public import proofs.«01_k».proof.Proof.Gen.Kernel29.Frame
public import proofs.«01_k».proof.Proof.Gen.Kernel29Ideal.Frame
public import proofs.«01_k».proof.Proof.Gen.Kernel29Ideal.Value
public import proofs.«01_k».proof.Proof.Gen.Reference29Ideal.Run
public import proofs.«01_k».proof.Proof.Gen.Kernel30.Frame
public import proofs.«01_k».proof.Proof.Gen.Kernel31.Frame
public import proofs.«01_k».proof.Proof.Gen.Kernel31Ideal.Frame
public import proofs.«01_k».proof.Proof.Gen.Kernel31Ideal.Value
public import proofs.«01_k».proof.Proof.Gen.Reference31Ideal.Run
public import proofs.«01_k».proof.Proof.Gen.Pre_finite31
public import proofs.«01_k».proof.Proof.Gen.Kernel30Ideal.Frame
public import proofs.«01_k».proof.Proof.Gen.Kernel30Ideal.Value
public import proofs.«01_k».proof.Proof.Gen.Reference30Ideal.Run
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Kernel23.Frame
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Gen.Kernel24.Frame
public import proofs.«01_k».proof.Proof.Gen.Kernel24Ideal.Frame
public import proofs.«01_k».proof.Proof.Gen.Kernel24Ideal.Value
public import proofs.«01_k».proof.Proof.Gen.Reference24Ideal.Run
public import proofs.«01_k».proof.Proof.Gen.Kernel25.Frame
public import proofs.«01_k».proof.Proof.Gen.Kernel25Ideal.Frame
public import proofs.«01_k».proof.Proof.Gen.Kernel25Ideal.Value
public import proofs.«01_k».proof.Proof.Gen.Reference25Ideal.Run
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Pre_finite10
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Pre_finite7
public import proofs.«01_k».proof.Proof.Ple.Pre
public import Idealize.ShloMosaic.Adequacy
public import Idealize.ShloMosaic.Init

@[expose] public noncomputable section

namespace Cert.Proof

open Idealize.ShloMosaic Idealize.SL.Sem Cert.Kernel

/-- The weight-gradient call of the feed-forward block and the reference's gradients end with the same
    five arrays, from equal arguments that satisfy `finite`. -/
theorem ffn_weights : Cert.algebraic_KernelIdeal_ReferenceIdeal_pre_finite
    (hKernelIdeal := Cert.KernelIdeal.Gen.facts) (hReferenceIdeal := Cert.ReferenceIdeal.Gen.facts)
    (hPre_finite := Cert.Pre_finite.Gen.facts) := by
  intro m g m' g' hpre hag
  have H := Cert.KernelIdeal.Block.fin4_of_pre m hpre
  refine ⟨fun c => (Cert.KernelIdeal.Gen.dats m 0 c).arrAt 5 Cert.KernelIdeal.cfg0.N, fun c => (Cert.KernelIdeal.Gen.dats m 0 c).arrAt 6 Cert.KernelIdeal.cfg0.N, fun c => (Cert.KernelIdeal.Gen.dats m 0 c).arrAt 7 Cert.KernelIdeal.cfg0.N, fun c => (Cert.KernelIdeal.Gen.dats m 0 c).arrAt 8 Cert.KernelIdeal.cfg0.N, fun c => (Cert.KernelIdeal.Gen.dats m 0 c).arrAt 9 Cert.KernelIdeal.cfg0.N,
    (θ_run _ _ _).mono (fun r h c => ?_) (Cert.KernelIdeal.Value.run_blocks m g),
    (θ_run _ _ _).mono (fun r h c => ?_) (Cert.ReferenceIdeal.Value.run m' g')⟩
  · exact h c
  · obtain ⟨a0, a1, a2, a3, a4⟩ := hag c
    obtain ⟨h39, h42, h45, h48, h50, k0, k1, k2, k3, k4⟩ := h c
    rw [a0, a1, a2, a3, a4] at h39 h45
    rw [a0, a1, a2, a4] at h42 h48
    rw [a0, a1, a2, a3] at h50
    exact ⟨h39.trans (Cert.KernelIdeal.Block.final5 m c (H c)).symm, h42.trans (Cert.KernelIdeal.Block.final6 m c).symm,
      h45.trans (Cert.KernelIdeal.Block.final7 m c (H c)).symm, h48.trans (Cert.KernelIdeal.Block.final8 m c).symm,
      h50.trans (Cert.KernelIdeal.Block.final9 m c).symm, k0, k1, k2, k3, k4⟩

/-- The reference runs, leaves its arguments alone, and has no semaphore to leave raised. -/
theorem frame_ref : Cert.quiescent_ReferenceIdeal (hReferenceIdeal := Cert.ReferenceIdeal.Gen.facts) := fun m ρ _ =>
  (θ_run _ _ _).mono (fun r h => And.intro (fun c => (h c).2.2.2.2.2) (sem_eq_zero_of_no_sems (by decide) r.2))
    (Cert.ReferenceIdeal.Value.run m ρ)

/-- The input-gradient call of the feed-forward block and the reference's gradient end with the same array, from
    equal arguments. -/
theorem ffn_input : Cert.algebraic_Kernel2Ideal_Reference2Ideal
    (hKernel2Ideal := Cert.Kernel2Ideal.Gen.facts) (hReference2Ideal := Cert.Reference2Ideal.Gen.facts) := by
  intro m g m' g' _ hag
  refine ⟨fun c => (Cert.Kernel2Ideal.Gen.dats m 0 c).arrAt 5 Cert.Kernel2Ideal.cfg0.N,
    (θ_run _ _ _).mono (fun r h c => ?_) (Cert.Kernel2Ideal.Value.run_blocks m g),
    (θ_run _ _ _).mono (fun r h c => ?_) (Cert.Reference2Ideal.Value.run m' g')⟩
  · exact h c
  · obtain ⟨a0, a1, a2, a3, a4⟩ := hag c
    obtain ⟨h0, k0, k1, k2, k3, k4⟩ := h c
    rw [a0, a1, a2, a3, a4] at h0
    exact ⟨h0.trans (Cert.Kernel2Ideal.Block.final5 m c).symm, k0, k1, k2, k3, k4⟩

/-- The reference of the input gradient runs, leaves its arguments alone, and has no semaphore to leave raised. -/
theorem frame_ref2 : Cert.quiescent_Reference2Ideal (hReference2Ideal := Cert.Reference2Ideal.Gen.facts) := fun m ρ _ =>
  (θ_run _ _ _).mono (fun r h => And.intro (fun c => (h c).2) (sem_eq_zero_of_no_sems (by decide) r.2))
    (Cert.Reference2Ideal.Value.run m ρ)

/-- The forward call of the feed-forward block and the reference end with the same three arrays, from equal
    arguments. -/
theorem ffn_forward : Cert.algebraic_Kernel3Ideal_Reference3Ideal
    (hKernel3Ideal := Cert.Kernel3Ideal.Gen.facts) (hReference3Ideal := Cert.Reference3Ideal.Gen.facts) := by
  intro m g m' g' _ hag
  refine ⟨fun c => (Cert.Kernel3Ideal.Gen.dats m 0 c).arrAt 6 Cert.Kernel3Ideal.cfg0.N, fun c => (Cert.Kernel3Ideal.Gen.dats m 0 c).arrAt 7 Cert.Kernel3Ideal.cfg0.N,
    fun c => (Cert.Kernel3Ideal.Gen.dats m 0 c).arrAt 8 Cert.Kernel3Ideal.cfg0.N,
    (θ_run _ _ _).mono (fun r h c => ?_) (Cert.Kernel3Ideal.Value.run_blocks m g),
    (θ_run _ _ _).mono (fun r h c => ?_) (Cert.Reference3Ideal.Value.run m' g')⟩
  · exact h c
  · obtain ⟨a0, a1, a2, a3, a4, a5⟩ := hag c
    obtain ⟨h0, h1, h2, k0, k1, k2, k3, k4, k5⟩ := h c
    have e0 := h0.trans (Cert.Reference3Ideal.Ffn.out0_eq m' c)
    have e2 := h2.trans (Cert.Reference3Ideal.Ffn.out2_eq m' c)
    rw [a0, a1, a2, a3, a4, a5] at e0 e2
    rw [a0, a1, a2, a3] at h1
    exact ⟨e0.trans (Cert.Kernel3Ideal.Block.final6 m c).symm, h1.trans (Cert.Kernel3Ideal.Block.final7 m c).symm,
      e2.trans (Cert.Kernel3Ideal.Block.final8 m c).symm, k0, k1, k2, k3, k4, k5⟩

/-- The reference of the forward call runs, leaves its arguments alone, and has no semaphore to leave raised. -/
theorem frame_ref3 : Cert.quiescent_Reference3Ideal (hReference3Ideal := Cert.Reference3Ideal.Gen.facts) := fun m ρ _ =>
  (θ_run _ _ _).mono (fun r h => And.intro (fun c => (h c).2.2.2) (sem_eq_zero_of_no_sems (by decide) r.2))
    (Cert.Reference3Ideal.Value.run m ρ)

/-- The backward call of the short convolution and the reference's gradients end with the same three arrays, from
    equal arguments. -/
theorem conv : Cert.algebraic_Kernel4Ideal_Reference4Ideal
    (hKernel4Ideal := Cert.Kernel4Ideal.Gen.facts) (hReference4Ideal := Cert.Reference4Ideal.Gen.facts) := by
  intro m g m' g' _ hag
  refine ⟨fun c => (Cert.Kernel4Ideal.Gen.dats m 0 c).arrAt 4 Cert.Kernel4Ideal.cfg0.N, fun c => (Cert.Kernel4Ideal.Gen.dats m 0 c).arrAt 5 Cert.Kernel4Ideal.cfg0.N,
    fun c => (Cert.Kernel4Ideal.Gen.dats m 0 c).arrAt 6 Cert.Kernel4Ideal.cfg0.N,
    (θ_run _ _ _).mono (fun r h c => ?_) (Cert.Kernel4Ideal.Value.run_blocks m g),
    (θ_run _ _ _).mono (fun r h c => ?_) (Cert.Reference4Ideal.Value.run m' g')⟩
  · exact h c
  · obtain ⟨a0, a1, a2, a3⟩ := hag c
    obtain ⟨h0, h1, h2, k⟩ := h c
    rw [a1, a3] at h0
    rw [a0, a3] at h1
    rw [a3] at h2
    exact ⟨h0.trans (Cert.Kernel4Ideal.Block.final4 m c).symm, h1.trans (Cert.Kernel4Ideal.Block.final5 m c).symm,
      h2.trans (Cert.Kernel4Ideal.Block.final6 m c).symm, k⟩

/-- The reference of the short convolution's gradients runs, leaves its arguments alone, and has no semaphore to leave
    raised. -/
theorem frame_ref4 : Cert.quiescent_Reference4Ideal (hReference4Ideal := Cert.Reference4Ideal.Gen.facts) := fun m ρ _ =>
  (θ_run _ _ _).mono (fun r h => And.intro (fun c => (h c).2.2.2) (sem_eq_zero_of_no_sems (by decide) r.2))
    (Cert.Reference4Ideal.Value.run m ρ)

/-- The call that takes the feed-forward block's input gradient on through the layer norm and the reference's gradients
    end with the same four arrays, from equal arguments that satisfy `finite5`. -/
theorem ffn_input_norm : Cert.algebraic_Kernel5Ideal_Reference5Ideal_pre_finite5
    (hKernel5Ideal := Cert.Kernel5Ideal.Gen.facts) (hReference5Ideal := Cert.Reference5Ideal.Gen.facts)
    (hPre_finite5 := Cert.Pre_finite5.Gen.facts) := by
  intro m g m' g' hpre hag
  have H := fun c => Cert.Kernel5Ideal.Block.real_of_pre m hpre c
  refine ⟨fun c => (Cert.Kernel5Ideal.Gen.dats m 0 c).arrAt 7 Cert.Kernel5Ideal.cfg0.N, fun c => (Cert.Kernel5Ideal.Gen.dats m 0 c).arrAt 8 Cert.Kernel5Ideal.cfg0.N,
    fun c => (Cert.Kernel5Ideal.Gen.dats m 0 c).arrAt 9 Cert.Kernel5Ideal.cfg0.N, fun c => (Cert.Kernel5Ideal.Gen.dats m 0 c).arrAt 10 Cert.Kernel5Ideal.cfg0.N,
    (θ_run _ _ _).mono (fun r h c => ?_) (Cert.Kernel5Ideal.Value.run_blocks m g),
    (θ_run _ _ _).mono (fun r h c => ?_) (Cert.Reference5Ideal.Value.run m' g')⟩
  · exact h c
  · obtain ⟨a0, a1, a2, a3, a4, a5, a6⟩ := hag c
    obtain ⟨h0, h1, h2, h3, k⟩ := h c
    have e0 := h0.trans (Cert.Reference5Ideal.Ln.out0_eq m' c)
    have e1 := h1.trans (Cert.Reference5Ideal.Ln.out1_eq m' c)
    have e2 := h2.trans (Cert.Reference5Ideal.Ln.out2_eq m' c)
    have e3 := h3.trans (Cert.Reference5Ideal.Ln.out3_eq m' c)
    rw [a0, a1, a2, a3, a4, a5, a6] at e0 e1 e2 e3
    exact ⟨e0.trans (Cert.Kernel5Ideal.Block.final7 m c (H c).1 (H c).2).symm, e1.trans (Cert.Kernel5Ideal.Block.final8 m c (H c).1 (H c).2).symm,
      e2.trans (Cert.Kernel5Ideal.Block.final9 m c).symm, e3.trans (Cert.Kernel5Ideal.Block.final10 m c).symm, k⟩

/-- The reference of those gradients runs, leaves its arguments alone, and has no semaphore to leave raised. -/
theorem frame_ref5 : Cert.quiescent_Reference5Ideal (hReference5Ideal := Cert.Reference5Ideal.Gen.facts) := fun m ρ _ =>
  (θ_run _ _ _).mono (fun r h => And.intro (fun c => (h c).2.2.2.2) (sem_eq_zero_of_no_sems (by decide) r.2))
    (Cert.Reference5Ideal.Value.run m ρ)

/-- The backward call of the gated recurrence and the reference's gradients end with the same seven arrays, from equal
    arguments that satisfy `finite6`. -/
theorem recurrence : Cert.algebraic_Kernel6Ideal_Reference6Ideal_pre_finite6
    (hKernel6Ideal := Cert.Kernel6Ideal.Gen.facts) (hReference6Ideal := Cert.Reference6Ideal.Gen.facts)
    (hPre_finite6 := Cert.Pre_finite6.Gen.facts) := by
  intro m g m' g' hpre hag
  have H := fun c => Cert.Kernel6Ideal.Block.given_of_pre m hpre c
  refine ⟨fun c => (Cert.Kernel6Ideal.Gen.dats m 0 c).arrAt 9 Cert.Kernel6Ideal.cfg0.N, fun c => (Cert.Kernel6Ideal.Gen.dats m 0 c).arrAt 10 Cert.Kernel6Ideal.cfg0.N, fun c => (Cert.Kernel6Ideal.Gen.dats m 0 c).arrAt 11 Cert.Kernel6Ideal.cfg0.N, fun c => (Cert.Kernel6Ideal.Gen.dats m 0 c).arrAt 12 Cert.Kernel6Ideal.cfg0.N, fun c => (Cert.Kernel6Ideal.Gen.dats m 0 c).arrAt 13 Cert.Kernel6Ideal.cfg0.N, fun c => (Cert.Kernel6Ideal.Gen.dats m 0 c).arrAt 14 Cert.Kernel6Ideal.cfg0.N, fun c => (Cert.Kernel6Ideal.Gen.dats m 0 c).arrAt 15 Cert.Kernel6Ideal.cfg0.N,
    (θ_run _ _ _).mono (fun r h c => ?_) (Cert.Kernel6Ideal.Value.run_blocks m g),
    (θ_run _ _ _).mono (fun r h c => ?_) (Cert.Reference6Ideal.Rg.run m' g')⟩
  · exact h c
  · obtain ⟨a0, a1, a2, a3, a4, a5, a6, a7⟩ := hag c
    obtain ⟨h0, h1, h2, h3, h4, h5, h6, k⟩ := h c
    rw [a0, a1, a2, a3, a4, a5, a6, a7] at h0 h1 h2 h3 h4 h5 h6
    exact ⟨h0.trans (Cert.Kernel6Ideal.Block.final9 (H c)).symm, h1.trans (Cert.Kernel6Ideal.Block.final10 (H c)).symm, h2.trans (Cert.Kernel6Ideal.Block.final11 (H c)).symm, h3.trans (Cert.Kernel6Ideal.Block.final12 (H c)).symm, h4.trans (Cert.Kernel6Ideal.Block.final13 (H c)).symm, h5.trans (Cert.Kernel6Ideal.Block.final14 (H c)).symm, h6.trans (Cert.Kernel6Ideal.Block.final15 (H c)).symm, k⟩

/-- The reference of those gradients runs, leaves its arguments alone, and has no semaphore to leave raised. -/
theorem frame_ref6 : Cert.quiescent_Reference6Ideal (hReference6Ideal := Cert.Reference6Ideal.Gen.facts) := fun m ρ _ =>
  (θ_run _ _ _).mono (fun r h => And.intro (fun c => (h c).2.2.2.2.2.2.2) (sem_eq_zero_of_no_sems (by decide) r.2))
    (Cert.Reference6Ideal.Rg.run m ρ)

set_option maxRecDepth 16384 in
set_option maxHeartbeats 2000000 in
/-- The backward call of the per-layer embedding's gate and of the layer norm before it, and the reference's gradients,
    end with the same seven arrays, from equal arguments that satisfy `finite7`. -/
theorem embedding : Cert.algebraic_Kernel7Ideal_Reference7Ideal_pre_finite7
    (hKernel7Ideal := Cert.Kernel7Ideal.Gen.facts) (hReference7Ideal := Cert.Reference7Ideal.Gen.facts)
    (hPre_finite7 := Cert.Pre_finite7.Gen.facts) := by
  intro m g m' g' hpre hag
  have H := fun c => Cert.Kernel7Ideal.Block.real_of_pre m hpre c
  refine ⟨fun c => (Cert.Kernel7Ideal.Gen.dats m 0 c).arrAt 9 Cert.Kernel7Ideal.cfg0.N, fun c => (Cert.Kernel7Ideal.Gen.dats m 0 c).arrAt 10 Cert.Kernel7Ideal.cfg0.N, fun c => (Cert.Kernel7Ideal.Gen.dats m 0 c).arrAt 11 Cert.Kernel7Ideal.cfg0.N, fun c => (Cert.Kernel7Ideal.Gen.dats m 0 c).arrAt 12 Cert.Kernel7Ideal.cfg0.N, fun c => (Cert.Kernel7Ideal.Gen.dats m 0 c).arrAt 13 Cert.Kernel7Ideal.cfg0.N, fun c => (Cert.Kernel7Ideal.Gen.dats m 0 c).arrAt 14 Cert.Kernel7Ideal.cfg0.N, fun c => (Cert.Kernel7Ideal.Gen.dats m 0 c).arrAt 15 Cert.Kernel7Ideal.cfg0.N,
    (θ_run _ _ _).mono (fun r h c => ?_) (Cert.Kernel7Ideal.Value.run_blocks m g),
    (θ_run _ _ _).mono (fun r h c => ?_) (Cert.Reference7Ideal.Value.run m' g')⟩
  · exact h c
  · obtain ⟨a0, a1, a2, a3, a4, a5, a6, a7⟩ := hag c
    obtain ⟨h0, h1, h2, h3, h4, h5, h6, k⟩ := h c
    have e0 := h0.trans (Cert.Reference7Ideal.Ple.out0_eq m' c)
    have e1 := h1.trans (Cert.Reference7Ideal.Ple.out1_eq m' c)
    have e2 := h2.trans (Cert.Reference7Ideal.Ple.out2_eq m' c)
    have e3 := h3.trans (Cert.Reference7Ideal.Ple.out3_eq m' c)
    have e4 := h4.trans (show _ = Cert.Reference7Ideal.Ple.dwpA (Cert.Reference7Ideal.Ple.rX m' c) (m' ((c.tc : Thread Cert.Reference7Ideal.nD Cert.Reference7Ideal.τ).loc Cert.Reference7Ideal.main_arg7)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg4)) (m' ((c.tc : Thread Cert.Reference7Ideal.nD Cert.Reference7Ideal.τ).loc Cert.Reference7Ideal.main_arg5)) from rfl)
    have e5 := h5.trans (Cert.Reference7Ideal.Ple.out5_eq m' c)
    have e6 := h6.trans (Cert.Reference7Ideal.Ple.out6_eq m' c)
    simp only [Cert.Reference7Ideal.Ple.rDz, Cert.Reference7Ideal.Ple.rDx, Cert.Reference7Ideal.Ple.rX, Cert.Reference7Ideal.Ple.rZ] at e0 e1 e2 e3 e4 e5 e6
    rw [a0, a1, a2, a3, a4, a5, a6, a7] at e0 e1 e5
    rw [a0, a1, a2, a3, a4, a5, a6, a7] at e2 e3
    rw [a0, a1, a2, a3, a4, a5, a7] at e4
    rw [a0, a1, a2, a3, a4, a5, a6, a7] at e6
    exact ⟨e0.trans (Cert.Kernel7Ideal.Block.final9 m c (H c).1 (H c).2).symm, e1.trans (Cert.Kernel7Ideal.Block.final10 m c (H c).1 (H c).2).symm,
      e2.trans (Cert.Kernel7Ideal.Block.final11 m c).symm, e3.trans (Cert.Kernel7Ideal.Block.final12 m c).symm, e4.trans (Cert.Kernel7Ideal.Block.final13 m c).symm,
      e5.trans (Cert.Kernel7Ideal.Block.final14 m c).symm, e6.trans (Cert.Kernel7Ideal.Block.final15 m c).symm, k⟩

/-- The reference of those gradients runs, leaves its arguments alone, and has no semaphore to leave raised. -/
theorem frame_ref7 : Cert.quiescent_Reference7Ideal (hReference7Ideal := Cert.Reference7Ideal.Gen.facts) := fun m ρ _ =>
  (θ_run _ _ _).mono (fun r h => And.intro (fun c => (h c).2.2.2.2.2.2.2) (sem_eq_zero_of_no_sems (by decide) r.2))
    (Cert.Reference7Ideal.Value.run m ρ)

/-- The weight gradient of a projection and the reference's end with the same array, from equal arguments. -/
theorem projection_weight : Cert.algebraic_Kernel8Ideal_Reference8Ideal
    (hKernel8Ideal := Cert.Kernel8Ideal.Gen.facts) (hReference8Ideal := Cert.Reference8Ideal.Gen.facts) := by
  intro m g m' g' hpre hag
  refine ⟨fun c => (Cert.Kernel8Ideal.Gen.dats m 0 c).arrAt 2 Cert.Kernel8Ideal.cfg0.N,
    (θ_run _ _ _).mono (fun r h c => ?_) (Cert.Kernel8Ideal.Value.run_blocks m g),
    (θ_run _ _ _).mono (fun r h c => ?_) (Cert.Reference8Ideal.Value.run m' g')⟩
  · exact h c
  · obtain ⟨a0, a1, a2⟩ := hag c
    obtain ⟨h0, k⟩ := h c
    rw [a0, a2] at h0
    exact ⟨h0.trans (Cert.Kernel8Ideal.Block.final2 m c).symm, k⟩

/-- The reference of that result runs, leaves its arguments alone, and has no semaphore to leave raised. -/
theorem frame_ref8 : Cert.quiescent_Reference8Ideal (hReference8Ideal := Cert.Reference8Ideal.Gen.facts) := fun m ρ _ =>
  (θ_run _ _ _).mono (fun r h => And.intro (fun c => (h c).2) (sem_eq_zero_of_no_sems (by decide) r.2))
    (Cert.Reference8Ideal.Value.run m ρ)

/-- The input gradient of a projection with its residual branch and the reference's end with the same array, from equal
    arguments. -/
theorem projection_input : Cert.algebraic_Kernel9Ideal_Reference9Ideal
    (hKernel9Ideal := Cert.Kernel9Ideal.Gen.facts) (hReference9Ideal := Cert.Reference9Ideal.Gen.facts) := by
  intro m g m' g' hpre hag
  refine ⟨fun c => (Cert.Kernel9Ideal.Gen.dats m 0 c).arrAt 3 Cert.Kernel9Ideal.cfg0.N,
    (θ_run _ _ _).mono (fun r h c => ?_) (Cert.Kernel9Ideal.Value.run_blocks m g),
    (θ_run _ _ _).mono (fun r h c => ?_) (Cert.Reference9Ideal.Value.run m' g')⟩
  · exact h c
  · obtain ⟨a0, a1, a2, a3⟩ := hag c
    obtain ⟨h0, k⟩ := h c
    rw [a1, a2, a3] at h0
    exact ⟨h0.trans (Cert.Kernel9Ideal.Block.final3 m c).symm, k⟩

/-- The reference of that result runs, leaves its arguments alone, and has no semaphore to leave raised. -/
theorem frame_ref9 : Cert.quiescent_Reference9Ideal (hReference9Ideal := Cert.Reference9Ideal.Gen.facts) := fun m ρ _ =>
  (θ_run _ _ _).mono (fun r h => And.intro (fun c => (h c).2) (sem_eq_zero_of_no_sems (by decide) r.2))
    (Cert.Reference9Ideal.Value.run m ρ)

/-- The backward call of a layer norm on its own and the reference's gradients end with the same four arrays, from equal
    arguments that satisfy `finite10`. -/
theorem layer_norm : Cert.algebraic_Kernel10Ideal_Reference10Ideal_pre_finite10
    (hKernel10Ideal := Cert.Kernel10Ideal.Gen.facts) (hReference10Ideal := Cert.Reference10Ideal.Gen.facts)
    (hPre_finite10 := Cert.Pre_finite10.Gen.facts) := by
  intro m g m' g' hpre hag
  have H := fun c => Cert.Kernel10Ideal.Block.real_of_pre m hpre c
  refine ⟨fun c => (Cert.Kernel10Ideal.Gen.dats m 0 c).arrAt 3 Cert.Kernel10Ideal.cfg0.N, fun c => (Cert.Kernel10Ideal.Gen.dats m 0 c).arrAt 4 Cert.Kernel10Ideal.cfg0.N, fun c => (Cert.Kernel10Ideal.Gen.dats m 0 c).arrAt 5 Cert.Kernel10Ideal.cfg0.N, fun c => (Cert.Kernel10Ideal.Gen.dats m 0 c).arrAt 6 Cert.Kernel10Ideal.cfg0.N,
    (θ_run _ _ _).mono (fun r h c => ?_) (Cert.Kernel10Ideal.Value.run_blocks m g),
    (θ_run _ _ _).mono (fun r h c => ?_) (Cert.Reference10Ideal.Value.run m' g')⟩
  · exact h c
  · obtain ⟨a0, a1, a2, a3⟩ := hag c
    obtain ⟨h0, h1, h2, h3, k⟩ := h c
    have e0 := h0.trans (Cert.Reference10Ideal.Ln.out0_eq m' c)
    have e1 := h1.trans (Cert.Reference10Ideal.Ln.out1_eq m' c)
    have e2 := h2.trans (show _ = Cert.Reference5Ideal.Ln.colSum (mulf (Cert.Reference5Ideal.Ln.xhatA (Cert.Reference10Ideal.Ln.rZ m' c)) (Cert.Reference10Ideal.Ln.yA (Cert.Reference10Ideal.Ln.rY m' c))) from rfl)
    rw [Cert.Reference10Ideal.Ln.yA_eq] at e2
    have e3 := h3.trans (show _ = Cert.Reference5Ideal.Ln.colSum (Cert.Reference10Ideal.Ln.rY m' c) from rfl)
    simp only [Cert.Reference10Ideal.Ln.rZ, Cert.Reference10Ideal.Ln.rγ, Cert.Reference10Ideal.Ln.rY] at e0 e1 e2 e3
    rw [a0, a1, a3] at e0 e1
    rw [a0, a3] at e2
    rw [a3] at e3
    exact ⟨e0.trans (Cert.Kernel10Ideal.Block.final3 m c (H c).1 (H c).2).symm, e1.trans (Cert.Kernel10Ideal.Block.final4 m c (H c).1 (H c).2).symm,
      e2.trans (Cert.Kernel10Ideal.Block.final5 m c).symm, e3.trans (Cert.Kernel10Ideal.Block.final6 m c).symm, k⟩

/-- The reference of those gradients runs, leaves its arguments alone, and has no semaphore to leave raised. -/
theorem frame_ref10 : Cert.quiescent_Reference10Ideal (hReference10Ideal := Cert.Reference10Ideal.Gen.facts) := fun m ρ _ =>
  (θ_run _ _ _).mono (fun r h => And.intro (fun c => (h c).2.2.2.2) (sem_eq_zero_of_no_sems (by decide) r.2))
    (Cert.Reference10Ideal.Value.run m ρ)

/-- The weight gradient of the second projection and the reference's end with the same array, from equal
    arguments. -/
theorem projection_weight_z : Cert.algebraic_Kernel11Ideal_Reference11Ideal
    (hKernel11Ideal := Cert.Kernel11Ideal.Gen.facts) (hReference11Ideal := Cert.Reference11Ideal.Gen.facts) := by
  intro m g m' g' hpre hag
  refine ⟨fun c => (Cert.Kernel11Ideal.Gen.dats m 0 c).arrAt 2 Cert.Kernel11Ideal.cfg0.N,
    (θ_run _ _ _).mono (fun r h c => ?_) (Cert.Kernel11Ideal.Value.run_blocks m g),
    (θ_run _ _ _).mono (fun r h c => ?_) (Cert.Reference11Ideal.Value.run m' g')⟩
  · exact h c
  · obtain ⟨a0, a1, a2⟩ := hag c
    obtain ⟨h0, k⟩ := h c
    rw [a0, a2] at h0
    exact ⟨h0.trans (Cert.Kernel11Ideal.Block.final2 m c).symm, k⟩

/-- The reference of that result runs, leaves its arguments alone, and has no semaphore to leave raised. -/
theorem frame_ref11 : Cert.quiescent_Reference11Ideal (hReference11Ideal := Cert.Reference11Ideal.Gen.facts) := fun m ρ _ =>
  (θ_run _ _ _).mono (fun r h => And.intro (fun c => (h c).2) (sem_eq_zero_of_no_sems (by decide) r.2))
    (Cert.Reference11Ideal.Value.run m ρ)

/-- The input gradient of the second projection, added to the first's, and the reference's end with the same array, from equal
    arguments. -/
theorem projection_input_z : Cert.algebraic_Kernel12Ideal_Reference12Ideal
    (hKernel12Ideal := Cert.Kernel12Ideal.Gen.facts) (hReference12Ideal := Cert.Reference12Ideal.Gen.facts) := by
  intro m g m' g' hpre hag
  refine ⟨fun c => (Cert.Kernel12Ideal.Gen.dats m 0 c).arrAt 3 Cert.Kernel12Ideal.cfg0.N,
    (θ_run _ _ _).mono (fun r h c => ?_) (Cert.Kernel12Ideal.Value.run_blocks m g),
    (θ_run _ _ _).mono (fun r h c => ?_) (Cert.Reference12Ideal.Value.run m' g')⟩
  · exact h c
  · obtain ⟨a0, a1, a2, a3⟩ := hag c
    obtain ⟨h0, k⟩ := h c
    rw [a1, a2, a3] at h0
    exact ⟨h0.trans (Cert.Kernel12Ideal.Block.final3 m c).symm, k⟩

/-- The reference of that result runs, leaves its arguments alone, and has no semaphore to leave raised. -/
theorem frame_ref12 : Cert.quiescent_Reference12Ideal (hReference12Ideal := Cert.Reference12Ideal.Gen.facts) := fun m ρ _ =>
  (θ_run _ _ _).mono (fun r h => And.intro (fun c => (h c).2) (sem_eq_zero_of_no_sems (by decide) r.2))
    (Cert.Reference12Ideal.Value.run m ρ)

/-- The input gradient of the output projection and the reference's end with the same array, from equal
    arguments. -/
theorem projection_input_out : Cert.algebraic_Kernel13Ideal_Reference13Ideal
    (hKernel13Ideal := Cert.Kernel13Ideal.Gen.facts) (hReference13Ideal := Cert.Reference13Ideal.Gen.facts) := by
  intro m g m' g' hpre hag
  refine ⟨fun c => (Cert.Kernel13Ideal.Gen.dats m 0 c).arrAt 2 Cert.Kernel13Ideal.cfg0.N,
    (θ_run _ _ _).mono (fun r h c => ?_) (Cert.Kernel13Ideal.Value.run_blocks m g),
    (θ_run _ _ _).mono (fun r h c => ?_) (Cert.Reference13Ideal.Value.run m' g')⟩
  · exact h c
  · obtain ⟨a0, a1, a2⟩ := hag c
    obtain ⟨h0, k⟩ := h c
    rw [a1, a2] at h0
    exact ⟨h0.trans (Cert.Kernel13Ideal.Block.final2 m c).symm, k⟩

/-- The reference of that result runs, leaves its arguments alone, and has no semaphore to leave raised. -/
theorem frame_ref13 : Cert.quiescent_Reference13Ideal (hReference13Ideal := Cert.Reference13Ideal.Gen.facts) := fun m ρ _ =>
  (θ_run _ _ _).mono (fun r h => And.intro (fun c => (h c).2) (sem_eq_zero_of_no_sems (by decide) r.2))
    (Cert.Reference13Ideal.Value.run m ρ)

/-- The weight gradient of the output projection and the reference's end with the same array, from equal
    arguments. -/
theorem projection_weight_out : Cert.algebraic_Kernel14Ideal_Reference14Ideal
    (hKernel14Ideal := Cert.Kernel14Ideal.Gen.facts) (hReference14Ideal := Cert.Reference14Ideal.Gen.facts) := by
  intro m g m' g' hpre hag
  refine ⟨fun c => (Cert.Kernel14Ideal.Gen.dats m 0 c).arrAt 2 Cert.Kernel14Ideal.cfg0.N,
    (θ_run _ _ _).mono (fun r h c => ?_) (Cert.Kernel14Ideal.Value.run_blocks m g),
    (θ_run _ _ _).mono (fun r h c => ?_) (Cert.Reference14Ideal.Value.run m' g')⟩
  · exact h c
  · obtain ⟨a0, a1, a2⟩ := hag c
    obtain ⟨h0, k⟩ := h c
    rw [a0, a2] at h0
    exact ⟨h0.trans (Cert.Kernel14Ideal.Block.final2 m c).symm, k⟩

/-- The reference of that result runs, leaves its arguments alone, and has no semaphore to leave raised. -/
theorem frame_ref14 : Cert.quiescent_Reference14Ideal (hReference14Ideal := Cert.Reference14Ideal.Gen.facts) := fun m ρ _ =>
  (θ_run _ _ _).mono (fun r h => And.intro (fun c => (h c).2) (sem_eq_zero_of_no_sems (by decide) r.2))
    (Cert.Reference14Ideal.Value.run m ρ)

/-- The forward call of the per-layer embedding and the reference end with the same two arrays, from equal arguments. -/
theorem embedding_forward : Cert.algebraic_Kernel15Ideal_Reference15Ideal
    (hKernel15Ideal := Cert.Kernel15Ideal.Gen.facts) (hReference15Ideal := Cert.Reference15Ideal.Gen.facts) := by
  intro m g m' g' hpre hag
  refine ⟨fun c => (Cert.Kernel15Ideal.Gen.dats m 0 c).arrAt 5 Cert.Kernel15Ideal.cfg0.N, fun c => (Cert.Kernel15Ideal.Gen.dats m 0 c).arrAt 6 Cert.Kernel15Ideal.cfg0.N,
    (θ_run _ _ _).mono (fun r h c => ?_) (Cert.Kernel15Ideal.Value.run_blocks m g),
    (θ_run _ _ _).mono (fun r h c => ?_) (Cert.Reference15Ideal.Value.run m' g')⟩
  · exact h c
  · obtain ⟨a0, a1, a2, a3, a4⟩ := hag c
    obtain ⟨h0, h1, k⟩ := h c
    rw [a0, a1, a2, a3, a4] at h0 h1
    exact ⟨h0.trans (Cert.Kernel15Ideal.Block.final5 m c).symm, h1.trans (Cert.Kernel15Ideal.Block.final6 m c).symm, k⟩

/-- The reference of those results runs, leaves its arguments alone, and has no semaphore to leave raised. -/
theorem frame_ref15 : Cert.quiescent_Reference15Ideal (hReference15Ideal := Cert.Reference15Ideal.Gen.facts) := fun m ρ _ =>
  (θ_run _ _ _).mono (fun r h => And.intro (fun c => (h c).2.2) (sem_eq_zero_of_no_sems (by decide) r.2))
    (Cert.Reference15Ideal.Value.run m ρ)

/-- The forward call of a projection and the reference's end with the same array, from equal
    arguments. -/
theorem projection_forward : Cert.algebraic_Kernel16Ideal_Reference16Ideal
    (hKernel16Ideal := Cert.Kernel16Ideal.Gen.facts) (hReference16Ideal := Cert.Reference16Ideal.Gen.facts) := by
  intro m g m' g' hpre hag
  refine ⟨fun c => (Cert.Kernel16Ideal.Gen.dats m 0 c).arrAt 2 Cert.Kernel16Ideal.cfg0.N,
    (θ_run _ _ _).mono (fun r h c => ?_) (Cert.Kernel16Ideal.Value.run_blocks m g),
    (θ_run _ _ _).mono (fun r h c => ?_) (Cert.Reference16Ideal.Value.run m' g')⟩
  · exact h c
  · obtain ⟨a0, a1⟩ := hag c
    obtain ⟨h0, k⟩ := h c
    rw [a0, a1] at h0
    exact ⟨h0.trans (Cert.Kernel16Ideal.Block.final2 m c).symm, k⟩

/-- The reference of that result runs, leaves its arguments alone, and has no semaphore to leave raised. -/
theorem frame_ref16 : Cert.quiescent_Reference16Ideal (hReference16Ideal := Cert.Reference16Ideal.Gen.facts) := fun m ρ _ =>
  (θ_run _ _ _).mono (fun r h => And.intro (fun c => (h c).2) (sem_eq_zero_of_no_sems (by decide) r.2))
    (Cert.Reference16Ideal.Value.run m ρ)

/-- The input gradient of half of the first mixer's output projection and the reference's end with the same array, from equal
    arguments. -/
theorem projection_input_half : Cert.algebraic_Kernel17Ideal_Reference17Ideal
    (hKernel17Ideal := Cert.Kernel17Ideal.Gen.facts) (hReference17Ideal := Cert.Reference17Ideal.Gen.facts) := by
  intro m g m' g' hpre hag
  refine ⟨fun c => (Cert.Kernel17Ideal.Gen.dats m 0 c).arrAt 2 Cert.Kernel17Ideal.cfg0.N,
    (θ_run _ _ _).mono (fun r h c => ?_) (Cert.Kernel17Ideal.Value.run_blocks m g),
    (θ_run _ _ _).mono (fun r h c => ?_) (Cert.Reference17Ideal.Value.run m' g')⟩
  · exact h c
  · obtain ⟨a0, a1, a2⟩ := hag c
    obtain ⟨h0, k⟩ := h c
    rw [a1, a2] at h0
    exact ⟨h0.trans (Cert.Kernel17Ideal.Block.final2 m c).symm, k⟩

/-- The reference of that result runs, leaves its arguments alone, and has no semaphore to leave raised. -/
theorem frame_ref17 : Cert.quiescent_Reference17Ideal (hReference17Ideal := Cert.Reference17Ideal.Gen.facts) := fun m ρ _ =>
  (θ_run _ _ _).mono (fun r h => And.intro (fun c => (h c).2) (sem_eq_zero_of_no_sems (by decide) r.2))
    (Cert.Reference17Ideal.Value.run m ρ)

/-- The weight gradient of half of the first mixer's output projection and the reference's end with the same array, from equal
    arguments. -/
theorem projection_weight_half : Cert.algebraic_Kernel18Ideal_Reference18Ideal
    (hKernel18Ideal := Cert.Kernel18Ideal.Gen.facts) (hReference18Ideal := Cert.Reference18Ideal.Gen.facts) := by
  intro m g m' g' hpre hag
  refine ⟨fun c => (Cert.Kernel18Ideal.Gen.dats m 0 c).arrAt 2 Cert.Kernel18Ideal.cfg0.N,
    (θ_run _ _ _).mono (fun r h c => ?_) (Cert.Kernel18Ideal.Value.run_blocks m g),
    (θ_run _ _ _).mono (fun r h c => ?_) (Cert.Reference18Ideal.Value.run m' g')⟩
  · exact h c
  · obtain ⟨a0, a1, a2⟩ := hag c
    obtain ⟨h0, k⟩ := h c
    rw [a0, a2] at h0
    exact ⟨h0.trans (Cert.Kernel18Ideal.Block.final2 m c).symm, k⟩

/-- The reference of that result runs, leaves its arguments alone, and has no semaphore to leave raised. -/
theorem frame_ref18 : Cert.quiescent_Reference18Ideal (hReference18Ideal := Cert.Reference18Ideal.Gen.facts) := fun m ρ _ =>
  (θ_run _ _ _).mono (fun r h => And.intro (fun c => (h c).2) (sem_eq_zero_of_no_sems (by decide) r.2))
    (Cert.Reference18Ideal.Value.run m ρ)

/-- The weight gradient of a projection of the RG-LRU and the reference's end with the same array, from equal
    arguments. -/
theorem projection_weight_b : Cert.algebraic_Kernel19Ideal_Reference19Ideal
    (hKernel19Ideal := Cert.Kernel19Ideal.Gen.facts) (hReference19Ideal := Cert.Reference19Ideal.Gen.facts) := by
  intro m g m' g' hpre hag
  refine ⟨fun c => (Cert.Kernel19Ideal.Gen.dats m 0 c).arrAt 2 Cert.Kernel19Ideal.cfg0.N,
    (θ_run _ _ _).mono (fun r h c => ?_) (Cert.Kernel19Ideal.Value.run_blocks m g),
    (θ_run _ _ _).mono (fun r h c => ?_) (Cert.Reference19Ideal.Value.run m' g')⟩
  · exact h c
  · obtain ⟨a0, a1, a2⟩ := hag c
    obtain ⟨h0, k⟩ := h c
    rw [a0, a2] at h0
    exact ⟨h0.trans (Cert.Kernel19Ideal.Block.final2 m c).symm, k⟩

/-- The reference of that result runs, leaves its arguments alone, and has no semaphore to leave raised. -/
theorem frame_ref19 : Cert.quiescent_Reference19Ideal (hReference19Ideal := Cert.Reference19Ideal.Gen.facts) := fun m ρ _ =>
  (θ_run _ _ _).mono (fun r h => And.intro (fun c => (h c).2) (sem_eq_zero_of_no_sems (by decide) r.2))
    (Cert.Reference19Ideal.Value.run m ρ)

/-- The input gradient of a projection of the RG-LRU, added to another, and the reference's end with the same array, from equal
    arguments. -/
theorem projection_input_b : Cert.algebraic_Kernel20Ideal_Reference20Ideal
    (hKernel20Ideal := Cert.Kernel20Ideal.Gen.facts) (hReference20Ideal := Cert.Reference20Ideal.Gen.facts) := by
  intro m g m' g' hpre hag
  refine ⟨fun c => (Cert.Kernel20Ideal.Gen.dats m 0 c).arrAt 3 Cert.Kernel20Ideal.cfg0.N,
    (θ_run _ _ _).mono (fun r h c => ?_) (Cert.Kernel20Ideal.Value.run_blocks m g),
    (θ_run _ _ _).mono (fun r h c => ?_) (Cert.Reference20Ideal.Value.run m' g')⟩
  · exact h c
  · obtain ⟨a0, a1, a2, a3⟩ := hag c
    obtain ⟨h0, k⟩ := h c
    rw [a1, a2, a3] at h0
    exact ⟨h0.trans (Cert.Kernel20Ideal.Block.final3 m c).symm, k⟩

/-- The reference of that result runs, leaves its arguments alone, and has no semaphore to leave raised. -/
theorem frame_ref20 : Cert.quiescent_Reference20Ideal (hReference20Ideal := Cert.Reference20Ideal.Gen.facts) := fun m ρ _ =>
  (θ_run _ _ _).mono (fun r h => And.intro (fun c => (h c).2) (sem_eq_zero_of_no_sems (by decide) r.2))
    (Cert.Reference20Ideal.Value.run m ρ)

/-- The weight gradient of the attention's projection and the reference's end with the same array, from equal
    arguments. -/
theorem projection_weight_a : Cert.algebraic_Kernel21Ideal_Reference21Ideal
    (hKernel21Ideal := Cert.Kernel21Ideal.Gen.facts) (hReference21Ideal := Cert.Reference21Ideal.Gen.facts) := by
  intro m g m' g' hpre hag
  refine ⟨fun c => (Cert.Kernel21Ideal.Gen.dats m 0 c).arrAt 2 Cert.Kernel21Ideal.cfg0.N,
    (θ_run _ _ _).mono (fun r h c => ?_) (Cert.Kernel21Ideal.Value.run_blocks m g),
    (θ_run _ _ _).mono (fun r h c => ?_) (Cert.Reference21Ideal.Value.run m' g')⟩
  · exact h c
  · obtain ⟨a0, a1, a2⟩ := hag c
    obtain ⟨h0, k⟩ := h c
    rw [a0, a2] at h0
    exact ⟨h0.trans (Cert.Kernel21Ideal.Block.final2 m c).symm, k⟩

/-- The reference of that result runs, leaves its arguments alone, and has no semaphore to leave raised. -/
theorem frame_ref21 : Cert.quiescent_Reference21Ideal (hReference21Ideal := Cert.Reference21Ideal.Gen.facts) := fun m ρ _ =>
  (θ_run _ _ _).mono (fun r h => And.intro (fun c => (h c).2) (sem_eq_zero_of_no_sems (by decide) r.2))
    (Cert.Reference21Ideal.Value.run m ρ)

/-- The input gradient of the attention's projection with the residual branch and the reference's end with the same array, from equal
    arguments. -/
theorem projection_input_a : Cert.algebraic_Kernel22Ideal_Reference22Ideal
    (hKernel22Ideal := Cert.Kernel22Ideal.Gen.facts) (hReference22Ideal := Cert.Reference22Ideal.Gen.facts) := by
  intro m g m' g' hpre hag
  refine ⟨fun c => (Cert.Kernel22Ideal.Gen.dats m 0 c).arrAt 3 Cert.Kernel22Ideal.cfg0.N,
    (θ_run _ _ _).mono (fun r h c => ?_) (Cert.Kernel22Ideal.Value.run_blocks m g),
    (θ_run _ _ _).mono (fun r h c => ?_) (Cert.Reference22Ideal.Value.run m' g')⟩
  · exact h c
  · obtain ⟨a0, a1, a2, a3⟩ := hag c
    obtain ⟨h0, k⟩ := h c
    rw [a1, a2, a3] at h0
    exact ⟨h0.trans (Cert.Kernel22Ideal.Block.final3 m c).symm, k⟩

/-- The reference of that result runs, leaves its arguments alone, and has no semaphore to leave raised. -/
theorem frame_ref22 : Cert.quiescent_Reference22Ideal (hReference22Ideal := Cert.Reference22Ideal.Gen.facts) := fun m ρ _ =>
  (θ_run _ _ _).mono (fun r h => And.intro (fun c => (h c).2) (sem_eq_zero_of_no_sems (by decide) r.2))
    (Cert.Reference22Ideal.Value.run m ρ)

/-- The forward call of the second projection and the reference's end with the same array, from equal
    arguments. -/
theorem projection_forward_z : Cert.algebraic_Kernel23Ideal_Reference23Ideal
    (hKernel23Ideal := Cert.Kernel23Ideal.Gen.facts) (hReference23Ideal := Cert.Reference23Ideal.Gen.facts) := by
  intro m g m' g' hpre hag
  refine ⟨fun c => (Cert.Kernel23Ideal.Gen.dats m 0 c).arrAt 2 Cert.Kernel23Ideal.cfg0.N,
    (θ_run _ _ _).mono (fun r h c => ?_) (Cert.Kernel23Ideal.Value.run_blocks m g),
    (θ_run _ _ _).mono (fun r h c => ?_) (Cert.Reference23Ideal.Value.run m' g')⟩
  · exact h c
  · obtain ⟨a0, a1⟩ := hag c
    obtain ⟨h0, k⟩ := h c
    rw [a0, a1] at h0
    exact ⟨h0.trans (Cert.Kernel23Ideal.Block.final2 m c).symm, k⟩

/-- The reference of that result runs, leaves its arguments alone, and has no semaphore to leave raised. -/
theorem frame_ref23 : Cert.quiescent_Reference23Ideal (hReference23Ideal := Cert.Reference23Ideal.Gen.facts) := fun m ρ _ =>
  (θ_run _ _ _).mono (fun r h => And.intro (fun c => (h c).2) (sem_eq_zero_of_no_sems (by decide) r.2))
    (Cert.Reference23Ideal.Value.run m ρ)

/-- The forward call of the attention's projection and the reference's end with the same array, from equal
    arguments. -/
theorem projection_forward_a : Cert.algebraic_Kernel24Ideal_Reference24Ideal
    (hKernel24Ideal := Cert.Kernel24Ideal.Gen.facts) (hReference24Ideal := Cert.Reference24Ideal.Gen.facts) := by
  intro m g m' g' hpre hag
  refine ⟨fun c => (Cert.Kernel24Ideal.Gen.dats m 0 c).arrAt 2 Cert.Kernel24Ideal.cfg0.N,
    (θ_run _ _ _).mono (fun r h c => ?_) (Cert.Kernel24Ideal.Value.run_blocks m g),
    (θ_run _ _ _).mono (fun r h c => ?_) (Cert.Reference24Ideal.Value.run m' g')⟩
  · exact h c
  · obtain ⟨a0, a1⟩ := hag c
    obtain ⟨h0, k⟩ := h c
    rw [a0, a1] at h0
    exact ⟨h0.trans (Cert.Kernel24Ideal.Block.final2 m c).symm, k⟩

/-- The reference of that result runs, leaves its arguments alone, and has no semaphore to leave raised. -/
theorem frame_ref24 : Cert.quiescent_Reference24Ideal (hReference24Ideal := Cert.Reference24Ideal.Gen.facts) := fun m ρ _ =>
  (θ_run _ _ _).mono (fun r h => And.intro (fun c => (h c).2) (sem_eq_zero_of_no_sems (by decide) r.2))
    (Cert.Reference24Ideal.Value.run m ρ)

/-- The forward call of a projection of the RG-LRU and the reference's end with the same array, from equal
    arguments. -/
theorem projection_forward_b : Cert.algebraic_Kernel25Ideal_Reference25Ideal
    (hKernel25Ideal := Cert.Kernel25Ideal.Gen.facts) (hReference25Ideal := Cert.Reference25Ideal.Gen.facts) := by
  intro m g m' g' hpre hag
  refine ⟨fun c => (Cert.Kernel25Ideal.Gen.dats m 0 c).arrAt 2 Cert.Kernel25Ideal.cfg0.N,
    (θ_run _ _ _).mono (fun r h c => ?_) (Cert.Kernel25Ideal.Value.run_blocks m g),
    (θ_run _ _ _).mono (fun r h c => ?_) (Cert.Reference25Ideal.Value.run m' g')⟩
  · exact h c
  · obtain ⟨a0, a1⟩ := hag c
    obtain ⟨h0, k⟩ := h c
    rw [a0, a1] at h0
    exact ⟨h0.trans (Cert.Kernel25Ideal.Block.final2 m c).symm, k⟩

/-- The reference of that result runs, leaves its arguments alone, and has no semaphore to leave raised. -/
theorem frame_ref25 : Cert.quiescent_Reference25Ideal (hReference25Ideal := Cert.Reference25Ideal.Gen.facts) := fun m ρ _ =>
  (θ_run _ _ _).mono (fun r h => And.intro (fun c => (h c).2) (sem_eq_zero_of_no_sems (by decide) r.2))
    (Cert.Reference25Ideal.Value.run m ρ)

/-- The output projection of the second mixer with its residual sum and layer norm and the reference end with
    the same arrays, from equal arguments. -/
theorem mixer_projection : Cert.algebraic_Kernel26Ideal_Reference26Ideal
    (hKernel26Ideal := Cert.Kernel26Ideal.Gen.facts) (hReference26Ideal := Cert.Reference26Ideal.Gen.facts) := by
  intro m g m' g' _ hag
  refine ⟨fun c => (Cert.Kernel26Ideal.Gen.dats m 0 c).arrAt 5 Cert.Kernel26Ideal.cfg0.N,
    fun c => (Cert.Kernel26Ideal.Gen.dats m 0 c).arrAt 6 Cert.Kernel26Ideal.cfg0.N,
    fun c => (Cert.Kernel26Ideal.Gen.dats m 0 c).arrAt 7 Cert.Kernel26Ideal.cfg0.N,
    (θ_run _ _ _).mono (fun r h c => ?_) (Cert.Kernel26Ideal.Value.run_blocks m g),
    (θ_run _ _ _).mono (fun r h c => ?_) (Cert.Reference26Ideal.Value.run m' g')⟩
  · exact h c
  · obtain ⟨a0, a1, a2, a3, a4⟩ := hag c
    obtain ⟨h0, h1, h2, k⟩ := h c
    rw [a0, a1, a2, a3, a4] at h0 h2
    rw [a0, a1, a2] at h1
    exact ⟨h0.trans (Cert.Kernel26Ideal.Block.final5 m c).symm,
      h1.trans (Cert.Kernel26Ideal.Block.final6 m c).symm,
      h2.trans (Cert.Kernel26Ideal.Block.final7 m c).symm, k⟩

/-- The reference of those results runs, leaves its arguments alone, and has no semaphore to leave raised. -/
theorem frame_ref26 : Cert.quiescent_Reference26Ideal (hReference26Ideal := Cert.Reference26Ideal.Gen.facts) := fun m ρ _ =>
  (θ_run _ _ _).mono (fun r h => And.intro (fun c => (h c).2.2.2) (sem_eq_zero_of_no_sems (by decide) r.2))
    (Cert.Reference26Ideal.Value.run m ρ)

/-- The output projection of the two halves of the first mixer with its residual sum and layer norm and the reference end with
    the same arrays, from equal arguments. -/
theorem mixer_projection_halves : Cert.algebraic_Kernel27Ideal_Reference27Ideal
    (hKernel27Ideal := Cert.Kernel27Ideal.Gen.facts) (hReference27Ideal := Cert.Reference27Ideal.Gen.facts) := by
  intro m g m' g' _ hag
  refine ⟨fun c => (Cert.Kernel27Ideal.Gen.dats m 0 c).arrAt 7 Cert.Kernel27Ideal.cfg0.N,
    fun c => (Cert.Kernel27Ideal.Gen.dats m 0 c).arrAt 8 Cert.Kernel27Ideal.cfg0.N,
    fun c => (Cert.Kernel27Ideal.Gen.dats m 0 c).arrAt 9 Cert.Kernel27Ideal.cfg0.N,
    (θ_run _ _ _).mono (fun r h c => ?_) (Cert.Kernel27Ideal.Value.run_blocks m g),
    (θ_run _ _ _).mono (fun r h c => ?_) (Cert.Reference27Ideal.Value.run m' g')⟩
  · exact h c
  · obtain ⟨a0, a1, a2, a3, a4, a5⟩ := hag c
    obtain ⟨h0, h1, h2, k⟩ := h c
    have e0 := h0.trans (Cert.Reference27Ideal.Mix.out0_eq m' c)
    have e2 := h2.trans (Cert.Reference27Ideal.Mix.out2_eq m' c)
    rw [a0, a1, a2, a3, a4, a5] at e0 e2
    rw [a0, a1, a2, a3] at h1
    exact ⟨e0.trans (Cert.Kernel27Ideal.Block.final7 m c).symm,
      h1.trans (Cert.Kernel27Ideal.Block.final8 m c).symm,
      e2.trans (Cert.Kernel27Ideal.Block.final9 m c).symm, k⟩

/-- The reference of those results runs, leaves its arguments alone, and has no semaphore to leave raised. -/
theorem frame_ref27 : Cert.quiescent_Reference27Ideal (hReference27Ideal := Cert.Reference27Ideal.Gen.facts) := fun m ρ _ =>
  (θ_run _ _ _).mono (fun r h => And.intro (fun c => (h c).2.2.2) (sem_eq_zero_of_no_sems (by decide) r.2))
    (Cert.Reference27Ideal.Value.run m ρ)

/-- The forward pass of the RG-LRU's short convolution and the reference end with the same array, from equal arguments. -/
theorem conv_forward : Cert.algebraic_Kernel28Ideal_Reference28Ideal
    (hKernel28Ideal := Cert.Kernel28Ideal.Gen.facts) (hReference28Ideal := Cert.Reference28Ideal.Gen.facts) := by
  intro m g m' g' hpre hag
  refine ⟨fun c => (Cert.Kernel28Ideal.Gen.dats m 0 c).arrAt 3 Cert.Kernel28Ideal.cfg0.N,
    (θ_run _ _ _).mono (fun r h c => ?_) (Cert.Kernel28Ideal.Value.run_blocks m g),
    (θ_run _ _ _).mono (fun r h c => ?_) (Cert.Reference28Ideal.Value.run m' g')⟩
  · exact h c
  · obtain ⟨a0, a1, a2⟩ := hag c
    obtain ⟨h0, k⟩ := h c
    rw [a0, a1, a2] at h0
    exact ⟨h0.trans (Cert.Kernel28Ideal.Block.final3 m c).symm, k⟩

/-- The reference of that result runs, leaves its arguments alone, and has no semaphore to leave raised. -/
theorem frame_ref28 : Cert.quiescent_Reference28Ideal (hReference28Ideal := Cert.Reference28Ideal.Gen.facts) := fun m ρ _ =>
  (θ_run _ _ _).mono (fun r h => And.intro (fun c => (h c).2) (sem_eq_zero_of_no_sems (by decide) r.2))
    (Cert.Reference28Ideal.Value.run m ρ)

/-- The forward pass of the gated delta rule's short convolution and the reference end with the same array, from equal
    arguments. -/
theorem conv_forward_silu : Cert.algebraic_Kernel29Ideal_Reference29Ideal
    (hKernel29Ideal := Cert.Kernel29Ideal.Gen.facts) (hReference29Ideal := Cert.Reference29Ideal.Gen.facts) := by
  intro m g m' g' hpre hag
  refine ⟨fun c => (Cert.Kernel29Ideal.Gen.dats m 0 c).arrAt 3 Cert.Kernel29Ideal.cfg0.N,
    (θ_run _ _ _).mono (fun r h c => ?_) (Cert.Kernel29Ideal.Value.run_blocks m g),
    (θ_run _ _ _).mono (fun r h c => ?_) (Cert.Reference29Ideal.Value.run m' g')⟩
  · exact h c
  · obtain ⟨a0, a1⟩ := hag c
    obtain ⟨h0, k⟩ := h c
    have e0 := h0.trans (Cert.Reference29Ideal.Conv.out0_eq m' c)
    rw [a0, a1] at e0
    exact ⟨e0.trans (Cert.Kernel29Ideal.Block.final3 m c).symm, k⟩

/-- The reference of that result runs, leaves its arguments alone, and has no semaphore to leave raised. -/
theorem frame_ref29 : Cert.quiescent_Reference29Ideal (hReference29Ideal := Cert.Reference29Ideal.Gen.facts) := fun m ρ _ =>
  (θ_run _ _ _).mono (fun r h => And.intro (fun c => (h c).2) (sem_eq_zero_of_no_sems (by decide) r.2))
    (Cert.Reference29Ideal.Value.run m ρ)

/-- The gradient of the loss and its sums of squares by column, and the reference end with
    the same arrays, from equal arguments. -/
theorem loss_gradient : Cert.algebraic_Kernel30Ideal_Reference30Ideal
    (hKernel30Ideal := Cert.Kernel30Ideal.Gen.facts) (hReference30Ideal := Cert.Reference30Ideal.Gen.facts) := by
  intro m g m' g' _ hag
  refine ⟨fun c => (Cert.Kernel30Ideal.Gen.dats m 0 c).arrAt 2 Cert.Kernel30Ideal.cfg0.N,
    fun c => (Cert.Kernel30Ideal.Gen.dats m 0 c).arrAt 3 Cert.Kernel30Ideal.cfg0.N,
    (θ_run _ _ _).mono (fun r h c => ?_) (Cert.Kernel30Ideal.Value.run_blocks m g),
    (θ_run _ _ _).mono (fun r h c => ?_) (Cert.Reference30Ideal.Value.run m' g')⟩
  · exact h c
  · obtain ⟨a0, a1⟩ := hag c
    obtain ⟨h0, h1, k⟩ := h c
    rw [a0, a1] at h0 h1
    exact ⟨h0.trans (Cert.Kernel30Ideal.Block.final2 m c).symm,
      h1.trans (Cert.Kernel30Ideal.Block.final3 m c).symm, k⟩

/-- The reference of those results runs, leaves its arguments alone, and has no semaphore to leave raised. -/
theorem frame_ref30 : Cert.quiescent_Reference30Ideal (hReference30Ideal := Cert.Reference30Ideal.Gen.facts) := fun m ρ _ =>
  (θ_run _ _ _).mono (fun r h => And.intro (fun c => (h c).2.2) (sem_eq_zero_of_no_sems (by decide) r.2))
    (Cert.Reference30Ideal.Value.run m ρ)

/-- The backward call of the gated delta rule's short convolution and the reference's gradients end with the same two
    arrays, from equal arguments that satisfy `finite31`. -/
theorem conv_silu : Cert.algebraic_Kernel31Ideal_Reference31Ideal_pre_finite31
    (hKernel31Ideal := Cert.Kernel31Ideal.Gen.facts) (hReference31Ideal := Cert.Reference31Ideal.Gen.facts)
    (hPre_finite31 := Cert.Pre_finite31.Gen.facts) := by
  intro m g m' g' hpre hag
  have H := fun c => Cert.Kernel31Ideal.Block.real_of_pre m hpre c
  refine ⟨fun c => (Cert.Kernel31Ideal.Gen.dats m 0 c).arrAt 4 Cert.Kernel31Ideal.cfg0.N, fun c => (Cert.Kernel31Ideal.Gen.dats m 0 c).arrAt 5 Cert.Kernel31Ideal.cfg0.N,
    (θ_run _ _ _).mono (fun r h c => ?_) (Cert.Kernel31Ideal.Value.run_blocks m g),
    (θ_run _ _ _).mono (fun r h c => ?_) (Cert.Reference31Ideal.Value.run m' g')⟩
  · exact ⟨(h c).1, (h c).2.1, (h c).2.2.2⟩
  · obtain ⟨a0, a1, a2⟩ := hag c
    obtain ⟨h0, h1, k⟩ := h c
    have e0 := h0.trans (Cert.Reference31Ideal.Conv.out0_eq m' c)
    have e1 := h1.trans (Cert.Reference31Ideal.Conv.out1_eq m' c)
    rw [a0, a1, a2] at e0 e1
    exact ⟨e0.trans (Cert.Kernel31Ideal.Block.final4 m c (H c)).symm, e1.trans (Cert.Kernel31Ideal.Block.final5 m c (H c)).symm, k⟩

/-- The reference of those gradients runs, leaves its arguments alone, and has no semaphore to leave raised. -/
theorem frame_ref31 : Cert.quiescent_Reference31Ideal (hReference31Ideal := Cert.Reference31Ideal.Gen.facts) := fun m ρ _ =>
  (θ_run _ _ _).mono (fun r h => And.intro (fun c => (h c).2.2) (sem_eq_zero_of_no_sems (by decide) r.2))
    (Cert.Reference31Ideal.Value.run m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts, Cert.Pre_finite.Gen.facts, Cert.Pre_finite5.Gen.facts, Cert.Pre_finite6.Gen.facts, Cert.Pre_finite7.Gen.facts, Cert.Pre_finite10.Gen.facts, Cert.Pre_finite31.Gen.facts,
    fun m ρ _ => Cert.Kernel.Gen.frame m ρ, fun m ρ _ => Cert.KernelIdeal.Gen.frame m ρ,
    fun m ρ _ => Cert.KernelIdeal.Gen.frame m ρ, frame_ref, fun m ρ _ => frame_ref m ρ trivial,
    fun m ρ _ => Cert.Kernel2.Gen.frame m ρ, fun m ρ _ => Cert.Kernel2Ideal.Gen.frame m ρ, frame_ref2,
    fun m ρ _ => Cert.Kernel3.Gen.frame m ρ, fun m ρ _ => Cert.Kernel3Ideal.Gen.frame m ρ, frame_ref3,
    fun m ρ _ => Cert.Kernel4.Gen.frame m ρ, fun m ρ _ => Cert.Kernel4Ideal.Gen.frame m ρ, frame_ref4,
    fun m ρ _ => Cert.Kernel5.Gen.frame m ρ, fun m ρ _ => Cert.Kernel5Ideal.Gen.frame m ρ,
    fun m ρ _ => Cert.Kernel5Ideal.Gen.frame m ρ, frame_ref5, fun m ρ _ => frame_ref5 m ρ trivial,
    fun m ρ _ => Cert.Kernel6.Gen.frame m ρ, fun m ρ _ => Cert.Kernel6Ideal.Gen.frame m ρ,
    fun m ρ _ => Cert.Kernel6Ideal.Gen.frame m ρ, frame_ref6, fun m ρ _ => frame_ref6 m ρ trivial,
    fun m ρ _ => Cert.Kernel7.Gen.frame m ρ, fun m ρ _ => Cert.Kernel7Ideal.Gen.frame m ρ,
    fun m ρ _ => Cert.Kernel7Ideal.Gen.frame m ρ, frame_ref7, fun m ρ _ => frame_ref7 m ρ trivial,
    fun m ρ _ => Cert.Kernel8.Gen.frame m ρ, fun m ρ _ => Cert.Kernel8Ideal.Gen.frame m ρ, frame_ref8,
    fun m ρ _ => Cert.Kernel9.Gen.frame m ρ, fun m ρ _ => Cert.Kernel9Ideal.Gen.frame m ρ, frame_ref9,
    fun m ρ _ => Cert.Kernel10.Gen.frame m ρ, fun m ρ _ => Cert.Kernel10Ideal.Gen.frame m ρ,
    fun m ρ _ => Cert.Kernel10Ideal.Gen.frame m ρ, frame_ref10, fun m ρ _ => frame_ref10 m ρ trivial,
    fun m ρ _ => Cert.Kernel11.Gen.frame m ρ, fun m ρ _ => Cert.Kernel11Ideal.Gen.frame m ρ, frame_ref11,
    fun m ρ _ => Cert.Kernel12.Gen.frame m ρ, fun m ρ _ => Cert.Kernel12Ideal.Gen.frame m ρ, frame_ref12,
    fun m ρ _ => Cert.Kernel13.Gen.frame m ρ, fun m ρ _ => Cert.Kernel13Ideal.Gen.frame m ρ, frame_ref13,
    fun m ρ _ => Cert.Kernel14.Gen.frame m ρ, fun m ρ _ => Cert.Kernel14Ideal.Gen.frame m ρ, frame_ref14,
    fun m ρ _ => Cert.Kernel15.Gen.frame m ρ, fun m ρ _ => Cert.Kernel15Ideal.Gen.frame m ρ, frame_ref15,
    fun m ρ _ => Cert.Kernel16.Gen.frame m ρ, fun m ρ _ => Cert.Kernel16Ideal.Gen.frame m ρ, frame_ref16,
    fun m ρ _ => Cert.Kernel17.Gen.frame m ρ, fun m ρ _ => Cert.Kernel17Ideal.Gen.frame m ρ, frame_ref17,
    fun m ρ _ => Cert.Kernel18.Gen.frame m ρ, fun m ρ _ => Cert.Kernel18Ideal.Gen.frame m ρ, frame_ref18,
    fun m ρ _ => Cert.Kernel19.Gen.frame m ρ, fun m ρ _ => Cert.Kernel19Ideal.Gen.frame m ρ, frame_ref19,
    fun m ρ _ => Cert.Kernel20.Gen.frame m ρ, fun m ρ _ => Cert.Kernel20Ideal.Gen.frame m ρ, frame_ref20,
    fun m ρ _ => Cert.Kernel21.Gen.frame m ρ, fun m ρ _ => Cert.Kernel21Ideal.Gen.frame m ρ, frame_ref21,
    fun m ρ _ => Cert.Kernel22.Gen.frame m ρ, fun m ρ _ => Cert.Kernel22Ideal.Gen.frame m ρ, frame_ref22,
    fun m ρ _ => Cert.Kernel23.Gen.frame m ρ, fun m ρ _ => Cert.Kernel23Ideal.Gen.frame m ρ, frame_ref23,
    fun m ρ _ => Cert.Kernel24.Gen.frame m ρ, fun m ρ _ => Cert.Kernel24Ideal.Gen.frame m ρ, frame_ref24,
    fun m ρ _ => Cert.Kernel25.Gen.frame m ρ, fun m ρ _ => Cert.Kernel25Ideal.Gen.frame m ρ, frame_ref25,
    fun m ρ _ => Cert.Kernel26.Gen.frame m ρ, fun m ρ _ => Cert.Kernel26Ideal.Gen.frame m ρ, frame_ref26,
    fun m ρ _ => Cert.Kernel27.Gen.frame m ρ, fun m ρ _ => Cert.Kernel27Ideal.Gen.frame m ρ, frame_ref27,
    fun m ρ _ => Cert.Kernel28.Gen.frame m ρ, fun m ρ _ => Cert.Kernel28Ideal.Gen.frame m ρ, frame_ref28,
    fun m ρ _ => Cert.Kernel29.Gen.frame m ρ, fun m ρ _ => Cert.Kernel29Ideal.Gen.frame m ρ, frame_ref29,
    fun m ρ _ => Cert.Kernel30.Gen.frame m ρ, fun m ρ _ => Cert.Kernel30Ideal.Gen.frame m ρ, frame_ref30,
    fun m ρ _ => Cert.Kernel31.Gen.frame m ρ, fun m ρ _ => Cert.Kernel31Ideal.Gen.frame m ρ,
    fun m ρ _ => Cert.Kernel31Ideal.Gen.frame m ρ, frame_ref31, fun m ρ _ => frame_ref31 m ρ trivial,
    trivial, ffn_weights, trivial, ffn_input, trivial, ffn_forward, trivial, conv, trivial, ffn_input_norm, trivial, recurrence, trivial, embedding, trivial, projection_weight, trivial, projection_input, trivial, layer_norm, trivial, projection_weight_z, trivial, projection_input_z, trivial, projection_input_out, trivial, projection_weight_out, trivial, embedding_forward, trivial, projection_forward, trivial, projection_input_half, trivial, projection_weight_half, trivial, projection_weight_b, trivial, projection_input_b, trivial, projection_weight_a, trivial, projection_input_a, trivial, projection_forward_z, trivial, projection_forward_a, trivial, projection_forward_b, trivial, mixer_projection, trivial, mixer_projection_halves, trivial, conv_forward, trivial, conv_forward_silu, trivial, loss_gradient, trivial, conv_silu⟩

end Cert.Proof

end
